-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_v_do [hPre_finite_v_do : Cert.Pre_finite_v_do.Facts] (m : (ℓ : Loc Cert.KernelIdeal.nD Cert.KernelIdeal.τ Cert.KernelIdeal.sig) → Buf (Elt Ideal) ℓ) : Prop :=
  ∀ c : Dev Cert.KernelIdeal.nD,
    (Cert.Pre_finite_v_do.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_v_do.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_v_do [hPre_finite_v_do : Cert.Pre_finite_v_do.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_v_do.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_v_do.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite_d [hPre_finite_d : Cert.Pre_finite_d.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite_d.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)) (m ((c.tc : Thread Cert.Kernel16Ideal.nD Cert.Kernel16Ideal.τ).loc Cert.Kernel16Ideal.main_arg4))) = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite_d [hPre_finite_d : Cert.Pre_finite_d.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite_d.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3)) (m ((c.tc : Thread Cert.Reference16Ideal.nD Cert.Reference16Ideal.τ).loc Cert.Reference16Ideal.main_arg4))) = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite_y [hPre_finite_y : Cert.Pre_finite_y.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite_y.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7))).1 = (fun _ => 1#1)
    ∧ (Cert.Pre_finite_y.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7))).2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite_y [hPre_finite_y : Cert.Pre_finite_y.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite_y.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7))).1 = (fun _ => 1#1)
    ∧ (Cert.Pre_finite_y.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5)) (m ((c.tc : Thread Cert.Reference17Ideal.nD Cert.Reference17Ideal.τ).loc Cert.Reference17Ideal.main_arg6)) (m ((c.tc : Thread Cert.Reference17Ideal.nD Cert.Reference17Ideal.τ).loc Cert.Reference17Ideal.main_arg7))).2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Kernel19Ideal_finite_k [hPre_finite_k : Cert.Pre_finite_k.Facts] (m : (ℓ : Loc Cert.Kernel19Ideal.nD Cert.Kernel19Ideal.τ Cert.Kernel19Ideal.sig) → Buf (Elt Ideal) ℓ) : Prop :=
  ∀ c : Dev Cert.Kernel19Ideal.nD,
    (Cert.Pre_finite_k.fn (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)) (m ((c.tc : Thread Cert.Kernel19Ideal.nD Cert.Kernel19Ideal.τ).loc Cert.Kernel19Ideal.main_arg5)) (m ((c.tc : Thread Cert.Kernel19Ideal.nD Cert.Kernel19Ideal.τ).loc Cert.Kernel19Ideal.main_arg6)) (m ((c.tc : Thread Cert.Kernel19Ideal.nD Cert.Kernel19Ideal.τ).loc Cert.Kernel19Ideal.main_arg7)) (m ((c.tc : Thread Cert.Kernel19Ideal.nD Cert.Kernel19Ideal.τ).loc Cert.Kernel19Ideal.main_arg8)) (m ((c.tc : Thread Cert.Kernel19Ideal.nD Cert.Kernel19Ideal.τ).loc Cert.Kernel19Ideal.main_arg9))) = (fun _ => 1#1)

def Pre_Reference19Ideal (m : (ℓ : Loc Cert.Reference19Ideal.nD Cert.Reference19Ideal.τ Cert.Reference19Ideal.sig) → Buf (Elt Ideal) ℓ) : Prop :=
  True

def Pre_Reference19Ideal_finite_k [hPre_finite_k : Cert.Pre_finite_k.Facts] (m : (ℓ : Loc Cert.Reference19Ideal.nD Cert.Reference19Ideal.τ Cert.Reference19Ideal.sig) → Buf (Elt Ideal) ℓ) : Prop :=
  ∀ c : Dev Cert.Reference19Ideal.nD,
    (Cert.Pre_finite_k.fn (F := Ideal) (m ((c.tc : Thread Cert.Reference19Ideal.nD Cert.Reference19Ideal.τ).loc Cert.Reference19Ideal.main_arg0)) (m ((c.tc : Thread Cert.Reference19Ideal.nD Cert.Reference19Ideal.τ).loc Cert.Reference19Ideal.main_arg1)) (m ((c.tc : Thread Cert.Reference19Ideal.nD Cert.Reference19Ideal.τ).loc Cert.Reference19Ideal.main_arg2)) (m ((c.tc : Thread Cert.Reference19Ideal.nD Cert.Reference19Ideal.τ).loc Cert.Reference19Ideal.main_arg3)) (m ((c.tc : Thread Cert.Reference19Ideal.nD Cert.Reference19Ideal.τ).loc Cert.Reference19Ideal.main_arg4)) (m ((c.tc : Thread Cert.Reference19Ideal.nD Cert.Reference19Ideal.τ).loc Cert.Reference19Ideal.main_arg5)) (m ((c.tc : Thread Cert.Reference19Ideal.nD Cert.Reference19Ideal.τ).loc Cert.Reference19Ideal.main_arg6)) (m ((c.tc : Thread Cert.Reference19Ideal.nD Cert.Reference19Ideal.τ).loc Cert.Reference19Ideal.main_arg7)) (m ((c.tc : Thread Cert.Reference19Ideal.nD Cert.Reference19Ideal.τ).loc Cert.Reference19Ideal.main_arg8)) (m ((c.tc : Thread Cert.Reference19Ideal.nD Cert.Reference19Ideal.τ).loc Cert.Reference19Ideal.main_arg9))) = (fun _ => 1#1)

def Pre_Kernel20 [hPre_a_half : Cert.Pre_a_half.Facts] (m : (ℓ : Loc Cert.Kernel20.nD Cert.Kernel20.τ Cert.Kernel20.sig) → Buf (Elt Bits) ℓ) : Prop :=
  ∀ c : Dev Cert.Kernel20.nD,
    (Cert.Pre_a_half.fn (F := Bits) (m ((c.tc : Thread Cert.Kernel20.nD Cert.Kernel20.τ).loc Cert.Kernel20.main_arg0)) (m ((c.tc : Thread Cert.Kernel20.nD Cert.Kernel20.τ).loc Cert.Kernel20.main_arg1)) (m ((c.tc : Thread Cert.Kernel20.nD Cert.Kernel20.τ).loc Cert.Kernel20.main_arg2))) = (fun _ => 1#1)

def Pre_Kernel20Ideal [hPre_a_half : Cert.Pre_a_half.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_a_half.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_a_half [hPre_a_half : Cert.Pre_a_half.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_a_half.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def Pre_Kernel21 [hPre_a_half_to_send : Cert.Pre_a_half_to_send.Facts] (m : (ℓ : Loc Cert.Kernel21.nD Cert.Kernel21.τ Cert.Kernel21.sig) → Buf (Elt Bits) ℓ) : Prop :=
  ∀ c : Dev Cert.Kernel21.nD,
    (Cert.Pre_a_half_to_send.fn (F := Bits) (m ((c.tc : Thread Cert.Kernel21.nD Cert.Kernel21.τ).loc Cert.Kernel21.main_arg0)) (m ((c.tc : Thread Cert.Kernel21.nD Cert.Kernel21.τ).loc Cert.Kernel21.main_arg1))) = (fun _ => 1#1)

def Pre_Kernel21Ideal [hPre_a_half_to_send : Cert.Pre_a_half_to_send.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_a_half_to_send.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_a_half_to_send [hPre_a_half_to_send : Cert.Pre_a_half_to_send.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_a_half_to_send.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_skips [hPre_finite_skips : Cert.Pre_finite_skips.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_skips.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))).1 = (fun _ => 1#1)
    ∧ (Cert.Pre_finite_skips.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3)) (m ((c.tc : Thread Cert.Kernel22Ideal.nD Cert.Kernel22Ideal.τ).loc Cert.Kernel22Ideal.main_arg4)) (m ((c.tc : Thread Cert.Kernel22Ideal.nD Cert.Kernel22Ideal.τ).loc Cert.Kernel22Ideal.main_arg5))).2 = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_skips [hPre_finite_skips : Cert.Pre_finite_skips.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_skips.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))).1 = (fun _ => 1#1)
    ∧ (Cert.Pre_finite_skips.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3)) (m ((c.tc : Thread Cert.Reference22Ideal.nD Cert.Reference22Ideal.τ).loc Cert.Reference22Ideal.main_arg4)) (m ((c.tc : Thread Cert.Reference22Ideal.nD Cert.Reference22Ideal.τ).loc Cert.Reference22Ideal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_v_do [hKernelIdeal : Cert.KernelIdeal.Facts] [hPre_finite_v_do : Cert.Pre_finite_v_do.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_v_do m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_v_do [hReferenceIdeal : Cert.ReferenceIdeal.Facts] [hPre_finite_v_do : Cert.Pre_finite_v_do.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_v_do m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15)
      ∧ r.2.mem ((c.tc : Thread Cert.Kernel4.nD Cert.Kernel4.τ).loc Cert.Kernel4.main_arg16) = m ((c.tc : Thread Cert.Kernel4.nD Cert.Kernel4.τ).loc Cert.Kernel4.main_arg16)
      ∧ r.2.mem ((c.tc : Thread Cert.Kernel4.nD Cert.Kernel4.τ).loc Cert.Kernel4.main_arg17) = m ((c.tc : Thread Cert.Kernel4.nD Cert.Kernel4.τ).loc Cert.Kernel4.main_arg17)
      ∧ r.2.mem ((c.tc : Thread Cert.Kernel4.nD Cert.Kernel4.τ).loc Cert.Kernel4.main_arg18) = m ((c.tc : Thread Cert.Kernel4.nD Cert.Kernel4.τ).loc Cert.Kernel4.main_arg18)
      ∧ r.2.mem ((c.tc : Thread Cert.Kernel4.nD Cert.Kernel4.τ).loc Cert.Kernel4.main_arg19) = m ((c.tc : Thread Cert.Kernel4.nD Cert.Kernel4.τ).loc Cert.Kernel4.main_arg19)
      ∧ r.2.mem ((c.tc : Thread Cert.Kernel4.nD Cert.Kernel4.τ).loc Cert.Kernel4.main_arg20) = m ((c.tc : Thread Cert.Kernel4.nD Cert.Kernel4.τ).loc Cert.Kernel4.main_arg20)
      ∧ r.2.mem ((c.tc : Thread Cert.Kernel4.nD Cert.Kernel4.τ).loc Cert.Kernel4.main_arg21) = m ((c.tc : Thread Cert.Kernel4.nD Cert.Kernel4.τ).loc Cert.Kernel4.main_arg21)
      ∧ r.2.mem ((c.tc : Thread Cert.Kernel4.nD Cert.Kernel4.τ).loc Cert.Kernel4.main_arg22) = m ((c.tc : Thread Cert.Kernel4.nD Cert.Kernel4.τ).loc Cert.Kernel4.main_arg22)
      ∧ r.2.mem ((c.tc : Thread Cert.Kernel4.nD Cert.Kernel4.τ).loc Cert.Kernel4.main_arg23) = m ((c.tc : Thread Cert.Kernel4.nD Cert.Kernel4.τ).loc Cert.Kernel4.main_arg23))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
      ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
      ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
      ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
      ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
      ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
      ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
      ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
      ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15)
      ∧ r.2.mem ((c.tc : Thread Cert.Reference4Ideal.nD Cert.Reference4Ideal.τ).loc Cert.Reference4Ideal.main_arg16) = m ((c.tc : Thread Cert.Reference4Ideal.nD Cert.Reference4Ideal.τ).loc Cert.Reference4Ideal.main_arg16)
      ∧ r.2.mem ((c.tc : Thread Cert.Reference4Ideal.nD Cert.Reference4Ideal.τ).loc Cert.Reference4Ideal.main_arg17) = m ((c.tc : Thread Cert.Reference4Ideal.nD Cert.Reference4Ideal.τ).loc Cert.Reference4Ideal.main_arg17)
      ∧ r.2.mem ((c.tc : Thread Cert.Reference4Ideal.nD Cert.Reference4Ideal.τ).loc Cert.Reference4Ideal.main_arg18) = m ((c.tc : Thread Cert.Reference4Ideal.nD Cert.Reference4Ideal.τ).loc Cert.Reference4Ideal.main_arg18)
      ∧ r.2.mem ((c.tc : Thread Cert.Reference4Ideal.nD Cert.Reference4Ideal.τ).loc Cert.Reference4Ideal.main_arg19) = m ((c.tc : Thread Cert.Reference4Ideal.nD Cert.Reference4Ideal.τ).loc Cert.Reference4Ideal.main_arg19)
      ∧ r.2.mem ((c.tc : Thread Cert.Reference4Ideal.nD Cert.Reference4Ideal.τ).loc Cert.Reference4Ideal.main_arg20) = m ((c.tc : Thread Cert.Reference4Ideal.nD Cert.Reference4Ideal.τ).loc Cert.Reference4Ideal.main_arg20)
      ∧ r.2.mem ((c.tc : Thread Cert.Reference4Ideal.nD Cert.Reference4Ideal.τ).loc Cert.Reference4Ideal.main_arg21) = m ((c.tc : Thread Cert.Reference4Ideal.nD Cert.Reference4Ideal.τ).loc Cert.Reference4Ideal.main_arg21)
      ∧ r.2.mem ((c.tc : Thread Cert.Reference4Ideal.nD Cert.Reference4Ideal.τ).loc Cert.Reference4Ideal.main_arg22) = m ((c.tc : Thread Cert.Reference4Ideal.nD Cert.Reference4Ideal.τ).loc Cert.Reference4Ideal.main_arg22)
      ∧ r.2.mem ((c.tc : Thread Cert.Reference4Ideal.nD Cert.Reference4Ideal.τ).loc Cert.Reference4Ideal.main_arg23) = m ((c.tc : Thread Cert.Reference4Ideal.nD Cert.Reference4Ideal.τ).loc Cert.Reference4Ideal.main_arg23))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Kernel16Ideal_pre_finite_d [hKernel16Ideal : Cert.Kernel16Ideal.Facts] [hPre_finite_d : Cert.Pre_finite_d.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite_d m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Reference16Ideal_pre_finite_d [hReference16Ideal : Cert.Reference16Ideal.Facts] [hPre_finite_d : Cert.Pre_finite_d.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite_d m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Kernel17Ideal_pre_finite_y [hKernel17Ideal : Cert.Kernel17Ideal.Facts] [hPre_finite_y : Cert.Pre_finite_y.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite_y m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Reference17Ideal_pre_finite_y [hReference17Ideal : Cert.Reference17Ideal.Facts] [hPre_finite_y : Cert.Pre_finite_y.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite_y m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4)
      ∧ r.2.mem ((c.tc : Thread Cert.Kernel19.nD Cert.Kernel19.τ).loc Cert.Kernel19.main_arg5) = m ((c.tc : Thread Cert.Kernel19.nD Cert.Kernel19.τ).loc Cert.Kernel19.main_arg5)
      ∧ r.2.mem ((c.tc : Thread Cert.Kernel19.nD Cert.Kernel19.τ).loc Cert.Kernel19.main_arg6) = m ((c.tc : Thread Cert.Kernel19.nD Cert.Kernel19.τ).loc Cert.Kernel19.main_arg6)
      ∧ r.2.mem ((c.tc : Thread Cert.Kernel19.nD Cert.Kernel19.τ).loc Cert.Kernel19.main_arg7) = m ((c.tc : Thread Cert.Kernel19.nD Cert.Kernel19.τ).loc Cert.Kernel19.main_arg7)
      ∧ r.2.mem ((c.tc : Thread Cert.Kernel19.nD Cert.Kernel19.τ).loc Cert.Kernel19.main_arg8) = m ((c.tc : Thread Cert.Kernel19.nD Cert.Kernel19.τ).loc Cert.Kernel19.main_arg8)
      ∧ r.2.mem ((c.tc : Thread Cert.Kernel19.nD Cert.Kernel19.τ).loc Cert.Kernel19.main_arg9) = m ((c.tc : Thread Cert.Kernel19.nD Cert.Kernel19.τ).loc Cert.Kernel19.main_arg9))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Kernel19Ideal_pre_finite_k [hKernel19Ideal : Cert.Kernel19Ideal.Facts] [hPre_finite_k : Cert.Pre_finite_k.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal_finite_k m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
      ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
      ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
      ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
      ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
      ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Reference19Ideal_pre_finite_k [hReference19Ideal : Cert.Reference19Ideal.Facts] [hPre_finite_k : Cert.Pre_finite_k.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal_finite_k m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4)
      ∧ r.2.mem ((c.tc : Thread Cert.Reference19Ideal.nD Cert.Reference19Ideal.τ).loc Cert.Reference19Ideal.main_arg5) = m ((c.tc : Thread Cert.Reference19Ideal.nD Cert.Reference19Ideal.τ).loc Cert.Reference19Ideal.main_arg5)
      ∧ r.2.mem ((c.tc : Thread Cert.Reference19Ideal.nD Cert.Reference19Ideal.τ).loc Cert.Reference19Ideal.main_arg6) = m ((c.tc : Thread Cert.Reference19Ideal.nD Cert.Reference19Ideal.τ).loc Cert.Reference19Ideal.main_arg6)
      ∧ r.2.mem ((c.tc : Thread Cert.Reference19Ideal.nD Cert.Reference19Ideal.τ).loc Cert.Reference19Ideal.main_arg7) = m ((c.tc : Thread Cert.Reference19Ideal.nD Cert.Reference19Ideal.τ).loc Cert.Reference19Ideal.main_arg7)
      ∧ r.2.mem ((c.tc : Thread Cert.Reference19Ideal.nD Cert.Reference19Ideal.τ).loc Cert.Reference19Ideal.main_arg8) = m ((c.tc : Thread Cert.Reference19Ideal.nD Cert.Reference19Ideal.τ).loc Cert.Reference19Ideal.main_arg8)
      ∧ r.2.mem ((c.tc : Thread Cert.Reference19Ideal.nD Cert.Reference19Ideal.τ).loc Cert.Reference19Ideal.main_arg9) = m ((c.tc : Thread Cert.Reference19Ideal.nD Cert.Reference19Ideal.τ).loc Cert.Reference19Ideal.main_arg9))
      ∧ r.2.sem = fun _ => 0)

def quiescent_Kernel20 [hKernel20 : Cert.Kernel20.Facts] [hPre_a_half : Cert.Pre_a_half.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] [hPre_a_half : Cert.Pre_a_half.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_a_half [hReference20Ideal : Cert.Reference20Ideal.Facts] [hPre_a_half : Cert.Pre_a_half.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_a_half m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] [hPre_a_half_to_send : Cert.Pre_a_half_to_send.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] [hPre_a_half_to_send : Cert.Pre_a_half_to_send.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Reference21Ideal_pre_a_half_to_send [hReference21Ideal : Cert.Reference21Ideal.Facts] [hPre_a_half_to_send : Cert.Pre_a_half_to_send.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_a_half_to_send m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Kernel22Ideal_pre_finite_skips [hKernel22Ideal : Cert.Kernel22Ideal.Facts] [hPre_finite_skips : Cert.Pre_finite_skips.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_skips m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Reference22Ideal_pre_finite_skips [hReference22Ideal : Cert.Reference22Ideal.Facts] [hPre_finite_skips : Cert.Pre_finite_skips.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_skips m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  True

def algebraic_KernelIdeal_ReferenceIdeal_pre_finite_v_do [hKernelIdeal : Cert.KernelIdeal.Facts] [hReferenceIdeal : Cert.ReferenceIdeal.Facts] [hPre_finite_v_do : Cert.Pre_finite_v_do.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_v_do m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v5)) (v1 : (c : Dev Cert.Kernel2Ideal.nD) → Buf (Elt Ideal) ((c.tc : Thread Cert.Kernel2Ideal.nD Cert.Kernel2Ideal.τ).loc Cert.Kernel2Ideal.main_v2)) (v2 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_v4) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v26) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)
      ∧ m' ((c.tc : Thread Cert.Reference4Ideal.nD Cert.Reference4Ideal.τ).loc Cert.Reference4Ideal.main_arg16) = m ((c.tc : Thread Cert.Kernel4Ideal.nD Cert.Kernel4Ideal.τ).loc Cert.Kernel4Ideal.main_arg16)
      ∧ m' ((c.tc : Thread Cert.Reference4Ideal.nD Cert.Reference4Ideal.τ).loc Cert.Reference4Ideal.main_arg17) = m ((c.tc : Thread Cert.Kernel4Ideal.nD Cert.Kernel4Ideal.τ).loc Cert.Kernel4Ideal.main_arg17)
      ∧ m' ((c.tc : Thread Cert.Reference4Ideal.nD Cert.Reference4Ideal.τ).loc Cert.Reference4Ideal.main_arg18) = m ((c.tc : Thread Cert.Kernel4Ideal.nD Cert.Kernel4Ideal.τ).loc Cert.Kernel4Ideal.main_arg18)
      ∧ m' ((c.tc : Thread Cert.Reference4Ideal.nD Cert.Reference4Ideal.τ).loc Cert.Reference4Ideal.main_arg19) = m ((c.tc : Thread Cert.Kernel4Ideal.nD Cert.Kernel4Ideal.τ).loc Cert.Kernel4Ideal.main_arg19)
      ∧ m' ((c.tc : Thread Cert.Reference4Ideal.nD Cert.Reference4Ideal.τ).loc Cert.Reference4Ideal.main_arg20) = m ((c.tc : Thread Cert.Kernel4Ideal.nD Cert.Kernel4Ideal.τ).loc Cert.Kernel4Ideal.main_arg20)
      ∧ m' ((c.tc : Thread Cert.Reference4Ideal.nD Cert.Reference4Ideal.τ).loc Cert.Reference4Ideal.main_arg21) = m ((c.tc : Thread Cert.Kernel4Ideal.nD Cert.Kernel4Ideal.τ).loc Cert.Kernel4Ideal.main_arg21)
      ∧ m' ((c.tc : Thread Cert.Reference4Ideal.nD Cert.Reference4Ideal.τ).loc Cert.Reference4Ideal.main_arg22) = m ((c.tc : Thread Cert.Kernel4Ideal.nD Cert.Kernel4Ideal.τ).loc Cert.Kernel4Ideal.main_arg22)
      ∧ m' ((c.tc : Thread Cert.Reference4Ideal.nD Cert.Reference4Ideal.τ).loc Cert.Reference4Ideal.main_arg23) = m ((c.tc : Thread Cert.Kernel4Ideal.nD Cert.Kernel4Ideal.τ).loc Cert.Kernel4Ideal.main_arg23)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v1_0)) (v5 : (c : Dev Cert.Kernel4Ideal.nD) → Buf (Elt Ideal) ((c.tc : Thread Cert.Kernel4Ideal.nD Cert.Kernel4Ideal.τ).loc Cert.Kernel4Ideal.main_v1_1)) (v6 : (c : Dev Cert.Kernel4Ideal.nD) → Buf (Elt Ideal) ((c.tc : Thread Cert.Kernel4Ideal.nD Cert.Kernel4Ideal.τ).loc Cert.Kernel4Ideal.main_v1_2)) (v7 : (c : Dev Cert.Kernel4Ideal.nD) → Buf (Elt Ideal) ((c.tc : Thread Cert.Kernel4Ideal.nD Cert.Kernel4Ideal.τ).loc Cert.Kernel4Ideal.main_v1_3)) (v8 : (c : Dev Cert.Kernel4Ideal.nD) → Buf (Elt Ideal) ((c.tc : Thread Cert.Kernel4Ideal.nD Cert.Kernel4Ideal.τ).loc Cert.Kernel4Ideal.main_v2_0)) (v9 : (c : Dev Cert.Kernel4Ideal.nD) → Buf (Elt Ideal) ((c.tc : Thread Cert.Kernel4Ideal.nD Cert.Kernel4Ideal.τ).loc Cert.Kernel4Ideal.main_v2_1)) (v10 : (c : Dev Cert.Kernel4Ideal.nD) → Buf (Elt Ideal) ((c.tc : Thread Cert.Kernel4Ideal.nD Cert.Kernel4Ideal.τ).loc Cert.Kernel4Ideal.main_v2_2)) (v11 : (c : Dev Cert.Kernel4Ideal.nD) → Buf (Elt Ideal) ((c.tc : Thread Cert.Kernel4Ideal.nD Cert.Kernel4Ideal.τ).loc Cert.Kernel4Ideal.main_v2_3)) (v12 : (c : Dev Cert.Kernel4Ideal.nD) → Buf (Elt Ideal) ((c.tc : Thread Cert.Kernel4Ideal.nD Cert.Kernel4Ideal.τ).loc Cert.Kernel4Ideal.main_v3_0)) (v13 : (c : Dev Cert.Kernel4Ideal.nD) → Buf (Elt Ideal) ((c.tc : Thread Cert.Kernel4Ideal.nD Cert.Kernel4Ideal.τ).loc Cert.Kernel4Ideal.main_v3_1)) (v14 : (c : Dev Cert.Kernel4Ideal.nD) → Buf (Elt Ideal) ((c.tc : Thread Cert.Kernel4Ideal.nD Cert.Kernel4Ideal.τ).loc Cert.Kernel4Ideal.main_v3_2)) (v15 : (c : Dev Cert.Kernel4Ideal.nD) → Buf (Elt Ideal) ((c.tc : Thread Cert.Kernel4Ideal.nD Cert.Kernel4Ideal.τ).loc Cert.Kernel4Ideal.main_v3_3)) (v16 : (c : Dev Cert.Kernel4Ideal.nD) → Buf (Elt Ideal) ((c.tc : Thread Cert.Kernel4Ideal.nD Cert.Kernel4Ideal.τ).loc Cert.Kernel4Ideal.main_v4_0)) (v17 : (c : Dev Cert.Kernel4Ideal.nD) → Buf (Elt Ideal) ((c.tc : Thread Cert.Kernel4Ideal.nD Cert.Kernel4Ideal.τ).loc Cert.Kernel4Ideal.main_v4_1)) (v18 : (c : Dev Cert.Kernel4Ideal.nD) → Buf (Elt Ideal) ((c.tc : Thread Cert.Kernel4Ideal.nD Cert.Kernel4Ideal.τ).loc Cert.Kernel4Ideal.main_v4_2)) (v19 : (c : Dev Cert.Kernel4Ideal.nD) → Buf (Elt Ideal) ((c.tc : Thread Cert.Kernel4Ideal.nD Cert.Kernel4Ideal.τ).loc Cert.Kernel4Ideal.main_v4_3)) (v20 : (c : Dev Cert.Kernel4Ideal.nD) → Buf (Elt Ideal) ((c.tc : Thread Cert.Kernel4Ideal.nD Cert.Kernel4Ideal.τ).loc Cert.Kernel4Ideal.main_v5_0)) (v21 : (c : Dev Cert.Kernel4Ideal.nD) → Buf (Elt Ideal) ((c.tc : Thread Cert.Kernel4Ideal.nD Cert.Kernel4Ideal.τ).loc Cert.Kernel4Ideal.main_v5_1)) (v22 : (c : Dev Cert.Kernel4Ideal.nD) → Buf (Elt Ideal) ((c.tc : Thread Cert.Kernel4Ideal.nD Cert.Kernel4Ideal.τ).loc Cert.Kernel4Ideal.main_v5_2)) (v23 : (c : Dev Cert.Kernel4Ideal.nD) → Buf (Elt Ideal) ((c.tc : Thread Cert.Kernel4Ideal.nD Cert.Kernel4Ideal.τ).loc Cert.Kernel4Ideal.main_v5_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v1_0) = v4 c
          ∧ r.2.mem ((c.tc : Thread Cert.Kernel4Ideal.nD Cert.Kernel4Ideal.τ).loc Cert.Kernel4Ideal.main_v1_1) = v5 c
          ∧ r.2.mem ((c.tc : Thread Cert.Kernel4Ideal.nD Cert.Kernel4Ideal.τ).loc Cert.Kernel4Ideal.main_v1_2) = v6 c
          ∧ r.2.mem ((c.tc : Thread Cert.Kernel4Ideal.nD Cert.Kernel4Ideal.τ).loc Cert.Kernel4Ideal.main_v1_3) = v7 c
          ∧ r.2.mem ((c.tc : Thread Cert.Kernel4Ideal.nD Cert.Kernel4Ideal.τ).loc Cert.Kernel4Ideal.main_v2_0) = v8 c
          ∧ r.2.mem ((c.tc : Thread Cert.Kernel4Ideal.nD Cert.Kernel4Ideal.τ).loc Cert.Kernel4Ideal.main_v2_1) = v9 c
          ∧ r.2.mem ((c.tc : Thread Cert.Kernel4Ideal.nD Cert.Kernel4Ideal.τ).loc Cert.Kernel4Ideal.main_v2_2) = v10 c
          ∧ r.2.mem ((c.tc : Thread Cert.Kernel4Ideal.nD Cert.Kernel4Ideal.τ).loc Cert.Kernel4Ideal.main_v2_3) = v11 c
          ∧ r.2.mem ((c.tc : Thread Cert.Kernel4Ideal.nD Cert.Kernel4Ideal.τ).loc Cert.Kernel4Ideal.main_v3_0) = v12 c
          ∧ r.2.mem ((c.tc : Thread Cert.Kernel4Ideal.nD Cert.Kernel4Ideal.τ).loc Cert.Kernel4Ideal.main_v3_1) = v13 c
          ∧ r.2.mem ((c.tc : Thread Cert.Kernel4Ideal.nD Cert.Kernel4Ideal.τ).loc Cert.Kernel4Ideal.main_v3_2) = v14 c
          ∧ r.2.mem ((c.tc : Thread Cert.Kernel4Ideal.nD Cert.Kernel4Ideal.τ).loc Cert.Kernel4Ideal.main_v3_3) = v15 c
          ∧ r.2.mem ((c.tc : Thread Cert.Kernel4Ideal.nD Cert.Kernel4Ideal.τ).loc Cert.Kernel4Ideal.main_v4_0) = v16 c
          ∧ r.2.mem ((c.tc : Thread Cert.Kernel4Ideal.nD Cert.Kernel4Ideal.τ).loc Cert.Kernel4Ideal.main_v4_1) = v17 c
          ∧ r.2.mem ((c.tc : Thread Cert.Kernel4Ideal.nD Cert.Kernel4Ideal.τ).loc Cert.Kernel4Ideal.main_v4_2) = v18 c
          ∧ r.2.mem ((c.tc : Thread Cert.Kernel4Ideal.nD Cert.Kernel4Ideal.τ).loc Cert.Kernel4Ideal.main_v4_3) = v19 c
          ∧ r.2.mem ((c.tc : Thread Cert.Kernel4Ideal.nD Cert.Kernel4Ideal.τ).loc Cert.Kernel4Ideal.main_v5_0) = v20 c
          ∧ r.2.mem ((c.tc : Thread Cert.Kernel4Ideal.nD Cert.Kernel4Ideal.τ).loc Cert.Kernel4Ideal.main_v5_1) = v21 c
          ∧ r.2.mem ((c.tc : Thread Cert.Kernel4Ideal.nD Cert.Kernel4Ideal.τ).loc Cert.Kernel4Ideal.main_v5_2) = v22 c
          ∧ r.2.mem ((c.tc : Thread Cert.Kernel4Ideal.nD Cert.Kernel4Ideal.τ).loc Cert.Kernel4Ideal.main_v5_3) = v23 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15)
          ∧ r.2.mem ((c.tc : Thread Cert.Kernel4Ideal.nD Cert.Kernel4Ideal.τ).loc Cert.Kernel4Ideal.main_arg16) = m ((c.tc : Thread Cert.Kernel4Ideal.nD Cert.Kernel4Ideal.τ).loc Cert.Kernel4Ideal.main_arg16)
          ∧ r.2.mem ((c.tc : Thread Cert.Kernel4Ideal.nD Cert.Kernel4Ideal.τ).loc Cert.Kernel4Ideal.main_arg17) = m ((c.tc : Thread Cert.Kernel4Ideal.nD Cert.Kernel4Ideal.τ).loc Cert.Kernel4Ideal.main_arg17)
          ∧ r.2.mem ((c.tc : Thread Cert.Kernel4Ideal.nD Cert.Kernel4Ideal.τ).loc Cert.Kernel4Ideal.main_arg18) = m ((c.tc : Thread Cert.Kernel4Ideal.nD Cert.Kernel4Ideal.τ).loc Cert.Kernel4Ideal.main_arg18)
          ∧ r.2.mem ((c.tc : Thread Cert.Kernel4Ideal.nD Cert.Kernel4Ideal.τ).loc Cert.Kernel4Ideal.main_arg19) = m ((c.tc : Thread Cert.Kernel4Ideal.nD Cert.Kernel4Ideal.τ).loc Cert.Kernel4Ideal.main_arg19)
          ∧ r.2.mem ((c.tc : Thread Cert.Kernel4Ideal.nD Cert.Kernel4Ideal.τ).loc Cert.Kernel4Ideal.main_arg20) = m ((c.tc : Thread Cert.Kernel4Ideal.nD Cert.Kernel4Ideal.τ).loc Cert.Kernel4Ideal.main_arg20)
          ∧ r.2.mem ((c.tc : Thread Cert.Kernel4Ideal.nD Cert.Kernel4Ideal.τ).loc Cert.Kernel4Ideal.main_arg21) = m ((c.tc : Thread Cert.Kernel4Ideal.nD Cert.Kernel4Ideal.τ).loc Cert.Kernel4Ideal.main_arg21)
          ∧ r.2.mem ((c.tc : Thread Cert.Kernel4Ideal.nD Cert.Kernel4Ideal.τ).loc Cert.Kernel4Ideal.main_arg22) = m ((c.tc : Thread Cert.Kernel4Ideal.nD Cert.Kernel4Ideal.τ).loc Cert.Kernel4Ideal.main_arg22)
          ∧ r.2.mem ((c.tc : Thread Cert.Kernel4Ideal.nD Cert.Kernel4Ideal.τ).loc Cert.Kernel4Ideal.main_arg23) = m ((c.tc : Thread Cert.Kernel4Ideal.nD Cert.Kernel4Ideal.τ).loc Cert.Kernel4Ideal.main_arg23))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_arg3) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_v4) = v2 c
          ∧ r.2.mem ((c.tc : Thread Cert.Reference4Ideal.nD Cert.Reference4Ideal.τ).loc Cert.Reference4Ideal.main_v10) = v3 c
          ∧ r.2.mem ((c.tc : Thread Cert.Reference4Ideal.nD Cert.Reference4Ideal.τ).loc Cert.Reference4Ideal.main_arg7) = v4 c
          ∧ r.2.mem ((c.tc : Thread Cert.Reference4Ideal.nD Cert.Reference4Ideal.τ).loc Cert.Reference4Ideal.main_v47) = v5 c
          ∧ r.2.mem ((c.tc : Thread Cert.Reference4Ideal.nD Cert.Reference4Ideal.τ).loc Cert.Reference4Ideal.main_v28) = v6 c
          ∧ r.2.mem ((c.tc : Thread Cert.Reference4Ideal.nD Cert.Reference4Ideal.τ).loc Cert.Reference4Ideal.main_v34) = v7 c
          ∧ r.2.mem ((c.tc : Thread Cert.Reference4Ideal.nD Cert.Reference4Ideal.τ).loc Cert.Reference4Ideal.main_arg11) = v8 c
          ∧ r.2.mem ((c.tc : Thread Cert.Reference4Ideal.nD Cert.Reference4Ideal.τ).loc Cert.Reference4Ideal.main_v71) = v9 c
          ∧ r.2.mem ((c.tc : Thread Cert.Reference4Ideal.nD Cert.Reference4Ideal.τ).loc Cert.Reference4Ideal.main_v52) = v10 c
          ∧ r.2.mem ((c.tc : Thread Cert.Reference4Ideal.nD Cert.Reference4Ideal.τ).loc Cert.Reference4Ideal.main_v58) = v11 c
          ∧ r.2.mem ((c.tc : Thread Cert.Reference4Ideal.nD Cert.Reference4Ideal.τ).loc Cert.Reference4Ideal.main_arg15) = v12 c
          ∧ r.2.mem ((c.tc : Thread Cert.Reference4Ideal.nD Cert.Reference4Ideal.τ).loc Cert.Reference4Ideal.main_v95) = v13 c
          ∧ r.2.mem ((c.tc : Thread Cert.Reference4Ideal.nD Cert.Reference4Ideal.τ).loc Cert.Reference4Ideal.main_v76) = v14 c
          ∧ r.2.mem ((c.tc : Thread Cert.Reference4Ideal.nD Cert.Reference4Ideal.τ).loc Cert.Reference4Ideal.main_v82) = v15 c
          ∧ r.2.mem ((c.tc : Thread Cert.Reference4Ideal.nD Cert.Reference4Ideal.τ).loc Cert.Reference4Ideal.main_arg19) = v16 c
          ∧ r.2.mem ((c.tc : Thread Cert.Reference4Ideal.nD Cert.Reference4Ideal.τ).loc Cert.Reference4Ideal.main_v119) = v17 c
          ∧ r.2.mem ((c.tc : Thread Cert.Reference4Ideal.nD Cert.Reference4Ideal.τ).loc Cert.Reference4Ideal.main_v100) = v18 c
          ∧ r.2.mem ((c.tc : Thread Cert.Reference4Ideal.nD Cert.Reference4Ideal.τ).loc Cert.Reference4Ideal.main_v106) = v19 c
          ∧ r.2.mem ((c.tc : Thread Cert.Reference4Ideal.nD Cert.Reference4Ideal.τ).loc Cert.Reference4Ideal.main_arg23) = v20 c
          ∧ r.2.mem ((c.tc : Thread Cert.Reference4Ideal.nD Cert.Reference4Ideal.τ).loc Cert.Reference4Ideal.main_v143) = v21 c
          ∧ r.2.mem ((c.tc : Thread Cert.Reference4Ideal.nD Cert.Reference4Ideal.τ).loc Cert.Reference4Ideal.main_v124) = v22 c
          ∧ r.2.mem ((c.tc : Thread Cert.Reference4Ideal.nD Cert.Reference4Ideal.τ).loc Cert.Reference4Ideal.main_v130) = v23 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15)
          ∧ r.2.mem ((c.tc : Thread Cert.Reference4Ideal.nD Cert.Reference4Ideal.τ).loc Cert.Reference4Ideal.main_arg16) = m' ((c.tc : Thread Cert.Reference4Ideal.nD Cert.Reference4Ideal.τ).loc Cert.Reference4Ideal.main_arg16)
          ∧ r.2.mem ((c.tc : Thread Cert.Reference4Ideal.nD Cert.Reference4Ideal.τ).loc Cert.Reference4Ideal.main_arg17) = m' ((c.tc : Thread Cert.Reference4Ideal.nD Cert.Reference4Ideal.τ).loc Cert.Reference4Ideal.main_arg17)
          ∧ r.2.mem ((c.tc : Thread Cert.Reference4Ideal.nD Cert.Reference4Ideal.τ).loc Cert.Reference4Ideal.main_arg18) = m' ((c.tc : Thread Cert.Reference4Ideal.nD Cert.Reference4Ideal.τ).loc Cert.Reference4Ideal.main_arg18)
          ∧ r.2.mem ((c.tc : Thread Cert.Reference4Ideal.nD Cert.Reference4Ideal.τ).loc Cert.Reference4Ideal.main_arg19) = m' ((c.tc : Thread Cert.Reference4Ideal.nD Cert.Reference4Ideal.τ).loc Cert.Reference4Ideal.main_arg19)
          ∧ r.2.mem ((c.tc : Thread Cert.Reference4Ideal.nD Cert.Reference4Ideal.τ).loc Cert.Reference4Ideal.main_arg20) = m' ((c.tc : Thread Cert.Reference4Ideal.nD Cert.Reference4Ideal.τ).loc Cert.Reference4Ideal.main_arg20)
          ∧ r.2.mem ((c.tc : Thread Cert.Reference4Ideal.nD Cert.Reference4Ideal.τ).loc Cert.Reference4Ideal.main_arg21) = m' ((c.tc : Thread Cert.Reference4Ideal.nD Cert.Reference4Ideal.τ).loc Cert.Reference4Ideal.main_arg21)
          ∧ r.2.mem ((c.tc : Thread Cert.Reference4Ideal.nD Cert.Reference4Ideal.τ).loc Cert.Reference4Ideal.main_arg22) = m' ((c.tc : Thread Cert.Reference4Ideal.nD Cert.Reference4Ideal.τ).loc Cert.Reference4Ideal.main_arg22)
          ∧ r.2.mem ((c.tc : Thread Cert.Reference4Ideal.nD Cert.Reference4Ideal.τ).loc Cert.Reference4Ideal.main_arg23) = m' ((c.tc : Thread Cert.Reference4Ideal.nD Cert.Reference4Ideal.τ).loc Cert.Reference4Ideal.main_arg23))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)) (v4 : (c : Dev Cert.Kernel5Ideal.nD) → Buf (Elt Ideal) ((c.tc : Thread Cert.Kernel5Ideal.nD Cert.Kernel5Ideal.τ).loc Cert.Kernel5Ideal.main_v4)) (v5 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_v4) = v4 c
          ∧ r.2.mem ((c.tc : Thread Cert.Kernel5Ideal.nD Cert.Kernel5Ideal.τ).loc Cert.Kernel5Ideal.main_v5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v13) = v1 c
          ∧ r.2.mem ((c.tc : Thread Cert.Reference5Ideal.nD Cert.Reference5Ideal.τ).loc Cert.Reference5Ideal.main_v15) = v2 c
          ∧ r.2.mem ((c.tc : Thread Cert.Reference5Ideal.nD Cert.Reference5Ideal.τ).loc Cert.Reference5Ideal.main_v17) = v3 c
          ∧ r.2.mem ((c.tc : Thread Cert.Reference5Ideal.nD Cert.Reference5Ideal.τ).loc Cert.Reference5Ideal.main_v19) = v4 c
          ∧ r.2.mem ((c.tc : Thread Cert.Reference5Ideal.nD Cert.Reference5Ideal.τ).loc Cert.Reference5Ideal.main_v22) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0)) (v1 : (c : Dev Cert.Kernel8Ideal.nD) → Buf (Elt Ideal) ((c.tc : Thread Cert.Kernel8Ideal.nD Cert.Kernel8Ideal.τ).loc Cert.Kernel8Ideal.main_v1)) (v2 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_v1) = v1 c
          ∧ r.2.mem ((c.tc : Thread Cert.Kernel8Ideal.nD Cert.Kernel8Ideal.τ).loc Cert.Kernel8Ideal.main_v2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_v35) = v1 c
          ∧ r.2.mem ((c.tc : Thread Cert.Reference9Ideal.nD Cert.Reference9Ideal.τ).loc Cert.Reference9Ideal.main_v17) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v48) = v0 c
          ∧ r.2.mem ((c.tc : Thread Cert.Reference10Ideal.nD Cert.Reference10Ideal.τ).loc Cert.Reference10Ideal.main_v49) = v1 c
          ∧ r.2.mem ((c.tc : Thread Cert.Reference10Ideal.nD Cert.Reference10Ideal.τ).loc Cert.Reference10Ideal.main_v32) = v2 c
          ∧ r.2.mem ((c.tc : Thread Cert.Reference10Ideal.nD Cert.Reference10Ideal.τ).loc Cert.Reference10Ideal.main_v50) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v52) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v0)) (v1 : (c : Dev Cert.Kernel12Ideal.nD) → Buf (Elt Ideal) ((c.tc : Thread Cert.Kernel12Ideal.nD Cert.Kernel12Ideal.τ).loc Cert.Kernel12Ideal.main_v1)) (v2 : (c : Dev Cert.Kernel12Ideal.nD) → Buf (Elt Ideal) ((c.tc : Thread Cert.Kernel12Ideal.nD Cert.Kernel12Ideal.τ).loc Cert.Kernel12Ideal.main_v2)) (v3 : (c : Dev Cert.Kernel12Ideal.nD) → Buf (Elt Ideal) ((c.tc : Thread Cert.Kernel12Ideal.nD Cert.Kernel12Ideal.τ).loc Cert.Kernel12Ideal.main_v3)) (v4 : (c : Dev Cert.Kernel12Ideal.nD) → Buf (Elt Ideal) ((c.tc : Thread Cert.Kernel12Ideal.nD Cert.Kernel12Ideal.τ).loc Cert.Kernel12Ideal.main_v4)) (v5 : (c : Dev Cert.Kernel12Ideal.nD) → Buf (Elt Ideal) ((c.tc : Thread Cert.Kernel12Ideal.nD Cert.Kernel12Ideal.τ).loc Cert.Kernel12Ideal.main_v5)) (v6 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_v1) = v1 c
          ∧ r.2.mem ((c.tc : Thread Cert.Kernel12Ideal.nD Cert.Kernel12Ideal.τ).loc Cert.Kernel12Ideal.main_v2) = v2 c
          ∧ r.2.mem ((c.tc : Thread Cert.Kernel12Ideal.nD Cert.Kernel12Ideal.τ).loc Cert.Kernel12Ideal.main_v3) = v3 c
          ∧ r.2.mem ((c.tc : Thread Cert.Kernel12Ideal.nD Cert.Kernel12Ideal.τ).loc Cert.Kernel12Ideal.main_v4) = v4 c
          ∧ r.2.mem ((c.tc : Thread Cert.Kernel12Ideal.nD Cert.Kernel12Ideal.τ).loc Cert.Kernel12Ideal.main_v5) = v5 c
          ∧ r.2.mem ((c.tc : Thread Cert.Kernel12Ideal.nD Cert.Kernel12Ideal.τ).loc Cert.Kernel12Ideal.main_v7) = v6 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_v17) = v2 c
          ∧ r.2.mem ((c.tc : Thread Cert.Reference12Ideal.nD Cert.Reference12Ideal.τ).loc Cert.Reference12Ideal.main_v18) = v3 c
          ∧ r.2.mem ((c.tc : Thread Cert.Reference12Ideal.nD Cert.Reference12Ideal.τ).loc Cert.Reference12Ideal.main_v25) = v4 c
          ∧ r.2.mem ((c.tc : Thread Cert.Reference12Ideal.nD Cert.Reference12Ideal.τ).loc Cert.Reference12Ideal.main_v22) = v5 c
          ∧ r.2.mem ((c.tc : Thread Cert.Reference12Ideal.nD Cert.Reference12Ideal.τ).loc Cert.Reference12Ideal.main_v27) = v6 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m ((c.tc : Thread Cert.Kernel13Ideal.nD Cert.Kernel13Ideal.τ).loc Cert.Kernel13Ideal.main_arg0) = Layout.block ⟨3, ![1, 4096, 2048]⟩ ⟨3, ![8, 4096, 2048]⟩ 0 8 c (m' (((0 : Dev Cert.Reference13Ideal.nD).tc : Thread Cert.Reference13Ideal.nD Cert.Reference13Ideal.τ).loc Cert.Reference13Ideal.main_arg0))
      ∧ m ((c.tc : Thread Cert.Kernel13Ideal.nD Cert.Kernel13Ideal.τ).loc Cert.Kernel13Ideal.main_arg1) = Layout.block ⟨3, ![1, 4096, 2048]⟩ ⟨3, ![8, 4096, 2048]⟩ 0 8 c (m' (((0 : Dev Cert.Reference13Ideal.nD).tc : Thread Cert.Reference13Ideal.nD Cert.Reference13Ideal.τ).loc Cert.Reference13Ideal.main_arg1))
      ∧ m ((c.tc : Thread Cert.Kernel13Ideal.nD Cert.Kernel13Ideal.τ).loc Cert.Kernel13Ideal.main_arg2) = m' (((0 : Dev Cert.Reference13Ideal.nD).tc : Thread Cert.Reference13Ideal.nD Cert.Reference13Ideal.τ).loc Cert.Reference13Ideal.main_arg2)) →
    ∃ (v0 : Buf (Elt Ideal) (((0 : Dev Cert.Reference13Ideal.nD).tc : Thread Cert.Reference13Ideal.nD Cert.Reference13Ideal.τ).loc Cert.Reference13Ideal.main_v19)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r =>
          r.2.mem (((0 : Dev Cert.Reference13Ideal.nD).tc : Thread Cert.Reference13Ideal.nD Cert.Reference13Ideal.τ).loc Cert.Reference13Ideal.main_v19) = v0
          ∧ r.2.mem (((0 : Dev Cert.Reference13Ideal.nD).tc : Thread Cert.Reference13Ideal.nD Cert.Reference13Ideal.τ).loc Cert.Reference13Ideal.main_arg0) = m' (((0 : Dev Cert.Reference13Ideal.nD).tc : Thread Cert.Reference13Ideal.nD Cert.Reference13Ideal.τ).loc Cert.Reference13Ideal.main_arg0)
          ∧ r.2.mem (((0 : Dev Cert.Reference13Ideal.nD).tc : Thread Cert.Reference13Ideal.nD Cert.Reference13Ideal.τ).loc Cert.Reference13Ideal.main_arg1) = m' (((0 : Dev Cert.Reference13Ideal.nD).tc : Thread Cert.Reference13Ideal.nD Cert.Reference13Ideal.τ).loc Cert.Reference13Ideal.main_arg1)
          ∧ r.2.mem (((0 : Dev Cert.Reference13Ideal.nD).tc : Thread Cert.Reference13Ideal.nD Cert.Reference13Ideal.τ).loc Cert.Reference13Ideal.main_arg2) = m' (((0 : Dev Cert.Reference13Ideal.nD).tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v33) = v0 c
          ∧ r.2.mem ((c.tc : Thread Cert.Reference14Ideal.nD Cert.Reference14Ideal.τ).loc Cert.Reference14Ideal.main_v34) = v1 c
          ∧ r.2.mem ((c.tc : Thread Cert.Reference14Ideal.nD Cert.Reference14Ideal.τ).loc Cert.Reference14Ideal.main_v17) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0)) (v1 : (c : Dev Cert.Kernel15Ideal.nD) → Buf (Elt Ideal) ((c.tc : Thread Cert.Kernel15Ideal.nD Cert.Kernel15Ideal.τ).loc Cert.Kernel15Ideal.main_v1)) (v2 : (c : Dev Cert.Kernel15Ideal.nD) → Buf (Elt Ideal) ((c.tc : Thread Cert.Kernel15Ideal.nD Cert.Kernel15Ideal.τ).loc Cert.Kernel15Ideal.main_v2)) (v3 : (c : Dev Cert.Kernel15Ideal.nD) → Buf (Elt Ideal) ((c.tc : Thread Cert.Kernel15Ideal.nD Cert.Kernel15Ideal.τ).loc Cert.Kernel15Ideal.main_v3)) (v4 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_v1) = v1 c
          ∧ r.2.mem ((c.tc : Thread Cert.Kernel15Ideal.nD Cert.Kernel15Ideal.τ).loc Cert.Kernel15Ideal.main_v2) = v2 c
          ∧ r.2.mem ((c.tc : Thread Cert.Kernel15Ideal.nD Cert.Kernel15Ideal.τ).loc Cert.Kernel15Ideal.main_v3) = v3 c
          ∧ r.2.mem ((c.tc : Thread Cert.Kernel15Ideal.nD Cert.Kernel15Ideal.τ).loc Cert.Kernel15Ideal.main_v4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v3) = v1 c
          ∧ r.2.mem ((c.tc : Thread Cert.Reference15Ideal.nD Cert.Reference15Ideal.τ).loc Cert.Reference15Ideal.main_v5) = v2 c
          ∧ r.2.mem ((c.tc : Thread Cert.Reference15Ideal.nD Cert.Reference15Ideal.τ).loc Cert.Reference15Ideal.main_v7) = v3 c
          ∧ r.2.mem ((c.tc : Thread Cert.Reference15Ideal.nD Cert.Reference15Ideal.τ).loc Cert.Reference15Ideal.main_v9) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal_pre_finite_d [hKernel16Ideal : Cert.Kernel16Ideal.Facts] [hReference16Ideal : Cert.Reference16Ideal.Facts] [hPre_finite_d : Cert.Pre_finite_d.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite_d m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v25) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal_pre_finite_y [hKernel17Ideal : Cert.Kernel17Ideal.Facts] [hReference17Ideal : Cert.Reference17Ideal.Facts] [hPre_finite_y : Cert.Pre_finite_y.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite_y m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v38) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v11_0)) (v1 : (c : Dev Cert.Kernel18Ideal.nD) → Buf (Elt Ideal) ((c.tc : Thread Cert.Kernel18Ideal.nD Cert.Kernel18Ideal.τ).loc Cert.Kernel18Ideal.main_v11_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v11_0) = v0 c
          ∧ r.2.mem ((c.tc : Thread Cert.Kernel18Ideal.nD Cert.Kernel18Ideal.τ).loc Cert.Kernel18Ideal.main_v11_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v32) = v0 c
          ∧ r.2.mem ((c.tc : Thread Cert.Reference18Ideal.nD Cert.Reference18Ideal.τ).loc Cert.Reference18Ideal.main_v36) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal_pre_finite_k [hKernel19Ideal : Cert.Kernel19Ideal.Facts] [hReference19Ideal : Cert.Reference19Ideal.Facts] [hPre_finite_k : Cert.Pre_finite_k.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal_finite_k m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)
      ∧ m' ((c.tc : Thread Cert.Reference19Ideal.nD Cert.Reference19Ideal.τ).loc Cert.Reference19Ideal.main_arg5) = m ((c.tc : Thread Cert.Kernel19Ideal.nD Cert.Kernel19Ideal.τ).loc Cert.Kernel19Ideal.main_arg5)
      ∧ m' ((c.tc : Thread Cert.Reference19Ideal.nD Cert.Reference19Ideal.τ).loc Cert.Reference19Ideal.main_arg6) = m ((c.tc : Thread Cert.Kernel19Ideal.nD Cert.Kernel19Ideal.τ).loc Cert.Kernel19Ideal.main_arg6)
      ∧ m' ((c.tc : Thread Cert.Reference19Ideal.nD Cert.Reference19Ideal.τ).loc Cert.Reference19Ideal.main_arg7) = m ((c.tc : Thread Cert.Kernel19Ideal.nD Cert.Kernel19Ideal.τ).loc Cert.Kernel19Ideal.main_arg7)
      ∧ m' ((c.tc : Thread Cert.Reference19Ideal.nD Cert.Reference19Ideal.τ).loc Cert.Reference19Ideal.main_arg8) = m ((c.tc : Thread Cert.Kernel19Ideal.nD Cert.Kernel19Ideal.τ).loc Cert.Kernel19Ideal.main_arg8)
      ∧ m' ((c.tc : Thread Cert.Reference19Ideal.nD Cert.Reference19Ideal.τ).loc Cert.Reference19Ideal.main_arg9) = m ((c.tc : Thread Cert.Kernel19Ideal.nD Cert.Kernel19Ideal.τ).loc Cert.Kernel19Ideal.main_arg9)) →
    ∃ (v0 : (c : Dev Cert.Kernel19Ideal.nD) → Buf (Elt Ideal) ((c.tc : Thread Cert.Kernel19Ideal.nD Cert.Kernel19Ideal.τ).loc Cert.Kernel19Ideal.main_v21_0)) (v1 : (c : Dev Cert.Kernel19Ideal.nD) → Buf (Elt Ideal) ((c.tc : Thread Cert.Kernel19Ideal.nD Cert.Kernel19Ideal.τ).loc Cert.Kernel19Ideal.main_v21_1)) (v2 : (c : Dev Cert.Kernel19Ideal.nD) → Buf (Elt Ideal) ((c.tc : Thread Cert.Kernel19Ideal.nD Cert.Kernel19Ideal.τ).loc Cert.Kernel19Ideal.main_v21_2)) (v3 : (c : Dev Cert.Kernel19Ideal.nD) → Buf (Elt Ideal) ((c.tc : Thread Cert.Kernel19Ideal.nD Cert.Kernel19Ideal.τ).loc Cert.Kernel19Ideal.main_v21_3)) (v4 : (c : Dev Cert.Kernel19Ideal.nD) → Buf (Elt Ideal) ((c.tc : Thread Cert.Kernel19Ideal.nD Cert.Kernel19Ideal.τ).loc Cert.Kernel19Ideal.main_v21_4)) (v5 : (c : Dev Cert.Kernel19Ideal.nD) → Buf (Elt Ideal) ((c.tc : Thread Cert.Kernel19Ideal.nD Cert.Kernel19Ideal.τ).loc Cert.Kernel19Ideal.main_v21_5)) (v6 : (c : Dev Cert.Kernel19Ideal.nD) → Buf (Elt Ideal) ((c.tc : Thread Cert.Kernel19Ideal.nD Cert.Kernel19Ideal.τ).loc Cert.Kernel19Ideal.main_v21_6)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v21_0) = v0 c
          ∧ r.2.mem ((c.tc : Thread Cert.Kernel19Ideal.nD Cert.Kernel19Ideal.τ).loc Cert.Kernel19Ideal.main_v21_1) = v1 c
          ∧ r.2.mem ((c.tc : Thread Cert.Kernel19Ideal.nD Cert.Kernel19Ideal.τ).loc Cert.Kernel19Ideal.main_v21_2) = v2 c
          ∧ r.2.mem ((c.tc : Thread Cert.Kernel19Ideal.nD Cert.Kernel19Ideal.τ).loc Cert.Kernel19Ideal.main_v21_3) = v3 c
          ∧ r.2.mem ((c.tc : Thread Cert.Kernel19Ideal.nD Cert.Kernel19Ideal.τ).loc Cert.Kernel19Ideal.main_v21_4) = v4 c
          ∧ r.2.mem ((c.tc : Thread Cert.Kernel19Ideal.nD Cert.Kernel19Ideal.τ).loc Cert.Kernel19Ideal.main_v21_5) = v5 c
          ∧ r.2.mem ((c.tc : Thread Cert.Kernel19Ideal.nD Cert.Kernel19Ideal.τ).loc Cert.Kernel19Ideal.main_v21_6) = v6 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4)
          ∧ r.2.mem ((c.tc : Thread Cert.Kernel19Ideal.nD Cert.Kernel19Ideal.τ).loc Cert.Kernel19Ideal.main_arg5) = m ((c.tc : Thread Cert.Kernel19Ideal.nD Cert.Kernel19Ideal.τ).loc Cert.Kernel19Ideal.main_arg5)
          ∧ r.2.mem ((c.tc : Thread Cert.Kernel19Ideal.nD Cert.Kernel19Ideal.τ).loc Cert.Kernel19Ideal.main_arg6) = m ((c.tc : Thread Cert.Kernel19Ideal.nD Cert.Kernel19Ideal.τ).loc Cert.Kernel19Ideal.main_arg6)
          ∧ r.2.mem ((c.tc : Thread Cert.Kernel19Ideal.nD Cert.Kernel19Ideal.τ).loc Cert.Kernel19Ideal.main_arg7) = m ((c.tc : Thread Cert.Kernel19Ideal.nD Cert.Kernel19Ideal.τ).loc Cert.Kernel19Ideal.main_arg7)
          ∧ r.2.mem ((c.tc : Thread Cert.Kernel19Ideal.nD Cert.Kernel19Ideal.τ).loc Cert.Kernel19Ideal.main_arg8) = m ((c.tc : Thread Cert.Kernel19Ideal.nD Cert.Kernel19Ideal.τ).loc Cert.Kernel19Ideal.main_arg8)
          ∧ r.2.mem ((c.tc : Thread Cert.Kernel19Ideal.nD Cert.Kernel19Ideal.τ).loc Cert.Kernel19Ideal.main_arg9) = m ((c.tc : Thread Cert.Kernel19Ideal.nD Cert.Kernel19Ideal.τ).loc Cert.Kernel19Ideal.main_arg9))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v10) = v0 c
          ∧ r.2.mem ((c.tc : Thread Cert.Reference19Ideal.nD Cert.Reference19Ideal.τ).loc Cert.Reference19Ideal.main_v61) = v1 c
          ∧ r.2.mem ((c.tc : Thread Cert.Reference19Ideal.nD Cert.Reference19Ideal.τ).loc Cert.Reference19Ideal.main_v59) = v2 c
          ∧ r.2.mem ((c.tc : Thread Cert.Reference19Ideal.nD Cert.Reference19Ideal.τ).loc Cert.Reference19Ideal.main_v12) = v3 c
          ∧ r.2.mem ((c.tc : Thread Cert.Reference19Ideal.nD Cert.Reference19Ideal.τ).loc Cert.Reference19Ideal.main_v62) = v4 c
          ∧ r.2.mem ((c.tc : Thread Cert.Reference19Ideal.nD Cert.Reference19Ideal.τ).loc Cert.Reference19Ideal.main_v63) = v5 c
          ∧ r.2.mem ((c.tc : Thread Cert.Reference19Ideal.nD Cert.Reference19Ideal.τ).loc Cert.Reference19Ideal.main_v40) = v6 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4)
          ∧ r.2.mem ((c.tc : Thread Cert.Reference19Ideal.nD Cert.Reference19Ideal.τ).loc Cert.Reference19Ideal.main_arg5) = m' ((c.tc : Thread Cert.Reference19Ideal.nD Cert.Reference19Ideal.τ).loc Cert.Reference19Ideal.main_arg5)
          ∧ r.2.mem ((c.tc : Thread Cert.Reference19Ideal.nD Cert.Reference19Ideal.τ).loc Cert.Reference19Ideal.main_arg6) = m' ((c.tc : Thread Cert.Reference19Ideal.nD Cert.Reference19Ideal.τ).loc Cert.Reference19Ideal.main_arg6)
          ∧ r.2.mem ((c.tc : Thread Cert.Reference19Ideal.nD Cert.Reference19Ideal.τ).loc Cert.Reference19Ideal.main_arg7) = m' ((c.tc : Thread Cert.Reference19Ideal.nD Cert.Reference19Ideal.τ).loc Cert.Reference19Ideal.main_arg7)
          ∧ r.2.mem ((c.tc : Thread Cert.Reference19Ideal.nD Cert.Reference19Ideal.τ).loc Cert.Reference19Ideal.main_arg8) = m' ((c.tc : Thread Cert.Reference19Ideal.nD Cert.Reference19Ideal.τ).loc Cert.Reference19Ideal.main_arg8)
          ∧ r.2.mem ((c.tc : Thread Cert.Reference19Ideal.nD Cert.Reference19Ideal.τ).loc Cert.Reference19Ideal.main_arg9) = m' ((c.tc : Thread Cert.Reference19Ideal.nD Cert.Reference19Ideal.τ).loc Cert.Reference19Ideal.main_arg9))

def preserves_Kernel20_Kernel20Ideal : Prop :=
  True

def algebraic_Kernel20Ideal_Reference20Ideal [hKernel20Ideal : Cert.Kernel20Ideal.Facts] [hReference20Ideal : Cert.Reference20Ideal.Facts] [hPre_a_half : Cert.Pre_a_half.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] [hPre_a_half_to_send : Cert.Pre_a_half_to_send.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal_pre_finite_skips [hKernel22Ideal : Cert.Kernel22Ideal.Facts] [hReference22Ideal : Cert.Reference22Ideal.Facts] [hPre_finite_skips : Cert.Pre_finite_skips.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_skips m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v2)) (v4 : (c : Dev Cert.Kernel22Ideal.nD) → Buf (Elt Ideal) ((c.tc : Thread Cert.Kernel22Ideal.nD Cert.Kernel22Ideal.τ).loc Cert.Kernel22Ideal.main_v1_4)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v2) = v3 c
          ∧ r.2.mem ((c.tc : Thread Cert.Kernel22Ideal.nD Cert.Kernel22Ideal.τ).loc Cert.Kernel22Ideal.main_v1_4) = v4 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v63) = v0 c
          ∧ r.2.mem ((c.tc : Thread Cert.Reference22Ideal.nD Cert.Reference22Ideal.τ).loc Cert.Reference22Ideal.main_v62) = v1 c
          ∧ r.2.mem ((c.tc : Thread Cert.Reference22Ideal.nD Cert.Reference22Ideal.τ).loc Cert.Reference22Ideal.main_v52) = v2 c
          ∧ r.2.mem ((c.tc : Thread Cert.Reference22Ideal.nD Cert.Reference22Ideal.τ).loc Cert.Reference22Ideal.main_v61) = v3 c
          ∧ r.2.mem ((c.tc : Thread Cert.Reference22Ideal.nD Cert.Reference22Ideal.τ).loc Cert.Reference22Ideal.main_v31) = v4 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_finite_v_do : Cert.Pre_finite_v_do.Facts) (hPre_finite_d : Cert.Pre_finite_d.Facts) (hPre_finite_y : Cert.Pre_finite_y.Facts) (hPre_finite_k : Cert.Pre_finite_k.Facts) (hPre_a_half : Cert.Pre_a_half.Facts) (hPre_a_half_to_send : Cert.Pre_a_half_to_send.Facts) (hPre_finite_skips : Cert.Pre_finite_skips.Facts),
    quiescent_Kernel (hKernel := hKernel)
    ∧ quiescent_KernelIdeal (hKernelIdeal := hKernelIdeal)
    ∧ quiescent_KernelIdeal_pre_finite_v_do (hKernelIdeal := hKernelIdeal) (hPre_finite_v_do := hPre_finite_v_do)
    ∧ quiescent_ReferenceIdeal (hReferenceIdeal := hReferenceIdeal)
    ∧ quiescent_ReferenceIdeal_pre_finite_v_do (hReferenceIdeal := hReferenceIdeal) (hPre_finite_v_do := hPre_finite_v_do)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite_d (hKernel16Ideal := hKernel16Ideal) (hPre_finite_d := hPre_finite_d)
    ∧ quiescent_Reference16Ideal (hReference16Ideal := hReference16Ideal)
    ∧ quiescent_Reference16Ideal_pre_finite_d (hReference16Ideal := hReference16Ideal) (hPre_finite_d := hPre_finite_d)
    ∧ quiescent_Kernel17 (hKernel17 := hKernel17)
    ∧ quiescent_Kernel17Ideal (hKernel17Ideal := hKernel17Ideal)
    ∧ quiescent_Kernel17Ideal_pre_finite_y (hKernel17Ideal := hKernel17Ideal) (hPre_finite_y := hPre_finite_y)
    ∧ quiescent_Reference17Ideal (hReference17Ideal := hReference17Ideal)
    ∧ quiescent_Reference17Ideal_pre_finite_y (hReference17Ideal := hReference17Ideal) (hPre_finite_y := hPre_finite_y)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Kernel19Ideal_pre_finite_k (hKernel19Ideal := hKernel19Ideal) (hPre_finite_k := hPre_finite_k)
    ∧ quiescent_Reference19Ideal (hReference19Ideal := hReference19Ideal)
    ∧ quiescent_Reference19Ideal_pre_finite_k (hReference19Ideal := hReference19Ideal) (hPre_finite_k := hPre_finite_k)
    ∧ quiescent_Kernel20 (hKernel20 := hKernel20) (hPre_a_half := hPre_a_half)
    ∧ quiescent_Kernel20Ideal (hKernel20Ideal := hKernel20Ideal) (hPre_a_half := hPre_a_half)
    ∧ quiescent_Reference20Ideal (hReference20Ideal := hReference20Ideal)
    ∧ quiescent_Reference20Ideal_pre_a_half (hReference20Ideal := hReference20Ideal) (hPre_a_half := hPre_a_half)
    ∧ quiescent_Kernel21 (hKernel21 := hKernel21) (hPre_a_half_to_send := hPre_a_half_to_send)
    ∧ quiescent_Kernel21Ideal (hKernel21Ideal := hKernel21Ideal) (hPre_a_half_to_send := hPre_a_half_to_send)
    ∧ quiescent_Reference21Ideal (hReference21Ideal := hReference21Ideal)
    ∧ quiescent_Reference21Ideal_pre_a_half_to_send (hReference21Ideal := hReference21Ideal) (hPre_a_half_to_send := hPre_a_half_to_send)
    ∧ quiescent_Kernel22 (hKernel22 := hKernel22)
    ∧ quiescent_Kernel22Ideal (hKernel22Ideal := hKernel22Ideal)
    ∧ quiescent_Kernel22Ideal_pre_finite_skips (hKernel22Ideal := hKernel22Ideal) (hPre_finite_skips := hPre_finite_skips)
    ∧ quiescent_Reference22Ideal (hReference22Ideal := hReference22Ideal)
    ∧ quiescent_Reference22Ideal_pre_finite_skips (hReference22Ideal := hReference22Ideal) (hPre_finite_skips := hPre_finite_skips)
    ∧ preserves_Kernel_KernelIdeal
    ∧ algebraic_KernelIdeal_ReferenceIdeal_pre_finite_v_do (hKernelIdeal := hKernelIdeal) (hReferenceIdeal := hReferenceIdeal) (hPre_finite_v_do := hPre_finite_v_do)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite_d (hKernel16Ideal := hKernel16Ideal) (hReference16Ideal := hReference16Ideal) (hPre_finite_d := hPre_finite_d)
    ∧ preserves_Kernel17_Kernel17Ideal
    ∧ algebraic_Kernel17Ideal_Reference17Ideal_pre_finite_y (hKernel17Ideal := hKernel17Ideal) (hReference17Ideal := hReference17Ideal) (hPre_finite_y := hPre_finite_y)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal_pre_finite_k (hKernel19Ideal := hKernel19Ideal) (hReference19Ideal := hReference19Ideal) (hPre_finite_k := hPre_finite_k)
    ∧ preserves_Kernel20_Kernel20Ideal
    ∧ algebraic_Kernel20Ideal_Reference20Ideal (hKernel20Ideal := hKernel20Ideal) (hReference20Ideal := hReference20Ideal) (hPre_a_half := hPre_a_half)
    ∧ preserves_Kernel21_Kernel21Ideal
    ∧ algebraic_Kernel21Ideal_Reference21Ideal (hKernel21Ideal := hKernel21Ideal) (hReference21Ideal := hReference21Ideal) (hPre_a_half_to_send := hPre_a_half_to_send)
    ∧ preserves_Kernel22_Kernel22Ideal
    ∧ algebraic_Kernel22Ideal_Reference22Ideal_pre_finite_skips (hKernel22Ideal := hKernel22Ideal) (hReference22Ideal := hReference22Ideal) (hPre_finite_skips := hPre_finite_skips)
-- ==== Pre_a_half.lean ====
abbrev S_ : Shape := ⟨0, ![]⟩
abbrev S4x1524x2048 : Shape := ⟨3, ![4, 1524, 2048]⟩
abbrev S4x1524x1024 : Shape := ⟨3, ![4, 1524, 1024]⟩

class Facts : Prop where

variable [Facts]

def fn {F : FTy → Type} [FloatOps F] (main_arg0 : IVec S_ 32) (main_arg1 : FVec F S4x1524x2048 .f32) (main_arg2 : FVec F S4x1524x1024 .bf16) : IVec S_ 1 :=
  let main_c : IVec S_ 32 := constantI S_ 32 0#32
  let main_v0 : IVec S_ 1 := cmpi .eq main_arg0 main_c
  let main_c_0 : IVec S_ 32 := constantI S_ 32 1#32
  let main_v1 : IVec S_ 1 := cmpi .eq main_arg0 main_c_0
  let main_v2 : IVec S_ 1 := ori main_v0 main_v1
  main_v2
-- ==== Pre_a_half_to_send.lean ====
abbrev S_ : Shape := ⟨0, ![]⟩
abbrev S4x2048x2048 : Shape := ⟨3, ![4, 2048, 2048]⟩

class Facts : Prop where

variable [Facts]

def fn {F : FTy → Type} [FloatOps F] (main_arg0 : IVec S_ 32) (main_arg1 : FVec F S4x2048x2048 .f32) : IVec S_ 1 :=
  let main_c : IVec S_ 32 := constantI S_ 32 0#32
  let main_v0 : IVec S_ 1 := cmpi .eq main_arg0 main_c
  let main_c_0 : IVec S_ 32 := constantI S_ 32 1#32
  let main_v1 : IVec S_ 1 := cmpi .eq main_arg0 main_c_0
  let main_v2 : IVec S_ 1 := ori main_v0 main_v1
  main_v2
-- ==== Pre_finite_d.lean ====
abbrev S4096x1024 : Shape := ⟨2, ![4096, 1024]⟩
abbrev S4096x1536 : Shape := ⟨2, ![4096, 1536]⟩
abbrev S1x16 : Shape := ⟨2, ![1, 16]⟩
abbrev S1x1024 : Shape := ⟨2, ![1, 1024]⟩
abbrev S_ : Shape := ⟨0, ![]⟩

class Facts : Prop where
  bcast_S_S1x16 : S_.BroadcastsInDim S1x16 (![] : Fin 0 → Fin S1x16.rank)

variable [Facts]

def fn {F : FTy → Type} [FloatOps F] (main_arg0 : FVec F S4096x1024 .f32) (main_arg1 : FVec F S4096x1536 .f32) (main_arg2 : FVec F S4096x1024 .f32) (main_arg3 : FVec F S1x16 .f32) (main_arg4 : FVec F S1x1024 .f32) : IVec S1x16 1 :=
  let main_v0 : FVec F S1x16 .f32 := Host.absf main_arg3
  let main_cst : FVec F S_ .f32 := constant S_ .f32 0x7F800000#32
  let main_v1 : FVec F S1x16 .f32 := broadcastInDim S1x16 ![] bcast_S_S1x16 main_cst
  let main_v2 : IVec S1x16 1 := cmpf .olt main_v0 main_v1
  main_v2
-- ==== Pre_finite_k.lean ====
abbrev S4096x3072 : Shape := ⟨2, ![4096, 3072]⟩
abbrev S4096x512 : Shape := ⟨2, ![4096, 512]⟩
abbrev S1x3520 : Shape := ⟨2, ![1, 3520]⟩
abbrev S1x1024 : Shape := ⟨2, ![1, 1024]⟩
abbrev S96x1024 : Shape := ⟨2, ![96, 1024]⟩
abbrev S256x1024 : Shape := ⟨2, ![256, 1024]⟩
abbrev S4096x1024 : Shape := ⟨2, ![4096, 1024]⟩
abbrev S_ : Shape := ⟨0, ![]⟩
abbrev S4097x1024 : Shape := ⟨2, ![4097, 1024]⟩

class Facts : Prop where
  slices_S4096x3072_S4096x1024_0_1024 : S4096x3072.Slices ![0, 1024] S4096x1024
  pads_S4096x1024_S4097x1024_100_000 : S4096x1024.Pads (![1, 0] : Fin 2 → Nat) ![0, 0] ![0, 0] S4097x1024
  h_S_ : 0 < S_.numel
  slices_S4097x1024_S4096x1024_0_0 : S4097x1024.Slices ![0, 0] S4096x1024
  slices_S1x3520_S1x1024_0_1024 : S1x3520.Slices ![0, 1024] S1x1024
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)

variable [Facts]

def fn_pad {F : FTy → Type} [FloatOps F] (arg0 : FVec F S4096x1024 .f32) (arg1 : IVec S_ 32) : FVec F S4097x1024 .f32 :=
  let v0 : FVec F S_ .f32 := sitofp .f32 arg1
  let v1 : FVec F S4097x1024 .f32 := (fun x v => pad S4097x1024 ![1, 0] ![0, 0] ![0, 0] x v pads_S4096x1024_S4097x1024_100_000 h_S_) arg0 v0
  v1

def fn {F : FTy → Type} [FloatOps F] (main_arg0 : FVec F S4096x3072 .f32) (main_arg1 : FVec F S4096x512 .f32) (main_arg2 : FVec F S1x3520 .f32) (main_arg3 : FVec F S1x1024 .f32) (main_arg4 : FVec F S1x1024 .f32) (main_arg5 : FVec F S1x1024 .f32) (main_arg6 : FVec F S1x1024 .f32) (main_arg7 : FVec F S96x1024 .f32) (main_arg8 : FVec F S96x1024 .f32) (main_arg9 : FVec F S256x1024 .f32) : IVec S4096x1024 1 :=
  let main_v0 : FVec F S4096x1024 .f32 := (extractStridedSlice S4096x1024 ![0, 1024] · slices_S4096x3072_S4096x1024_0_1024) main_arg0
  let main_c : IVec S_ 32 := constantI S_ 32 0#32
  let main_v1 : FVec F S4097x1024 .f32 := fn_pad (F := F) main_v0 main_c
  let main_v2 : FVec F S4096x1024 .f32 := (extractStridedSlice S4096x1024 ![0, 0] · slices_S4097x1024_S4096x1024_0_0) main_v1
  let main_v3 : FVec F S4096x1024 .f32 := subf main_v2 main_v0
  let main_v4 : FVec F S1x1024 .f32 := (extractStridedSlice S1x1024 ![0, 1024] · slices_S1x3520_S1x1024_0_1024) main_arg2
  let main_v5 : FVec F S4096x1024 .f32 := broadcastInDim S4096x1024 ![0, 1] bcast_S1x1024_S4096x1024_0_1 main_v4
  let main_v6 : FVec F S4096x1024 .f32 := mulf main_v3 main_v5
  let main_v7 : FVec F S4096x1024 .f32 := addf main_v0 main_v6
  let main_v8 : FVec F S4096x1024 .f32 := broadcastInDim S4096x1024 ![0, 1] bcast_S1x1024_S4096x1024_0_1 main_arg5
  let main_v9 : FVec F S4096x1024 .f32 := mulf main_v7 main_v8
  let main_v10 : FVec F S4096x1024 .f32 := Host.absf main_v9
  let main_cst : FVec F S_ .f32 := constant S_ .f32 0x7F800000#32
  let main_v11 : FVec F S4096x1024 .f32 := broadcastInDim S4096x1024 ![] bcast_S_S4096x1024 main_cst
  let main_v12 : IVec S4096x1024 1 := cmpf .olt main_v10 main_v11
  main_v12
-- ==== Pre_finite_skips.lean ====
abbrev S4096x1024 : Shape := ⟨2, ![4096, 1024]⟩
abbrev S4096x1536 : Shape := ⟨2, ![4096, 1536]⟩
abbrev S1x16 : Shape := ⟨2, ![1, 16]⟩
abbrev S1x1024 : Shape := ⟨2, ![1, 1024]⟩
abbrev S4096x2048 : Shape := ⟨2, ![4096, 2048]⟩
abbrev S4096x16x64 : Shape := ⟨3, ![4096, 16, 64]⟩
abbrev S16x1 : Shape := ⟨2, ![16, 1]⟩
abbrev S1x16x1 : Shape := ⟨3, ![1, 16, 1]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩

class Facts : Prop where
  slices_S4096x1536_S4096x1024_0_0 : S4096x1536.Slices ![0, 0] S4096x1024
  shapeCasts_S4096x1024_S4096x16x64 : S4096x1024.ShapeCasts S4096x16x64
  shapeCasts_S1x16_S16x1 : S1x16.ShapeCasts S16x1
  bcast_S16x1_S1x16x1_1_2 : S16x1.BroadcastsInDim S1x16x1 (![1, 2] : Fin 2 → Fin S1x16x1.rank)
  bcast_S1x16x1_S4096x16x64_0_1_2 : S1x16x1.BroadcastsInDim S4096x16x64 (![0, 1, 2] : Fin 3 → Fin S4096x16x64.rank)
  shapeCasts_S4096x16x64_S4096x1024 : S4096x16x64.ShapeCasts S4096x1024
  bcast_S_S4096x1024 : S_.BroadcastsInDim S4096x1024 (![] : Fin 0 → Fin S4096x1024.rank)
  shapeCasts_S4096x1024_S4096x2x512 : S4096x1024.ShapeCasts S4096x2x512
  reducesTo_S4096x2x512_S4096x2_d2 : S4096x2x512.ReducesTo [2] S4096x2
  h_S_ : 0 < S_.numel
  bcast_S4096x2_S4096x2x1_0_1 : S4096x2.BroadcastsInDim S4096x2x1 (![0, 1] : Fin 2 → Fin S4096x2x1.rank)
  bcast_S_S4096x2x1 : S_.BroadcastsInDim S4096x2x1 (![] : Fin 0 → Fin S4096x2x1.rank)
  bcast_S4096x2x1_S4096x2x512_0_1_2 : S4096x2x1.BroadcastsInDim S4096x2x512 (![0, 1, 2] : Fin 3 → Fin S4096x2x512.rank)
  shapeCasts_S4096x2x512_S4096x1024 : S4096x2x512.ShapeCasts S4096x1024
  bcast_S1x1024_S4096x1024_0_1 : S1x1024.BroadcastsInDim S4096x1024 (![0, 1] : Fin 2 → Fin S4096x1024.rank)
  slices_S4096x2048_S4096x1024_0_0 : S4096x2048.Slices ![0, 0] S4096x1024
  shapeCasts_S4096x2_S4096x2x1 : S4096x2.ShapeCasts S4096x2x1
  reducesTo_S4096x2x1_S4096x2_d2 : S4096x2x1.ReducesTo [2] S4096x2
  bcast_S4096x2_S4096x2x512_0_1 : S4096x2.BroadcastsInDim S4096x2x512 (![0, 1] : Fin 2 → Fin S4096x2x512.rank)
  bcast_S_S1x16 : S_.BroadcastsInDim S1x16 (![] : Fin 0 → Fin S1x16.rank)

variable [Facts]

def fn_silu {F : FTy → Type} [FloatOps F] (arg0 : FVec F S4096x1024 .f32) : FVec F S4096x1024 .f32 :=
  let v0 : FVec F S4096x1024 .f32 := Host.negf arg0
  let v1 : FVec F S4096x1024 .f32 := Host.exp v0
  let cst : FVec F S_ .f32 := constant S_ .f32 0x3F800000#32
  let v2 : FVec F S4096x1024 .f32 := broadcastInDim S4096x1024 ![] bcast_S_S4096x1024 cst
  let v3 : FVec F S4096x1024 .f32 := addf v2 v1
  let cst_0 : FVec F S_ .f32 := constant S_ .f32 0x3F800000#32
  let v4 : FVec F S4096x1024 .f32 := broadcastInDim S4096x1024 ![] bcast_S_S4096x1024 cst_0
  let v5 : FVec F S4096x1024 .f32 := Host.divf v4 v3
  let v6 : FVec F S4096x1024 .f32 := mulf arg0 v5
  v6

def fn_part2 {F : FTy → Type} [FloatOps F] (main_arg1 : FVec F S4096x1536 .f32) (main_arg3 : FVec F S1x16 .f32) (main_v9 : FVec F S4096x1024 .f32) (main_v11 : FVec F S4096x2x512 .f32) (main_v36 : FVec F S4096x2x512 .f32) (main_v40 : FVec F S4096x2 .f32) : IVec S1x16 1 × IVec S4096x1024 1 :=
  let main_v41 : FVec F S4096x2x512 .f32 := broadcastInDim S4096x2x512 ![0, 1] bcast_S4096x2_S4096x2x512_0_1 main_v40
  let main_v42 : FVec F S4096x2x512 .f32 := mulf main_v11 main_v41
  let main_v43 : FVec F S4096x2x512 .f32 := addf main_v36 main_v42
  let main_v44 : FVec F S4096x2x512 .f32 := mulf main_v41 main_v11
  let main_v45 : FVec F S4096x2x512 .f32 := addf main_v43 main_v44
  let main_v46 : FVec F S4096x1024 .f32 := shapeCast S4096x1024 main_v45 shapeCasts_S4096x2x512_S4096x1024
  let main_v47 : FVec F S4096x1024 .f32 := mulf main_v46 main_v9
  let main_v48 : FVec F S4096x16x64 .f32 := shapeCast S4096x16x64 main_v47 shapeCasts_S4096x1024_S4096x16x64
  let main_v49 : FVec F S4096x1024 .f32 := shapeCast S4096x1024 main_v48 shapeCasts_S4096x16x64_S4096x1024
  let main_v50 : FVec F S1x16 .f32 := Host.absf main_arg3
  let main_cst_6 : FVec F S_ .f32 := constant S_ .f32 0x7F800000#32
  let main_v51 : FVec F S1x16 .f32 := broadcastInDim S1x16 ![] bcast_S_S1x16 main_cst_6
  let main_v52 : IVec S1x16 1 := cmpf .olt main_v50 main_v51
  let main_v53 : FVec F S4096x1024 .f32 := (extractStridedSlice S4096x1024 ![0, 0] · slices_S4096x1536_S4096x1024_0_0) main_arg1
  let main_v54 : FVec F S4096x1024 .f32 := mulf main_v53 main_v49
  let main_v55 : FVec F S4096x1024 .f32 := Host.absf main_v54
  let main_cst_7 : FVec F S_ .f32 := constant S_ .f32 0x7F800000#32
  let main_v56 : FVec F S4096x1024 .f32 := broadcastInDim S4096x1024 ![] bcast_S_S4096x1024 main_cst_7
  let main_v57 : IVec S4096x1024 1 := cmpf .olt main_v55 main_v56
  (main_v52, main_v57)

def fn_part1 {F : FTy → Type} [FloatOps F] (main_arg1 : FVec F S4096x1536 .f32) (main_arg3 : FVec F S1x16 .f32) (main_arg4 : FVec F S1x1024 .f32) (main_arg5 : FVec F S4096x2048 .f32) (main_v9 : FVec F S4096x1024 .f32) (main_v11 : FVec F S4096x2x512 .f32) (main_v19 : FVec F S4096x2x1 .f32) (main_v20 : FVec F S4096x2x1 .f32) : IVec S1x16 1 × IVec S4096x1024 1 :=
  let main_cst_2 : FVec F S_ .f32 := constant S_ .f32 0xBF000000#32
  let main_v21 : FVec F S4096x2x1 .f32 := broadcastInDim S4096x2x1 ![] bcast_S_S4096x2x1 main_cst_2
  let main_v22 : FVec F S4096x2x1 .f32 := mulf main_v21 main_v20
  let main_v23 : FVec F S4096x2x512 .f32 := broadcastInDim S4096x2x512 ![0, 1, 2] bcast_S4096x2x1_S4096x2x512_0_1_2 main_v19
  let main_v24 : FVec F S4096x2x512 .f32 := mulf main_v11 main_v23
  let main_v25 : FVec F S4096x1024 .f32 := shapeCast S4096x1024 main_v24 shapeCasts_S4096x2x512_S4096x1024
  let main_v26 : FVec F S4096x1024 .f32 := broadcastInDim S4096x1024 ![0, 1] bcast_S1x1024_S4096x1024_0_1 main_arg4
  let main_v27 : FVec F S4096x1024 .f32 := mulf main_v25 main_v26
  let main_v28 : FVec F S4096x1024 .f32 := (extractStridedSlice S4096x1024 ![0, 0] · slices_S4096x2048_S4096x1024_0_0) main_arg5
  let main_v29 : FVec F S4096x1024 .f32 := broadcastInDim S4096x1024 ![0, 1] bcast_S1x1024_S4096x1024_0_1 main_arg4
  let main_v30 : FVec F S4096x1024 .f32 := mulf main_v28 main_v29
  let main_v31 : FVec F S4096x2x512 .f32 := shapeCast S4096x2x512 main_v30 shapeCasts_S4096x1024_S4096x2x512
  let main_v32 : FVec F S4096x2x512 .f32 := mulf main_v11 main_v31
  let main_cst_3 : FVec F S_ .f32 := constant S_ .f32 0x00000000#32
  let main_v33 : FVec F S4096x2 .f32 := (fun x v => Host.reduceAdd x v reducesTo_S4096x2x512_S4096x2_d2 h_S_) main_v32 main_cst_3
  let main_v34 : FVec F S4096x2x1 .f32 := shapeCast S4096x2x1 main_v33 shapeCasts_S4096x2_S4096x2x1
  let main_v35 : FVec F S4096x2x512 .f32 := broadcastInDim S4096x2x512 ![0, 1, 2] bcast_S4096x2x1_S4096x2x512_0_1_2 main_v19
  let main_v36 : FVec F S4096x2x512 .f32 := mulf main_v31 main_v35
  let main_v37 : FVec F S4096x2x1 .f32 := mulf main_v34 main_v22
  let main_cst_4 : FVec F S_ .f32 := constant S_ .f32 0x44000000#32
  let main_v38 : FVec F S4096x2x1 .f32 := broadcastInDim S4096x2x1 ![] bcast_S_S4096x2x1 main_cst_4
  let main_v39 : FVec F S4096x2x1 .f32 := Host.divf main_v37 main_v38
  let main_cst_5 : FVec F S_ .f32 := constant S_ .f32 0x00000000#32
  let main_v40 : FVec F S4096x2 .f32 := (fun x v => Host.reduceAdd x v reducesTo_S4096x2x1_S4096x2_d2 h_S_) main_v39 main_cst_5
  fn_part2 (F := F) main_arg1 main_arg3 main_v9 main_v11 main_v36 main_v40

def fn {F : FTy → Type} [FloatOps F] (main_arg0 : FVec F S4096x1024 .f32) (main_arg1 : FVec F S4096x1536 .f32) (main_arg2 : FVec F S4096x1024 .f32) (main_arg3 : FVec F S1x16 .f32) (main_arg4 : FVec F S1x1024 .f32) (main_arg5 : FVec F S4096x2048 .f32) : IVec S1x16 1 × IVec S4096x1024 1 :=
  let main_v0 : FVec F S4096x1024 .f32 := (extractStridedSlice S4096x1024 ![0, 0] · slices_S4096x1536_S4096x1024_0_0) main_arg1
  let main_v1 : FVec F S4096x16x64 .f32 := shapeCast S4096x16x64 main_arg0 shapeCasts_S4096x1024_S4096x16x64
  let main_v2 : FVec F S4096x16x64 .f32 := shapeCast S4096x16x64 main_v0 shapeCasts_S4096x1024_S4096x16x64
  let main_v3 : FVec F S16x1 .f32 := shapeCast S16x1 main_arg3 shapeCasts_S1x16_S16x1
  let main_v4 : FVec F S1x16x1 .f32 := broadcastInDim S1x16x1 ![1, 2] bcast_S16x1_S1x16x1_1_2 main_v3
  let main_v5 : FVec F S4096x16x64 .f32 := broadcastInDim S4096x16x64 ![0, 1, 2] bcast_S1x16x1_S4096x16x64_0_1_2 main_v4
  let main_v6 : FVec F S4096x16x64 .f32 := mulf main_v2 main_v5
  let main_v7 : FVec F S4096x16x64 .f32 := addf main_v1 main_v6
  let main_v8 : FVec F S4096x1024 .f32 := shapeCast S4096x1024 main_v7 shapeCasts_S4096x16x64_S4096x1024
  let main_v9 : FVec F S4096x1024 .f32 := fn_silu (F := F) main_arg2
  let main_v10 : FVec F S4096x1024 .f32 := mulf main_v8 main_v9
  let main_v11 : FVec F S4096x2x512 .f32 := shapeCast S4096x2x512 main_v10 shapeCasts_S4096x1024_S4096x2x512
  let main_v12 : FVec F S4096x2x512 .f32 := mulf main_v11 main_v11
  let main_cst : FVec F S_ .f32 := constant S_ .f32 0x00000000#32
  let main_v13 : FVec F S4096x2 .f32 := (fun x v => Host.reduceAdd x v reducesTo_S4096x2x512_S4096x2_d2 h_S_) main_v12 main_cst
  let main_v14 : FVec F S4096x2x1 .f32 := broadcastInDim S4096x2x1 ![0, 1] bcast_S4096x2_S4096x2x1_0_1 main_v13
  let main_cst_0 : FVec F S_ .f32 := constant S_ .f32 0x44000000#32
  let main_v15 : FVec F S4096x2x1 .f32 := broadcastInDim S4096x2x1 ![] bcast_S_S4096x2x1 main_cst_0
  let main_v16 : FVec F S4096x2x1 .f32 := Host.divf main_v14 main_v15
  let main_cst_1 : FVec F S_ .f32 := constant S_ .f32 0x358637BD#32
  let main_v17 : FVec F S4096x2x1 .f32 := broadcastInDim S4096x2x1 ![] bcast_S_S4096x2x1 main_cst_1
  let main_v18 : FVec F S4096x2x1 .f32 := addf main_v16 main_v17
  let main_v19 : FVec F S4096x2x1 .f32 := Host.rsqrt main_v18
  let main_v20 : FVec F S4096x2x1 .f32 := Host.divf main_v19 main_v18
  fn_part1 (F := F) main_arg1 main_arg3 main_arg4 main_arg5 main_v9 main_v11 main_v19 main_v20
-- ==== Pre_finite_v_do.lean ====
abbrev S4096x2048 : Shape := ⟨2, ![4096, 2048]⟩
abbrev S256x2048 : Shape := ⟨2, ![256, 2048]⟩
abbrev S_ : Shape := ⟨0, ![]⟩

class Facts : Prop where
  bcast_S_S256x2048 : S_.BroadcastsInDim S256x2048 (![] : Fin 0 → Fin S256x2048.rank)
  bcast_S_S4096x2048 : S_.BroadcastsInDim S4096x2048 (![] : Fin 0 → Fin S4096x2048.rank)

variable [Facts]

def fn {F : FTy → Type} [FloatOps F] (main_arg0 : FVec F S4096x2048 .f32) (main_arg1 : FVec F S256x2048 .f32) (main_arg2 : FVec F S256x2048 .f32) (main_arg3 : FVec F S4096x2048 .f32) : IVec S256x2048 1 × IVec S4096x2048 1 :=
  let main_v0 : FVec F S256x2048 .f32 := Host.absf main_arg2
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_v3 : FVec F S4096x2048 .f32 := Host.absf main_arg3
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  (main_v2, main_v5)
-- ==== Pre_finite_y.lean ====
abbrev S4096x1024 : Shape := ⟨2, ![4096, 1024]⟩
abbrev S16x64 : Shape := ⟨2, ![16, 64]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  shapeCasts_S16x64_S1x1024 : S16x64.ShapeCasts S1x1024
  bcast_S1x1024_S4096x1024_0_1 : S1x1024.BroadcastsInDim S4096x1024 (![0, 1] : Fin 2 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S16x64 .f32) (main_arg6 : FVec F S1x1024 .f32) (main_arg7 : FVec F S1x1024 .f32) : IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := mulf main_arg1 main_arg2
  let main_v4 : FVec F S1x1024 .f32 := shapeCast S1x1024 main_arg5 shapeCasts_S16x64_S1x1024
  let main_v5 : FVec F S4096x1024 .f32 := broadcastInDim S4096x1024 ![0, 1] bcast_S1x1024_S4096x1024_0_1 main_v4
  let main_v6 : FVec F S4096x1024 .f32 := mulf main_v3 main_v5
  let main_v7 : FVec F S4096x1024 .f32 := Host.absf main_v6
  let main_cst_0 : FVec F S_ .f32 := constant S_ .f32 0x7F800000#32
  let main_v8 : FVec F S4096x1024 .f32 := broadcastInDim S4096x1024 ![] bcast_S_S4096x1024 main_cst_0
  let main_v9 : IVec S4096x1024 1 := cmpf .olt main_v7 main_v8
  (main_v2, main_v9)
-- ==== Kernel.lean ====
abbrev S4096x2048 : Shape := ⟨2, ![4096, 2048]⟩
abbrev S256x2048 : Shape := ⟨2, ![256, 2048]⟩
abbrev S256x512 : Shape := ⟨2, ![256, 512]⟩
abbrev S256x256 : Shape := ⟨2, ![256, 256]⟩
abbrev S256 : Shape := ⟨1, ![256]⟩
abbrev S256x1 : Shape := ⟨2, ![256, 1]⟩
abbrev S256x1536 : Shape := ⟨2, ![256, 1536]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S256x2048, .f32⟩
  | .hbm, ⟨3, _⟩ => ⟨S4096x2048, .f32⟩
  | .hbm, ⟨4, _⟩ => ⟨S4096x2048, .bf16⟩
  | .hbm, ⟨5, _⟩ => ⟨S256x2048, .f32⟩
  | .hbm, ⟨6, _⟩ => ⟨S256x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v311 : BitVec 1 := Scalar.cmpi .eq arg0 c0_i32
  let v312 : BitVec 32 := Scalar.extui v311
  let c0_i32_88 : BitVec 32 := 0#32
  let v313 : BitVec 1 := Scalar.cmpi .ne v312 c0_i32_88
  v313

def k0_cond2 (i : grid0.Coords) : BitVec 1 :=
  let arg0 : BitVec 32 := BitVec.ofNat 32 (i 0).val
  let c0_i32 : BitVec 32 := 0#32
  let v311 : BitVec 1 := Scalar.cmpi .eq arg0 c0_i32
  let v_true : BitVec 1 := 1#1
  let v314 : BitVec 1 := Scalar.xori v311 v_true
  let v315 : BitVec 32 := Scalar.extui v314
  let c0_i32_89 : BitVec 32 := 0#32
  let v316 : BitVec 1 := Scalar.cmpi .ne v315 c0_i32_89
  v316

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x2048 : Shape := ⟨2, ![4096, 2048]⟩
abbrev S256x2048 : Shape := ⟨2, ![256, 2048]⟩
abbrev S1x4096x4x512 : Shape := ⟨4, ![1, 4096, 4, 512]⟩
abbrev S1x256x4x512 : Shape := ⟨4, ![1, 256, 4, 512]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x512x4096 : Shape := ⟨4, ![1, 4, 512, 4096]⟩
abbrev S1x4x512x256 : Shape := ⟨4, ![1, 4, 512, 256]⟩
abbrev S4x4096 : Shape := ⟨2, ![4, 4096]⟩
abbrev S1x4x256x512 : Shape := ⟨4, ![1, 4, 256, 512]⟩
abbrev S1x4x4096x512 : Shape := ⟨4, ![1, 4, 4096, 512]⟩

abbrev nBuf : Space → Nat
  | .hbm => 83
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S256x2048, .f32⟩
  | .hbm, ⟨2, _⟩ => ⟨S256x2048, .f32⟩
  | .hbm, ⟨3, _⟩ => ⟨S4096x2048, .f32⟩
  | .hbm, ⟨4, _⟩ => ⟨S1x4096x4x512, .f32⟩
  | .hbm, ⟨5, _⟩ => ⟨S1x256x4x512, .f32⟩
  | .hbm, ⟨6, _⟩ => ⟨S1x256x4x512, .f32⟩
  | .hbm, ⟨7, _⟩ => ⟨S1x4x4096x256, .f32⟩
  | .hbm, ⟨8, _⟩ => ⟨S_, .f32⟩
  | .hbm, ⟨9, _⟩ => ⟨S1x4x4096x256, .f32⟩
  | .hbm, ⟨10, _⟩ => ⟨S1x4x4096x256, .f32⟩
  | .hbm, ⟨11, _⟩ => ⟨S_, .f32⟩
  | .hbm, ⟨12, _⟩ => ⟨S1x4x4096, .f32⟩
  | .hbm, ⟨13, _⟩ => ⟨S1x4x4096x1, .f32⟩
  | .hbm, ⟨14, _⟩ => ⟨S1x4x4096x256, .f32⟩
  | .hbm, ⟨15, _⟩ => ⟨S1x4x4096x256, .i1⟩
  | .hbm, ⟨16, _⟩ => ⟨S1x4x4096x256, .f32⟩
  | .hbm, ⟨17, _⟩ => ⟨S_, .f32⟩
  | .hbm, ⟨18, _⟩ => ⟨S1x4x4096, .f32⟩
  | .hbm, ⟨19, _⟩ => ⟨S_, .f32⟩
  | .hbm, ⟨20, _⟩ => ⟨S1x4x4096, .f32⟩
  | .hbm, ⟨21, _⟩ => ⟨S1x4x4096, .f32⟩
  | .hbm, ⟨22, _⟩ => ⟨S_, .f32⟩
  | .hbm, ⟨23, _⟩ => ⟨S1x4x4096, .f32⟩
  | .hbm, ⟨24, _⟩ => ⟨S1x4x4096, .i1⟩
  | .hbm, ⟨25, _⟩ => ⟨S_, .f32⟩
  | .hbm, ⟨26, _⟩ => ⟨S1x4x4096, .f32⟩
  | .hbm, ⟨27, _⟩ => ⟨S1x4x4096, .i1⟩
  | .hbm, ⟨28, _⟩ => ⟨S_, .f32⟩
  | .hbm, ⟨29, _⟩ => ⟨S1x4x4096, .f32⟩
  | .hbm, ⟨30, _⟩ => ⟨S_, .f32⟩
  | .hbm, ⟨31, _⟩ => ⟨S1x4x4096, .f32⟩
  | .hbm, ⟨32, _⟩ => ⟨S_, .f32⟩
  | .hbm, ⟨33, _⟩ => ⟨S1x4x4096, .f32⟩
  | .hbm, ⟨34, _⟩ => ⟨S1x4x4096, .f32⟩
  | .hbm, ⟨35, _⟩ => ⟨S1x4x4096, .f32⟩
  | .hbm, ⟨36, _⟩ => ⟨S1x4x4096x1, .f32⟩
  | .hbm, ⟨37, _⟩ => ⟨S1x4x4096x256, .f32⟩
  | .hbm, ⟨38, _⟩ => ⟨S1x4x4096x256, .f32⟩
  | .hbm, ⟨39, _⟩ => ⟨S1x4x4096x256, .f32⟩
  | .hbm, ⟨40, _⟩ => ⟨S_, .f32⟩
  | .hbm, ⟨41, _⟩ => ⟨S1x4x4096, .f32⟩
  | .hbm, ⟨42, _⟩ => ⟨S1x4x4096x1, .f32⟩
  | .hbm, ⟨43, _⟩ => ⟨S1x4x4096x256, .f32⟩
  | .hbm, ⟨44, _⟩ => ⟨S1x4x4096x256, .f32⟩
  | .hbm, ⟨45, _⟩ => ⟨S1x4x4096x1, .f32⟩
  | .hbm, ⟨46, _⟩ => ⟨S_, .f32⟩
  | .hbm, ⟨47, _⟩ => ⟨S1x4x4096x1, .f32⟩
  | .hbm, ⟨48, _⟩ => ⟨S1x4x4096x1, .f32⟩
  | .hbm, ⟨49, _⟩ => ⟨S1x4x512x4096, .f32⟩
  | .hbm, ⟨50, _⟩ => ⟨S1x4096x4x512, .f32⟩
  | .hbm, ⟨51, _⟩ => ⟨S4096x2048, .f32⟩
  | .hbm, ⟨52, _⟩ => ⟨S1x4096x4x512, .f32⟩
  | .hbm, ⟨53, _⟩ => ⟨S1x4x512x4096, .f32⟩
  | .hbm, ⟨54, _⟩ => ⟨S1x4x4096x256, .f32⟩
  | .hbm, ⟨55, _⟩ => ⟨S1x4x512x256, .f32⟩
  | .hbm, ⟨56, _⟩ => ⟨S1x256x4x512, .f32⟩
  | .hbm, ⟨57, _⟩ => ⟨S1x4x4096x256, .f32⟩
  | .hbm, ⟨58, _⟩ => ⟨S1x4x4096x256, .f32⟩
  | .hbm, ⟨59, _⟩ => ⟨S1x4x4096x256, .f32⟩
  | .hbm, ⟨60, _⟩ => ⟨S_, .f32⟩
  | .hbm, ⟨61, _⟩ => ⟨S1x4x4096, .f32⟩
  | .hbm, ⟨62, _⟩ => ⟨S1x4x4096x1, .f32⟩
  | .hbm, ⟨63, _⟩ => ⟨S1x4x4096x1, .f32⟩
  | .hbm, ⟨64, _⟩ => ⟨S1x4x4096x256, .f32⟩
  | .hbm, ⟨65, _⟩ => ⟨S1x4x4096x256, .f32⟩
  | .hbm, ⟨66, _⟩ => ⟨S_, .f32⟩
  | .hbm, ⟨67, _⟩ => ⟨S4x4096, .f32⟩
  | .hbm, ⟨68, _⟩ => ⟨S1x4x4096, .f32⟩
  | .hbm, ⟨69, _⟩ => ⟨S1x4x4096x256, .f32⟩
  | .hbm, ⟨70, _⟩ => ⟨S1x4x4096x256, .f32⟩
  | .hbm, ⟨71, _⟩ => ⟨S1x4x4096x256, .f32⟩
  | .hbm, ⟨72, _⟩ => ⟨S_, .f32⟩
  | .hbm, ⟨73, _⟩ => ⟨S1x4x4096x256, .f32⟩
  | .hbm, ⟨74, _⟩ => ⟨S1x4x4096x256, .f32⟩
  | .hbm, ⟨75, _⟩ => ⟨S1x4x256x512, .f32⟩
  | .hbm, ⟨76, _⟩ => ⟨S1x256x4x512, .f32⟩
  | .hbm, ⟨77, _⟩ => ⟨S1x4x4096x512, .f32⟩
  | .hbm, ⟨78, _⟩ => ⟨S1x4096x4x512, .f32⟩
  | .hbm, ⟨79, _⟩ => ⟨S256x2048, .f32⟩
  | .hbm, ⟨80, _⟩ => ⟨S256x2048, .f32⟩
  | .hbm, ⟨81, _⟩ => ⟨S4096x2048, .f32⟩
  | .hbm, ⟨82, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩

abbrev nD : Nat := 1
abbrev τ : Topo := Topo.v7x

variable {F : FTy → Type} [FloatOps F]
-- ==== Kernel2.lean ====
abbrev S4096x2048 : Shape := ⟨2, ![4096, 2048]⟩
abbrev S4x2048x2048 : Shape := ⟨3, ![4, 2048, 2048]⟩
abbrev S8192x2048 : Shape := ⟨2, ![8192, 2048]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S128x8192 : Shape := ⟨2, ![128, 8192]⟩
abbrev S4096x1024 : Shape := ⟨2, ![4096, 1024]⟩
abbrev S1x1024x1024 : Shape := ⟨3, ![1, 1024, 1024]⟩

abbrev nBuf : Space → Nat
  | .hbm => 10
  | .vmem => 38
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S8192x2048, .bf16⟩
  | .hbm, ⟨3, _⟩ => ⟨S4096x2048, .bf16⟩
  | .hbm, ⟨4, _⟩ => ⟨S4096x8192, .bf16⟩
  | .hbm, ⟨5, _⟩ => ⟨S4096x8192, .bf16⟩
  | .hbm, ⟨6, _⟩ => ⟨S8192x2048, .f32⟩
  | .hbm, ⟨7, _⟩ => ⟨S4096x8192, .bf16⟩
  | .hbm, ⟨8, _⟩ => ⟨S4096x8192, .bf16⟩
  | .hbm, ⟨9, _⟩ => ⟨S4x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S128x8192, .bf16⟩
  | .local _ .vmem, ⟨8, _⟩ => ⟨S128x8192, .bf16⟩
  | .local _ .vmem, ⟨9, _⟩ => ⟨S128x8192, .bf16⟩
  | .local _ .vmem, ⟨10, _⟩ => ⟨S128x8192, .bf16⟩
  | .local _ .vmem, ⟨11, _⟩ => ⟨S4096x1024, .bf16⟩
  | .local _ .vmem, ⟨12, _⟩ => ⟨S4096x1024, .bf16⟩
  | .local _ .vmem, ⟨13, _⟩ => ⟨S4096x1024, .bf16⟩
  | .local _ .vmem, ⟨14, _⟩ => ⟨S4096x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | .local _ .vmem, ⟨18, _⟩ => ⟨S1024x2048, .bf16⟩
  | .local _ .vmem, ⟨19, _⟩ => ⟨S1024x2048, .bf16⟩
  | .local _ .vmem, ⟨20, _⟩ => ⟨S1024x2048, .bf16⟩
  | .local _ .vmem, ⟨21, _⟩ => ⟨S1024x2048, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1024, .f32⟩
  | .local _ .vmem, ⟨25, _⟩ => ⟨S128x8192, .bf16⟩
  | .local _ .vmem, ⟨26, _⟩ => ⟨S128x8192, .bf16⟩
  | .local _ .vmem, ⟨27, _⟩ => ⟨S128x8192, .bf16⟩
  | .local _ .vmem, ⟨28, _⟩ => ⟨S128x8192, .bf16⟩
  | .local _ .vmem, ⟨29, _⟩ => ⟨S128x8192, .bf16⟩
  | .local _ .vmem, ⟨30, _⟩ => ⟨S128x8192, .bf16⟩
  | .local _ .vmem, ⟨31, _⟩ => ⟨S4096x1024, .bf16⟩
  | .local _ .vmem, ⟨32, _⟩ => ⟨S4096x1024, .bf16⟩
  | .local _ .vmem, ⟨33, _⟩ => ⟨S4096x1024, .bf16⟩
  | .local _ .vmem, ⟨34, _⟩ => ⟨S4096x1024, .bf16⟩
  | .local _ .vmem, ⟨35, _⟩ => ⟨S1x1024x1024, .f32⟩
  | .local _ .vmem, ⟨36, _⟩ => ⟨S1x1024x1024, .f32⟩
  | .local _ .vmem, ⟨37, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_scratch0 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_scratch0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem1_1 : DmaSem sig := 31
abbrev cc5_sem2_0 : DmaSem sig := 32
abbrev cc5_sem2_1 : DmaSem sig := 33

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x8192 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![8, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x8192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S128x8192 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S128x8192 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨3, ![2, 8, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage5_0 : Fin 2 → Memref sig .tc .vmem S4096x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference2Ideal.lean ====
abbrev S4096x2048 : Shape := ⟨2, ![4096, 2048]⟩
abbrev S4x2048x2048 : Shape := ⟨3, ![4, 2048, 2048]⟩
abbrev S8192x2048 : Shape := ⟨2, ![8192, 2048]⟩
abbrev S2048x4x2048 : Shape := ⟨3, ![2048, 4, 2048]⟩
abbrev S2048x8192 : Shape := ⟨2, ![2048, 8192]⟩
abbrev S4096x8192 : Shape := ⟨2, ![4096, 8192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x2048, .bf16⟩
  | .hbm, ⟨2, _⟩ => ⟨S8192x2048, .bf16⟩
  | .hbm, ⟨3, _⟩ => ⟨S4096x2048, .bf16⟩
  | .hbm, ⟨4, _⟩ => ⟨S4096x2048, .f32⟩
  | .hbm, ⟨5, _⟩ => ⟨S4x2048x2048, .f32⟩
  | .hbm, ⟨6, _⟩ => ⟨S8192x2048, .f32⟩
  | .hbm, ⟨7, _⟩ => ⟨S4096x2048, .f32⟩
  | .hbm, ⟨8, _⟩ => ⟨S2048x4x2048, .f32⟩
  | .hbm, ⟨9, _⟩ => ⟨S2048x8192, .f32⟩
  | .hbm, ⟨10, _⟩ => ⟨S4096x8192, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .i1⟩
  | .hbm, ⟨17, _⟩ => ⟨S_, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x2048, .f32⟩
  | .hbm, ⟨24, _⟩ => ⟨S2048x8192, .f32⟩
  | .hbm, ⟨25, _⟩ => ⟨S8192x2048, .f32⟩
  | .hbm, ⟨26, _⟩ => ⟨S4096x8192, .f32⟩
  | .hbm, ⟨27, _⟩ => ⟨S4096x8192, .f32⟩
  | .hbm, ⟨28, _⟩ => ⟨S_, .f32⟩
  | .hbm, ⟨29, _⟩ => ⟨S4096x8192, .f32⟩
  | .hbm, ⟨30, _⟩ => ⟨S4096x8192, .f32⟩
  | .hbm, ⟨31, _⟩ => ⟨S8192x2048, .f32⟩
  | .hbm, ⟨32, _⟩ => ⟨S2048x8192, .f32⟩
  | .hbm, ⟨33, _⟩ => ⟨S4096x2048, .f32⟩
  | .hbm, ⟨34, _⟩ => ⟨S2048x4x2048, .f32⟩
  | .hbm, ⟨35, _⟩ => ⟨S4x2048x2048, .f32⟩
  | .hbm, ⟨36, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel3.lean ====
abbrev S4096x8192 : Shape := ⟨2, ![4096, 8192]⟩
abbrev S4x2048x2048 : Shape := ⟨3, ![4, 2048, 2048]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x8192 : Shape := ⟨2, ![4096, 8192]⟩
abbrev S4x2048x2048 : Shape := ⟨3, ![4, 2048, 2048]⟩
abbrev S_ : Shape := ⟨0, ![]⟩
abbrev S4096x2048 : Shape := ⟨2, ![4096, 2048]⟩
abbrev S2048x4x2048 : Shape := ⟨3, ![2048, 4, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4x2048x2048, .f32⟩
  | .hbm, ⟨3, _⟩ => ⟨S_, .f32⟩
  | .hbm, ⟨4, _⟩ => ⟨S4096x2048, .f32⟩
  | .hbm, ⟨5, _⟩ => ⟨S2048x4x2048, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S1524x2048 : Shape := ⟨2, ![1524, 2048]⟩
abbrev S512x2048 : Shape := ⟨2, ![512, 2048]⟩
abbrev S2048x2048 : Shape := ⟨2, ![2048, 2048]⟩
abbrev S96x256 : Shape := ⟨2, ![96, 256]⟩
abbrev S256x256 : Shape := ⟨2, ![256, 256]⟩
abbrev S200x128 : Shape := ⟨2, ![200, 128]⟩
abbrev S1524x128 : Shape := ⟨2, ![1524, 128]⟩
abbrev S128x2048 : Shape := ⟨2, ![128, 2048]⟩

abbrev nBuf : Space → Nat
  | .hbm => 48
  | .vmem => 72
  | .smem => 0
  | _ => 0

abbrev bufTy : (tb : Table) → Fin (tcTables nBuf tb) → BufTy
  | .hbm, ⟨0, _⟩ => ⟨S1524x2048, .f32⟩
  | .hbm, ⟨1, _⟩ => ⟨S1524x2048, .f32⟩
  | .hbm, ⟨2, _⟩ => ⟨S1524x2048, .f32⟩
  | .hbm, ⟨3, _⟩ => ⟨S1524x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S96x256, .f32⟩
  | .hbm, ⟨13, _⟩ => ⟨S96x256, .f32⟩
  | .hbm, ⟨14, _⟩ => ⟨S96x256, .f32⟩
  | .hbm, ⟨15, _⟩ => ⟨S96x256, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S200x128, .f32⟩
  | .hbm, ⟨21, _⟩ => ⟨S200x128, .f32⟩
  | .hbm, ⟨22, _⟩ => ⟨S200x128, .f32⟩
  | .hbm, ⟨23, _⟩ => ⟨S200x128, .f32⟩
  | .hbm, ⟨24, _⟩ => ⟨S1524x2048, .f32⟩
  | .hbm, ⟨25, _⟩ => ⟨S1524x2048, .f32⟩
  | .hbm, ⟨26, _⟩ => ⟨S1524x2048, .f32⟩
  | .hbm, ⟨27, _⟩ => ⟨S1524x2048, .f32⟩
  | .hbm, ⟨28, _⟩ => ⟨S512x2048, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S96x256, .f32⟩
  | .hbm, ⟨37, _⟩ => ⟨S96x256, .f32⟩
  | .hbm, ⟨38, _⟩ => ⟨S96x256, .f32⟩
  | .hbm, ⟨39, _⟩ => ⟨S96x256, .f32⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S200x128, .f32⟩
  | .hbm, ⟨45, _⟩ => ⟨S200x128, .f32⟩
  | .hbm, ⟨46, _⟩ => ⟨S200x128, .f32⟩
  | .hbm, ⟨47, _⟩ => ⟨S200x128, .f32⟩
  | .local _ .vmem, ⟨0, _⟩ => ⟨S1524x128, .f32⟩
  | .local _ .vmem, ⟨1, _⟩ => ⟨S1524x128, .f32⟩
  | .local _ .vmem, ⟨2, _⟩ => ⟨S1524x128, .f32⟩
  | .local _ .vmem, ⟨3, _⟩ => ⟨S1524x128, .f32⟩
  | .local _ .vmem, ⟨4, _⟩ => ⟨S1524x128, .f32⟩
  | .local _ .vmem, ⟨5, _⟩ => ⟨S1524x128, .f32⟩
  | .local _ .vmem, ⟨6, _⟩ => ⟨S1524x128, .f32⟩
  | .local _ .vmem, ⟨7, _⟩ => ⟨S1524x128, .f32⟩
  | .local _ .vmem, ⟨8, _⟩ => ⟨S1524x128, .f32⟩
  | .local _ .vmem, ⟨9, _⟩ => ⟨S1524x128, .f32⟩
  | .local _ .vmem, ⟨10, _⟩ => ⟨S1524x128, .f32⟩
  | .local _ .vmem, ⟨11, _⟩ => ⟨S1524x128, .f32⟩
  | .local _ .vmem, ⟨12, _⟩ => ⟨S1524x128, .f32⟩
  | .local _ .vmem, ⟨13, _⟩ => ⟨S1524x128, .f32⟩
  | .local _ .vmem, ⟨14, _⟩ => ⟨S1524x128, .f32⟩
  | .local _ .vmem, ⟨15, _⟩ => ⟨S1524x128, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .vmem, ⟨20, _⟩ => ⟨S128x2048, .f32⟩
  | .local _ .vmem, ⟨21, _⟩ => ⟨S128x2048, .f32⟩
  | .local _ .vmem, ⟨22, _⟩ => ⟨S128x2048, .f32⟩
  | .local _ .vmem, ⟨23, _⟩ => ⟨S128x2048, .f32⟩
  | .local _ .vmem, ⟨24, _⟩ => ⟨S128x2048, .f32⟩
  | .local _ .vmem, ⟨25, _⟩ => ⟨S128x2048, .f32⟩
  | .local _ .vmem, ⟨26, _⟩ => ⟨S128x2048, .f32⟩
  | .local _ .vmem, ⟨27, _⟩ => ⟨S128x2048, .f32⟩
  | .local _ .vmem, ⟨28, _⟩ => ⟨S128x2048, .f32⟩
  | .local _ .vmem, ⟨29, _⟩ => ⟨S128x2048, .f32⟩
  | .local _ .vmem, ⟨30, _⟩ => ⟨S128x2048, .f32⟩
  | .local _ .vmem, ⟨31, _⟩ => ⟨S128x2048, .f32⟩
  | .local _ .vmem, ⟨32, _⟩ => ⟨S128x2048, .f32⟩
  | .local _ .vmem, ⟨33, _⟩ => ⟨S128x2048, .f32⟩
  | .local _ .vmem, ⟨34, _⟩ => ⟨S128x2048, .f32⟩
  | .local _ .vmem, ⟨35, _⟩ => ⟨S128x2048, .f32⟩
  | .local _ .vmem, ⟨36, _⟩ => ⟨S128x2048, .f32⟩
  | .local _ .vmem, ⟨37, _⟩ => ⟨S128x2048, .f32⟩
  | .local _ .vmem, ⟨38, _⟩ => ⟨S128x2048, .f32⟩
  | .local _ .vmem, ⟨39, _⟩ => ⟨S128x2048, .f32⟩
  | .local _ .vmem, ⟨40, _⟩ => ⟨S128x2048, .f32⟩
  | .local _ .vmem, ⟨41, _⟩ => ⟨S128x2048, .f32⟩
  | .local _ .vmem, ⟨42, _⟩ => ⟨S128x2048, .f32⟩
  | .local _ .vmem, ⟨43, _⟩ => ⟨S128x2048, .f32⟩
  | .local _ .vmem, ⟨44, _⟩ => ⟨S128x2048, .f32⟩
  | .local _ .vmem, ⟨45, _⟩ => ⟨S128x2048, .f32⟩
  | .local _ .vmem, ⟨46, _⟩ => ⟨S128x2048, .f32⟩
  | .local _ .vmem, ⟨47, _⟩ => ⟨S128x2048, .f32⟩
  | .local _ .vmem, ⟨48, _⟩ => ⟨S96x256, .f32⟩
  | .local _ .vmem, ⟨49, _⟩ => ⟨S96x256, .f32⟩
  | .local _ .vmem, ⟨50, _⟩ => ⟨S96x256, .f32⟩
  | .local _ .vmem, ⟨51, _⟩ => ⟨S96x256, .f32⟩
  | .local _ .vmem, ⟨52, _⟩ => ⟨S96x256, .f32⟩
  | .local _ .vmem, ⟨53, _⟩ => ⟨S96x256, .f32⟩
  | .local _ .vmem, ⟨54, _⟩ => ⟨S96x256, .f32⟩
  | .local _ .vmem, ⟨55, _⟩ => ⟨S96x256, .f32⟩
  | .local _ .vmem, ⟨56, _⟩ => ⟨S256x256, .f32⟩
  | .local _ .vmem, ⟨57, _⟩ => ⟨S256x256, .f32⟩
  | .local _ .vmem, ⟨58, _⟩ => ⟨S256x256, .f32⟩
  | .local _ .vmem, ⟨59, _⟩ => ⟨S256x256, .f32⟩
  | .local _ .vmem, ⟨60, _⟩ => ⟨S256x256, .f32⟩
  | .local _ .vmem, ⟨61, _⟩ => ⟨S256x256, .f32⟩
  | .local _ .vmem, ⟨62, _⟩ => ⟨S256x256, .f32⟩
  | .local _ .vmem, ⟨63, _⟩ => ⟨S256x256, .f32⟩
  | .local _ .vmem, ⟨64, _⟩ => ⟨S200x128, .f32⟩
  | .local _ .vmem, ⟨65, _⟩ => ⟨S200x128, .f32⟩
  | .local _ .vmem, ⟨66, _⟩ => ⟨S200x128, .f32⟩
  | .local _ .vmem, ⟨67, _⟩ => ⟨S200x128, .f32⟩
  | .local _ .vmem, ⟨68, _⟩ => ⟨S200x128, .f32⟩
  | .local _ .vmem, ⟨69, _⟩ => ⟨S200x128, .f32⟩
  | .local _ .vmem, ⟨70, _⟩ => ⟨S200x128, .f32⟩
  | .local _ .vmem, ⟨71, _⟩ => ⟨S200x128, .f32⟩
  | _, _ => ⟨S1524x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v1_0 : Ref sig .tc := ⟨.hbm, 28, rfl⟩
abbrev main_v1_1 : Ref sig .tc := ⟨.hbm, 29, rfl⟩
abbrev main_v1_2 : Ref sig .tc := ⟨.hbm, 30, rfl⟩
abbrev main_v1_3 : Ref sig .tc := ⟨.hbm, 31, rfl⟩
abbrev main_v2_0 : Ref sig .tc := ⟨.hbm, 32, rfl⟩
abbrev main_v2_1 : Ref sig .tc := ⟨.hbm, 33, rfl⟩
abbrev main_v2_2 : Ref sig .tc := ⟨.hbm, 34, rfl⟩
abbrev main_v2_3 : Ref sig .tc := ⟨.hbm, 35, rfl⟩
abbrev main_v3_0 : Ref sig .tc := ⟨.hbm, 36, rfl⟩
abbrev main_v3_1 : Ref sig .tc := ⟨.hbm, 37, rfl⟩
abbrev main_v3_2 : Ref sig .tc := ⟨.hbm, 38, rfl⟩
abbrev main_v3_3 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v4_3 : Ref sig .tc := ⟨.hbm, 43, rfl⟩
abbrev main_v5_0 : Ref sig .tc := ⟨.hbm, 44, rfl⟩
abbrev main_v5_1 : Ref sig .tc := ⟨.hbm, 45, rfl⟩
abbrev main_v5_2 : Ref sig .tc := ⟨.hbm, 46, rfl⟩
abbrev main_v5_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc4_stg0_0 : Ref sig .tc := ⟨.vmem, 56, rfl⟩
abbrev cc4_stg1_0 : Ref sig .tc := ⟨.vmem, 57, rfl⟩
abbrev cc4_stg2_0 : Ref sig .tc := ⟨.vmem, 58, rfl⟩
abbrev cc4_stg3_0 : Ref sig .tc := ⟨.vmem, 59, rfl⟩
abbrev cc4_stg4_0 : Ref sig .tc := ⟨.vmem, 60, rfl⟩
abbrev cc4_stg5_0 : Ref sig .tc := ⟨.vmem, 61, rfl⟩
abbrev cc4_stg6_0 : Ref sig .tc := ⟨.vmem, 62, rfl⟩
abbrev cc4_stg7_0 : Ref sig .tc := ⟨.vmem, 63, rfl⟩
abbrev cc5_stg0_0 : Ref sig .tc := ⟨.vmem, 64, rfl⟩
abbrev cc5_stg1_0 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg6_0 : Ref sig .tc := ⟨.vmem, 70, rfl⟩
abbrev cc5_stg7_0 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem1_0 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc4_sem0_0 : DmaSem sig := 56
abbrev cc4_sem1_0 : DmaSem sig := 57
abbrev cc4_sem2_0 : DmaSem sig := 58
abbrev cc4_sem3_0 : DmaSem sig := 59
abbrev cc4_sem4_0 : DmaSem sig := 60
abbrev cc4_sem5_0 : DmaSem sig := 61
abbrev cc4_sem6_0 : DmaSem sig := 62
abbrev cc4_sem7_0 : DmaSem sig := 63
abbrev cc5_sem0_0 : DmaSem sig := 64
abbrev cc5_sem1_0 : DmaSem sig := 65
abbrev cc5_sem2_0 : DmaSem sig := 66
abbrev cc5_sem3_0 : DmaSem sig := 67
abbrev cc5_sem4_0 : DmaSem sig := 68
abbrev cc5_sem5_0 : DmaSem sig := 69
abbrev cc5_sem6_0 : DmaSem sig := 70
abbrev cc5_sem7_0 : DmaSem sig := 71

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1524x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1524x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1524x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1524x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1524x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1524x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1524x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1524x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![4, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S128x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S128x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![16, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S128x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S128x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S128x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S128x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S128x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S128x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S128x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S96x256 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S96x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S96x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S96x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S96x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev stage3_5 : Fin 1 → Memref sig .tc .vmem S96x256 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true, true]

abbrev stage3_6 : Fin 1 → Memref sig .tc .vmem S96x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true, true]

abbrev stage3_7 : Fin 1 → Memref sig .tc .vmem S96x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S256x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true, true]

abbrev stage4_2 : Fin 1 → Memref sig .tc .vmem S256x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, true]

abbrev stage4_4 : Fin 1 → Memref sig .tc .vmem S256x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true, true]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true, true]

abbrev stage4_6 : Fin 1 → Memref sig .tc .vmem S256x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true, true]

abbrev stage4_7 : Fin 1 → Memref sig .tc .vmem S256x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S200x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, true]

abbrev stage5_1 : Fin 1 → Memref sig .tc .vmem S200x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true, true]

abbrev stage5_2 : Fin 1 → Memref sig .tc .vmem S200x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev stage5_3 : Fin 1 → Memref sig .tc .vmem S200x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true, true]

abbrev stage5_4 : Fin 1 → Memref sig .tc .vmem S200x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true, true]

abbrev stage5_5 : Fin 1 → Memref sig .tc .vmem S200x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true, true]

abbrev stage5_6 : Fin 1 → Memref sig .tc .vmem S200x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true, true]

abbrev stage5_7 : Fin 1 → Memref sig .tc .vmem S200x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true, true]
-- ==== Reference4Ideal.lean ====
abbrev S1524x2048 : Shape := ⟨2, ![1524, 2048]⟩
abbrev S512x2048 : Shape := ⟨2, ![512, 2048]⟩
abbrev S2048x2048 : Shape := ⟨2, ![2048, 2048]⟩
abbrev S96x256 : Shape := ⟨2, ![96, 256]⟩
abbrev S256x256 : Shape := ⟨2, ![256, 256]⟩
abbrev S200x128 : Shape := ⟨2, ![200, 128]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1524x2048, .f32⟩
  | 1 => ⟨S1524x2048, .f32⟩
  | 2 => ⟨S1524x2048, .f32⟩
  | 3 => ⟨S1524x2048, .f32⟩
  | 4 => ⟨S512x2048, .f32⟩
  | 5 => ⟨S512x2048, .f32⟩
  | 6 => ⟨S512x2048, .f32⟩
  | 7 => ⟨S512x2048, .f32⟩
  | 8 => ⟨S2048x2048, .f32⟩
  | 9 => ⟨S2048x2048, .f32⟩
  | 10 => ⟨S2048x2048, .f32⟩
  | 11 => ⟨S2048x2048, .f32⟩
  | 12 => ⟨S96x256, .f32⟩
  | 13 => ⟨S96x256, .f32⟩
  | 14 => ⟨S96x256, .f32⟩
  | 15 => ⟨S96x256, .f32⟩
  | 16 => ⟨S256x256, .f32⟩
  | 17 => ⟨S256x256, .f32⟩
  | 18 => ⟨S256x256, .f32⟩
  | 19 => ⟨S256x256, .f32⟩
  | 20 => ⟨S200x128, .f32⟩
  | 21 => ⟨S200x128, .f32⟩
  | 22 => ⟨S200x128, .f32⟩
  | 23 => ⟨S200x128, .f32⟩
  | 24 => ⟨S_, .f32⟩
  | 25 => ⟨S1524x2048, .f32⟩
  | 26 => ⟨S1524x2048, .f32⟩
  | 27 => ⟨S_, .f32⟩
  | 28 => ⟨S1524x2048, .f32⟩
  | 29 => ⟨S1524x2048, .f32⟩
  | 30 => ⟨S1524x2048, .f32⟩
  | 31 => ⟨S_, .f32⟩
  | 32 => ⟨S1524x2048, .f32⟩
  | 33 => ⟨S1524x2048, .f32⟩
  | 34 => ⟨S1524x2048, .f32⟩
  | 35 => ⟨S_, .f32⟩
  | 36 => ⟨S1524x2048, .f32⟩
  | 37 => ⟨S1524x2048, .f32⟩
  | 38 => ⟨S1524x2048, .f32⟩
  | 39 => ⟨S_, .f32⟩
  | 40 => ⟨S1524x2048, .f32⟩
  | 41 => ⟨S1524x2048, .f32⟩
  | 42 => ⟨S_, .f32⟩
  | 43 => ⟨S1524x2048, .f32⟩
  | 44 => ⟨S1524x2048, .f32⟩
  | 45 => ⟨S1524x2048, .f32⟩
  | 46 => ⟨S_, .f32⟩
  | 47 => ⟨S1524x2048, .f32⟩
  | 48 => ⟨S1524x2048, .f32⟩
  | 49 => ⟨S1524x2048, .f32⟩
  | 50 => ⟨S_, .f32⟩
  | 51 => ⟨S1524x2048, .f32⟩
  | 52 => ⟨S1524x2048, .f32⟩
  | 53 => ⟨S1524x2048, .f32⟩
  | 54 => ⟨S_, .f32⟩
  | 55 => ⟨S1524x2048, .f32⟩
  | 56 => ⟨S1524x2048, .f32⟩
  | 57 => ⟨S_, .f32⟩
  | 58 => ⟨S512x2048, .f32⟩
  | 59 => ⟨S512x2048, .f32⟩
  | 60 => ⟨S_, .f32⟩
  | 61 => ⟨S512x2048, .f32⟩
  | 62 => ⟨S512x2048, .f32⟩
  | 63 => ⟨S512x2048, .f32⟩
  | 64 => ⟨S_, .f32⟩
  | 65 => ⟨S512x2048, .f32⟩
  | 66 => ⟨S512x2048, .f32⟩
  | 67 => ⟨S512x2048, .f32⟩
  | 68 => ⟨S_, .f32⟩
  | 69 => ⟨S512x2048, .f32⟩
  | 70 => ⟨S512x2048, .f32⟩
  | 71 => ⟨S512x2048, .f32⟩
  | 72 => ⟨S_, .f32⟩
  | 73 => ⟨S512x2048, .f32⟩
  | 74 => ⟨S512x2048, .f32⟩
  | 75 => ⟨S_, .f32⟩
  | 76 => ⟨S512x2048, .f32⟩
  | 77 => ⟨S512x2048, .f32⟩
  | 78 => ⟨S512x2048, .f32⟩
  | 79 => ⟨S_, .f32⟩
  | 80 => ⟨S512x2048, .f32⟩
  | 81 => ⟨S512x2048, .f32⟩
  | 82 => ⟨S512x2048, .f32⟩
  | 83 => ⟨S_, .f32⟩
  | 84 => ⟨S512x2048, .f32⟩
  | 85 => ⟨S512x2048, .f32⟩
  | 86 => ⟨S512x2048, .f32⟩
  | 87 => ⟨S_, .f32⟩
  | 88 => ⟨S512x2048, .f32⟩
  | 89 => ⟨S512x2048, .f32⟩
  | 90 => ⟨S_, .f32⟩
  | 91 => ⟨S2048x2048, .f32⟩
  | 92 => ⟨S2048x2048, .f32⟩
  | 93 => ⟨S_, .f32⟩
  | 94 => ⟨S2048x2048, .f32⟩
  | 95 => ⟨S2048x2048, .f32⟩
  | 96 => ⟨S2048x2048, .f32⟩
  | 97 => ⟨S_, .f32⟩
  | 98 => ⟨S2048x2048, .f32⟩
  | 99 => ⟨S2048x2048, .f32⟩
  | 100 => ⟨S2048x2048, .f32⟩
  | 101 => ⟨S_, .f32⟩
  | 102 => ⟨S2048x2048, .f32⟩
  | 103 => ⟨S2048x2048, .f32⟩
  | 104 => ⟨S2048x2048, .f32⟩
  | 105 => ⟨S_, .f32⟩
  | 106 => ⟨S2048x2048, .f32⟩
  | 107 => ⟨S2048x2048, .f32⟩
  | 108 => ⟨S_, .f32⟩
  | 109 => ⟨S2048x2048, .f32⟩
  | 110 => ⟨S2048x2048, .f32⟩
  | 111 => ⟨S2048x2048, .f32⟩
  | 112 => ⟨S_, .f32⟩
  | 113 => ⟨S2048x2048, .f32⟩
  | 114 => ⟨S2048x2048, .f32⟩
  | 115 => ⟨S2048x2048, .f32⟩
  | 116 => ⟨S_, .f32⟩
  | 117 => ⟨S2048x2048, .f32⟩
  | 118 => ⟨S2048x2048, .f32⟩
  | 119 => ⟨S2048x2048, .f32⟩
  | 120 => ⟨S_, .f32⟩
  | 121 => ⟨S2048x2048, .f32⟩
  | 122 => ⟨S2048x2048, .f32⟩
  | 123 => ⟨S_, .f32⟩
  | 124 => ⟨S96x256, .f32⟩
  | 125 => ⟨S96x256, .f32⟩
  | 126 => ⟨S_, .f32⟩
  | 127 => ⟨S96x256, .f32⟩
  | _ => ⟨S1524x2048, .f32⟩

abbrev hbmTy0_1 (i : Nat) : BufTy := match i % 128 with
  | 0 => ⟨S96x256, .f32⟩
  | 1 => ⟨S96x256, .f32⟩
  | 2 => ⟨S_, .f32⟩
  | 3 => ⟨S96x256, .f32⟩
  | 4 => ⟨S96x256, .f32⟩
  | 5 => ⟨S96x256, .f32⟩
  | 6 => ⟨S_, .f32⟩
  | 7 => ⟨S96x256, .f32⟩
  | 8 => ⟨S96x256, .f32⟩
  | 9 => ⟨S96x256, .f32⟩
  | 10 => ⟨S_, .f32⟩
  | 11 => ⟨S96x256, .f32⟩
  | 12 => ⟨S96x256, .f32⟩
  | 13 => ⟨S_, .f32⟩
  | 14 => ⟨S96x256, .f32⟩
  | 15 => ⟨S96x256, .f32⟩
  | 16 => ⟨S96x256, .f32⟩
  | 17 => ⟨S_, .f32⟩
  | 18 => ⟨S96x256, .f32⟩
  | 19 => ⟨S96x256, .f32⟩
  | 20 => ⟨S96x256, .f32⟩
  | 21 => ⟨S_, .f32⟩
  | 22 => ⟨S96x256, .f32⟩
  | 23 => ⟨S96x256, .f32⟩
  | 24 => ⟨S96x256, .f32⟩
  | 25 => ⟨S_, .f32⟩
  | 26 => ⟨S96x256, .f32⟩
  | 27 => ⟨S96x256, .f32⟩
  | 28 => ⟨S_, .f32⟩
  | 29 => ⟨S256x256, .f32⟩
  | 30 => ⟨S256x256, .f32⟩
  | 31 => ⟨S_, .f32⟩
  | 32 => ⟨S256x256, .f32⟩
  | 33 => ⟨S256x256, .f32⟩
  | 34 => ⟨S256x256, .f32⟩
  | 35 => ⟨S_, .f32⟩
  | 36 => ⟨S256x256, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S256x256, .f32⟩
  | 43 => ⟨S_, .f32⟩
  | 44 => ⟨S256x256, .f32⟩
  | 45 => ⟨S256x256, .f32⟩
  | 46 => ⟨S_, .f32⟩
  | 47 => ⟨S256x256, .f32⟩
  | 48 => ⟨S256x256, .f32⟩
  | 49 => ⟨S256x256, .f32⟩
  | 50 => ⟨S_, .f32⟩
  | 51 => ⟨S256x256, .f32⟩
  | 52 => ⟨S256x256, .f32⟩
  | 53 => ⟨S256x256, .f32⟩
  | 54 => ⟨S_, .f32⟩
  | 55 => ⟨S256x256, .f32⟩
  | 56 => ⟨S256x256, .f32⟩
  | 57 => ⟨S256x256, .f32⟩
  | 58 => ⟨S_, .f32⟩
  | 59 => ⟨S256x256, .f32⟩
  | 60 => ⟨S256x256, .f32⟩
  | 61 => ⟨S_, .f32⟩
  | 62 => ⟨S200x128, .f32⟩
  | 63 => ⟨S200x128, .f32⟩
  | 64 => ⟨S_, .f32⟩
  | 65 => ⟨S200x128, .f32⟩
  | 66 => ⟨S200x128, .f32⟩
  | 67 => ⟨S200x128, .f32⟩
  | 68 => ⟨S_, .f32⟩
  | 69 => ⟨S200x128, .f32⟩
  | 70 => ⟨S200x128, .f32⟩
  | 71 => ⟨S200x128, .f32⟩
  | 72 => ⟨S_, .f32⟩
  | 73 => ⟨S200x128, .f32⟩
  | 74 => ⟨S200x128, .f32⟩
  | 75 => ⟨S200x128, .f32⟩
  | 76 => ⟨S_, .f32⟩
  | 77 => ⟨S200x128, .f32⟩
  | 78 => ⟨S200x128, .f32⟩
  | 79 => ⟨S_, .f32⟩
  | 80 => ⟨S200x128, .f32⟩
  | 81 => ⟨S200x128, .f32⟩
  | 82 => ⟨S200x128, .f32⟩
  | 83 => ⟨S_, .f32⟩
  | 84 => ⟨S200x128, .f32⟩
  | 85 => ⟨S200x128, .f32⟩
  | 86 => ⟨S200x128, .f32⟩
  | 87 => ⟨S_, .f32⟩
  | 88 => ⟨S200x128, .f32⟩
  | 89 => ⟨S200x128, .f32⟩
  | 90 => ⟨S200x128, .f32⟩
  | 91 => ⟨S_, .f32⟩
  | 92 => ⟨S200x128, .f32⟩
  | 93 => ⟨S200x128, .f32⟩
  | _ => ⟨S1524x2048, .f32⟩

abbrev hbmTy (i : Nat) : BufTy := match i / 128 with
  | 0 => hbmTy0_0 i
  | 1 => hbmTy0_1 i
  | _ => ⟨S1524x2048, .f32⟩

abbrev bufTy : (tb : Table) → Fin (tcTables nBuf tb) → BufTy
  | .hbm, ⟨i, _⟩ => hbmTy i
  | _, _ => ⟨S1524x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel5.lean ====
abbrev S4096x2048 : Shape := ⟨2, ![4096, 2048]⟩
abbrev S1024x2048 : Shape := ⟨2, ![1024, 2048]⟩
abbrev S1536x2048 : Shape := ⟨2, ![1536, 2048]⟩
abbrev S128x2048 : Shape := ⟨2, ![128, 2048]⟩
abbrev S3072x2048 : Shape := ⟨2, ![3072, 2048]⟩
abbrev S512x2048 : Shape := ⟨2, ![512, 2048]⟩
abbrev S4096x6272 : Shape := ⟨2, ![4096, 6272]⟩
abbrev S4096x1024 : Shape := ⟨2, ![4096, 1024]⟩
abbrev S1024x1024 : Shape := ⟨2, ![1024, 1024]⟩
abbrev S4096x1536 : Shape := ⟨2, ![4096, 1536]⟩
abbrev S768x2048 : Shape := ⟨2, ![768, 2048]⟩
abbrev S1024x768 : Shape := ⟨2, ![1024, 768]⟩
abbrev S4096x128 : Shape := ⟨2, ![4096, 128]⟩
abbrev S1024x128 : Shape := ⟨2, ![1024, 128]⟩
abbrev S4096x3072 : Shape := ⟨2, ![4096, 3072]⟩
abbrev S4096x512 : Shape := ⟨2, ![4096, 512]⟩
abbrev S1024x512 : Shape := ⟨2, ![1024, 512]⟩
abbrev S6272x2048 : Shape := ⟨2, ![6272, 2048]⟩
abbrev S4096x896 : Shape := ⟨2, ![4096, 896]⟩
abbrev S896x1024 : Shape := ⟨2, ![896, 1024]⟩

abbrev nBuf : Space → Nat
  | .hbm => 13
  | .vmem => 39
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1536x2048, .bf16⟩
  | .hbm, ⟨3, _⟩ => ⟨S128x2048, .bf16⟩
  | .hbm, ⟨4, _⟩ => ⟨S3072x2048, .bf16⟩
  | .hbm, ⟨5, _⟩ => ⟨S512x2048, .bf16⟩
  | .hbm, ⟨6, _⟩ => ⟨S4096x6272, .bf16⟩
  | .hbm, ⟨7, _⟩ => ⟨S4096x1024, .f32⟩
  | .hbm, ⟨8, _⟩ => ⟨S4096x1536, .f32⟩
  | .hbm, ⟨9, _⟩ => ⟨S4096x128, .f32⟩
  | .hbm, ⟨10, _⟩ => ⟨S4096x3072, .f32⟩
  | .hbm, ⟨11, _⟩ => ⟨S4096x512, .f32⟩
  | .hbm, ⟨12, _⟩ => ⟨S6272x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x2048, .bf16⟩
  | .local _ .vmem, ⟨7, _⟩ => ⟨S1024x2048, .bf16⟩
  | .local _ .vmem, ⟨8, _⟩ => ⟨S768x2048, .bf16⟩
  | .local _ .vmem, ⟨9, _⟩ => ⟨S768x2048, .bf16⟩
  | .local _ .vmem, ⟨10, _⟩ => ⟨S1024x768, .f32⟩
  | .local _ .vmem, ⟨11, _⟩ => ⟨S1024x768, .f32⟩
  | .local _ .vmem, ⟨12, _⟩ => ⟨S1024x768, .f32⟩
  | .local _ .vmem, ⟨13, _⟩ => ⟨S1024x2048, .bf16⟩
  | .local _ .vmem, ⟨14, _⟩ => ⟨S1024x2048, .bf16⟩
  | .local _ .vmem, ⟨15, _⟩ => ⟨S128x2048, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S1024x2048, .bf16⟩
  | .local _ .vmem, ⟨20, _⟩ => ⟨S1024x2048, .bf16⟩
  | .local _ .vmem, ⟨21, _⟩ => ⟨S1024x2048, .bf16⟩
  | .local _ .vmem, ⟨22, _⟩ => ⟨S1024x2048, .bf16⟩
  | .local _ .vmem, ⟨23, _⟩ => ⟨S1024x1024, .f32⟩
  | .local _ .vmem, ⟨24, _⟩ => ⟨S1024x1024, .f32⟩
  | .local _ .vmem, ⟨25, _⟩ => ⟨S1024x1024, .f32⟩
  | .local _ .vmem, ⟨26, _⟩ => ⟨S1024x2048, .bf16⟩
  | .local _ .vmem, ⟨27, _⟩ => ⟨S1024x2048, .bf16⟩
  | .local _ .vmem, ⟨28, _⟩ => ⟨S512x2048, .bf16⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S4096x896, .bf16⟩
  | .local _ .vmem, ⟨33, _⟩ => ⟨S4096x896, .bf16⟩
  | .local _ .vmem, ⟨34, _⟩ => ⟨S4096x1024, .bf16⟩
  | .local _ .vmem, ⟨35, _⟩ => ⟨S4096x1024, .bf16⟩
  | .local _ .vmem, ⟨36, _⟩ => ⟨S896x1024, .f32⟩
  | .local _ .vmem, ⟨37, _⟩ => ⟨S896x1024, .f32⟩
  | .local _ .vmem, ⟨38, _⟩ => ⟨S896x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg2_1 : Ref sig .tc := ⟨.vmem, 30, rfl⟩
abbrev cc4_scratch0 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_scratch0 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S768x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S128x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 3, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 1 → Memref sig .tc .vmem S512x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![7, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S4096x896 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S896x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Reference5Ideal.lean ====
abbrev S4096x2048 : Shape := ⟨2, ![4096, 2048]⟩
abbrev S1024x2048 : Shape := ⟨2, ![1024, 2048]⟩
abbrev S1536x2048 : Shape := ⟨2, ![1536, 2048]⟩
abbrev S128x2048 : Shape := ⟨2, ![128, 2048]⟩
abbrev S3072x2048 : Shape := ⟨2, ![3072, 2048]⟩
abbrev S512x2048 : Shape := ⟨2, ![512, 2048]⟩
abbrev S4096x6272 : Shape := ⟨2, ![4096, 6272]⟩
abbrev S_ : Shape := ⟨0, ![]⟩
abbrev S6272x2048 : Shape := ⟨2, ![6272, 2048]⟩
abbrev S2048x6272 : Shape := ⟨2, ![2048, 6272]⟩
abbrev S2048x1024 : Shape := ⟨2, ![2048, 1024]⟩
abbrev S4096x1024 : Shape := ⟨2, ![4096, 1024]⟩
abbrev S2048x1536 : Shape := ⟨2, ![2048, 1536]⟩
abbrev S4096x1536 : Shape := ⟨2, ![4096, 1536]⟩
abbrev S2048x128 : Shape := ⟨2, ![2048, 128]⟩
abbrev S4096x128 : Shape := ⟨2, ![4096, 128]⟩
abbrev S2048x3072 : Shape := ⟨2, ![2048, 3072]⟩
abbrev S4096x3072 : Shape := ⟨2, ![4096, 3072]⟩
abbrev S2048x512 : Shape := ⟨2, ![2048, 512]⟩
abbrev S4096x512 : Shape := ⟨2, ![4096, 512]⟩

abbrev nBuf : Space → Nat
  | .hbm => 31
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S1536x2048, .bf16⟩
  | .hbm, ⟨3, _⟩ => ⟨S128x2048, .bf16⟩
  | .hbm, ⟨4, _⟩ => ⟨S3072x2048, .bf16⟩
  | .hbm, ⟨5, _⟩ => ⟨S512x2048, .bf16⟩
  | .hbm, ⟨6, _⟩ => ⟨S4096x6272, .bf16⟩
  | .hbm, ⟨7, _⟩ => ⟨S4096x2048, .f32⟩
  | .hbm, ⟨8, _⟩ => ⟨S1024x2048, .f32⟩
  | .hbm, ⟨9, _⟩ => ⟨S1536x2048, .f32⟩
  | .hbm, ⟨10, _⟩ => ⟨S128x2048, .f32⟩
  | .hbm, ⟨11, _⟩ => ⟨S3072x2048, .f32⟩
  | .hbm, ⟨12, _⟩ => ⟨S512x2048, .f32⟩
  | .hbm, ⟨13, _⟩ => ⟨S4096x6272, .f32⟩
  | .hbm, ⟨14, _⟩ => ⟨S_, .f32⟩
  | .hbm, ⟨15, _⟩ => ⟨S6272x2048, .f32⟩
  | .hbm, ⟨16, _⟩ => ⟨S2048x6272, .f32⟩
  | .hbm, ⟨17, _⟩ => ⟨S4096x6272, .f32⟩
  | .hbm, ⟨18, _⟩ => ⟨S2048x1024, .f32⟩
  | .hbm, ⟨19, _⟩ => ⟨S4096x1024, .f32⟩
  | .hbm, ⟨20, _⟩ => ⟨S2048x1536, .f32⟩
  | .hbm, ⟨21, _⟩ => ⟨S4096x1536, .f32⟩
  | .hbm, ⟨22, _⟩ => ⟨S2048x128, .f32⟩
  | .hbm, ⟨23, _⟩ => ⟨S4096x128, .f32⟩
  | .hbm, ⟨24, _⟩ => ⟨S2048x3072, .f32⟩
  | .hbm, ⟨25, _⟩ => ⟨S4096x3072, .f32⟩
  | .hbm, ⟨26, _⟩ => ⟨S2048x512, .f32⟩
  | .hbm, ⟨27, _⟩ => ⟨S4096x512, .f32⟩
  | .hbm, ⟨28, _⟩ => ⟨S6272x2048, .f32⟩
  | .hbm, ⟨29, _⟩ => ⟨S2048x6272, .f32⟩
  | .hbm, ⟨30, _⟩ => ⟨S6272x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel6.lean ====
abbrev S4096x6272 : Shape := ⟨2, ![4096, 6272]⟩
abbrev S6272x2048 : Shape := ⟨2, ![6272, 2048]⟩
abbrev S4096x2048 : Shape := ⟨2, ![4096, 2048]⟩
abbrev S1024x896 : Shape := ⟨2, ![1024, 896]⟩
abbrev S896x1024 : Shape := ⟨2, ![896, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x6272, .bf16⟩
  | .hbm, ⟨1, _⟩ => ⟨S6272x2048, .bf16⟩
  | .hbm, ⟨2, _⟩ => ⟨S4096x2048, .f32⟩
  | .local _ .vmem, ⟨0, _⟩ => ⟨S1024x896, .bf16⟩
  | .local _ .vmem, ⟨1, _⟩ => ⟨S1024x896, .bf16⟩
  | .local _ .vmem, ⟨2, _⟩ => ⟨S896x1024, .bf16⟩
  | .local _ .vmem, ⟨3, _⟩ => ⟨S896x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 7], ![false, false, false]⟩

def k0_cond3 (i : grid0.Coords) : BitVec 1 :=
  let arg2 : BitVec 32 := BitVec.ofNat 32 (i 2).val
  let c6_i32_6 : BitVec 32 := 6#32
  let v11 : BitVec 1 := Scalar.cmpi .eq arg2 c6_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S896x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x6272 : Shape := ⟨2, ![4096, 6272]⟩
abbrev S6272x2048 : Shape := ⟨2, ![6272, 2048]⟩
abbrev S_ : Shape := ⟨0, ![]⟩
abbrev S4096x2048 : Shape := ⟨2, ![4096, 2048]⟩
abbrev S2048x6272 : Shape := ⟨2, ![2048, 6272]⟩

abbrev nBuf : Space → Nat
  | .hbm => 9
  | .vmem => 0
  | .smem => 0
  | _ => 0

abbrev bufTy : (tb : Table) → Fin (tcTables nBuf tb) → BufTy
  | .hbm, ⟨0, _⟩ => ⟨S4096x6272, .bf16⟩
  | .hbm, ⟨1, _⟩ => ⟨S6272x2048, .bf16⟩
  | .hbm, ⟨2, _⟩ => ⟨S6272x2048, .f32⟩
  | .hbm, ⟨3, _⟩ => ⟨S_, .f32⟩
  | .hbm, ⟨4, _⟩ => ⟨S4096x2048, .f32⟩
  | .hbm, ⟨5, _⟩ => ⟨S2048x6272, .f32⟩
  | .hbm, ⟨6, _⟩ => ⟨S4096x6272, .f32⟩
  | .hbm, ⟨7, _⟩ => ⟨S4096x6272, .f32⟩
  | .hbm, ⟨8, _⟩ => ⟨S4096x2048, .f32⟩
  | _, _ => ⟨S4096x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S4096x1024 : Shape := ⟨2, ![4096, 1024]⟩

abbrev nBuf : Space → Nat
  | .hbm => 7
  | .vmem => 23
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S4096x1024, .bf16⟩
  | .local _ .vmem, ⟨10, _⟩ => ⟨S4096x1024, .bf16⟩
  | .local _ .vmem, ⟨11, _⟩ => ⟨S4096x1024, .bf16⟩
  | .local _ .vmem, ⟨12, _⟩ => ⟨S4096x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x2048, .bf16⟩
  | .local _ .vmem, ⟨17, _⟩ => ⟨S1024x2048, .bf16⟩
  | .local _ .vmem, ⟨18, _⟩ => ⟨S1024x2048, .bf16⟩
  | .local _ .vmem, ⟨19, _⟩ => ⟨S1024x2048, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S4096x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S2048x2048, .f32⟩
  | .hbm, ⟨11, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v41 : BitVec 1 := Scalar.cmpi .eq arg0 c0_i32
  let v42 : BitVec 32 := Scalar.extui v41
  let c0_i32_18 : BitVec 32 := 0#32
  let v43 : BitVec 1 := Scalar.cmpi .ne v42 c0_i32_18
  v43

def k0_cond2 (i : grid0.Coords) : BitVec 1 :=
  let arg0 : BitVec 32 := BitVec.ofNat 32 (i 0).val
  let c0_i32 : BitVec 32 := 0#32
  let v41 : BitVec 1 := Scalar.cmpi .eq arg0 c0_i32
  let v_true : BitVec 1 := 1#1
  let v44 : BitVec 1 := Scalar.xori v41 v_true
  let v45 : BitVec 32 := Scalar.extui v44
  let c0_i32_19 : BitVec 32 := 0#32
  let v46 : BitVec 1 := Scalar.cmpi .ne v45 c0_i32_19
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Kernel10.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_26 : BitVec 32 := 0#32
  let v73 : BitVec 1 := Scalar.cmpi .ne v72 c0_i32_26
  v73

def k0_cond2 (i : grid0.Coords) : BitVec 1 :=
  let arg0 : BitVec 32 := BitVec.ofNat 32 (i 0).val
  let c0_i32 : BitVec 32 := 0#32
  let v71 : BitVec 1 := Scalar.cmpi .eq arg0 c0_i32
  let v_true : BitVec 1 := 1#1
  let v74 : BitVec 1 := Scalar.xori v71 v_true
  let v75 : BitVec 32 := Scalar.extui v74
  let c0_i32_27 : BitVec 32 := 0#32
  let v76 : BitVec 1 := Scalar.cmpi .ne v75 c0_i32_27
  v76

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S8x128 : Shape := ⟨2, ![8, 128]⟩

abbrev nBuf : Space → Nat
  | .hbm => 70
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .bf16⟩
  | .hbm, ⟨69, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Kernel11.lean ====
abbrev S4096x2048 : Shape := ⟨2, ![4096, 2048]⟩
abbrev S1x2048 : Shape := ⟨2, ![1, 2048]⟩
abbrev S256x2048 : Shape := ⟨2, ![256, 2048]⟩
abbrev S2048x2048 : Shape := ⟨2, ![2048, 2048]⟩
abbrev S256 : Shape := ⟨1, ![256]⟩
abbrev S256x1 : Shape := ⟨2, ![256, 1]⟩
abbrev S1024x2048 : Shape := ⟨2, ![1024, 2048]⟩
abbrev S2048x1024 : Shape := ⟨2, ![2048, 1024]⟩
abbrev S1024x1024 : Shape := ⟨2, ![1024, 1024]⟩
abbrev S256x1024 : Shape := ⟨2, ![256, 1024]⟩
abbrev S256x512 : Shape := ⟨2, ![256, 512]⟩
abbrev S256x256 : Shape := ⟨2, ![256, 256]⟩

abbrev nBuf : Space → Nat
  | .hbm => 15
  | .vmem => 42
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S256x2048, .f32⟩
  | .hbm, ⟨3, _⟩ => ⟨S1x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S4096x2048, .bf16⟩
  | .hbm, ⟨9, _⟩ => ⟨S256x2048, .bf16⟩
  | .hbm, ⟨10, _⟩ => ⟨S4096x2048, .f32⟩
  | .hbm, ⟨11, _⟩ => ⟨S256x2048, .f32⟩
  | .hbm, ⟨12, _⟩ => ⟨S256x2048, .f32⟩
  | .hbm, ⟨13, _⟩ => ⟨S4096x2048, .bf16⟩
  | .hbm, ⟨14, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S256x2048, .bf16⟩
  | .local _ .vmem, ⟨16, _⟩ => ⟨S2048x1024, .bf16⟩
  | .local _ .vmem, ⟨17, _⟩ => ⟨S2048x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x2048, .bf16⟩
  | .local _ .vmem, ⟨22, _⟩ => ⟨S2048x1024, .bf16⟩
  | .local _ .vmem, ⟨23, _⟩ => ⟨S2048x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .bf16⟩
  | .local _ .vmem, ⟨32, _⟩ => ⟨S256x2048, .bf16⟩
  | .local _ .vmem, ⟨33, _⟩ => ⟨S1024x2048, .bf16⟩
  | .local _ .vmem, ⟨34, _⟩ => ⟨S1024x2048, .bf16⟩
  | .local _ .vmem, ⟨35, _⟩ => ⟨S2048x1024, .bf16⟩
  | .local _ .vmem, ⟨36, _⟩ => ⟨S2048x1024, .bf16⟩
  | .local _ .vmem, ⟨37, _⟩ => ⟨S1024x1024, .f32⟩
  | .local _ .vmem, ⟨38, _⟩ => ⟨S1024x1024, .f32⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_scratch0 : Ref sig .tc := ⟨.vmem, 20, rfl⟩
abbrev cc4_stg0_0 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc4_scratch0 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg1_1 : Ref sig .tc := ⟨.vmem, 36, rfl⟩
abbrev cc6_stg2_0 : Ref sig .tc := ⟨.vmem, 37, rfl⟩
abbrev cc6_stg2_1 : Ref sig .tc := ⟨.vmem, 38, rfl⟩
abbrev cc6_stg3_0 : Ref sig .tc := ⟨.vmem, 39, rfl⟩
abbrev cc6_stg3_1 : Ref sig .tc := ⟨.vmem, 40, rfl⟩
abbrev cc6_scratch0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc3_sem0_0 : DmaSem sig := 14
abbrev cc3_sem1_0 : DmaSem sig := 15
abbrev cc3_sem1_1 : DmaSem sig := 16
abbrev cc3_sem2_0 : DmaSem sig := 17
abbrev cc3_sem2_1 : DmaSem sig := 18
abbrev cc4_sem0_0 : DmaSem sig := 19
abbrev cc4_sem1_0 : DmaSem sig := 20
abbrev cc4_sem1_1 : DmaSem sig := 21
abbrev cc4_sem2_0 : DmaSem sig := 22
abbrev cc4_sem2_1 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem3_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem2_1 : DmaSem sig := 35
abbrev cc6_sem3_0 : DmaSem sig := 36
abbrev cc6_sem3_1 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨3, ![4, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![1, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 1 → Memref sig .tc .vmem S256x2048 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![1, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 1 → Memref sig .tc .vmem S256x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false, true]

abbrev stage4_1 : Fin 2 → Memref sig .tc .vmem S2048x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨1, ![16], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x2048 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256x2048 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S256x2048 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨3, ![4, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x2048 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S2048x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S1024x1024 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]
-- ==== Reference11Ideal.lean ====
abbrev S4096x2048 : Shape := ⟨2, ![4096, 2048]⟩
abbrev S1x2048 : Shape := ⟨2, ![1, 2048]⟩
abbrev S256x2048 : Shape := ⟨2, ![256, 2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S1x4096x4x512 : Shape := ⟨4, ![1, 4096, 4, 512]⟩
abbrev S1x256x4x512 : Shape := ⟨4, ![1, 256, 4, 512]⟩
abbrev S1x4x4096x256 : Shape := ⟨4, ![1, 4, 4096, 256]⟩
abbrev S1x4x4096 : Shape := ⟨3, ![1, 4, 4096]⟩
abbrev S1x4x4096x1 : Shape := ⟨4, ![1, 4, 4096, 1]⟩
abbrev S1x4x512x4096 : Shape := ⟨4, ![1, 4, 512, 4096]⟩

abbrev nBuf : Space → Nat
  | .hbm => 71
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S256x2048, .f32⟩
  | .hbm, ⟨3, _⟩ => ⟨S1x2048, .f32⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S2048x2048, .bf16⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S4096x2048, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S256x2048, .f32⟩
  | .hbm, ⟨28, _⟩ => ⟨S_, .f32⟩
  | .hbm, ⟨29, _⟩ => ⟨S256, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .f32⟩
  | .hbm, ⟨34, _⟩ => ⟨S_, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S256x2048, .f32⟩
  | .hbm, ⟨42, _⟩ => ⟨S4096x2048, .f32⟩
  | .hbm, ⟨43, _⟩ => ⟨S256x2048, .f32⟩
  | .hbm, ⟨44, _⟩ => ⟨S256x2048, .f32⟩
  | .hbm, ⟨45, _⟩ => ⟨S1x4096x4x512, .f32⟩
  | .hbm, ⟨46, _⟩ => ⟨S1x256x4x512, .f32⟩
  | .hbm, ⟨47, _⟩ => ⟨S1x256x4x512, .f32⟩
  | .hbm, ⟨48, _⟩ => ⟨S1x4x4096x256, .f32⟩
  | .hbm, ⟨49, _⟩ => ⟨S_, .f32⟩
  | .hbm, ⟨50, _⟩ => ⟨S1x4x4096x256, .f32⟩
  | .hbm, ⟨51, _⟩ => ⟨S1x4x4096x256, .f32⟩
  | .hbm, ⟨52, _⟩ => ⟨S_, .f32⟩
  | .hbm, ⟨53, _⟩ => ⟨S1x4x4096, .f32⟩
  | .hbm, ⟨54, _⟩ => ⟨S_, .f32⟩
  | .hbm, ⟨55, _⟩ => ⟨S1x4x4096, .f32⟩
  | .hbm, ⟨56, _⟩ => ⟨S1x4x4096, .f32⟩
  | .hbm, ⟨57, _⟩ => ⟨S1x4x4096x1, .f32⟩
  | .hbm, ⟨58, _⟩ => ⟨S1x4x4096x256, .f32⟩
  | .hbm, ⟨59, _⟩ => ⟨S1x4x4096x256, .f32⟩
  | .hbm, ⟨60, _⟩ => ⟨S1x4x4096x256, .f32⟩
  | .hbm, ⟨61, _⟩ => ⟨S_, .f32⟩
  | .hbm, ⟨62, _⟩ => ⟨S1x4x4096, .f32⟩
  | .hbm, ⟨63, _⟩ => ⟨S1x4x4096x1, .f32⟩
  | .hbm, ⟨64, _⟩ => ⟨S1x4x4096x256, .f32⟩
  | .hbm, ⟨65, _⟩ => ⟨S1x4x4096x256, .f32⟩
  | .hbm, ⟨66, _⟩ => ⟨S1x4x512x4096, .f32⟩
  | .hbm, ⟨67, _⟩ => ⟨S1x4096x4x512, .f32⟩
  | .hbm, ⟨68, _⟩ => ⟨S4096x2048, .f32⟩
  | .hbm, ⟨69, _⟩ => ⟨S4096x2048, .f32⟩
  | .hbm, ⟨70, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩

abbrev nD : Nat := 1
abbrev τ : Topo := Topo.v7x

variable {F : FTy → Type} [FloatOps F]
-- ==== Kernel12.lean ====
abbrev S4096x2048 : Shape := ⟨2, ![4096, 2048]⟩
abbrev S256x2048 : Shape := ⟨2, ![256, 2048]⟩
abbrev S2048x2048 : Shape := ⟨2, ![2048, 2048]⟩
abbrev S4096x1024 : Shape := ⟨2, ![4096, 1024]⟩
abbrev S1024x1024 : Shape := ⟨2, ![1024, 1024]⟩
abbrev S1024x2048 : Shape := ⟨2, ![1024, 2048]⟩
abbrev S256x1024 : Shape := ⟨2, ![256, 1024]⟩

abbrev nBuf : Space → Nat
  | .hbm => 19
  | .vmem => 56
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S256x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S4096x2048, .bf16⟩
  | .hbm, ⟨8, _⟩ => ⟨S4096x2048, .bf16⟩
  | .hbm, ⟨9, _⟩ => ⟨S256x2048, .bf16⟩
  | .hbm, ⟨10, _⟩ => ⟨S256x2048, .bf16⟩
  | .hbm, ⟨11, _⟩ => ⟨S2048x2048, .f32⟩
  | .hbm, ⟨12, _⟩ => ⟨S4096x2048, .f32⟩
  | .hbm, ⟨13, _⟩ => ⟨S2048x2048, .f32⟩
  | .hbm, ⟨14, _⟩ => ⟨S4096x2048, .f32⟩
  | .hbm, ⟨15, _⟩ => ⟨S2048x2048, .f32⟩
  | .hbm, ⟨16, _⟩ => ⟨S2048x2048, .f32⟩
  | .hbm, ⟨17, _⟩ => ⟨S256x2048, .f32⟩
  | .hbm, ⟨18, _⟩ => ⟨S256x2048, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S4096x1024, .bf16⟩
  | .local _ .vmem, ⟨15, _⟩ => ⟨S4096x1024, .bf16⟩
  | .local _ .vmem, ⟨16, _⟩ => ⟨S4096x1024, .bf16⟩
  | .local _ .vmem, ⟨17, _⟩ => ⟨S4096x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x2048, .bf16⟩
  | .local _ .vmem, ⟨22, _⟩ => ⟨S1024x2048, .bf16⟩
  | .local _ .vmem, ⟨23, _⟩ => ⟨S1024x2048, .bf16⟩
  | .local _ .vmem, ⟨24, _⟩ => ⟨S1024x2048, .bf16⟩
  | .local _ .vmem, ⟨25, _⟩ => ⟨S1024x1024, .f32⟩
  | .local _ .vmem, ⟨26, _⟩ => ⟨S1024x1024, .f32⟩
  | .local _ .vmem, ⟨27, _⟩ => ⟨S1024x1024, .f32⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S1024x1024, .f32⟩
  | .local _ .vmem, ⟨33, _⟩ => ⟨S1024x1024, .f32⟩
  | .local _ .vmem, ⟨34, _⟩ => ⟨S1024x1024, .f32⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | .local _ .vmem, ⟨38, _⟩ => ⟨S256x1024, .bf16⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | .local _ .vmem, ⟨42, _⟩ => ⟨S256x2048, .bf16⟩
  | .local _ .vmem, ⟨43, _⟩ => ⟨S1024x2048, .bf16⟩
  | .local _ .vmem, ⟨44, _⟩ => ⟨S1024x2048, .bf16⟩
  | .local _ .vmem, ⟨45, _⟩ => ⟨S256x1024, .f32⟩
  | .local _ .vmem, ⟨46, _⟩ => ⟨S256x1024, .f32⟩
  | .local _ .vmem, ⟨47, _⟩ => ⟨S256x1024, .f32⟩
  | .local _ .vmem, ⟨48, _⟩ => ⟨S256x2048, .bf16⟩
  | .local _ .vmem, ⟨49, _⟩ => ⟨S1024x2048, .bf16⟩
  | .local _ .vmem, ⟨50, _⟩ => ⟨S1024x2048, .bf16⟩
  | .local _ .vmem, ⟨51, _⟩ => ⟨S256x1024, .f32⟩
  | .local _ .vmem, ⟨52, _⟩ => ⟨S256x1024, .f32⟩
  | .local _ .vmem, ⟨53, _⟩ => ⟨S256x1024, .f32⟩
  | .local _ .vmem, ⟨54, _⟩ => ⟨S256x1024, .f32⟩
  | .local _ .vmem, ⟨55, _⟩ => ⟨S256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_scratch0 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_scratch0 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_scratch0 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg1_1 : Ref sig .tc := ⟨.vmem, 44, rfl⟩
abbrev cc6_stg2_0 : Ref sig .tc := ⟨.vmem, 45, rfl⟩
abbrev cc6_stg2_1 : Ref sig .tc := ⟨.vmem, 46, rfl⟩
abbrev cc6_scratch0 : Ref sig .tc := ⟨.vmem, 47, rfl⟩
abbrev cc7_stg0_0 : Ref sig .tc := ⟨.vmem, 48, rfl⟩
abbrev cc7_stg1_0 : Ref sig .tc := ⟨.vmem, 49, rfl⟩
abbrev cc7_stg1_1 : Ref sig .tc := ⟨.vmem, 50, rfl⟩
abbrev cc7_stg2_0 : Ref sig .tc := ⟨.vmem, 51, rfl⟩
abbrev cc7_stg2_1 : Ref sig .tc := ⟨.vmem, 52, rfl⟩
abbrev cc7_stg3_0 : Ref sig .tc := ⟨.vmem, 53, rfl⟩
abbrev cc7_stg3_1 : Ref sig .tc := ⟨.vmem, 54, rfl⟩
abbrev cc7_scratch0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem1_0 : DmaSem sig := 37
abbrev cc6_sem1_1 : DmaSem sig := 38
abbrev cc6_sem2_0 : DmaSem sig := 39
abbrev cc6_sem2_1 : DmaSem sig := 40
abbrev cc7_sem0_0 : DmaSem sig := 41
abbrev cc7_sem1_0 : DmaSem sig := 42
abbrev cc7_sem1_1 : DmaSem sig := 43
abbrev cc7_sem2_0 : DmaSem sig := 44
abbrev cc7_sem2_1 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 2, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S4096x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 2, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 2, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S256x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S256x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 2, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S256x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1024x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![1, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .vmem S256x2048 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false, true]

abbrev stage6_1 : Fin 2 → Memref sig .tc .vmem S1024x2048 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S256x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![1, 2, 1], ![false, false, false]⟩

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .vmem S256x2048 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false, true]

abbrev stage7_1 : Fin 2 → Memref sig .tc .vmem S1024x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 2 → Memref sig .tc .vmem S256x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true, false]

abbrev stage7_3 : Fin 2 → Memref sig .tc .vmem S256x1024 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]
-- ==== Reference12Ideal.lean ====
abbrev S4096x2048 : Shape := ⟨2, ![4096, 2048]⟩
abbrev S256x2048 : Shape := ⟨2, ![256, 2048]⟩
abbrev S2048x2048 : Shape := ⟨2, ![2048, 2048]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S256x2048, .bf16⟩
  | .hbm, ⟨3, _⟩ => ⟨S2048x2048, .bf16⟩
  | .hbm, ⟨4, _⟩ => ⟨S2048x2048, .bf16⟩
  | .hbm, ⟨5, _⟩ => ⟨S2048x2048, .bf16⟩
  | .hbm, ⟨6, _⟩ => ⟨S2048x2048, .bf16⟩
  | .hbm, ⟨7, _⟩ => ⟨S4096x2048, .bf16⟩
  | .hbm, ⟨8, _⟩ => ⟨S4096x2048, .bf16⟩
  | .hbm, ⟨9, _⟩ => ⟨S256x2048, .bf16⟩
  | .hbm, ⟨10, _⟩ => ⟨S256x2048, .bf16⟩
  | .hbm, ⟨11, _⟩ => ⟨S4096x2048, .f32⟩
  | .hbm, ⟨12, _⟩ => ⟨S4096x2048, .f32⟩
  | .hbm, ⟨13, _⟩ => ⟨S256x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S4096x2048, .f32⟩
  | .hbm, ⟨19, _⟩ => ⟨S4096x2048, .f32⟩
  | .hbm, ⟨20, _⟩ => ⟨S256x2048, .f32⟩
  | .hbm, ⟨21, _⟩ => ⟨S256x2048, .f32⟩
  | .hbm, ⟨22, _⟩ => ⟨S4096x2048, .f32⟩
  | .hbm, ⟨23, _⟩ => ⟨S2048x2048, .f32⟩
  | .hbm, ⟨24, _⟩ => ⟨S2048x2048, .f32⟩
  | .hbm, ⟨25, _⟩ => ⟨S4096x2048, .f32⟩
  | .hbm, ⟨26, _⟩ => ⟨S4096x2048, .f32⟩
  | .hbm, ⟨27, _⟩ => ⟨S2048x2048, .f32⟩
  | .hbm, ⟨28, _⟩ => ⟨S2048x2048, .f32⟩
  | .hbm, ⟨29, _⟩ => ⟨S4096x2048, .f32⟩
  | .hbm, ⟨30, _⟩ => ⟨S256x2048, .f32⟩
  | .hbm, ⟨31, _⟩ => ⟨S256x2048, .f32⟩
  | .hbm, ⟨32, _⟩ => ⟨S2048x2048, .f32⟩
  | .hbm, ⟨33, _⟩ => ⟨S2048x2048, .f32⟩
  | .hbm, ⟨34, _⟩ => ⟨S256x2048, .f32⟩
  | .hbm, ⟨35, _⟩ => ⟨S2048x2048, .f32⟩
  | .hbm, ⟨36, _⟩ => ⟨S2048x2048, .f32⟩
  | .hbm, ⟨37, _⟩ => ⟨S256x2048, .f32⟩
  | .hbm, ⟨38, _⟩ => ⟨S256x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel13.lean ====
abbrev S1x4096x2048 : Shape := ⟨3, ![1, 4096, 2048]⟩
abbrev S1x2048 : Shape := ⟨2, ![1, 2048]⟩
abbrev S4096x2048 : Shape := ⟨2, ![4096, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩
abbrev S_ : Shape := ⟨0, ![]⟩

abbrev nBuf : Space → Nat
  | .hbm => 20
  | .vmem => 11
  | .smem => 0
  | _ => 0

abbrev bufTy : (tb : Table) → Fin (tcTables nBuf tb) → BufTy
  | .hbm, ⟨0, _⟩ => ⟨S1x4096x2048, .f32⟩
  | .hbm, ⟨1, _⟩ => ⟨S1x4096x2048, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S8x128, .f32⟩
  | .hbm, ⟨9, _⟩ => ⟨S1x1, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S1x2048, .f32⟩
  | .local _ .vmem, ⟨10, _⟩ => ⟨S8x128, .f32⟩
  | _, _ => ⟨S1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | _ => false

abbrev sig : RefSig :=
  ofTc nBuf bufTy 1 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v3_2 : Ref sig .tc := ⟨.hbm, 7, rfl⟩
abbrev main_v3_3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v6_s0 : Ref sig .tc := ⟨.hbm, 12, rfl⟩
abbrev main_v6_s1 : Ref sig .tc := ⟨.hbm, 13, rfl⟩
abbrev main_v6_s2 : Ref sig .tc := ⟨.hbm, 14, rfl⟩
abbrev main_v6_s3 : Ref sig .tc := ⟨.hbm, 15, rfl⟩
abbrev main_v6_s4 : Ref sig .tc := ⟨.hbm, 16, rfl⟩
abbrev main_v6_s5 : Ref sig .tc := ⟨.hbm, 17, rfl⟩
abbrev main_v6_s6 : Ref sig .tc := ⟨.hbm, 18, rfl⟩
abbrev main_v6_s7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev ar0_recv : DmaSem sig := 11
abbrev ar0_send : DmaSem sig := 12
abbrev ar0_barrier : Sem sig := 0

abbrev nD : Nat := 8
abbrev τ : Topo := Topo.v7x

variable {F : FTy → Type} [FloatOps F]

abbrev ar0_mem : Fin 1 × Fin 8 → Dev nD := fun q => (![![0, 1, 2, 3, 4, 5, 6, 7]] : Fin 1 → Fin 8 → Dev nD) q.1 q.2
abbrev ar0_pos : Dev nD → Fin 1 × Fin 8 := fun c => ((![0, 0, 0, 0, 0, 0, 0, 0] : Fin 8 → Fin 1) c, (![0, 1, 2, 3, 4, 5, 6, 7] : Fin 8 → Fin 8) c)
abbrev ar0_stage : Fin 8 → Ref sig .tc := fun | 0 => main_v6_s0 | 1 => main_v6_s1 | 2 => main_v6_s2 | 3 => main_v6_s3 | 4 => main_v6_s4 | 5 => main_v6_s5 | 6 => main_v6_s6 | 7 => main_v6_s7 | ⟨_ + 8, h⟩ => absurd h (Nat.not_lt.2 (Nat.le_add_left _ _))

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v74 : BitVec 1 := Scalar.cmpi .eq arg0 c0_i32
  let v75 : BitVec 32 := Scalar.extui v74
  let c0_i32_26 : BitVec 32 := 0#32
  let v76 : BitVec 1 := Scalar.cmpi .ne v75 c0_i32_26
  v76

def k0_cond2 (i : grid0.Coords) : BitVec 1 :=
  let arg0 : BitVec 32 := BitVec.ofNat 32 (i 0).val
  let c0_i32 : BitVec 32 := 0#32
  let v74 : BitVec 1 := Scalar.cmpi .eq arg0 c0_i32
  let v_true : BitVec 1 := 1#1
  let v77 : BitVec 1 := Scalar.xori v74 v_true
  let v78 : BitVec 32 := Scalar.extui v77
  let c0_i32_27 : BitVec 32 := 0#32
  let v79 : BitVec 1 := Scalar.cmpi .ne v78 c0_i32_27
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S8x4096x2048 : Shape := ⟨3, ![8, 4096, 2048]⟩
abbrev S1x2048 : Shape := ⟨2, ![1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S1x2048, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x2048, .f32⟩
  | .hbm, ⟨20, _⟩ => ⟨S8x4096x2048, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Kernel14.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S256x2048, .bf16⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .bf16⟩
  | .local _ .vmem, ⟨5, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v39 : BitVec 1 := Scalar.cmpi .eq arg0 c0_i32
  let v40 : BitVec 32 := Scalar.extui v39
  let c0_i32_16 : BitVec 32 := 0#32
  let v41 : BitVec 1 := Scalar.cmpi .ne v40 c0_i32_16
  v41

def k0_cond2 (i : grid0.Coords) : BitVec 1 :=
  let arg0 : BitVec 32 := BitVec.ofNat 32 (i 0).val
  let c0_i32 : BitVec 32 := 0#32
  let v39 : BitVec 1 := Scalar.cmpi .eq arg0 c0_i32
  let v_true : BitVec 1 := 1#1
  let v42 : BitVec 1 := Scalar.xori v39 v_true
  let v43 : BitVec 32 := Scalar.extui v42
  let c0_i32_17 : BitVec 32 := 0#32
  let v44 : BitVec 1 := Scalar.cmpi .ne v43 c0_i32_17
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference14Ideal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 46
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S256x2048, .f32⟩
  | .hbm, ⟨23, _⟩ => ⟨S_, .f32⟩
  | .hbm, ⟨24, _⟩ => ⟨S2048, .f32⟩
  | .hbm, ⟨25, _⟩ => ⟨S1x2048, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel15.lean ====
abbrev S4x1024x2048 : Shape := ⟨3, ![4, 1024, 2048]⟩
abbrev S4x256x2048 : Shape := ⟨3, ![4, 256, 2048]⟩
abbrev S4x48x256 : Shape := ⟨3, ![4, 48, 256]⟩
abbrev S4x128x256 : Shape := ⟨3, ![4, 128, 256]⟩
abbrev S4x1524x1024 : Shape := ⟨3, ![4, 1524, 1024]⟩
abbrev S1024x2048 : Shape := ⟨2, ![1024, 2048]⟩
abbrev S1x512x2048 : Shape := ⟨3, ![1, 512, 2048]⟩
abbrev S512x2048 : Shape := ⟨2, ![512, 2048]⟩
abbrev S256x2048 : Shape := ⟨2, ![256, 2048]⟩
abbrev S1x256x2048 : Shape := ⟨3, ![1, 256, 2048]⟩
abbrev S48x256 : Shape := ⟨2, ![48, 256]⟩
abbrev S1x48x256 : Shape := ⟨3, ![1, 48, 256]⟩
abbrev S128x256 : Shape := ⟨2, ![128, 256]⟩
abbrev S1x128x256 : Shape := ⟨3, ![1, 128, 256]⟩
abbrev S1524x1024 : Shape := ⟨2, ![1524, 1024]⟩
abbrev S1x1524x512 : Shape := ⟨3, ![1, 1524, 512]⟩
abbrev S1524x512 : Shape := ⟨2, ![1524, 512]⟩

abbrev nBuf : Space → Nat
  | .hbm => 10
  | .vmem => 35
  | .smem => 0
  | _ => 0

abbrev bufTy : (tb : Table) → Fin (tcTables nBuf tb) → BufTy
  | .hbm, ⟨0, _⟩ => ⟨S4x1024x2048, .bf16⟩
  | .hbm, ⟨1, _⟩ => ⟨S4x256x2048, .bf16⟩
  | .hbm, ⟨2, _⟩ => ⟨S4x48x256, .bf16⟩
  | .hbm, ⟨3, _⟩ => ⟨S4x128x256, .bf16⟩
  | .hbm, ⟨4, _⟩ => ⟨S4x1524x1024, .bf16⟩
  | .hbm, ⟨5, _⟩ => ⟨S1024x2048, .f32⟩
  | .hbm, ⟨6, _⟩ => ⟨S256x2048, .f32⟩
  | .hbm, ⟨7, _⟩ => ⟨S48x256, .f32⟩
  | .hbm, ⟨8, _⟩ => ⟨S128x256, .f32⟩
  | .hbm, ⟨9, _⟩ => ⟨S1524x1024, .f32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S1x256x2048, .bf16⟩
  | .local _ .vmem, ⟨11, _⟩ => ⟨S1x256x2048, .bf16⟩
  | .local _ .vmem, ⟨12, _⟩ => ⟨S1x256x2048, .bf16⟩
  | .local _ .vmem, ⟨13, _⟩ => ⟨S1x256x2048, .bf16⟩
  | .local _ .vmem, ⟨14, _⟩ => ⟨S256x2048, .f32⟩
  | .local _ .vmem, ⟨15, _⟩ => ⟨S1x48x256, .bf16⟩
  | .local _ .vmem, ⟨16, _⟩ => ⟨S1x48x256, .bf16⟩
  | .local _ .vmem, ⟨17, _⟩ => ⟨S1x48x256, .bf16⟩
  | .local _ .vmem, ⟨18, _⟩ => ⟨S1x48x256, .bf16⟩
  | .local _ .vmem, ⟨19, _⟩ => ⟨S48x256, .f32⟩
  | .local _ .vmem, ⟨20, _⟩ => ⟨S1x128x256, .bf16⟩
  | .local _ .vmem, ⟨21, _⟩ => ⟨S1x128x256, .bf16⟩
  | .local _ .vmem, ⟨22, _⟩ => ⟨S1x128x256, .bf16⟩
  | .local _ .vmem, ⟨23, _⟩ => ⟨S1x128x256, .bf16⟩
  | .local _ .vmem, ⟨24, _⟩ => ⟨S128x256, .f32⟩
  | .local _ .vmem, ⟨25, _⟩ => ⟨S1x1524x512, .bf16⟩
  | .local _ .vmem, ⟨26, _⟩ => ⟨S1x1524x512, .bf16⟩
  | .local _ .vmem, ⟨27, _⟩ => ⟨S1x1524x512, .bf16⟩
  | .local _ .vmem, ⟨28, _⟩ => ⟨S1x1524x512, .bf16⟩
  | .local _ .vmem, ⟨29, _⟩ => ⟨S1x1524x512, .bf16⟩
  | .local _ .vmem, ⟨30, _⟩ => ⟨S1x1524x512, .bf16⟩
  | .local _ .vmem, ⟨31, _⟩ => ⟨S1x1524x512, .bf16⟩
  | .local _ .vmem, ⟨32, _⟩ => ⟨S1x1524x512, .bf16⟩
  | .local _ .vmem, ⟨33, _⟩ => ⟨S1524x512, .f32⟩
  | .local _ .vmem, ⟨34, _⟩ => ⟨S1524x512, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc2_sem0_0 : DmaSem sig := 15
abbrev cc2_sem1_0 : DmaSem sig := 16
abbrev cc2_sem2_0 : DmaSem sig := 17
abbrev cc2_sem3_0 : DmaSem sig := 18
abbrev cc2_sem4_0 : DmaSem sig := 19
abbrev cc3_sem0_0 : DmaSem sig := 20
abbrev cc3_sem1_0 : DmaSem sig := 21
abbrev cc3_sem2_0 : DmaSem sig := 22
abbrev cc3_sem3_0 : DmaSem sig := 23
abbrev cc3_sem4_0 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem3_1 : DmaSem sig := 32
abbrev cc4_sem4_0 : DmaSem sig := 33
abbrev cc4_sem4_1 : DmaSem sig := 34

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc1_transform_2 (i : grid1.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc1_transform_3 (i : grid1.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S1x256x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x256x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x256x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, true]

abbrev stage1_3 : Fin 1 → Memref sig .tc .vmem S1x256x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, true]

abbrev stage1_4 : Fin 1 → Memref sig .tc .vmem S256x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![true, true]

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc2_transform_2 (i : grid2.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc2_transform_3 (i : grid2.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S1x48x256 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x48x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S1x48x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev stage2_3 : Fin 1 → Memref sig .tc .vmem S1x48x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, true]

abbrev stage2_4 : Fin 1 → Memref sig .tc .vmem S48x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![true, true]

abbrev grid3 : Pipeline.Grid := ⟨2, ![1, 1], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc3_transform_2 (i : grid3.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc3_transform_3 (i : grid3.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S1x128x256 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, true]

abbrev stage3_1 : Fin 1 → Memref sig .tc .vmem S1x128x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, true]

abbrev stage3_2 : Fin 1 → Memref sig .tc .vmem S1x128x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev stage3_3 : Fin 1 → Memref sig .tc .vmem S1x128x256 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, true]

abbrev stage3_4 : Fin 1 → Memref sig .tc .vmem S128x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true, true]

abbrev grid4 : Pipeline.Grid := ⟨2, ![1, 2], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc4_transform_1 (i : grid4.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc4_transform_2 (i : grid4.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg0.toNat, arg1.toNat]

def cc4_transform_3 (i : grid4.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![c3_i32.toNat, arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1x1524x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x1524x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x1524x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1x1524x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1524x512 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]
-- ==== Reference15Ideal.lean ====
abbrev S4x1024x2048 : Shape := ⟨3, ![4, 1024, 2048]⟩
abbrev S4x256x2048 : Shape := ⟨3, ![4, 256, 2048]⟩
abbrev S4x48x256 : Shape := ⟨3, ![4, 48, 256]⟩
abbrev S4x128x256 : Shape := ⟨3, ![4, 128, 256]⟩
abbrev S4x1524x1024 : Shape := ⟨3, ![4, 1524, 1024]⟩
abbrev S_ : Shape := ⟨0, ![]⟩
abbrev S1024x2048 : Shape := ⟨2, ![1024, 2048]⟩
abbrev S256x2048 : Shape := ⟨2, ![256, 2048]⟩
abbrev S48x256 : Shape := ⟨2, ![48, 256]⟩
abbrev S128x256 : Shape := ⟨2, ![128, 256]⟩
abbrev S1524x1024 : Shape := ⟨2, ![1524, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S4x256x2048, .bf16⟩
  | .hbm, ⟨2, _⟩ => ⟨S4x48x256, .bf16⟩
  | .hbm, ⟨3, _⟩ => ⟨S4x128x256, .bf16⟩
  | .hbm, ⟨4, _⟩ => ⟨S4x1524x1024, .bf16⟩
  | .hbm, ⟨5, _⟩ => ⟨S4x1024x2048, .f32⟩
  | .hbm, ⟨6, _⟩ => ⟨S_, .f32⟩
  | .hbm, ⟨7, _⟩ => ⟨S1024x2048, .f32⟩
  | .hbm, ⟨8, _⟩ => ⟨S4x256x2048, .f32⟩
  | .hbm, ⟨9, _⟩ => ⟨S_, .f32⟩
  | .hbm, ⟨10, _⟩ => ⟨S256x2048, .f32⟩
  | .hbm, ⟨11, _⟩ => ⟨S4x48x256, .f32⟩
  | .hbm, ⟨12, _⟩ => ⟨S_, .f32⟩
  | .hbm, ⟨13, _⟩ => ⟨S48x256, .f32⟩
  | .hbm, ⟨14, _⟩ => ⟨S4x128x256, .f32⟩
  | .hbm, ⟨15, _⟩ => ⟨S_, .f32⟩
  | .hbm, ⟨16, _⟩ => ⟨S128x256, .f32⟩
  | .hbm, ⟨17, _⟩ => ⟨S4x1524x1024, .f32⟩
  | .hbm, ⟨18, _⟩ => ⟨S_, .f32⟩
  | .hbm, ⟨19, _⟩ => ⟨S1524x1024, .f32⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel16.lean ====
abbrev S4096x1024 : Shape := ⟨2, ![4096, 1024]⟩
abbrev S4096x1536 : Shape := ⟨2, ![4096, 1536]⟩
abbrev S1x16 : Shape := ⟨2, ![1, 16]⟩
abbrev S1x1024 : Shape := ⟨2, ![1, 1024]⟩
abbrev S_ : Shape := ⟨0, ![]⟩
abbrev S1x128 : Shape := ⟨2, ![1, 128]⟩
abbrev S256x1024 : Shape := ⟨2, ![256, 1024]⟩
abbrev S8x128 : Shape := ⟨2, ![8, 128]⟩
abbrev S128x1024 : Shape := ⟨2, ![128, 1024]⟩
abbrev S8x1024 : Shape := ⟨2, ![8, 1024]⟩
abbrev S1024 : Shape := ⟨1, ![1024]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .f32⟩
  | .hbm, ⟨3, _⟩ => ⟨S1x16, .f32⟩
  | .hbm, ⟨4, _⟩ => ⟨S1x1024, .f32⟩
  | .hbm, ⟨5, _⟩ => ⟨S_, .i32⟩
  | .hbm, ⟨6, _⟩ => ⟨S_, .f32⟩
  | .hbm, ⟨7, _⟩ => ⟨S1x128, .f32⟩
  | .hbm, ⟨8, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S4096x1024 : Shape := ⟨2, ![4096, 1024]⟩
abbrev S4096x1536 : Shape := ⟨2, ![4096, 1536]⟩
abbrev S1x16 : Shape := ⟨2, ![1, 16]⟩
abbrev S1x1024 : Shape := ⟨2, ![1, 1024]⟩
abbrev S4096x16x64 : Shape := ⟨3, ![4096, 16, 64]⟩
abbrev S16x1 : Shape := ⟨2, ![16, 1]⟩
abbrev S1x16x1 : Shape := ⟨3, ![1, 16, 1]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .f32⟩
  | .hbm, ⟨3, _⟩ => ⟨S1x16, .f32⟩
  | .hbm, ⟨4, _⟩ => ⟨S1x1024, .f32⟩
  | .hbm, ⟨5, _⟩ => ⟨S4096x1024, .f32⟩
  | .hbm, ⟨6, _⟩ => ⟨S4096x16x64, .f32⟩
  | .hbm, ⟨7, _⟩ => ⟨S4096x16x64, .f32⟩
  | .hbm, ⟨8, _⟩ => ⟨S16x1, .f32⟩
  | .hbm, ⟨9, _⟩ => ⟨S1x16x1, .f32⟩
  | .hbm, ⟨10, _⟩ => ⟨S4096x16x64, .f32⟩
  | .hbm, ⟨11, _⟩ => ⟨S4096x16x64, .f32⟩
  | .hbm, ⟨12, _⟩ => ⟨S4096x16x64, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x2x512, .f32⟩
  | .hbm, ⟨25, _⟩ => ⟨S4096x2x512, .f32⟩
  | .hbm, ⟨26, _⟩ => ⟨S_, .f32⟩
  | .hbm, ⟨27, _⟩ => ⟨S4096x2, .f32⟩
  | .hbm, ⟨28, _⟩ => ⟨S4096x2x1, .f32⟩
  | .hbm, ⟨29, _⟩ => ⟨S_, .f32⟩
  | .hbm, ⟨30, _⟩ => ⟨S4096x2x1, .f32⟩
  | .hbm, ⟨31, _⟩ => ⟨S4096x2x1, .f32⟩
  | .hbm, ⟨32, _⟩ => ⟨S_, .f32⟩
  | .hbm, ⟨33, _⟩ => ⟨S4096x2x1, .f32⟩
  | .hbm, ⟨34, _⟩ => ⟨S4096x2x1, .f32⟩
  | .hbm, ⟨35, _⟩ => ⟨S4096x2x1, .f32⟩
  | .hbm, ⟨36, _⟩ => ⟨S4096x2x512, .f32⟩
  | .hbm, ⟨37, _⟩ => ⟨S4096x2x512, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel17.lean ====
abbrev S4096x1024 : Shape := ⟨2, ![4096, 1024]⟩
abbrev S16x64 : Shape := ⟨2, ![16, 64]⟩
abbrev S1x1024 : Shape := ⟨2, ![1, 1024]⟩
abbrev S256x1024 : Shape := ⟨2, ![256, 1024]⟩
abbrev S1024x128 : Shape := ⟨2, ![1024, 128]⟩
abbrev S256x128 : Shape := ⟨2, ![256, 128]⟩
abbrev S128x1024 : Shape := ⟨2, ![128, 1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S16x64, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S4096x1024 : Shape := ⟨2, ![4096, 1024]⟩
abbrev S16x64 : Shape := ⟨2, ![16, 64]⟩
abbrev S1x1024 : Shape := ⟨2, ![1, 1024]⟩
abbrev S4096x16x64 : Shape := ⟨3, ![4096, 16, 64]⟩
abbrev S_ : Shape := ⟨0, ![]⟩
abbrev S4096x16 : Shape := ⟨2, ![4096, 16]⟩
abbrev S4096x16x1 : Shape := ⟨3, ![4096, 16, 1]⟩
abbrev S1x16x64 : Shape := ⟨3, ![1, 16, 64]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S16x64, .f32⟩
  | .hbm, ⟨6, _⟩ => ⟨S1x1024, .f32⟩
  | .hbm, ⟨7, _⟩ => ⟨S1x1024, .f32⟩
  | .hbm, ⟨8, _⟩ => ⟨S4096x16x64, .f32⟩
  | .hbm, ⟨9, _⟩ => ⟨S4096x16x64, .f32⟩
  | .hbm, ⟨10, _⟩ => ⟨S4096x16x64, .f32⟩
  | .hbm, ⟨11, _⟩ => ⟨S4096x16x64, .f32⟩
  | .hbm, ⟨12, _⟩ => ⟨S_, .f32⟩
  | .hbm, ⟨13, _⟩ => ⟨S4096x16, .f32⟩
  | .hbm, ⟨14, _⟩ => ⟨S4096x16x1, .f32⟩
  | .hbm, ⟨15, _⟩ => ⟨S_, .f32⟩
  | .hbm, ⟨16, _⟩ => ⟨S4096x16x1, .f32⟩
  | .hbm, ⟨17, _⟩ => ⟨S4096x16x1, .f32⟩
  | .hbm, ⟨18, _⟩ => ⟨S4096x16x64, .f32⟩
  | .hbm, ⟨19, _⟩ => ⟨S4096x16x64, .f32⟩
  | .hbm, ⟨20, _⟩ => ⟨S4096x16x64, .f32⟩
  | .hbm, ⟨21, _⟩ => ⟨S_, .f32⟩
  | .hbm, ⟨22, _⟩ => ⟨S4096x16, .f32⟩
  | .hbm, ⟨23, _⟩ => ⟨S4096x16x1, .f32⟩
  | .hbm, ⟨24, _⟩ => ⟨S_, .f32⟩
  | .hbm, ⟨25, _⟩ => ⟨S4096x16x1, .f32⟩
  | .hbm, ⟨26, _⟩ => ⟨S4096x16x1, .f32⟩
  | .hbm, ⟨27, _⟩ => ⟨S4096x16x64, .f32⟩
  | .hbm, ⟨28, _⟩ => ⟨S4096x16x64, .f32⟩
  | .hbm, ⟨29, _⟩ => ⟨S_, .f32⟩
  | .hbm, ⟨30, _⟩ => ⟨S4096x16x1, .f32⟩
  | .hbm, ⟨31, _⟩ => ⟨S4096x16x1, .f32⟩
  | .hbm, ⟨32, _⟩ => ⟨S4096x16x1, .f32⟩
  | .hbm, ⟨33, _⟩ => ⟨S4096x16x64, .f32⟩
  | .hbm, ⟨34, _⟩ => ⟨S4096x16x64, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x16x64, .f32⟩
  | .hbm, ⟨41, _⟩ => ⟨S1x16x64, .f32⟩
  | .hbm, ⟨42, _⟩ => ⟨S4096x16x64, .f32⟩
  | .hbm, ⟨43, _⟩ => ⟨S4096x16x64, .f32⟩
  | .hbm, ⟨44, _⟩ => ⟨S_, .f32⟩
  | .hbm, ⟨45, _⟩ => ⟨S4096x16, .f32⟩
  | .hbm, ⟨46, _⟩ => ⟨S4096x16x1, .f32⟩
  | .hbm, ⟨47, _⟩ => ⟨S4096x16x64, .f32⟩
  | .hbm, ⟨48, _⟩ => ⟨S4096x16x64, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel18.lean ====
abbrev S4096x1536 : Shape := ⟨2, ![4096, 1536]⟩
abbrev S4096x128 : Shape := ⟨2, ![4096, 128]⟩
abbrev S4x1536 : Shape := ⟨2, ![4, 1536]⟩
abbrev S1x1536 : Shape := ⟨2, ![1, 1536]⟩
abbrev S1x16 : Shape := ⟨2, ![1, 16]⟩
abbrev S_ : Shape := ⟨0, ![]⟩
abbrev S1x128 : Shape := ⟨2, ![1, 128]⟩
abbrev S32x128x1536 : Shape := ⟨3, ![32, 128, 1536]⟩
abbrev S32x8x1536 : Shape := ⟨3, ![32, 8, 1536]⟩
abbrev S1x8x1536 : Shape := ⟨3, ![1, 8, 1536]⟩
abbrev S31x8x1536 : Shape := ⟨3, ![31, 8, 1536]⟩
abbrev S256x1536 : Shape := ⟨2, ![256, 1536]⟩
abbrev S128x1536 : Shape := ⟨2, ![128, 1536]⟩
abbrev S8x1536 : Shape := ⟨2, ![8, 1536]⟩
abbrev S128x128 : Shape := ⟨2, ![128, 128]⟩
abbrev S8x1 : Shape := ⟨2, ![8, 1]⟩
abbrev S120x1536 : Shape := ⟨2, ![120, 1536]⟩

abbrev nBuf : Space → Nat
  | .hbm => 21
  | .vmem => 16
  | .smem => 0
  | _ => 0

abbrev bufTy : (tb : Table) → Fin (tcTables nBuf tb) → BufTy
  | .hbm, ⟨0, _⟩ => ⟨S4096x1536, .f32⟩
  | .hbm, ⟨1, _⟩ => ⟨S4096x128, .f32⟩
  | .hbm, ⟨2, _⟩ => ⟨S4x1536, .f32⟩
  | .hbm, ⟨3, _⟩ => ⟨S1x1536, .f32⟩
  | .hbm, ⟨4, _⟩ => ⟨S1x16, .f32⟩
  | .hbm, ⟨5, _⟩ => ⟨S1x1536, .f32⟩
  | .hbm, ⟨6, _⟩ => ⟨S1x1536, .f32⟩
  | .hbm, ⟨7, _⟩ => ⟨S1x1536, .f32⟩
  | .hbm, ⟨8, _⟩ => ⟨S1x1536, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S32x128x1536, .f32⟩
  | .hbm, ⟨13, _⟩ => ⟨S32x8x1536, .f32⟩
  | .hbm, ⟨14, _⟩ => ⟨S_, .f32⟩
  | .hbm, ⟨15, _⟩ => ⟨S1x8x1536, .f32⟩
  | .hbm, ⟨16, _⟩ => ⟨S31x8x1536, .f32⟩
  | .hbm, ⟨17, _⟩ => ⟨S32x8x1536, .f32⟩
  | .hbm, ⟨18, _⟩ => ⟨S256x1536, .f32⟩
  | .hbm, ⟨19, _⟩ => ⟨S4096x1536, .f32⟩
  | .hbm, ⟨20, _⟩ => ⟨S4096x128, .f32⟩
  | .local _ .vmem, ⟨0, _⟩ => ⟨S128x1536, .f32⟩
  | .local _ .vmem, ⟨1, _⟩ => ⟨S128x1536, .f32⟩
  | .local _ .vmem, ⟨2, _⟩ => ⟨S8x1536, .f32⟩
  | .local _ .vmem, ⟨3, _⟩ => ⟨S8x1536, .f32⟩
  | .local _ .vmem, ⟨4, _⟩ => ⟨S128x128, .f32⟩
  | .local _ .vmem, ⟨5, _⟩ => ⟨S128x128, .f32⟩
  | .local _ .vmem, ⟨6, _⟩ => ⟨S1x1536, .f32⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S1x1536, .f32⟩
  | .local _ .vmem, ⟨11, _⟩ => ⟨S1x128, .f32⟩
  | .local _ .vmem, ⟨12, _⟩ => ⟨S128x1536, .f32⟩
  | .local _ .vmem, ⟨13, _⟩ => ⟨S128x1536, .f32⟩
  | .local _ .vmem, ⟨14, _⟩ => ⟨S128x128, .f32⟩
  | .local _ .vmem, ⟨15, _⟩ => ⟨S128x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference18Ideal.lean ====
abbrev S4096x1536 : Shape := ⟨2, ![4096, 1536]⟩
abbrev S4096x128 : Shape := ⟨2, ![4096, 128]⟩
abbrev S4x1536 : Shape := ⟨2, ![4, 1536]⟩
abbrev S1x1536 : Shape := ⟨2, ![1, 1536]⟩
abbrev S1x16 : Shape := ⟨2, ![1, 16]⟩
abbrev S_ : Shape := ⟨0, ![]⟩
abbrev S4099x1536 : Shape := ⟨2, ![4099, 1536]⟩
abbrev S1536 : Shape := ⟨1, ![1536]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x128, .f32⟩
  | .hbm, ⟨2, _⟩ => ⟨S4x1536, .f32⟩
  | .hbm, ⟨3, _⟩ => ⟨S1x1536, .f32⟩
  | .hbm, ⟨4, _⟩ => ⟨S1x16, .f32⟩
  | .hbm, ⟨5, _⟩ => ⟨S_, .i32⟩
  | .hbm, ⟨6, _⟩ => ⟨S_, .f32⟩
  | .hbm, ⟨7, _⟩ => ⟨S4099x1536, .f32⟩
  | .hbm, ⟨8, _⟩ => ⟨S1x1536, .f32⟩
  | .hbm, ⟨9, _⟩ => ⟨S1536, .f32⟩
  | .hbm, ⟨10, _⟩ => ⟨S4096x1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S_, .f32⟩
  | .hbm, ⟨15, _⟩ => ⟨S4096x1536, .f32⟩
  | .hbm, ⟨16, _⟩ => ⟨S4096x1536, .f32⟩
  | .hbm, ⟨17, _⟩ => ⟨S1x1536, .f32⟩
  | .hbm, ⟨18, _⟩ => ⟨S1536, .f32⟩
  | .hbm, ⟨19, _⟩ => ⟨S4096x1536, .f32⟩
  | .hbm, ⟨20, _⟩ => ⟨S1x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S1x1536, .f32⟩
  | .hbm, ⟨25, _⟩ => ⟨S1536, .f32⟩
  | .hbm, ⟨26, _⟩ => ⟨S4096x1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S1x1536, .f32⟩
  | .hbm, ⟨32, _⟩ => ⟨S1536, .f32⟩
  | .hbm, ⟨33, _⟩ => ⟨S4096x1536, .f32⟩
  | .hbm, ⟨34, _⟩ => ⟨S1x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S_, .f32⟩
  | .hbm, ⟨43, _⟩ => ⟨S4096x1536, .f32⟩
  | .hbm, ⟨44, _⟩ => ⟨S4096x1536, .f32⟩
  | .hbm, ⟨45, _⟩ => ⟨S_, .f32⟩
  | .hbm, ⟨46, _⟩ => ⟨S4096x1536, .f32⟩
  | .hbm, ⟨47, _⟩ => ⟨S4096x1536, .f32⟩
  | .hbm, ⟨48, _⟩ => ⟨S4096x1536, .f32⟩
  | .hbm, ⟨49, _⟩ => ⟨S_, .i32⟩
  | .hbm, ⟨50, _⟩ => ⟨S_, .f32⟩
  | .hbm, ⟨51, _⟩ => ⟨S1x128, .f32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S4096x128, .f32⟩
  | .hbm, ⟨56, _⟩ => ⟨S4096x128, .f32⟩
  | .hbm, ⟨57, _⟩ => ⟨S4096x128, .f32⟩
  | .hbm, ⟨58, _⟩ => ⟨S4096x128, .f32⟩
  | .hbm, ⟨59, _⟩ => ⟨S4096x128, .i1⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S4096x128, .f32⟩
  | .hbm, ⟨67, _⟩ => ⟨S4096x128, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v32 : Ref sig .tc := ⟨.hbm, 48, rfl⟩
abbrev main_c_0 : Ref sig .tc := ⟨.hbm, 49, rfl⟩
abbrev main_call2_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call3_cst : Ref sig .tc := ⟨.hbm, 54, rfl⟩
abbrev main_call3_v0 : Ref sig .tc := ⟨.hbm, 55, rfl⟩
abbrev main_call3_v1 : Ref sig .tc := ⟨.hbm, 56, rfl⟩
abbrev main_call3_v2 : Ref sig .tc := ⟨.hbm, 57, rfl⟩
abbrev main_call3_v3 : Ref sig .tc := ⟨.hbm, 58, rfl⟩
abbrev main_call3_v4 : Ref sig .tc := ⟨.hbm, 59, rfl⟩
abbrev main_call3_v5 : Ref sig .tc := ⟨.hbm, 60, rfl⟩
abbrev main_call3_v6 : Ref sig .tc := ⟨.hbm, 61, rfl⟩
abbrev main_call3_v7 : Ref sig .tc := ⟨.hbm, 62, rfl⟩
abbrev main_call3_v8 : Ref sig .tc := ⟨.hbm, 63, rfl⟩
abbrev main_call3_v9 : Ref sig .tc := ⟨.hbm, 64, rfl⟩
abbrev main_call3_v10 : Ref sig .tc := ⟨.hbm, 65, rfl⟩
abbrev main_call3_v11 : Ref sig .tc := ⟨.hbm, 66, rfl⟩
abbrev main_v36 : Ref sig .tc := ⟨.hbm, 67, rfl⟩

abbrev nD : Nat := 1
abbrev τ : Topo := Topo.v7x

variable {F : FTy → Type} [FloatOps F]
-- ==== Kernel19.lean ====
abbrev S4096x3072 : Shape := ⟨2, ![4096, 3072]⟩
abbrev S4096x512 : Shape := ⟨2, ![4096, 512]⟩
abbrev S1x3520 : Shape := ⟨2, ![1, 3520]⟩
abbrev S1x1024 : Shape := ⟨2, ![1, 1024]⟩
abbrev S96x1024 : Shape := ⟨2, ![96, 1024]⟩
abbrev S256x1024 : Shape := ⟨2, ![256, 1024]⟩
abbrev S1x3072 : Shape := ⟨2, ![1, 3072]⟩
abbrev S1x96 : Shape := ⟨2, ![1, 96]⟩
abbrev S_ : Shape := ⟨0, ![]⟩
abbrev S1x128 : Shape := ⟨2, ![1, 128]⟩
abbrev S1x256 : Shape := ⟨2, ![1, 256]⟩
abbrev S1x512 : Shape := ⟨2, ![1, 512]⟩
abbrev S128x1024 : Shape := ⟨2, ![128, 1024]⟩
abbrev S32x128x3072 : Shape := ⟨3, ![32, 128, 3072]⟩
abbrev S32x8x3072 : Shape := ⟨3, ![32, 8, 3072]⟩
abbrev S1x8x3072 : Shape := ⟨3, ![1, 8, 3072]⟩
abbrev S31x8x3072 : Shape := ⟨3, ![31, 8, 3072]⟩
abbrev S256x3072 : Shape := ⟨2, ![256, 3072]⟩
abbrev S32x128x512 : Shape := ⟨3, ![32, 128, 512]⟩
abbrev S32x8x512 : Shape := ⟨3, ![32, 8, 512]⟩
abbrev S1x8x512 : Shape := ⟨3, ![1, 8, 512]⟩
abbrev S31x8x512 : Shape := ⟨3, ![31, 8, 512]⟩
abbrev S256x512 : Shape := ⟨2, ![256, 512]⟩
abbrev S4096x1024 : Shape := ⟨2, ![4096, 1024]⟩
abbrev S128x3072 : Shape := ⟨2, ![128, 3072]⟩
abbrev S128x512 : Shape := ⟨2, ![128, 512]⟩
abbrev S8x3072 : Shape := ⟨2, ![8, 3072]⟩
abbrev S8x512 : Shape := ⟨2, ![8, 512]⟩
abbrev S8x1 : Shape := ⟨2, ![8, 1]⟩
abbrev S120x3072 : Shape := ⟨2, ![120, 3072]⟩
abbrev S120x512 : Shape := ⟨2, ![120, 512]⟩
abbrev S128x128 : Shape := ⟨2, ![128, 128]⟩
abbrev S128x256 : Shape := ⟨2, ![128, 256]⟩
abbrev S1024x128 : Shape := ⟨2, ![1024, 128]⟩

abbrev nBuf : Space → Nat
  | .hbm => 48
  | .vmem => 31
  | .smem => 0
  | _ => 0

abbrev bufTy : (tb : Table) → Fin (tcTables nBuf tb) → BufTy
  | .hbm, ⟨0, _⟩ => ⟨S4096x3072, .f32⟩
  | .hbm, ⟨1, _⟩ => ⟨S4096x512, .f32⟩
  | .hbm, ⟨2, _⟩ => ⟨S1x3520, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S96x1024, .f32⟩
  | .hbm, ⟨8, _⟩ => ⟨S96x1024, .f32⟩
  | .hbm, ⟨9, _⟩ => ⟨S256x1024, .f32⟩
  | .hbm, ⟨10, _⟩ => ⟨S1x3072, .f32⟩
  | .hbm, ⟨11, _⟩ => ⟨S1x96, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S1x96, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S1x256, .f32⟩
  | .hbm, ⟨20, _⟩ => ⟨S1x512, .f32⟩
  | .hbm, ⟨21, _⟩ => ⟨S_, .i32⟩
  | .hbm, ⟨22, _⟩ => ⟨S_, .f32⟩
  | .hbm, ⟨23, _⟩ => ⟨S128x1024, .f32⟩
  | .hbm, ⟨24, _⟩ => ⟨S_, .i32⟩
  | .hbm, ⟨25, _⟩ => ⟨S_, .f32⟩
  | .hbm, ⟨26, _⟩ => ⟨S128x1024, .f32⟩
  | .hbm, ⟨27, _⟩ => ⟨S32x128x3072, .f32⟩
  | .hbm, ⟨28, _⟩ => ⟨S32x8x3072, .f32⟩
  | .hbm, ⟨29, _⟩ => ⟨S_, .f32⟩
  | .hbm, ⟨30, _⟩ => ⟨S1x8x3072, .f32⟩
  | .hbm, ⟨31, _⟩ => ⟨S31x8x3072, .f32⟩
  | .hbm, ⟨32, _⟩ => ⟨S32x8x3072, .f32⟩
  | .hbm, ⟨33, _⟩ => ⟨S256x3072, .f32⟩
  | .hbm, ⟨34, _⟩ => ⟨S32x128x512, .f32⟩
  | .hbm, ⟨35, _⟩ => ⟨S32x8x512, .f32⟩
  | .hbm, ⟨36, _⟩ => ⟨S_, .f32⟩
  | .hbm, ⟨37, _⟩ => ⟨S1x8x512, .f32⟩
  | .hbm, ⟨38, _⟩ => ⟨S31x8x512, .f32⟩
  | .hbm, ⟨39, _⟩ => ⟨S32x8x512, .f32⟩
  | .hbm, ⟨40, _⟩ => ⟨S256x512, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .local _ .vmem, ⟨0, _⟩ => ⟨S128x3072, .f32⟩
  | .local _ .vmem, ⟨1, _⟩ => ⟨S128x3072, .f32⟩
  | .local _ .vmem, ⟨2, _⟩ => ⟨S128x512, .f32⟩
  | .local _ .vmem, ⟨3, _⟩ => ⟨S128x512, .f32⟩
  | .local _ .vmem, ⟨4, _⟩ => ⟨S8x3072, .f32⟩
  | .local _ .vmem, ⟨5, _⟩ => ⟨S8x3072, .f32⟩
  | .local _ .vmem, ⟨6, _⟩ => ⟨S8x512, .f32⟩
  | .local _ .vmem, ⟨7, _⟩ => ⟨S8x512, .f32⟩
  | .local _ .vmem, ⟨8, _⟩ => ⟨S1x3072, .f32⟩
  | .local _ .vmem, ⟨9, _⟩ => ⟨S1x512, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S128x1024, .f32⟩
  | .local _ .vmem, ⟨15, _⟩ => ⟨S128x1024, .f32⟩
  | .local _ .vmem, ⟨16, _⟩ => ⟨S256x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_call2_v0 : Ref sig .tc := ⟨.hbm, 22, rfl⟩
abbrev main_v7 : Ref sig .tc := ⟨.hbm, 23, rfl⟩
abbrev main_c_2 : Ref sig .tc := ⟨.hbm, 24, rfl⟩
abbrev main_call3_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21_0 : Ref sig .tc := ⟨.hbm, 41, rfl⟩
abbrev main_v21_1 : Ref sig .tc := ⟨.hbm, 42, rfl⟩
abbrev main_v21_2 : Ref sig .tc := ⟨.hbm, 43, rfl⟩
abbrev main_v21_3 : Ref sig .tc := ⟨.hbm, 44, rfl⟩
abbrev main_v21_4 : Ref sig .tc := ⟨.hbm, 45, rfl⟩
abbrev main_v21_5 : Ref sig .tc := ⟨.hbm, 46, rfl⟩
abbrev main_v21_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference19Ideal.lean ====
abbrev S4096x3072 : Shape := ⟨2, ![4096, 3072]⟩
abbrev S4096x512 : Shape := ⟨2, ![4096, 512]⟩
abbrev S1x3520 : Shape := ⟨2, ![1, 3520]⟩
abbrev S1x1024 : Shape := ⟨2, ![1, 1024]⟩
abbrev S96x1024 : Shape := ⟨2, ![96, 1024]⟩
abbrev S256x1024 : Shape := ⟨2, ![256, 1024]⟩
abbrev S4096x96 : Shape := ⟨2, ![4096, 96]⟩
abbrev S4096x256 : Shape := ⟨2, ![4096, 256]⟩
abbrev S4096x3520 : Shape := ⟨2, ![4096, 3520]⟩
abbrev S_ : Shape := ⟨0, ![]⟩
abbrev S4097x3520 : Shape := ⟨2, ![4097, 3520]⟩
abbrev S4096x1024 : Shape := ⟨2, ![4096, 1024]⟩
abbrev S4096x16x64 : Shape := ⟨3, ![4096, 16, 64]⟩
abbrev S4096x16 : Shape := ⟨2, ![4096, 16]⟩
abbrev S4096x16x1 : Shape := ⟨3, ![4096, 16, 1]⟩

abbrev nBuf : Space → Nat
  | .hbm => 98
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x512, .f32⟩
  | .hbm, ⟨2, _⟩ => ⟨S1x3520, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S96x1024, .f32⟩
  | .hbm, ⟨8, _⟩ => ⟨S96x1024, .f32⟩
  | .hbm, ⟨9, _⟩ => ⟨S256x1024, .f32⟩
  | .hbm, ⟨10, _⟩ => ⟨S4096x96, .f32⟩
  | .hbm, ⟨11, _⟩ => ⟨S4096x96, .f32⟩
  | .hbm, ⟨12, _⟩ => ⟨S4096x256, .f32⟩
  | .hbm, ⟨13, _⟩ => ⟨S4096x3520, .f32⟩
  | .hbm, ⟨14, _⟩ => ⟨S_, .i32⟩
  | .hbm, ⟨15, _⟩ => ⟨S_, .f32⟩
  | .hbm, ⟨16, _⟩ => ⟨S4097x3520, .f32⟩
  | .hbm, ⟨17, _⟩ => ⟨S4096x3520, .f32⟩
  | .hbm, ⟨18, _⟩ => ⟨S4096x3520, .f32⟩
  | .hbm, ⟨19, _⟩ => ⟨S4096x3520, .f32⟩
  | .hbm, ⟨20, _⟩ => ⟨S4096x3520, .f32⟩
  | .hbm, ⟨21, _⟩ => ⟨S4096x3520, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x96, .f32⟩
  | .hbm, ⟨26, _⟩ => ⟨S4096x96, .f32⟩
  | .hbm, ⟨27, _⟩ => ⟨S4096x256, .f32⟩
  | .hbm, ⟨28, _⟩ => ⟨S4096x96, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .i1⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x256, .f32⟩
  | .hbm, ⟨63, _⟩ => ⟨S4096x256, .f32⟩
  | .hbm, ⟨64, _⟩ => ⟨S_, .f32⟩
  | .hbm, ⟨65, _⟩ => ⟨S4096x256, .f32⟩
  | .hbm, ⟨66, _⟩ => ⟨S4096x256, .f32⟩
  | .hbm, ⟨67, _⟩ => ⟨S_, .f32⟩
  | .hbm, ⟨68, _⟩ => ⟨S4096x256, .f32⟩
  | .hbm, ⟨69, _⟩ => ⟨S4096x256, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x16x64, .f32⟩
  | .hbm, ⟨74, _⟩ => ⟨S4096x16x64, .f32⟩
  | .hbm, ⟨75, _⟩ => ⟨S_, .f32⟩
  | .hbm, ⟨76, _⟩ => ⟨S4096x16, .f32⟩
  | .hbm, ⟨77, _⟩ => ⟨S4096x16x1, .f32⟩
  | .hbm, ⟨78, _⟩ => ⟨S4096x16x1, .f32⟩
  | .hbm, ⟨79, _⟩ => ⟨S_, .f32⟩
  | .hbm, ⟨80, _⟩ => ⟨S4096x16x1, .f32⟩
  | .hbm, ⟨81, _⟩ => ⟨S4096x16x1, .f32⟩
  | .hbm, ⟨82, _⟩ => ⟨S4096x16x64, .f32⟩
  | .hbm, ⟨83, _⟩ => ⟨S4096x16x64, .f32⟩
  | .hbm, ⟨84, _⟩ => ⟨S4096x1024, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v21 : Ref sig .tc := ⟨.hbm, 46, rfl⟩
abbrev main_v22 : Ref sig .tc := ⟨.hbm, 47, rfl⟩
abbrev main_cst : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_0 : Ref sig .tc := ⟨.hbm, 56, rfl⟩
abbrev main_v30 : Ref sig .tc := ⟨.hbm, 57, rfl⟩
abbrev main_v31 : Ref sig .tc := ⟨.hbm, 58, rfl⟩
abbrev main_cst_1 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_4 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_5 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_7 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩

abbrev nD : Nat := 1
abbrev τ : Topo := Topo.v7x

variable {F : FTy → Type} [FloatOps F]
-- ==== Kernel20.lean ====
abbrev S_ : Shape := ⟨0, ![]⟩
abbrev S4x1524x2048 : Shape := ⟨3, ![4, 1524, 2048]⟩
abbrev S4x1524x1024 : Shape := ⟨3, ![4, 1524, 1024]⟩
abbrev S1 : Shape := ⟨1, ![1]⟩
abbrev S1x1524x512 : Shape := ⟨3, ![1, 1524, 512]⟩
abbrev S1524x512 : Shape := ⟨2, ![1524, 512]⟩

abbrev nBuf : Space → Nat
  | .hbm => 4
  | .vmem => 6
  | .smem => 1
  | _ => 0

abbrev bufTy : (tb : Table) → Fin (tcTables nBuf tb) → BufTy
  | .hbm, ⟨0, _⟩ => ⟨S_, .i32⟩
  | .hbm, ⟨1, _⟩ => ⟨S4x1524x2048, .f32⟩
  | .hbm, ⟨2, _⟩ => ⟨S4x1524x1024, .bf16⟩
  | .hbm, ⟨3, _⟩ => ⟨S4x1524x1024, .bf16⟩
  | .local _ .vmem, ⟨0, _⟩ => ⟨S1x1524x512, .f32⟩
  | .local _ .vmem, ⟨1, _⟩ => ⟨S1x1524x512, .f32⟩
  | .local _ .vmem, ⟨2, _⟩ => ⟨S1x1524x512, .bf16⟩
  | .local _ .vmem, ⟨3, _⟩ => ⟨S1x1524x512, .bf16⟩
  | .local _ .vmem, ⟨4, _⟩ => ⟨S1x1524x512, .bf16⟩
  | .local _ .vmem, ⟨5, _⟩ => ⟨S1x1524x512, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg2
  let c0_i32 : BitVec 32 := 0#32
  ![arg0.toNat, arg1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1524x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1524x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1524x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference20Ideal.lean ====
abbrev S_ : Shape := ⟨0, ![]⟩
abbrev S4x1524x2048 : Shape := ⟨3, ![4, 1524, 2048]⟩
abbrev S4x1524x1024 : Shape := ⟨3, ![4, 1524, 1024]⟩

abbrev nBuf : Space → Nat
  | .hbm => 11
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x1524x2048, .f32⟩
  | .hbm, ⟨2, _⟩ => ⟨S4x1524x1024, .bf16⟩
  | .hbm, ⟨3, _⟩ => ⟨S_, .i32⟩
  | .hbm, ⟨4, _⟩ => ⟨S_, .i1⟩
  | .hbm, ⟨5, _⟩ => ⟨S4x1524x1024, .f32⟩
  | .hbm, ⟨6, _⟩ => ⟨S4x1524x1024, .f32⟩
  | .hbm, ⟨7, _⟩ => ⟨S4x1524x1024, .f32⟩
  | .hbm, ⟨8, _⟩ => ⟨S4x1524x1024, .f32⟩
  | .hbm, ⟨9, _⟩ => ⟨S4x1524x1024, .f32⟩
  | .hbm, ⟨10, _⟩ => ⟨S4x1524x1024, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel21.lean ====
abbrev S_ : Shape := ⟨0, ![]⟩
abbrev S4x2048x2048 : Shape := ⟨3, ![4, 2048, 2048]⟩
abbrev S1 : Shape := ⟨1, ![1]⟩
abbrev S4x1024x2048 : Shape := ⟨3, ![4, 1024, 2048]⟩
abbrev S1x512x2048 : Shape := ⟨3, ![1, 512, 2048]⟩
abbrev S512x2048 : Shape := ⟨2, ![512, 2048]⟩

abbrev nBuf : Space → Nat
  | .hbm => 3
  | .vmem => 4
  | .smem => 1
  | _ => 0

abbrev bufTy : (tb : Table) → Fin (tcTables nBuf tb) → BufTy
  | .hbm, ⟨0, _⟩ => ⟨S_, .i32⟩
  | .hbm, ⟨1, _⟩ => ⟨S4x2048x2048, .f32⟩
  | .hbm, ⟨2, _⟩ => ⟨S4x1024x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x512x2048, .bf16⟩
  | .local _ .vmem, ⟨3, _⟩ => ⟨S1x512x2048, .bf16⟩
  | .local _ .smem, ⟨0, _⟩ => ⟨S1, .i32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![4, 2, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg1
  let c0_i32 : BitVec 32 := 0#32
  ![arg0.toNat, v2.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]
-- ==== Reference21Ideal.lean ====
abbrev S_ : Shape := ⟨0, ![]⟩
abbrev S4x2048x2048 : Shape := ⟨3, ![4, 2048, 2048]⟩
abbrev S4x1024x2048 : Shape := ⟨3, ![4, 1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S_, .i32⟩
  | .hbm, ⟨1, _⟩ => ⟨S4x2048x2048, .f32⟩
  | .hbm, ⟨2, _⟩ => ⟨S_, .i32⟩
  | .hbm, ⟨3, _⟩ => ⟨S_, .i1⟩
  | .hbm, ⟨4, _⟩ => ⟨S4x1024x2048, .f32⟩
  | .hbm, ⟨5, _⟩ => ⟨S4x1024x2048, .f32⟩
  | .hbm, ⟨6, _⟩ => ⟨S4x1024x2048, .f32⟩
  | .hbm, ⟨7, _⟩ => ⟨S4x1024x2048, .bf16⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel22.lean ====
abbrev S4096x1024 : Shape := ⟨2, ![4096, 1024]⟩
abbrev S4096x1536 : Shape := ⟨2, ![4096, 1536]⟩
abbrev S1x16 : Shape := ⟨2, ![1, 16]⟩
abbrev S1x1024 : Shape := ⟨2, ![1, 1024]⟩
abbrev S4096x2048 : Shape := ⟨2, ![4096, 2048]⟩
abbrev S_ : Shape := ⟨0, ![]⟩
abbrev S1x128 : Shape := ⟨2, ![1, 128]⟩
abbrev S256x1024 : Shape := ⟨2, ![256, 1024]⟩
abbrev S8x128 : Shape := ⟨2, ![8, 128]⟩
abbrev S128x1024 : Shape := ⟨2, ![128, 1024]⟩
abbrev S8x1024 : Shape := ⟨2, ![8, 1024]⟩
abbrev S1024 : Shape := ⟨1, ![1024]⟩
abbrev S256x512 : Shape := ⟨2, ![256, 512]⟩
abbrev S256 : Shape := ⟨1, ![256]⟩
abbrev S256x1 : Shape := ⟨2, ![256, 1]⟩
abbrev S1024x128 : Shape := ⟨2, ![1024, 128]⟩
abbrev S128 : Shape := ⟨1, ![128]⟩

abbrev nBuf : Space → Nat
  | .hbm => 15
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .f32⟩
  | .hbm, ⟨3, _⟩ => ⟨S1x16, .f32⟩
  | .hbm, ⟨4, _⟩ => ⟨S1x1024, .f32⟩
  | .hbm, ⟨5, _⟩ => ⟨S4096x2048, .f32⟩
  | .hbm, ⟨6, _⟩ => ⟨S_, .i32⟩
  | .hbm, ⟨7, _⟩ => ⟨S_, .f32⟩
  | .hbm, ⟨8, _⟩ => ⟨S1x128, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S1x128, .f32⟩
  | .hbm, ⟨13, _⟩ => ⟨S1x1024, .f32⟩
  | .hbm, ⟨14, _⟩ => ⟨S1x16, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x128, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S1x128, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_63 : BitVec 32 := 0#32
  let v211 : BitVec 1 := Scalar.cmpi .eq arg0 c0_i32_63
  let v212 : BitVec 32 := Scalar.extui v211
  let c0_i32_64 : BitVec 32 := 0#32
  let v213 : BitVec 1 := Scalar.cmpi .ne v212 c0_i32_64
  v213

def k0_cond2 (i : grid0.Coords) : BitVec 1 :=
  let arg0 : BitVec 32 := BitVec.ofNat 32 (i 0).val
  let c0_i32_63 : BitVec 32 := 0#32
  let v211 : BitVec 1 := Scalar.cmpi .eq arg0 c0_i32_63
  let v_true : BitVec 1 := 1#1
  let v214 : BitVec 1 := Scalar.xori v211 v_true
  let v215 : BitVec 32 := Scalar.extui v214
  let c0_i32_65 : BitVec 32 := 0#32
  let v216 : BitVec 1 := Scalar.cmpi .ne v215 c0_i32_65
  v216

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference22Ideal.lean ====
abbrev S4096x1024 : Shape := ⟨2, ![4096, 1024]⟩
abbrev S4096x1536 : Shape := ⟨2, ![4096, 1536]⟩
abbrev S1x16 : Shape := ⟨2, ![1, 16]⟩
abbrev S1x1024 : Shape := ⟨2, ![1, 1024]⟩
abbrev S4096x2048 : Shape := ⟨2, ![4096, 2048]⟩
abbrev S4096x16x64 : Shape := ⟨3, ![4096, 16, 64]⟩
abbrev S16x1 : Shape := ⟨2, ![16, 1]⟩
abbrev S1x16x1 : Shape := ⟨3, ![1, 16, 1]⟩
abbrev S_ : Shape := ⟨0, ![]⟩
abbrev S4096x2x512 : Shape := ⟨3, ![4096, 2, 512]⟩
abbrev S4096x2 : Shape := ⟨2, ![4096, 2]⟩
abbrev S4096x2x1 : Shape := ⟨3, ![4096, 2, 1]⟩
abbrev S1024 : Shape := ⟨1, ![1024]⟩
abbrev S16 : Shape := ⟨1, ![16]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x1024, .f32⟩
  | .hbm, ⟨3, _⟩ => ⟨S1x16, .f32⟩
  | .hbm, ⟨4, _⟩ => ⟨S1x1024, .f32⟩
  | .hbm, ⟨5, _⟩ => ⟨S4096x2048, .f32⟩
  | .hbm, ⟨6, _⟩ => ⟨S4096x1024, .f32⟩
  | .hbm, ⟨7, _⟩ => ⟨S4096x16x64, .f32⟩
  | .hbm, ⟨8, _⟩ => ⟨S4096x16x64, .f32⟩
  | .hbm, ⟨9, _⟩ => ⟨S16x1, .f32⟩
  | .hbm, ⟨10, _⟩ => ⟨S1x16x1, .f32⟩
  | .hbm, ⟨11, _⟩ => ⟨S4096x16x64, .f32⟩
  | .hbm, ⟨12, _⟩ => ⟨S4096x16x64, .f32⟩
  | .hbm, ⟨13, _⟩ => ⟨S4096x16x64, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x2x512, .f32⟩
  | .hbm, ⟨30, _⟩ => ⟨S4096x2x512, .f32⟩
  | .hbm, ⟨31, _⟩ => ⟨S_, .f32⟩
  | .hbm, ⟨32, _⟩ => ⟨S4096x2, .f32⟩
  | .hbm, ⟨33, _⟩ => ⟨S4096x2x1, .f32⟩
  | .hbm, ⟨34, _⟩ => ⟨S_, .f32⟩
  | .hbm, ⟨35, _⟩ => ⟨S4096x2x1, .f32⟩
  | .hbm, ⟨36, _⟩ => ⟨S4096x2x1, .f32⟩
  | .hbm, ⟨37, _⟩ => ⟨S_, .f32⟩
  | .hbm, ⟨38, _⟩ => ⟨S4096x2x1, .f32⟩
  | .hbm, ⟨39, _⟩ => ⟨S4096x2x1, .f32⟩
  | .hbm, ⟨40, _⟩ => ⟨S4096x2x1, .f32⟩
  | .hbm, ⟨41, _⟩ => ⟨S4096x2x1, .f32⟩
  | .hbm, ⟨42, _⟩ => ⟨S_, .f32⟩
  | .hbm, ⟨43, _⟩ => ⟨S4096x2x1, .f32⟩
  | .hbm, ⟨44, _⟩ => ⟨S4096x2x1, .f32⟩
  | .hbm, ⟨45, _⟩ => ⟨S4096x2x512, .f32⟩
  | .hbm, ⟨46, _⟩ => ⟨S4096x2x512, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x2x512, .f32⟩
  | .hbm, ⟨58, _⟩ => ⟨S4096x2x512, .f32⟩
  | .hbm, ⟨59, _⟩ => ⟨S_, .f32⟩
  | .hbm, ⟨60, _⟩ => ⟨S4096x2, .f32⟩
  | .hbm, ⟨61, _⟩ => ⟨S4096x2x1, .f32⟩
  | .hbm, ⟨62, _⟩ => ⟨S4096x2x512, .f32⟩
  | .hbm, ⟨63, _⟩ => ⟨S4096x2x512, .f32⟩
  | .hbm, ⟨64, _⟩ => ⟨S4096x2x1, .f32⟩
  | .hbm, ⟨65, _⟩ => ⟨S_, .f32⟩
  | .hbm, ⟨66, _⟩ => ⟨S4096x2x1, .f32⟩
  | .hbm, ⟨67, _⟩ => ⟨S4096x2x1, .f32⟩
  | .hbm, ⟨68, _⟩ => ⟨S_, .f32⟩
  | .hbm, ⟨69, _⟩ => ⟨S4096x2, .f32⟩
  | .hbm, ⟨70, _⟩ => ⟨S4096x2x512, .f32⟩
  | .hbm, ⟨71, _⟩ => ⟨S4096x2x512, .f32⟩
  | .hbm, ⟨72, _⟩ => ⟨S4096x2x512, .f32⟩
  | .hbm, ⟨73, _⟩ => ⟨S4096x2x512, .f32⟩
  | .hbm, ⟨74, _⟩ => ⟨S4096x2x512, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x16x64, .f32⟩
  | .hbm, ⟨83, _⟩ => ⟨S4096x16x64, .f32⟩
  | .hbm, ⟨84, _⟩ => ⟨S_, .f32⟩
  | .hbm, ⟨85, _⟩ => ⟨S16, .f32⟩
  | .hbm, ⟨86, _⟩ => ⟨S1x16x1, .f32⟩
  | .hbm, ⟨87, _⟩ => ⟨S4096x16x64, .f32⟩
  | .hbm, ⟨88, _⟩ => ⟨S4096x16x64, .f32⟩
  | .hbm, ⟨89, _⟩ => ⟨S_, .f32⟩
  | .hbm, ⟨90, _⟩ => ⟨S16, .f32⟩
  | .hbm, ⟨91, _⟩ => ⟨S16x1, .f32⟩
  | .hbm, ⟨92, _⟩ => ⟨S1x16, .f32⟩
  | .hbm, ⟨93, _⟩ => ⟨S4096x1024, .f32⟩
  | .hbm, ⟨94, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v9_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v9_1 : Ref sig .tc := ⟨.hbm, 26, rfl⟩
abbrev main_v9_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_0 : Ref sig .tc := ⟨.hbm, 34, rfl⟩
abbrev main_v15 : Ref sig .tc := ⟨.hbm, 35, rfl⟩
abbrev main_v16 : Ref sig .tc := ⟨.hbm, 36, rfl⟩
abbrev main_cst_1 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_2 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_3 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_4 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_5 : Ref sig .tc := ⟨.hbm, 65, rfl⟩
abbrev main_v41 : Ref sig .tc := ⟨.hbm, 66, rfl⟩
abbrev main_v42 : Ref sig .tc := ⟨.hbm, 67, rfl⟩
abbrev main_cst_6 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_7 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_8 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩

abbrev nD : Nat := 1
abbrev τ : Topo := Topo.v7x

variable {F : FTy → Type} [FloatOps F]
-- ==== Proof.Tile.lean ====
/- What one grid point of the attention's backward call computes, head by head: the kernel's vector operations named
   once for a head of 512 columns, at any float, with the four heads' outputs put side by side the way the kernel
   does it — each padded with zeros to the full width and the four added. -/
module

public import proofs.«01_k».proof.Proof.Gen.KernelIdeal.Skeleton

@[expose] public section

noncomputable section

namespace Cert.Tile

open Cert.KernelIdeal Cert.KernelIdeal.Gen Idealize.ShloMosaic

variable {F : FTy → Type} [FloatOps F]

/-- Columns `0 … 511`. -/
def sl0 (x : FVec F S256x2048 .f32) : FVec F S256x512 .f32 := extractStridedSlice S256x512 ![0, 0] x slices_S256x2048_o0_0_S256x512
/-- Columns `512 … 1023`. -/
def sl1 (x : FVec F S256x2048 .f32) : FVec F S256x512 .f32 := extractStridedSlice S256x512 ![0, 512] x slices_S256x2048_o0_512_S256x512
/-- Columns `1024 … 1535`. -/
def sl2 (x : FVec F S256x2048 .f32) : FVec F S256x512 .f32 := extractStridedSlice S256x512 ![0, 1024] x slices_S256x2048_o0_1024_S256x512
/-- Columns `1536 … 2047`. -/
def sl3 (x : FVec F S256x2048 .f32) : FVec F S256x512 .f32 := extractStridedSlice S256x512 ![0, 1536] x slices_S256x2048_o0_1536_S256x512

/-- A column spread over a tile's rows. -/
def spread (x : FVec F S256x1 .f32) : FVec F S256x256 .f32 := broadcastTo S256x256 x broadcasts_S256x1_S256x256
/-- A vector of row values as a column. -/
def col (x : FVec F S256 .f32) : FVec F S256x1 .f32 := shapeCast S256x1 x shapeCasts_S256_S256x1
/-- The sum of each row. -/
def rowSum (x : FVec F S256x256 .f32) : FVec F S256 .f32 := multiReduction .add [1] S256 x 0x00000000#32 reduces_S256x256_S256 (.inl rfl) rfl
/-- The sum of each row of a column. -/
def colSum (x : FVec F S256x1 .f32) : FVec F S256 .f32 := multiReduction .add [1] S256 x 0x00000000#32 reduces_S256x1_S256 (.inl rfl) rfl
/-- The product of two heads' rows, contracted over the head's 512 columns. -/
def rowDot (x y : FVec F S256x512 .f32) : FVec F S256x256 .f32 :=
  matmul dot_S256x512_S256x512_S256x256_1_1_0_0_n_n none (truncf .bf16 x bitsLt_bf16_f32) (truncf .bf16 y bitsLt_bf16_f32)
    (constant S256x256 .f32 0x00000000#32)

/-- The scaled scores. -/
def sc (q k : FVec F S256x512 .f32) : FVec F S256x256 .f32 := mulf (rowDot q k) (broadcast S256x256 (Scalar.ofBits .f32 0x3D3504F3#32))

variable (s g : FVec F S256x256 .f32)

/-- The row maxima. -/
def mx : FVec F S256 .f32 := multiReduction .maximumf [1] S256 s 0xFF800000#32 reduces_S256x256_S256 (.inl rfl) rfl
/-- One where a score is its row's maximum, zero elsewhere. -/
def hits : FVec F S256x256 .f32 := sitofp .f32 (extui 32 (cmpf .oeq s (spread (col (mx s)))) natLt_1_32)
/-- The exponentials. -/
def exs : FVec F S256x256 .f32 := exp (subf s (spread (col (mx s))))
/-- The normalisers. -/
def dens : FVec F S256x1 .f32 := col (rowSum (exs s))
/-- The probabilities. -/
def probs : FVec F S256x256 .f32 := divf (exs s) (spread (dens s))
/-- The normalisers' squares inverted. -/
def invs : FVec F S256x1 .f32 := divf (broadcast S256x1 (Scalar.ofBits .f32 0x3F800000#32)) (mulf (dens s) (dens s))
/-- What the normaliser's gradient adds to each row. -/
def shifts : FVec F S256x1 .f32 :=
  subf (broadcast S256x1 (Scalar.ofBits .f32 0x00000000#32)) (col (rowSum (mulf (mulf g (spread (invs s))) (exs s))))
/-- The gradient of the probabilities over the normalisers. -/
def quot : FVec F S256x256 .f32 := divf g (spread (dens s))
/-- The gradient of the exponentials. -/
def pre : FVec F S256x256 .f32 := addf (quot s g) (spread (col (colSum (shifts s g))))
/-- The gradient of the scores, the maximum held constant. -/
def grads : FVec F S256x256 .f32 := mulf (pre s g) (exs s)
/-- The gradient of the row maxima. -/
def grads1 : FVec F S256x1 .f32 := col (rowSum (subf (broadcast S256x256 (Scalar.ofBits .f32 0x00000000#32)) (grads s g)))
/-- The gradient of the unscaled scores. -/
def dsc : FVec F S256x256 .f32 :=
  mulf (addf (grads s g) (mulf (spread (col (divf (colSum (grads1 s g)) (rowSum (hits s))))) (hits s)))
    (broadcast S256x256 (Scalar.ofBits .f32 0x3D3504F3#32))

/-- A tile's columns against a head's rows, contracted over the tile's rows. -/
def tDot (x : FVec F S256x256 .f32) (y : FVec F S256x512 .f32) : FVec F S256x512 .f32 :=
  matmul dot_S256x256_S256x512_S256x512_0_0_1_1_n_n none (truncf .bf16 x bitsLt_bf16_f32) (truncf .bf16 y bitsLt_bf16_f32)
    (constant S256x512 .f32 0x00000000#32)
/-- A tile's rows against a head's columns. -/
def nDot (x : FVec F S256x256 .f32) (y : FVec F S256x512 .f32) : FVec F S256x512 .f32 :=
  matmul dot_S256x256_S256x512_S256x512_1_0_0_1_n_n none (truncf .bf16 x bitsLt_bf16_f32) (truncf .bf16 y bitsLt_bf16_f32)
    (constant S256x512 .f32 0x00000000#32)

/-- Head 3's columns in place, zeros before. -/
def pad3 (x : FVec F S256x512 .f32) : FVec F S256x2048 .f32 :=
  concatenate S256x2048 1 [⟨S256x1536, broadcast S256x1536 (Scalar.ofBits (F := F) .f32 0x00000000#32)⟩, ⟨S256x512, x⟩]
    concatenates_S256x1536_S256x512_S256x2048_d1
/-- Head 2's columns in place, zeros around. -/
def pad2 (x : FVec F S256x512 .f32) : FVec F S256x2048 .f32 :=
  concatenate S256x2048 1 [⟨S256x1536, concatenate S256x1536 1
      [⟨S256x1024, broadcast S256x1024 (Scalar.ofBits (F := F) .f32 0x00000000#32)⟩, ⟨S256x512, x⟩] concatenates_S256x1024_S256x512_S256x1536_d1⟩,
    ⟨S256x512, broadcast S256x512 (Scalar.ofBits (F := F) .f32 0x00000000#32)⟩] concatenates_S256x1536_S256x512_S256x2048_d1
/-- Head 1's columns in place, zeros around. -/
def pad1 (x : FVec F S256x512 .f32) : FVec F S256x2048 .f32 :=
  concatenate S256x2048 1 [⟨S256x1024, concatenate S256x1024 1
      [⟨S256x512, broadcast S256x512 (Scalar.ofBits (F := F) .f32 0x00000000#32)⟩, ⟨S256x512, x⟩] concatenates_S256x512_S256x512_S256x1024_d1⟩,
    ⟨S256x1024, broadcast S256x1024 (Scalar.ofBits (F := F) .f32 0x00000000#32)⟩] concatenates_S256x1024_S256x1024_S256x2048_d1
/-- Head 0's columns in place, zeros after. -/
def pad0 (x : FVec F S256x512 .f32) : FVec F S256x2048 .f32 :=
  concatenate S256x2048 1 [⟨S256x512, x⟩, ⟨S256x1536, broadcast S256x1536 (Scalar.ofBits (F := F) .f32 0x00000000#32)⟩]
    concatenates_S256x512_S256x1536_S256x2048_d1
/-- The four heads side by side. -/
def side (x0 x1 x2 x3 : FVec F S256x512 .f32) : FVec F S256x2048 .f32 := addf (addf (addf (pad3 x3) (pad2 x2)) (pad1 x1)) (pad0 x0)

variable (q o k v : FVec F S256x2048 .f32)

/-- One head's gradient of the scores, from the tiles of queries, output gradient, keys and values. -/
def ds (sl : FVec F S256x2048 .f32 → FVec F S256x512 .f32) : FVec F S256x256 .f32 := dsc (sc (sl q) (sl k)) (rowDot (sl o) (sl v))

/-- The tile of the queries' gradient. -/
def tDq : FVec F S256x2048 .bf16 :=
  truncf .bf16 (side (nDot (ds q o k v sl0) (sl0 k)) (nDot (ds q o k v sl1) (sl1 k)) (nDot (ds q o k v sl2) (sl2 k))
    (nDot (ds q o k v sl3) (sl3 k))) bitsLt_bf16_f32
/-- What the tile adds to the keys' gradient. -/
def tDk : FVec F S256x2048 .f32 :=
  side (tDot (ds q o k v sl0) (sl0 q)) (tDot (ds q o k v sl1) (sl1 q)) (tDot (ds q o k v sl2) (sl2 q)) (tDot (ds q o k v sl3) (sl3 q))
/-- What the tile adds to the values' gradient. -/
def tDv : FVec F S256x2048 .f32 :=
  side (tDot (probs (sc (sl0 q) (sl0 k))) (sl0 o)) (tDot (probs (sc (sl1 q) (sl1 k))) (sl1 o)) (tDot (probs (sc (sl2 q) (sl2 k))) (sl2 o))
    (tDot (probs (sc (sl3 q) (sl3 k))) (sl3 o))

end Cert.Tile

end
-- ==== Proof.Payload.lean ====
/- The kernel's payloads, each said in the words of one head of the attention (`Tile.lean`): one equation a payload,
   both sides the same text. -/
module

public import proofs.«01_k».proof.Proof.Tile
public import Idealize.ShloMosaic.Lib.Pipeline.Value

@[expose] public section

noncomputable section

namespace Cert.Payload

open Cert.KernelIdeal Cert.KernelIdeal.Gen Idealize.ShloMosaic
open Cert.Tile

variable {F : FTy → Type} [FloatOps F]

theorem p3 (x : FVec F S256x2048 .f32) : k0_pay3 x = sl0 x := rfl
theorem p4 (x : FVec F S256x2048 .f32) : k0_pay4 x = sl0 x := rfl
theorem p13 (x : FVec F S256x2048 .f32) : k0_pay13 x = sl0 x := rfl
theorem p14 (x : FVec F S256x2048 .f32) : k0_pay14 x = sl1 x := rfl
theorem p15 (x : FVec F S256x2048 .f32) : k0_pay15 x = sl1 x := rfl
theorem p25 (x : FVec F S256x2048 .f32) : k0_pay25 x = sl1 x := rfl
theorem p26 (x : FVec F S256x2048 .f32) : k0_pay26 x = sl2 x := rfl
theorem p27 (x : FVec F S256x2048 .f32) : k0_pay27 x = sl2 x := rfl
theorem p36 (x : FVec F S256x2048 .f32) : k0_pay36 x = sl2 x := rfl
theorem p37 (x : FVec F S256x2048 .f32) : k0_pay37 x = sl3 x := rfl
theorem p38 (x : FVec F S256x2048 .f32) : k0_pay38 x = sl3 x := rfl
theorem p45 (x : FVec F S256x2048 .f32) : k0_pay45 x = sl0 x := rfl
theorem p46 (x : FVec F S256x2048 .f32) : k0_pay46 x = sl1 x := rfl
theorem p47 (x : FVec F S256x2048 .f32) : k0_pay47 x = sl2 x := rfl
theorem p48 (x : FVec F S256x2048 .f32) : k0_pay48 x = sl3 x := rfl
theorem p5 (v0 v2 : FVec F S256x2048 .f32) : k0_pay5 v0 v2 = sc (sl0 v0) (sl0 v2) := rfl
theorem p6 (v0 v2 : FVec F S256x2048 .f32) : k0_pay6 v0 v2 = mx (sc (sl0 v0) (sl0 v2)) := rfl
theorem p7 (v0 v2 : FVec F S256x2048 .f32) : k0_pay7 v0 v2 = hits (sc (sl0 v0) (sl0 v2)) := rfl
theorem p8 (v0 v2 : FVec F S256x2048 .f32) : k0_pay8 v0 v2 = rowSum (hits (sc (sl0 v0) (sl0 v2))) := rfl
theorem p9 (v0 v2 : FVec F S256x2048 .f32) : k0_pay9 v0 v2 = exs (sc (sl0 v0) (sl0 v2)) := rfl
theorem p10 (v0 v2 : FVec F S256x2048 .f32) : k0_pay10 v0 v2 = dens (sc (sl0 v0) (sl0 v2)) := rfl
theorem p11 (v0 v2 : FVec F S256x2048 .f32) : k0_pay11 v0 v2 = probs (sc (sl0 v0) (sl0 v2)) := rfl
theorem p12 (v0 v2 : FVec F S256x2048 .f32) : k0_pay12 v0 v2 = invs (sc (sl0 v0) (sl0 v2)) := rfl
theorem p28 (v0 v2 : FVec F S256x2048 .f32) : k0_pay28 v0 v2 = sc (sl2 v0) (sl2 v2) := rfl
theorem p29 (v0 v2 : FVec F S256x2048 .f32) : k0_pay29 v0 v2 = mx (sc (sl2 v0) (sl2 v2)) := rfl
theorem p30 (v0 v2 : FVec F S256x2048 .f32) : k0_pay30 v0 v2 = hits (sc (sl2 v0) (sl2 v2)) := rfl
theorem p31 (v0 v2 : FVec F S256x2048 .f32) : k0_pay31 v0 v2 = rowSum (hits (sc (sl2 v0) (sl2 v2))) := rfl
theorem p32 (v0 v2 : FVec F S256x2048 .f32) : k0_pay32 v0 v2 = exs (sc (sl2 v0) (sl2 v2)) := rfl
theorem p33 (v0 v2 : FVec F S256x2048 .f32) : k0_pay33 v0 v2 = dens (sc (sl2 v0) (sl2 v2)) := rfl
theorem p34 (v0 v2 : FVec F S256x2048 .f32) : k0_pay34 v0 v2 = probs (sc (sl2 v0) (sl2 v2)) := rfl
theorem p35 (v0 v2 : FVec F S256x2048 .f32) : k0_pay35 v0 v2 = invs (sc (sl2 v0) (sl2 v2)) := rfl
theorem p16 (v0 v2 : FVec F S256x2048 .f32) : k0_pay16 v0 v2 = sc (sl1 v0) (sl1 v2) := rfl
theorem p17 (v0 v2 : FVec F S256x2048 .f32) : k0_pay17 v0 v2 = mx (sc (sl1 v0) (sl1 v2)) := rfl
theorem p19 (v0 v2 : FVec F S256x2048 .f32) : k0_pay19 (k0_pay18 v0 v2) = hits (sc (sl1 v0) (sl1 v2)) := rfl
theorem p20 (v0 v2 : FVec F S256x2048 .f32) : k0_pay20 (k0_pay18 v0 v2) = rowSum (hits (sc (sl1 v0) (sl1 v2))) := rfl
theorem p21 (s : FVec F S256x256 .f32) : k0_pay21 s (mx s) = exs s := rfl
theorem p22 (s : FVec F S256x256 .f32) : k0_pay22 s (mx s) = dens s := rfl
theorem p23 (s : FVec F S256x256 .f32) : k0_pay23 s (mx s) = probs s := rfl
theorem p24 (s : FVec F S256x256 .f32) : k0_pay24 s (mx s) = invs s := rfl
theorem p39 (v0 v2 : FVec F S256x2048 .f32) : k0_pay39 v0 v2 = sc (sl3 v0) (sl3 v2) := rfl
theorem p40 (v0 v2 : FVec F S256x2048 .f32) : k0_pay40 v0 v2 = mx (sc (sl3 v0) (sl3 v2)) := rfl
theorem p41 (s : FVec F S256x256 .f32) : k0_pay41 s (mx s) = hits s := rfl
theorem p42 (s : FVec F S256x256 .f32) : k0_pay42 s (mx s) = rowSum (hits s) := rfl
theorem p43 (s : FVec F S256x256 .f32) : k0_pay43 s (mx s) = exs s := rfl
theorem p44 (s : FVec F S256x256 .f32) : k0_pay44 s (mx s) = dens s := rfl
theorem p49 (v1 : FVec F S256x2048 .f32) (s : FVec F S256x256 .f32) : k0_pay49 v1 s (mx s) = pad3 (tDot (probs s) (sl3 v1)) := rfl
theorem p50 (v1 v3 : FVec F S256x2048 .f32) (s : FVec F S256x256 .f32) : k0_pay50 v1 v3 s (mx s) = grads s (rowDot (sl3 v1) (sl3 v3)) := rfl
theorem p51 (v1 v3 : FVec F S256x2048 .f32) (s : FVec F S256x256 .f32) : k0_pay51 v1 v3 s (mx s) = grads1 s (rowDot (sl3 v1) (sl3 v3)) := rfl
theorem p53 (x : FVec F S256x512 .f32) (s g : FVec F S256x256 .f32) : k0_pay53 x (hits s) (rowSum (hits s)) (grads s g) (grads1 s g) = pad3 (tDot (dsc s g) x) := rfl
theorem p54 (x : FVec F S256x512 .f32) (s g : FVec F S256x256 .f32) : k0_pay54 x (hits s) (rowSum (hits s)) (grads s g) (grads1 s g) = pad3 (nDot (dsc s g) x) := rfl
theorem p55 (p : FVec F S256x256 .f32) (x : FVec F S256x512 .f32) (a : FVec F S256x2048 .f32) : k0_pay55 p x a = addf a (pad2 (tDot p x)) := rfl
theorem p61 (p : FVec F S256x256 .f32) (x : FVec F S256x512 .f32) (a : FVec F S256x2048 .f32) : k0_pay61 p x a = addf a (pad1 (tDot p x)) := rfl
theorem p67 (p : FVec F S256x256 .f32) (x : FVec F S256x512 .f32) (a : FVec F S256x2048 .f32) : k0_pay67 p x a = addf a (pad0 (tDot p x)) := rfl
theorem p56 (v o : FVec F S256x512 .f32) (s : FVec F S256x256 .f32) : k0_pay56 (exs s) (dens s) (invs s) v o = grads s (rowDot o v) := rfl
theorem p57 (v o : FVec F S256x512 .f32) (s : FVec F S256x256 .f32) : k0_pay57 (exs s) (dens s) (invs s) v o = grads1 s (rowDot o v) := rfl
theorem p59 (x : FVec F S256x512 .f32) (s g : FVec F S256x256 .f32) (a : FVec F S256x2048 .f32) : k0_pay59 x (hits s) (rowSum (hits s)) a (grads s g) (grads1 s g) = addf a (pad2 (tDot (dsc s g) x)) := rfl
theorem p60 (x : FVec F S256x512 .f32) (s g : FVec F S256x256 .f32) (a : FVec F S256x2048 .f32) : k0_pay60 x (hits s) (rowSum (hits s)) a (grads s g) (grads1 s g) = addf a (pad2 (nDot (dsc s g) x)) := rfl
theorem p62 (v o : FVec F S256x512 .f32) (s : FVec F S256x256 .f32) : k0_pay62 (exs s) (dens s) (invs s) v o = pre s (rowDot o v) := rfl
theorem p64 (x : FVec F S256x512 .f32) (s g : FVec F S256x256 .f32) (a : FVec F S256x2048 .f32) : k0_pay64 x (hits s) (rowSum (hits s)) (exs s) a (pre s g) = addf a (pad1 (tDot (dsc s g) x)) := rfl
theorem p65 (x : FVec F S256x512 .f32) (s g : FVec F S256x256 .f32) (a : FVec F S256x2048 .f32) : k0_pay65 x (hits s) (rowSum (hits s)) (exs s) a (pre s g) = addf a (pad1 (nDot (dsc s g) x)) := rfl
theorem p68 (v o : FVec F S256x512 .f32) (s : FVec F S256x256 .f32) : k0_pay68 (exs s) (invs s) v o = shifts s (rowDot o v) := rfl
theorem p69 (v o : FVec F S256x512 .f32) (s : FVec F S256x256 .f32) : k0_pay69 (dens s) v o = quot s (rowDot o v) := rfl
theorem p71 (x : FVec F S256x512 .f32) (s g : FVec F S256x256 .f32) (a : FVec F S256x2048 .f32) : k0_pay71 x (hits s) (rowSum (hits s)) (exs s) a (shifts s g) (quot s g) = addf a (pad0 (tDot (dsc s g) x)) := rfl
theorem p72 (x : FVec F S256x512 .f32) (s g : FVec F S256x256 .f32) (a : FVec F S256x2048 .f32) : k0_pay72 x (hits s) (rowSum (hits s)) (exs s) a (shifts s g) (quot s g) = truncf .bf16 (addf a (pad0 (nDot (dsc s g) x))) bitsLt_bf16_f32 := rfl
theorem p1 (a b : FVec F S256x2048 .f32) : k0_pay1 a b = addf b a := by simp only [k0_pay1, shapeCast_self]
theorem p2 (a b : FVec F S256x2048 .f32) : k0_pay2 a b = addf b a := by simp only [k0_pay2, shapeCast_self]

end Cert.Payload

end
-- ==== Proof.Cases.lean ====
/- What each of the grid's two cases leaves in the three outputs: the tile's values, the keys' and values' gradients
   over what the point before left. -/
module

public import proofs.«01_k».proof.Proof.Gen.KernelIdeal.Value
public import proofs.«01_k».proof.Proof.Payload

@[expose] public section

set_option maxRecDepth 16384

noncomputable section

namespace Cert.Cases

open Cert.KernelIdeal Cert.KernelIdeal.Gen Idealize.ShloMosaic Idealize.ShloMosaic.TcCoe Idealize.ShloMosaic.Tactic Idealize.SL.Sem
open Idealize.ShloMosaic.Pipeline (Dat)
open Cert.Tile

variable {F : FTy → Type} [FloatOps F]

theorem off_zero : (![0, 0] : Fin S256x2048.rank → Nat) = fun _ => 0 := by funext i; fin_cases i <;> rfl

theorem outA4 (c : Dev nD) (t : Fin cfg0.N) (hc0 : cond0_0 (grid0.coords t)) (hc1 : ¬cond0_1 (grid0.coords t)) (x0 x1 x2 x3 : Vec F S256x2048 .f32) :
    out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3
      = tDq x0 x1 x2 x3 := by
  unfold out0_A_4
  rw [View.read_writes_eq_canon _ _ _ (cover0_A_4 c _ _ _ _ _ _ _ _ _ _ _ _ _ _ _ hc0 hc1 x0 x1 x2 x3)]
  unfold kernelRun0_A; dsimp only; sl_unfold_words
  rw [View.canon_unit_zero off_zero]
  simp only [View.readAt_eq_ld, (hs0_0 t).read_unread, (hs0_1 t).read_unread, (hs0_2 t).read_unread, (hs0_3 t).read_unread,
    (hs0_5 t).read_unread, (hs0_6 t).read_unread, View.ld_unit_zero (S := S256x2048) off_zero,
    Payload.p3, Payload.p4, Payload.p13, Payload.p14, Payload.p15, Payload.p25, Payload.p26, Payload.p27,
    Payload.p36, Payload.p37, Payload.p38, Payload.p45, Payload.p46, Payload.p47, Payload.p48, Payload.p5,
    Payload.p6, Payload.p7, Payload.p8, Payload.p9, Payload.p10, Payload.p11, Payload.p12, Payload.p28,
    Payload.p29, Payload.p30, Payload.p31, Payload.p32, Payload.p33, Payload.p34, Payload.p35, Payload.p16,
    Payload.p17, Payload.p19, Payload.p20, Payload.p21, Payload.p22, Payload.p23, Payload.p24, Payload.p39,
    Payload.p40, Payload.p41, Payload.p42, Payload.p43, Payload.p44, Payload.p49, Payload.p50, Payload.p51,
    Payload.p53, Payload.p54, Payload.p55, Payload.p61, Payload.p67, Payload.p56, Payload.p57, Payload.p59,
    Payload.p60, Payload.p62, Payload.p64, Payload.p65, Payload.p68, Payload.p69, Payload.p71, Payload.p72,
    Payload.p1, Payload.p2]
  rfl

theorem outA5 (c : Dev nD) (t : Fin cfg0.N) (hc0 : cond0_0 (grid0.coords t)) (hc1 : ¬cond0_1 (grid0.coords t)) (x0 x1 x2 x3 : Vec F S256x2048 .f32) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3
      = tDk x0 x1 x2 x3 := by
  unfold out0_A_5
  rw [View.read_writes_eq_canon _ _ _ (cover0_A_5 c _ _ _ _ _ _ _ _ _ _ _ _ _ _ _ hc0 hc1 x0 x1 x2 x3)]
  unfold kernelRun0_A; dsimp only; sl_unfold_words
  rw [View.canon_unit_zero off_zero]
  simp only [View.readAt_eq_ld, (hs0_0 t).read_unread, (hs0_1 t).read_unread, (hs0_2 t).read_unread, (hs0_3 t).read_unread,
    (hs0_5 t).read_unread, (hs0_6 t).read_unread, View.ld_unit_zero (S := S256x2048) off_zero,
    Payload.p3, Payload.p4, Payload.p13, Payload.p14, Payload.p15, Payload.p25, Payload.p26, Payload.p27,
    Payload.p36, Payload.p37, Payload.p38, Payload.p45, Payload.p46, Payload.p47, Payload.p48, Payload.p5,
    Payload.p6, Payload.p7, Payload.p8, Payload.p9, Payload.p10, Payload.p11, Payload.p12, Payload.p28,
    Payload.p29, Payload.p30, Payload.p31, Payload.p32, Payload.p33, Payload.p34, Payload.p35, Payload.p16,
    Payload.p17, Payload.p19, Payload.p20, Payload.p21, Payload.p22, Payload.p23, Payload.p24, Payload.p39,
    Payload.p40, Payload.p41, Payload.p42, Payload.p43, Payload.p44, Payload.p49, Payload.p50, Payload.p51,
    Payload.p53, Payload.p54, Payload.p55, Payload.p61, Payload.p67, Payload.p56, Payload.p57, Payload.p59,
    Payload.p60, Payload.p62, Payload.p64, Payload.p65, Payload.p68, Payload.p69, Payload.p71, Payload.p72,
    Payload.p1, Payload.p2]
  rfl

theorem outA6 (c : Dev nD) (t : Fin cfg0.N) (hc0 : cond0_0 (grid0.coords t)) (hc1 : ¬cond0_1 (grid0.coords t)) (x0 x1 x2 x3 : Vec F S256x2048 .f32) :
    out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3
      = tDv x0 x1 x2 := by
  unfold out0_A_6
  rw [View.read_writes_eq_canon _ _ _ (cover0_A_6 c _ _ _ _ _ _ _ _ _ _ _ _ _ _ _ hc0 hc1 x0 x1 x2 x3)]
  unfold kernelRun0_A; dsimp only; sl_unfold_words
  rw [View.canon_unit_zero off_zero]
  simp only [View.readAt_eq_ld, (hs0_0 t).read_unread, (hs0_1 t).read_unread, (hs0_2 t).read_unread, (hs0_3 t).read_unread,
    (hs0_5 t).read_unread, (hs0_6 t).read_unread, View.ld_unit_zero (S := S256x2048) off_zero,
    Payload.p3, Payload.p4, Payload.p13, Payload.p14, Payload.p15, Payload.p25, Payload.p26, Payload.p27,
    Payload.p36, Payload.p37, Payload.p38, Payload.p45, Payload.p46, Payload.p47, Payload.p48, Payload.p5,
    Payload.p6, Payload.p7, Payload.p8, Payload.p9, Payload.p10, Payload.p11, Payload.p12, Payload.p28,
    Payload.p29, Payload.p30, Payload.p31, Payload.p32, Payload.p33, Payload.p34, Payload.p35, Payload.p16,
    Payload.p17, Payload.p19, Payload.p20, Payload.p21, Payload.p22, Payload.p23, Payload.p24, Payload.p39,
    Payload.p40, Payload.p41, Payload.p42, Payload.p43, Payload.p44, Payload.p49, Payload.p50, Payload.p51,
    Payload.p53, Payload.p54, Payload.p55, Payload.p61, Payload.p67, Payload.p56, Payload.p57, Payload.p59,
    Payload.p60, Payload.p62, Payload.p64, Payload.p65, Payload.p68, Payload.p69, Payload.p71, Payload.p72,
    Payload.p1, Payload.p2]
  rfl

theorem outB4 (c : Dev nD) (t : Fin cfg0.N) (hc0 : ¬cond0_0 (grid0.coords t)) (hc1 : cond0_1 (grid0.coords t)) (x0 x1 x2 x3 y5 y6 : Vec F S256x2048 .f32) :
    out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 y5 y6
      = tDq x0 x1 x2 x3 := by
  unfold out0_B_4
  rw [View.read_writes_eq_canon _ _ _ (cover0_B_4 c _ _ _ _ _ _ _ _ _ _ _ _ _ _ _ hc0 hc1 x0 x1 x2 x3 y5 y6)]
  unfold kernelRun0_B; dsimp only; sl_unfold_words
  rw [View.canon_unit_zero off_zero]
  simp only [View.readAt_eq_ld, (hs0_0 t).read_unread, (hs0_1 t).read_unread, (hs0_2 t).read_unread, (hs0_3 t).read_unread,
    (hs0_5 t).read_unread, (hs0_6 t).read_unread, View.ld_unit_zero (S := S256x2048) off_zero,
    Payload.p3, Payload.p4, Payload.p13, Payload.p14, Payload.p15, Payload.p25, Payload.p26, Payload.p27,
    Payload.p36, Payload.p37, Payload.p38, Payload.p45, Payload.p46, Payload.p47, Payload.p48, Payload.p5,
    Payload.p6, Payload.p7, Payload.p8, Payload.p9, Payload.p10, Payload.p11, Payload.p12, Payload.p28,
    Payload.p29, Payload.p30, Payload.p31, Payload.p32, Payload.p33, Payload.p34, Payload.p35, Payload.p16,
    Payload.p17, Payload.p19, Payload.p20, Payload.p21, Payload.p22, Payload.p23, Payload.p24, Payload.p39,
    Payload.p40, Payload.p41, Payload.p42, Payload.p43, Payload.p44, Payload.p49, Payload.p50, Payload.p51,
    Payload.p53, Payload.p54, Payload.p55, Payload.p61, Payload.p67, Payload.p56, Payload.p57, Payload.p59,
    Payload.p60, Payload.p62, Payload.p64, Payload.p65, Payload.p68, Payload.p69, Payload.p71, Payload.p72,
    Payload.p1, Payload.p2]
  rfl

theorem outB5 (c : Dev nD) (t : Fin cfg0.N) (hc0 : ¬cond0_0 (grid0.coords t)) (hc1 : cond0_1 (grid0.coords t)) (x0 x1 x2 x3 y5 y6 : Vec F S256x2048 .f32) :
    out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 y5 y6
      = addf y5 (tDk x0 x1 x2 x3) := by
  unfold out0_B_5
  rw [View.read_writes_eq_canon _ _ _ (cover0_B_5 c _ _ _ _ _ _ _ _ _ _ _ _ _ _ _ hc0 hc1 x0 x1 x2 x3 y5 y6)]
  unfold kernelRun0_B; dsimp only; sl_unfold_words
  rw [View.canon_unit_zero off_zero]
  simp only [View.readAt_eq_ld, (hs0_0 t).read_unread, (hs0_1 t).read_unread, (hs0_2 t).read_unread, (hs0_3 t).read_unread,
    (hs0_5 t).read_unread, (hs0_6 t).read_unread, View.ld_unit_zero (S := S256x2048) off_zero,
    Payload.p3, Payload.p4, Payload.p13, Payload.p14, Payload.p15, Payload.p25, Payload.p26, Payload.p27,
    Payload.p36, Payload.p37, Payload.p38, Payload.p45, Payload.p46, Payload.p47, Payload.p48, Payload.p5,
    Payload.p6, Payload.p7, Payload.p8, Payload.p9, Payload.p10, Payload.p11, Payload.p12, Payload.p28,
    Payload.p29, Payload.p30, Payload.p31, Payload.p32, Payload.p33, Payload.p34, Payload.p35, Payload.p16,
    Payload.p17, Payload.p19, Payload.p20, Payload.p21, Payload.p22, Payload.p23, Payload.p24, Payload.p39,
    Payload.p40, Payload.p41, Payload.p42, Payload.p43, Payload.p44, Payload.p49, Payload.p50, Payload.p51,
    Payload.p53, Payload.p54, Payload.p55, Payload.p61, Payload.p67, Payload.p56, Payload.p57, Payload.p59,
    Payload.p60, Payload.p62, Payload.p64, Payload.p65, Payload.p68, Payload.p69, Payload.p71, Payload.p72,
    Payload.p1, Payload.p2]
  rfl

theorem outB6 (c : Dev nD) (t : Fin cfg0.N) (hc0 : ¬cond0_0 (grid0.coords t)) (hc1 : cond0_1 (grid0.coords t)) (x0 x1 x2 x3 y5 y6 : Vec F S256x2048 .f32) :
    out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) hc0 hc1 x0 x1 x2 x3 y5 y6
      = addf y6 (tDv x0 x1 x2) := by
  unfold out0_B_6
  rw [View.read_writes_eq_canon _ _ _ (cover0_B_6 c _ _ _ _ _ _ _ _ _ _ _ _ _ _ _ hc0 hc1 x0 x1 x2 x3 y5 y6)]
  unfold kernelRun0_B; dsimp only; sl_unfold_words
  rw [View.canon_unit_zero off_zero]
  simp only [View.readAt_eq_ld, (hs0_0 t).read_unread, (hs0_1 t).read_unread, (hs0_2 t).read_unread, (hs0_3 t).read_unread,
    (hs0_5 t).read_unread, (hs0_6 t).read_unread, View.ld_unit_zero (S := S256x2048) off_zero,
    Payload.p3, Payload.p4, Payload.p13, Payload.p14, Payload.p15, Payload.p25, Payload.p26, Payload.p27,
    Payload.p36, Payload.p37, Payload.p38, Payload.p45, Payload.p46, Payload.p47, Payload.p48, Payload.p5,
    Payload.p6, Payload.p7, Payload.p8, Payload.p9, Payload.p10, Payload.p11, Payload.p12, Payload.p28,
    Payload.p29, Payload.p30, Payload.p31, Payload.p32, Payload.p33, Payload.p34, Payload.p35, Payload.p16,
    Payload.p17, Payload.p19, Payload.p20, Payload.p21, Payload.p22, Payload.p23, Payload.p24, Payload.p39,
    Payload.p40, Payload.p41, Payload.p42, Payload.p43, Payload.p44, Payload.p49, Payload.p50, Payload.p51,
    Payload.p53, Payload.p54, Payload.p55, Payload.p61, Payload.p67, Payload.p56, Payload.p57, Payload.p59,
    Payload.p60, Payload.p62, Payload.p64, Payload.p65, Payload.p68, Payload.p69, Payload.p71, Payload.p72,
    Payload.p1, Payload.p2]
  rfl

end Cert.Cases

end
-- ==== Proof.Row.lean ====
/- One row of the attention's gradient, over the extended reals: the softmax of a row of scores and its gradient,
   written once, and the fact that makes the kernel's text (which differentiates the subtracted row maximum) and the
   reference's text (which does not) agree: the gradient of the scores sums to zero along the row. -/
module

public import Idealize.ShloMosaic.PureOps.Ideal

@[expose] public section

noncomputable section

namespace Cert.Row

open Idealize.ShloMosaic

variable {n : Nat}

/-- The row's maximum. -/
def top (s : Fin n → EReal) : EReal := (Finset.univ : Finset (Fin n)).fold max ⊥ s

/-- The exponential of a score less the row's maximum. -/
def ex (s : Fin n → EReal) (j : Fin n) : EReal := Ideal.exp (s j - top s)

/-- The row's normaliser. -/
def den (s : Fin n → EReal) : EReal := ∑ j, ex s j

/-- The row's probabilities. -/
def prob (s : Fin n → EReal) (j : Fin n) : EReal := Ideal.div (ex s j) (den s)

/-- What the normaliser's gradient adds to every entry. -/
def shift (s g : Fin n → EReal) : EReal := -∑ j, g j * Ideal.div 1 (den s * den s) * ex s j

/-- The gradient of the scores, the maximum taken as a constant; `g` is the gradient of the probabilities. -/
def grad (s g : Fin n → EReal) (j : Fin n) : EReal := (Ideal.div (g j) (den s) + shift s g) * ex s j

/-- One where a score is the row's maximum, zero elsewhere. -/
def hit (s : Fin n → EReal) (j : Fin n) : EReal := if s j = top s then 1 else 0

/-- The gradient of the scores, the maximum's own gradient included: spread evenly over the entries that attain it. -/
def gradMax (s g : Fin n → EReal) (j : Fin n) : EReal :=
  grad s g j + Ideal.div (∑ i, (0 - grad s g i)) (∑ i, hit s i) * hit s j

theorem le_top' (s : Fin n → EReal) (j : Fin n) : s j ≤ top s :=
  (Finset.le_fold_max (s j)).2 (Or.inr ⟨j, Finset.mem_univ j, le_rfl⟩)

theorem top_attained (s : Fin n → EReal) (h : top s ≠ ⊥) : ∃ j, s j = top s := by
  rcases (Finset.le_fold_max (top s)).1 (le_refl (top s)) with h' | ⟨j, -, hj⟩
  · exact absurd (le_bot_iff.1 h') h
  · exact ⟨j, le_antisymm (le_top' s j) hj⟩

theorem coe_sum (f : Fin n → ℝ) : ((∑ j, f j : ℝ) : EReal) = ∑ j, (f j : EReal) := by
  induction n with
  | zero => simp
  | succ k ih => rw [Fin.sum_univ_succ, Fin.sum_univ_succ, EReal.coe_add, ih]

theorem hit_sum_ne_zero (s : Fin n) (f : Fin n → EReal) : ∑ i, hit f i ≠ 0 := by
  obtain ⟨j, hj⟩ : ∃ j, f j = top f := by
    by_cases h : top f = ⊥
    · exact ⟨s, by rw [h]; exact le_bot_iff.1 (h ▸ le_top' f s)⟩
    · exact top_attained f h
  have h0 : ∀ i, 0 ≤ hit f i := fun i => by unfold hit; split <;> simp
  have h1 : hit f j ≤ ∑ i, hit f i := Finset.single_le_sum (fun i _ => h0 i) (Finset.mem_univ j)
  have h2 : hit f j = 1 := by simp [hit, hj]
  rw [h2] at h1
  exact (lt_of_lt_of_le zero_lt_one h1).ne'

/-- Where the exponentials all vanish, so does the gradient. -/
theorem grad_of_ex_zero {s g : Fin n → EReal} (h : ∀ j, ex s j = 0) (j : Fin n) : grad s g j = 0 := by
  simp [grad, h]

/-- The gradient of the scores sums to zero along a row, the gradient of the probabilities being real. -/
theorem sum_neg_grad (s g : Fin n → EReal) (hg : ∀ j, ∃ r : ℝ, g j = (r : EReal)) : ∑ i, (0 - grad s g i) = 0 := by
  choose γ hγ using hg
  by_cases ht : top s = ⊤
  · have h : ∀ j, ex s j = 0 := fun j => by simp [ex, ht]
    simp [grad_of_ex_zero h]
  by_cases hb : top s = ⊥
  · have h : ∀ j, ex s j = 0 := fun j => by
      have : s j = ⊥ := le_bot_iff.1 (hb ▸ le_top' s j)
      simp [ex, this]
    simp [grad_of_ex_zero h]
  obtain ⟨M, hM⟩ : ∃ M : ℝ, top s = (M : EReal) := ⟨_, (EReal.coe_toReal ht hb).symm⟩
  obtain ⟨j₀, hj₀⟩ := top_attained s hb
  have hp : ∀ j, ∃ p : ℝ, 0 ≤ p ∧ ex s j = (p : EReal) := fun j => by
    have hle := le_top' s j
    unfold ex
    rw [hM] at hle ⊢
    induction hs : s j with
    | bot => exact ⟨0, le_rfl, by simp⟩
    | top => rw [hs] at hle; exact absurd (top_le_iff.1 hle) (EReal.coe_ne_top M)
    | coe r => exact ⟨Real.exp (r - M), (Real.exp_pos _).le, by rw [← EReal.coe_sub, Ideal.exp_coe]⟩
  choose p hp0 hpe using hp
  have hp1 : p j₀ = 1 := by
    have := hpe j₀
    unfold ex at this
    rw [hj₀, hM, ← EReal.coe_sub, Ideal.exp_coe, sub_self, Real.exp_zero] at this
    exact_mod_cast this.symm
  have hden : den s = ((∑ j, p j : ℝ) : EReal) := by
    unfold den; rw [coe_sum]; exact Finset.sum_congr rfl fun j _ => hpe j
  obtain ⟨L, hL⟩ : ∃ L : ℝ, L = ∑ j, p j := ⟨_, rfl⟩
  rw [← hL] at hden
  have hLpos : 0 < L := hL ▸ lt_of_lt_of_le (by rw [hp1]; exact one_pos)
    (Finset.single_le_sum (fun i _ => hp0 i) (Finset.mem_univ j₀))
  have hL0 : L ≠ 0 := hLpos.ne'
  have hshift : shift s g = ((-∑ j, γ j * (1 / (L * L)) * p j : ℝ) : EReal) := by
    unfold shift
    rw [EReal.coe_neg, coe_sum]
    congr 1
    refine Finset.sum_congr rfl fun j _ => ?_
    rw [hden, hγ, hpe, ← EReal.coe_mul L L, Ideal.div_coe (mul_ne_zero hL0 hL0), one_mul, EReal.coe_mul, EReal.coe_mul]
  have hgrad : ∀ j, grad s g j = (((γ j * (1 / L) + -∑ i, γ i * (1 / (L * L)) * p i) * p j : ℝ) : EReal) := fun j => by
    unfold grad
    rw [hshift, hden, hγ, hpe, Ideal.div_coe hL0, EReal.coe_mul, EReal.coe_add, EReal.coe_mul]
  have : ∀ i, (0 : EReal) - grad s g i = ((0 - (γ i * (1 / L) + -∑ i, γ i * (1 / (L * L)) * p i) * p i : ℝ) : EReal) :=
    fun i => by rw [hgrad, EReal.coe_sub, EReal.coe_zero]
  simp only [this]
  rw [← coe_sum, ← EReal.coe_zero]
  congr 1
  simp only [zero_sub, Finset.sum_neg_distrib, add_mul, Finset.sum_add_distrib]
  have h1 : ∑ i, γ i * (1 / (L * L)) * p i = (1 / (L * L)) * ∑ i, γ i * p i := by
    rw [Finset.mul_sum]; exact Finset.sum_congr rfl fun i _ => by ring
  have h2 : ∑ i, γ i * (1 / L) * p i = (1 / L) * ∑ i, γ i * p i := by
    rw [Finset.mul_sum]; exact Finset.sum_congr rfl fun i _ => by ring
  have h3 : ∀ x : ℝ, ∑ i, x * p i = x * L := fun x => by rw [hL, Finset.mul_sum]
  rw [h3, h1, h2]
  field_simp
  ring

/-- The maximum's own gradient adds nothing. -/
theorem gradMax_eq (s g : Fin n → EReal) (hg : ∀ j, ∃ r : ℝ, g j = (r : EReal)) (j : Fin n) :
    gradMax s g j = grad s g j := by
  unfold gradMax
  rw [sum_neg_grad s g hg]
  have : Ideal.div 0 (∑ i, hit s i) = 0 := by
    unfold Ideal.div; rw [if_neg (hit_sum_ne_zero j s), zero_mul]
  rw [this, zero_mul, add_zero]

end Cert.Row

end
-- ==== Proof.Read.lean ====
/- The named vector operations of one head, read at an index over the extended reals: each row of a tile is
   `Row.lean`'s row. -/
module

public import proofs.«01_k».proof.Proof.Tile
public import proofs.«01_k».proof.Proof.Row
public import Idealize.ShloMosaic.Lib.Pointwise

@[expose] public section

noncomputable section

namespace Cert.Read

open Cert.KernelIdeal Cert.KernelIdeal.Gen Idealize.ShloMosaic Idealize.ShloMosaic.Pointwise
open Cert.Tile

/-- The scale of the scores: the literal both programs print. -/
def scale : EReal := Ideal.ofBits .f32 0x3D3504F3#32

theorem ofBits_negInf : Ideal.ofBits .f32 0xFF800000#32 = ⊥ := by simp [Ideal.ofBits, Ideal.ieee]

/-- Column `e` of head `h` in the full width. -/
def hcol (h : Fin 4) (e : Fin 512) : Fin 2048 := ⟨512 * h.val + e.val, by omega⟩

/-- Head `h`'s columns. -/
def sl (h : Fin 4) : FVec Ideal S256x2048 .f32 → FVec Ideal S256x512 .f32 := ![sl0, sl1, sl2, sl3] h

theorem sl_at (h : Fin 4) (x : FVec Ideal S256x2048 .f32) (r : Fin 256) (e : Fin 512) : sl h x (ix2 r e) = x (ix2 r (hcol h e)) := by
  fin_cases h
  · show sl0 x (ix2 r e) = _
    pointwise [sl0]
    congr 2
    apply Fin.ext; simp [hcol]
  · show sl1 x (ix2 r e) = _
    pointwise [sl1]
    congr 2
  · show sl2 x (ix2 r e) = _
    pointwise [sl2]
    congr 2
  · show sl3 x (ix2 r e) = _
    pointwise [sl3]
    congr 2

theorem side_at (X : Fin 4 → FVec Ideal S256x512 .f32) (h : Fin 4) (r : Fin 256) (e : Fin 512) :
    side (X 0) (X 1) (X 2) (X 3) (ix2 r (hcol h e)) = X h (ix2 r e) := by
  have he := e.isLt
  fin_cases h <;> pointwise [side, pad0, pad1, pad2, pad3, hcol] <;> split_ifs <;>
    first | omega | simp only [zero_add, add_zero]

theorem spread_at (x : FVec Ideal S256x1 .f32) (r j : Fin 256) : spread x (ix2 r j) = x (ix2 r 0) := by
  pointwise [spread]
theorem col_at (x : FVec Ideal S256 .f32) (r : Fin 256) (j : Fin 1) : col x (ix2 r j) = x (ix1 r) := by
  pointwise [col]
theorem rowSum_at (x : FVec Ideal S256x256 .f32) (r : Fin 256) : rowSum x (ix1 r) = ∑ j, x (ix2 r j) := by
  pointwise [rowSum]
theorem colSum_at (x : FVec Ideal S256x1 .f32) (r : Fin 256) : colSum x (ix1 r) = x (ix2 r 0) := by
  pointwise [colSum]
  exact Fin.sum_univ_one _
theorem rowDot_at (x y : FVec Ideal S256x512 .f32) (r j : Fin 256) : rowDot x y (ix2 r j) = ∑ e : Fin 512, x (ix2 r e) * y (ix2 j e) := by
  pointwise [rowDot]
theorem tDot_at (x : FVec Ideal S256x256 .f32) (y : FVec Ideal S256x512 .f32) (j : Fin 256) (e : Fin 512) :
    tDot x y (ix2 j e) = ∑ r : Fin 256, x (ix2 r j) * y (ix2 r e) := by
  pointwise [tDot]
theorem nDot_at (x : FVec Ideal S256x256 .f32) (y : FVec Ideal S256x512 .f32) (r : Fin 256) (e : Fin 512) :
    nDot x y (ix2 r e) = ∑ j : Fin 256, x (ix2 r j) * y (ix2 j e) := by
  pointwise [nDot]
theorem mx_at (s : FVec Ideal S256x256 .f32) (r : Fin 256) : mx s (ix1 r) = Row.top fun j => s (ix2 r j) := by
  pointwise [mx, Row.top]
  rw [ofBits_negInf]
theorem hits_at (s : FVec Ideal S256x256 .f32) (r j : Fin 256) : hits s (ix2 r j) = Row.hit (fun j => s (ix2 r j)) j := by
  pointwise [hits]
  rw [spread_at, col_at, mx_at]
  unfold Row.hit
  by_cases h : s (ix2 r j) = Row.top fun j => s (ix2 r j)
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp
theorem exs_at (s : FVec Ideal S256x256 .f32) (r j : Fin 256) : exs s (ix2 r j) = Row.ex (fun j => s (ix2 r j)) j := by
  pointwise [exs]
  rw [spread_at, col_at, mx_at]
  rfl

theorem sc_at (q k : FVec Ideal S256x512 .f32) (r j : Fin 256) :
    sc q k (ix2 r j) = (∑ e : Fin 512, q (ix2 r e) * k (ix2 j e)) * scale := by
  pointwise [sc]
  rw [rowDot_at]
  rfl

variable (s g : FVec Ideal S256x256 .f32) (r : Fin 256)

theorem dens_at : dens s (ix2 r 0) = Row.den fun j => s (ix2 r j) := by
  unfold dens Row.den
  rw [col_at, rowSum_at]
  exact Finset.sum_congr rfl fun j _ => exs_at s r j
theorem probs_at (j : Fin 256) : probs s (ix2 r j) = Row.prob (fun j => s (ix2 r j)) j := by
  pointwise [probs]
  rw [spread_at, exs_at, dens_at]
  rfl
theorem invs_at : Tile.invs s (ix2 r 0) = Ideal.div 1 (Row.den (fun j => s (ix2 r j)) * Row.den (fun j => s (ix2 r j))) := by
  pointwise [Tile.invs]
  rw [dens_at]
theorem shifts_at : shifts s g (ix2 r 0) = Row.shift (fun j => s (ix2 r j)) fun j => g (ix2 r j) := by
  pointwise [shifts]
  rw [col_at, rowSum_at, zero_sub]
  unfold Row.shift
  congr 1
  refine Finset.sum_congr rfl fun j _ => ?_
  pointwise
  rw [spread_at, invs_at, exs_at]
theorem grads_at (j : Fin 256) : grads s g (ix2 r j) = Row.grad (fun j => s (ix2 r j)) (fun j => g (ix2 r j)) j := by
  pointwise [grads, pre, quot]
  rw [spread_at, spread_at, col_at, colSum_at, dens_at, shifts_at, exs_at]
  rfl
theorem dsc_at (j : Fin 256) : dsc s g (ix2 r j) = Row.gradMax (fun j => s (ix2 r j)) (fun j => g (ix2 r j)) j * scale := by
  pointwise [dsc]
  rw [spread_at, col_at, grads_at, hits_at]
  pointwise
  rw [colSum_at, rowSum_at]
  unfold grads1
  rw [col_at, rowSum_at]
  unfold Row.gradMax scale
  pointwise
  simp only [grads_at, hits_at]

end Cert.Read

end
-- ==== Proof.Spec.lean ====
/- The attention's gradient row by row, over the extended reals, and the grid point's tiles in its words: a row of
   queries and of the output's gradient against all keys and values. -/
module

public import proofs.«01_k».proof.Proof.Read

@[expose] public section

noncomputable section

namespace Cert.Spec

open Cert.KernelIdeal Cert.KernelIdeal.Gen Idealize.ShloMosaic Idealize.ShloMosaic.Pointwise
open Cert.Tile Cert.Read

/-- The head a column belongs to. -/
def hd (c : Fin 2048) : Fin 4 := ⟨c.val / 512, by omega⟩
/-- Its place in the head. -/
def ps (c : Fin 2048) : Fin 512 := ⟨c.val % 512, by omega⟩

theorem hcol_hd_ps (c : Fin 2048) : hcol (hd c) (ps c) = c := by
  apply Fin.ext; show 512 * (c.val / 512) + c.val % 512 = c.val; omega

/-- A row of scaled scores of head `h`. -/
def score (q : Fin 2048 → EReal) (k : Fin 256 → Fin 2048 → EReal) (h : Fin 4) (j : Fin 256) : EReal :=
  (∑ e, q (hcol h e) * k j (hcol h e)) * scale
/-- The gradient of a row of probabilities of head `h`. -/
def gprob (o : Fin 2048 → EReal) (v : Fin 256 → Fin 2048 → EReal) (h : Fin 4) (j : Fin 256) : EReal :=
  ∑ e, o (hcol h e) * v j (hcol h e)

section
variable (G : (Fin 256 → EReal) → (Fin 256 → EReal) → Fin 256 → EReal)
variable (q o : Fin 2048 → EReal) (k v : Fin 256 → Fin 2048 → EReal)

/-- The gradient of a row of queries, `G` giving the gradient of a row of scores. -/
def dq (c : Fin 2048) : EReal := ∑ j, G (score q k (hd c)) (gprob o v (hd c)) j * scale * k j c
/-- What a row adds to the keys' gradient. -/
def dk (j : Fin 256) (c : Fin 2048) : EReal := G (score q k (hd c)) (gprob o v (hd c)) j * scale * q c
/-- What a row adds to the values' gradient. -/
def dv (j : Fin 256) (c : Fin 2048) : EReal := Row.prob (score q k (hd c)) j * o c

end

/-- A matrix by its coordinates. -/
def cur {a b : Nat} (x : (⟨2, ![a, b]⟩ : Shape).Idx → EReal) (r : Fin a) (c : Fin b) : EReal := x (ix2 r c)

section
variable (q o k v : FVec Ideal S256x2048 .f32) (r j : Fin 256)

theorem sc_row (h : Fin 4) : (fun j => sc (sl h q) (sl h k) (ix2 r j)) = score (cur q r) (cur k) h := by
  funext j
  rw [sc_at]
  simp only [sl_at]
  rfl

theorem rowDot_row (h : Fin 4) : (fun j => rowDot (sl h o) (sl h v) (ix2 r j)) = gprob (cur o r) (cur v) h := by
  funext j
  rw [rowDot_at]
  simp only [sl_at]
  rfl

theorem ds_at (h : Fin 4) :
    ds q o k v (sl h) (ix2 r j) = Row.gradMax (score (cur q r) (cur k) h) (gprob (cur o r) (cur v) h) j * scale := by
  unfold ds
  rw [dsc_at, sc_row, rowDot_row]

theorem probs_row (h : Fin 4) : probs (sc (sl h q) (sl h k)) (ix2 r j) = Row.prob (score (cur q r) (cur k) h) j := by
  rw [probs_at, sc_row]

theorem tDq_at (c : Fin 2048) : tDq q o k v (ix2 r c) = dq Row.gradMax (cur q r) (cur o r) (cur k) (cur v) c := by
  have e : tDq q o k v (ix2 r c) = side (nDot (ds q o k v (sl 0)) (sl 0 k)) (nDot (ds q o k v (sl 1)) (sl 1 k))
      (nDot (ds q o k v (sl 2)) (sl 2 k)) (nDot (ds q o k v (sl 3)) (sl 3 k)) (ix2 r (hcol (hd c) (ps c))) := by
    rw [hcol_hd_ps]; rfl
  rw [e, side_at (fun h => nDot (ds q o k v (sl h)) (sl h k)), nDot_at]
  simp only [ds_at, sl_at, hcol_hd_ps]
  rfl

theorem tDk_at (c : Fin 2048) :
    tDk q o k v (ix2 j c) = ∑ r : Fin 256, dk Row.gradMax (cur q r) (cur o r) (cur k) (cur v) j c := by
  have e : tDk q o k v (ix2 j c) = side (tDot (ds q o k v (sl 0)) (sl 0 q)) (tDot (ds q o k v (sl 1)) (sl 1 q))
      (tDot (ds q o k v (sl 2)) (sl 2 q)) (tDot (ds q o k v (sl 3)) (sl 3 q)) (ix2 j (hcol (hd c) (ps c))) := by
    rw [hcol_hd_ps]; rfl
  rw [e, side_at (fun h => tDot (ds q o k v (sl h)) (sl h q)), tDot_at]
  simp only [ds_at, sl_at, hcol_hd_ps]
  rfl

theorem tDv_at (c : Fin 2048) :
    tDv q o k (ix2 j c) = ∑ r : Fin 256, dv (cur q r) (cur o r) (cur k) j c := by
  have e : tDv q o k (ix2 j c) = side (tDot (probs (sc (sl 0 q) (sl 0 k))) (sl 0 o)) (tDot (probs (sc (sl 1 q) (sl 1 k))) (sl 1 o))
      (tDot (probs (sc (sl 2 q) (sl 2 k))) (sl 2 o)) (tDot (probs (sc (sl 3 q) (sl 3 k))) (sl 3 o)) (ix2 j (hcol (hd c) (ps c))) := by
    rw [hcol_hd_ps]; rfl
  rw [e, side_at (fun h => tDot (probs (sc (sl h q) (sl h k))) (sl h o)), tDot_at]
  simp only [probs_row, sl_at, hcol_hd_ps]
  rfl

end

end Cert.Spec

end
-- ==== Proof.Arrays.lean ====
/- The kernel's three result arrays after the run, each a function of the four arguments: the queries' gradient block by
   block, the keys' and values' gradients summed over the grid's points. -/
module

public import proofs.«01_k».proof.Proof.Cases
public import proofs.«01_k».proof.Proof.Spec

@[expose] public section

set_option maxRecDepth 16384

noncomputable section

namespace Cert.Arrays

open Cert.KernelIdeal Cert.KernelIdeal.Gen Idealize.ShloMosaic Idealize.ShloMosaic.TcCoe Idealize.SL.Sem Idealize.ShloMosaic.Pointwise
open Idealize.ShloMosaic.Pipeline (Dat)
open Cert.Tile Cert.Spec

variable (m : (ℓ : Loc nD τ sig) → Buf (Elt Ideal) ℓ)

/-- The queries. -/
def Q (c : Dev nD) : Fin 4096 → Fin 2048 → EReal := cur (a := 4096) (b := 2048) (m ((c : Thread nD τ).loc main_arg0))
/-- The keys. -/
def K (c : Dev nD) : Fin 256 → Fin 2048 → EReal := cur (a := 256) (b := 2048) (m ((c : Thread nD τ).loc main_arg1))
/-- The values. -/
def V (c : Dev nD) : Fin 256 → Fin 2048 → EReal := cur (a := 256) (b := 2048) (m ((c : Thread nD τ).loc main_arg2))
/-- The output's gradient. -/
def O (c : Dev nD) : Fin 4096 → Fin 2048 → EReal := cur (a := 4096) (b := 2048) (m ((c : Thread nD τ).loc main_arg3))

/-- The row of the whole array that row `r` of point `t`'s tile is. -/
def row (t : Fin cfg0.N) (r : Fin 256) : Fin 4096 :=
  ⟨256 * t.val + r.val, by have hN : cfg0.N = 16 := N_0; have := t.isLt; have := r.isLt; omega⟩

theorem idx_facts : ∀ t : Fin cfg0.N, win0_0.index t 0 = t.val ∧ win0_0.index t 1 = 0 ∧ win0_1.index t 0 = t.val ∧ win0_1.index t 1 = 0
    ∧ win0_2.index t 0 = 0 ∧ win0_2.index t 1 = 0 ∧ win0_3.index t 0 = 0 ∧ win0_3.index t 1 = 0 ∧ win0_4.index t 0 = t.val ∧ win0_4.index t 1 = 0 :=
  (by decide +kernel : ∀ t : Fin grid0.N, _)

theorem iblk0 (c : Dev nD) (t : Fin cfg0.N) (r : Fin 256) : cur (a := 256) (b := 2048) (iblk m c 0 t) r = Q m c (row t r) := by
  have hi := idx_facts t
  funext l
  unfold cur iblk Q
  rw [View.read_apply]
  show Gen.V m c main_arg0 _ = m (c.tc.loc main_arg0) _
  unfold Gen.V
  congr 1
  funext a
  apply Fin.ext
  match a with
  | ⟨0, _⟩ => show win0_0.index t 0 * 256 + 1 * r.val = 256 * t.val + r.val; rw [hi.1]; omega
  | ⟨1, _⟩ => show win0_0.index t 1 * 2048 + 1 * l.val = l.val; rw [hi.2.1]; omega

theorem iblk1 (c : Dev nD) (t : Fin cfg0.N) (r : Fin 256) : cur (a := 256) (b := 2048) (iblk m c 1 t) r = O m c (row t r) := by
  have hi := idx_facts t
  funext l
  unfold cur iblk O
  rw [View.read_apply]
  show Gen.V m c main_arg3 _ = m (c.tc.loc main_arg3) _
  unfold Gen.V
  congr 1
  funext a
  apply Fin.ext
  match a with
  | ⟨0, _⟩ => show win0_1.index t 0 * 256 + 1 * r.val = 256 * t.val + r.val; rw [hi.2.2.1]; omega
  | ⟨1, _⟩ => show win0_1.index t 1 * 2048 + 1 * l.val = l.val; rw [hi.2.2.2.1]; omega

theorem iblk2 (c : Dev nD) (t : Fin cfg0.N) : cur (a := 256) (b := 2048) (iblk m c 2 t) = K m c := by
  have hi := idx_facts t
  funext r l
  unfold cur iblk K
  rw [View.read_apply]
  show Gen.V m c main_arg1 _ = m (c.tc.loc main_arg1) _
  unfold Gen.V
  congr 1
  funext a
  apply Fin.ext
  match a with
  | ⟨0, _⟩ => show win0_2.index t 0 * 256 + 1 * r.val = r.val; rw [hi.2.2.2.2.1]; omega
  | ⟨1, _⟩ => show win0_2.index t 1 * 2048 + 1 * l.val = l.val; rw [hi.2.2.2.2.2.1]; omega

theorem iblk3 (c : Dev nD) (t : Fin cfg0.N) : cur (a := 256) (b := 2048) (iblk m c 3 t) = V m c := by
  have hi := idx_facts t
  funext r l
  unfold cur iblk V
  rw [View.read_apply]
  show Gen.V m c main_arg2 _ = m (c.tc.loc main_arg2) _
  unfold Gen.V
  congr 1
  funext a
  apply Fin.ext
  match a with
  | ⟨0, _⟩ => show win0_3.index t 0 * 256 + 1 * r.val = r.val; rw [hi.2.2.2.2.2.2.1]; omega
  | ⟨1, _⟩ => show win0_3.index t 1 * 2048 + 1 * l.val = l.val; rw [hi.2.2.2.2.2.2.2.1]; omega

/-- The queries' gradient. -/
def dQ (c : Dev nD) : FVec Ideal S4096x2048 .bf16 := fun i =>
  Spec.dq Row.gradMax (Q m c (i 0)) (O m c (i 0)) (K m c) (V m c) (i 1)
/-- The keys' gradient. -/
def dK (c : Dev nD) : FVec Ideal S256x2048 .f32 := fun i =>
  (∑ R : Fin 4096, Spec.dk Row.gradMax (Q m c R) (O m c R) (K m c) (V m c) (i 0) (i 1) : EReal)
/-- The values' gradient. -/
def dV (c : Dev nD) : FVec Ideal S256x2048 .f32 := fun i =>
  (∑ R : Fin 4096, Spec.dv (Q m c R) (O m c R) (K m c) (i 0) (i 1) : EReal)

/-! ## The queries' gradient -/

theorem outs_first (c : Dev nD) (t : Fin cfg0.N) (h0 : t.val % 16 = 0) (h1 : ¬1 ≤ t.val) :
    outsAt0 m c t.val t.isLt = (tDq (F := Ideal) (iblk m c 0 t) (iblk m c 1 t) (iblk m c 2 t) (iblk m c 3 t),
      tDk (F := Ideal) (iblk m c 0 t) (iblk m c 1 t) (iblk m c 2 t) (iblk m c 3 t), tDv (F := Ideal) (iblk m c 0 t) (iblk m c 1 t) (iblk m c 2 t)) := by
  rw [outsAt0_A m c t h0 h1, Cases.outA4 c t, Cases.outA5 c t, Cases.outA6 c t]

theorem outs_next (c : Dev nD) (t : Fin cfg0.N) (h0 : ¬t.val % 16 = 0) (h1 : 1 ≤ t.val) :
    outsAt0 m c t.val t.isLt = (tDq (F := Ideal) (iblk m c 0 t) (iblk m c 1 t) (iblk m c 2 t) (iblk m c 3 t),
      addf (F := Ideal) (s := S256x2048) (φ := .f32) (outsAt0 m c (t.val - 1) (Nat.lt_of_le_of_lt (Nat.sub_le _ _) t.isLt)).2.1
        (tDk (F := Ideal) (iblk m c 0 t) (iblk m c 1 t) (iblk m c 2 t) (iblk m c 3 t)),
      addf (F := Ideal) (s := S256x2048) (φ := .f32) (outsAt0 m c (t.val - 1) (Nat.lt_of_le_of_lt (Nat.sub_le _ _) t.isLt)).2.2
        (tDv (F := Ideal) (iblk m c 0 t) (iblk m c 1 t) (iblk m c 2 t))) := by
  rw [outsAt0_B m c t h0 h1, Cases.outB4 c t, Cases.outB5 c t, Cases.outB6 c t]

theorem out4 (c : Dev nD) (t : Fin cfg0.N) :
    (outsAt0 m c t.val t.isLt).1 = tDq (F := Ideal) (iblk m c 0 t) (iblk m c 1 t) (iblk m c 2 t) (iblk m c 3 t) := by
  have hN : cfg0.N = 16 := N_0
  have := t.isLt
  by_cases h : t.val % 16 = 0
  · rw [outs_first m c t h (by omega)]
  · rw [outs_next m c t h (by omega)]

theorem tDq_blk (c : Dev nD) (t : Fin cfg0.N) (r : Fin 256) (l : Fin 2048) :
    tDq (F := Ideal) (iblk m c 0 t) (iblk m c 1 t) (iblk m c 2 t) (iblk m c 3 t) (ix2 r l)
      = Spec.dq Row.gradMax (Q m c (row t r)) (O m c (row t r)) (K m c) (V m c) l := by
  rw [tDq_at, iblk0, iblk1, iblk2, iblk3]

theorem flushed4 (c : Dev nD) (t : Fin cfg0.N) :
    (dats m 0 c).flushed 4 t = ((cfg0.win 4).blk t).view.read (Elt Ideal) (dQ m c) := by
  have hi := idx_facts t
  rw [Value.flushed4, out4]
  funext j
  rw [View.read_apply]
  have e0 : row t (j 0) = (((cfg0.win 4).blk t).view.emb j : S4096x2048.Idx) 0 := by
    apply Fin.ext; show 256 * t.val + (j 0).val = win0_4.index t 0 * 256 + 1 * (j 0).val; rw [hi.2.2.2.2.2.2.2.2.1]; omega
  have e1 : (j 1 : Fin 2048) = (((cfg0.win 4).blk t).view.emb j : S4096x2048.Idx) 1 := by
    apply Fin.ext; show (j 1).val = win0_4.index t 1 * 2048 + 1 * (j 1).val; rw [hi.2.2.2.2.2.2.2.2.2]; omega
  refine (congrArg (tDq (F := Ideal) (iblk m c 0 t) (iblk m c 1 t) (iblk m c 2 t) (iblk m c 3 t)) (eq_ix2 (n0 := 256) (n1 := 2048) j)).trans
    ((tDq_blk m c t (j 0) (j 1)).trans ?_)
  show _ = Spec.dq Row.gradMax (Q m c ((((cfg0.win 4).blk t).view.emb j : S4096x2048.Idx) 0)) (O m c ((((cfg0.win 4).blk t).view.emb j : S4096x2048.Idx) 0))
    (K m c) (V m c) ((((cfg0.win 4).blk t).view.emb j : S4096x2048.Idx) 1)
  rw [← e0, ← e1]

theorem cover4 (i : S4096x2048.Idx) : ∃ t : Fin cfg0.N, (cfg0.win 4).flush t = true ∧ i ∈ ((cfg0.win 4).blk t).view.set := by
  have hN : cfg0.N = 16 := N_0
  have h0 : (i 0 : Nat) < 4096 := (i 0).isLt
  have h1 : (i 1 : Nat) < 2048 := (i 1).isLt
  let t : Fin cfg0.N := ⟨(i 0 : Nat) / 256, by omega⟩
  have hi := idx_facts t
  refine ⟨t, flush0_4 t, ?_⟩
  show i ∈ ((View.whole main_v0_0).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [hi.2.2.2.2.2.2.2.2.1]; show (i 0 : Nat) / 256 * 256 ≤ _ ∧ _ < (i 0 : Nat) / 256 * 256 + 256; omega
  | ⟨1, _⟩ =>
    show win0_4.index t 1 * 2048 ≤ (i 1 : Nat) ∧ (i 1 : Nat) < win0_4.index t 1 * 2048 + 2048
    rw [hi.2.2.2.2.2.2.2.2.2]; omega

theorem final4 (c : Dev nD) : (dats m 0 c).arrAt 4 cfg0.N = dQ m c :=
  (dats m 0 c).arrAt_eq_of_cover 4 (dQ m c) (fun t _ => flushed4 m c t) cover4

/-! ## The keys' and values' gradients -/

/-- What point `t` adds to the keys' gradient. -/
def addK (c : Dev nD) (t : Fin cfg0.N) (j : Fin 256) (l : Fin 2048) : EReal :=
  ∑ r : Fin 256, Spec.dk Row.gradMax (Q m c (row t r)) (O m c (row t r)) (K m c) (V m c) j l
/-- What point `t` adds to the values' gradient. -/
def addV (c : Dev nD) (t : Fin cfg0.N) (j : Fin 256) (l : Fin 2048) : EReal :=
  ∑ r : Fin 256, Spec.dv (Q m c (row t r)) (O m c (row t r)) (K m c) j l

theorem tDk_blk (c : Dev nD) (t : Fin cfg0.N) (j : Fin 256) (l : Fin 2048) :
    tDk (F := Ideal) (iblk m c 0 t) (iblk m c 1 t) (iblk m c 2 t) (iblk m c 3 t) (ix2 j l) = addK m c t j l := by
  rw [tDk_at]
  unfold addK
  refine Finset.sum_congr rfl fun r _ => ?_
  rw [iblk0, iblk1, iblk2, iblk3]

theorem tDv_blk (c : Dev nD) (t : Fin cfg0.N) (j : Fin 256) (l : Fin 2048) :
    tDv (F := Ideal) (iblk m c 0 t) (iblk m c 1 t) (iblk m c 2 t) (ix2 j l) = addV m c t j l := by
  rw [tDv_at]
  unfold addV
  refine Finset.sum_congr rfl fun r _ => ?_
  rw [iblk0, iblk1, iblk2]

/-- The sum of a function of the point over points `0 … n`. -/
def upTo (f : Fin cfg0.N → EReal) : (n : ℕ) → n < cfg0.N → EReal
  | 0, h => f ⟨0, h⟩
  | n + 1, h => upTo f n (Nat.lt_of_succ_lt h) + f ⟨n + 1, h⟩

theorem upTo_eq (f : Fin cfg0.N → EReal) : ∀ (n : ℕ) (h : n < cfg0.N), upTo f n h = ∑ s : Fin (n + 1), f ⟨s.val, by omega⟩
  | 0, h => by rw [Fin.sum_univ_one]; rfl
  | n + 1, h => by rw [Fin.sum_univ_castSucc, upTo, upTo_eq f n]; rfl

theorem outs_kv (c : Dev nD) : ∀ (n : ℕ) (h : n < cfg0.N) (j : Fin 256) (l : Fin 2048),
    ((outsAt0 m c n h).2.1 : FVec Ideal S256x2048 .f32) (ix2 j l) = upTo (fun t => addK m c t j l) n h
    ∧ ((outsAt0 m c n h).2.2 : FVec Ideal S256x2048 .f32) (ix2 j l) = upTo (fun t => addV m c t j l) n h
  | 0, h, j, l => by
    have e := outs_first m c ⟨0, h⟩ (Nat.zero_mod _) (by simp)
    exact ⟨(congrFun (congrArg (fun x => x.2.1) e) (ix2 j l)).trans (tDk_blk m c ⟨0, h⟩ j l),
      (congrFun (congrArg (fun x => x.2.2) e) (ix2 j l)).trans (tDv_blk m c ⟨0, h⟩ j l)⟩
  | n + 1, h, j, l => by
    have hN : cfg0.N = 16 := N_0
    have hB : ¬(⟨n + 1, h⟩ : Fin cfg0.N).val % 16 = 0 := by dsimp only; omega
    have e := outs_next m c ⟨n + 1, h⟩ hB (by simp)
    have ih := outs_kv c n (Nat.lt_of_succ_lt h) j l
    exact ⟨(congrFun (congrArg (fun x => x.2.1) e) (ix2 j l)).trans (congrArg₂ (· + ·) ih.1 (tDk_blk m c ⟨n + 1, h⟩ j l)),
      (congrFun (congrArg (fun x => x.2.2) e) (ix2 j l)).trans (congrArg₂ (· + ·) ih.2 (tDv_blk m c ⟨n + 1, h⟩ j l))⟩

theorem sum_rows (f : Fin 4096 → EReal) : ∑ R, f R = ∑ t : Fin 16, ∑ r : Fin 256, f ⟨256 * t.val + r.val, by omega⟩ := by
  rw [Fin.sum_univ_tiles 16 256 rfl]
  refine Finset.sum_congr rfl fun t _ => Finset.sum_congr rfl fun r _ => congrArg f (Fin.ext ?_)
  show t.val * 256 + r.val = 256 * t.val + r.val
  omega

/-- The last point. -/
def last : Fin cfg0.N := ⟨15, by rw [show cfg0.N = 16 from N_0]; decide⟩

theorem upTo_last (f : Fin 4096 → EReal) (h : 15 < cfg0.N) : upTo (fun t => ∑ r : Fin 256, f (row t r)) 15 h = ∑ R, f R := by
  rw [upTo_eq, sum_rows]; rfl

theorem outs_last (c : Dev nD) : (outsAt0 m c last.val last.isLt).2.1 = dK m c ∧ (outsAt0 m c last.val last.isLt).2.2 = dV m c := by
  refine ⟨?_, ?_⟩
  · funext i
    refine (congrArg (outsAt0 m c last.val last.isLt).2.1 (eq_ix2 (n0 := 256) (n1 := 2048) i)).trans ?_
    exact (outs_kv m c 15 last.isLt (i 0) (i 1)).1.trans
      (upTo_last (fun R => Spec.dk Row.gradMax (Q m c R) (O m c R) (K m c) (V m c) (i 0) (i 1)) last.isLt)
  · funext i
    refine (congrArg (outsAt0 m c last.val last.isLt).2.2 (eq_ix2 (n0 := 256) (n1 := 2048) i)).trans ?_
    exact (outs_kv m c 15 last.isLt (i 0) (i 1)).2.trans
      (upTo_last (fun R => Spec.dv (Q m c R) (O m c R) (K m c) (i 0) (i 1)) last.isLt)

theorem flushed5 (c : Dev nD) (t : Fin cfg0.N) (hf : (cfg0.win 5).flush t = true) :
    (dats m 0 c).flushed 5 t = ((cfg0.win 5).blk t).view.read (Elt Ideal) (dK m c) := by
  have hN : cfg0.N = 16 := N_0
  obtain rfl : t = last := Fin.ext (by have := (flush0_5 t).mp hf; have := t.isLt; show t.val = 15; omega)
  rw [Value.flushed5, (outs_last m c).1]
  have hz' : (fun a => win0_5.index last a * main_v0_1.ty.shape.size a) = fun _ => 0 := funext fun a => by fin_cases a <;> decide
  exact (Memref.read_access_unit_zero (Elt Ideal) main_v0_1 hz' (fun a => by rw [congrFun hz' a]; simp) (dK m c)).symm

theorem flushed6 (c : Dev nD) (t : Fin cfg0.N) (hf : (cfg0.win 6).flush t = true) :
    (dats m 0 c).flushed 6 t = ((cfg0.win 6).blk t).view.read (Elt Ideal) (dV m c) := by
  have hN : cfg0.N = 16 := N_0
  obtain rfl : t = last := Fin.ext (by have := (flush0_6 t).mp hf; have := t.isLt; show t.val = 15; omega)
  rw [Value.flushed6, (outs_last m c).2]
  have hz' : (fun a => win0_6.index last a * main_v0_2.ty.shape.size a) = fun _ => 0 := funext fun a => by fin_cases a <;> decide
  exact (Memref.read_access_unit_zero (Elt Ideal) main_v0_2 hz' (fun a => by rw [congrFun hz' a]; simp) (dV m c)).symm

theorem final5 (c : Dev nD) : (dats m 0 c).arrAt 5 cfg0.N = dK m c :=
  (dats m 0 c).arrAt_eq_of_cover 5 (dK m c) (flushed5 m c) fun i => ⟨last, (flush0_5 last).mpr rfl, by
    show i ∈ ((View.whole main_v0_1).slice (win0_5.rect last)).set
    rw [View.set_slice_whole, Rect.mem_set_unit]
    intro a
    have h0 : (i 0 : Nat) < 256 := (i 0).isLt
    have h1 : (i 1 : Nat) < 2048 := (i 1).isLt
    match a with
    | ⟨0, _⟩ => show win0_5.index last 0 * 256 ≤ (i 0 : Nat) ∧ (i 0 : Nat) < win0_5.index last 0 * 256 + 256
                rw [show win0_5.index last 0 = 0 from by decide +kernel]; omega
    | ⟨1, _⟩ => show win0_5.index last 1 * 2048 ≤ (i 1 : Nat) ∧ (i 1 : Nat) < win0_5.index last 1 * 2048 + 2048
                rw [show win0_5.index last 1 = 0 from by decide +kernel]; omega⟩

theorem final6 (c : Dev nD) : (dats m 0 c).arrAt 6 cfg0.N = dV m c :=
  (dats m 0 c).arrAt_eq_of_cover 6 (dV m c) (flushed6 m c) fun i => ⟨last, (flush0_6 last).mpr rfl, by
    show i ∈ ((View.whole main_v0_2).slice (win0_6.rect last)).set
    rw [View.set_slice_whole, Rect.mem_set_unit]
    intro a
    have h0 : (i 0 : Nat) < 256 := (i 0).isLt
    have h1 : (i 1 : Nat) < 2048 := (i 1).isLt
    match a with
    | ⟨0, _⟩ => show win0_6.index last 0 * 256 ≤ (i 0 : Nat) ∧ (i 0 : Nat) < win0_6.index last 0 * 256 + 256
                rw [show win0_6.index last 0 = 0 from by decide +kernel]; omega
    | ⟨1, _⟩ => show win0_6.index last 1 * 2048 ≤ (i 1 : Nat) ∧ (i 1 : Nat) < win0_6.index last 1 * 2048 + 2048
                rw [show win0_6.index last 1 = 0 from by decide +kernel]; omega⟩

end Cert.Arrays

end
-- ==== Proof.RefValue.lean ====
/- The reference's operations, named, each read at an index over the extended reals in the words of `Spec.lean`. -/
module

public import proofs.«01_k».proof.Proof.Gen.ReferenceIdeal.Run
public import proofs.«01_k».proof.Proof.Spec

@[expose] public section

set_option maxRecDepth 16384

noncomputable section

namespace Cert.RefValue

open Cert.ReferenceIdeal Cert.ReferenceIdeal.Gen Idealize.ShloMosaic Idealize.ShloMosaic.TcCoe Idealize.SL.Sem Idealize.ShloMosaic.Pointwise
open Cert.Read (hcol scale ofBits_negInf)
open Cert.Spec (cur hd ps hcol_hd_ps)

/-- The queries or the output's gradient, split into heads. -/
def big (x : FVec Ideal S4096x2048 .f32) : FVec Ideal S1x4096x4x512 .f32 := shapeCast _ x shapeCasts_S4096x2048_S1x4096x4x512
/-- The keys or the values, split into heads. -/
def small (x : FVec Ideal S256x2048 .f32) : FVec Ideal S1x256x4x512 .f32 := shapeCast _ x shapeCasts_S256x2048_S1x256x4x512
/-- The scale at every entry. -/
def sc4 : FVec Ideal S1x4x4096x256 .f32 := broadcastInDim S1x4x4096x256 ![] bcast_S_S1x4x4096x256 (constant S_ .f32 0x3D3504F3#32)
/-- A row's value at the row's one column. -/
def col1 (x : FVec Ideal S1x4x4096 .f32) : FVec Ideal S1x4x4096x1 .f32 := broadcastInDim S1x4x4096x1 ![0, 1, 2] bcast_S1x4x4096_S1x4x4096x1_0_1_2 x
/-- A column's value at every entry of the row. -/
def wide (x : FVec Ideal S1x4x4096x1 .f32) : FVec Ideal S1x4x4096x256 .f32 :=
  broadcastInDim S1x4x4096x256 ![0, 1, 2, 3] bcast_S1x4x4096x1_S1x4x4096x256_0_1_2_3 x
/-- The row sums. -/
def sums (x : FVec Ideal S1x4x4096x256 .f32) : FVec Ideal S1x4x4096 .f32 :=
  Host.reduceAdd x (constant S_ .f32 0x00000000#32) reducesTo_S1x4x4096x256_S1x4x4096_d3 h_S_
/-- The scores. -/
def scores (q : FVec Ideal S4096x2048 .f32) (k : FVec Ideal S256x2048 .f32) : FVec Ideal S1x4x4096x256 .f32 :=
  mulf (Host.dotGeneral dot_S1x4096x4x512_S1x256x4x512_S1x4x4096x256_3_3_1_1_02_02 none (big q) (small k)) sc4
/-- The row maxima. -/
def tops (s : FVec Ideal S1x4x4096x256 .f32) : FVec Ideal S1x4x4096 .f32 :=
  maximumf (broadcastInDim S1x4x4096 ![] bcast_S_S1x4x4096 (constant S_ .f32 0xFF800000#32))
    (Host.reduce FloatOps.maximumf s (constant S_ .f32 0xFF800000#32) reducesTo_S1x4x4096x256_S1x4x4096_d3 h_S_)
/-- The exponentials. -/
def exs (s : FVec Ideal S1x4x4096x256 .f32) : FVec Ideal S1x4x4096x256 .f32 := Host.exp (subf s (wide (col1 (tops s))))
/-- The normalisers. -/
def dens (s : FVec Ideal S1x4x4096x256 .f32) : FVec Ideal S1x4x4096x1 .f32 := col1 (sums (exs s))
/-- The probabilities. -/
def probs (s : FVec Ideal S1x4x4096x256 .f32) : FVec Ideal S1x4x4096x256 .f32 := Host.divf (exs s) (wide (dens s))
/-- The output's gradient with the row last. -/
def turned (o : FVec Ideal S4096x2048 .f32) : FVec Ideal S1x4x512x4096 .f32 :=
  transpose S1x4x512x4096 [0, 2, 3, 1] (big o) transposes_S1x4096x4x512_S1x4x512x4096_0_2_3_1
/-- The probabilities' gradient. -/
def gprobs (o : FVec Ideal S4096x2048 .f32) (v : FVec Ideal S256x2048 .f32) : FVec Ideal S1x4x4096x256 .f32 :=
  Host.dotGeneral dot_S1x4x512x4096_S1x256x4x512_S1x4x4096x256_2_3_3_1_01_02 none (turned o) (small v)
/-- What the normaliser's gradient adds, before the sign. -/
def inner (s g : FVec Ideal S1x4x4096x256 .f32) : FVec Ideal S1x4x4096 .f32 :=
  sums (mulf (mulf g (wide (Host.divf (broadcastInDim S1x4x4096x1 ![] bcast_S_S1x4x4096x1 (constant S_ .f32 0x3F800000#32)) (mulf (dens s) (dens s))))) (exs s))
/-- The same with its sign, a head and a row to an entry. -/
def shifts (s g : FVec Ideal S1x4x4096x256 .f32) : FVec Ideal S4x4096 .f32 :=
  Host.reduceAdd (Host.negf (shapeCast S1x4x4096x1 (inner s g) shapeCasts_S1x4x4096_S1x4x4096x1)) (constant S_ .f32 0x00000000#32)
    reducesTo_S1x4x4096x1_S4x4096_d0_3 h_S_
/-- The scores' gradient, the scale included. -/
def grads (s g : FVec Ideal S1x4x4096x256 .f32) : FVec Ideal S1x4x4096x256 .f32 :=
  mulf (mulf (addf (Host.divf g (wide (dens s)))
    (broadcastInDim S1x4x4096x256 ![0, 1, 2] bcast_S1x4x4096_S1x4x4096x256_0_1_2
      (broadcastInDim S1x4x4096 ![1, 2] bcast_S4x4096_S1x4x4096_1_2 (shifts s g)))) (exs s)) sc4
/-- The values' gradient. -/
def resV (q o : FVec Ideal S4096x2048 .f32) (k : FVec Ideal S256x2048 .f32) : FVec Ideal S256x2048 .f32 :=
  shapeCast _ (transpose S1x256x4x512 [0, 3, 1, 2] (Host.dotGeneral dot_S1x4x512x4096_S1x4x4096x256_S1x4x512x256_3_2_2_3_01_01 none
    (turned o) (probs (scores q k))) transposes_S1x4x512x256_S1x256x4x512_0_3_1_2) shapeCasts_S1x256x4x512_S256x2048
/-- The keys' gradient. -/
def resK (q o : FVec Ideal S4096x2048 .f32) (k v : FVec Ideal S256x2048 .f32) : FVec Ideal S256x2048 .f32 :=
  shapeCast _ (transpose S1x256x4x512 [0, 2, 1, 3] (Host.dotGeneral dot_S1x4x4096x256_S1x4096x4x512_S1x4x256x512_2_1_3_3_01_02 none
    (grads (scores q k) (gprobs o v)) (big q)) transposes_S1x4x256x512_S1x256x4x512_0_2_1_3) shapeCasts_S1x256x4x512_S256x2048
/-- The queries' gradient. -/
def resQ (q o : FVec Ideal S4096x2048 .f32) (k v : FVec Ideal S256x2048 .f32) : FVec Ideal S4096x2048 .bf16 :=
  truncf .bf16 (shapeCast _ (transpose S1x4096x4x512 [0, 2, 1, 3] (Host.dotGeneral dot_S1x4x4096x256_S1x256x4x512_S1x4x4096x512_3_1_2_3_01_02 none
    (grads (scores q k) (gprobs o v)) (small k)) transposes_S1x4x4096x512_S1x4096x4x512_0_2_1_3) shapeCasts_S1x4096x4x512_S4096x2048) bitsLt_bf16_f32

theorem eq_resQ (m : (ℓ : Loc nD τ sig) → Buf (Elt Ideal) ℓ) (c : Dev nD) : Value.res_out0 m c = resQ (m ((c.tc : Thread nD τ).loc main_arg0))
    (m ((c.tc : Thread nD τ).loc main_arg3)) (m ((c.tc : Thread nD τ).loc main_arg1)) (m ((c.tc : Thread nD τ).loc main_arg2)) := rfl
theorem eq_resK (m : (ℓ : Loc nD τ sig) → Buf (Elt Ideal) ℓ) (c : Dev nD) : Value.res_out1 m c = resK (m ((c.tc : Thread nD τ).loc main_arg0))
    (m ((c.tc : Thread nD τ).loc main_arg3)) (m ((c.tc : Thread nD τ).loc main_arg1)) (m ((c.tc : Thread nD τ).loc main_arg2)) := rfl

/-! ## Reading them -/

theorem big_at (x : FVec Ideal S4096x2048 .f32) (R : Fin 4096) (h : Fin 4) (e : Fin 512) : big x (ix4 0 R h e) = x (ix2 R (hcol h e)) := by
  pointwise [big]
  refine congrArg (fun y => x (ix2 R y)) (Fin.ext ?_)
  show h.val * 512 + e.val = 512 * h.val + e.val
  omega
theorem small_at (x : FVec Ideal S256x2048 .f32) (R : Fin 256) (h : Fin 4) (e : Fin 512) : small x (ix4 0 R h e) = x (ix2 R (hcol h e)) := by
  pointwise [small]
  refine congrArg (fun y => x (ix2 R y)) (Fin.ext ?_)
  show h.val * 512 + e.val = 512 * h.val + e.val
  omega
theorem sc4_at (h : Fin 4) (R : Fin 4096) (j : Fin 256) : sc4 (ix4 0 h R j) = scale := by
  pointwise [sc4]
  rfl
theorem wide_at (x : FVec Ideal S1x4x4096 .f32) (h : Fin 4) (R : Fin 4096) (j : Fin 256) : wide (col1 x) (ix4 0 h R j) = x (ix3 0 h R) := by
  pointwise [wide, col1]
theorem sums_at (x : FVec Ideal S1x4x4096x256 .f32) (h : Fin 4) (R : Fin 4096) : sums x (ix3 0 h R) = ∑ j, x (ix4 0 h R j) := by
  pointwise [sums]
theorem scores_at (q : FVec Ideal S4096x2048 .f32) (k : FVec Ideal S256x2048 .f32) (h : Fin 4) (R : Fin 4096) (j : Fin 256) :
    scores q k (ix4 0 h R j) = Spec.score (cur q R) (cur k) h j := by
  pointwise [scores]
  simp only [big_at, small_at, sc4_at]
  rfl
theorem reduceMax_at (s : FVec Ideal S1x4x4096x256 .f32) (h : Fin 4) (R : Fin 4096) :
    Host.reduce FloatOps.maximumf s (constant S_ .f32 0xFF800000#32) reducesTo_S1x4x4096x256_S1x4x4096_d3 h_S_ (ix3 0 h R)
      = Row.top fun j => s (ix4 0 h R j) := by
  refine (Host.reduce_eq_fold (max : EReal → EReal → EReal) s _ reducesTo_S1x4x4096x256_S1x4x4096_d3 h_S_ (ix3 0 h R)).trans ?_
  refine (Shape.ReducesTo.fold_fiber_r4_a3 reducesTo_S1x4x4096x256_S1x4x4096_d3 (ix3 0 h R) max _ s).trans ?_
  show Finset.fold max (Ideal.ofBits .f32 0xFF800000#32) _ _ = _
  rw [ofBits_negInf]
  rfl
theorem max_negInf_at (x : FVec Ideal S1x4x4096 .f32) (i : S1x4x4096.Idx) :
    maximumf (broadcastInDim S1x4x4096 ![] bcast_S_S1x4x4096 (constant S_ .f32 0xFF800000#32)) x i = x i := by
  show max (Ideal.ofBits .f32 0xFF800000#32) _ = _
  rw [ofBits_negInf]
  exact max_eq_right bot_le
theorem tops_at (s : FVec Ideal S1x4x4096x256 .f32) (h : Fin 4) (R : Fin 4096) : tops s (ix3 0 h R) = Row.top fun j => s (ix4 0 h R j) := by
  unfold tops
  rw [max_negInf_at, reduceMax_at]
theorem exs_at (s : FVec Ideal S1x4x4096x256 .f32) (h : Fin 4) (R : Fin 4096) (j : Fin 256) :
    exs s (ix4 0 h R j) = Row.ex (fun j => s (ix4 0 h R j)) j := by
  pointwise [exs]
  rw [wide_at, tops_at]
  rfl
theorem wideDens_at (s : FVec Ideal S1x4x4096x256 .f32) (h : Fin 4) (R : Fin 4096) (j : Fin 256) :
    wide (dens s) (ix4 0 h R j) = Row.den (fun j => s (ix4 0 h R j)) := by
  unfold dens
  rw [wide_at, sums_at]
  simp only [exs_at]
  rfl
theorem probs_at (s : FVec Ideal S1x4x4096x256 .f32) (h : Fin 4) (R : Fin 4096) (j : Fin 256) :
    probs s (ix4 0 h R j) = Row.prob (fun j => s (ix4 0 h R j)) j := by
  pointwise [probs]
  rw [exs_at, wideDens_at]
  rfl
theorem turned_at (o : FVec Ideal S4096x2048 .f32) (R : Fin 4096) (h : Fin 4) (e : Fin 512) : turned o (ix4 0 h e R) = o (ix2 R (hcol h e)) := by
  pointwise [turned]
  rw [big_at]
theorem gprobs_at (o : FVec Ideal S4096x2048 .f32) (v : FVec Ideal S256x2048 .f32) (h : Fin 4) (R : Fin 4096) (j : Fin 256) :
    gprobs o v (ix4 0 h R j) = Spec.gprob (cur o R) (cur v) h j := by
  pointwise [gprobs]
  simp only [turned_at, small_at]
  rfl
theorem dens_at (s : FVec Ideal S1x4x4096x256 .f32) (h : Fin 4) (R : Fin 4096) : dens s (ix4 0 h R 0) = Row.den (fun j => s (ix4 0 h R j)) := by
  pointwise [dens, col1]
  rw [sums_at]
  simp only [exs_at]
  rfl
theorem inner_at (s g : FVec Ideal S1x4x4096x256 .f32) (h : Fin 4) (R : Fin 4096) :
    inner s g (ix3 0 h R) = ∑ j, g (ix4 0 h R j) * Ideal.div 1 (Row.den (fun j => s (ix4 0 h R j)) * Row.den (fun j => s (ix4 0 h R j)))
      * Row.ex (fun j => s (ix4 0 h R j)) j := by
  unfold inner
  rw [sums_at]
  refine Finset.sum_congr rfl fun j _ => ?_
  pointwise [wide]
  rw [dens_at, exs_at]
theorem drop_iff (h : Fin 4) (R : Fin 4096) (i : S1x4x4096x1.Idx) :
    reducesTo_S1x4x4096x1_S4x4096_d0_3.drop i = ix2 h R ↔ ∃ _ : Fin 1, (ix4 0 h R 0 : S1x4x4096x1.Idx) = i := by
  constructor
  · intro e
    refine ⟨0, ?_⟩
    funext a; apply Fin.ext
    match a with
    | ⟨0, _⟩ => have : (i 0).val < 1 := (i 0).isLt; show 0 = (i 0).val; omega
    | ⟨1, _⟩ => exact (congrArg Fin.val (congrFun e 0)).symm
    | ⟨2, _⟩ => exact (congrArg Fin.val (congrFun e 1)).symm
    | ⟨3, _⟩ => have : (i 3).val < 1 := (i 3).isLt; show 0 = (i 3).val; omega
  · rintro ⟨k, rfl⟩
    funext b
    apply Fin.ext
    match b with
    | ⟨0, _⟩ => rfl
    | ⟨1, _⟩ => rfl
theorem reduce2_at (x : FVec Ideal S1x4x4096x1 .f32) (h : Fin 4) (R : Fin 4096) :
    Ideal.hostReduceAdd reducesTo_S1x4x4096x1_S4x4096_d0_3 x 0 (ix2 h R) = x (ix4 0 h R 0) := by
  unfold Ideal.hostReduceAdd
  rw [Finset.sum_filter_eq_sum_of_fiber _ (fun _ : Fin 1 => (ix4 0 h R 0 : S1x4x4096x1.Idx)) (fun _ _ _ => Subsingleton.elim _ _) (drop_iff h R) x,
    Fin.sum_univ_one, zero_add]
theorem shifts_at (s g : FVec Ideal S1x4x4096x256 .f32) (h : Fin 4) (R : Fin 4096) :
    shifts s g (ix2 h R) = Row.shift (fun j => s (ix4 0 h R j)) (fun j => g (ix4 0 h R j)) := by
  pointwise [shifts]
  rw [reduce2_at]
  pointwise []
  rw [inner_at]
  rfl
theorem grads_at (s g : FVec Ideal S1x4x4096x256 .f32) (h : Fin 4) (R : Fin 4096) (j : Fin 256) :
    grads s g (ix4 0 h R j) = Row.grad (fun j => s (ix4 0 h R j)) (fun j => g (ix4 0 h R j)) j * scale := by
  pointwise [grads]
  rw [shifts_at, exs_at, wideDens_at, sc4_at]
  rfl
theorem scores_row (q : FVec Ideal S4096x2048 .f32) (k : FVec Ideal S256x2048 .f32) (h : Fin 4) (R : Fin 4096) :
    (fun j => scores q k (ix4 0 h R j)) = Spec.score (cur q R) (cur k) h := funext fun j => scores_at q k h R j
theorem gprobs_row (o : FVec Ideal S4096x2048 .f32) (v : FVec Ideal S256x2048 .f32) (h : Fin 4) (R : Fin 4096) :
    (fun j => gprobs o v (ix4 0 h R j)) = Spec.gprob (cur o R) (cur v) h := funext fun j => gprobs_at o v h R j

theorem resV_at (q o : FVec Ideal S4096x2048 .f32) (k : FVec Ideal S256x2048 .f32) (j : Fin 256) (c : Fin 2048) :
    resV q o k (ix2 j c) = ∑ R : Fin 4096, Spec.dv (cur q R) (cur o R) (cur k) j c := by
  pointwise [resV]
  refine Finset.sum_congr rfl fun R _ => ?_
  show turned o (ix4 0 (hd c) (ps c) R) * probs (scores q k) (ix4 0 (hd c) R j) = _
  rw [turned_at, probs_at, scores_row, hcol_hd_ps, mul_comm]
  rfl
theorem resK_at (q o : FVec Ideal S4096x2048 .f32) (k v : FVec Ideal S256x2048 .f32) (j : Fin 256) (c : Fin 2048) :
    resK q o k v (ix2 j c) = ∑ R : Fin 4096, Spec.dk Row.grad (cur q R) (cur o R) (cur k) (cur v) j c := by
  pointwise [resK]
  refine Finset.sum_congr rfl fun R _ => ?_
  show grads (scores q k) (gprobs o v) (ix4 0 (hd c) R j) * big q (ix4 0 R (hd c) (ps c)) = _
  rw [grads_at, big_at, scores_row, gprobs_row, hcol_hd_ps]
  rfl
theorem resQ_at (q o : FVec Ideal S4096x2048 .f32) (k v : FVec Ideal S256x2048 .f32) (R : Fin 4096) (c : Fin 2048) :
    resQ q o k v (ix2 R c) = Spec.dq Row.grad (cur q R) (cur o R) (cur k) (cur v) c := by
  pointwise [resQ]
  refine Finset.sum_congr rfl fun j _ => ?_
  show grads (scores q k) (gprobs o v) (ix4 0 (hd c) R j) * small k (ix4 0 j (hd c) (ps c)) = _
  rw [grads_at, small_at, scores_row, gprobs_row, hcol_hd_ps]
  rfl

end Cert.RefValue

end
-- ==== Proof.Agree.lean ====
/- The kernel's three arrays are the reference's three results of the same arguments, where the values and the output's
   gradient are finite. -/
module

public import proofs.«01_k».proof.Pre_finite_v_do
public import proofs.«01_k».proof.Proof.Arrays
public import proofs.«01_k».proof.Proof.RefValue

@[expose] public section

set_option maxRecDepth 16384

noncomputable section

namespace Cert.Agree

open Idealize.ShloMosaic Idealize.ShloMosaic.Pointwise
open Cert.Spec (cur)

/-- An array compares below infinity in absolute value everywhere: its entries are real. -/
theorem real_of_lt {s : Shape} (x : FVec Ideal s .f32) (b : FVec Ideal s .f32) (hb : ∀ i, b i = (⊤ : EReal))
    (h : cmpf .olt (Host.absf x) b = fun _ => 1#1) (i : s.Idx) : ∃ r : ℝ, (x i : EReal) = (r : EReal) := by
  have hi : Ideal.cmp .olt (max (x i) (-(x i))) (b i) = 1#1 := congrFun h i
  rw [hb i] at hi
  have hlt : max (x i : EReal) (-(x i : EReal)) < ⊤ := by
    by_contra hn
    simp [Ideal.cmp, hn] at hi
  obtain ⟨h1, h2⟩ := max_lt_iff.1 hlt
  have h3 : (x i : EReal) ≠ ⊥ := fun hb => by rw [hb] at h2; simp at h2
  exact ⟨_, (EReal.coe_toReal h1.ne h3).symm⟩

instance preFacts : Cert.Pre_finite_v_do.Facts := ⟨by decide, by decide⟩

theorem inf_at : Ideal.ofBits .f32 0x7F800000#32 = (⊤ : EReal) := by simp [Ideal.ofBits, Ideal.ieee]

variable (q o : FVec Ideal Cert.KernelIdeal.S4096x2048 .f32) (k v : FVec Ideal Cert.KernelIdeal.S256x2048 .f32)

/-- The precondition, read: the values are real. -/
theorem values_real (h : (Cert.Pre_finite_v_do.fn (F := Ideal) q k v o).1 = fun _ => 1#1) (i) : ∃ r : ℝ, (v i : EReal) = (r : EReal) :=
  real_of_lt v _ (fun _ => inf_at) h i
/-- The precondition, read: the output's gradient is real. -/
theorem outs_real (h : (Cert.Pre_finite_v_do.fn (F := Ideal) q k v o).2 = fun _ => 1#1) (i) : ∃ r : ℝ, (o i : EReal) = (r : EReal) :=
  real_of_lt o _ (fun _ => inf_at) h i

/-- The probabilities' gradient is real where the values and the output's gradient are. -/
theorem gprob_real (hv : ∀ i, ∃ r : ℝ, (v i : EReal) = (r : EReal)) (ho : ∀ i, ∃ r : ℝ, (o i : EReal) = (r : EReal))
    (R : Fin 4096) (h : Fin 4) (j : Fin 256) : ∃ r : ℝ, Spec.gprob (cur o R) (cur v) h j = (r : EReal) := by
  choose a ha using hv
  choose b hb using ho
  refine ⟨∑ e : Fin 512, b (ix2 R (Read.hcol h e)) * a (ix2 j (Read.hcol h e)), ?_⟩
  unfold Spec.gprob cur
  rw [Row.coe_sum]
  exact Finset.sum_congr rfl fun e _ => by rw [ha, hb, EReal.coe_mul]

section
variable (hv : ∀ i, ∃ r : ℝ, (v i : EReal) = (r : EReal)) (ho : ∀ i, ∃ r : ℝ, (o i : EReal) = (r : EReal))
include hv ho

/-- The queries' gradient, one entry. -/
theorem dq_eq (R : Fin 4096) (c : Fin 2048) : Spec.dq Row.gradMax (cur q R) (cur o R) (cur k) (cur v) c
    = Spec.dq Row.grad (cur q R) (cur o R) (cur k) (cur v) c := by
  unfold Spec.dq
  exact Finset.sum_congr rfl fun j _ => by rw [Row.gradMax_eq _ _ (gprob_real o v hv ho R _)]

/-- What a row adds to the keys' gradient, one entry. -/
theorem dk_eq (R : Fin 4096) (j : Fin 256) (c : Fin 2048) : Spec.dk Row.gradMax (cur q R) (cur o R) (cur k) (cur v) j c
    = Spec.dk Row.grad (cur q R) (cur o R) (cur k) (cur v) j c := by
  unfold Spec.dk
  rw [Row.gradMax_eq _ _ (gprob_real o v hv ho R _)]

end

section
open Cert.KernelIdeal Cert.KernelIdeal.Gen Idealize.ShloMosaic.TcCoe Idealize.SL.Sem
variable (m : (ℓ : Loc nD τ sig) → Buf (Elt Ideal) ℓ) (c : Dev nD)

/-- The values' gradient: no precondition. -/
theorem dV_eq : Arrays.dV m c = RefValue.resV (m ((c : Thread nD τ).loc main_arg0)) (m ((c : Thread nD τ).loc main_arg3))
    (m ((c : Thread nD τ).loc main_arg1)) := by
  funext i
  obtain ⟨a, b, rfl⟩ : ∃ (a : Fin 256) (b : Fin 2048), i = ix2 a b := ⟨i 0, i 1, eq_ix2 i⟩
  exact (RefValue.resV_at _ _ _ a b).symm

variable (hv : ∀ i, ∃ r : ℝ, (m ((c : Thread nD τ).loc main_arg2) i : EReal) = (r : EReal))
variable (ho : ∀ i, ∃ r : ℝ, (m ((c : Thread nD τ).loc main_arg3) i : EReal) = (r : EReal))
include hv ho

/-- The queries' gradient. -/
theorem dQ_eq : Arrays.dQ m c = RefValue.resQ (m ((c : Thread nD τ).loc main_arg0)) (m ((c : Thread nD τ).loc main_arg3))
    (m ((c : Thread nD τ).loc main_arg1)) (m ((c : Thread nD τ).loc main_arg2)) := by
  funext i
  obtain ⟨a, b, rfl⟩ : ∃ (a : Fin 4096) (b : Fin 2048), i = ix2 a b := ⟨i 0, i 1, eq_ix2 i⟩
  exact (dq_eq _ _ _ _ hv ho a b).trans (RefValue.resQ_at _ _ _ _ a b).symm

/-- The keys' gradient. -/
theorem dK_eq : Arrays.dK m c = RefValue.resK (m ((c : Thread nD τ).loc main_arg0)) (m ((c : Thread nD τ).loc main_arg3))
    (m ((c : Thread nD τ).loc main_arg1)) (m ((c : Thread nD τ).loc main_arg2)) := by
  funext i
  obtain ⟨a, b, rfl⟩ : ∃ (a : Fin 256) (b : Fin 2048), i = ix2 a b := ⟨i 0, i 1, eq_ix2 i⟩
  exact (Finset.sum_congr rfl fun R _ => dk_eq _ _ _ _ hv ho R a b).trans (RefValue.resK_at _ _ _ _ a b).symm

end

end Cert.Agree

end
-- ==== Proof.FfnTile.lean ====
/- What each call of the feed-forward's program leaves in its output block at one grid point, and the values of that
   block index by index. -/
module

public import proofs.«01_k».proof.Proof.Gen.Kernel2Ideal.Frame
public import Idealize.ShloMosaic.Lib.Pipeline.Value
public import Idealize.ShloMosaic.Lib.Pointwise

@[expose] public section

set_option maxRecDepth 16384

noncomputable section

namespace Cert.FfnTile

open Cert.Kernel2Ideal Cert.Kernel2Ideal.Gen Idealize.ShloMosaic Idealize.ShloMosaic.TcCoe Idealize.ShloMosaic.Tactic Idealize.SL.Sem
open Idealize.ShloMosaic.Pointwise
open Idealize.ShloMosaic.Pipeline (Dat)

/-- A rank-two offset written as a list of zeros. -/
theorem zero2 : (![0, 0] : Fin 2 → Nat) = fun _ => 0 := by funext i; fin_cases i <;> rfl
/-- A rank-three offset written as a list of zeros. -/
theorem zero3 : (![0, 0, 0] : Fin 3 → Nat) = fun _ => 0 := by funext i; fin_cases i <;> rfl

section Blocks
variable {F : FTy → Type} [FloatOps F]
variable (V : (c : Dev nD) → (b : Ref sig .tc) → Buf (Elt F) ((c : Thread nD τ).loc b))

theorem outs0 (c : Dev nD) (t : Fin cfg0.N) : outsAt0 V c t = k0_pay1 (iblk0 V c 0 t) (iblk0 V c 1 t) := by
  unfold outsAt0 out0_A_2
  rw [View.read_writes_eq_canon _ _ _ (cover0_A_2 c _ _ _ _ _ _ _ _ _ _ _)]
  unfold kernelRun0_A; dsimp only; sl_unfold_words
  rw [View.canon_unit_zero zero2]
  simp only [View.readAt_eq_ld, (hs0_0 t).read_unread, (hs0_1 t).read_unread,
    View.ld_unit_zero (S := S1024x2048) zero2, View.ld_unit_zero (S := S1x2048x1024) zero3]

theorem outs2 (c : Dev nD) (t : Fin cfg2.N) : outsAt2 V c t = k2_pay1 (iblk2 V c 0 t) (iblk2 V c 1 t) := by
  unfold outsAt2 out2_A_2
  rw [View.read_writes_eq_canon _ _ _ (cover2_A_2 c _ _ _ _ _ _ _ _ _ _ _)]
  unfold kernelRun2_A; dsimp only; sl_unfold_words
  rw [View.canon_unit_zero zero2]
  simp only [View.readAt_eq_ld, (hs2_0 t).read_unread, (hs2_1 t).read_unread, View.ld_unit_zero (S := S4096x1024) zero2]

theorem outs3 (c : Dev nD) (t : Fin cfg3.N) : outsAt3 V c t = k3_pay1 (iblk3 V c 0 t) (iblk3 V c 1 t) := by
  unfold outsAt3 out3_A_2
  rw [View.read_writes_eq_canon _ _ _ (cover3_A_2 c _ _ _ _ _ _ _ _ _ _ _)]
  unfold kernelRun3_A; dsimp only; sl_unfold_words
  rw [View.canon_unit_zero zero2]
  simp only [View.readAt_eq_ld, (hs3_0 t).read_unread, (hs3_1 t).read_unread, View.ld_unit_zero (S := S1024x2048) zero2]

theorem outs5 (c : Dev nD) (t : Fin cfg5.N) : outsAt5 V c t = k5_pay1 (iblk5 V c 0 t) (iblk5 V c 1 t) := by
  unfold outsAt5 out5_A_2
  rw [View.read_writes_eq_canon _ _ _ (cover5_A_2 c _ _ _ _ _ _ _ _ _ _ _)]
  unfold kernelRun5_A; dsimp only; sl_unfold_words
  rw [View.canon_unit_zero zero3]
  simp only [View.readAt_eq_ld, (hs5_0 t).read_unread, (hs5_1 t).read_unread, View.ld_unit_zero (S := S4096x1024) zero2]

theorem outs1 (x : Vec F S128x8192 .bf16) : out1_1 x = k1_pay1 x := by
  unfold out1_1
  rw [View.canon_unit_zero zero2, View.ld_unit_zero (S := S128x8192) zero2]

theorem outs4 (x y : Vec F S128x8192 .bf16) : out4_2 x y = k4_pay1 x y := by
  unfold out4_2
  rw [View.canon_unit_zero zero2, View.ld_unit_zero (S := S128x8192) zero2, View.ld_unit_zero (S := S128x8192) zero2]

end Blocks

/-! ## The blocks index by index -/

theorem pay0_at (x : Vec Ideal S1024x2048 .bf16) (y : Vec Ideal S1x2048x1024 .bf16) (r : Fin 1024) (j : Fin 1024) :
    k0_pay1 x y (ix2 r j) = (∑ e : Fin 2048, x (ix2 r e) * y (ix3 0 e j) : EReal) := by
  pointwise [k0_pay1]

theorem pay2_at (x y : Vec Ideal S4096x1024 .bf16) (r j : Fin 1024) :
    k2_pay1 x y (ix2 r j) = (∑ e : Fin 4096, x (ix2 e r) * y (ix2 e j) : EReal) := by
  pointwise [k2_pay1]

theorem pay3_at (x y : Vec Ideal S1024x2048 .bf16) (r j : Fin 1024) :
    k3_pay1 x y (ix2 r j) = (∑ e : Fin 2048, x (ix2 r e) * y (ix2 j e) : EReal) := by
  pointwise [k3_pay1]

theorem pay5_at (x y : Vec Ideal S4096x1024 .bf16) (a : Fin 1) (r j : Fin 1024) :
    k5_pay1 x y (ix3 a r j) = (∑ e : Fin 4096, x (ix2 e r) * y (ix2 e j) : EReal) := by
  pointwise [k5_pay1]

/-- The squared positive part. -/
def act (a : EReal) : EReal := max a 0 * max a 0
/-- Its gradient at `a` under the output's gradient `d`, as the kernel's text has it. -/
def actGrad (a d : EReal) : EReal := d * (Ideal.ofBits .f32 0x40000000#32 * max a 0) * (if 0 < a then 1 else if a = 0 then Ideal.ofBits .f32 0x3F000000#32 else 0)

theorem pay1_at (x : Vec Ideal S128x8192 .bf16) (r : Fin 128) (j : Fin 8192) : k1_pay1 x (ix2 r j) = act (x (ix2 r j)) := by
  pointwise [k1_pay1, act]

theorem pay4_at (x y : Vec Ideal S128x8192 .bf16) (r : Fin 128) (j : Fin 8192) :
    k4_pay1 x y (ix2 r j) = actGrad (x (ix2 r j)) (y (ix2 r j)) := by
  pointwise [k4_pay1, actGrad]

end Cert.FfnTile

end
-- ==== Proof.FfnArrays.lean ====
/- The result array of each call of the feed-forward's program, a function of the call's operands whatever they hold. -/
module

public import proofs.«01_k».proof.Proof.FfnTile

@[expose] public section

set_option maxRecDepth 16384

noncomputable section

namespace Cert.FfnArrays

open Cert.Kernel2Ideal Cert.Kernel2Ideal.Gen Idealize.ShloMosaic Idealize.ShloMosaic.TcCoe Idealize.SL.Sem
open Idealize.ShloMosaic.Pointwise
open Idealize.ShloMosaic.Pipeline (Dat)
open Cert.FfnTile

/-- The device whose columns hold column `j`. -/
def slot (j : Fin 8192) : Fin 4 := ⟨j.val / 2048, by have := j.isLt; omega⟩
/-- The column's place among that device's. -/
def col (j : Fin 8192) : Fin 2048 := ⟨j.val % 2048, Nat.mod_lt _ (by decide)⟩
/-- The column of the whole at place `l` of device `s`. -/
def glue (s : Fin 4) (l : Fin 2048) : Fin 8192 := ⟨s.val * 2048 + l.val, by have := s.isLt; have := l.isLt; omega⟩

/-- Rows of `h` by the columns of `w`, cut over four devices. -/
def up (h : FVec Ideal S4096x2048 .bf16) (w : FVec Ideal S4x2048x2048 .bf16) : FVec Ideal S4096x8192 .bf16 := fun i =>
  (∑ e : Fin 2048, h (ix2 (n0 := 4096) (i 0) e) * w (ix3 (slot (i 1)) e (col (i 1))) : EReal)
/-- The squared positive part of every entry. -/
def acts (a : FVec Ideal S4096x8192 .bf16) : FVec Ideal S4096x8192 .bf16 := fun i => act (a i)
/-- Columns of `f` by the columns of `d`. -/
def downDw (f : FVec Ideal S4096x8192 .bf16) (d : FVec Ideal S4096x2048 .bf16) : FVec Ideal S8192x2048 .f32 := fun i =>
  (∑ e : Fin 4096, f (ix2 e (n1 := 8192) (i 0)) * d (ix2 e (n1 := 2048) (i 1)) : EReal)
/-- Rows of `d` by the rows of `w`. -/
def downDx (d : FVec Ideal S4096x2048 .bf16) (w : FVec Ideal S8192x2048 .bf16) : FVec Ideal S4096x8192 .bf16 := fun i =>
  (∑ e : Fin 2048, d (ix2 (n0 := 4096) (i 0) e) * w (ix2 (n0 := 8192) (i 1) e) : EReal)
/-- The squared positive part's gradient at every entry. -/
def actGrads (a d : FVec Ideal S4096x8192 .bf16) : FVec Ideal S4096x8192 .bf16 := fun i => actGrad (a i) (d i)
/-- Columns of `h` by the columns of `a`, the latter cut over four devices. -/
def upDw (h : FVec Ideal S4096x2048 .bf16) (a : FVec Ideal S4096x8192 .bf16) : FVec Ideal S4x2048x2048 .f32 := fun i =>
  (∑ e : Fin 4096, h (ix2 e (n1 := 2048) (i 1)) * a (ix2 e (glue (i 0) (i 2))) : EReal)

variable (V : (c : Dev nD) → (b : Ref sig .tc) → Buf (Elt Ideal) ((c : Thread nD τ).loc b))

/-! ## The first product -/

theorem idx0 : ∀ t : Fin cfg0.N, win0_0.index t 0 = win0_2.index t 0 ∧ win0_0.index t 1 = 0
    ∧ win0_1.index t 0 = win0_2.index t 1 / 2 ∧ win0_1.index t 1 = 0 ∧ win0_1.index t 2 = win0_2.index t 1 % 2
    ∧ win0_2.index t 0 < 4 ∧ win0_2.index t 1 < 8 := (by decide +kernel : ∀ t : Fin grid0.N, _)
theorem pts0 : ∀ (a : Fin 4) (b : Fin 8), ∃ t : Fin cfg0.N, win0_2.index t 0 = a.val ∧ win0_2.index t 1 = b.val :=
  (by decide +kernel : ∀ (a : Fin 4) (b : Fin 8), ∃ t : Fin grid0.N, _)

theorem final0 (c : Dev nD) : (dat0 V c).arrAt 2 cfg0.N = up (V c main_arg0) (V c main_arg1) := by
  refine (dat0 V c).arrAt_eq_of_cover 2 _ (fun t _ => ?_) fun i => ?_
  · have hi := idx0 t
    show (cfg0.win 2).cut (grid0.coords t) ((dat0 V c).after 2 t) = _
    rw [after0_2, outs0]
    funext j
    obtain ⟨r, q, rfl⟩ : ∃ (r : Fin 1024) (q : Fin 1024), j = ix2 r q := ⟨j 0, j 1, eq_ix2 j⟩
    let R : Fin 4096 := ⟨win0_2.index t 0 * 1024 + r.val, by have := r.isLt; omega⟩
    let J : Fin 8192 := ⟨win0_2.index t 1 * 1024 + q.val, by have := q.isLt; omega⟩
    have hj : (((cfg0.win 2).blk t).view.emb (ix2 r q) : S4096x8192.Idx) = ix2 R J :=
      Shape.idx_ext₂ (by show win0_2.index t 0 * 1024 + 1 * r.val = R.val; show _ = win0_2.index t 0 * 1024 + r.val; omega)
        (by show win0_2.index t 1 * 1024 + 1 * q.val = J.val; show _ = win0_2.index t 1 * 1024 + q.val; omega)
    refine (pay0_at _ _ r q).trans (Eq.trans ?_ (congrArg (up (V c main_arg0) (V c main_arg1)) hj).symm)
    refine Finset.sum_congr rfl fun e _ => congrArg₂ (· * ·) ?_ ?_
    · exact congrArg (V c main_arg0) (Shape.idx_ext₂ (by show win0_0.index t 0 * 1024 + 1 * r.val = _; rw [hi.1]; show _ = win0_2.index t 0 * 1024 + r.val; omega)
        (by show win0_0.index t 1 * 2048 + 1 * e.val = e.val; rw [hi.2.1]; omega))
    · refine congrArg (V c main_arg1) (funext fun a => Fin.ext ?_)
      have := q.isLt
      match a with
      | ⟨0, _⟩ => show win0_1.index t 0 * 1 + 1 * 0 = (win0_2.index t 1 * 1024 + q.val) / 2048; rw [hi.2.2.1]; omega
      | ⟨1, _⟩ => show win0_1.index t 1 * 2048 + 1 * e.val = e.val; rw [hi.2.2.2.1]; omega
      | ⟨2, _⟩ => show win0_1.index t 2 * 1024 + 1 * q.val = (win0_2.index t 1 * 1024 + q.val) % 2048; rw [hi.2.2.2.2.1]; omega
  · have h0 : (i 0 : Nat) < 4096 := (i 0).isLt
    have h1 : (i 1 : Nat) < 8192 := (i 1).isLt
    obtain ⟨t, e0, e1⟩ := pts0 ⟨(i 0 : Nat) / 1024, by omega⟩ ⟨(i 1 : Nat) / 1024, by omega⟩
    refine ⟨t, flush0_2 t, ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; dsimp only; omega
    | ⟨1, _⟩ => show win0_2.index t 1 * 1024 ≤ (i 1 : Nat) ∧ (i 1 : Nat) < win0_2.index t 1 * 1024 + 1024; rw [e1]; dsimp only; omega

/-! ## The activation, row block by row block -/

theorem idx1 : ∀ t : Fin cfg1.N, win1_0.index t 0 = win1_1.index t 0 ∧ win1_0.index t 1 = 0 ∧ win1_1.index t 0 < 32 ∧ win1_1.index t 1 = 0 :=
  (by decide +kernel : ∀ t : Fin grid1.N, _)
theorem pts1 : ∀ a : Fin 32, ∃ t : Fin cfg1.N, win1_1.index t 0 = a.val := (by decide +kernel : ∀ a : Fin 32, ∃ t : Fin grid1.N, _)

theorem final1 (c : Dev nD) : (dat1 V c).arrAt 1 cfg1.N = acts (V c main_v0) := by
  refine (dat1 V c).arrAt_eq_of_cover 1 _ (fun t _ => ?_) fun i => ?_
  · have hi := idx1 t
    show (cfg1.win 1).cut (grid1.coords t) ((dat1 V c).after 1 t) = _
    rw [after1_1, outs1]
    funext j
    obtain ⟨r, q, rfl⟩ : ∃ (r : Fin 128) (q : Fin 8192), j = ix2 r q := ⟨j 0, j 1, eq_ix2 j⟩
    refine (pay1_at _ r q).trans (congrArg (fun i => act (V c main_v0 i)) (Shape.idx_ext₂ ?_ ?_))
    · show win1_0.index t 0 * 128 + 1 * r.val = win1_1.index t 0 * 128 + 1 * r.val; rw [hi.1]
    · show win1_0.index t 1 * 8192 + 1 * q.val = win1_1.index t 1 * 8192 + 1 * q.val; rw [hi.2.1, hi.2.2.2]
  · have h0 : (i 0 : Nat) < 4096 := (i 0).isLt
    have h1 : (i 1 : Nat) < 8192 := (i 1).isLt
    obtain ⟨t, e0⟩ := pts1 ⟨(i 0 : Nat) / 128, by omega⟩
    refine ⟨t, flush1_1 t, ?_⟩
    show i ∈ ((View.whole main_v1).slice (win1_1.rect t)).set
    rw [View.set_slice_whole, Rect.mem_set_unit]
    intro a
    match a with
    | ⟨0, _⟩ => show win1_1.index t 0 * 128 ≤ (i 0 : Nat) ∧ (i 0 : Nat) < win1_1.index t 0 * 128 + 128; rw [e0]; dsimp only; omega
    | ⟨1, _⟩ => show win1_1.index t 1 * 8192 ≤ (i 1 : Nat) ∧ (i 1 : Nat) < win1_1.index t 1 * 8192 + 8192; rw [(idx1 t).2.2.2]; omega

/-! ## The second product's weight gradient -/

theorem idx2 : ∀ t : Fin cfg2.N, win2_0.index t 0 = 0 ∧ win2_0.index t 1 = win2_2.index t 0 ∧ win2_1.index t 0 = 0
    ∧ win2_1.index t 1 = win2_2.index t 1 ∧ win2_2.index t 0 < 8 ∧ win2_2.index t 1 < 2 := (by decide +kernel : ∀ t : Fin grid2.N, _)
theorem pts2 : ∀ (a : Fin 8) (b : Fin 2), ∃ t : Fin cfg2.N, win2_2.index t 0 = a.val ∧ win2_2.index t 1 = b.val :=
  (by decide +kernel : ∀ (a : Fin 8) (b : Fin 2), ∃ t : Fin grid2.N, _)

theorem final2 (c : Dev nD) : (dat2 V c).arrAt 2 cfg2.N = downDw (V c main_v1) (V c main_arg3) := by
  refine (dat2 V c).arrAt_eq_of_cover 2 _ (fun t _ => ?_) fun i => ?_
  · have hi := idx2 t
    show (cfg2.win 2).cut (grid2.coords t) ((dat2 V c).after 2 t) = _
    rw [after2_2, outs2]
    funext j
    obtain ⟨r, q, rfl⟩ : ∃ (r : Fin 1024) (q : Fin 1024), j = ix2 r q := ⟨j 0, j 1, eq_ix2 j⟩
    let R : Fin 8192 := ⟨win2_2.index t 0 * 1024 + r.val, by have := r.isLt; omega⟩
    let J : Fin 2048 := ⟨win2_2.index t 1 * 1024 + q.val, by have := q.isLt; omega⟩
    have hj : (((cfg2.win 2).blk t).view.emb (ix2 r q) : S8192x2048.Idx) = ix2 R J :=
      Shape.idx_ext₂ (by show win2_2.index t 0 * 1024 + 1 * r.val = win2_2.index t 0 * 1024 + r.val; omega)
        (by show win2_2.index t 1 * 1024 + 1 * q.val = win2_2.index t 1 * 1024 + q.val; omega)
    refine (pay2_at _ _ r q).trans (Eq.trans ?_ (congrArg (downDw (V c main_v1) (V c main_arg3)) hj).symm)
    refine Finset.sum_congr rfl fun e _ => congrArg₂ (· * ·) ?_ ?_
    · exact congrArg (V c main_v1) (Shape.idx_ext₂ (by show win2_0.index t 0 * 4096 + 1 * e.val = e.val; rw [hi.1]; omega)
        (by show win2_0.index t 1 * 1024 + 1 * r.val = win2_2.index t 0 * 1024 + r.val; rw [hi.2.1]; omega))
    · exact congrArg (V c main_arg3) (Shape.idx_ext₂ (by show win2_1.index t 0 * 4096 + 1 * e.val = e.val; rw [hi.2.2.1]; omega)
        (by show win2_1.index t 1 * 1024 + 1 * q.val = win2_2.index t 1 * 1024 + q.val; rw [hi.2.2.2.1]; omega))
  · have h0 : (i 0 : Nat) < 8192 := (i 0).isLt
    have h1 : (i 1 : Nat) < 2048 := (i 1).isLt
    obtain ⟨t, e0, e1⟩ := pts2 ⟨(i 0 : Nat) / 1024, by omega⟩ ⟨(i 1 : Nat) / 1024, by omega⟩
    refine ⟨t, flush2_2 t, ?_⟩
    show i ∈ ((View.whole main_v2).slice (win2_2.rect t)).set
    rw [View.set_slice_whole, Rect.mem_set_unit]
    intro a
    match a with
    | ⟨0, _⟩ => show win2_2.index t 0 * 1024 ≤ (i 0 : Nat) ∧ (i 0 : Nat) < win2_2.index t 0 * 1024 + 1024; rw [e0]; dsimp only; omega
    | ⟨1, _⟩ => show win2_2.index t 1 * 1024 ≤ (i 1 : Nat) ∧ (i 1 : Nat) < win2_2.index t 1 * 1024 + 1024; rw [e1]; dsimp only; omega

/-! ## The second product's operand gradient -/

theorem idx3 : ∀ t : Fin cfg3.N, win3_0.index t 0 = win3_2.index t 0 ∧ win3_0.index t 1 = 0 ∧ win3_1.index t 0 = win3_2.index t 1
    ∧ win3_1.index t 1 = 0 ∧ win3_2.index t 0 < 4 ∧ win3_2.index t 1 < 8 := (by decide +kernel : ∀ t : Fin grid3.N, _)
theorem pts3 : ∀ (a : Fin 4) (b : Fin 8), ∃ t : Fin cfg3.N, win3_2.index t 0 = a.val ∧ win3_2.index t 1 = b.val :=
  (by decide +kernel : ∀ (a : Fin 4) (b : Fin 8), ∃ t : Fin grid3.N, _)

theorem final3 (c : Dev nD) : (dat3 V c).arrAt 2 cfg3.N = downDx (V c main_arg3) (V c main_arg2) := by
  refine (dat3 V c).arrAt_eq_of_cover 2 _ (fun t _ => ?_) fun i => ?_
  · have hi := idx3 t
    show (cfg3.win 2).cut (grid3.coords t) ((dat3 V c).after 2 t) = _
    rw [after3_2, outs3]
    funext j
    obtain ⟨r, q, rfl⟩ : ∃ (r : Fin 1024) (q : Fin 1024), j = ix2 r q := ⟨j 0, j 1, eq_ix2 j⟩
    let R : Fin 4096 := ⟨win3_2.index t 0 * 1024 + r.val, by have := r.isLt; omega⟩
    let J : Fin 8192 := ⟨win3_2.index t 1 * 1024 + q.val, by have := q.isLt; omega⟩
    have hj : (((cfg3.win 2).blk t).view.emb (ix2 r q) : S4096x8192.Idx) = ix2 R J :=
      Shape.idx_ext₂ (by show win3_2.index t 0 * 1024 + 1 * r.val = win3_2.index t 0 * 1024 + r.val; omega)
        (by show win3_2.index t 1 * 1024 + 1 * q.val = win3_2.index t 1 * 1024 + q.val; omega)
    refine (pay3_at _ _ r q).trans (Eq.trans ?_ (congrArg (downDx (V c main_arg3) (V c main_arg2)) hj).symm)
    refine Finset.sum_congr rfl fun e _ => congrArg₂ (· * ·) ?_ ?_
    · exact congrArg (V c main_arg3) (Shape.idx_ext₂ (by show win3_0.index t 0 * 1024 + 1 * r.val = win3_2.index t 0 * 1024 + r.val; rw [hi.1]; omega)
        (by show win3_0.index t 1 * 2048 + 1 * e.val = e.val; rw [hi.2.1]; omega))
    · exact congrArg (V c main_arg2) (Shape.idx_ext₂ (by show win3_1.index t 0 * 1024 + 1 * q.val = win3_2.index t 1 * 1024 + q.val; rw [hi.2.2.1]; omega)
        (by show win3_1.index t 1 * 2048 + 1 * e.val = e.val; rw [hi.2.2.2.1]; omega))
  · have h0 : (i 0 : Nat) < 4096 := (i 0).isLt
    have h1 : (i 1 : Nat) < 8192 := (i 1).isLt
    obtain ⟨t, e0, e1⟩ := pts3 ⟨(i 0 : Nat) / 1024, by omega⟩ ⟨(i 1 : Nat) / 1024, by omega⟩
    refine ⟨t, flush3_2 t, ?_⟩
    show i ∈ ((View.whole main_v3).slice (win3_2.rect t)).set
    rw [View.set_slice_whole, Rect.mem_set_unit]
    intro a
    match a with
    | ⟨0, _⟩ => show win3_2.index t 0 * 1024 ≤ (i 0 : Nat) ∧ (i 0 : Nat) < win3_2.index t 0 * 1024 + 1024; rw [e0]; dsimp only; omega
    | ⟨1, _⟩ => show win3_2.index t 1 * 1024 ≤ (i 1 : Nat) ∧ (i 1 : Nat) < win3_2.index t 1 * 1024 + 1024; rw [e1]; dsimp only; omega

/-! ## The activation's gradient, row block by row block -/

theorem idx4 : ∀ t : Fin cfg4.N, win4_0.index t 0 = win4_2.index t 0 ∧ win4_0.index t 1 = 0 ∧ win4_1.index t 0 = win4_2.index t 0
    ∧ win4_1.index t 1 = 0 ∧ win4_2.index t 0 < 32 ∧ win4_2.index t 1 = 0 := (by decide +kernel : ∀ t : Fin grid4.N, _)
theorem pts4 : ∀ a : Fin 32, ∃ t : Fin cfg4.N, win4_2.index t 0 = a.val := (by decide +kernel : ∀ a : Fin 32, ∃ t : Fin grid4.N, _)

theorem final4 (c : Dev nD) : (dat4 V c).arrAt 2 cfg4.N = actGrads (V c main_v0) (V c main_v3) := by
  refine (dat4 V c).arrAt_eq_of_cover 2 _ (fun t _ => ?_) fun i => ?_
  · have hi := idx4 t
    show (cfg4.win 2).cut (grid4.coords t) ((dat4 V c).after 2 t) = _
    rw [after4_2, outs4]
    funext j
    obtain ⟨r, q, rfl⟩ : ∃ (r : Fin 128) (q : Fin 8192), j = ix2 r q := ⟨j 0, j 1, eq_ix2 j⟩
    refine (pay4_at _ _ r q).trans (congrArg₂ actGrad (congrArg (V c main_v0) (Shape.idx_ext₂ ?_ ?_)) (congrArg (V c main_v3) (Shape.idx_ext₂ ?_ ?_)))
    · show win4_0.index t 0 * 128 + 1 * r.val = win4_2.index t 0 * 128 + 1 * r.val; rw [hi.1]
    · show win4_0.index t 1 * 8192 + 1 * q.val = win4_2.index t 1 * 8192 + 1 * q.val; rw [hi.2.1, hi.2.2.2.2.2]
    · show win4_1.index t 0 * 128 + 1 * r.val = win4_2.index t 0 * 128 + 1 * r.val; rw [hi.2.2.1]
    · show win4_1.index t 1 * 8192 + 1 * q.val = win4_2.index t 1 * 8192 + 1 * q.val; rw [hi.2.2.2.1, hi.2.2.2.2.2]
  · have h0 : (i 0 : Nat) < 4096 := (i 0).isLt
    have h1 : (i 1 : Nat) < 8192 := (i 1).isLt
    obtain ⟨t, e0⟩ := pts4 ⟨(i 0 : Nat) / 128, by omega⟩
    refine ⟨t, flush4_2 t, ?_⟩
    show i ∈ ((View.whole main_v4).slice (win4_2.rect t)).set
    rw [View.set_slice_whole, Rect.mem_set_unit]
    intro a
    match a with
    | ⟨0, _⟩ => show win4_2.index t 0 * 128 ≤ (i 0 : Nat) ∧ (i 0 : Nat) < win4_2.index t 0 * 128 + 128; rw [e0]; dsimp only; omega
    | ⟨1, _⟩ => show win4_2.index t 1 * 8192 ≤ (i 1 : Nat) ∧ (i 1 : Nat) < win4_2.index t 1 * 8192 + 8192; rw [(idx4 t).2.2.2.2.2]; omega

/-! ## The first product's weight gradient -/

theorem idx5 : ∀ t : Fin cfg5.N, win5_0.index t 0 = 0 ∧ win5_0.index t 1 = win5_2.index t 1 ∧ win5_1.index t 0 = 0
    ∧ win5_1.index t 1 = win5_2.index t 0 * 2 + win5_2.index t 2
    ∧ win5_2.index t 0 < 4 ∧ win5_2.index t 1 < 2 ∧ win5_2.index t 2 < 2 := (by decide +kernel : ∀ t : Fin grid5.N, _)
theorem pts5 : ∀ (s : Fin 4) (a b : Fin 2), ∃ t : Fin cfg5.N, win5_2.index t 0 = s.val ∧ win5_2.index t 1 = a.val ∧ win5_2.index t 2 = b.val :=
  (by decide +kernel : ∀ (s : Fin 4) (a b : Fin 2), ∃ t : Fin grid5.N, _)

theorem final5 (c : Dev nD) : (dat5 V c).arrAt 2 cfg5.N = upDw (V c main_arg0) (V c main_v4) := by
  refine (dat5 V c).arrAt_eq_of_cover 2 _ (fun t _ => ?_) fun i => ?_
  · have hi := idx5 t
    show (cfg5.win 2).cut (grid5.coords t) ((dat5 V c).after 2 t) = _
    rw [after5_2, outs5]
    funext j
    obtain ⟨z, r, q, rfl⟩ : ∃ (z : Fin 1) (r : Fin 1024) (q : Fin 1024), j = ix3 z r q := ⟨j 0, j 1, j 2, eq_ix3 j⟩
    let Z : Fin 4 := ⟨win5_2.index t 0 + z.val, by have := z.isLt; omega⟩
    let R : Fin 2048 := ⟨win5_2.index t 1 * 1024 + r.val, by have := r.isLt; omega⟩
    let J : Fin 2048 := ⟨win5_2.index t 2 * 1024 + q.val, by have := q.isLt; omega⟩
    have hj : (((cfg5.win 2).blk t).view.emb (ix3 z r q) : S4x2048x2048.Idx) = ix3 Z R J := by
      refine funext fun a => Fin.ext ?_
      match a with
      | ⟨0, _⟩ => show win5_2.index t 0 * 1 + 1 * z.val = win5_2.index t 0 + z.val; omega
      | ⟨1, _⟩ => show win5_2.index t 1 * 1024 + 1 * r.val = win5_2.index t 1 * 1024 + r.val; omega
      | ⟨2, _⟩ => show win5_2.index t 2 * 1024 + 1 * q.val = win5_2.index t 2 * 1024 + q.val; omega
    refine (pay5_at _ _ z r q).trans (Eq.trans ?_ (congrArg (upDw (V c main_arg0) (V c main_v4)) hj).symm)
    refine Finset.sum_congr rfl fun e _ => congrArg₂ (· * ·) ?_ ?_
    · exact congrArg (V c main_arg0) (Shape.idx_ext₂ (by show win5_0.index t 0 * 4096 + 1 * e.val = e.val; rw [hi.1]; omega)
        (by show win5_0.index t 1 * 1024 + 1 * r.val = win5_2.index t 1 * 1024 + r.val; rw [hi.2.1]; omega))
    · refine congrArg (V c main_v4) (Shape.idx_ext₂ (by show win5_1.index t 0 * 4096 + 1 * e.val = e.val; rw [hi.2.2.1]; omega) ?_)
      show win5_1.index t 1 * 1024 + 1 * q.val = (win5_2.index t 0 + z.val) * 2048 + (win5_2.index t 2 * 1024 + q.val)
      have := z.isLt
      rw [hi.2.2.2.1]; omega
  · have h0 : (i 0 : Nat) < 4 := (i 0).isLt
    have h1 : (i 1 : Nat) < 2048 := (i 1).isLt
    have h2 : (i 2 : Nat) < 2048 := (i 2).isLt
    obtain ⟨t, e0, e1, e2⟩ := pts5 ⟨(i 0 : Nat), h0⟩ ⟨(i 1 : Nat) / 1024, by omega⟩ ⟨(i 2 : Nat) / 1024, by omega⟩
    refine ⟨t, flush5_2 t, ?_⟩
    show i ∈ ((View.whole main_v5).slice (win5_2.rect t)).set
    rw [View.set_slice_whole, Rect.mem_set_unit]
    intro a
    match a with
    | ⟨0, _⟩ => show win5_2.index t 0 * 1 ≤ (i 0 : Nat) ∧ (i 0 : Nat) < win5_2.index t 0 * 1 + 1; rw [e0]; dsimp only; omega
    | ⟨1, _⟩ => show win5_2.index t 1 * 1024 ≤ (i 1 : Nat) ∧ (i 1 : Nat) < win5_2.index t 1 * 1024 + 1024; rw [e1]; dsimp only; omega
    | ⟨2, _⟩ => show win5_2.index t 2 * 1024 ≤ (i 2 : Nat) ∧ (i 2 : Nat) < win5_2.index t 2 * 1024 + 1024; rw [e2]; dsimp only; omega

end Cert.FfnArrays

end
-- ==== Proof.FfnRun.lean ====
/- The feed-forward's program run: what its buffers hold when the six calls are done, functions of the arguments. -/
module

public import proofs.«01_k».proof.Proof.FfnArrays

@[expose] public section

set_option maxRecDepth 16384

noncomputable section

namespace Cert.FfnRun

open Cert.Kernel2Ideal Cert.Kernel2Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.FfnArrays

section Launch
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every run ends, every unscoped buffer holding what the boundary after the last call says. -/
theorem ends : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ => h)

end Launch

variable (m : (ℓ : Loc nD τ sig) → Buf (Elt Ideal) ℓ) (ρ : Dev nD → PrngReg) (c : Dev nD)

/-- The first product of the arguments. -/
def pre : FVec Ideal S4096x8192 .bf16 := up (m ((c : Thread nD τ).loc main_arg0)) (m ((c : Thread nD τ).loc main_arg1))
/-- Its gradient. -/
def dpre : FVec Ideal S4096x8192 .bf16 :=
  actGrads (pre m c) (downDx (m ((c : Thread nD τ).loc main_arg3)) (m ((c : Thread nD τ).loc main_arg2)))

theorem v0_at1 : W1 m ρ c (Proc.devRef .tc main_v0) = pre m c := (W1_arr m ρ c 2).trans (final0 (V0 m ρ) c)
theorem v1_at2 : W2 m ρ c (Proc.devRef .tc main_v1) = acts (pre m c) :=
  (W2_arr m ρ c 1).trans ((final1 (V1 m ρ) c).trans (congrArg acts (v0_at1 m ρ c)))
theorem v2_at3 : W3 m ρ c (Proc.devRef .tc main_v2) = downDw (acts (pre m c)) (m ((c : Thread nD τ).loc main_arg3)) :=
  (W3_arr m ρ c 2).trans ((final2 (V2 m ρ) c).trans (congrArg₂ downDw (v1_at2 m ρ c) (W2_args m ρ c main_arg3 (by decide))))
theorem v3_at4 : W4 m ρ c (Proc.devRef .tc main_v3) = downDx (m ((c : Thread nD τ).loc main_arg3)) (m ((c : Thread nD τ).loc main_arg2)) :=
  (W4_arr m ρ c 2).trans ((final3 (V3 m ρ) c).trans
    (congrArg₂ downDx (W3_args m ρ c main_arg3 (by decide)) (W3_args m ρ c main_arg2 (by decide))))
theorem v0_at4 : W4 m ρ c (Proc.devRef .tc main_v0) = pre m c :=
  (W4_of m ρ c main_v0 (by decide)).trans ((W3_of m ρ c main_v0 (by decide)).trans ((W2_of m ρ c main_v0 (by decide)).trans (v0_at1 m ρ c)))
theorem v4_at5 : W5 m ρ c (Proc.devRef .tc main_v4) = dpre m c :=
  (W5_arr m ρ c 2).trans ((final4 (V4 m ρ) c).trans (congrArg₂ actGrads (v0_at4 m ρ c) (v3_at4 m ρ c)))

/-- The second weight's gradient at the end. -/
theorem v2_end : W6 m ρ c (Proc.devRef .tc main_v2) = downDw (acts (pre m c)) (m ((c : Thread nD τ).loc main_arg3)) :=
  (W6_of m ρ c main_v2 (by decide)).trans ((W5_of m ρ c main_v2 (by decide)).trans ((W4_of m ρ c main_v2 (by decide)).trans (v2_at3 m ρ c)))
/-- The first product's gradient at the end. -/
theorem v4_end : W6 m ρ c (Proc.devRef .tc main_v4) = dpre m c := (W6_of m ρ c main_v4 (by decide)).trans (v4_at5 m ρ c)
/-- The first weight's gradient at the end. -/
theorem v5_end : W6 m ρ c (Proc.devRef .tc main_v5) = upDw (m ((c : Thread nD τ).loc main_arg0)) (dpre m c) :=
  (W6_arr m ρ c 2).trans ((final5 (V5 m ρ) c).trans (congrArg₂ upDw (W5_args m ρ c main_arg0 (by decide)) (v4_at5 m ρ c)))

end Cert.FfnRun

end
-- ==== Proof.FfnAgree.lean ====
/- The feed-forward's reference read at an index, and its results equal to the program's. -/
module

public import proofs.«01_k».proof.Proof.Gen.Reference2Ideal.Run
public import proofs.«01_k».proof.Proof.FfnArrays

@[expose] public section

set_option maxRecDepth 16384

noncomputable section

namespace Cert.FfnAgree

open Cert.Reference2Ideal Cert.Reference2Ideal.Gen Idealize.ShloMosaic Idealize.ShloMosaic.TcCoe Idealize.SL.Sem Idealize.ShloMosaic.Pointwise
open Cert.FfnTile (act actGrad)
open Cert.FfnArrays (slot col glue up acts downDw downDx actGrads upDw)

/-- The first weight's four blocks of columns side by side. -/
def flat (w : FVec Ideal S4x2048x2048 .f32) : FVec Ideal S2048x8192 .f32 :=
  shapeCast _ (transpose S2048x4x2048 [1, 0, 2] w transposes_S4x2048x2048_S2048x4x2048_1_0_2) shapeCasts_S2048x4x2048_S2048x8192
/-- The first product. -/
def first (h : FVec Ideal S4096x2048 .f32) (w : FVec Ideal S4x2048x2048 .f32) : FVec Ideal S4096x8192 .f32 :=
  Host.dotGeneral dot_S4096x2048_S2048x8192_S4096x8192_1_0_0_1_n_n none h (flat w)
/-- Zero at every entry. -/
def zeros : FVec Ideal S4096x8192 .f32 := broadcastInDim S4096x8192 ![] bcast_S_S4096x8192 (constant S_ .f32 0x00000000#32)
/-- The positive part. -/
def pos (a : FVec Ideal S4096x8192 .f32) : FVec Ideal S4096x8192 .f32 := maximumf a zeros
/-- The gradient of the first product. -/
def back (a : FVec Ideal S4096x8192 .f32) (d : FVec Ideal S4096x2048 .f32) (w : FVec Ideal S8192x2048 .f32) : FVec Ideal S4096x8192 .f32 :=
  select (cmpf .ogt a zeros) (mulf (Host.dotGeneral dot_S4096x2048_S8192x2048_S4096x8192_1_1_0_0_n_n none d w)
    (mulf (broadcastInDim S4096x8192 ![] bcast_S_S4096x8192 (constant S_ .f32 0x40000000#32)) (pos a))) zeros
/-- The second weight's gradient. -/
def resW2 (a : FVec Ideal S4096x8192 .f32) (d : FVec Ideal S4096x2048 .f32) : FVec Ideal S8192x2048 .f32 :=
  transpose S8192x2048 [1, 0] (Host.dotGeneral dot_S4096x2048_S4096x8192_S2048x8192_0_0_1_1_n_n none d (mulf (pos a) (pos a)))
    transposes_S2048x8192_S8192x2048_1_0
/-- The first weight's gradient. -/
def resW1 (g : FVec Ideal S4096x8192 .f32) (h : FVec Ideal S4096x2048 .f32) : FVec Ideal S4x2048x2048 .f32 :=
  transpose S4x2048x2048 [1, 0, 2] (shapeCast _ (transpose S2048x8192 [1, 0]
    (Host.dotGeneral dot_S4096x8192_S4096x2048_S8192x2048_0_0_1_1_n_n none g h) transposes_S8192x2048_S2048x8192_1_0)
    shapeCasts_S2048x8192_S2048x4x2048) transposes_S2048x4x2048_S4x2048x2048_1_0_2

theorem flat_at (w : FVec Ideal S4x2048x2048 .f32) (e : Fin 2048) (j : Fin 8192) : flat w (ix2 e j) = w (ix3 (slot j) e (col j)) := by
  unfold flat slot col
  pointwise []

theorem first_at (h : FVec Ideal S4096x2048 .f32) (w : FVec Ideal S4x2048x2048 .f32) (r : Fin 4096) (j : Fin 8192) :
    first h w (ix2 r j) = (∑ e : Fin 2048, h (ix2 r e) * w (ix3 (slot j) e (col j)) : EReal) := by
  have : first h w (ix2 r j) = (∑ e : Fin 2048, h (ix2 r e) * flat w (ix2 e j) : EReal) := by pointwise [first]
  rw [this]
  exact Finset.sum_congr rfl fun e _ => by rw [flat_at]

theorem back_at (a : FVec Ideal S4096x8192 .f32) (d : FVec Ideal S4096x2048 .f32) (w : FVec Ideal S8192x2048 .f32) (r : Fin 4096) (j : Fin 8192) :
    back a d w (ix2 r j) = (if 0 < a (ix2 r j) then (∑ e : Fin 2048, d (ix2 r e) * w (ix2 j e)) *
      (Ideal.ofBits .f32 0x40000000#32 * max (a (ix2 r j)) 0) else 0 : EReal) := by
  pointwise [back, zeros, pos]

theorem resW2_at (a : FVec Ideal S4096x8192 .f32) (d : FVec Ideal S4096x2048 .f32) (r : Fin 8192) (j : Fin 2048) :
    resW2 a d (ix2 r j) = (∑ e : Fin 4096, d (ix2 e j) * act (a (ix2 e r)) : EReal) := by
  pointwise [resW2, zeros, pos, act]

theorem resW1_at (g : FVec Ideal S4096x8192 .f32) (h : FVec Ideal S4096x2048 .f32) (s : Fin 4) (r l : Fin 2048) :
    resW1 g h (ix3 s r l) = (∑ e : Fin 4096, g (ix2 e (glue s l)) * h (ix2 e r) : EReal) := by
  unfold glue
  pointwise [resW1]

/-- Where the operand is not positive its positive part is zero, so both texts of the gradient are zero there. -/
theorem actGrad_eq (a d : EReal) : actGrad a d = if 0 < a then d * (Ideal.ofBits .f32 0x40000000#32 * max a 0) else 0 := by
  unfold actGrad
  by_cases h : 0 < a
  · rw [if_pos h, if_pos h, mul_one]
  · rw [if_neg h, if_neg h, max_eq_right (not_lt.mp h), mul_zero, mul_zero, zero_mul]

variable (h : FVec Ideal S4096x2048 .bf16) (w1 : FVec Ideal S4x2048x2048 .bf16) (w2 : FVec Ideal S8192x2048 .bf16) (d : FVec Ideal S4096x2048 .bf16)

theorem first_eq : first (extf .f32 h bitsLt_bf16_f32) (extf .f32 w1 bitsLt_bf16_f32) = up h w1 := by
  funext i
  obtain ⟨r, j, rfl⟩ : ∃ (r : Fin 4096) (j : Fin 8192), i = ix2 r j := ⟨i 0, i 1, eq_ix2 i⟩
  exact first_at _ _ r j

theorem back_eq (a : FVec Ideal S4096x8192 .bf16) : back a (extf .f32 d bitsLt_bf16_f32) (extf .f32 w2 bitsLt_bf16_f32) = actGrads a (downDx d w2) := by
  funext i
  obtain ⟨r, j, rfl⟩ : ∃ (r : Fin 4096) (j : Fin 8192), i = ix2 r j := ⟨i 0, i 1, eq_ix2 i⟩
  exact (back_at _ _ _ r j).trans (actGrad_eq _ _).symm

theorem resW2_eq (a : FVec Ideal S4096x8192 .bf16) : resW2 a (extf .f32 d bitsLt_bf16_f32) = downDw (acts a) d := by
  funext i
  obtain ⟨r, j, rfl⟩ : ∃ (r : Fin 8192) (j : Fin 2048), i = ix2 r j := ⟨i 0, i 1, eq_ix2 i⟩
  exact (resW2_at _ _ r j).trans (Finset.sum_congr rfl fun e _ => mul_comm _ _)

theorem resW1_eq (g : FVec Ideal S4096x8192 .bf16) : resW1 g (extf .f32 h bitsLt_bf16_f32) = upDw h g := by
  funext i
  obtain ⟨s, r, l, rfl⟩ : ∃ (s : Fin 4) (r l : Fin 2048), i = ix3 s r l := ⟨i 0, i 1, i 2, eq_ix3 i⟩
  exact (resW1_at _ _ s r l).trans (Finset.sum_congr rfl fun e _ => mul_comm _ _)

end Cert.FfnAgree

end
-- ==== Proof.UpDx.lean ====
/- The gradient of the first product's operand: what each grid point adds, the four points of a block put together, and
   the whole array. -/
module

public import proofs.«01_k».proof.Proof.Gen.Kernel3Ideal.Value
public import proofs.«01_k».proof.Proof.Gen.Reference3Ideal.Run
public import proofs.«01_k».proof.Proof.FfnAgree

@[expose] public section

set_option maxRecDepth 16384

noncomputable section

namespace Cert.UpDx

open Idealize.ShloMosaic Idealize.ShloMosaic.TcCoe Idealize.ShloMosaic.Tactic Idealize.SL.Sem
open Idealize.ShloMosaic.Pointwise
open Idealize.ShloMosaic.Pipeline (Dat)
open Cert.FfnTile (zero2 zero3)
open Cert.FfnArrays (slot col glue)

section Program
open Cert.Kernel3Ideal Cert.Kernel3Ideal.Gen

section Points
variable {F : FTy → Type} [FloatOps F]
variable (m : (ℓ : Loc nD τ sig) → Buf (Elt F) ℓ) (c : Dev nD) (t : Fin cfg0.N)

/-- At the first of a block's points the accumulator takes the point's product. -/
theorem acc_first (h : t.val % 4 = 0) : (outsAt0 m c t.val t.isLt).2 = k0_pay1 (iblk m c 0 t) (iblk m c 1 t) := by
  rw [outsAt0_A m c t h (by omega) (by omega)]
  dsimp only
  unfold sout0_A_0
  rw [View.read_writes_eq_canon _ _ _ (scover0_A_0 c _ _ _ _ _ _ _ _ _ _ _ _ _ _)]
  unfold kernelRun0_A; dsimp only; sl_unfold_words
  rw [View.canon_unit_zero zero2]
  simp only [View.readAt_eq_ld, (hs0_0 t).read_unread, (hs0_1 t).read_unread,
    View.ld_unit_zero (S := S1024x2048) zero2, View.ld_unit_zero (S := S1x1024x2048) zero3]
  exact shapeCast_self _ _

/-- At the next two it adds the point's product. -/
theorem acc_next (h : 1 ≤ t.val % 4 ∧ t.val % 4 ≤ 2) : (outsAt0 m c t.val t.isLt).2
    = k0_pay4 (iblk m c 0 t) (iblk m c 1 t) (outsAt0 m c (t.val - 1) (Nat.lt_of_le_of_lt (Nat.sub_le _ _) t.isLt)).2 := by
  rw [outsAt0_B m c t (by omega) h (by omega)]
  dsimp only
  unfold sout0_B_0
  rw [View.read_writes_eq_canon _ _ _ (scover0_B_0 c _ _ _ _ _ _ _ _ _ _ _ _ _ _ _)]
  unfold kernelRun0_B; dsimp only; sl_unfold_words
  rw [View.canon_unit_zero zero2]
  simp only [View.readAt_eq_ld, (hs0_0 t).read_unread, (hs0_1 t).read_unread, (Memref.isWhole_whole cc0_scratch0).read_unread,
    View.ld_unit_zero (S := S1024x2048) zero2, View.ld_unit_zero (S := S1x1024x2048) zero3, View.ld_unit_zero (S := S1024x1024) zero2]
  exact shapeCast_self _ _

/-- At the last the output's block is the accumulator and the point's product. -/
theorem out_last (h : t.val % 4 = 3) : (outsAt0 m c t.val t.isLt).1
    = k0_pay4 (iblk m c 0 t) (iblk m c 1 t) (outsAt0 m c (t.val - 1) (Nat.lt_of_le_of_lt (Nat.sub_le _ _) t.isLt)).2 := by
  rw [outsAt0_C m c t (by omega) (by omega) h]
  dsimp only
  unfold out0_C_2
  rw [View.read_writes_eq_canon _ _ _ (cover0_C_2 c _ _ _ _ _ _ _ _ _ _ _ _ _ _ _)]
  unfold kernelRun0_C; dsimp only; sl_unfold_words
  rw [View.canon_unit_zero zero2]
  simp only [View.readAt_eq_ld, (hs0_0 t).read_unread, (hs0_1 t).read_unread, (Memref.isWhole_whole cc0_scratch0).read_unread,
    View.ld_unit_zero (S := S1024x2048) zero2, View.ld_unit_zero (S := S1x1024x2048) zero3, View.ld_unit_zero (S := S1024x1024) zero2]

end Points

/-! ## Over the extended reals -/

theorem pay1_at (x : Vec Ideal S1024x2048 .bf16) (y : Vec Ideal S1x1024x2048 .bf16) (r j : Fin 1024) :
    k0_pay1 x y (ix2 r j) = (∑ e : Fin 2048, x (ix2 r e) * y (ix3 0 j e) : EReal) := by
  pointwise [k0_pay1]

theorem pay4_at (x : Vec Ideal S1024x2048 .bf16) (y : Vec Ideal S1x1024x2048 .bf16) (a : Vec Ideal S1024x1024 .f32) (r j : Fin 1024) :
    k0_pay4 x y a (ix2 r j) = (a (ix2 r j) + k0_pay1 x y (ix2 r j) : EReal) := rfl

/-- What device `k`'s columns add to one entry. -/
def part (a : FVec Ideal S4096x8192 .bf16) (w : FVec Ideal S4x2048x2048 .bf16) (R : Fin 4096) (J : Fin 2048) (k : Fin 4) : EReal :=
  ∑ e : Fin 2048, a (ix2 R (glue k e)) * w (ix3 k J e)
/-- Rows of `a` by the rows of `w`, the columns of both cut over four devices. -/
def upDx (a : FVec Ideal S4096x8192 .bf16) (w : FVec Ideal S4x2048x2048 .bf16) : FVec Ideal S4096x2048 .f32 := fun i =>
  (∑ k : Fin 4, part a w (i 0) (i 1) k : EReal)

variable (m : (ℓ : Loc nD τ sig) → Buf (Elt Ideal) ℓ) (c : Dev nD)

theorem idx : ∀ t : Fin cfg0.N, win0_0.index t 0 = t.val / 8 ∧ win0_0.index t 1 = t.val % 4
    ∧ win0_1.index t 0 = t.val % 4 ∧ win0_1.index t 1 = t.val / 4 % 2 ∧ win0_1.index t 2 = 0
    ∧ win0_2.index t 0 = t.val / 8 ∧ win0_2.index t 1 = t.val / 4 % 2 := (by decide +kernel : ∀ t : Fin grid0.N, _)
theorem lt32 (t : Fin cfg0.N) : t.val < 32 := lt_of_lt_of_eq t.isLt (show cfg0.N = 32 from N_0)

/-- The array's row at row `r` of a point's block. -/
def row (n : Fin 32) (r : Fin 1024) : Fin 4096 := ⟨n.val / 8 * 1024 + r.val, by have := n.isLt; have := r.isLt; omega⟩
/-- The array's column at column `q` of a point's block. -/
def column (n : Fin 32) (q : Fin 1024) : Fin 2048 := ⟨n.val / 4 % 2 * 1024 + q.val, by have := q.isLt; omega⟩
/-- The device whose columns a point takes. -/
def step (n : Fin 32) : Fin 4 := ⟨n.val % 4, Nat.mod_lt _ (by decide)⟩

/-- A point's product, one entry. -/
theorem prod_at (t : Fin cfg0.N) (r q : Fin 1024) : k0_pay1 (iblk m c 0 t) (iblk m c 1 t) (ix2 r q)
    = part (m ((c : Thread nD τ).loc main_arg0)) (m ((c : Thread nD τ).loc main_arg1)) (row ⟨t.val, lt32 t⟩ r) (column ⟨t.val, lt32 t⟩ q) (step ⟨t.val, lt32 t⟩) := by
  obtain ⟨h0, h1, h2, h3, h4, -, -⟩ := idx t
  refine (pay1_at _ _ r q).trans (Finset.sum_congr rfl fun e _ => congrArg₂ (· * ·) ?_ ?_)
  · exact congrArg (m ((c : Thread nD τ).loc main_arg0)) (Shape.idx_ext₂
      (by show win0_0.index t 0 * 1024 + 1 * r.val = t.val / 8 * 1024 + r.val; rw [h0]; omega)
      (by show win0_0.index t 1 * 2048 + 1 * e.val = t.val % 4 * 2048 + e.val; rw [h1]; omega))
  · refine congrArg (m ((c : Thread nD τ).loc main_arg1)) (funext fun a => Fin.ext ?_)
    match a with
    | ⟨0, _⟩ => show win0_1.index t 0 * 1 + 1 * 0 = t.val % 4; rw [h2]; omega
    | ⟨1, _⟩ => show win0_1.index t 1 * 1024 + 1 * q.val = t.val / 4 % 2 * 1024 + q.val; rw [h3]; omega
    | ⟨2, _⟩ => show win0_1.index t 2 * 2048 + 1 * e.val = e.val; rw [h4]; omega

/-- The accumulator after a block's third point, one entry: the first three devices' parts. -/
theorem acc_at (b : ℕ) (hb : b < 8) (r q : Fin 1024) (k : ℕ) : ∀ (hk : k < 3) (hn : 4 * b + k < cfg0.N),
    ((outsAt0 m c (4 * b + k) hn).2 (ix2 r q) : EReal)
      = ∑ j : Fin (k + 1), part (m ((c : Thread nD τ).loc main_arg0)) (m ((c : Thread nD τ).loc main_arg1)) (row ⟨4 * b, by omega⟩ r)
          (column ⟨4 * b, by omega⟩ q) ⟨j.val, by have := j.isLt; omega⟩ := by
  have hs : ∀ (k : ℕ) (hk : k < 3) (hn : 4 * b + k < cfg0.N), k0_pay1 (iblk m c 0 ⟨4 * b + k, hn⟩) (iblk m c 1 ⟨4 * b + k, hn⟩) (ix2 r q)
      = part (m ((c : Thread nD τ).loc main_arg0)) (m ((c : Thread nD τ).loc main_arg1)) (row ⟨4 * b, by omega⟩ r) (column ⟨4 * b, by omega⟩ q) ⟨k, by omega⟩ := by
    intro k hk hn
    have hp := prod_at m c ⟨4 * b + k, hn⟩ r q
    rw [show row ⟨4 * b + k, lt32 ⟨_, hn⟩⟩ r = row ⟨4 * b, by omega⟩ r from Fin.ext (by show (4 * b + k) / 8 * 1024 + r.val = 4 * b / 8 * 1024 + r.val; omega),
      show column ⟨4 * b + k, lt32 ⟨_, hn⟩⟩ q = column ⟨4 * b, by omega⟩ q from Fin.ext (by show (4 * b + k) / 4 % 2 * 1024 + q.val = 4 * b / 4 % 2 * 1024 + q.val; omega),
      show step ⟨4 * b + k, lt32 ⟨_, hn⟩⟩ = ⟨k, by omega⟩ from Fin.ext (by show (4 * b + k) % 4 = k; omega)] at hp
    exact hp
  induction k with
  | zero =>
    intro hk hn
    rw [Fin.sum_univ_one]
    exact (congrFun (acc_first m c ⟨4 * b + 0, hn⟩ (by show (4 * b + 0) % 4 = 0; omega)) _).trans (hs 0 hk hn)
  | succ k ih =>
    intro hk hn
    rw [Fin.sum_univ_castSucc]
    refine (congrFun (acc_next m c ⟨4 * b + (k + 1), hn⟩ (by show 1 ≤ (4 * b + (k + 1)) % 4 ∧ (4 * b + (k + 1)) % 4 ≤ 2; omega)) _).trans
      ((pay4_at _ _ _ r q).trans (congrArg₂ (· + ·) (ih (by omega) (Nat.lt_of_succ_lt hn)) (hs (k + 1) hk hn)))

/-- The array the program leaves. -/
theorem final : (dats m 0 c).arrAt 2 cfg0.N = upDx (m ((c : Thread nD τ).loc main_arg0)) (m ((c : Thread nD τ).loc main_arg1)) := by
  refine (dats m 0 c).arrAt_eq_of_cover 2 _ (fun t ht => ?_) fun i => ?_
  · have h3 : t.val % 4 = 3 := (flush0_2 t).mp ht
    have hlt := lt32 t
    obtain ⟨-, -, -, -, -, hi0, hi1⟩ := idx t
    show (cfg0.win 2).cut (grid0.coords t) ((dats m 0 c).after 2 t) = _
    rw [after0_2, out_last m c t h3]
    funext j
    obtain ⟨r, q, rfl⟩ : ∃ (r : Fin 1024) (q : Fin 1024), j = ix2 r q := ⟨j 0, j 1, eq_ix2 j⟩
    have hj : (((cfg0.win 2).blk t).view.emb (ix2 r q) : S4096x2048.Idx) = ix2 (row ⟨t.val, hlt⟩ r) (column ⟨t.val, hlt⟩ q) :=
      Shape.idx_ext₂ (by show win0_2.index t 0 * 1024 + 1 * r.val = t.val / 8 * 1024 + r.val; rw [hi0]; omega)
        (by show win0_2.index t 1 * 1024 + 1 * q.val = t.val / 4 % 2 * 1024 + q.val; rw [hi1]; omega)
    refine (pay4_at _ _ _ r q).trans (Eq.trans ?_ (congrArg (upDx (m ((c : Thread nD τ).loc main_arg0)) (m ((c : Thread nD τ).loc main_arg1))) hj).symm)
    refine Eq.trans ?_ (Fin.sum_univ_castSucc (n := 3) _).symm
    refine congrArg₂ (· + ·) ?_ ((prod_at m c t r q).trans (congrArg (part _ _ _ _) (Fin.ext h3 : step ⟨t.val, hlt⟩ = 3)))
    have hs : t.val - 1 = 4 * (t.val / 4) + 2 := by omega
    have ha := acc_at m c (t.val / 4) (by omega) r q 2 (by omega) (lt_of_lt_of_eq (by omega) (show 32 = cfg0.N from N_0.symm))
    rw [show row ⟨4 * (t.val / 4), by omega⟩ r = row ⟨t.val, hlt⟩ r from Fin.ext (by show 4 * (t.val / 4) / 8 * 1024 + r.val = t.val / 8 * 1024 + r.val; omega),
      show column ⟨4 * (t.val / 4), by omega⟩ q = column ⟨t.val, hlt⟩ q from Fin.ext (by show 4 * (t.val / 4) / 4 % 2 * 1024 + q.val = t.val / 4 % 2 * 1024 + q.val; omega)] at ha
    refine Eq.trans ?_ ha
    congr 2
    simp only [hs]
  · have h0 : (i 0 : Nat) < 4096 := (i 0).isLt
    have h1 : (i 1 : Nat) < 2048 := (i 1).isLt
    have hn : 8 * ((i 0 : Nat) / 1024) + 4 * ((i 1 : Nat) / 1024) + 3 < cfg0.N := lt_of_lt_of_eq (by omega) (show 32 = cfg0.N from N_0.symm)
    let t : Fin cfg0.N := ⟨_, hn⟩
    have ht : t.val = 8 * ((i 0 : Nat) / 1024) + 4 * ((i 1 : Nat) / 1024) + 3 := rfl
    obtain ⟨-, -, -, -, -, e0, e1⟩ := idx t
    refine ⟨t, (flush0_2 t).mpr (by omega), ?_⟩
    show i ∈ ((View.whole main_v0).slice (win0_2.rect t)).set
    rw [View.set_slice_whole, Rect.mem_set_unit]
    intro a
    match a with
    | ⟨0, _⟩ => show win0_2.index t 0 * 1024 ≤ (i 0 : Nat) ∧ (i 0 : Nat) < win0_2.index t 0 * 1024 + 1024; rw [e0]; omega
    | ⟨1, _⟩ => show win0_2.index t 1 * 1024 ≤ (i 1 : Nat) ∧ (i 1 : Nat) < win0_2.index t 1 * 1024 + 1024; rw [e1]; omega

end Program

/-! ## The reference -/

section
open Cert.Reference3Ideal Cert.Reference3Ideal.Gen

/-- The reference's result. -/
def res (a : FVec Ideal S4096x8192 .f32) (w : FVec Ideal S4x2048x2048 .f32) : FVec Ideal S4096x2048 .f32 :=
  Host.dotGeneral dot_S4096x8192_S2048x8192_S4096x2048_1_1_0_0_n_n none a
    (shapeCast S2048x8192 (transpose S2048x4x2048 [1, 0, 2] w transposes_S4x2048x2048_S2048x4x2048_1_0_2) shapeCasts_S2048x4x2048_S2048x8192)

theorem res_at (a : FVec Ideal S4096x8192 .f32) (w : FVec Ideal S4x2048x2048 .f32) (r : Fin 4096) (j : Fin 2048) :
    res a w (ix2 r j) = (∑ e : Fin 8192, a (ix2 r e) * w (ix3 (slot e) j (col e)) : EReal) := by
  have : res a w (ix2 r j) = (∑ e : Fin 8192, a (ix2 r e) * FfnAgree.flat w (ix2 j e) : EReal) := by pointwise [res, FfnAgree.flat]
  rw [this]
  exact Finset.sum_congr rfl fun e _ => by rw [FfnAgree.flat_at]

/-- A sum over the columns is the four devices' sums. -/
theorem sum_glue (f : Fin 8192 → EReal) : ∑ e, f e = ∑ k : Fin 4, ∑ l : Fin 2048, f (glue k l) := by
  rw [← Fintype.sum_prod_type']
  exact (Fintype.sum_equiv (finProdFinEquiv (m := 4) (n := 2048)) _ _ fun p => congrArg f
    (Fin.ext (by show p.1.val * 2048 + p.2.val = p.2.val + 2048 * p.1.val; omega))).symm

theorem slot_glue (k : Fin 4) (l : Fin 2048) : slot (glue k l) = k := Fin.ext (by show (k.val * 2048 + l.val) / 2048 = k.val; have := l.isLt; omega)
theorem col_glue (k : Fin 4) (l : Fin 2048) : col (glue k l) = l := Fin.ext (by show (k.val * 2048 + l.val) % 2048 = l.val; have := l.isLt; omega)

theorem res_eq (a : FVec Ideal S4096x8192 .bf16) (w : FVec Ideal S4x2048x2048 .bf16) :
    res (extf .f32 a bitsLt_bf16_f32) (extf .f32 w bitsLt_bf16_f32) = upDx a w := by
  funext i
  obtain ⟨r, j, rfl⟩ : ∃ (r : Fin 4096) (j : Fin 2048), i = ix2 r j := ⟨i 0, i 1, eq_ix2 i⟩
  refine (res_at _ _ r j).trans ((sum_glue _).trans (Finset.sum_congr rfl fun k _ => Finset.sum_congr rfl fun l _ => ?_))
  rw [slot_glue, col_glue]
  rfl

end

end Cert.UpDx

end
-- ==== Proof.Ends.lean ====
/- The launch of a program of several pipelined calls, once for all such programs here: what its unscoped buffers hold when it has ended. -/
module

public import Idealize.ShloMosaic.Lib.Pipeline.RegionsLoop
public import Idealize.ShloMosaic.Lib.Pipeline.FrameSuffix
public import Idealize.ShloMosaic.Lib.Tactic

@[expose] public section

noncomputable section

namespace Cert.Ends

open Idealize.ShloMosaic Idealize.ShloMosaic.TcCoe Idealize.ShloMosaic.Tactic Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type} [∀ e, Nonempty (Val e)]
variable {Λ₀ : Labels} {P : Type} [Fintype P] [DecidableEq P]

set_option backward.isDefEq.respectTransparency.types false in
/-- Every run of a program that is a list of segments ends, each unscoped buffer at what the last segment boundary says. -/
theorem ends (pcs : P → PCfg sig Λ₀ Val) (a : (p : P) → (pcs p).Adm)
    (pdats : (p : P) → (c : Dev nD) → Dat τ Val Unit ℕ (UR sig nD τ) ℕ (pin pcs a p) c)
    (inj : Function.Injective (cellOf (nD := nD) (τ := τ) (pin pcs a)))
    (defs₀ : Defs nD τ sig Val Λ₀) (𝒱₀ : Variants)
    (m : (ℓ : Loc nD τ sig) → Buf Val ℓ) (ρ : Dev nD → PrngReg)
    (main : Dev nD → Prog (TpuEff nD τ sig Val (Pipeline.Sig Λ₀ P fun p => (pcs p).Adm) .tc) PUnit)
    (segs : List (Seg pcs a pdats () defs₀ 𝒱₀ (fun _ => ∅) (fun _ _ => 0)))
    (hmain : ∀ c, main c = Seg.run segs) (hnd : (Seg.pipes segs).Nodup)
    (W : Dev nD → Valuation τ sig Val)
    (hch : Seg.Chains
      (fun c => iprop(held (c : Thread nD τ) (ucRefs τ sig) (fun b => m (((c : Thread nD τ)).1, b))
        ∗ (∃ r, prngReg c r) ∗ ∃ w, owes (c : Thread nD τ) (0 : CellTallies nD τ sig Unit) w))
      segs
      fun c => iprop((held (c : Thread nD τ) (ucRefs τ sig) (W c) ∗ ∃ r, prngReg c r)
        ∗ ∃ w, owes (c : Thread nD τ) (0 : CellTallies nD τ sig Unit) w)) :
    θ_run (Pipeline.defs pcs defs₀) (onTc (τ := τ) main) ⟨m, fun _ => 0, ρ⟩ (fun r => ∀ c : Dev nD,
      ∀ b ∈ ucRefs τ sig, r.2.mem (((c : Thread nD τ)).1, b) = W c b) :=
  θ_run_regions_kit_sems pcs a pdats () inj emb₁ defs₀ 𝒱₀ (fun _ => ∅) (fun _ _ => 0) m ρ main segs
    (fun c Q => by rw [hmain c]) hnd
    (O₀ := 0) (hL := fun _ _ => rfl) (G := fun _ => iprop(emp))
    (u₀ := initOf (cells (pin pcs a) inj) (launchToks (pin pcs a) inj))
    (hu₀ := by
      iintro Hu; imodintro
      isplitl [Hu]
      · iapply (show (ownU (initOf (cells (pin pcs a) inj) (launchToks (pin pcs a) inj)) : sProp (MT nD τ sig Unit Val ℕ (UR sig nD τ) ℕ))
            ⊢ BI.own (emb₁ (initOf (cells (pin pcs a) inj) (launchToks (pin pcs a) inj))) from .rfl)
        iexact Hu
      iapply (show (BI.emp : sProp (MT nD τ sig Unit Val ℕ (UR sig nD τ) ℕ)) ⊢ bigSep Finset.univ (fun _ : Dev nD => (BI.emp : sProp (MT nD τ sig Unit Val ℕ (UR sig nD τ) ℕ)))
        from by rw [BI.bigSep_emp_const])
      iempintro)
    (T₀ := fun c => iprop(held (c : Thread nD τ) (ucRefs τ sig) (fun b => m (((c : Thread nD τ)).1, b))
        ∗ (∃ r, prngReg c r) ∗ ∃ w, owes (c : Thread nD τ) (0 : CellTallies nD τ sig Unit) w))
    (Tₙ := fun c => iprop(held (c : Thread nD τ) (ucRefs τ sig) (W c) ∗ ∃ r, prngReg c r))
    (hch := hch)
    (hinit := by
      refine initEach (fun _ => ∅) (fun _ _ => 0) fun c => ?_
      rw [show unscopedBufs c (fun b => m ((c : Thread nD τ).loc b)) = held (c : Thread nD τ) (ucRefs τ sig) (fun b => m (((c : Thread nD τ)).1, b))
        from unscopedBufs_held c (fun b => m (((c : Thread nD τ)).1, b))]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = W c b)
    (hfin := fun c s' => by
      iintro ⟨⟨Hh, -⟩, HSI⟩
      unfold held
      imodintro
      iapply (pointsTo_read_all (ucRefs τ sig) (fun b => (((c : Thread nD τ)).1, b)) (W c) s')
      isplitl [Hh] <;> iassumption)
    (hQ := fun _ h _ => h)

end Cert.Ends

end
-- ==== Proof.Adam.lean ====
/- The optimiser's calls: each result array is the reference's term of the call's weight, moments and gradient. -/
module

public import proofs.«01_k».proof.Proof.Gen.Kernel4Ideal.Frame
public import proofs.«01_k».proof.Proof.Gen.Reference4Ideal.Run
public import proofs.«01_k».proof.Proof.Ends
public import Idealize.ShloMosaic.Lib.Pipeline.ValueKit

@[expose] public section

set_option maxRecDepth 16384
set_option maxHeartbeats 800000

noncomputable section

namespace Cert.Adam

open Cert.Kernel4Ideal Cert.Kernel4Ideal.Gen Idealize.ShloMosaic Idealize.ShloMosaic.TcCoe Idealize.SL.Sem Idealize.ShloMosaic.Pointwise
open Cert.Reference4Ideal (S_)
open Cert.Reference4Ideal.Gen (bcast_S_S1524x2048 bcast_S_S512x2048 bcast_S_S2048x2048 bcast_S_S96x256 bcast_S_S256x256 bcast_S_S200x128)

section Update
variable {S : Shape} (h : S_.BroadcastsInDim S ![])

/-- An array of one number. -/
abbrev fill (b : BitVec 32) : FVec Ideal S .f32 := broadcastInDim S ![] h (constant S_ .f32 b)
/-- The first moment's update. -/
abbrev newM (u g : FVec Ideal S .f32) : FVec Ideal S .f32 := addf (mulf (fill h 0x3F666666#32) u) (mulf (fill h 0x3DCCCCCD#32) g)
/-- The second moment's update. -/
abbrev newV (u g : FVec Ideal S .f32) : FVec Ideal S .f32 := addf (mulf (fill h 0x3F7FBE77#32) u) (mulf (fill h 0x3A83126F#32) (mulf g g))
/-- The weight's step. -/
abbrev delta (w u v g : FVec Ideal S .f32) : FVec Ideal S .f32 :=
  mulf (fill h 0xBA83126F#32) (addf (Host.divf (Host.divf (newM h u g) (fill h 0x3F26BD02#32))
      (addf (Host.sqrt (Host.divf (newV h v g) (fill h 0x3C231ACC#32))) (fill h 0x322BCC77#32))) (mulf (fill h 0x3C23D70A#32) w))
/-- The step of one entry. -/
abbrev step (w u v g : EReal) : EReal :=
  Ideal.ofBits .f32 0xBA83126F#32 * (Ideal.div (Ideal.div (Ideal.ofBits .f32 0x3F666666#32 * u + Ideal.ofBits .f32 0x3DCCCCCD#32 * g) (Ideal.ofBits .f32 0x3F26BD02#32))
      (Ideal.sqrt (Ideal.div (Ideal.ofBits .f32 0x3F7FBE77#32 * v + Ideal.ofBits .f32 0x3A83126F#32 * (g * g)) (Ideal.ofBits .f32 0x3C231ACC#32))
        + Ideal.ofBits .f32 0x322BCC77#32) + Ideal.ofBits .f32 0x3C23D70A#32 * w)
theorem delta_at (w u v g : FVec Ideal S .f32) (i : S.Idx) : delta h w u v g i = step (w i) (u i) (v i) (g i) := rfl
/-- What one call leaves: the gradient, the step and the moments. -/
abbrev Out (w u v g o0 o1 o2 o3 : FVec Ideal S .f32) : Prop := o0 = g ∧ o1 = delta h w u v g ∧ o2 = newM h u g ∧ o3 = newV h v g
theorem Out.congr {w w' u u' v v' g g' o0 o0' o1 o1' o2 o2' o3 o3' : FVec Ideal S .f32} (hw : w = w') (hu : u = u') (hv : v = v') (hg : g = g')
    (h0 : o0' = o0) (h1 : o1' = o1) (h2 : o2' = o2) (h3 : o3' = o3) (H : Out h w u v g o0 o1 o2 o3) : Out h w' u' v' g' o0' o1' o2' o3' := by
  subst hw hu hv hg h0 h1 h2 h3; exact H
end Update

section Calls
variable (V : (c : Dev nD) → (b : Ref sig .tc) → Buf (Elt Ideal) ((c : Thread nD τ).loc b)) (c : Dev nD)

theorem idx0 : ∀ t : Fin cfg0.N, win0_0.index t = ![0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] :=
  (by decide +kernel : ∀ t : Fin grid0.N, _)

theorem final0 : Out bcast_S_S1524x2048 (V c main_arg0) (V c main_arg1) (V c main_arg2) (V c main_arg3)
    ((dat0 V c).arrAt 4 cfg0.N) ((dat0 V c).arrAt 5 cfg0.N) ((dat0 V c).arrAt 6 cfg0.N) ((dat0 V c).arrAt 7 cfg0.N) := by
  refine ⟨(dat0 V c).arrAt_eq_of_covers 4 _ (by decide +kernel) fun t _ y => ?_, (dat0 V c).arrAt_eq_of_covers 5 _ (by decide +kernel) fun t _ y => ?_,
    (dat0 V c).arrAt_eq_of_covers 6 _ (by decide +kernel) fun t _ y => ?_, (dat0 V c).arrAt_eq_of_covers 7 _ (by decide +kernel) fun t _ y => ?_⟩ <;>
    blk_simp
  · rw [after0_4]; frame_out
    blk_point [iblk0, idx0 t]
  · rw [after0_5]; frame_out
    refine Eq.trans (b := step _ _ _ _) rfl (Eq.trans ?_ (delta_at _ _ _ _ _ _).symm)
    blk_point [iblk0, idx0 t]
  · rw [after0_6]; frame_out
    pointwise [k0_pay1, newM, fill]
    blk_point [iblk0, idx0 t]
  · rw [after0_7]; frame_out
    pointwise [k0_pay2, newV, fill]
    blk_point [iblk0, idx0 t]

theorem idx1 : ∀ t : Fin cfg1.N, win1_0.index t = ![t.val, 0] ∧ win1_1.index t = ![t.val, 0] ∧ win1_2.index t = ![t.val, 0] ∧ win1_3.index t = ![t.val, 0]
    ∧ win1_4.index t = ![t.val, 0] ∧ win1_5.index t = ![t.val, 0] ∧ win1_6.index t = ![t.val, 0] ∧ win1_7.index t = ![t.val, 0] :=
  (by decide +kernel : ∀ t : Fin grid1.N, _)

theorem final1 : Out bcast_S_S512x2048 (V c main_arg4) (V c main_arg5) (V c main_arg6) (V c main_arg7)
    ((dat1 V c).arrAt 4 cfg1.N) ((dat1 V c).arrAt 5 cfg1.N) ((dat1 V c).arrAt 6 cfg1.N) ((dat1 V c).arrAt 7 cfg1.N) := by
  refine ⟨(dat1 V c).arrAt_eq_of_covers 4 _ (by decide +kernel) fun t _ y => ?_, (dat1 V c).arrAt_eq_of_covers 5 _ (by decide +kernel) fun t _ y => ?_,
    (dat1 V c).arrAt_eq_of_covers 6 _ (by decide +kernel) fun t _ y => ?_, (dat1 V c).arrAt_eq_of_covers 7 _ (by decide +kernel) fun t _ y => ?_⟩ <;>
    blk_simp
  · rw [after1_4]; frame_out
    blk_point [iblk1, idx1 t]
  · rw [after1_5]; frame_out
    refine Eq.trans (b := step _ _ _ _) rfl (Eq.trans ?_ (delta_at _ _ _ _ _ _).symm)
    blk_point [iblk1, idx1 t]
  · rw [after1_6]; frame_out
    pointwise [k1_pay1, newM, fill]
    blk_point [iblk1, idx1 t]
  · rw [after1_7]; frame_out
    pointwise [k1_pay2, newV, fill]
    blk_point [iblk1, idx1 t]

theorem idx2 : ∀ t : Fin cfg2.N, win2_0.index t = ![t.val, 0] ∧ win2_1.index t = ![t.val, 0] ∧ win2_2.index t = ![t.val, 0] ∧ win2_3.index t = ![t.val, 0]
    ∧ win2_4.index t = ![t.val, 0] ∧ win2_5.index t = ![t.val, 0] ∧ win2_6.index t = ![t.val, 0] ∧ win2_7.index t = ![t.val, 0] :=
  (by decide +kernel : ∀ t : Fin grid2.N, _)

theorem final2 : Out bcast_S_S2048x2048 (V c main_arg8) (V c main_arg9) (V c main_arg10) (V c main_arg11)
    ((dat2 V c).arrAt 4 cfg2.N) ((dat2 V c).arrAt 5 cfg2.N) ((dat2 V c).arrAt 6 cfg2.N) ((dat2 V c).arrAt 7 cfg2.N) := by
  refine ⟨(dat2 V c).arrAt_eq_of_covers 4 _ (by decide +kernel) fun t _ y => ?_, (dat2 V c).arrAt_eq_of_covers 5 _ (by decide +kernel) fun t _ y => ?_,
    (dat2 V c).arrAt_eq_of_covers 6 _ (by decide +kernel) fun t _ y => ?_, (dat2 V c).arrAt_eq_of_covers 7 _ (by decide +kernel) fun t _ y => ?_⟩ <;>
    blk_simp
  · rw [after2_4]; frame_out
    blk_point [iblk2, idx2 t]
  · rw [after2_5]; frame_out
    refine Eq.trans (b := step _ _ _ _) rfl (Eq.trans ?_ (delta_at _ _ _ _ _ _).symm)
    blk_point [iblk2, idx2 t]
  · rw [after2_6]; frame_out
    pointwise [k2_pay1, newM, fill]
    blk_point [iblk2, idx2 t]
  · rw [after2_7]; frame_out
    pointwise [k2_pay2, newV, fill]
    blk_point [iblk2, idx2 t]

theorem idx3 : ∀ t : Fin cfg3.N, win3_0.index t = ![0, 0] ∧ win3_1.index t = ![0, 0] ∧ win3_2.index t = ![0, 0] ∧ win3_3.index t = ![0, 0]
    ∧ win3_4.index t = ![0, 0] ∧ win3_5.index t = ![0, 0] ∧ win3_6.index t = ![0, 0] ∧ win3_7.index t = ![0, 0] :=
  (by decide +kernel : ∀ t : Fin grid3.N, _)

theorem final3 : Out bcast_S_S96x256 (V c main_arg12) (V c main_arg13) (V c main_arg14) (V c main_arg15)
    ((dat3 V c).arrAt 4 cfg3.N) ((dat3 V c).arrAt 5 cfg3.N) ((dat3 V c).arrAt 6 cfg3.N) ((dat3 V c).arrAt 7 cfg3.N) := by
  refine ⟨(dat3 V c).arrAt_eq_of_covers 4 _ (by decide +kernel) fun t _ y => ?_, (dat3 V c).arrAt_eq_of_covers 5 _ (by decide +kernel) fun t _ y => ?_,
    (dat3 V c).arrAt_eq_of_covers 6 _ (by decide +kernel) fun t _ y => ?_, (dat3 V c).arrAt_eq_of_covers 7 _ (by decide +kernel) fun t _ y => ?_⟩ <;>
    blk_simp
  · rw [after3_4]; frame_out
    blk_point [iblk3, idx3 t]
  · rw [after3_5]; frame_out
    refine Eq.trans (b := step _ _ _ _) rfl (Eq.trans ?_ (delta_at _ _ _ _ _ _).symm)
    blk_point [iblk3, idx3 t]
  · rw [after3_6]; frame_out
    pointwise [k3_pay1, newM, fill]
    blk_point [iblk3, idx3 t]
  · rw [after3_7]; frame_out
    pointwise [k3_pay2, newV, fill]
    blk_point [iblk3, idx3 t]

theorem idx4 : ∀ t : Fin cfg4.N, win4_0.index t = ![0, 0] ∧ win4_1.index t = ![0, 0] ∧ win4_2.index t = ![0, 0] ∧ win4_3.index t = ![0, 0]
    ∧ win4_4.index t = ![0, 0] ∧ win4_5.index t = ![0, 0] ∧ win4_6.index t = ![0, 0] ∧ win4_7.index t = ![0, 0] :=
  (by decide +kernel : ∀ t : Fin grid4.N, _)

theorem final4 : Out bcast_S_S256x256 (V c main_arg16) (V c main_arg17) (V c main_arg18) (V c main_arg19)
    ((dat4 V c).arrAt 4 cfg4.N) ((dat4 V c).arrAt 5 cfg4.N) ((dat4 V c).arrAt 6 cfg4.N) ((dat4 V c).arrAt 7 cfg4.N) := by
  refine ⟨(dat4 V c).arrAt_eq_of_covers 4 _ (by decide +kernel) fun t _ y => ?_, (dat4 V c).arrAt_eq_of_covers 5 _ (by decide +kernel) fun t _ y => ?_,
    (dat4 V c).arrAt_eq_of_covers 6 _ (by decide +kernel) fun t _ y => ?_, (dat4 V c).arrAt_eq_of_covers 7 _ (by decide +kernel) fun t _ y => ?_⟩ <;>
    blk_simp
  · rw [after4_4]; frame_out
    blk_point [iblk4, idx4 t]
  · rw [after4_5]; frame_out
    refine Eq.trans (b := step _ _ _ _) rfl (Eq.trans ?_ (delta_at _ _ _ _ _ _).symm)
    blk_point [iblk4, idx4 t]
  · rw [after4_6]; frame_out
    pointwise [k4_pay1, newM, fill]
    blk_point [iblk4, idx4 t]
  · rw [after4_7]; frame_out
    pointwise [k4_pay2, newV, fill]
    blk_point [iblk4, idx4 t]

theorem idx5 : ∀ t : Fin cfg5.N, win5_0.index t = ![0, 0] ∧ win5_1.index t = ![0, 0] ∧ win5_2.index t = ![0, 0] ∧ win5_3.index t = ![0, 0]
    ∧ win5_4.index t = ![0, 0] ∧ win5_5.index t = ![0, 0] ∧ win5_6.index t = ![0, 0] ∧ win5_7.index t = ![0, 0] :=
  (by decide +kernel : ∀ t : Fin grid5.N, _)

theorem final5 : Out bcast_S_S200x128 (V c main_arg20) (V c main_arg21) (V c main_arg22) (V c main_arg23)
    ((dat5 V c).arrAt 4 cfg5.N) ((dat5 V c).arrAt 5 cfg5.N) ((dat5 V c).arrAt 6 cfg5.N) ((dat5 V c).arrAt 7 cfg5.N) := by
  refine ⟨(dat5 V c).arrAt_eq_of_covers 4 _ (by decide +kernel) fun t _ y => ?_, (dat5 V c).arrAt_eq_of_covers 5 _ (by decide +kernel) fun t _ y => ?_,
    (dat5 V c).arrAt_eq_of_covers 6 _ (by decide +kernel) fun t _ y => ?_, (dat5 V c).arrAt_eq_of_covers 7 _ (by decide +kernel) fun t _ y => ?_⟩ <;>
    blk_simp
  · rw [after5_4]; frame_out
    blk_point [iblk5, idx5 t]
  · rw [after5_5]; frame_out
    refine Eq.trans (b := step _ _ _ _) rfl (Eq.trans ?_ (delta_at _ _ _ _ _ _).symm)
    blk_point [iblk5, idx5 t]
  · rw [after5_6]; frame_out
    pointwise [k5_pay1, newM, fill]
    blk_point [iblk5, idx5 t]
  · rw [after5_7]; frame_out
    pointwise [k5_pay2, newV, fill]
    blk_point [iblk5, idx5 t]

end Calls

variable (m : (ℓ : Loc nD τ sig) → Buf (Elt Ideal) ℓ) (ρ : Dev nD → PrngReg) (c : Dev nD)

/-- The launch leaves what the last call left. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Ends.ends (pcfgs (F := Ideal)) adm (pdats m ρ) cellOf_inj defs₀ 𝒱₀ m ρ main (segs m ρ) (main_run m ρ)
    (by simp only [segs, Pipeline.Seg.pipes_host, Pipeline.Seg.pipes_region, Pipeline.Seg.pipes_nil]; decide)
    (W6 m ρ) ⟨fun _ => .rfl, fun _ => .rfl, fun _ => .rfl, fun _ => .rfl, fun _ => .rfl, fun _ => .rfl, fun _ => .rfl⟩

/-- The arrays the first calls leave; later calls write none of them. -/
abbrev outs0 : List (Ref sig .tc) := [main_v0_0, main_v0_1, main_v0_2, main_v0_3]
abbrev outs1 : List (Ref sig .tc) := outs0 ++ [main_v1_0, main_v1_1, main_v1_2, main_v1_3]
abbrev outs2 : List (Ref sig .tc) := outs1 ++ [main_v2_0, main_v2_1, main_v2_2, main_v2_3]
abbrev outs3 : List (Ref sig .tc) := outs2 ++ [main_v3_0, main_v3_1, main_v3_2, main_v3_3]
abbrev outs4 : List (Ref sig .tc) := outs3 ++ [main_v4_0, main_v4_1, main_v4_2, main_v4_3]
theorem kept4 (r : Ref sig .tc) (h : r ∈ outs4) : W6 m ρ c (Proc.devRef .tc r) = W5 m ρ c (Proc.devRef .tc r) :=
  W6_of m ρ c r ((by decide : ∀ r ∈ outs4, ∀ w : Fin cfg5.W, Pipeline.arrRef spec5 w = r → (cfg5.win w).isOut = false) r h)
theorem kept3 (r : Ref sig .tc) (h : r ∈ outs3) : W6 m ρ c (Proc.devRef .tc r) = W4 m ρ c (Proc.devRef .tc r) :=
  (kept4 m ρ c r (List.mem_append_left _ h)).trans (W5_of m ρ c r ((by decide : ∀ r ∈ outs3, ∀ w : Fin cfg4.W, Pipeline.arrRef spec4 w = r → (cfg4.win w).isOut = false) r h))
theorem kept2 (r : Ref sig .tc) (h : r ∈ outs2) : W6 m ρ c (Proc.devRef .tc r) = W3 m ρ c (Proc.devRef .tc r) :=
  (kept3 m ρ c r (List.mem_append_left _ h)).trans (W4_of m ρ c r ((by decide : ∀ r ∈ outs2, ∀ w : Fin cfg3.W, Pipeline.arrRef spec3 w = r → (cfg3.win w).isOut = false) r h))
theorem kept1 (r : Ref sig .tc) (h : r ∈ outs1) : W6 m ρ c (Proc.devRef .tc r) = W2 m ρ c (Proc.devRef .tc r) :=
  (kept2 m ρ c r (List.mem_append_left _ h)).trans (W3_of m ρ c r ((by decide : ∀ r ∈ outs1, ∀ w : Fin cfg2.W, Pipeline.arrRef spec2 w = r → (cfg2.win w).isOut = false) r h))
theorem kept0 (r : Ref sig .tc) (h : r ∈ outs0) : W6 m ρ c (Proc.devRef .tc r) = W1 m ρ c (Proc.devRef .tc r) :=
  (kept1 m ρ c r (List.mem_append_left _ h)).trans (W2_of m ρ c r ((by decide : ∀ r ∈ outs0, ∀ w : Fin cfg1.W, Pipeline.arrRef spec1 w = r → (cfg1.win w).isOut = false) r h))

theorem end0 : Out bcast_S_S1524x2048 (m ((c : Thread nD τ).loc main_arg0)) (m ((c : Thread nD τ).loc main_arg1))
    (m ((c : Thread nD τ).loc main_arg2)) (m ((c : Thread nD τ).loc main_arg3)) (W6 m ρ c (Proc.devRef .tc main_v0_0)) (W6 m ρ c (Proc.devRef .tc main_v0_1))
    (W6 m ρ c (Proc.devRef .tc main_v0_2)) (W6 m ρ c (Proc.devRef .tc main_v0_3)) :=
  Out.congr _ (W0_args m ρ c main_arg0 (by decide)) (W0_args m ρ c main_arg1 (by decide)) (W0_args m ρ c main_arg2 (by decide)) (W0_args m ρ c main_arg3 (by decide))
    ((kept0 m ρ c main_v0_0 (by decide)).trans (W1_arr m ρ c 4)) ((kept0 m ρ c main_v0_1 (by decide)).trans (W1_arr m ρ c 5))
    ((kept0 m ρ c main_v0_2 (by decide)).trans (W1_arr m ρ c 6)) ((kept0 m ρ c main_v0_3 (by decide)).trans (W1_arr m ρ c 7)) (final0 (V0 m ρ) c)
theorem end1 : Out bcast_S_S512x2048 (m ((c : Thread nD τ).loc main_arg4)) (m ((c : Thread nD τ).loc main_arg5))
    (m ((c : Thread nD τ).loc main_arg6)) (m ((c : Thread nD τ).loc main_arg7)) (W6 m ρ c (Proc.devRef .tc main_v1_0)) (W6 m ρ c (Proc.devRef .tc main_v1_1))
    (W6 m ρ c (Proc.devRef .tc main_v1_2)) (W6 m ρ c (Proc.devRef .tc main_v1_3)) :=
  Out.congr _ (W1_args m ρ c main_arg4 (by decide)) (W1_args m ρ c main_arg5 (by decide)) (W1_args m ρ c main_arg6 (by decide)) (W1_args m ρ c main_arg7 (by decide))
    ((kept1 m ρ c main_v1_0 (by decide)).trans (W2_arr m ρ c 4)) ((kept1 m ρ c main_v1_1 (by decide)).trans (W2_arr m ρ c 5))
    ((kept1 m ρ c main_v1_2 (by decide)).trans (W2_arr m ρ c 6)) ((kept1 m ρ c main_v1_3 (by decide)).trans (W2_arr m ρ c 7)) (final1 (V1 m ρ) c)
theorem end2 : Out bcast_S_S2048x2048 (m ((c : Thread nD τ).loc main_arg8)) (m ((c : Thread nD τ).loc main_arg9))
    (m ((c : Thread nD τ).loc main_arg10)) (m ((c : Thread nD τ).loc main_arg11)) (W6 m ρ c (Proc.devRef .tc main_v2_0)) (W6 m ρ c (Proc.devRef .tc main_v2_1))
    (W6 m ρ c (Proc.devRef .tc main_v2_2)) (W6 m ρ c (Proc.devRef .tc main_v2_3)) :=
  Out.congr _ (W2_args m ρ c main_arg8 (by decide)) (W2_args m ρ c main_arg9 (by decide)) (W2_args m ρ c main_arg10 (by decide)) (W2_args m ρ c main_arg11 (by decide))
    ((kept2 m ρ c main_v2_0 (by decide)).trans (W3_arr m ρ c 4)) ((kept2 m ρ c main_v2_1 (by decide)).trans (W3_arr m ρ c 5))
    ((kept2 m ρ c main_v2_2 (by decide)).trans (W3_arr m ρ c 6)) ((kept2 m ρ c main_v2_3 (by decide)).trans (W3_arr m ρ c 7)) (final2 (V2 m ρ) c)
theorem end3 : Out bcast_S_S96x256 (m ((c : Thread nD τ).loc main_arg12)) (m ((c : Thread nD τ).loc main_arg13))
    (m ((c : Thread nD τ).loc main_arg14)) (m ((c : Thread nD τ).loc main_arg15)) (W6 m ρ c (Proc.devRef .tc main_v3_0)) (W6 m ρ c (Proc.devRef .tc main_v3_1))
    (W6 m ρ c (Proc.devRef .tc main_v3_2)) (W6 m ρ c (Proc.devRef .tc main_v3_3)) :=
  Out.congr _ (W3_args m ρ c main_arg12 (by decide)) (W3_args m ρ c main_arg13 (by decide)) (W3_args m ρ c main_arg14 (by decide)) (W3_args m ρ c main_arg15 (by decide))
    ((kept3 m ρ c main_v3_0 (by decide)).trans (W4_arr m ρ c 4)) ((kept3 m ρ c main_v3_1 (by decide)).trans (W4_arr m ρ c 5))
    ((kept3 m ρ c main_v3_2 (by decide)).trans (W4_arr m ρ c 6)) ((kept3 m ρ c main_v3_3 (by decide)).trans (W4_arr m ρ c 7)) (final3 (V3 m ρ) c)
theorem end4 : Out bcast_S_S256x256 (m ((c : Thread nD τ).loc main_arg16)) (m ((c : Thread nD τ).loc main_arg17))
    (m ((c : Thread nD τ).loc main_arg18)) (m ((c : Thread nD τ).loc main_arg19)) (W6 m ρ c (Proc.devRef .tc main_v4_0)) (W6 m ρ c (Proc.devRef .tc main_v4_1))
    (W6 m ρ c (Proc.devRef .tc main_v4_2)) (W6 m ρ c (Proc.devRef .tc main_v4_3)) :=
  Out.congr _ (W4_args m ρ c main_arg16 (by decide)) (W4_args m ρ c main_arg17 (by decide)) (W4_args m ρ c main_arg18 (by decide)) (W4_args m ρ c main_arg19 (by decide))
    ((kept4 m ρ c main_v4_0 (by decide)).trans (W5_arr m ρ c 4)) ((kept4 m ρ c main_v4_1 (by decide)).trans (W5_arr m ρ c 5))
    ((kept4 m ρ c main_v4_2 (by decide)).trans (W5_arr m ρ c 6)) ((kept4 m ρ c main_v4_3 (by decide)).trans (W5_arr m ρ c 7)) (final4 (V4 m ρ) c)
theorem end5 : Out bcast_S_S200x128 (m ((c : Thread nD τ).loc main_arg20)) (m ((c : Thread nD τ).loc main_arg21))
    (m ((c : Thread nD τ).loc main_arg22)) (m ((c : Thread nD τ).loc main_arg23)) (W6 m ρ c (Proc.devRef .tc main_v5_0)) (W6 m ρ c (Proc.devRef .tc main_v5_1))
    (W6 m ρ c (Proc.devRef .tc main_v5_2)) (W6 m ρ c (Proc.devRef .tc main_v5_3)) :=
  Out.congr _ (W5_args m ρ c main_arg20 (by decide)) (W5_args m ρ c main_arg21 (by decide)) (W5_args m ρ c main_arg22 (by decide)) (W5_args m ρ c main_arg23 (by decide))
    (W6_arr m ρ c 4) (W6_arr m ρ c 5)
    (W6_arr m ρ c 6) (W6_arr m ρ c 7) (final5 (V5 m ρ) c)

end Cert.Adam

end
-- ==== Proof.InProj.lean ====
/- The in-projection's six calls: each result array is the reference's term of the call's operands. -/
module

public import proofs.«01_k».proof.Proof.Gen.Kernel5Ideal.Frame
public import proofs.«01_k».proof.Proof.Gen.Reference5Ideal.Run
public import proofs.«01_k».proof.Proof.Ends
public import Idealize.ShloMosaic.Lib.Pipeline.ValueKit

@[expose] public section

set_option maxRecDepth 16384

noncomputable section

namespace Cert.InProj

open Cert.Kernel5Ideal Cert.Kernel5Ideal.Gen Idealize.ShloMosaic Idealize.ShloMosaic.TcCoe Idealize.SL.Sem
open Cert.Reference5Ideal (dot_S4096x2048_S2048x1024_S4096x1024_1_0_0_1_n_n dot_S4096x2048_S2048x1536_S4096x1536_1_0_0_1_n_n
  dot_S4096x2048_S2048x128_S4096x128_1_0_0_1_n_n dot_S4096x2048_S2048x3072_S4096x3072_1_0_0_1_n_n
  dot_S4096x2048_S2048x512_S4096x512_1_0_0_1_n_n dot_S4096x6272_S4096x2048_S6272x2048_0_0_1_1_n_n
  S2048x1024 S2048x1536 S2048x128 S2048x3072 S2048x512 S2048x6272)
open Cert.Reference5Ideal.Gen (transposes_S1024x2048_S2048x1024_1_0 transposes_S1536x2048_S2048x1536_1_0
  transposes_S128x2048_S2048x128_1_0 transposes_S3072x2048_S2048x3072_1_0 transposes_S512x2048_S2048x512_1_0
  transposes_S6272x2048_S2048x6272_1_0 transposes_S2048x6272_S6272x2048_1_0)

/-- A bf16 array at the wider format: over the reals the same numbers. -/
abbrev wide {S : Shape} (x : FVec Ideal S .bf16) : FVec Ideal S .f32 := extf .f32 x Cert.Reference5Ideal.Gen.bitsLt_bf16_f32

/-- The gate's segment: `h` times the segment's weight, which is given by columns. -/
abbrev segZ (h : FVec Ideal S4096x2048 .bf16) (w : FVec Ideal S1024x2048 .bf16) : FVec Ideal S4096x1024 .f32 :=
  Host.dotGeneral dot_S4096x2048_S2048x1024_S4096x1024_1_0_0_1_n_n none (wide h) (transpose S2048x1024 [1, 0] (wide w) transposes_S1024x2048_S2048x1024_1_0)
/-- The convolved segment. -/
abbrev segX (h : FVec Ideal S4096x2048 .bf16) (w : FVec Ideal S1536x2048 .bf16) : FVec Ideal S4096x1536 .f32 :=
  Host.dotGeneral dot_S4096x2048_S2048x1536_S4096x1536_1_0_0_1_n_n none (wide h) (transpose S2048x1536 [1, 0] (wide w) transposes_S1536x2048_S2048x1536_1_0)
/-- The step sizes' segment. -/
abbrev segT (h : FVec Ideal S4096x2048 .bf16) (w : FVec Ideal S128x2048 .bf16) : FVec Ideal S4096x128 .f32 :=
  Host.dotGeneral dot_S4096x2048_S2048x128_S4096x128_1_0_0_1_n_n none (wide h) (transpose S2048x128 [1, 0] (wide w) transposes_S128x2048_S2048x128_1_0)
/-- The second mixer's segment. -/
abbrev segR (h : FVec Ideal S4096x2048 .bf16) (w : FVec Ideal S3072x2048 .bf16) : FVec Ideal S4096x3072 .f32 :=
  Host.dotGeneral dot_S4096x2048_S2048x3072_S4096x3072_1_0_0_1_n_n none (wide h) (transpose S2048x3072 [1, 0] (wide w) transposes_S3072x2048_S2048x3072_1_0)
/-- The low-rank segment. -/
abbrev segL (h : FVec Ideal S4096x2048 .bf16) (w : FVec Ideal S512x2048 .bf16) : FVec Ideal S4096x512 .f32 :=
  Host.dotGeneral dot_S4096x2048_S2048x512_S4096x512_1_0_0_1_n_n none (wide h) (transpose S2048x512 [1, 0] (wide w) transposes_S512x2048_S2048x512_1_0)
/-- The weight's gradient by columns: the segments' gradient transposed times `h`. -/
abbrev dw (h : FVec Ideal S4096x2048 .bf16) (d : FVec Ideal S4096x6272 .bf16) : FVec Ideal S6272x2048 .f32 :=
  transpose S6272x2048 [1, 0] (transpose S2048x6272 [1, 0]
    (Host.dotGeneral (F := Ideal) dot_S4096x6272_S4096x2048_S6272x2048_0_0_1_1_n_n none (wide d) (wide h))
    transposes_S6272x2048_S2048x6272_1_0) transposes_S2048x6272_S6272x2048_1_0

section Calls
variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)

theorem final0 : (dat0 V c).arrAt 2 cfg0.N = segZ (V c main_arg0) (V c main_arg1) := by
  refine (dat0 V c).arrAt_eq_of_covers 2 _ (by decide +kernel) fun t _ y => ?_
  blk_simp
  rw [after0_2]; unfold outsAt0; frame_out
  pointwise [k0_pay1, segZ, wide]
  blk_point [iblk0, idx0 t]

theorem idx1 : ∀ t : Fin cfg1.N, win1_0.index t = ![t.val / 2, 0] ∧ win1_1.index t = ![t.val % 2, 0] ∧ win1_2.index t = ![t.val / 2, t.val % 2] :=
  (by decide +kernel : ∀ t : Fin grid1.N, _)

theorem final1 : (dat1 V c).arrAt 2 cfg1.N = segX (V c main_arg0) (V c main_arg2) := by
  refine (dat1 V c).arrAt_eq_of_covers 2 _ (by decide +kernel) fun t _ y => ?_
  blk_simp
  rw [after1_2]; unfold outsAt1; frame_out
  pointwise [k1_pay1, segX, wide]
  blk_point [iblk1, idx1 t]

theorem idx2 : ∀ t : Fin cfg2.N, win2_0.index t = ![t.val, 0] ∧ win2_1.index t = ![0, 0] ∧ win2_2.index t = ![t.val, 0] :=
  (by decide +kernel : ∀ t : Fin grid2.N, _)

theorem final2 : (dat2 V c).arrAt 2 cfg2.N = segT (V c main_arg0) (V c main_arg3) := by
  refine (dat2 V c).arrAt_eq_of_covers 2 _ (by decide +kernel) fun t _ y => ?_
  blk_simp
  rw [after2_2]; unfold outsAt2; frame_out
  pointwise [k2_pay1, segT, wide]
  blk_point [iblk2, idx2 t]

theorem idx3 : ∀ t : Fin cfg3.N, win3_0.index t = ![t.val / 3, 0] ∧ win3_1.index t = ![t.val % 3, 0] ∧ win3_2.index t = ![t.val / 3, t.val % 3] :=
  (by decide +kernel : ∀ t : Fin grid3.N, _)

theorem final3 : (dat3 V c).arrAt 2 cfg3.N = segR (V c main_arg0) (V c main_arg4) := by
  refine (dat3 V c).arrAt_eq_of_covers 2 _ (by decide +kernel) fun t _ y => ?_
  blk_simp
  rw [after3_2]; unfold outsAt3; frame_out
  pointwise [k3_pay1, segR, wide]
  blk_point [iblk3, idx3 t]

theorem idx4 : ∀ t : Fin cfg4.N, win4_0.index t = ![t.val, 0] ∧ win4_1.index t = ![0, 0] ∧ win4_2.index t = ![t.val, 0] :=
  (by decide +kernel : ∀ t : Fin grid4.N, _)

theorem final4 : (dat4 V c).arrAt 2 cfg4.N = segL (V c main_arg0) (V c main_arg5) := by
  refine (dat4 V c).arrAt_eq_of_covers 2 _ (by decide +kernel) fun t _ y => ?_
  blk_simp
  rw [after4_2]; unfold outsAt4; frame_out
  pointwise [k4_pay1, segL, wide]
  blk_point [iblk4, idx4 t]

theorem idx5 : ∀ t : Fin cfg5.N, win5_0.index t = ![0, t.val / 2] ∧ win5_1.index t = ![0, t.val % 2] ∧ win5_2.index t = ![t.val / 2, t.val % 2] :=
  (by decide +kernel : ∀ t : Fin grid5.N, _)

theorem final5 : (dat5 V c).arrAt 2 cfg5.N = dw (V c main_arg0) (V c main_arg6) := by
  refine (dat5 V c).arrAt_eq_of_covers 2 _ (by decide +kernel) fun t _ y => ?_
  blk_simp
  rw [after5_2]; unfold outsAt5; frame_out
  pointwise [k5_pay1, dw, wide]
  blk_point [iblk5, idx5 t]

end Calls

variable (m : (ℓ : Loc nD τ sig) → Buf (Elt Ideal) ℓ) (ρ : Dev nD → PrngReg) (c : Dev nD)

theorem ends : θ_run defs (onTc (τ := τ) (main (F := Ideal))) ⟨m, fun _ => 0, ρ⟩ (fun r => ∀ c : Dev nD,
      ∀ b ∈ Pipeline.ucRefs τ sig, r.2.mem (((c : Thread nD τ)).1, b) = W6 m ρ c b) :=
  Ends.ends (pcfgs (F := Ideal)) adm (pdats m ρ) cellOf_inj defs₀ 𝒱₀ m ρ main (segs m ρ) (main_run m ρ)
    (by simp only [segs, Pipeline.Seg.pipes_host, Pipeline.Seg.pipes_region, Pipeline.Seg.pipes_nil]; decide)
    (W6 m ρ) ⟨fun _ => .rfl, fun _ => .rfl, fun _ => .rfl, fun _ => .rfl, fun _ => .rfl, fun _ => .rfl, fun _ => .rfl⟩

theorem v0_end : W6 m ρ c (Proc.devRef .tc main_v0) = segZ (m ((c : Thread nD τ).loc main_arg0)) (m ((c : Thread nD τ).loc main_arg1)) :=
  (W6_of m ρ c main_v0 (by decide)).trans ((W5_of m ρ c main_v0 (by decide)).trans ((W4_of m ρ c main_v0 (by decide)).trans
    ((W3_of m ρ c main_v0 (by decide)).trans ((W2_of m ρ c main_v0 (by decide)).trans ((W1_arr m ρ c 2).trans (final0 (V0 m ρ) c))))))
theorem v1_end : W6 m ρ c (Proc.devRef .tc main_v1) = segX (m ((c : Thread nD τ).loc main_arg0)) (m ((c : Thread nD τ).loc main_arg2)) :=
  (W6_of m ρ c main_v1 (by decide)).trans ((W5_of m ρ c main_v1 (by decide)).trans ((W4_of m ρ c main_v1 (by decide)).trans
    ((W3_of m ρ c main_v1 (by decide)).trans ((W2_arr m ρ c 2).trans ((final1 (V1 m ρ) c).trans
      (congrArg₂ segX (W1_args m ρ c main_arg0 (by decide)) (W1_args m ρ c main_arg2 (by decide))))))))
theorem v2_end : W6 m ρ c (Proc.devRef .tc main_v2) = segT (m ((c : Thread nD τ).loc main_arg0)) (m ((c : Thread nD τ).loc main_arg3)) :=
  (W6_of m ρ c main_v2 (by decide)).trans ((W5_of m ρ c main_v2 (by decide)).trans ((W4_of m ρ c main_v2 (by decide)).trans
    ((W3_arr m ρ c 2).trans ((final2 (V2 m ρ) c).trans
      (congrArg₂ segT (W2_args m ρ c main_arg0 (by decide)) (W2_args m ρ c main_arg3 (by decide)))))))
theorem v3_end : W6 m ρ c (Proc.devRef .tc main_v3) = segR (m ((c : Thread nD τ).loc main_arg0)) (m ((c : Thread nD τ).loc main_arg4)) :=
  (W6_of m ρ c main_v3 (by decide)).trans ((W5_of m ρ c main_v3 (by decide)).trans ((W4_arr m ρ c 2).trans ((final3 (V3 m ρ) c).trans
    (congrArg₂ segR (W3_args m ρ c main_arg0 (by decide)) (W3_args m ρ c main_arg4 (by decide))))))
theorem v4_end : W6 m ρ c (Proc.devRef .tc main_v4) = segL (m ((c : Thread nD τ).loc main_arg0)) (m ((c : Thread nD τ).loc main_arg5)) :=
  (W6_of m ρ c main_v4 (by decide)).trans ((W5_arr m ρ c 2).trans ((final4 (V4 m ρ) c).trans
    (congrArg₂ segL (W4_args m ρ c main_arg0 (by decide)) (W4_args m ρ c main_arg5 (by decide)))))
theorem v5_end : W6 m ρ c (Proc.devRef .tc main_v5) = dw (m ((c : Thread nD τ).loc main_arg0)) (m ((c : Thread nD τ).loc main_arg6)) :=
  (W6_arr m ρ c 2).trans ((final5 (V5 m ρ) c).trans
    (congrArg₂ dw (W5_args m ρ c main_arg0 (by decide)) (W5_args m ρ c main_arg6 (by decide))))

end Cert.InProj

end
-- ==== Proof.InProjDx.lean ====
/- The operand's gradient of the in-projection: seven points add up one block of the result. -/
module

public import proofs.«01_k».proof.Proof.Gen.Kernel6Ideal.Value
public import proofs.«01_k».proof.Proof.Gen.Reference6Ideal.Run
public import Idealize.ShloMosaic.Lib.Pipeline.ValueKit

@[expose] public section

set_option maxRecDepth 16384

noncomputable section

namespace Cert.InProjDx

open Cert.Kernel6Ideal Cert.Kernel6Ideal.Gen Idealize.ShloMosaic Idealize.ShloMosaic.TcCoe Idealize.SL.Sem
open Cert.Reference6Ideal.Gen (transposes_S6272x2048_S2048x6272_1_0 bitsLt_bf16_f32)

/-- The segments' gradient times the weight, which is given by columns. -/
abbrev dx (d : FVec Ideal S4096x6272 .bf16) (w : FVec Ideal S6272x2048 .bf16) : FVec Ideal S4096x2048 .f32 :=
  Host.dotGeneral (F := Ideal) Cert.Reference6Ideal.dot_S4096x6272_S2048x6272_S4096x2048_1_1_0_0_n_n none (extf .f32 d bitsLt_bf16_f32)
    (transpose Cert.Reference6Ideal.S2048x6272 [1, 0] (extf .f32 w bitsLt_bf16_f32) transposes_S6272x2048_S2048x6272_1_0)

/-- What one point adds at an index of the block. -/
def part (x : FVec Ideal S1024x896 .bf16) (y : FVec Ideal S896x1024 .bf16) (j : S1024x1024.Idx) : EReal :=
  ∑ k : Fin 896, x (ix2 (j 0) k) * y (ix2 k (j 1))

theorem pay1_at (x : Vec Ideal S1024x896 .bf16) (y : Vec Ideal S896x1024 .bf16) (j : S1024x1024.Idx) :
    k0_pay1 x y j = part x y j := by pointwise [k0_pay1, part]
theorem pay2_at (x : Vec Ideal S1024x896 .bf16) (y : Vec Ideal S896x1024 .bf16) (j : S1024x1024.Idx) :
    k0_pay2 x y j = part x y j := (congrFun (shapeCast_self _ _) j).trans (pay1_at x y j)
theorem pay4_at (x : Vec Ideal S1024x896 .bf16) (y : Vec Ideal S896x1024 .bf16) (a : Vec Ideal S1024x1024 .f32) (j : S1024x1024.Idx) :
    k0_pay4 x y a j = (a j + part x y j : EReal) := congrArg (fun e : EReal => (a j + e : EReal)) (pay1_at x y j)
theorem pay3_at (x : Vec Ideal S1024x896 .bf16) (y : Vec Ideal S896x1024 .bf16) (a : Vec Ideal S1024x1024 .f32) (j : S1024x1024.Idx) :
    k0_pay3 x y a j = (a j + part x y j : EReal) := (congrFun (shapeCast_self _ _) j).trans (pay4_at x y a j)

variable (m : (ℓ : Loc nD τ sig) → Buf (Elt Ideal) ℓ) (c : Dev nD)

theorem idx : ∀ t : Fin cfg0.N, win0_0.index t = ![t.val / 14, t.val % 7] ∧ win0_1.index t = ![t.val % 7, t.val / 7 % 2]
    ∧ win0_2.index t = ![t.val / 14, t.val / 7 % 2] := (by decide +kernel : ∀ t : Fin grid0.N, _)

/-- The running sum after a point: in the output's block at the last point of a block, in the scratch before. -/
def run (n : ℕ) (h : n < cfg0.N) : FVec Ideal S1024x1024 .f32 := if n % 7 = 6 then (outsAt0 m c n h).1 else (outsAt0 m c n h).2

theorem run_first (t : Fin cfg0.N) (h : t.val % 7 = 0) (j : S1024x1024.Idx) :
    (run m c t.val t.isLt j : EReal) = 0 + part (iblk m c 0 t) (iblk m c 1 t) j := by
  unfold run
  rw [if_neg (by omega), outsAt0_A m c t h (by omega) (by omega)]; frame_out
  exact (pay2_at _ _ j).trans (zero_add _).symm

theorem run_next (t : Fin cfg0.N) (h : ¬ t.val % 7 = 0) (j : S1024x1024.Idx) :
    (run m c t.val t.isLt j : EReal)
      = run m c (t.val - 1) (Nat.lt_of_le_of_lt (Nat.sub_le _ _) t.isLt) j + part (iblk m c 0 t) (iblk m c 1 t) j := by
  unfold run
  rw [if_neg (show ¬ (t.val - 1) % 7 = 6 by omega)]
  by_cases h6 : t.val % 7 = 6
  · rw [if_pos h6, outsAt0_C m c t h (by omega) h6]; frame_out
    rw [(Memref.isWhole_whole cc0_scratch0).read_unread]
    exact pay4_at _ _ _ j
  · rw [if_neg h6, outsAt0_B m c t h (by omega) h6]; frame_out
    rw [(Memref.isWhole_whole cc0_scratch0).read_unread]
    exact pay3_at _ _ _ j

/-- The array the program leaves. -/
theorem final : (dats m 0 c).arrAt 2 cfg0.N = dx (m ((c : Thread nD τ).loc main_arg0)) (m ((c : Thread nD τ).loc main_arg1)) := by
  refine (dats m 0 c).arrAt_eq_of_covers 2 _ (by decide +kernel) fun t hf y => ?_
  have h6 := (flush0_2 t).mp hf
  blk_simp
  rw [after0_2]
  have hr : (outsAt0 m c t.val t.isLt).1 = run m c t.val t.isLt := by unfold run; rw [if_pos h6]
  rw [hr]
  refine (Pipeline.eq_sum_fin_of_reset_step_apply_of_flush (run m c) 7 (fun _ => (0 : EReal)) _ (run_first m c) (run_next m c) t h6 y).trans ?_
  rw [zero_add]
  pointwise [dx, part]
  refine Fin.sum_mul_add_congr fun s k hl => ?_
  blk_point [iblk, V, idx t, idx ⟨_, Pipeline.run_point_lt_of_flush t h6 s⟩]

end Cert.InProjDx

end
-- ==== Proof.FfnDown.lean ====
/- The feed-forward's second product with the residual added: four points add up one block of the result. -/
module

public import proofs.«01_k».proof.Proof.Gen.Kernel7Ideal.Value
public import proofs.«01_k».proof.Proof.Gen.Reference7Ideal.Run
public import Idealize.ShloMosaic.Lib.Pipeline.ValueKit

@[expose] public section

set_option maxRecDepth 16384

noncomputable section

namespace Cert.FfnDown

open Cert.Kernel7Ideal Cert.Kernel7Ideal.Gen Idealize.ShloMosaic Idealize.ShloMosaic.TcCoe Idealize.SL.Sem
open Cert.Reference7Ideal.Gen (bitsLt_bf16_f32)

/-- The sum `x + f w`. -/
abbrev fwd (f : FVec Ideal S4096x8192 .bf16) (w : FVec Ideal S8192x2048 .bf16) (x : FVec Ideal S4096x2048 .f32) : FVec Ideal S4096x2048 .f32 :=
  addf x (Host.dotGeneral Cert.Reference7Ideal.dot_S4096x8192_S8192x2048_S4096x2048_1_0_0_1_n_n none (extf .f32 f bitsLt_bf16_f32) (extf .f32 w bitsLt_bf16_f32))

/-- What one point adds at an index of the block. -/
def part (x : FVec Ideal S1024x2048 .bf16) (y : FVec Ideal S2048x1024 .bf16) (j : S1024x1024.Idx) : EReal :=
  ∑ k : Fin 2048, x (ix2 (j 0) k) * y (ix2 k (j 1))

theorem pay1_at (x : Vec Ideal S1024x2048 .bf16) (y : Vec Ideal S2048x1024 .bf16) (j : S1024x1024.Idx) :
    k0_pay1 x y j = part x y j := by pointwise [k0_pay1, part]
theorem pay2_at (x : Vec Ideal S1024x2048 .bf16) (y : Vec Ideal S2048x1024 .bf16) (j : S1024x1024.Idx) :
    k0_pay2 x y j = part x y j := (congrFun (shapeCast_self _ _) j).trans (pay1_at x y j)
theorem pay3_at (x : Vec Ideal S1024x2048 .bf16) (y : Vec Ideal S2048x1024 .bf16) (a : Vec Ideal S1024x1024 .f32) (j : S1024x1024.Idx) :
    k0_pay3 x y a j = (a j + part x y j : EReal) :=
  (congrFun (shapeCast_self (addf a (k0_pay1 x y)) _) j).trans (congrArg (fun e : EReal => (a j + e : EReal)) (pay1_at x y j))
theorem pay4_at (x : Vec Ideal S1024x2048 .bf16) (y : Vec Ideal S2048x1024 .bf16) (a b : Vec Ideal S1024x1024 .f32) (j : S1024x1024.Idx) :
    k0_pay4 x y a b j = (b j + (a j + part x y j) : EReal) :=
  (congrArg (fun e : EReal => (a j + e + b j : EReal)) (pay1_at x y j)).trans (add_comm _ _)

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2]
    ∧ win0_2.index t = ![t.val / 8, t.val / 4 % 2] ∧ win0_3.index t = ![t.val / 8, t.val / 4 % 2] := (by decide +kernel : ∀ t : Fin grid0.N, _)

/-- The running sum after a point: what the scratch holds, or at a block's last point what is then added to the residual. -/
def run (n : ℕ) (h : n < cfg0.N) : S1024x1024.Idx → EReal := fun j =>
  if n % 4 = 3 then (outsAt0 m c (n - 1) (Nat.lt_of_le_of_lt (Nat.sub_le _ _) h)).2 j + part (iblk m c 0 ⟨n, h⟩) (iblk m c 1 ⟨n, h⟩) j
  else (outsAt0 m c n h).2 j

theorem run_first (t : Fin cfg0.N) (h : t.val % 4 = 0) (j : S1024x1024.Idx) :
    run m c t.val t.isLt j = 0 + part (iblk m c 0 t) (iblk m c 1 t) j := by
  unfold run
  rw [if_neg (by omega), outsAt0_A m c t h (by omega) (by omega)]; frame_out
  exact (pay2_at _ _ j).trans (zero_add _).symm

theorem run_next (t : Fin cfg0.N) (h : ¬ t.val % 4 = 0) (j : S1024x1024.Idx) :
    run m c t.val t.isLt j
      = run m c (t.val - 1) (Nat.lt_of_le_of_lt (Nat.sub_le _ _) t.isLt) j + part (iblk m c 0 t) (iblk m c 1 t) j := by
  unfold run
  rw [if_neg (show ¬ (t.val - 1) % 4 = 3 by omega)]
  by_cases h3 : t.val % 4 = 3
  · rw [if_pos h3]
  · rw [if_neg h3, outsAt0_B m c t h (by omega) h3]; frame_out
    rw [(Memref.isWhole_whole cc0_scratch0).read_unread]
    exact pay3_at _ _ _ j

/-- At a block's last point the output's block is the residual and the running sum. -/
theorem out_last (t : Fin cfg0.N) (h : t.val % 4 = 3) (j : S1024x1024.Idx) :
    ((outsAt0 m c t.val t.isLt).1 j : EReal) = (show FVec Ideal S1024x1024 .f32 from iblk m c 2 t) j + run m c t.val t.isLt j := by
  unfold run
  rw [if_pos h, outsAt0_C m c t (by omega) (by omega) h]; frame_out
  rw [(Memref.isWhole_whole cc0_scratch0).read_unread]
  exact pay4_at _ _ _ _ j

/-- The array the program leaves. -/
theorem final : (dats m 0 c).arrAt 3 cfg0.N
    = fwd (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 := (flush0_3 t).mp hf
  blk_simp
  rw [after0_3]
  refine (out_last m c t h3 y).trans ?_
  rw [Pipeline.eq_sum_fin_of_reset_step_apply_of_flush (run m c) 4 (fun _ => (0 : EReal)) _ (run_first m c) (run_next m c) t h3 y, zero_add]
  pointwise [fwd, part]
  refine congrArg₂ (· + ·) ?_ (Fin.sum_mul_add_congr fun s k hl => ?_)
  · blk_point [iblk, V, idx t]
  · blk_point [iblk, V, idx t, idx ⟨_, Pipeline.run_point_lt_of_flush t h3 s⟩]

end Cert.FfnDown

end
-- ==== Proof.OutProj.lean ====
/- The output projection's three calls: each result array is the reference's term of the call's operands. -/
module

public import proofs.«01_k».proof.Proof.Gen.Kernel8Ideal.Frame
public import proofs.«01_k».proof.Proof.Gen.Reference8Ideal.Run
public import proofs.«01_k».proof.Proof.Ends
public import Idealize.ShloMosaic.Lib.Pipeline.ValueKit

@[expose] public section

set_option maxRecDepth 16384

noncomputable section

namespace Cert.OutProj

open Cert.Kernel8Ideal Cert.Kernel8Ideal.Gen Idealize.ShloMosaic Idealize.ShloMosaic.TcCoe Idealize.SL.Sem
open Idealize.ShloMosaic.Pipeline (Dat)

/-- The sum `x + y w`. -/
abbrev fwd (y : FVec Ideal S4096x2048 .bf16) (w : FVec Ideal S2048x2048 .bf16) (x : FVec Ideal S4096x2048 .f32) : FVec Ideal S4096x2048 .f32 :=
  addf x (Host.dotGeneral Cert.Reference8Ideal.dot_S4096x2048_S2048x2048_S4096x2048_1_0_0_1_n_n none
    (extf .f32 y Cert.Reference8Ideal.Gen.bitsLt_bf16_f32) (extf .f32 w Cert.Reference8Ideal.Gen.bitsLt_bf16_f32))

/-- The weight's gradient, `y` transposed times `d`, written as the reference has it: `d` transposed times `y`, transposed. -/
abbrev dw (y d : FVec Ideal S4096x2048 .bf16) : FVec Ideal S2048x2048 .f32 :=
  transpose S2048x2048 [1, 0] (Host.dotGeneral (F := Ideal) Cert.Reference8Ideal.dot_S4096x2048_S4096x2048_S2048x2048_0_0_1_1_n_n none
    (extf .f32 d Cert.Reference8Ideal.Gen.bitsLt_bf16_f32) (extf .f32 y Cert.Reference8Ideal.Gen.bitsLt_bf16_f32))
    Cert.Reference8Ideal.Gen.transposes_S2048x2048_S2048x2048_1_0

/-- The operand's gradient, `d` times `w` transposed. -/
abbrev dx (d : FVec Ideal S4096x2048 .bf16) (w : FVec Ideal S2048x2048 .bf16) : FVec Ideal S4096x2048 .f32 :=
  Host.dotGeneral (F := Ideal) Cert.Reference8Ideal.dot_S4096x2048_S2048x2048_S4096x2048_1_1_0_0_n_n none
    (extf .f32 d Cert.Reference8Ideal.Gen.bitsLt_bf16_f32) (extf .f32 w Cert.Reference8Ideal.Gen.bitsLt_bf16_f32)

section Calls
variable (V : (c : Dev nD) → (b : Ref sig .tc) → Buf (Elt Ideal) ((c : Thread nD τ).loc b)) (c : Dev nD)

theorem idx0 : ∀ t : Fin cfg0.N, win0_0.index t = ![t.val / 2, 0] ∧ win0_1.index t = ![0, t.val % 2]
    ∧ win0_2.index t = ![t.val / 2, t.val % 2] ∧ win0_3.index t = ![t.val / 2, t.val % 2] := (by decide +kernel : ∀ t : Fin grid0.N, _)

theorem final0 : (dat0 V c).arrAt 3 cfg0.N = fwd (V c main_arg0) (V c main_arg1) (V c main_arg2) := by
  refine (dat0 V c).arrAt_eq_of_covers 3 _ (by decide +kernel) fun t _ y => ?_
  blk_simp
  rw [after0_3]
  unfold outsAt0
  frame_out
  pointwise [k0_pay1, fwd]
  blk_point [iblk0, idx0 t]

theorem idx1 : ∀ t : Fin cfg1.N, win1_0.index t = ![0, t.val / 2] ∧ win1_1.index t = ![0, t.val % 2]
    ∧ win1_2.index t = ![t.val / 2, t.val % 2] := (by decide +kernel : ∀ t : Fin grid1.N, _)

theorem final1 : (dat1 V c).arrAt 2 cfg1.N = dw (V c main_arg0) (V c main_arg3) := by
  refine (dat1 V c).arrAt_eq_of_covers 2 _ (by decide +kernel) fun t _ y => ?_
  blk_simp
  rw [after1_2]
  unfold outsAt1
  frame_out
  pointwise [k1_pay1, dw]
  refine (Finset.sum_congr rfl fun k _ => mul_comm (_ : EReal) _).trans ?_
  blk_point [iblk1, idx1 t]

theorem idx2 : ∀ t : Fin cfg2.N, win2_0.index t = ![t.val / 2, 0] ∧ win2_1.index t = ![t.val % 2, 0]
    ∧ win2_2.index t = ![t.val / 2, t.val % 2] := (by decide +kernel : ∀ t : Fin grid2.N, _)

theorem final2 : (dat2 V c).arrAt 2 cfg2.N = dx (V c main_arg3) (V c main_arg1) := by
  refine (dat2 V c).arrAt_eq_of_covers 2 _ (by decide +kernel) fun t _ y => ?_
  blk_simp
  rw [after2_2]
  unfold outsAt2
  frame_out
  pointwise [k2_pay1, dx]
  blk_point [iblk2, idx2 t]

end Calls

variable (m : (ℓ : Loc nD τ sig) → Buf (Elt Ideal) ℓ) (ρ : Dev nD → PrngReg) (c : Dev nD)

theorem ends : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Ends.ends (pcfgs (F := Ideal)) adm (pdats m ρ) cellOf_inj defs₀ 𝒱₀ m ρ main (segs m ρ) (main_run m ρ)
    (by simp only [segs, Pipeline.Seg.pipes_host, Pipeline.Seg.pipes_region, Pipeline.Seg.pipes_nil]; decide)
    (W3 m ρ) ⟨fun _ => .rfl, fun _ => .rfl, fun _ => .rfl, fun _ => .rfl⟩

theorem v0_end : W3 m ρ c (Proc.devRef .tc main_v0)
    = fwd (m ((c : Thread nD τ).loc main_arg0)) (m ((c : Thread nD τ).loc main_arg1)) (m ((c : Thread nD τ).loc main_arg2)) :=
  (W3_of m ρ c main_v0 (by decide)).trans ((W2_of m ρ c main_v0 (by decide)).trans ((W1_arr m ρ c 3).trans (final0 (V0 m ρ) c)))
theorem v1_end : W3 m ρ c (Proc.devRef .tc main_v1) = dw (m ((c : Thread nD τ).loc main_arg0)) (m ((c : Thread nD τ).loc main_arg3)) :=
  (W3_of m ρ c main_v1 (by decide)).trans ((W2_arr m ρ c 2).trans ((final1 (V1 m ρ) c).trans
    (congrArg₂ dw (W1_args m ρ c main_arg0 (by decide)) (W1_args m ρ c main_arg3 (by decide)))))
theorem v2_end : W3 m ρ c (Proc.devRef .tc main_v2) = dx (m ((c : Thread nD τ).loc main_arg3)) (m ((c : Thread nD τ).loc main_arg1)) :=
  (W3_arr m ρ c 2).trans ((final2 (V2 m ρ) c).trans
    (congrArg₂ dx (W2_args m ρ c main_arg3 (by decide)) (W2_args m ρ c main_arg1 (by decide))))

end Cert.OutProj

end
-- ==== Proof.NormBwd.lean ====
/- The backward pass of the norm with the residual's gradient added: sixteen tiles of rows, the gradient of the gain
   added up over them. -/
module

public import proofs.«01_k».proof.Proof.Gen.Kernel9Ideal.Value
public import proofs.«01_k».proof.Proof.Gen.Reference9Ideal.Run
public import Idealize.ShloMosaic.Lib.Pipeline.ValueKit

@[expose] public section

set_option maxRecDepth 16384

noncomputable section

namespace Cert.NormBwd

open Cert.Kernel9Ideal Cert.Kernel9Ideal.Gen Idealize.ShloMosaic Idealize.ShloMosaic.TcCoe Idealize.SL.Sem
open Cert.Reference9Ideal (S_ S4096 S4096x1)
open Cert.Reference9Ideal.Gen (bcast_S4096_S4096x1_0 bcast_S_S4096x1 bcast_S4096x1_S4096x2048_0_1 bcast_S1x2048_S4096x2048_0_1
  bcast_S4096_S4096x2048_0 reducesTo_S4096x2048_S4096_d1 reducesTo_S4096x2048_S2048_d0 reducesTo_S4096x1_S4096_d1
  shapeCasts_S4096_S4096x1 h_S_)

/-- The mean of a row's squares, and the norm's epsilon. -/
abbrev square (x : FVec Ideal S4096x2048 .f32) : FVec Ideal S4096x1 .f32 :=
  addf (Host.divf (broadcastInDim S4096x1 ![0] bcast_S4096_S4096x1_0
      (Host.reduceAdd (mulf x x) (constant S_ .f32 0x00000000#32) reducesTo_S4096x2048_S4096_d1 h_S_))
    (broadcastInDim S4096x1 ![] bcast_S_S4096x1 (constant S_ .f32 0x45000000#32)))
    (broadcastInDim S4096x1 ![] bcast_S_S4096x1 (constant S_ .f32 0x358637BD#32))
/-- A number per row along the row. -/
abbrev along (r : FVec Ideal S4096x1 .f32) : FVec Ideal S4096x2048 .f32 :=
  broadcastInDim S4096x2048 ![0, 1] bcast_S4096x1_S4096x2048_0_1 r
/-- The gradient before the gain. -/
abbrev scaled (g : FVec Ideal S1x2048 .f32) (d : FVec Ideal S4096x2048 .f32) : FVec Ideal S4096x2048 .f32 :=
  mulf d (broadcastInDim S4096x2048 ![0, 1] bcast_S1x2048_S4096x2048_0_1 g)
/-- What the gradient of the mean of squares multiplies a row by. -/
abbrev weight (x : FVec Ideal S4096x2048 .f32) (g : FVec Ideal S1x2048 .f32) (d : FVec Ideal S4096x2048 .f32) : FVec Ideal S4096x2048 .f32 :=
  broadcastInDim S4096x2048 ![0] bcast_S4096_S4096x2048_0 (Host.reduceAdd (Host.divf (mulf
      (shapeCast _ (Host.reduceAdd (mulf x (scaled g d)) (constant S_ .f32 0x00000000#32) reducesTo_S4096x2048_S4096_d1 h_S_) shapeCasts_S4096_S4096x1)
      (mulf (broadcastInDim S4096x1 ![] bcast_S_S4096x1 (constant S_ .f32 0xBF000000#32)) (Host.divf (Host.rsqrt (square x)) (square x))))
    (broadcastInDim S4096x1 ![] bcast_S_S4096x1 (constant S_ .f32 0x45000000#32))) (constant S_ .f32 0x00000000#32) reducesTo_S4096x1_S4096_d1 h_S_)

/-- The gradient of the input, and the gradient `e` that comes along the residual. -/
abbrev dx (x : FVec Ideal S4096x2048 .f32) (g : FVec Ideal S1x2048 .f32) (d e : FVec Ideal S4096x2048 .f32) : FVec Ideal S4096x2048 .f32 :=
  addf (addf (addf (mulf (scaled g d) (along (Host.rsqrt (square x)))) (mulf x (weight x g d))) (mulf (weight x g d) x)) e
/-- The gradient of the gain. -/
abbrev dg (x d : FVec Ideal S4096x2048 .f32) : FVec Ideal S1x2048 .f32 :=
  shapeCast _ (Host.reduceAdd (mulf (mulf x (along (Host.rsqrt (square x)))) d) (constant S_ .f32 0x00000000#32)
    reducesTo_S4096x2048_S2048_d0 h_S_) Cert.Reference9Ideal.Gen.shapeCasts_S2048_S1x2048

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- The first two outputs' blocks at a point. -/
theorem out_dx (t : Fin cfg0.N) : (outsAt0 m c t.val t.isLt).1 = k0_pay5 (iblk m c 0 t) (iblk m c 1 t) (iblk m c 2 t) (iblk m c 3 t)
    ∧ (outsAt0 m c t.val t.isLt).2.1 = k0_pay6 (iblk m c 0 t) (iblk m c 1 t) (iblk m c 2 t) (iblk m c 3 t) := by
  by_cases h : t.val % 16 = 0
  · rw [outsAt0_A m c t h (by have := lt_of_lt_of_eq t.isLt N_0; omega)]; frame_out
    exact ⟨trivial, trivial⟩
  · rw [outsAt0_B m c t h (by omega)]; frame_out
    exact ⟨trivial, trivial⟩

theorem dg_first (t : Fin cfg0.N) (h : t.val % 16 = 0) (j : S1x2048.Idx) :
    ((outsAt0 m c t.val t.isLt).2.2 j : EReal) = 0 + k0_pay4 (iblk m c 0 t) (iblk m c 1 t) j := by
  rw [outsAt0_A m c t h (by have := lt_of_lt_of_eq t.isLt N_0; omega)]; frame_out
  exact (zero_add _).symm

theorem dg_next (t : Fin cfg0.N) (h : ¬ t.val % 16 = 0) (j : S1x2048.Idx) :
    ((outsAt0 m c t.val t.isLt).2.2 j : EReal)
      = (outsAt0 m c (t.val - 1) (Nat.lt_of_le_of_lt (Nat.sub_le _ _) t.isLt)).2.2 j + k0_pay4 (iblk m c 0 t) (iblk m c 1 t) j := by
  rw [outsAt0_B m c t h (by omega)]; frame_out
  exact congrArg (· + _) (congrFun (shapeCast_self _ _) j)

/-- The gradient of the input. -/
theorem final4 : (dats m 0 c).arrAt 4 cfg0.N = dx (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t _ y => ?_
  blk_simp
  rw [after0_4, (out_dx m c t).1]
  pointwise [k0_pay5, k0_pay3, k0_pay2, dx, weight, scaled, along, square]
  blk_point [iblk, V, idx t]

/-- The same, rounded. -/
theorem final5 : (dats m 0 c).arrAt 5 cfg0.N = truncf .bf16 (dx (m ((c : Thread nD τ).loc main_arg0)) (m ((c : Thread nD τ).loc main_arg1))
    (m ((c : Thread nD τ).loc main_arg2)) (m ((c : Thread nD τ).loc main_arg3))) Cert.Reference9Ideal.Gen.bitsLt_bf16_f32 := by
  refine (dats m 0 c).arrAt_eq_of_covers 5 _ (by decide +kernel) fun t _ y => ?_
  blk_simp
  rw [after0_5, (out_dx m c t).2]
  pointwise [k0_pay6, k0_pay5, k0_pay3, k0_pay2, dx, weight, scaled, along, square]
  blk_point [iblk, V, idx t]

/-- The gradient of the gain. -/
theorem final6 : (dats m 0 c).arrAt 6 cfg0.N = dg (m ((c : Thread nD τ).loc main_arg0)) (m ((c : Thread nD τ).loc main_arg2)) := by
  refine (dats m 0 c).arrAt_eq_of_after_last 6 t0_15 (by decide +kernel) _ fun j => ?_
  blk_simp
  rw [after0_6]
  refine (Pipeline.eq_sum_fin_of_reset_step_apply_last (fun n h => (outsAt0 m c n h).2.2) 16 (fun _ => (0 : EReal)) _ (dg_first m c) (dg_next m c)
    (le_of_eq N_0) t0_15 rfl j).trans ?_
  rw [zero_add]
  pointwise [k0_pay4, k0_pay3, k0_pay2, dg, along, square]
  refine Fin.sum_mul_add_congr fun s k hl => ?_
  blk_point [iblk, V, idx s]

end Cert.NormBwd

end
-- ==== Proof.LossHead.lean ====
/- The loss and its gradients: sixteen tiles of rows, the gradient of the gain and the loss added up over them. -/
module

public import proofs.«01_k».proof.Proof.Gen.Kernel10Ideal.Value
public import proofs.«01_k».proof.Proof.Gen.Reference10Ideal.Run
public import proofs.«01_k».proof.Proof.NormBwd

@[expose] public section

set_option maxRecDepth 16384

noncomputable section

namespace Cert.LossHead

open Cert.Kernel10Ideal Cert.Kernel10Ideal.Gen Idealize.ShloMosaic Idealize.ShloMosaic.TcCoe Idealize.SL.Sem
open Cert.Reference10Ideal (S_ S4096 S4096x1)
open Cert.Reference10Ideal.Gen (bcast_S_S4096 bcast_S_S4096x2048 bcast_S4096_S4096x2048_0 bcast_S1x2048_S4096x2048_0_1 bcast_S_S8x128
  reducesTo_S4096x2048_S4096_d1 reducesTo_S4096_S_d0 h_S_)
open Cert.NormBwd (square along scaled weight)

/-- The norm's result less the target. -/
abbrev err (x t : FVec Ideal S4096x2048 .f32) (g : FVec Ideal S1x2048 .f32) : FVec Ideal S4096x2048 .f32 :=
  subf (mulf (mulf x (along (Host.rsqrt (square x)))) (broadcastInDim S4096x2048 ![0, 1] bcast_S1x2048_S4096x2048_0_1 g)) t
/-- The gradient of the norm's result. -/
abbrev dy (x t : FVec Ideal S4096x2048 .f32) (g : FVec Ideal S1x2048 .f32) : FVec Ideal S4096x2048 .f32 :=
  mulf (broadcastInDim S4096x2048 ![0] bcast_S4096_S4096x2048_0 (Host.divf
      (broadcastInDim S4096 ![] bcast_S_S4096 (mulf (constant S_ .f32 0x3F000000#32) (constant S_ .f32 0x3F800000#32)))
      (broadcastInDim S4096 ![] bcast_S_S4096 (constant S_ .f32 0x45000000#32))))
    (mulf (broadcastInDim S4096x2048 ![] bcast_S_S4096x2048 (constant S_ .f32 0x40000000#32)) (err x t g))
/-- The gradient of the input. -/
abbrev dx (x t : FVec Ideal S4096x2048 .f32) (g : FVec Ideal S1x2048 .f32) : FVec Ideal S4096x2048 .f32 :=
  addf (addf (mulf (scaled g (dy x t g)) (along (Host.rsqrt (square x)))) (mulf x (weight x g (dy x t g)))) (mulf (weight x g (dy x t g)) x)
/-- The loss, in every entry of a small array. -/
abbrev loss (x t : FVec Ideal S4096x2048 .f32) (g : FVec Ideal S1x2048 .f32) : FVec Ideal S8x128 .f32 :=
  broadcastInDim S8x128 ![] bcast_S_S8x128 (mulf (constant S_ .f32 0x3F000000#32) (Host.reduceAdd (Host.divf
      (Host.reduceAdd (mulf (err x t g) (err x t g)) (constant S_ .f32 0x00000000#32) reducesTo_S4096x2048_S4096_d1 h_S_)
      (broadcastInDim S4096 ![] bcast_S_S4096 (constant S_ .f32 0x45000000#32)))
    (constant S_ .f32 0x00000000#32) reducesTo_S4096_S_d0 h_S_))

theorem half_eq : Ideal.ofBits .f32 0x3F000000#32 = (((1 : ℝ) / 2 : ℝ) : EReal) := by
  simp [Ideal.ofBits, Ideal.ieee, -EReal.coe_mul]; norm_num

/-- A half of a sum is the sum of the halves. -/
theorem half_sum {ι : Type} [Fintype ι] (f : ι → EReal) :
    Ideal.ofBits .f32 0x3F000000#32 * ∑ i, f i = ∑ i, Ideal.ofBits .f32 0x3F000000#32 * f i := by
  classical
  rw [half_eq]
  induction (Finset.univ : Finset ι) using Finset.induction_on with
  | empty => simp
  | insert a s h ih =>
    rw [Finset.sum_insert h, Finset.sum_insert h,
      EReal.left_distrib_of_nonneg_of_ne_top (by exact_mod_cast (by norm_num : (0 : ℝ) ≤ 1 / 2)) (EReal.coe_ne_top _), ih]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] :=
  (by decide +kernel : ∀ t : Fin grid0.N, _)

/-- A tile's gradient of the input. -/
abbrev tileDx (x t : Vec Ideal S256x2048 .f32) (g : Vec Ideal S1x2048 .f32) : FVec Ideal S256x2048 .f32 :=
  k0_pay3 x g (k0_pay9 x) (k0_pay10 x) (k0_pay13 x t g) k0_pay15 (Scalar.ofBits .f32 0x45000000#32)
/-- A tile's part of the gain's gradient. -/
abbrev tileDg (x t : Vec Ideal S256x2048 .f32) (g : Vec Ideal S1x2048 .f32) : FVec Ideal S1x2048 .f32 :=
  k0_pay2 (k0_pay11 x) (k0_pay13 x t g) k0_pay15 (Scalar.ofBits .f32 0x45000000#32)

/-- The first two outputs' blocks at a point. -/
theorem out_dx (t : Fin cfg0.N) : (outsAt0 m c t.val t.isLt).1 = tileDx (iblk m c 0 t) (iblk m c 1 t) (iblk m c 2 t)
    ∧ (outsAt0 m c t.val t.isLt).2.1 = truncf .bf16 (tileDx (iblk m c 0 t) (iblk m c 1 t) (iblk m c 2 t)) bitsLt_bf16_f32 := by
  by_cases h : t.val % 16 = 0
  · rw [outsAt0_A m c t h (by have := lt_of_lt_of_eq t.isLt N_0; omega)]; frame_out
    exact ⟨trivial, rfl⟩
  · rw [outsAt0_B m c t h (by omega)]; frame_out
    exact ⟨trivial, rfl⟩

theorem dg_first (t : Fin cfg0.N) (h : t.val % 16 = 0) (j : S1x2048.Idx) :
    ((outsAt0 m c t.val t.isLt).2.2.1 j : EReal) = 0 + tileDg (iblk m c 0 t) (iblk m c 1 t) (iblk m c 2 t) j := by
  rw [outsAt0_A m c t h (by have := lt_of_lt_of_eq t.isLt N_0; omega)]; frame_out
  exact (zero_add _).symm

theorem dg_next (t : Fin cfg0.N) (h : ¬ t.val % 16 = 0) (j : S1x2048.Idx) :
    ((outsAt0 m c t.val t.isLt).2.2.1 j : EReal)
      = (outsAt0 m c (t.val - 1) (Nat.lt_of_le_of_lt (Nat.sub_le _ _) t.isLt)).2.2.1 j
        + tileDg (iblk m c 0 t) (iblk m c 1 t) (iblk m c 2 t) j := by
  rw [outsAt0_B m c t h (by omega)]; frame_out
  exact congrArg (· + _) (congrFun (shapeCast_self _ _) j)

theorem loss_first (t : Fin cfg0.N) (h : t.val % 16 = 0) (j : S8x128.Idx) :
    ((outsAt0 m c t.val t.isLt).2.2.2 j : EReal) = 0 + k0_pay4 (k0_pay14 (iblk m c 0 t) (iblk m c 1 t) (iblk m c 2 t)) j := by
  rw [outsAt0_A m c t h (by have := lt_of_lt_of_eq t.isLt N_0; omega)]; frame_out
  exact (zero_add _).symm

theorem loss_next (t : Fin cfg0.N) (h : ¬ t.val % 16 = 0) (j : S8x128.Idx) :
    ((outsAt0 m c t.val t.isLt).2.2.2 j : EReal)
      = (outsAt0 m c (t.val - 1) (Nat.lt_of_le_of_lt (Nat.sub_le _ _) t.isLt)).2.2.2 j
        + k0_pay4 (k0_pay14 (iblk m c 0 t) (iblk m c 1 t) (iblk m c 2 t)) j := by
  rw [outsAt0_B m c t h (by omega)]; frame_out
  exact congrArg (· + _) (congrFun (shapeCast_self _ _) j)

/-- The gradient of the input. -/
theorem final3 : (dats m 0 c).arrAt 3 cfg0.N
    = dx (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, (out_dx m c t).1]
  pointwise [tileDx, k0_pay1, k0_pay3, k0_pay8, k0_pay9, k0_pay10, k0_pay11, k0_pay12, k0_pay13, k0_pay15, dx, weight, scaled, along, square, dy, err]
  simp only [Fin.sum_univ_one]
  blk_point [iblk, V, idx t]

/-- The same, rounded. -/
theorem final4 : (dats m 0 c).arrAt 4 cfg0.N
    = truncf .bf16 (dx (m ((c : Thread nD τ).loc main_arg0)) (m ((c : Thread nD τ).loc main_arg1)) (m ((c : Thread nD τ).loc main_arg2)))
        Cert.Reference10Ideal.Gen.bitsLt_bf16_f32 := by
  refine (dats m 0 c).arrAt_eq_of_covers 4 _ (by decide +kernel) fun t _ y => ?_
  blk_simp
  rw [after0_4, (out_dx m c t).2]
  pointwise [tileDx, k0_pay1, k0_pay3, k0_pay8, k0_pay9, k0_pay10, k0_pay11, k0_pay12, k0_pay13, k0_pay15, dx, weight, scaled, along, square, dy, err]
  simp only [Fin.sum_univ_one]
  blk_point [iblk, V, idx t]

/-- The gradient of the gain. -/
theorem final5 : (dats m 0 c).arrAt 5 cfg0.N = Cert.NormBwd.dg (m ((c : Thread nD τ).loc main_arg0))
    (dy (m ((c : Thread nD τ).loc main_arg0)) (m ((c : Thread nD τ).loc main_arg1)) (m ((c : Thread nD τ).loc main_arg2))) := by
  refine (dats m 0 c).arrAt_eq_of_after_last 5 t0_15 (by decide +kernel) _ fun j => ?_
  blk_simp
  rw [after0_5]
  refine (Pipeline.eq_sum_fin_of_reset_step_apply_last (fun n h => (outsAt0 m c n h).2.2.1) 16 (fun _ => (0 : EReal)) _ (dg_first m c) (dg_next m c)
    (le_of_eq N_0) t0_15 rfl j).trans ?_
  rw [zero_add]
  pointwise [tileDg, k0_pay1, k0_pay2, k0_pay8, k0_pay9, k0_pay11, k0_pay12, k0_pay13, k0_pay15, Cert.NormBwd.dg, along, square, dy, err]
  simp only [Fin.sum_univ_one]
  refine Fin.sum_mul_add_congr fun s k hl => ?_
  blk_point [iblk, V, idx s]

/-- The loss. -/
theorem final6 : (dats m 0 c).arrAt 6 cfg0.N
    = loss (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6]
  refine (Pipeline.eq_sum_fin_of_reset_step_apply_last (fun n h => (outsAt0 m c n h).2.2.2) 16 (fun _ => (0 : EReal)) _ (loss_first m c) (loss_next m c)
    (le_of_eq N_0) t0_15 rfl j).trans ?_
  rw [zero_add]
  pointwise [k0_pay4, k0_pay8, k0_pay9, k0_pay11, k0_pay12, k0_pay14, loss, along, square, err]
  rw [← half_sum]
  refine congrArg _ (Fin.sum_mul_add_congr fun s k hl => ?_)
  blk_point [iblk, V, idx s]

end Cert.LossHead

end
-- ==== Proof.XFwd.lean ====
/- The cross-attention's forward calls — the two norms, the projections, the attention and the output's projection with
   the residual: each result array is the reference's term of the call's operands. -/
module

public import proofs.«01_k».proof.Proof.Gen.Kernel11Ideal.Frame
public import proofs.«01_k».proof.Proof.Gen.Reference11Ideal.Run
public import proofs.«01_k».proof.Proof.Ends
public import proofs.«01_k».proof.Proof.NormBwd
public import proofs.«01_k».proof.Proof.RefValue
public import Idealize.ShloMosaic.Lib.Pipeline.ValueKit

@[expose] public section

set_option maxRecDepth 16384

noncomputable section

namespace Cert.XFwd

open Cert.Kernel11Ideal Cert.Kernel11Ideal.Gen Idealize.ShloMosaic Idealize.ShloMosaic.TcCoe Idealize.SL.Sem Idealize.ShloMosaic.Pointwise
open Cert.Reference11Ideal (S_ S1x4096x4x512 dot_S4096x2048_S2048x2048_S4096x2048_1_0_0_1_n_n dot_S256x2048_S2048x2048_S256x2048_1_0_0_1_n_n
  dot_S1x256x4x512_S1x4x4096x256_S1x4x512x4096_1_3_3_2_02_01)
open Cert.Reference11Ideal.Gen (bcast_S256_S256x1_0 bcast_S_S256x1 bcast_S256x1_S256x2048_0_1 bcast_S1x2048_S256x2048_0_1
  bcast_S1x2048_S4096x2048_0_1 reducesTo_S256x2048_S256_d1 h_S_ transposes_S1x4x512x4096_S1x4096x4x512_0_3_1_2
  shapeCasts_S1x4096x4x512_S4096x2048)
open Cert.Spec (cur hd ps hcol_hd_ps score)

/-- A bf16 array at the wider format: over the reals the same numbers. -/
abbrev wide {S : Shape} (x : FVec Ideal S .bf16) : FVec Ideal S .f32 := extf .f32 x Cert.Reference11Ideal.Gen.bitsLt_bf16_f32
/-- An array rounded to bf16: over the reals the same numbers. -/
abbrev narrow {S : Shape} (x : FVec Ideal S .f32) : FVec Ideal S .bf16 := truncf .bf16 x Cert.Kernel11Ideal.Gen.bitsLt_bf16_f32

/-- The norm of all rows. -/
abbrev normLong (x : FVec Ideal S4096x2048 .f32) (g : FVec Ideal S1x2048 .f32) : FVec Ideal S4096x2048 .f32 :=
  mulf (mulf x (NormBwd.along (Host.rsqrt (NormBwd.square x)))) (broadcastInDim S4096x2048 ![0, 1] bcast_S1x2048_S4096x2048_0_1 g)
/-- The norm of the memory's rows. -/
abbrev normShort (x : FVec Ideal S256x2048 .f32) (g : FVec Ideal S1x2048 .f32) : FVec Ideal S256x2048 .f32 :=
  mulf (mulf x (broadcastInDim S256x2048 ![0, 1] bcast_S256x1_S256x2048_0_1 (Host.rsqrt (addf (Host.divf
      (broadcastInDim S256x1 ![0] bcast_S256_S256x1_0 (Host.reduceAdd (mulf x x) (constant S_ .f32 0x00000000#32) reducesTo_S256x2048_S256_d1 h_S_))
      (broadcastInDim S256x1 ![] bcast_S_S256x1 (constant S_ .f32 0x45000000#32)))
    (broadcastInDim S256x1 ![] bcast_S_S256x1 (constant S_ .f32 0x358637BD#32))))))
    (broadcastInDim S256x2048 ![0, 1] bcast_S1x2048_S256x2048_0_1 g)
/-- A product of all rows. -/
abbrev long (h : FVec Ideal S4096x2048 .f32) (w : FVec Ideal S2048x2048 .bf16) : FVec Ideal S4096x2048 .f32 :=
  Host.dotGeneral (F := Ideal) dot_S4096x2048_S2048x2048_S4096x2048_1_0_0_1_n_n none h (wide w)
/-- A product of the memory's rows. -/
abbrev short (h : FVec Ideal S256x2048 .f32) (w : FVec Ideal S2048x2048 .bf16) : FVec Ideal S256x2048 .f32 :=
  Host.dotGeneral (F := Ideal) dot_S256x2048_S2048x2048_S256x2048_1_0_0_1_n_n none h (wide w)
/-- The attention of queries, keys and values. -/
abbrev core (q : FVec Ideal S4096x2048 .f32) (k v : FVec Ideal S256x2048 .f32) : FVec Ideal S4096x2048 .f32 :=
  shapeCast _ (transpose S1x4096x4x512 [0, 3, 1, 2] (Host.dotGeneral (F := Ideal) dot_S1x256x4x512_S1x4x4096x256_S1x4x512x4096_1_3_3_2_02_01 none
    (RefValue.small v) (RefValue.probs (RefValue.scores q k))) transposes_S1x4x512x4096_S1x4096x4x512_0_3_1_2) shapeCasts_S1x4096x4x512_S4096x2048

/-- An entry of the attention: the row's probabilities against the values' column. -/
theorem core_at (q : FVec Ideal S4096x2048 .f32) (k v : FVec Ideal S256x2048 .f32) (R : Fin 4096) (e : Fin 2048) :
    core q k v (ix2 R e) = ∑ j, Row.prob (score (cur q R) (cur k) (hd e)) j * cur v j e := by
  pointwise [core]
  refine Finset.sum_congr rfl fun j _ => ?_
  show RefValue.small v (ix4 0 j (hd e) (ps e)) * RefValue.probs (RefValue.scores q k) (ix4 0 (hd e) R j) = _
  rw [RefValue.small_at, RefValue.probs_at, RefValue.scores_row, hcol_hd_ps, mul_comm]
  rfl

/-- The four heads' columns side by side. -/
def side (x0 x1 x2 x3 : FVec Ideal S256x512 .f32) : FVec Ideal S256x2048 .f32 :=
  concatenate S256x2048 1 [⟨S256x512, x0⟩, ⟨S256x512, x1⟩, ⟨S256x512, x2⟩, ⟨S256x512, x3⟩] concatenates_S256x512_S256x512_S256x512_S256x512_S256x2048_d1
theorem side_at (X : Fin 4 → FVec Ideal S256x512 .f32) (h : Fin 4) (r : Fin 256) (e : Fin 512) :
    side (X 0) (X 1) (X 2) (X 3) (ix2 r (Read.hcol h e)) = X h (ix2 r e) := by
  have he := e.isLt
  fin_cases h <;> pointwise [side, Read.hcol] <;> split_ifs <;> first | omega | (blk_ext)
/-- One head's tile of the attention. -/
def head (sl : FVec Ideal S256x2048 .f32 → FVec Ideal S256x512 .f32) (q k v : FVec Ideal S256x2048 .f32) : FVec Ideal S256x512 .f32 :=
  Tile.nDot (Tile.probs (Tile.sc (sl q) (sl k))) (sl v)

theorem tile_eq (q k v : FVec Ideal S256x2048 .f32) :
    k5_pay7 (k5_pay1 q) (k5_pay2 k) (k5_pay3 v) (k5_pay4 q k v) (k5_pay5 v) (k5_pay6 q k)
      = narrow (side (head Tile.sl0 q k v) (head Tile.sl1 q k v) (head Tile.sl2 q k v) (head Tile.sl3 q k v)) := by
  simp only [k5_pay4, k5_pay5, k5_pay6, k5_pay1, k5_pay2, k5_pay3, shapeCast_self]
  rfl
theorem tile_at (q k v : FVec Ideal S256x2048 .f32) (r : Fin 256) (e : Fin 2048) :
    (k5_pay7 (k5_pay1 q) (k5_pay2 k) (k5_pay3 v) (k5_pay4 q k v) (k5_pay5 v) (k5_pay6 q k) : FVec Ideal S256x2048 .bf16) (ix2 r e)
      = ∑ j, Row.prob (score (cur q r) (cur k) (hd e)) j * cur v j e := by
  rw [tile_eq]
  have h : narrow (side (head Tile.sl0 q k v) (head Tile.sl1 q k v) (head Tile.sl2 q k v) (head Tile.sl3 q k v)) (ix2 r e)
      = side (head (Read.sl 0) q k v) (head (Read.sl 1) q k v) (head (Read.sl 2) q k v) (head (Read.sl 3) q k v) (ix2 r (Read.hcol (hd e) (ps e))) := by
    rw [hcol_hd_ps]; rfl
  rw [h, side_at (fun h => head (Read.sl h) q k v)]
  unfold head
  rw [Read.nDot_at]
  simp only [Spec.probs_row, Read.sl_at, hcol_hd_ps]
  rfl

section Calls
variable (V : (c : Dev nD) → (b : Ref sig .tc) → Buf (Elt Ideal) ((c : Thread nD τ).loc b)) (c : Dev nD)

theorem idx0 : ∀ t : Fin cfg0.N, win0_0.index t = ![t.val, 0] ∧ win0_1.index t = ![0, 0] ∧ win0_2.index t = ![t.val, 0] :=
  (by decide +kernel : ∀ t : Fin grid0.N, _)

theorem final0 : (dat0 V c).arrAt 2 cfg0.N = narrow (normLong (V c main_arg0) (V c main_arg1)) := by
  refine (dat0 V c).arrAt_eq_of_covers 2 _ (by decide +kernel) fun t _ y => ?_
  blk_simp
  rw [after0_2]; frame_out
  pointwise [k0_pay1, narrow, normLong, NormBwd.along, NormBwd.square]
  blk_point [iblk0, idx0 t]

theorem idx1 : ∀ t : Fin cfg1.N, win1_0.index t = ![0, 0] ∧ win1_1.index t = ![0, 0] ∧ win1_2.index t = ![0, 0] :=
  (by decide +kernel : ∀ t : Fin grid1.N, _)

theorem final1 : (dat1 V c).arrAt 2 cfg1.N = narrow (normShort (V c main_arg2) (V c main_arg3)) := by
  refine (dat1 V c).arrAt_eq_of_covers 2 _ (by decide +kernel) fun t _ y => ?_
  blk_simp
  rw [after1_2]; frame_out
  pointwise [k1_pay1, narrow, normShort]
  blk_point [iblk1, idx1 t]

theorem idx2 : ∀ t : Fin cfg2.N, win2_0.index t = ![t.val / 2, 0] ∧ win2_1.index t = ![0, t.val % 2] ∧ win2_2.index t = ![t.val / 2, t.val % 2] :=
  (by decide +kernel : ∀ t : Fin grid2.N, _)

theorem final2 : (dat2 V c).arrAt 2 cfg2.N = long (wide (V c main_v0)) (V c main_arg4) := by
  refine (dat2 V c).arrAt_eq_of_covers 2 _ (by decide +kernel) fun t _ y => ?_
  blk_simp
  rw [after2_2]; unfold outsAt2; frame_out
  pointwise [k2_pay1, long, wide]
  blk_point [iblk2, idx2 t]

theorem idx3 : ∀ t : Fin cfg3.N, win3_0.index t = ![0, 0] ∧ win3_1.index t = ![0, t.val] ∧ win3_2.index t = ![0, t.val] :=
  (by decide +kernel : ∀ t : Fin grid3.N, _)

theorem final3 : (dat3 V c).arrAt 2 cfg3.N = short (wide (V c main_v1)) (V c main_arg5) := by
  refine (dat3 V c).arrAt_eq_of_covers 2 _ (by decide +kernel) fun t _ y => ?_
  blk_simp
  rw [after3_2]; unfold outsAt3; frame_out
  pointwise [k3_pay1, short, wide]
  blk_point [iblk3, idx3 t]

theorem idx4 : ∀ t : Fin cfg4.N, win4_0.index t = ![0, 0] ∧ win4_1.index t = ![0, t.val] ∧ win4_2.index t = ![0, t.val] :=
  (by decide +kernel : ∀ t : Fin grid4.N, _)

theorem final4 : (dat4 V c).arrAt 2 cfg4.N = short (wide (V c main_v1)) (V c main_arg6) := by
  refine (dat4 V c).arrAt_eq_of_covers 2 _ (by decide +kernel) fun t _ y => ?_
  blk_simp
  rw [after4_2]; unfold outsAt4; frame_out
  pointwise [k4_pay1, short, wide]
  blk_point [iblk4, idx4 t]

theorem idx5 : ∀ t : Fin cfg5.N, win5_0.index t = ![t.val, 0] ∧ win5_1.index t = ![0, 0] ∧ win5_2.index t = ![0, 0] ∧ win5_3.index t = ![t.val, 0] :=
  (by decide +kernel : ∀ t : Fin grid5.N, _)

theorem final5 : (dat5 V c).arrAt 3 cfg5.N = narrow (core (V c main_v2) (V c main_v3) (V c main_v4)) := by
  refine (dat5 V c).arrAt_eq_of_covers 3 _ (by decide +kernel) fun t _ y => ?_
  blk_simp
  rw [after5_3]; frame_out
  have ht : t.val < 16 := lt_of_lt_of_eq t.isLt N_5
  have h0 : (y 0).val < 256 := (y 0).isLt
  have hy : y = ix2 (⟨(y 0).val, h0⟩ : Fin 256) (⟨(y 1).val, (y 1).isLt⟩ : Fin 2048) := by blk_ext
  have hz : ((View.whole main_v5).slice (win5_3.rect t)).emb y
      = ix2 (⟨t.val * 256 + (y 0).val, by omega⟩ : Fin 4096) (⟨(y 1).val, (y 1).isLt⟩ : Fin 2048) := by blk_ext [idx5 t]
  have hq : cur (iblk5 V c 0 t : FVec Ideal S256x2048 .f32) (⟨(y 0).val, h0⟩ : Fin 256)
      = cur (V c main_v2 : FVec Ideal S4096x2048 .f32) (⟨t.val * 256 + (y 0).val, by omega⟩ : Fin 4096) := by
    funext e; unfold cur; blk_point [iblk5, idx5 t]
  have hk : (iblk5 V c 1 t : FVec Ideal S256x2048 .f32) = V c main_v3 := by funext j; blk_point [iblk5, idx5 t]
  have hv : (iblk5 V c 2 t : FVec Ideal S256x2048 .f32) = V c main_v4 := by funext j; blk_point [iblk5, idx5 t]
  rw [hz]
  refine (congrArg _ hy).trans ((tile_at _ _ _ _ _).trans (Eq.trans ?_ (core_at _ _ _ _ _).symm))
  rw [hq, hk, hv]

theorem idx6 : ∀ t : Fin cfg6.N, win6_0.index t = ![t.val / 2, 0] ∧ win6_1.index t = ![0, t.val % 2] ∧ win6_2.index t = ![t.val / 2, t.val % 2]
    ∧ win6_3.index t = ![t.val / 2, t.val % 2] := (by decide +kernel : ∀ t : Fin grid6.N, _)

theorem final6 : (dat6 V c).arrAt 3 cfg6.N = addf (V c main_arg0) (long (wide (V c main_v5)) (V c main_arg7)) := by
  refine (dat6 V c).arrAt_eq_of_covers 3 _ (by decide +kernel) fun t _ y => ?_
  blk_simp
  rw [after6_3]; unfold outsAt6; frame_out
  pointwise [k6_pay1, long, wide]
  refine (add_comm (_ : EReal) _).trans ?_
  blk_point [iblk6, idx6 t]

end Calls

variable (m : (ℓ : Loc nD τ sig) → Buf (Elt Ideal) ℓ) (ρ : Dev nD → PrngReg) (c : Dev nD)

/-- The launch leaves what the last call left. -/
theorem ends : θ_run defs (onTc (τ := τ) (main (F := Ideal))) ⟨m, fun _ => 0, ρ⟩ (fun r => ∀ c : Dev nD,
      ∀ b ∈ Pipeline.ucRefs τ sig, r.2.mem (((c : Thread nD τ)).1, b) = W7 m ρ c b) :=
  Ends.ends (pcfgs (F := Ideal)) adm (pdats m ρ) cellOf_inj defs₀ 𝒱₀ m ρ main (segs m ρ) (main_run m ρ)
    (by simp only [segs, Pipeline.Seg.pipes_host, Pipeline.Seg.pipes_region, Pipeline.Seg.pipes_nil]; decide)
    (W7 m ρ) ⟨fun _ => .rfl, fun _ => .rfl, fun _ => .rfl, fun _ => .rfl, fun _ => .rfl, fun _ => .rfl, fun _ => .rfl, fun _ => .rfl⟩

/-- The norm of the rows and of the memory's rows, as the calls that read them find them. -/
abbrev hx : FVec Ideal S4096x2048 .bf16 := narrow (normLong (m ((c : Thread nD τ).loc main_arg0)) (m ((c : Thread nD τ).loc main_arg1)))
abbrev hm : FVec Ideal S256x2048 .bf16 := narrow (normShort (m ((c : Thread nD τ).loc main_arg2)) (m ((c : Thread nD τ).loc main_arg3)))
theorem v0_at2 : W2 m ρ c (Proc.devRef .tc main_v0) = hx m c :=
  (W2_of m ρ c main_v0 (by decide)).trans ((W1_arr m ρ c 2).trans (final0 (V0 m ρ) c))
theorem v1_at2 : W2 m ρ c (Proc.devRef .tc main_v1) = hm m c :=
  (W2_arr m ρ c 2).trans ((final1 (V1 m ρ) c).trans
    (congrArg₂ (fun x g => narrow (normShort x g)) (W1_args m ρ c main_arg2 (by decide)) (W1_args m ρ c main_arg3 (by decide))))
theorem v1_at3 : W3 m ρ c (Proc.devRef .tc main_v1) = hm m c := (W3_of m ρ c main_v1 (by decide)).trans (v1_at2 m ρ c)
theorem v1_at4 : W4 m ρ c (Proc.devRef .tc main_v1) = hm m c := (W4_of m ρ c main_v1 (by decide)).trans (v1_at3 m ρ c)
theorem v2_at5 : W5 m ρ c (Proc.devRef .tc main_v2) = long (wide (hx m c)) (m ((c : Thread nD τ).loc main_arg4)) :=
  (W5_of m ρ c main_v2 (by decide)).trans ((W4_of m ρ c main_v2 (by decide)).trans ((W3_arr m ρ c 2).trans ((final2 (V2 m ρ) c).trans
    (congrArg₂ (fun x w => long (wide x) w) (v0_at2 m ρ c) (W2_args m ρ c main_arg4 (by decide))))))
theorem v3_at5 : W5 m ρ c (Proc.devRef .tc main_v3) = short (wide (hm m c)) (m ((c : Thread nD τ).loc main_arg5)) :=
  (W5_of m ρ c main_v3 (by decide)).trans ((W4_arr m ρ c 2).trans ((final3 (V3 m ρ) c).trans
    (congrArg₂ (fun x w => short (wide x) w) (v1_at3 m ρ c) (W3_args m ρ c main_arg5 (by decide)))))
theorem v4_at5 : W5 m ρ c (Proc.devRef .tc main_v4) = short (wide (hm m c)) (m ((c : Thread nD τ).loc main_arg6)) :=
  (W5_arr m ρ c 2).trans ((final4 (V4 m ρ) c).trans
    (congrArg₂ (fun x w => short (wide x) w) (v1_at4 m ρ c) (W4_args m ρ c main_arg6 (by decide))))
theorem v5_at6 : W6 m ρ c (Proc.devRef .tc main_v5) = narrow (core (long (wide (hx m c)) (m ((c : Thread nD τ).loc main_arg4)))
      (short (wide (hm m c)) (m ((c : Thread nD τ).loc main_arg5))) (short (wide (hm m c)) (m ((c : Thread nD τ).loc main_arg6)))) :=
  (W6_arr m ρ c 3).trans ((final5 (V5 m ρ) c).trans
    (congrArg narrow (congr (congrArg₂ core (v2_at5 m ρ c) (v3_at5 m ρ c)) (v4_at5 m ρ c))))

/-- The reference's term: norms, projections, attention, the output's projection and the residual. -/
abbrev fwd (x : FVec Ideal S4096x2048 .f32) (g : FVec Ideal S1x2048 .f32) (y : FVec Ideal S256x2048 .f32) (gy : FVec Ideal S1x2048 .f32)
    (wq wk wv wo : FVec Ideal S2048x2048 .bf16) : FVec Ideal S4096x2048 .f32 :=
  addf x (long (core (long (normLong x g) wq) (short (normShort y gy) wk) (short (normShort y gy) wv)) wo)

theorem v6_end : W7 m ρ c (Proc.devRef .tc main_v6) = fwd (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) :=
  (W7_arr m ρ c 3).trans ((final6 (V6 m ρ) c).trans
    (congrArg₂ addf (W6_args m ρ c main_arg0 (by decide))
      (congrArg₂ (fun d w => long (wide d) w) (v5_at6 m ρ c) (W6_args m ρ c main_arg7 (by decide)))))

end Cert.XFwd

end
-- ==== Proof.XProj.lean ====
/- The eight backward projections of the cross-attention: each result array is the reference's term of the call's operands. -/
module

public import proofs.«01_k».proof.Proof.Gen.Kernel12Ideal.Frame
public import proofs.«01_k».proof.Proof.Gen.Reference12Ideal.Run
public import proofs.«01_k».proof.Proof.Ends
public import Idealize.ShloMosaic.Lib.Pipeline.ValueKit

@[expose] public section

set_option maxRecDepth 16384

noncomputable section

namespace Cert.XProj

open Cert.Kernel12Ideal Cert.Kernel12Ideal.Gen Idealize.ShloMosaic Idealize.ShloMosaic.TcCoe Idealize.SL.Sem
open Cert.Reference12Ideal (dot_S4096x2048_S4096x2048_S2048x2048_0_0_1_1_n_n dot_S4096x2048_S2048x2048_S4096x2048_1_1_0_0_n_n
  dot_S256x2048_S256x2048_S2048x2048_0_0_1_1_n_n dot_S256x2048_S2048x2048_S256x2048_1_1_0_0_n_n)
open Cert.Reference12Ideal.Gen (transposes_S2048x2048_S2048x2048_1_0)

/-- A bf16 array at the wider format: over the reals the same numbers. -/
abbrev wide {S : Shape} (x : FVec Ideal S .bf16) : FVec Ideal S .f32 := extf .f32 x Cert.Reference12Ideal.Gen.bitsLt_bf16_f32

/-- A weight's gradient over all rows: `x` transposed times `d`, as the reference has it. -/
abbrev dwLong (x d : FVec Ideal S4096x2048 .bf16) : FVec Ideal S2048x2048 .f32 :=
  transpose S2048x2048 [1, 0] (Host.dotGeneral (F := Ideal) dot_S4096x2048_S4096x2048_S2048x2048_0_0_1_1_n_n none (wide d) (wide x))
    transposes_S2048x2048_S2048x2048_1_0
/-- An operand's gradient over all rows: `d` times `w` transposed. -/
abbrev dxLong (d : FVec Ideal S4096x2048 .bf16) (w : FVec Ideal S2048x2048 .bf16) : FVec Ideal S4096x2048 .f32 :=
  Host.dotGeneral (F := Ideal) dot_S4096x2048_S2048x2048_S4096x2048_1_1_0_0_n_n none (wide d) (wide w)
/-- A weight's gradient over the memory's rows. -/
abbrev dwShort (x d : FVec Ideal S256x2048 .bf16) : FVec Ideal S2048x2048 .f32 :=
  transpose S2048x2048 [1, 0] (Host.dotGeneral (F := Ideal) dot_S256x2048_S256x2048_S2048x2048_0_0_1_1_n_n none (wide d) (wide x))
    transposes_S2048x2048_S2048x2048_1_0
/-- An operand's gradient over the memory's rows. -/
abbrev dxShort (d : FVec Ideal S256x2048 .bf16) (w : FVec Ideal S2048x2048 .bf16) : FVec Ideal S256x2048 .f32 :=
  Host.dotGeneral (F := Ideal) dot_S256x2048_S2048x2048_S256x2048_1_1_0_0_n_n none (wide d) (wide w)
/-- The same added to another array. -/
abbrev dxAdd (d : FVec Ideal S256x2048 .bf16) (w : FVec Ideal S2048x2048 .bf16) (e : FVec Ideal S256x2048 .f32) : FVec Ideal S256x2048 .f32 :=
  addf (dxShort d w) e

section Calls
variable (V : (c : Dev nD) → (b : Ref sig .tc) → Buf (Elt Ideal) ((c : Thread nD τ).loc b)) (c : Dev nD)

theorem idx0 : ∀ t : Fin cfg0.N, win0_0.index t = ![0, t.val / 2] ∧ win0_1.index t = ![0, t.val % 2] ∧ win0_2.index t = ![t.val / 2, t.val % 2] :=
  (by decide +kernel : ∀ t : Fin grid0.N, _)

theorem final0 : (dat0 V c).arrAt 2 cfg0.N = dwLong (V c main_arg0) (V c main_arg7) := by
  refine (dat0 V c).arrAt_eq_of_covers 2 _ (by decide +kernel) fun t _ y => ?_
  blk_simp
  rw [after0_2]; unfold outsAt0; frame_out
  pointwise [k0_pay1, dwLong, wide]
  refine (Finset.sum_congr rfl fun k _ => mul_comm (_ : EReal) _).trans ?_
  blk_point [iblk0, idx0 t]

theorem idx1 : ∀ t : Fin cfg1.N, win1_0.index t = ![t.val / 2, 0] ∧ win1_1.index t = ![t.val % 2, 0] ∧ win1_2.index t = ![t.val / 2, t.val % 2] :=
  (by decide +kernel : ∀ t : Fin grid1.N, _)

theorem final1 : (dat1 V c).arrAt 2 cfg1.N = dxLong (V c main_arg7) (V c main_arg6) := by
  refine (dat1 V c).arrAt_eq_of_covers 2 _ (by decide +kernel) fun t _ y => ?_
  blk_simp
  rw [after1_2]; unfold outsAt1; frame_out
  pointwise [k1_pay1, dxLong, wide]
  blk_point [iblk1, idx1 t]

theorem idx2 : ∀ t : Fin cfg2.N, win2_0.index t = ![0, t.val / 2] ∧ win2_1.index t = ![0, t.val % 2] ∧ win2_2.index t = ![t.val / 2, t.val % 2] :=
  (by decide +kernel : ∀ t : Fin grid2.N, _)

theorem final2 : (dat2 V c).arrAt 2 cfg2.N = dwLong (V c main_arg1) (V c main_arg8) := by
  refine (dat2 V c).arrAt_eq_of_covers 2 _ (by decide +kernel) fun t _ y => ?_
  blk_simp
  rw [after2_2]; unfold outsAt2; frame_out
  pointwise [k2_pay1, dwLong, wide]
  refine (Finset.sum_congr rfl fun k _ => mul_comm (_ : EReal) _).trans ?_
  blk_point [iblk2, idx2 t]

theorem idx3 : ∀ t : Fin cfg3.N, win3_0.index t = ![t.val / 2, 0] ∧ win3_1.index t = ![t.val % 2, 0] ∧ win3_2.index t = ![t.val / 2, t.val % 2] :=
  (by decide +kernel : ∀ t : Fin grid3.N, _)

theorem final3 : (dat3 V c).arrAt 2 cfg3.N = dxLong (V c main_arg8) (V c main_arg3) := by
  refine (dat3 V c).arrAt_eq_of_covers 2 _ (by decide +kernel) fun t _ y => ?_
  blk_simp
  rw [after3_2]; unfold outsAt3; frame_out
  pointwise [k3_pay1, dxLong, wide]
  blk_point [iblk3, idx3 t]

theorem idx4 : ∀ t : Fin cfg4.N, win4_0.index t = ![0, t.val / 2] ∧ win4_1.index t = ![0, t.val % 2] ∧ win4_2.index t = ![t.val / 2, t.val % 2] :=
  (by decide +kernel : ∀ t : Fin grid4.N, _)

theorem final4 : (dat4 V c).arrAt 2 cfg4.N = dwShort (V c main_arg2) (V c main_arg9) := by
  refine (dat4 V c).arrAt_eq_of_covers 2 _ (by decide +kernel) fun t _ y => ?_
  blk_simp
  rw [after4_2]; unfold outsAt4; frame_out
  pointwise [k4_pay1, dwShort, wide]
  refine (Finset.sum_congr rfl fun k _ => mul_comm (_ : EReal) _).trans ?_
  blk_point [iblk4, idx4 t]

theorem idx5 : ∀ t : Fin cfg5.N, win5_0.index t = ![0, t.val / 2] ∧ win5_1.index t = ![0, t.val % 2] ∧ win5_2.index t = ![t.val / 2, t.val % 2] :=
  (by decide +kernel : ∀ t : Fin grid5.N, _)

theorem final5 : (dat5 V c).arrAt 2 cfg5.N = dwShort (V c main_arg2) (V c main_arg10) := by
  refine (dat5 V c).arrAt_eq_of_covers 2 _ (by decide +kernel) fun t _ y => ?_
  blk_simp
  rw [after5_2]; unfold outsAt5; frame_out
  pointwise [k5_pay1, dwShort, wide]
  refine (Finset.sum_congr rfl fun k _ => mul_comm (_ : EReal) _).trans ?_
  blk_point [iblk5, idx5 t]

theorem idx6 : ∀ t : Fin cfg6.N, win6_0.index t = ![0, 0] ∧ win6_1.index t = ![t.val, 0] ∧ win6_2.index t = ![0, t.val] :=
  (by decide +kernel : ∀ t : Fin grid6.N, _)

theorem final6 : (dat6 V c).arrAt 2 cfg6.N = dxShort (V c main_arg9) (V c main_arg4) := by
  refine (dat6 V c).arrAt_eq_of_covers 2 _ (by decide +kernel) fun t _ y => ?_
  blk_simp
  rw [after6_2]; unfold outsAt6; frame_out
  pointwise [k6_pay1, dxShort, wide]
  blk_point [iblk6, idx6 t]

theorem idx7 : ∀ t : Fin cfg7.N, win7_0.index t = ![0, 0] ∧ win7_1.index t = ![t.val, 0] ∧ win7_2.index t = ![0, t.val] ∧ win7_3.index t = ![0, t.val] :=
  (by decide +kernel : ∀ t : Fin grid7.N, _)

theorem final7 : (dat7 V c).arrAt 3 cfg7.N = dxAdd (V c main_arg10) (V c main_arg5) (V c main_v6) := by
  refine (dat7 V c).arrAt_eq_of_covers 3 _ (by decide +kernel) fun t _ y => ?_
  blk_simp
  rw [after7_3]; unfold outsAt7; frame_out
  pointwise [k7_pay1, dxAdd, dxShort, wide]
  blk_point [iblk7, idx7 t]

end Calls

variable (m : (ℓ : Loc nD τ sig) → Buf (Elt Ideal) ℓ) (ρ : Dev nD → PrngReg) (c : Dev nD)

theorem ends : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Ends.ends (pcfgs (F := Ideal)) adm (pdats m ρ) cellOf_inj defs₀ 𝒱₀ m ρ main (segs m ρ) (main_run m ρ)
    (by simp only [segs, Pipeline.Seg.pipes_host, Pipeline.Seg.pipes_region, Pipeline.Seg.pipes_nil]; decide)
    (W8 m ρ) ⟨fun _ => .rfl, fun _ => .rfl, fun _ => .rfl, fun _ => .rfl, fun _ => .rfl, fun _ => .rfl, fun _ => .rfl, fun _ => .rfl, fun _ => .rfl⟩

/-- What the first call left is there at the end, and so on. -/
theorem v0_end : W8 m ρ c (Proc.devRef .tc main_v0) = dwLong (m ((c : Thread nD τ).loc main_arg0)) (m ((c : Thread nD τ).loc main_arg7)) :=
  (W8_of m ρ c main_v0 (by decide)).trans ((W7_of m ρ c main_v0 (by decide)).trans ((W6_of m ρ c main_v0 (by decide)).trans
    ((W5_of m ρ c main_v0 (by decide)).trans ((W4_of m ρ c main_v0 (by decide)).trans ((W3_of m ρ c main_v0 (by decide)).trans
    ((W2_of m ρ c main_v0 (by decide)).trans ((W1_arr m ρ c 2).trans (final0 (V0 m ρ) c))))))))
theorem v1_end : W8 m ρ c (Proc.devRef .tc main_v1) = dxLong (m ((c : Thread nD τ).loc main_arg7)) (m ((c : Thread nD τ).loc main_arg6)) :=
  (W8_of m ρ c main_v1 (by decide)).trans ((W7_of m ρ c main_v1 (by decide)).trans ((W6_of m ρ c main_v1 (by decide)).trans
    ((W5_of m ρ c main_v1 (by decide)).trans ((W4_of m ρ c main_v1 (by decide)).trans ((W3_of m ρ c main_v1 (by decide)).trans
    ((W2_arr m ρ c 2).trans ((final1 (V1 m ρ) c).trans
      (congrArg₂ dxLong (W1_args m ρ c main_arg7 (by decide)) (W1_args m ρ c main_arg6 (by decide))))))))))
theorem v2_end : W8 m ρ c (Proc.devRef .tc main_v2) = dwLong (m ((c : Thread nD τ).loc main_arg1)) (m ((c : Thread nD τ).loc main_arg8)) :=
  (W8_of m ρ c main_v2 (by decide)).trans ((W7_of m ρ c main_v2 (by decide)).trans ((W6_of m ρ c main_v2 (by decide)).trans
    ((W5_of m ρ c main_v2 (by decide)).trans ((W4_of m ρ c main_v2 (by decide)).trans ((W3_arr m ρ c 2).trans ((final2 (V2 m ρ) c).trans
      (congrArg₂ dwLong (W2_args m ρ c main_arg1 (by decide)) (W2_args m ρ c main_arg8 (by decide)))))))))
theorem v3_end : W8 m ρ c (Proc.devRef .tc main_v3) = dxLong (m ((c : Thread nD τ).loc main_arg8)) (m ((c : Thread nD τ).loc main_arg3)) :=
  (W8_of m ρ c main_v3 (by decide)).trans ((W7_of m ρ c main_v3 (by decide)).trans ((W6_of m ρ c main_v3 (by decide)).trans
    ((W5_of m ρ c main_v3 (by decide)).trans ((W4_arr m ρ c 2).trans ((final3 (V3 m ρ) c).trans
      (congrArg₂ dxLong (W3_args m ρ c main_arg8 (by decide)) (W3_args m ρ c main_arg3 (by decide))))))))
theorem v4_end : W8 m ρ c (Proc.devRef .tc main_v4) = dwShort (m ((c : Thread nD τ).loc main_arg2)) (m ((c : Thread nD τ).loc main_arg9)) :=
  (W8_of m ρ c main_v4 (by decide)).trans ((W7_of m ρ c main_v4 (by decide)).trans ((W6_of m ρ c main_v4 (by decide)).trans
    ((W5_arr m ρ c 2).trans ((final4 (V4 m ρ) c).trans
      (congrArg₂ dwShort (W4_args m ρ c main_arg2 (by decide)) (W4_args m ρ c main_arg9 (by decide)))))))
theorem v5_end : W8 m ρ c (Proc.devRef .tc main_v5) = dwShort (m ((c : Thread nD τ).loc main_arg2)) (m ((c : Thread nD τ).loc main_arg10)) :=
  (W8_of m ρ c main_v5 (by decide)).trans ((W7_of m ρ c main_v5 (by decide)).trans ((W6_arr m ρ c 2).trans ((final5 (V5 m ρ) c).trans
    (congrArg₂ dwShort (W5_args m ρ c main_arg2 (by decide)) (W5_args m ρ c main_arg10 (by decide))))))
theorem v6_at7 : W7 m ρ c (Proc.devRef .tc main_v6) = dxShort (m ((c : Thread nD τ).loc main_arg9)) (m ((c : Thread nD τ).loc main_arg4)) :=
  (W7_arr m ρ c 2).trans ((final6 (V6 m ρ) c).trans
    (congrArg₂ dxShort (W6_args m ρ c main_arg9 (by decide)) (W6_args m ρ c main_arg4 (by decide))))
theorem v7_end : W8 m ρ c (Proc.devRef .tc main_v7) = dxAdd (m ((c : Thread nD τ).loc main_arg10)) (m ((c : Thread nD τ).loc main_arg5))
      (dxShort (m ((c : Thread nD τ).loc main_arg9)) (m ((c : Thread nD τ).loc main_arg4))) :=
  (W8_arr m ρ c 3).trans ((final7 (V7 m ρ) c).trans
    (congr (congrArg₂ dxAdd (W7_args m ρ c main_arg10 (by decide)) (W7_args m ρ c main_arg5 (by decide))) (v6_at7 m ρ c)))

end Cert.XProj

end
-- ==== Proof.Calls.lean ====
/- Each further group of calls leaves its reference's results. -/
module

public import proofs.«01_k».proof.Defs
public import proofs.«01_k».proof.Proof.Adam
public import proofs.«01_k».proof.Proof.InProj
public import proofs.«01_k».proof.Proof.InProjDx
public import proofs.«01_k».proof.Proof.FfnDown
public import proofs.«01_k».proof.Proof.OutProj
public import proofs.«01_k».proof.Proof.NormBwd
public import proofs.«01_k».proof.Proof.LossHead
public import proofs.«01_k».proof.Proof.XFwd
public import proofs.«01_k».proof.Proof.XProj

@[expose] public section

set_option maxRecDepth 16384

noncomputable section

namespace Cert.Calls

open Idealize.ShloMosaic Idealize.SL.Sem

section
open Cert.Kernel4Ideal Cert.Kernel4Ideal.Gen
/-- The optimiser: gradient, step and moments of every parameter's shape. -/
theorem algebraic4 : Cert.algebraic_Kernel4Ideal_Reference4Ideal (hKernel4Ideal := facts) (hReference4Ideal := Cert.Reference4Ideal.Gen.facts) := by
  intro m ρ m' ρ' _ hargs
  refine ⟨_, _, _, _, _, _, _, _, _, _, _, _, _, _, _, _, _, _, _, _, _, _, _, _, (θ_run _ _ _).mono (fun r h c =>
      have hu := fun b hb => h c (Proc.devRef .tc b) (mem_uc b hb)
      have ha : ∀ b ∈ argRefs, r.2.mem ((c.tc : Thread nD τ).loc b) = m ((c.tc : Thread nD τ).loc b) := fun b hb =>
        (hu b ((by decide : ∀ b ∈ argRefs, ¬ (Proc.devRef .tc b : DevRef τ sig).isScoped) b hb)).trans (W6_args m ρ c b hb)
      ⟨(hu main_v0_0 (by decide)).trans ((Adam.end0 m ρ c).1),
        (hu main_v0_1 (by decide)).trans ((Adam.end0 m ρ c).2.1),
        (hu main_v0_2 (by decide)).trans ((Adam.end0 m ρ c).2.2.1),
        (hu main_v0_3 (by decide)).trans ((Adam.end0 m ρ c).2.2.2),
        (hu main_v1_0 (by decide)).trans ((Adam.end1 m ρ c).1),
        (hu main_v1_1 (by decide)).trans ((Adam.end1 m ρ c).2.1),
        (hu main_v1_2 (by decide)).trans ((Adam.end1 m ρ c).2.2.1),
        (hu main_v1_3 (by decide)).trans ((Adam.end1 m ρ c).2.2.2),
        (hu main_v2_0 (by decide)).trans ((Adam.end2 m ρ c).1),
        (hu main_v2_1 (by decide)).trans ((Adam.end2 m ρ c).2.1),
        (hu main_v2_2 (by decide)).trans ((Adam.end2 m ρ c).2.2.1),
        (hu main_v2_3 (by decide)).trans ((Adam.end2 m ρ c).2.2.2),
        (hu main_v3_0 (by decide)).trans ((Adam.end3 m ρ c).1),
        (hu main_v3_1 (by decide)).trans ((Adam.end3 m ρ c).2.1),
        (hu main_v3_2 (by decide)).trans ((Adam.end3 m ρ c).2.2.1),
        (hu main_v3_3 (by decide)).trans ((Adam.end3 m ρ c).2.2.2),
        (hu main_v4_0 (by decide)).trans ((Adam.end4 m ρ c).1),
        (hu main_v4_1 (by decide)).trans ((Adam.end4 m ρ c).2.1),
        (hu main_v4_2 (by decide)).trans ((Adam.end4 m ρ c).2.2.1),
        (hu main_v4_3 (by decide)).trans ((Adam.end4 m ρ c).2.2.2),
        (hu main_v5_0 (by decide)).trans ((Adam.end5 m ρ c).1),
        (hu main_v5_1 (by decide)).trans ((Adam.end5 m ρ c).2.1),
        (hu main_v5_2 (by decide)).trans ((Adam.end5 m ρ c).2.2.1),
        (hu main_v5_3 (by decide)).trans ((Adam.end5 m ρ c).2.2.2),
        ha main_arg0 (by decide), ha main_arg1 (by decide), ha main_arg2 (by decide), ha main_arg3 (by decide), ha main_arg4 (by decide), ha main_arg5 (by decide),
        ha main_arg6 (by decide), ha main_arg7 (by decide), ha main_arg8 (by decide), ha main_arg9 (by decide), ha main_arg10 (by decide), ha main_arg11 (by decide),
        ha main_arg12 (by decide), ha main_arg13 (by decide), ha main_arg14 (by decide), ha main_arg15 (by decide), ha main_arg16 (by decide), ha main_arg17 (by decide),
        ha main_arg18 (by decide), ha main_arg19 (by decide), ha main_arg20 (by decide), ha main_arg21 (by decide), ha main_arg22 (by decide), ha main_arg23 (by decide)⟩) (Adam.ends m ρ),
    (θ_run _ _ _).mono (fun r h c => ?_) (Cert.Reference4Ideal.Value.run (F := Ideal) m' ρ')⟩
  obtain ⟨h0, h1, h2, h3, h4, h5, h6, h7, h8, h9, h10, h11, h12, h13, h14, h15, h16, h17, h18, h19, h20, h21, h22, h23, h⟩ := h c
  obtain ⟨a0, a1, a2, a3, a4, a5, a6, a7, a8, a9, a10, a11, a12, a13, a14, a15, a16, a17, a18, a19, a20, a21, a22, a23⟩ := hargs c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h⟩ <;> simp only [← a0, ← a1, ← a2, ← a3, ← a4, ← a5, ← a6, ← a7, ← a8, ← a9, ← a10, ← a11, ← a12, ← a13, ← a14, ← a15, ← a16, ← a17, ← a18, ← a19, ← a20, ← a21, ← a22, ← a23] <;> rfl
end

section
open Cert.Kernel5Ideal Cert.Kernel5Ideal.Gen
/-- The input projection: its five products and its weight's gradient. -/
theorem algebraic5 : Cert.algebraic_Kernel5Ideal_Reference5Ideal (hKernel5Ideal := facts) (hReference5Ideal := Cert.Reference5Ideal.Gen.facts) := by
  intro m ρ m' ρ' _ hargs
  refine ⟨_, _, _, _, _, _, (θ_run _ _ _).mono (fun r h c =>
      have hu := fun b hb => h c (Proc.devRef .tc b) (mem_uc b hb)
      have ha : ∀ b ∈ argRefs, r.2.mem ((c.tc : Thread nD τ).loc b) = m ((c.tc : Thread nD τ).loc b) := fun b hb =>
        (hu b ((by decide : ∀ b ∈ argRefs, ¬ (Proc.devRef .tc b : DevRef τ sig).isScoped) b hb)).trans (W6_args m ρ c b hb)
      ⟨(hu main_v0 (by decide)).trans (InProj.v0_end m ρ c),
        (hu main_v1 (by decide)).trans (InProj.v1_end m ρ c),
        (hu main_v2 (by decide)).trans (InProj.v2_end m ρ c),
        (hu main_v3 (by decide)).trans (InProj.v3_end m ρ c),
        (hu main_v4 (by decide)).trans (InProj.v4_end m ρ c),
        (hu main_v5 (by decide)).trans (InProj.v5_end m ρ c),
        ha main_arg0 (by decide), ha main_arg1 (by decide), ha main_arg2 (by decide), ha main_arg3 (by decide), ha main_arg4 (by decide), ha main_arg5 (by decide),
        ha main_arg6 (by decide)⟩) (InProj.ends m ρ),
    (θ_run _ _ _).mono (fun r h c => ?_) (Cert.Reference5Ideal.Value.run (F := Ideal) m' ρ')⟩
  obtain ⟨h0, h1, h2, h3, h4, h5, h⟩ := h c
  obtain ⟨a0, a1, a2, a3, a4, a5, a6⟩ := hargs c
  refine ⟨h0.trans ?_, h1.trans ?_, h2.trans ?_, h3.trans ?_, h4.trans ?_, h5.trans ?_, h⟩ <;> simp only [← a0, ← a1, ← a2, ← a3, ← a4, ← a5, ← a6] <;> rfl
end

/-- The input projection's operand gradient. -/
theorem algebraic6 : Cert.algebraic_Kernel6Ideal_Reference6Ideal (hKernel6Ideal := Cert.Kernel6Ideal.Gen.facts)
    (hReference6Ideal := Cert.Reference6Ideal.Gen.facts) := by
  intro m ρ m' ρ' _ hargs
  refine ⟨_, (θ_run _ _ _).mono (fun r h c => ⟨(h c).1.trans (InProjDx.final m c), (h c).2⟩)
      (Cert.Kernel6Ideal.Value.run_blocks (F := Ideal) m ρ),
    (θ_run _ _ _).mono (fun r h c => ?_) (Cert.Reference6Ideal.Value.run (F := Ideal) m' ρ')⟩
  obtain ⟨h0, h⟩ := h c
  obtain ⟨a0, a1⟩ := hargs c
  refine ⟨h0.trans ?_, h⟩ <;> simp only [← a0, ← a1] <;> rfl

/-- The feed-forward's second product with the residual. -/
theorem algebraic7 : Cert.algebraic_Kernel7Ideal_Reference7Ideal (hKernel7Ideal := Cert.Kernel7Ideal.Gen.facts)
    (hReference7Ideal := Cert.Reference7Ideal.Gen.facts) := by
  intro m ρ m' ρ' _ hargs
  refine ⟨_, (θ_run _ _ _).mono (fun r h c => ⟨(h c).1.trans (FfnDown.final m c), (h c).2⟩)
      (Cert.Kernel7Ideal.Value.run_blocks (F := Ideal) m ρ),
    (θ_run _ _ _).mono (fun r h c => ?_) (Cert.Reference7Ideal.Value.run (F := Ideal) m' ρ')⟩
  obtain ⟨h0, h⟩ := h c
  obtain ⟨a0, a1, a2⟩ := hargs c
  refine ⟨h0.trans ?_, h⟩ <;> simp only [← a0, ← a1, ← a2] <;> rfl

section
open Cert.Kernel8Ideal Cert.Kernel8Ideal.Gen
/-- The output projection: its product, its weight's gradient and its operand's. -/
theorem algebraic8 : Cert.algebraic_Kernel8Ideal_Reference8Ideal (hKernel8Ideal := facts) (hReference8Ideal := Cert.Reference8Ideal.Gen.facts) := by
  intro m ρ m' ρ' _ hargs
  refine ⟨_, _, _, (θ_run _ _ _).mono (fun r h c =>
      have hu := fun b hb => h c (Proc.devRef .tc b) (mem_uc b hb)
      have ha : ∀ b ∈ argRefs, r.2.mem ((c.tc : Thread nD τ).loc b) = m ((c.tc : Thread nD τ).loc b) := fun b hb =>
        (hu b ((by decide : ∀ b ∈ argRefs, ¬ (Proc.devRef .tc b : DevRef τ sig).isScoped) b hb)).trans (W3_args m ρ c b hb)
      ⟨(hu main_v0 (by decide)).trans (OutProj.v0_end m ρ c),
        (hu main_v1 (by decide)).trans (OutProj.v1_end m ρ c),
        (hu main_v2 (by decide)).trans (OutProj.v2_end m ρ c),
        ha main_arg0 (by decide), ha main_arg1 (by decide), ha main_arg2 (by decide), ha main_arg3 (by decide)⟩) (OutProj.ends m ρ),
    (θ_run _ _ _).mono (fun r h c => ?_) (Cert.Reference8Ideal.Value.run (F := Ideal) m' ρ')⟩
  obtain ⟨h0, h1, h2, h⟩ := h c
  obtain ⟨a0, a1, a2, a3⟩ := hargs c
  refine ⟨h0.trans ?_, h1.trans ?_, h2.trans ?_, h⟩ <;> simp only [← a0, ← a1, ← a2, ← a3] <;> rfl
end

/-- The norm's gradients. -/
theorem algebraic9 : Cert.algebraic_Kernel9Ideal_Reference9Ideal (hKernel9Ideal := Cert.Kernel9Ideal.Gen.facts)
    (hReference9Ideal := Cert.Reference9Ideal.Gen.facts) := by
  intro m ρ m' ρ' _ hargs
  refine ⟨_, _, _, (θ_run _ _ _).mono (fun r h c => ⟨(h c).1.trans (NormBwd.final4 m c), (h c).2.1.trans (NormBwd.final5 m c), (h c).2.2.1.trans (NormBwd.final6 m c), (h c).2.2.2⟩)
      (Cert.Kernel9Ideal.Value.run_blocks (F := Ideal) m ρ),
    (θ_run _ _ _).mono (fun r h c => ?_) (Cert.Reference9Ideal.Value.run (F := Ideal) m' ρ')⟩
  obtain ⟨h0, h1, h2, h⟩ := h c
  obtain ⟨a0, a1, a2, a3⟩ := hargs c
  refine ⟨h0.trans ?_, h1.trans ?_, h2.trans ?_, h⟩ <;> simp only [← a0, ← a1, ← a2, ← a3] <;> rfl

/-- The loss and its gradients. -/
theorem algebraic10 : Cert.algebraic_Kernel10Ideal_Reference10Ideal (hKernel10Ideal := Cert.Kernel10Ideal.Gen.facts)
    (hReference10Ideal := Cert.Reference10Ideal.Gen.facts) := by
  intro m ρ m' ρ' _ hargs
  refine ⟨_, _, _, _, (θ_run _ _ _).mono (fun r h c => ⟨(h c).1.trans (LossHead.final3 m c), (h c).2.1.trans (LossHead.final4 m c), (h c).2.2.1.trans (LossHead.final5 m c), (h c).2.2.2.1.trans (LossHead.final6 m c), (h c).2.2.2.2⟩)
      (Cert.Kernel10Ideal.Value.run_blocks (F := Ideal) m ρ),
    (θ_run _ _ _).mono (fun r h c => ?_) (Cert.Reference10Ideal.Value.run (F := Ideal) m' ρ')⟩
  obtain ⟨h0, h1, h2, h3, h⟩ := h c
  obtain ⟨a0, a1, a2⟩ := hargs c
  refine ⟨h0.trans ?_, h1.trans ?_, h2.trans ?_, h3.trans ?_, h⟩ <;> simp only [← a0, ← a1, ← a2] <;> rfl

section
open Cert.Kernel11Ideal Cert.Kernel11Ideal.Gen
/-- The cross-attention's forward pass. -/
theorem algebraic11 : Cert.algebraic_Kernel11Ideal_Reference11Ideal (hKernel11Ideal := facts) (hReference11Ideal := Cert.Reference11Ideal.Gen.facts) := by
  intro m ρ m' ρ' _ hargs
  refine ⟨_, (θ_run _ _ _).mono (fun r h c =>
      have hu := fun b hb => h c (Proc.devRef .tc b) (mem_uc b hb)
      have ha : ∀ b ∈ argRefs, r.2.mem ((c.tc : Thread nD τ).loc b) = m ((c.tc : Thread nD τ).loc b) := fun b hb =>
        (hu b ((by decide : ∀ b ∈ argRefs, ¬ (Proc.devRef .tc b : DevRef τ sig).isScoped) b hb)).trans (W7_args m ρ c b hb)
      ⟨(hu main_v6 (by decide)).trans (XFwd.v6_end m ρ c),
        ha main_arg0 (by decide), ha main_arg1 (by decide), ha main_arg2 (by decide), ha main_arg3 (by decide), ha main_arg4 (by decide), ha main_arg5 (by decide),
        ha main_arg6 (by decide), ha main_arg7 (by decide)⟩) (XFwd.ends m ρ),
    (θ_run _ _ _).mono (fun r h c => ?_) (Cert.Reference11Ideal.Value.run (F := Ideal) m' ρ')⟩
  obtain ⟨h0, h⟩ := h c
  obtain ⟨a0, a1, a2, a3, a4, a5, a6, a7⟩ := hargs c
  refine ⟨h0.trans ?_, h⟩ <;> simp only [← a0, ← a1, ← a2, ← a3, ← a4, ← a5, ← a6, ← a7] <;> rfl
end

section
open Cert.Kernel12Ideal Cert.Kernel12Ideal.Gen
/-- The cross-attention's projections, backwards. -/
theorem algebraic12 : Cert.algebraic_Kernel12Ideal_Reference12Ideal (hKernel12Ideal := facts) (hReference12Ideal := Cert.Reference12Ideal.Gen.facts) := by
  intro m ρ m' ρ' _ hargs
  refine ⟨_, _, _, _, _, _, _, (θ_run _ _ _).mono (fun r h c =>
      have hu := fun b hb => h c (Proc.devRef .tc b) (mem_uc b hb)
      have ha : ∀ b ∈ argRefs, r.2.mem ((c.tc : Thread nD τ).loc b) = m ((c.tc : Thread nD τ).loc b) := fun b hb =>
        (hu b ((by decide : ∀ b ∈ argRefs, ¬ (Proc.devRef .tc b : DevRef τ sig).isScoped) b hb)).trans (W8_args m ρ c b hb)
      ⟨(hu main_v0 (by decide)).trans (XProj.v0_end m ρ c),
        (hu main_v1 (by decide)).trans (XProj.v1_end m ρ c),
        (hu main_v2 (by decide)).trans (XProj.v2_end m ρ c),
        (hu main_v3 (by decide)).trans (XProj.v3_end m ρ c),
        (hu main_v4 (by decide)).trans (XProj.v4_end m ρ c),
        (hu main_v5 (by decide)).trans (XProj.v5_end m ρ c),
        (hu main_v7 (by decide)).trans (XProj.v7_end m ρ c),
        ha main_arg0 (by decide), ha main_arg1 (by decide), ha main_arg2 (by decide), ha main_arg3 (by decide), ha main_arg4 (by decide), ha main_arg5 (by decide),
        ha main_arg6 (by decide), ha main_arg7 (by decide), ha main_arg8 (by decide), ha main_arg9 (by decide), ha main_arg10 (by decide)⟩) (XProj.ends m ρ),
    (θ_run _ _ _).mono (fun r h c => ?_) (Cert.Reference12Ideal.Value.run (F := Ideal) m' ρ')⟩
  obtain ⟨h0, h1, h2, h3, h4, h5, h6, h⟩ := h c
  obtain ⟨a0, a1, a2, a3, a4, a5, a6, a7, a8, a9, a10⟩ := hargs c
  refine ⟨h0.trans ?_, h1.trans ?_, h2.trans ?_, h3.trans ?_, h4.trans ?_, h5.trans ?_, h6.trans ?_, h⟩ <;> simp only [← a0, ← a1, ← a2, ← a3, ← a4, ← a5, ← a6, ← a7, ← a8, ← a9, ← a10] <;> rfl
end

end Cert.Calls

end
-- ==== Proof.LossBody.lean ====
/- One point of the loss head's grid: what the body leaves in its four result buffers. -/
module

public import proofs.«01_k».proof.Proof.Gen.Kernel13Ideal.Launch
public import proofs.«01_k».proof.Proof.Gen.Kernel13Ideal.Points
public import proofs.«01_k».proof.Proof.Gen.Kernel13Ideal.Skeleton
public import Idealize.ShloMosaic.Lib.Pipeline.FrameBody
public import Idealize.ShloMosaic.Lib.Pipeline.TableIdle
public import Idealize.ShloMosaic.Lib.Tactic
public import Idealize.ShloMosaic.Lib.VecWindow
public import Idealize.ShloMosaic.Lib.Pipeline.ValueKit.Acc

@[expose] public section

set_option maxRecDepth 16384

noncomputable section

namespace Cert.LossBody

open Cert.Kernel13Ideal Cert.Kernel13Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's bookkeeping beside that of the sum over the devices. -/
abbrev UU : Type := UR sig nD τ × Sites.UC
local notation "𝕄" => MT nD τ sig ℕ (Elt F) ℕ UU ℕ

/-- A tile's gradient of the rows. -/
abbrev dxT (x t : Vec F S256x2048 .f32) (g : Vec F S1x2048 .f32) : FVec F S256x2048 .f32 :=
  k0_pay3 (k0_pay8 x) (k0_pay9 g) (k0_pay11 x) (k0_pay12 x) (k0_pay15 x t g) k0_pay17
/-- The same, rounded. -/
abbrev dxbT (x t : Vec F S256x2048 .f32) (g : Vec F S1x2048 .f32) : FVec F S256x2048 .bf16 :=
  k0_pay5 (k0_pay8 x) (k0_pay9 g) (k0_pay11 x) (k0_pay12 x) (k0_pay15 x t g) k0_pay17
/-- A tile's part of the gain's gradient. -/
abbrev dgT (x t : Vec F S256x2048 .f32) (g : Vec F S1x2048 .f32) : FVec F S1x2048 .f32 :=
  k0_pay2 (k0_pay13 x) (k0_pay15 x t g) k0_pay17
/-- A tile's part of the loss. -/
abbrev lossT (x t : Vec F S256x2048 .f32) (g : Vec F S1x2048 .f32) : FVec F S8x128 .f32 := k0_pay4 (k0_pay16 x t g)
/-- The gain's gradient with a tile's part added. -/
abbrev dgN (x t : Vec F S256x2048 .f32) (g old : Vec F S1x2048 .f32) : FVec F S1x2048 .f32 :=
  k0_pay6 (k0_pay13 x) (k0_pay15 x t g) k0_pay17 old
/-- The loss with a tile's part added. -/
abbrev lossN (x t : Vec F S256x2048 .f32) (g : Vec F S1x2048 .f32) (old : Vec F S8x128 .f32) : FVec F S8x128 .f32 :=
  k0_pay7 (k0_pay16 x t g) old

set_option maxHeartbeats 1000000 in
/-- The first point stores its parts. -/
theorem first (c : Dev nD) (i : grid0.Coords) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S256x2048 .f32) (h4 : a4.IsWhole) (a5 : Memref sig .tc .vmem S256x2048 .bf16) (h5 : a5.IsWhole)
    (a6 : Memref sig .tc .vmem S1x2048 .f32) (h6 : a6.IsWhole) (a7 : Memref sig .tc .vmem S8x128 .f32) (h7 : a7.IsWhole)
    (hA : k0_cond1 i = 1#1) (hB : ¬ k0_cond2 i = 1#1)
    (x t : Vec F S256x2048 .f32) (g : Vec F S1x2048 .f32) (K : PUnit → sProp 𝕄) :
    iprop(owns (c : Thread nD τ) a1 fullShare x ∗ owns (c : Thread nD τ) a2 fullShare t ∗ owns (c : Thread nD τ) a3 fullShare g
        ∗ (∃ d, owns (c : Thread nD τ) a4 fullShare d) ∗ (∃ d, owns (c : Thread nD τ) a5 fullShare d)
        ∗ (∃ d, owns (c : Thread nD τ) a6 fullShare d) ∗ (∃ d, owns (c : Thread nD τ) a7 fullShare d)
        ∗ (iprop(owns (c : Thread nD τ) a1 fullShare x ∗ owns (c : Thread nD τ) a2 fullShare t ∗ owns (c : Thread nD τ) a3 fullShare g
            ∗ owns (c : Thread nD τ) a4 fullShare (dxT x t g) ∗ owns (c : Thread nD τ) a5 fullShare (dxbT x t g)
            ∗ owns (c : Thread nD τ) a6 fullShare (dgT x t g) ∗ owns (c : Thread nD τ) a7 fullShare (lossT x t g)) -∗ K ⟨⟩))
      ⊢ wp frame (wpE (defs₀ (F := F)) Variants.none c none) Set.univ (cc0_loss_head i a1 h1 a2 h2 a3 h3 a4 h4 a5 h5 a6 h6 a7 h7) K := by
  simp only [cc0_loss_head_eq_skeleton]; unfold cc0_loss_head_skel
  simp only [k0_part1_eq_skeleton]
  unfold owns
  iintro ⟨⟨%f1, %e1, H1⟩, ⟨%f2, %e2, H2⟩, ⟨%f3, %e3, H3⟩, ⟨%d4, %f4, -, H4⟩, ⟨%d5, %f5, -, H5⟩, ⟨%d6, %f6, -, H6⟩, ⟨%d7, %f7, -, H7⟩, Hk⟩
  obtain rfl := h1.eq_unread e1; obtain rfl := h2.eq_unread e2; obtain rfl := h3.eq_unread e3
  sl_exec (disch := first | sl_exact hA | sl_exact hB)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (View.read_writes_full _ _ _ _ _).trans ?_
    frame_out
  isplitl [H5]
  · iexists _; isplitr
    swap; · iexact H5
    ipureintro; refine (View.read_writes_full _ _ _ _ _).trans ?_; frame_out
  isplitl [H6]
  · iexists _; isplitr
    swap; · iexact H6
    ipureintro; refine (View.read_writes_full _ _ _ _ _).trans ?_; frame_out
  iexists _; isplitr
  swap; · iexact H7
  ipureintro; refine (View.read_writes_full _ _ _ _ _).trans ?_; frame_out

set_option maxHeartbeats 1000000 in
/-- Every later point adds its parts to what the two small buffers hold. -/
theorem next (c : Dev nD) (i : grid0.Coords) (a1 : Memref sig .tc .vmem S256x2048 .f32) (h1 : a1.IsWhole)
    (a2 : Memref sig .tc .vmem S256x2048 .f32) (h2 : a2.IsWhole) (a3 : Memref sig .tc .vmem S1x2048 .f32) (h3 : a3.IsWhole)
    (a4 : Memref sig .tc .vmem S256x2048 .f32) (h4 : a4.IsWhole) (a5 : Memref sig .tc .vmem S256x2048 .bf16) (h5 : a5.IsWhole)
    (a6 : Memref sig .tc .vmem S1x2048 .f32) (h6 : a6.IsWhole) (a7 : Memref sig .tc .vmem S8x128 .f32) (h7 : a7.IsWhole)
    (hA : ¬ k0_cond1 i = 1#1) (hB : k0_cond2 i = 1#1)
    (x t : Vec F S256x2048 .f32) (g o6 : Vec F S1x2048 .f32) (o7 : Vec F S8x128 .f32) (K : PUnit → sProp 𝕄) :
    iprop(owns (c : Thread nD τ) a1 fullShare x ∗ owns (c : Thread nD τ) a2 fullShare t ∗ owns (c : Thread nD τ) a3 fullShare g
        ∗ (∃ d, owns (c : Thread nD τ) a4 fullShare d) ∗ (∃ d, owns (c : Thread nD τ) a5 fullShare d)
        ∗ owns (c : Thread nD τ) a6 fullShare o6 ∗ owns (c : Thread nD τ) a7 fullShare o7
        ∗ (iprop(owns (c : Thread nD τ) a1 fullShare x ∗ owns (c : Thread nD τ) a2 fullShare t ∗ owns (c : Thread nD τ) a3 fullShare g
            ∗ owns (c : Thread nD τ) a4 fullShare (dxT x t g) ∗ owns (c : Thread nD τ) a5 fullShare (dxbT x t g)
            ∗ owns (c : Thread nD τ) a6 fullShare (dgN x t g o6) ∗ owns (c : Thread nD τ) a7 fullShare (lossN x t g o7)) -∗ K ⟨⟩))
      ⊢ wp frame (wpE (defs₀ (F := F)) Variants.none c none) Set.univ (cc0_loss_head i a1 h1 a2 h2 a3 h3 a4 h4 a5 h5 a6 h6 a7 h7) K := by
  simp only [cc0_loss_head_eq_skeleton]; unfold cc0_loss_head_skel
  simp only [k0_part1_eq_skeleton]
  unfold owns
  iintro ⟨⟨%f1, %e1, H1⟩, ⟨%f2, %e2, H2⟩, ⟨%f3, %e3, H3⟩, ⟨%d4, %f4, -, H4⟩, ⟨%d5, %f5, -, H5⟩, ⟨%f6, %e6, H6⟩, ⟨%f7, %e7, H7⟩, Hk⟩
  obtain rfl := h1.eq_unread e1; obtain rfl := h2.eq_unread e2; obtain rfl := h3.eq_unread e3; obtain rfl := h6.eq_unread e6; obtain rfl := h7.eq_unread e7
  sl_exec (disch := first | sl_exact hA | sl_exact hB)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    refine (View.read_writes_full _ _ _ _ _).trans ?_
    frame_out
  isplitl [H5]
  · iexists _; isplitr
    swap; · iexact H5
    ipureintro; refine (View.read_writes_full _ _ _ _ _).trans ?_; frame_out
  isplitl [H6]
  · iexists _; isplitr
    swap; · iexact H6
    ipureintro; refine (View.read_writes_full _ _ _ _ _).trans ?_; frame_out
  iexists _; isplitr
  swap; · iexact H7
  ipureintro; refine (View.read_writes_full _ _ _ _ _).trans ?_; frame_out

end Cert.LossBody

end
-- ==== Proof.LossRegion.lean ====
/- The loss head's grid as one statement of the program that sums the loss over the devices. -/
module

public import proofs.«01_k».proof.Proof.LossBody
public import Idealize.ShloMosaic.Lib.Pipeline.RegionArrays
public import Idealize.ShloMosaic.Lib.Pipeline.CollectiveSegs

@[expose] public section

set_option maxRecDepth 16384

noncomputable section

namespace Cert.LossRegion

open Cert.Kernel13Ideal Cert.Kernel13Ideal.Gen Idealize.ShloMosaic Idealize.ShloMosaic.TcCoe Idealize.ShloMosaic.Tactic
open Cert.Kernel13Ideal.Gen.Sites (L lv)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.LossBody (UU dxT dxbT dgT lossT dgN lossN)

variable {F : FTy → Type} [FloatOps F]
local notation "𝕄" => MT nD τ sig ℕ (Elt F) ℕ UU ℕ
variable (V : Dev nD → Valuation τ sig (Elt F))

/-- A window's block at a point, of the array as the grid finds it. -/
def blk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The gain's gradient and the loss, added up over the points so far. -/
def acc (c : Dev nD) : (n : ℕ) → n < cfg0.N → Vec F S1x2048 .f32 × Vec F S8x128 .f32
  | 0, h => (dgT (blk V c 0 ⟨0, h⟩) (blk V c 1 ⟨0, h⟩) (blk V c 2 ⟨0, h⟩), lossT (blk V c 0 ⟨0, h⟩) (blk V c 1 ⟨0, h⟩) (blk V c 2 ⟨0, h⟩))
  | n + 1, h =>
    (dgN (blk V c 0 ⟨n + 1, h⟩) (blk V c 1 ⟨n + 1, h⟩) (blk V c 2 ⟨n + 1, h⟩) (acc c n (Nat.lt_of_succ_lt h)).1,
      lossN (blk V c 0 ⟨n + 1, h⟩) (blk V c 1 ⟨n + 1, h⟩) (blk V c 2 ⟨n + 1, h⟩) (acc c n (Nat.lt_of_succ_lt h)).2)

theorem acc_first (c : Dev nD) (t : Fin cfg0.N) (h : t.val = 0) :
    acc V c t.val t.isLt = (dgT (blk V c 0 t) (blk V c 1 t) (blk V c 2 t), lossT (blk V c 0 t) (blk V c 1 t) (blk V c 2 t)) := by
  obtain ⟨n, hn⟩ := t; obtain rfl : n = 0 := h; rfl
theorem acc_next (c : Dev nD) (t : Fin cfg0.N) (h : t.val ≠ 0) :
    acc V c t.val t.isLt = (dgN (blk V c 0 t) (blk V c 1 t) (blk V c 2 t) (acc V c (t.val - 1) (Nat.lt_of_le_of_lt (Nat.sub_le _ _) t.isLt)).1,
      lossN (blk V c 0 t) (blk V c 1 t) (blk V c 2 t) (acc V c (t.val - 1) (Nat.lt_of_le_of_lt (Nat.sub_le _ _) t.isLt)).2) := by
  obtain ⟨n, hn⟩ := t
  cases n with
  | zero => exact absurd rfl h
  | succ n => rfl

/-- The grid's contents, point by point; what the sum over the devices will signal is owed throughout. -/
def dat (c : Dev nD) : Dat τ (Elt F) ℕ ℕ UU ℕ cfg0 c where
  A w := V c (Proc.devRef .tc (Pipeline.arrRef spec0 w))
  after w t := match w with
    | ⟨0, _⟩ => blk V c 0 t
    | ⟨1, _⟩ => blk V c 1 t
    | ⟨2, _⟩ => blk V c 2 t
    | ⟨3, _⟩ => dxT (blk V c 0 t) (blk V c 1 t) (blk V c 2 t)
    | ⟨4, _⟩ => dxbT (blk V c 0 t) (blk V c 1 t) (blk V c 2 t)
    | ⟨5, _⟩ => (acc V c t.val t.isLt).1
    | ⟨6, _⟩ => (acc V c t.val t.isLt).2
  Φ _ := iprop(Pipeline.scopedRest spec0 c ∗ ∃ r, prngReg c r)
  q _ := fullShare
  owed _ := Sites.O0 (F := F) c

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = dxT (blk V c 0 t) (blk V c 1 t) (blk V c 2 t) := by dsimp only [dat]
theorem after4 (c : Dev nD) (t : Fin cfg0.N) : (dat V c).after 4 t = dxbT (blk V c 0 t) (blk V c 1 t) (blk V c 2 t) := by dsimp only [dat]
theorem after5 (c : Dev nD) (t : Fin cfg0.N) : (dat V c).after 5 t = (acc V c t.val t.isLt).1 := by dsimp only [dat]
theorem after6 (c : Dev nD) (t : Fin cfg0.N) : (dat V c).after 6 t = (acc V c t.val t.isLt).2 := by dsimp only [dat]

/-- An input's buffer holds its block at every point. -/
theorem before0 (c : Dev nD) (t : Fin cfg0.N) (d) : (dat V c).before 0 t d = blk V c 0 t :=
  (dat V c).before_in_eq_fetched 0 rfl (fun _ => rfl) (fun _ _ _ => rfl) (fun t => by rw [after0]; rfl) t d
theorem before1 (c : Dev nD) (t : Fin cfg0.N) (d) : (dat V c).before 1 t d = blk V c 1 t :=
  (dat V c).before_in_eq_fetched 1 rfl (fun _ => rfl) (fun _ _ _ => rfl) (fun t => by rw [after1]; rfl) t d
theorem before2 (c : Dev nD) (t : Fin cfg0.N) (d) : (dat V c).before 2 t d = blk V c 2 t :=
  (dat V c).before_in_eq_fetched 2 rfl (fun _ => rfl) (fun _ _ _ => rfl) (fun t => by rw [after2]; rfl) t d

theorem isFirst : ∀ t : Fin cfg0.N, k0_cond1 (grid0.coords t) = 1#1 ↔ t.val = 0 :=
  (by decide +kernel : ∀ t : Fin grid0.N, k0_cond1 (grid0.coords t) = 1#1 ↔ t.val = 0)
theorem isLater : ∀ t : Fin cfg0.N, k0_cond2 (grid0.coords t) = 1#1 ↔ t.val ≠ 0 :=
  (by decide +kernel : ∀ t : Fin grid0.N, k0_cond2 (grid0.coords t) = 1#1 ↔ t.val ≠ 0)
/-- The two small buffers are stored into at every point, -/
theorem live5 : ∀ t : Fin cfg0.N, cfg0.idle 5 (grid0.coords t) = false := by decide +kernel
theorem live6 : ∀ t : Fin cfg0.N, cfg0.idle 6 (grid0.coords t) = false := by decide +kernel
/-- and are written back only at the end. -/
theorem kept5 : ∀ t : Fin cfg0.N, t.val ≠ 0 → cfg0.fresh 5 t.val = false := by decide +kernel
theorem kept6 : ∀ t : Fin cfg0.N, t.val ≠ 0 → cfg0.fresh 6 t.val = false := by decide +kernel

theorem before5 (c : Dev nD) (t : Fin cfg0.N) (h : t.val ≠ 0) (d) :
    (dat V c).before 5 t d = (acc V c (t.val - 1) (Nat.lt_of_le_of_lt (Nat.sub_le _ _) t.isLt)).1 := by
  rw [Dat.before_out_traj _ 5 rfl (fun _ _ => rfl) (fun t _ hi => absurd hi (by rw [live5 t]; exact Bool.false_ne_true)) t.val t rfl d,
    if_neg (by rw [kept5 t h]; exact Bool.false_ne_true), after5]
theorem before6 (c : Dev nD) (t : Fin cfg0.N) (h : t.val ≠ 0) (d) :
    (dat V c).before 6 t d = (acc V c (t.val - 1) (Nat.lt_of_le_of_lt (Nat.sub_le _ _) t.isLt)).2 := by
  rw [Dat.before_out_traj _ 6 rfl (fun _ _ => rfl) (fun t _ hi => absurd hi (by rw [live6 t]; exact Bool.false_ne_true)) t.val t rfl d,
    if_neg (by rw [kept6 t h]; exact Bool.false_ne_true), after6]

/-- A window that is live at a point is left at what the contents say. -/
theorem leaves (c : Dev nD) (w : Fin cfg0.W) (t : Fin cfg0.N) (h : cfg0.idle w (grid0.coords t) = false) :
    (dat V c).leavesExact w t = owns (c : Thread nD τ) ((cfg0.win w).stage (cfg0.slots t w)) fullShare ((dat V c).after w t) := by
  unfold Dat.leavesExact; rw [h]

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel

/-- A point's body, from what the buffers hold before it to what they hold after it. -/
theorem point (c : Dev nD) (t : Fin cfg0.N) :
    iprop((dat V c).Φ t.castSucc ∗ (dat V c).owesAt 0 t.castSucc ∗ (∃ d, owns (c : Thread nD τ) ((cfg0.win 0).stage (cfg0.slots t 0)) fullShare ((dat V c).before 0 t d)) ∗ (∃ d, owns (c : Thread nD τ) ((cfg0.win 1).stage (cfg0.slots t 1)) fullShare ((dat V c).before 1 t d)) ∗ (∃ d, owns (c : Thread nD τ) ((cfg0.win 2).stage (cfg0.slots t 2)) fullShare ((dat V c).before 2 t d)) ∗ (∃ d, owns (c : Thread nD τ) ((cfg0.win 3).stage (cfg0.slots t 3)) fullShare ((dat V c).before 3 t d)) ∗ (∃ d, owns (c : Thread nD τ) ((cfg0.win 4).stage (cfg0.slots t 4)) fullShare ((dat V c).before 4 t d)) ∗ (∃ d, owns (c : Thread nD τ) ((cfg0.win 5).stage (cfg0.slots t 5)) fullShare ((dat V c).before 5 t d)) ∗ (∃ d, owns (c : Thread nD τ) ((cfg0.win 6).stage (cfg0.slots t 6)) fullShare ((dat V c).before 6 t d)))
      ⊢ wp frame (wpE (defs₀ (F := F)) Variants.none c none) Set.univ (bodyAt0 t) fun _ =>
        iprop((dat V c).Φ t.succ ∗ (dat V c).owesAt 0 t.succ ∗ (dat V c).leavesExact 0 t ∗ (dat V c).leavesExact 1 t ∗ (dat V c).leavesExact 2 t ∗ (dat V c).leavesExact 3 t ∗ (dat V c).leavesExact 4 t ∗ (dat V c).leavesExact 5 t ∗ (dat V c).leavesExact 6 t) := by
  rw [leaves V c 0 t (live0 t), leaves V c 1 t (live1 t), leaves V c 2 t (live2 t), leaves V c 3 t (live3 t), leaves V c 4 t (live4 t),
    leaves V c 5 t (live5 t), leaves V c 6 t (live6 t), after0, after1, after2, after3, after4, after5, after6]
  rw [show (dat V c).Φ t.succ = (dat V c).Φ t.castSucc from rfl, show (dat V c).owesAt 0 t.succ = (dat V c).owesAt 0 t.castSucc from rfl]
  simp only [before0, before1, before2]
  unfold bodyAt0
  by_cases h : t.val = 0
  · rw [acc_first V c t h]
    iintro ⟨HΦ, HO, ⟨%d0, H0⟩, ⟨%d1, H1⟩, ⟨%d2, H2⟩, ⟨%d3, H3⟩, ⟨%d4, H4⟩, ⟨%d5, H5⟩, ⟨%d6, H6⟩⟩
    iapply (LossBody.first (F := F) c (grid0.coords t) _ _ _ _ _ _ _ _ _ _ _ _ _ _ ((isFirst t).mpr h) (fun hl => (isLater t).mp hl h)
      (blk V c 0 t) (blk V c 1 t) (blk V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    iintro H
    isplitl [HΦ]; · iexact HΦ
    isplitl [HO]; · iexact HO
    iexact H
  · rw [acc_next V c t h]
    simp only [before5 V c t h, before6 V c t h]
    iintro ⟨HΦ, HO, ⟨%d0, H0⟩, ⟨%d1, H1⟩, ⟨%d2, H2⟩, ⟨%d3, H3⟩, ⟨%d4, H4⟩, ⟨%d5, H5⟩, ⟨%d6, H6⟩⟩
    iapply (LossBody.next (F := F) c (grid0.coords t) _ _ _ _ _ _ _ _ _ _ _ _ _ _ (fun hf => h ((isFirst t).mp hf)) ((isLater t).mpr h)
      (blk V c 0 t) (blk V c 1 t) (blk V c 2 t) _ _ _)
    isplitl [H0]; · iexact H0
    isplitl [H1]; · iexact H1
    isplitl [H2]; · iexact H2
    isplitl [H3]; · iexists _; iexact H3
    isplitl [H4]; · iexists _; iexact H4
    isplitl [H5]; · iexact H5
    isplitl [H6]; · iexact H6
    iintro H
    isplitl [HΦ]; · iexact HΦ
    isplitl [HO]; · iexact HO
    iexact H

/-- The body does at every point what the contents say. -/
theorem body (c : Dev nD) : BodyObligation (dat V c) (defs₀ (F := F)) Variants.none 0 Set.univ := fun t => by
  rw [bigSep_W0, bigSep_W0, show defs₀ (F := F) .tc cfg0.body (cfg0.bodyArgs t (cfg0.slots t)) = bodyAt0 t from by
    unfold defs₀; rw [Defs.onTc_tc]]
  exact triple_restated (point V c t) rfl .rfl fun _ => .rfl

end Cert.LossRegion

end
-- ==== Proof.LossLaunch.lean ====
/- The whole program that sums the loss over the devices: the reshapes, the loss head's grid, the reading of the loss out of its
tile, and the sum over the devices, from a launch to what every buffer holds at the end. -/
module

public import proofs.«01_k».proof.Proof.LossRegion
public import Idealize.ShloMosaic.Lib.Pipeline.RegionArraysS

@[expose] public section

set_option maxRecDepth 16384

noncomputable section

namespace Cert.LossLaunch

open Cert.Kernel13Ideal Cert.Kernel13Ideal.Gen Idealize.ShloMosaic Idealize.ShloMosaic.TcCoe Idealize.ShloMosaic.Tactic
open Cert.Kernel13Ideal.Gen.Sites (L lv)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.LossBody (UU)
open Cert.LossRegion (dat body)

variable {F : FTy → Type} [FloatOps F]
local notation "𝕄" => MT nD τ sig ℕ (Elt F) ℕ UU ℕ

abbrev EP : Emb (UR sig nD τ) (MT nD τ sig ℕ (Elt F) ℕ UU ℕ) := embL
abbrev EC : Emb Sites.UC (MT nD τ sig ℕ (Elt F) ℕ UU ℕ) := embR
abbrev adm : (p : Fin 1) → (pcfgs (F := F) p).Adm := fun p => (cfgs p).toPCfg_adm

variable (m : (ℓ : Loc nD τ sig) → Buf (Elt F) ℓ) (ρ : Dev nD → PrngReg)

/-- A device's buffers at the launch, -/
abbrev atLaunch (c : Dev nD) : Valuation τ sig (Elt F) := fun b => m ((c : Dev nD), b)
/-- after the reshapes, -/
def atGrid (c : Dev nD) : Valuation τ sig (Elt F) := StableHlo.after hostOps0 (atLaunch m c)
/-- after the grid, -/
def atTile (c : Dev nD) : Valuation τ sig (Elt F) := Pipeline.afterRegion (dat (atGrid m) c) (atGrid m c)
/-- with the device's part of the loss read out, -/
def atPart (c : Dev nD) : Valuation τ sig (Elt F) := StableHlo.after hostOps1 (atTile m c)
/-- and after the sum over the devices. -/
def atEnd (c : Dev nD) : Valuation τ sig (Elt F) := (ar0 (F := F)).after₀ (atPart m) c

abbrev pdats : (p : Fin 1) → (c : Dev nD) → Pipeline.Dat τ (Elt F) ℕ ℕ UU ℕ (Pipeline.pin (pcfgs (F := F)) adm p) c :=
  fun | ⟨0, _⟩ => dat (atGrid m)

local notation "ℍ" => Pipeline.HostSeg (Name := ℕ) (U := UU) (pcfgs (F := F)) defs₀ Variants.none L lv

/-- What rides beside the buffers up to the sum. -/
abbrev riding (c : Dev nD) : sProp 𝕄 := Sites.Es EC (atPart m) 0 c
/-- The sum's counters are under their invariants. -/
abbrev counters : sProp 𝕄 := iprop(∃ κ, (AllReduce.Dat.once (ar0 (F := F)) (atPart m)).cellInvs (Sites.E0 EC) κ)

theorem fresh0 : ∀ op ∈ (hostOps0 : List (HloOp τ sig (Elt F))), op.fresh = ∅ :=
  List.forall_iff_forall_mem.mp ⟨rfl, rfl⟩
theorem fresh1 : ∀ op ∈ (hostOps1 : List (HloOp τ sig (Elt F))), op.fresh = ∅ :=
  List.forall_iff_forall_mem.mp ⟨rfl, rfl⟩

def segReshape : ℍ := Pipeline.HostSeg.ofOps _ _ _ _ _ (Pipeline.ucRefs τ sig) hostOps0
  (fun op h => Pipeline.sub_ucRefs op (List.forall_iff_forall_mem.mp hostOps0_sub op h)) fresh0 (atLaunch m) (riding m)

def segGrid : Pipeline.RegionSeg (pcfgs (F := F)) adm (pdats m) 0 defs₀ Variants.none L lv 0 :=
  Pipeline.RegionSeg.ofHeldIn (pcfgs (F := F)) adm (pdats m) 0 defs₀ Variants.none L lv 0 (fun c => Sites.O0 (F := F) c) (Pipeline.ucRefs τ sig)
    (fun c => iprop(∃ r, prngReg c r)) (fun c => iprop(∃ r, prngReg c r)) launch0.toP rfl (fun c => (body (atGrid m) c).loose) (fun _ _ => rfl) (fun _ => rfl)
    (fun c => (pdats m 0 c).share_full fun _ => rfl) (fun _ => .rfl) (fun _ => .rfl) (fun _ => 0)
    ⟨fun _ _ _ => Sites.mem_L _ _ (by decide), fun _ _ _ => le_refl _, fun _ _ _ hg => ⟨(Sites.O0_pos hg).1, (Sites.O0_pos hg).2⟩⟩
    (fun c => Sites.rides0 EC (atPart m) c) (atGrid m) (fun _ _ => rfl)

def segRead : ℍ := Pipeline.HostSeg.ofOps _ _ _ _ _ (Pipeline.ucRefs τ sig) hostOps1
  (fun op h => Pipeline.sub_ucRefs op (List.forall_iff_forall_mem.mp hostOps1_sub op h)) fresh1 (atTile m) (riding m)

def segSum : ℍ := Sites.seg0 EC Variants.none (atPart m) (Sites.Rest0 (atPart m) fun _ => counters m)

def segs : List (Pipeline.Seg (pcfgs (F := F)) adm (pdats m) 0 defs₀ Variants.none L lv) :=
  [.host (segReshape m), .region (segGrid m), .host (segRead m), .host (segSum m)]

theorem main_eq (c : Dev nD) : main (F := F) c = Pipeline.Seg.run (segs m) :=
  main_segs adm (pdats m) 0 Variants.none L lv (segReshape m) (segRead m) (segSum m) (segGrid m) rfl rfl rfl c

/-- The grid's arrays are buffers of the program. -/
theorem arrays_sub : Pipeline.arrRefs (τ := τ) (pcfgs (F := F) 0).spec ⊆ Pipeline.ucRefs τ sig := Pipeline.arrRefs_sub_ucRefs spec0 (by decide)

theorem joint1 (c : Dev nD) : (segReshape m).post c ⊢ (segGrid (F := F) m).pre c := by
  unfold segGrid
  refine BIBase.Entails.trans ?_ (Pipeline.RegionSeg.ofHeldIn_pre (pcs := pcfgs (F := F)) (p := 0) arrays_sub c)
  dsimp only [segReshape, Pipeline.HostSeg.ofOps, riding]
  rw [Sites.Es_0]
  unfold atGrid
  iintro H; iexact H
theorem joint2 (c : Dev nD) : (segGrid m).post c ⊢ (segRead (F := F) m).pre c := by
  unfold segGrid
  refine BIBase.Entails.trans (Pipeline.RegionSeg.ofHeldIn_post (pcs := pcfgs (F := F)) (p := 0) arrays_sub c) ?_
  dsimp only [segRead, Pipeline.HostSeg.ofOps, riding]
  rw [Sites.Es_0]
  unfold atTile
  iintro H; iexact H
theorem joint3 (c : Dev nD) : (segRead m).post c ⊢ (segSum (F := F) m).pre c := by
  refine BIBase.Entails.trans ?_ (Sites.pre0 EC Variants.none (atPart m) (fun _ => counters m) c)
  dsimp only [segRead, Pipeline.HostSeg.ofOps]
  unfold riding; rw [Sites.Es_0]
  iintro ⟨Hh, HO, Hp, Hr⟩
  ihave #Hi := (show Sites.rides0 EC (atPart m) c ⊢ counters m from by unfold Sites.rides0 AllReduce.Dat.rides; iintro ⟨Hi, -⟩; iexact Hi) $$ Hr
  isplitl [Hh]; · iexact Hh
  isplitl [HO Hp Hr]
  · isplitl [HO]; · iexact HO
    isplitl [Hp]; · iexact Hp
    iexact Hr
  iexact Hi

/-- At the end: every buffer, and the sum's counters. -/
abbrev last (c : Dev nD) : sProp 𝕄 :=
  iprop(StableHlo.held (c : Thread nD τ) (Pipeline.ucRefs τ sig) (atEnd m c) ∗ (counters m ∗ Sites.Ghost0 EC c))
theorem joint4 (c : Dev nD) : (segSum m).post c ⊢ iprop(last (F := F) m c ∗ ∃ W, owes (c : Thread nD τ) (0 : CellTallies nD τ sig ℕ) W) := by
  refine (Sites.post0 EC Variants.none (atPart m) (fun _ => counters m) c).trans ?_
  iintro ⟨Hh, HE, Hg, Hi⟩
  isplitr [HE]
  · isplitl [Hh]; · iexact Hh
    isplitl [Hi]; · iexact Hi
    iexact Hg
  iapply (Sites.hE_last EC (atPart m) c); iexact HE

def u₀ : UU :=
  (initOf (Pipeline.cells (Pipeline.pin (pcfgs (F := F)) adm) cellOf_inj) (Pipeline.launchToks (Pipeline.pin (pcfgs (F := F)) adm) cellOf_inj),
    Sites.uC (U := UU) (atPart m))

theorem init :
    iprop((bigSep Finset.univ fun c : Dev nD => iprop(unscopedBufs c (fun b => m ((c : Thread nD τ).loc b)) ∗ unscopedSems0 c
          ∗ owes (c : Thread nD τ) (Sites.O0 (F := F) c) ∅ ∗ Pipeline.launchCred (Sites.O0 (F := F)) c ∗ prngReg c (ρ c) ∗ Sites.G EC (atPart m) c)) ∗ levAts L lv)
      ⊢ (|={Set.univ}=> bigSep Finset.univ (segReshape m).pre : sProp 𝕄) := by
  have h1 (c : Dev nD) : iprop(unscopedBufs c (fun b => m ((c : Thread nD τ).loc b)) ∗ unscopedSems0 c
        ∗ owes (c : Thread nD τ) (Sites.O0 (F := F) c) ∅ ∗ Pipeline.launchCred (Sites.O0 (F := F)) c ∗ prngReg c (ρ c) ∗ Sites.G EC (atPart m) c)
      ⊢ iprop(StableHlo.held (c : Thread nD τ) (Pipeline.ucRefs τ sig) (atLaunch m c)
          ∗ (unscopedSems0 c ∗ owes (c : Thread nD τ) (Sites.O0 (F := F) c) ∅ ∗ Pipeline.launchCred (Sites.O0 (F := F)) c ∗ prngReg c (ρ c) ∗ Sites.G EC (atPart m) c)) := by
    rw [← Pipeline.unscopedBufs_held c (atLaunch m c)]
  iintro ⟨H, Hl⟩
  ihave H' := (show _ ⊢ iprop((bigSep Finset.univ fun c : Dev nD => StableHlo.held (c : Thread nD τ) (Pipeline.ucRefs τ sig) (atLaunch m c))
        ∗ bigSep Finset.univ fun c : Dev nD => iprop(unscopedSems0 c ∗ owes (c : Thread nD τ) (Sites.O0 (F := F) c) ∅
          ∗ Pipeline.launchCred (Sites.O0 (F := F)) c ∗ prngReg c (ρ c) ∗ Sites.G EC (atPart m) c))
      from by rw [← bigSep_sep']; exact bigSep_mono fun c _ => h1 c) $$ H
  icases H' with ⟨Hh, HE⟩
  imod (Sites.hE0 EC (atPart m) ρ) $$ [HE Hl] with HE
  · isplitl [HE]; · iexact HE
    iexact Hl
  imodintro
  iapply (show iprop((bigSep Finset.univ fun c : Dev nD => StableHlo.held (c : Thread nD τ) (Pipeline.ucRefs τ sig) (atLaunch m c))
        ∗ bigSep Finset.univ (riding m)) ⊢ bigSep Finset.univ (segReshape m).pre from by rw [← bigSep_sep']; exact .rfl)
  isplitl [Hh]; · iexact Hh
  iexact HE

set_option backward.isDefEq.respectTransparency.types false in
/-- From any memory with zero counters, every run ends, with every buffer at what the steps make of it and every counter at zero. -/
theorem run : θ_run defs (onTc (τ := τ) (main (F := F))) (s₀ m ρ)
    (fun r => (∀ c : Dev nD, ∀ b ∈ Pipeline.ucRefs τ sig, r.2.mem (c, b) = atEnd m c b) ∧ r.2.sem = fun _ => 0) :=
  Pipeline.θ_run_regions_kit_sems (pcfgs (F := F)) adm (pdats m) 0 cellOf_inj EP defs₀ Variants.none L lv m ρ main (segs m)
    (fun c Q => by rw [main_eq m c])
    (by simp only [segs, Pipeline.Seg.pipes_host, Pipeline.Seg.pipes_region, Pipeline.Seg.pipes_nil]; decide)
    (O₀ := Sites.O0 (F := F)) (hL := Sites.hL) (G := Sites.G EC (atPart m)) (u₀ := u₀ m)
    (hu₀ := by
      unfold u₀
      iintro Hu
      ihave H := (ownU_pair _ _) $$ Hu
      icases H with ⟨HP, HX⟩
      imodintro
      isplitl [HP]; · iexact HP
      rw [Sites.bigSep_G]; iexact HX)
    (T₀ := (segReshape m).pre) (Tₙ := last m)
    (hch := ⟨fun _ => .rfl, joint1 m, joint2 m, joint3 m, joint4 m⟩)
    (hinit := init m ρ)
    (QY := fun c s => (∀ b ∈ Pipeline.ucRefs τ sig, s.mem (c, b) = atEnd m c b)
      ∧ s.sem ((ar0 (F := F)).barrierCell c) = 0 ∧ s.sem ((ar0 (F := F)).recvCell c) = 0 ∧ s.sem ((ar0 (F := F)).sendCell c) = 0)
    (hfin := fun c s' => by
      iintro ⟨⟨Hh, Hea⟩, HSI⟩
      imod ((AllReduce.Dat.once (ar0 (F := F)) (atPart m)).ghostAfter_read (Sites.E0 EC) c (k := 0) le_rfl s') $$ [Hea HSI] with ⟨%ha, HSI⟩
      · isplitl [Hea] <;> iassumption
      unfold StableHlo.held
      ihave H := (pointsTo_read_all (Pipeline.ucRefs τ sig) (fun b => (((c : Thread nD τ)).1, b)) (atEnd m c) s') $$ [Hh HSI]
      · isplitl [Hh] <;> iassumption
      icases H with ⟨%hm, HSI⟩
      imodintro
      isplitr; · ipureintro; exact ⟨hm, ha⟩
      iexact HSI)
    (hQ := fun s h hs => ⟨fun c => (h c).1, sem_eq_zero hs fun c sm hsm => by
      have hl : ∀ sm : SemLoc sig, sm.isScoped .tc = false → sm = .reg ar0_barrier ∨ sm = .dma ar0_recv ∨ sm = .dma ar0_send := by decide
      rcases hl sm hsm with rfl | rfl | rfl
      exacts [(h c).2.1, (h c).2.2.1, (h c).2.2.2]⟩)

/-- A program's argument is a buffer that no step writes. -/
abbrev argRefs : List (Ref sig .tc) := [main_arg0, main_arg1, main_arg2]

theorem args (c : Dev nD) : ∀ b ∈ argRefs, atEnd m c b = m ((c : Thread nD τ).loc b) := by
  intro b hb
  have e : atEnd m c b = atPart m c b := (ar0 (F := F)).after₀_of_notMem (atPart m) c fun h => by
    rcases Finset.mem_insert.mp h with h | h
    · exact (by decide : ∀ b ∈ argRefs, b ≠ main_v6) b hb (Proc.devRef_injective _ h)
    · obtain ⟨j, hj⟩ := (ar0 (F := F)).mem_stageRefs.mp h
      exact (by decide : ∀ b ∈ argRefs, ∀ j, b ≠ ar0_stage j) b hb j (Proc.devRef_injective _ hj)
  have g : atTile m c b = atGrid m c b := Pipeline.afterRegion_keeps (dat (atGrid m) c) (atGrid m c) launch0.win.arr_inj (fun _ => rfl) _
    fun w hw => (by decide +kernel : ∀ b ∈ argRefs, ∀ w, Pipeline.arrRef spec0 w = b → (cfg0.win w).isOut = false) b hb w hw
  rw [e]
  rcases List.mem_cons.mp hb with rfl | hb
  · exact (show atPart m c main_arg0 = atTile m c main_arg0 by unfold atPart; after_results).trans
      (g.trans (show atGrid m c main_arg0 = _ by unfold atGrid; after_results))
  rcases List.mem_cons.mp hb with rfl | hb
  · exact (show atPart m c main_arg1 = atTile m c main_arg1 by unfold atPart; after_results).trans
      (g.trans (show atGrid m c main_arg1 = _ by unfold atGrid; after_results))
  obtain rfl := List.mem_singleton.mp hb
  exact (show atPart m c main_arg2 = atTile m c main_arg2 by unfold atPart; after_results).trans
    (g.trans (show atGrid m c main_arg2 = _ by unfold atGrid; after_results))

theorem mem_uc (b : Ref sig .tc) (h : ¬ (Proc.devRef .tc b : DevRef τ sig).isScoped) : (Proc.devRef .tc b : DevRef τ sig) ∈ Pipeline.ucRefs τ sig :=
  Finset.mem_filter.mpr ⟨StableHlo.devRef_mem_tcRefs _, h⟩

/-- Every run keeps the arguments and leaves every counter at zero. -/
theorem frame : θ_run defs (onTc (τ := τ) (main (F := F))) (s₀ m ρ)
    (fun r => (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) ∧ r.2.sem = fun _ => 0) :=
  (θ_run _ _ _).mono (fun r h => ⟨fun c =>
    ⟨(h.1 c _ (mem_uc main_arg0 (by decide))).trans (args m c _ (by decide)), (h.1 c _ (mem_uc main_arg1 (by decide))).trans (args m c _ (by decide)),
      (h.1 c _ (mem_uc main_arg2 (by decide))).trans (args m c _ (by decide))⟩, h.2⟩) (run m ρ)

end Cert.LossLaunch

end
-- ==== Proof.LossAll.lean ====
/- The loss of the whole batch is the sum of the devices' parts. -/
module

public import proofs.«01_k».proof.Proof.LossHead
public import proofs.«01_k».proof.Proof.Gen.Kernel13Ideal
public import proofs.«01_k».proof.Proof.Gen.Reference13Ideal.Run

@[expose] public section

set_option maxRecDepth 16384

noncomputable section

namespace Cert.LossAll

open Cert.Reference13Ideal Cert.Reference13Ideal.Gen Idealize.ShloMosaic Idealize.ShloMosaic.TcCoe
open Cert.LossHead (half_sum)

/-- The reference's error over the whole batch, and its loss. -/
abbrev errAll (x t : FVec Ideal S8x4096x2048 .f32) (g : FVec Ideal S1x2048 .f32) : FVec Ideal S8x4096x2048 .f32 :=
  subf (mulf (mulf x (broadcastInDim S8x4096x2048 ![0, 1, 2] bcast_S8x4096x1_S8x4096x2048_0_1_2 (Host.rsqrt (addf
      (Host.divf (broadcastInDim S8x4096x1 ![0, 1] bcast_S8x4096_S8x4096x1_0_1
          (Host.reduceAdd (mulf x x) (constant S_ .f32 0x00000000#32) reducesTo_S8x4096x2048_S8x4096_d2 h_S_))
        (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![1, 2] bcast_S1x2048_S1x1x2048_1_2 g))) t
abbrev lossAll (x t : FVec Ideal S8x4096x2048 .f32) (g : FVec Ideal S1x2048 .f32) : FVec Ideal S_ .f32 :=
  mulf (constant S_ .f32 0x3F000000#32) (Host.reduceAdd (Host.divf
      (Host.reduceAdd (mulf (errAll x t g) (errAll x t g)) (constant S_ .f32 0x00000000#32) reducesTo_S8x4096x2048_S8x4096_d2 h_S_)
      (broadcastInDim S8x4096 ![] bcast_S_S8x4096 (constant S_ .f32 0x45000000#32)))
    (constant S_ .f32 0x00000000#32) reducesTo_S8x4096_S_d0_1 h_S_)

/-- A device's block of the batch is its sequence. -/
theorem block_at (x : FVec Ideal S8x4096x2048 .f32) (d : Fin 8) (r : Fin 4096) (k : Fin 2048) :
    Layout.block ⟨3, ![1, 4096, 2048]⟩ ⟨3, ![8, 4096, 2048]⟩ 0 8 d x (by decide) (ix3 0 r k) = x (ix3 d r k) := by
  refine congrArg x (funext fun b => Fin.ext ?_)
  rw [Layout.Tiles.idx_val]
  fin_cases b <;> simp <;> rfl

/-- The devices' parts add up to the loss of the whole batch. -/
theorem whole (x t : FVec Ideal S8x4096x2048 .f32) (g : FVec Ideal S1x2048 .f32) (i : S_.Idx) :
    (∑ d : Fin 8, (shapeCast S_ (extractStridedSlice Cert.Kernel13Ideal.S1x1 ![0, 0] (Cert.LossHead.loss
        (shapeCast _ (Layout.block ⟨3, ![1, 4096, 2048]⟩ ⟨3, ![8, 4096, 2048]⟩ 0 8 d x) Cert.Kernel13Ideal.Gen.shapeCasts_S1x4096x2048_S4096x2048)
        (shapeCast _ (Layout.block ⟨3, ![1, 4096, 2048]⟩ ⟨3, ![8, 4096, 2048]⟩ 0 8 d t) Cert.Kernel13Ideal.Gen.shapeCasts_S1x4096x2048_S4096x2048) g)
        Cert.Kernel13Ideal.Gen.slices_S8x128_S1x1_0_0) Cert.Kernel13Ideal.Gen.shapeCasts_S1x1_S_ i : EReal)) = lossAll x t g i := by
  pointwise [lossAll, errAll, Cert.LossHead.loss, Cert.NormBwd.along, Cert.NormBwd.square, Cert.LossHead.err]
  simp only [block_at]
  exact (half_sum _).symm

end Cert.LossAll

end
-- ==== Proof.Psum.lean ====
/- The loss over all devices. -/
module

public import proofs.«01_k».proof.Defs
public import proofs.«01_k».proof.Proof.LossHead
public import proofs.«01_k».proof.Proof.LossLaunch
public import proofs.«01_k».proof.Proof.LossAll
public import proofs.«01_k».proof.Proof.Gen.Reference13Ideal.Run

@[expose] public section

set_option maxRecDepth 16384

noncomputable section

namespace Cert.Psum

open Cert.Kernel13Ideal Cert.Kernel13Ideal.Gen Idealize.ShloMosaic Idealize.ShloMosaic.TcCoe Idealize.SL.Sem
open Cert.LossBody (lossT lossN)
open Cert.LossRegion (dat blk acc acc_first acc_next after6)
open Cert.LossLaunch (atLaunch atGrid atTile atPart atEnd)
open Cert.LossHead (half_sum)

variable (V : Dev nD → Valuation τ sig (Elt Ideal)) (c : Dev nD)

theorem idx : ∀ t : Fin cfg0.N, win0_0.index t = ![t.val, 0] ∧ win0_1.index t = ![t.val, 0] ∧ win0_2.index t = ![0, 0] ∧ win0_6.index t = ![0, 0] :=
  (by decide +kernel : ∀ t : Fin grid0.N, _)

theorem loss_first (t : Fin cfg0.N) (h : t.val % 16 = 0) (j : S8x128.Idx) :
    ((acc V c t.val t.isLt).2 j : EReal) = 0 + lossT (blk V c 0 t) (blk V c 1 t) (blk V c 2 t) j := by
  rw [acc_first V c t (by have := lt_of_lt_of_eq t.isLt N_0; omega)]
  exact (zero_add _).symm

theorem loss_next (t : Fin cfg0.N) (h : ¬ t.val % 16 = 0) (j : S8x128.Idx) :
    ((acc V c t.val t.isLt).2 j : EReal)
      = (acc V c (t.val - 1) (Nat.lt_of_le_of_lt (Nat.sub_le _ _) t.isLt)).2 j + lossT (blk V c 0 t) (blk V c 1 t) (blk V c 2 t) j := by
  rw [acc_next V c t (by omega)]
  exact congrArg (· + _) (congrFun (shapeCast_self _ _) j)

/-- The tile after the grid holds the loss of the device's rows. -/
theorem tile : (dat V c).arrAt 6 cfg0.N = Cert.LossHead.loss (V c main_v1) (V c main_v2) (V c main_arg2) := by
  refine (dat V c).arrAt_eq_of_after_last 6 t0_15 (by decide +kernel) _ fun j => ?_
  blk_simp
  rw [after6]
  refine (Pipeline.eq_sum_fin_of_reset_step_apply_last (fun n h => (acc V c n h).2) 16 (fun _ => (0 : EReal)) _ (loss_first V c) (loss_next V c)
    (le_of_eq N_0) t0_15 rfl j).trans ?_
  rw [zero_add]
  pointwise [k0_pay1, lossT, k0_pay4, k0_pay8, k0_pay9, k0_pay10, k0_pay11, k0_pay12, k0_pay13, k0_pay14, k0_pay15, k0_pay16, Cert.LossHead.loss, Cert.NormBwd.along, Cert.NormBwd.square, Cert.LossHead.err]
  rw [← half_sum]
  refine congrArg _ (Fin.sum_mul_add_congr fun s k hl => ?_)
  blk_point [blk, idx s]

variable (m : (ℓ : Loc nD τ sig) → Buf (Elt Ideal) ℓ)

/-- A device's rows and targets, without the axis of the devices. -/
abbrev rows (c : Dev nD) : FVec Ideal S4096x2048 .f32 := shapeCast S4096x2048 (m ((c : Thread nD τ).loc main_arg0)) shapeCasts_S1x4096x2048_S4096x2048
abbrev targets (c : Dev nD) : FVec Ideal S4096x2048 .f32 := shapeCast S4096x2048 (m ((c : Thread nD τ).loc main_arg1)) shapeCasts_S1x4096x2048_S4096x2048

theorem grid_rows : atGrid m c main_v1 = rows m c := by unfold atGrid; after_results; rfl
theorem grid_targets : atGrid m c main_v2 = targets m c := by unfold atGrid; after_results; rfl
theorem grid_gain : atGrid m c main_arg2 = m ((c : Thread nD τ).loc main_arg2) := by unfold atGrid; after_results

/-- A device's part of the loss. -/
theorem part : atPart m c main_v5 = shapeCast S_ (extractStridedSlice S1x1 ![0, 0] (atTile m c main_v3_3) slices_S8x128_S1x1_0_0) shapeCasts_S1x1_S_ := by
  unfold atPart; after_results; rfl
theorem tile_end : atTile m c main_v3_3 = Cert.LossHead.loss (rows m c) (targets m c) (m ((c : Thread nD τ).loc main_arg2)) := by
  refine ((Pipeline.afterRegion_arr (dat (atGrid m) c) (atGrid m c) launch0.win.arr_inj 6).trans (tile (atGrid m) c)).trans ?_
  rw [grid_rows c m, grid_targets c m, grid_gain c m]

/-- All devices are one group, in their order. -/
theorem peer_eq : ∀ d j : Fin 8, (ar0 (F := Ideal)).peer d j = j := by decide

/-- The sum over the devices, in their order. -/
theorem total (f : Fin 8 → FVec Ideal S_ .f32) (h : ∀ d : Fin 8, atPart m d main_v5 = f d) :
    atEnd m c main_v6 = (fun i => ∑ d : Fin 8, (f d i : EReal) : FVec Ideal S_ .f32) := by
  unfold atEnd
  refine ((ar0 (F := Ideal)).after₀_result (atPart m) c).trans ?_
  rw [show (fun j => atPart m ((ar0 (F := Ideal)).peer c j) (ar0 (F := Ideal)).operand) = f from
    funext fun j => (congrArg (fun d => atPart m d main_v5) (peer_eq c j)).trans (h j)]
  funext i
  rw [Fin.sum_univ_eight]
  rfl

/-- The loss of the whole batch, on every device. -/
theorem algebraic13 : Cert.algebraic_Kernel13Ideal_Reference13Ideal (hKernel13Ideal := facts) (hReference13Ideal := Cert.Reference13Ideal.Gen.facts) := by
  intro m ρ m' ρ' _ hargs
  refine ⟨_, (θ_run _ _ _).mono (fun r h c =>
      have hu := fun b hb => h.1 c (Proc.devRef .tc b) (Cert.LossLaunch.mem_uc b hb)
      ⟨(hu main_v6 (by decide)).trans ((total c m _ fun d => (part d m).trans (by rw [tile_end d m])).trans ?_),
        (hu main_arg0 (by decide)).trans (Cert.LossLaunch.args m c _ (by decide)),
        (hu main_arg1 (by decide)).trans (Cert.LossLaunch.args m c _ (by decide)),
        (hu main_arg2 (by decide)).trans (Cert.LossLaunch.args m c _ (by decide))⟩) (Cert.LossLaunch.run m ρ),
    (θ_run _ _ _).mono (fun r h => h 0) (Cert.Reference13Ideal.Value.run (F := Ideal) m' ρ')⟩
  funext i
  refine Eq.trans (Finset.sum_congr rfl fun d _ => ?_) (Cert.LossAll.whole _ _ _ i)
  obtain ⟨a0, a1, a2⟩ := hargs d
  unfold rows targets
  rw [a0, a1, a2]

end Cert.Psum

end
-- ==== Proof.LossFrame.lean ====
/- The program with the sum of the loss, as it runs: it is the idealized program's text, so its frame is that program's at the machine's
floats. -/
module

public import proofs.«01_k».proof.Defs
public import proofs.«01_k».proof.Proof.LossLaunch
public import proofs.«01_k».proof.Proof.Gen.Kernel13
public import proofs.«01_k».proof.Proof.Gen.Kernel13Ideal

@[expose] public section

set_option maxRecDepth 16384

noncomputable section

namespace Cert.LossFrame

open Idealize.ShloMosaic Idealize.SL.Sem

variable {F : FTy → Type} [FloatOps F]

local instance : Cert.Kernel13.Facts := Cert.Kernel13.Gen.facts
local instance : Cert.Kernel13Ideal.Facts := Cert.Kernel13Ideal.Gen.facts

/-- Both programs have the same kernel body, -/
theorem bodies : Cert.Kernel13.defs₀ (F := F) = Cert.Kernel13Ideal.defs₀ (F := F) := by
  unfold Cert.Kernel13.defs₀ Cert.Kernel13Ideal.defs₀
  refine congrArg Defs.onTc ?_
  funext a b
  match a, b with
  | 0, (_, _) => rfl

/-- and the same pipeline around it. -/
theorem tables : Cert.Kernel13.defs (F := F) = Cert.Kernel13Ideal.defs (F := F) := congrArg (Pipeline.defs Cert.Kernel13.pcfgs) bodies

theorem frame : Cert.quiescent_Kernel13 (hKernel13 := Cert.Kernel13.Gen.facts) := fun m ρ _ =>
  tables (F := Bits) ▸ Cert.LossLaunch.frame (F := Bits) m ρ

end Cert.LossFrame

end
-- ==== Proof.NormMem.lean ====
/- The backward pass of the cross-attention memory's norm: one tile that holds all 256 rows. -/
module

public import proofs.«01_k».proof.Defs
public import proofs.«01_k».proof.Proof.Gen.Kernel14.Frame
public import proofs.«01_k».proof.Proof.Gen.Kernel14Ideal.Value
public import proofs.«01_k».proof.Proof.Gen.Reference14Ideal.Run
public import Idealize.ShloMosaic.Lib.Pipeline.ValueKit

@[expose] public section

set_option maxRecDepth 16384

noncomputable section

namespace Cert.NormMem

open Cert.Kernel14Ideal Cert.Kernel14Ideal.Gen Idealize.ShloMosaic Idealize.ShloMosaic.TcCoe Idealize.SL.Sem
open Cert.Reference14Ideal (S_)
open Cert.Reference14Ideal.Gen (bcast_S256_S256x1_0 bcast_S_S256x1 bcast_S256x1_S256x2048_0_1 bcast_S1x2048_S256x2048_0_1
  bcast_S256_S256x2048_0 reducesTo_S256x2048_S256_d1 reducesTo_S256x2048_S2048_d0 reducesTo_S256x1_S256_d1 h_S_)

variable (x : FVec Ideal S256x2048 .f32) (g : FVec Ideal S1x2048 .f32) (d : FVec Ideal S256x2048 .f32)

/-- Each row's mean of squares plus the norm's epsilon. -/
abbrev msq : FVec Ideal S256x1 .f32 :=
  addf (Host.divf (broadcastInDim S256x1 ![0] bcast_S256_S256x1_0
      (Host.reduceAdd (mulf x x) (constant S_ .f32 0x00000000#32) reducesTo_S256x2048_S256_d1 h_S_))
    (broadcastInDim S256x1 ![] bcast_S_S256x1 (constant S_ .f32 0x45000000#32)))
    (broadcastInDim S256x1 ![] bcast_S_S256x1 (constant S_ .f32 0x358637BD#32))
/-- The reciprocal root of it, along the row. -/
abbrev scale : FVec Ideal S256x2048 .f32 := broadcastInDim S256x2048 ![0, 1] bcast_S256x1_S256x2048_0_1 (Host.rsqrt (msq x))
/-- The output's gradient times the gain. -/
abbrev gained : FVec Ideal S256x2048 .f32 := mulf d (broadcastInDim S256x2048 ![0, 1] bcast_S1x2048_S256x2048_0_1 g)
/-- The gradient of the mean of squares, over the row's length. -/
abbrev dmsq : FVec Ideal S256x2048 .f32 :=
  broadcastInDim S256x2048 ![0] bcast_S256_S256x2048_0 (Host.reduceAdd (Host.divf (mulf
      (shapeCast _ (Host.reduceAdd (mulf x (gained g d)) (constant S_ .f32 0x00000000#32) reducesTo_S256x2048_S256_d1 h_S_)
        Cert.Reference14Ideal.Gen.shapeCasts_S256_S256x1)
      (mulf (broadcastInDim S256x1 ![] bcast_S_S256x1 (constant S_ .f32 0xBF000000#32)) (Host.divf (Host.rsqrt (msq x)) (msq x))))
    (broadcastInDim S256x1 ![] bcast_S_S256x1 (constant S_ .f32 0x45000000#32))) (constant S_ .f32 0x00000000#32) reducesTo_S256x1_S256_d1 h_S_)

/-- The gradient of the memory. -/
abbrev dmem : FVec Ideal S256x2048 .f32 :=
  addf (addf (mulf (gained g d) (scale x)) (mulf x (dmsq x g d))) (mulf (dmsq x g d) x)
/-- The gradient of the gain. -/
abbrev dgain : FVec Ideal S1x2048 .f32 :=
  shapeCast _ (Host.reduceAdd (mulf (mulf x (scale x)) d) (constant S_ .f32 0x00000000#32) reducesTo_S256x2048_S2048_d0 h_S_)
    Cert.Reference14Ideal.Gen.shapeCasts_S2048_S1x2048

variable (m : (ℓ : Loc nD τ sig) → Buf (Elt Ideal) ℓ) (c : Dev nD)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] := (by decide +kernel : ∀ t : Fin grid0.N, _)

theorem final3 : (dats m 0 c).arrAt 3 cfg0.N = dmem (m ((c : Thread nD τ).loc main_arg0)) (m ((c : Thread nD τ).loc main_arg1))
    (m ((c : Thread nD τ).loc main_arg2)) := by
  refine (dats m 0 c).arrAt_eq_of_covers 3 _ (by decide +kernel) fun t _ y => ?_
  blk_simp
  rw [after0_3]
  unfold outsAt0
  frame_out
  pointwise [k0_pay5, k0_pay3, k0_pay2, dmem, dmsq, gained, scale, msq]
  blk_point [iblk, V, idx t]

theorem final4 : (dats m 0 c).arrAt 4 cfg0.N = truncf .bf16 (dmem (m ((c : Thread nD τ).loc main_arg0)) (m ((c : Thread nD τ).loc main_arg1))
    (m ((c : Thread nD τ).loc main_arg2))) Cert.Reference14Ideal.Gen.bitsLt_bf16_f32 := by
  refine (dats m 0 c).arrAt_eq_of_covers 4 _ (by decide +kernel) fun t _ y => ?_
  blk_simp
  rw [after0_4]
  unfold outsAt0
  frame_out
  pointwise [k0_pay6, k0_pay5, k0_pay3, k0_pay2, dmem, dmsq, gained, scale, msq]
  blk_point [iblk, V, idx t]

theorem final5 : (dats m 0 c).arrAt 5 cfg0.N = dgain (m ((c : Thread nD τ).loc main_arg0)) (m ((c : Thread nD τ).loc main_arg2)) := by
  refine (dats m 0 c).arrAt_eq_of_covers 5 _ (by decide +kernel) fun t _ y => ?_
  blk_simp
  rw [after0_5]
  unfold outsAt0
  frame_out
  pointwise [k0_pay4, k0_pay3, k0_pay2, dgain, scale, msq]
  blk_point [iblk, V, idx t]

/-- The gradients are the reference's. -/
theorem algebraic14 : Cert.algebraic_Kernel14Ideal_Reference14Ideal (hKernel14Ideal := facts) (hReference14Ideal := Cert.Reference14Ideal.Gen.facts) := by
  intro m ρ m' ρ' _ hargs
  refine ⟨_, _, _, (θ_run _ _ _).mono (fun r h c => ⟨(h c).1.trans (final3 m c), (h c).2.1.trans (final4 m c),
      (h c).2.2.1.trans (final5 m c), (h c).2.2.2⟩) (Cert.Kernel14Ideal.Value.run_blocks (F := Ideal) m ρ),
    (θ_run _ _ _).mono (fun r h c => ?_) (Cert.Reference14Ideal.Value.run (F := Ideal) m' ρ')⟩
  obtain ⟨h0, h1, h2, h⟩ := h c
  obtain ⟨a0, a1, a2⟩ := hargs c
  refine ⟨h0.trans ?_, h1.trans ?_, h2.trans ?_, h⟩ <;> simp only [← a0, ← a1, ← a2] <;> rfl

end Cert.NormMem

end
-- ==== Proof.SumSlots.lean ====
/- The weight gradients' sums over the four devices' slots: each result array is the reference's sum of the call's operand. -/
module

public import proofs.«01_k».proof.Defs
public import proofs.«01_k».proof.Proof.Gen.Kernel15.Frame
public import proofs.«01_k».proof.Proof.Gen.Kernel15Ideal.Frame
public import proofs.«01_k».proof.Proof.Gen.Reference15Ideal.Run
public import proofs.«01_k».proof.Proof.Ends
public import Idealize.ShloMosaic.Lib.Pipeline.ValueKit

@[expose] public section

set_option maxRecDepth 16384

noncomputable section

namespace Cert.SumSlots

open Cert.Kernel15Ideal Cert.Kernel15Ideal.Gen Idealize.ShloMosaic Idealize.ShloMosaic.TcCoe Idealize.SL.Sem
open Cert.Reference15Ideal.Gen (reducesTo_S4x1024x2048_S1024x2048_d0 reducesTo_S4x256x2048_S256x2048_d0 reducesTo_S4x48x256_S48x256_d0 reducesTo_S4x128x256_S128x256_d0 reducesTo_S4x1524x1024_S1524x1024_d0)

/-- The sum of an array's four slots. -/
abbrev total {a b : Nat} (h : (⟨3, ![4, a, b]⟩ : Shape).ReducesTo [0] ⟨2, ![a, b]⟩) (x : FVec Ideal ⟨3, ![4, a, b]⟩ .bf16) : FVec Ideal ⟨2, ![a, b]⟩ .f32 :=
  Host.reduceAdd (extf .f32 x Cert.Reference15Ideal.Gen.bitsLt_bf16_f32) (constant Cert.Reference15Ideal.S_ .f32 0x00000000#32) h
    Cert.Reference15Ideal.Gen.h_S_

section Calls
variable (V : (c : Dev nD) → (b : Ref sig .tc) → Buf (Elt Ideal) ((c : Thread nD τ).loc b)) (c : Dev nD)

theorem idx0 : ∀ t : Fin cfg0.N, win0_0.index t = ![0, t.val, 0] ∧ win0_1.index t = ![1, t.val, 0] ∧ win0_2.index t = ![2, t.val, 0] ∧ win0_3.index t = ![3, t.val, 0]
    ∧ win0_4.index t = ![t.val, 0] := (by decide +kernel : ∀ t : Fin grid0.N, _)

theorem final0 : (dat0 V c).arrAt 4 cfg0.N = total reducesTo_S4x1024x2048_S1024x2048_d0 (V c main_arg0) := by
  refine (dat0 V c).arrAt_eq_of_covers 4 _ (by decide +kernel) fun t _ y => ?_
  blk_simp
  rw [after0_4]
  unfold out0_4
  frame_out
  pointwise [k0_pay1, total]
  rw [Fin.sum_univ_four]
  blk_point [iblk0, idx0 t]

theorem idx1 : ∀ t : Fin cfg1.N, win1_0.index t = ![0, 0, 0] ∧ win1_1.index t = ![1, 0, 0] ∧ win1_2.index t = ![2, 0, 0] ∧ win1_3.index t = ![3, 0, 0]
    ∧ win1_4.index t = ![0, 0] := (by decide +kernel : ∀ t : Fin grid1.N, _)

theorem final1 : (dat1 V c).arrAt 4 cfg1.N = total reducesTo_S4x256x2048_S256x2048_d0 (V c main_arg1) := by
  refine (dat1 V c).arrAt_eq_of_covers 4 _ (by decide +kernel) fun t _ y => ?_
  blk_simp
  rw [after1_4]
  unfold out1_4
  frame_out
  pointwise [k1_pay1, total]
  rw [Fin.sum_univ_four]
  blk_point [iblk1, idx1 t]

theorem idx2 : ∀ t : Fin cfg2.N, win2_0.index t = ![0, 0, 0] ∧ win2_1.index t = ![1, 0, 0] ∧ win2_2.index t = ![2, 0, 0] ∧ win2_3.index t = ![3, 0, 0]
    ∧ win2_4.index t = ![0, 0] := (by decide +kernel : ∀ t : Fin grid2.N, _)

theorem final2 : (dat2 V c).arrAt 4 cfg2.N = total reducesTo_S4x48x256_S48x256_d0 (V c main_arg2) := by
  refine (dat2 V c).arrAt_eq_of_covers 4 _ (by decide +kernel) fun t _ y => ?_
  blk_simp
  rw [after2_4]
  unfold out2_4
  frame_out
  pointwise [k2_pay1, total]
  rw [Fin.sum_univ_four]
  blk_point [iblk2, idx2 t]

theorem idx3 : ∀ t : Fin cfg3.N, win3_0.index t = ![0, 0, 0] ∧ win3_1.index t = ![1, 0, 0] ∧ win3_2.index t = ![2, 0, 0] ∧ win3_3.index t = ![3, 0, 0]
    ∧ win3_4.index t = ![0, 0] := (by decide +kernel : ∀ t : Fin grid3.N, _)

theorem final3 : (dat3 V c).arrAt 4 cfg3.N = total reducesTo_S4x128x256_S128x256_d0 (V c main_arg3) := by
  refine (dat3 V c).arrAt_eq_of_covers 4 _ (by decide +kernel) fun t _ y => ?_
  blk_simp
  rw [after3_4]
  unfold out3_4
  frame_out
  pointwise [k3_pay1, total]
  rw [Fin.sum_univ_four]
  blk_point [iblk3, idx3 t]

theorem idx4 : ∀ t : Fin cfg4.N, win4_0.index t = ![0, 0, t.val] ∧ win4_1.index t = ![1, 0, t.val] ∧ win4_2.index t = ![2, 0, t.val] ∧ win4_3.index t = ![3, 0, t.val]
    ∧ win4_4.index t = ![0, t.val] := (by decide +kernel : ∀ t : Fin grid4.N, _)

theorem final4 : (dat4 V c).arrAt 4 cfg4.N = total reducesTo_S4x1524x1024_S1524x1024_d0 (V c main_arg4) := by
  refine (dat4 V c).arrAt_eq_of_covers 4 _ (by decide +kernel) fun t _ y => ?_
  blk_simp
  rw [after4_4]
  unfold out4_4
  frame_out
  pointwise [k4_pay1, total]
  rw [Fin.sum_univ_four]
  blk_point [iblk4, idx4 t]

end Calls

variable (m : (ℓ : Loc nD τ sig) → Buf (Elt Ideal) ℓ) (ρ : Dev nD → PrngReg) (c : Dev nD)

theorem ends : θ_run defs (onTc (τ := τ) (main (F := Ideal))) ⟨m, fun _ => 0, ρ⟩ (fun r => ∀ c : Dev nD,
      ∀ b ∈ Pipeline.ucRefs τ sig, r.2.mem (((c : Thread nD τ)).1, b) = W5 m ρ c b) :=
  Ends.ends (pcfgs (F := Ideal)) adm (pdats m ρ) cellOf_inj defs₀ 𝒱₀ m ρ main (segs m ρ) (main_run m ρ)
    (by simp only [segs, Pipeline.Seg.pipes_host, Pipeline.Seg.pipes_region, Pipeline.Seg.pipes_nil]; decide)
    (W5 m ρ) ⟨fun _ => .rfl, fun _ => .rfl, fun _ => .rfl, fun _ => .rfl, fun _ => .rfl, fun _ => .rfl⟩

theorem v0_end : W5 m ρ c (Proc.devRef .tc main_v0) = total reducesTo_S4x1024x2048_S1024x2048_d0 (m ((c : Thread nD τ).loc main_arg0)) :=
  (W5_of m ρ c main_v0 (by decide)).trans ((W4_of m ρ c main_v0 (by decide)).trans ((W3_of m ρ c main_v0 (by decide)).trans ((W2_of m ρ c main_v0 (by decide)).trans (
    (W1_arr m ρ c 4).trans ((final0 (V0 m ρ) c).trans (congrArg (total reducesTo_S4x1024x2048_S1024x2048_d0) (W0_args m ρ c main_arg0 (by decide))))))))
theorem v1_end : W5 m ρ c (Proc.devRef .tc main_v1) = total reducesTo_S4x256x2048_S256x2048_d0 (m ((c : Thread nD τ).loc main_arg1)) :=
  (W5_of m ρ c main_v1 (by decide)).trans ((W4_of m ρ c main_v1 (by decide)).trans ((W3_of m ρ c main_v1 (by decide)).trans (
    (W2_arr m ρ c 4).trans ((final1 (V1 m ρ) c).trans (congrArg (total reducesTo_S4x256x2048_S256x2048_d0) (W1_args m ρ c main_arg1 (by decide)))))))
theorem v2_end : W5 m ρ c (Proc.devRef .tc main_v2) = total reducesTo_S4x48x256_S48x256_d0 (m ((c : Thread nD τ).loc main_arg2)) :=
  (W5_of m ρ c main_v2 (by decide)).trans ((W4_of m ρ c main_v2 (by decide)).trans (
    (W3_arr m ρ c 4).trans ((final2 (V2 m ρ) c).trans (congrArg (total reducesTo_S4x48x256_S48x256_d0) (W2_args m ρ c main_arg2 (by decide))))))
theorem v3_end : W5 m ρ c (Proc.devRef .tc main_v3) = total reducesTo_S4x128x256_S128x256_d0 (m ((c : Thread nD τ).loc main_arg3)) :=
  (W5_of m ρ c main_v3 (by decide)).trans (
    (W4_arr m ρ c 4).trans ((final3 (V3 m ρ) c).trans (congrArg (total reducesTo_S4x128x256_S128x256_d0) (W3_args m ρ c main_arg3 (by decide)))))
theorem v4_end : W5 m ρ c (Proc.devRef .tc main_v4) = total reducesTo_S4x1524x1024_S1524x1024_d0 (m ((c : Thread nD τ).loc main_arg4)) :=
  (W5_arr m ρ c 4).trans ((final4 (V4 m ρ) c).trans (congrArg (total reducesTo_S4x1524x1024_S1524x1024_d0) (W4_args m ρ c main_arg4 (by decide))))

/-- The sums are the reference's. -/
theorem algebraic15 : Cert.algebraic_Kernel15Ideal_Reference15Ideal (hKernel15Ideal := facts) (hReference15Ideal := Cert.Reference15Ideal.Gen.facts) := by
  intro m ρ m' ρ' _ hargs
  refine ⟨_, _, _, _, _, (θ_run _ _ _).mono (fun r h c =>
      have hu := fun b hb => h c (Proc.devRef .tc b) (mem_uc b hb)
      ⟨(hu main_v0 (by decide)).trans (v0_end m ρ c), (hu main_v1 (by decide)).trans (v1_end m ρ c),
        (hu main_v2 (by decide)).trans (v2_end m ρ c), (hu main_v3 (by decide)).trans (v3_end m ρ c),
        (hu main_v4 (by decide)).trans (v4_end m ρ c), (hu main_arg0 (by decide)).trans (W5_main_arg0 m ρ c),
        (hu main_arg1 (by decide)).trans (W5_main_arg1 m ρ c), (hu main_arg2 (by decide)).trans (W5_main_arg2 m ρ c),
        (hu main_arg3 (by decide)).trans (W5_main_arg3 m ρ c), (hu main_arg4 (by decide)).trans (W5_main_arg4 m ρ c)⟩) (ends m ρ),
    (θ_run _ _ _).mono (fun r h c => ?_) (Cert.Reference15Ideal.Value.run (F := Ideal) m' ρ')⟩
  obtain ⟨h0, h1, h2, h3, h4, h⟩ := h c
  obtain ⟨a0, a1, a2, a3, a4⟩ := hargs c
  refine ⟨h0.trans ?_, h1.trans ?_, h2.trans ?_, h3.trans ?_, h4.trans ?_, h⟩ <;> simp only [← a0, ← a1, ← a2, ← a3, ← a4]

end Cert.SumSlots

end
-- ==== Proof.SsdPost.lean ====
/- The end of the state-space mixer: the skip connection, the gate and the norm of each half of the columns, from the scan's
   result. The kernel spreads the heads' skip factors over their columns by a product with a one-hot matrix. -/
module

public import proofs.«01_k».proof.Defs
public import proofs.«01_k».proof.Proof.Agree
public import proofs.«01_k».proof.Proof.Gen.Kernel16.Frame
public import proofs.«01_k».proof.Proof.Gen.Kernel16Ideal.Frame
public import proofs.«01_k».proof.Proof.Gen.Reference16Ideal.Run
public import Idealize.ShloMosaic.Lib.Pipeline.ValueKit

@[expose] public section

set_option maxRecDepth 16384

noncomputable section

namespace Cert.SsdPost

open Idealize.ShloMosaic Idealize.ShloMosaic.TcCoe Idealize.SL.Sem Idealize.ShloMosaic.Pointwise

instance preFacts : Cert.Pre_finite_d.Facts := ⟨by decide⟩

section Reference
open Cert.Reference16Ideal Cert.Reference16Ideal.Gen

variable (y : FVec Ideal S4096x1024 .f32) (x : FVec Ideal S4096x1536 .f32) (z : FVec Ideal S4096x1024 .f32) (d : FVec Ideal S1x16 .f32)
  (g : FVec Ideal S1x1024 .f32) (u : FVec Ideal S4096x1024 .f32)

/-- The scan's result and the heads' skips, times the gate, as the reference writes it. -/
def gated : FVec Ideal S4096x1024 .f32 :=
  mulf (shapeCast _ (addf (shapeCast _ y shapeCasts_S4096x1024_S4096x16x64) (mulf (shapeCast _ (extractStridedSlice S4096x1024 ![0, 0] x slices_S4096x1536_S4096x1024_0_0) shapeCasts_S4096x1024_S4096x16x64) (broadcastInDim S4096x16x64 ![0, 1, 2] bcast_S1x16x1_S4096x16x64_0_1_2 (broadcastInDim S1x16x1 ![1, 2] bcast_S16x1_S1x16x1_1_2 (shapeCast _ d shapeCasts_S1x16_S16x1))))) shapeCasts_S4096x16x64_S4096x1024) (mulf z (Host.divf (broadcastInDim S4096x1024 ![] bcast_S_S4096x1024 (constant S_ .f32 0x3F800000#32)) (addf (broadcastInDim S4096x1024 ![] bcast_S_S4096x1024 (constant S_ .f32 0x3F800000#32)) (Host.exp (Host.negf z)))))

/-- The norm of each half of the columns, with the gain, rounded. -/
def normed : FVec Ideal S4096x1024 .bf16 :=
  truncf .bf16 (mulf (shapeCast _ (mulf (shapeCast _ u shapeCasts_S4096x1024_S4096x2x512) (broadcastInDim S4096x2x512 ![0, 1, 2] bcast_S4096x2x1_S4096x2x512_0_1_2 (Host.rsqrt (addf (Host.divf (broadcastInDim S4096x2x1 ![0, 1] bcast_S4096x2_S4096x2x1_0_1 (Host.reduceAdd (mulf (shapeCast _ u shapeCasts_S4096x1024_S4096x2x512) (shapeCast _ u shapeCasts_S4096x1024_S4096x2x512)) (constant S_ .f32 0x00000000#32) reducesTo_S4096x2x512_S4096x2_d2 h_S_)) (broadcastInDim S4096x2x1 ![] bcast_S_S4096x2x1 (constant S_ .f32 0x44000000#32))) (broadcastInDim S4096x2x1 ![] bcast_S_S4096x2x1 (constant S_ .f32 0x358637BD#32)))))) shapeCasts_S4096x2x512_S4096x1024) (broadcastInDim S4096x1024 ![0, 1] bcast_S1x1024_S4096x1024_0_1 g)) bitsLt_bf16_f32

/-- An entry of a row normed over its half of the columns. -/
def unit (v : Fin 1024 → EReal) (c : Fin 1024) : EReal :=
  v c * Ideal.rsqrt (Ideal.div (∑ l : Fin 512, v ⟨c.val / 512 * 512 + l.val, by omega⟩ * v ⟨c.val / 512 * 512 + l.val, by omega⟩)
    (Ideal.ofBits .f32 0x44000000#32) + Ideal.ofBits .f32 0x358637BD#32)

theorem gated_at (r : Fin 4096) (c : Fin 1024) : (gated y x z d (ix2 r c) : EReal)
    = (y (ix2 r c) + x (ix2 r ⟨c.val, by omega⟩) * d (ix2 0 ⟨c.val / 64, by omega⟩)) * (z (ix2 r c) * Ideal.div 1 (1 + Ideal.exp (-z (ix2 r c)))) := by
  pointwise [gated]

theorem normed_at (r : Fin 4096) (c : Fin 1024) : (normed g u (ix2 r c) : EReal) = unit (fun k => u (ix2 r k)) c * g (ix2 0 c) := by
  pointwise [normed, unit]

end Reference

section Kernel
open Cert.Kernel16Ideal Cert.Kernel16Ideal.Gen

variable (v0 v1 v2 : FVec Ideal S256x1024 .f32) (v3 : FVec Ideal S1x128 .f32) (v5 : FVec Ideal S1x1024 .f32)

/-- The one-hot matrix: a column's row is its head. -/
theorem sel (k : Fin 128) (c : Fin 1024) : (k0_pay3 (F := Ideal) (ix2 k c) : EReal) = if c.val / 64 = k.val then 1 else 0 := by
  have word : ∀ c : Fin 1024, Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 c.val) 64#32) 0#32))
            (IntOp.subi (IntOp.divsi ArithUnit.vector (BitVec.ofNat 32 c.val) 64#32) 1#32)
            (IntOp.divsi ArithUnit.vector (BitVec.ofNat 32 c.val) 64#32) = BitVec.ofNat 32 (c.val / 64) := by decide +kernel
  have same : ∀ a : Fin 16, ∀ k : Fin 128, BitVec.setWidth 32 (IntOp.cmpi .eq (BitVec.ofNat 32 a.val) (BitVec.ofNat 32 k.val))
      = if a.val = k.val then 1#32 else 0#32 := by decide +kernel
  delta k0_pay3
  pointwise
  rw [word c, same ⟨c.val / 64, by omega⟩ k]
  show (((if c.val / 64 = k.val then 1#32 else 0#32 : BitVec 32).toInt : ℝ) : EReal) = _
  split <;> simp

theorem eighth : Ideal.ofBits .f32 0x3E000000#32 = (((1 : ℝ) / 8 : ℝ) : EReal) := by
  simp [Ideal.ofBits, Ideal.ieee, -EReal.coe_mul]; norm_num

/-- The gated rows of a block, where the skip factors are real. -/
theorem mixed (hd : ∀ k, ∃ w : ℝ, (v3 (ix2 0 k) : EReal) = (w : EReal)) (r : Fin 256) (c : Fin 1024) :
    (k0_pay7 v0 v1 v2 (k0_pay3 (F := Ideal)) (k0_pay4 v3) (k0_pay5 v3) (k0_pay6 v3) (ix2 r c) : EReal)
      = (v0 (ix2 r c) + v1 (ix2 r c) * v3 (ix2 0 ⟨c.val / 64, by omega⟩)) * (v2 (ix2 r c) * Ideal.div 1 (1 + Ideal.exp (-v2 (ix2 r c)))) := by
  have gone : ∀ k, (v3 (ix2 0 k) - v3 (ix2 0 k) : EReal) = 0 := fun k => by
    obtain ⟨w, hw⟩ := hd k
    rw [hw, ← EReal.coe_sub, sub_self, EReal.coe_zero]
  have pick : (∑ k : Fin 128, (v3 (ix2 0 k) : EReal) * if c.val / 64 = k.val then 1 else 0) = v3 (ix2 0 ⟨c.val / 64, by omega⟩) := by
    rw [Finset.sum_eq_single (⟨c.val / 64, by omega⟩ : Fin 128)]
    · rw [if_pos rfl, mul_one]
    · intro k _ hk
      rw [if_neg fun h => hk (Fin.ext h.symm), mul_zero]
    · exact fun h => absurd (Finset.mem_univ _) h
  delta k0_pay7 k0_pay6 k0_pay5 k0_pay4 k0_pay2
  pointwise
  simp only [sel, gone, sub_zero, zero_mul, Finset.sum_const_zero, add_zero, pick, zero_sub, eighth]
  obtain ⟨w, hw⟩ := hd ⟨c.val / 64, by omega⟩
  have copies : (∑ _k : Fin 8, (v3 (ix2 0 ⟨c.val / 64, by omega⟩) : EReal)) * (((1 : ℝ) / 8 : ℝ) : EReal) = v3 (ix2 0 ⟨c.val / 64, by omega⟩) := by
    rw [hw, Finset.sum_const, Finset.card_univ, Fintype.card_fin, ← EReal.coe_nsmul, ← EReal.coe_mul]
    congr 1
    simp only [nsmul_eq_mul]
    ring
  rw [copies]

/-- What the kernel stores: the gated rows normed over their halves, times the gain. -/
theorem stored (u : FVec Ideal S256x1024 .f32) (a : FVec Ideal S128x1024 .bf16) (b d e) (h : k0_pay7 v0 v1 v2 a b d e = u) (r : Fin 256) (c : Fin 1024) :
    (k0_pay1 v5 (k0_pay8 v0 v1 v2 a b d e) (k0_pay9 v0 v1 v2 a b d e) (ix2 r c) : EReal) = unit (fun k => u (ix2 r k)) c * v5 (ix2 0 c) := by
  have left (l : Fin 512) : (k0_pay8 v0 v1 v2 a b d e (ix2 r l) : EReal) = u (ix2 r ⟨l.val, by omega⟩) * Ideal.rsqrt
      (Ideal.div (∑ x : Fin 512, u (ix2 r ⟨x.val, by omega⟩) * u (ix2 r ⟨x.val, by omega⟩)) (Ideal.ofBits .f32 0x44000000#32) + Ideal.ofBits .f32 0x358637BD#32) := by
    delta k0_pay8
    rw [h]
    pointwise
  have right (l : Fin 512) : (k0_pay9 v0 v1 v2 a b d e (ix2 r l) : EReal) = u (ix2 r ⟨512 + l.val, by omega⟩) * Ideal.rsqrt
      (Ideal.div (∑ x : Fin 512, u (ix2 r ⟨512 + x.val, by omega⟩) * u (ix2 r ⟨512 + x.val, by omega⟩)) (Ideal.ofBits .f32 0x44000000#32) + Ideal.ofBits .f32 0x358637BD#32) := by
    delta k0_pay9
    rw [h]
    pointwise
  pointwise [k0_pay1]
  congr 1
  unfold unit
  by_cases hc : c.val < 512
  · rw [dif_pos hc, left]
    have h0 : ∀ l : Fin 512, (⟨c.val / 512 * 512 + l.val, by omega⟩ : Fin 1024) = ⟨l.val, by omega⟩ := fun l => Fin.ext (by simp only; omega)
    simp only [h0]
  · rw [dif_neg hc, right]
    have h0 : ∀ l : Fin 512, (⟨c.val / 512 * 512 + l.val, by omega⟩ : Fin 1024) = ⟨512 + l.val, by omega⟩ := fun l => Fin.ext (by simp only; omega)
    have h1 : (⟨512 + (c.val - 512), by omega⟩ : Fin 1024) = c := Fin.ext (by simp only; omega)
    simp only [h0, h1]

variable (m : (ℓ : Loc nD τ sig) → Buf (Elt Ideal) ℓ) (c : Dev nD)

/-- The skip factors as the kernel finds them: sixteen, then zeros. -/
def skips (d : FVec Ideal S1x16 .f32) : FVec Ideal S1x128 .f32 :=
  pad S1x128 ![0, 0] ![0, 112] ![0, 0] d (sitofp .f32 (constantI S_ 32 0#32)) pads_S1x16_S1x128_000_01120 h_S_

theorem skips_at (d : FVec Ideal S1x16 .f32) (k : Fin 128) : (skips d (ix2 0 k) : EReal) = if h : k.val < 16 then d (ix2 0 ⟨k.val, h⟩) else 0 := by
  have none : (FloatOps.sitofp (F := Ideal) .f32 0#32 : EReal) = 0 := by
    show (((0#32 : BitVec 32).toInt : ℝ) : EReal) = 0
    simp
  pointwise [skips]
  rw [none]

theorem padded : V m c main_v0 = skips (m ((c : Thread nD τ).loc main_arg3)) := by
  unfold V
  simp only [List.flatten_cons, List.flatten_nil, List.append_nil, hostOps0, hostOps0_1, List.cons_append, List.nil_append]
  after_results
  rfl

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] := (by decide +kernel : ∀ t : Fin grid0.N, _)

theorem final5 (d : FVec Ideal S1x16 .f32) (ed : m ((c : Thread nD τ).loc main_arg3) = d) (hd : ∀ i, ∃ w : ℝ, (d i : EReal) = (w : EReal)) :
    (dats m 0 c).arrAt 5 cfg0.N = normed (m ((c : Thread nD τ).loc main_arg4)) (gated (m ((c : Thread nD τ).loc main_arg0))
      (m ((c : Thread nD τ).loc main_arg1)) (m ((c : Thread nD τ).loc main_arg2)) d) := by
  refine (dats m 0 c).arrAt_eq_of_covers 5 _ (by decide +kernel) fun t _ y => ?_
  blk_simp
  rw [after0_5]
  unfold outsAt0
  frame_out
  have ht : t.val < 16 := lt_of_lt_of_eq t.isLt N_0
  have h0 : (y 0).val < 256 := (y 0).isLt
  have hy : y = ix2 (⟨(y 0).val, h0⟩ : Fin 256) (⟨(y 1).val, (y 1).isLt⟩ : Fin 1024) := by blk_ext
  have hz : ((View.whole main_v1).slice (win0_5.rect t)).emb y
      = ix2 (⟨t.val * 256 + (y 0).val, by omega⟩ : Fin 4096) (⟨(y 1).val, (y 1).isLt⟩ : Fin 1024) := by blk_ext [idx t]
  have e0 (k : Fin 1024) : (iblk m c 0 t : FVec Ideal S256x1024 .f32) (ix2 (⟨(y 0).val, h0⟩ : Fin 256) k)
      = (m ((c : Thread nD τ).loc main_arg0) : FVec Ideal S4096x1024 .f32) (ix2 (⟨t.val * 256 + (y 0).val, by omega⟩ : Fin 4096) k) := by
    refine Eq.trans ?_ (congrFun (V_main_arg0 m c) _)
    blk_point [iblk, idx t]
  have e1 (k : Fin 1024) : (X0_1 m c t : FVec Ideal S256x1024 .f32) (ix2 (⟨(y 0).val, h0⟩ : Fin 256) k)
      = (m ((c : Thread nD τ).loc main_arg1) : FVec Ideal S4096x1536 .f32) (ix2 (⟨t.val * 256 + (y 0).val, by omega⟩ : Fin 4096) ⟨k.val, by omega⟩) := by
    refine Eq.trans ?_ (congrFun (V_main_arg1 m c) _)
    unfold X0_1 Pipeline.Window.fill
    rw [dif_pos (moved0_1 t _)]
    blk_point [iblk, idx t]
  have e2 (k : Fin 1024) : (iblk m c 2 t : FVec Ideal S256x1024 .f32) (ix2 (⟨(y 0).val, h0⟩ : Fin 256) k)
      = (m ((c : Thread nD τ).loc main_arg2) : FVec Ideal S4096x1024 .f32) (ix2 (⟨t.val * 256 + (y 0).val, by omega⟩ : Fin 4096) k) := by
    refine Eq.trans ?_ (congrFun (V_main_arg2 m c) _)
    blk_point [iblk, idx t]
  have e3 : (iblk m c 3 t : FVec Ideal S1x128 .f32) = skips d := by
    rw [← ed, ← padded m c]
    funext j
    blk_point [iblk, idx t]
  have e4 : (iblk m c 4 t : FVec Ideal S1x1024 .f32) = m ((c : Thread nD τ).loc main_arg4) := by
    rw [← V_main_arg4 m c]
    funext j
    blk_point [iblk, idx t]
  have real (k : Fin 128) : ∃ w : ℝ, (skips d (ix2 0 k) : EReal) = (w : EReal) := by
    rw [skips_at]
    split
    · exact hd _
    · exact ⟨0, rfl⟩
  rw [hz, e3, e4]
  refine (congrArg _ hy).trans ((stored _ _ _ _ _ _ _ _ _ rfl _ _).trans ?_)
  rw [normed_at]
  congr 2
  funext k
  rw [mixed _ _ _ _ real, gated_at, e0, e1, e2, skips_at, dif_pos (show k.val / 64 < 16 by omega)]

/-- The precondition, read: the skip factors are real. -/
theorem skips_real (y x z) (d : FVec Ideal S1x16 .f32) (g) (h : Cert.Pre_finite_d.fn (F := Ideal) y x z d g = fun _ => 1#1) (i) :
    ∃ w : ℝ, (d i : EReal) = (w : EReal) :=
  Agree.real_of_lt d _ (fun _ => Agree.inf_at) h i

/-- The result is the reference's where the skip factors are real. -/
theorem algebraic16 : Cert.algebraic_Kernel16Ideal_Reference16Ideal_pre_finite_d (hKernel16Ideal := facts)
    (hReference16Ideal := Cert.Reference16Ideal.Gen.facts) (hPre_finite_d := preFacts) := by
  intro m ρ m' ρ' hpre hargs
  refine ⟨_, (θ_run _ _ _).mono (fun r h c => ⟨(h.1 c).trans (final5 m c _ rfl (skips_real _ _ _ _ _ (hpre c))), h.2 c⟩)
      (θ_run_and ((θ_run defs _ _).mono (fun r h c => (h c).1 5) (run_main m ρ)) (unchanged m ρ)),
    (θ_run _ _ _).mono (fun r h c => ?_) (Cert.Reference16Ideal.Value.run (F := Ideal) m' ρ')⟩
  obtain ⟨h0, h⟩ := h c
  obtain ⟨a0, a1, a2, a3, a4⟩ := hargs c
  refine ⟨h0.trans ?_, h⟩
  simp only [← a0, ← a1, ← a2, ← a3, ← a4]
  rfl

end Kernel
end Cert.SsdPost
end
-- ==== Proof.RwkvPost.lean ====
/- The end of the RWKV mixer: the norm of each head's outputs, the bonus and the gate, from the scan's result. The kernel sums
   a head's columns, and spreads a head's sum over its columns, by products with one-hot matrices. -/
module

public import proofs.«01_k».proof.Defs
public import proofs.«01_k».proof.Proof.Agree
public import proofs.«01_k».proof.Proof.Gen.Kernel17.Frame
public import proofs.«01_k».proof.Proof.Gen.Kernel17Ideal.Frame
public import proofs.«01_k».proof.Proof.Gen.Reference17Ideal.Run
public import Idealize.ShloMosaic.Lib.Pipeline.ValueKit

@[expose] public section

set_option maxRecDepth 16384

noncomputable section

namespace Cert.RwkvPost

open Idealize.ShloMosaic Idealize.ShloMosaic.TcCoe Idealize.SL.Sem Idealize.ShloMosaic.Pointwise

section Heads

/-- The sum of the columns of a column's head. -/
def headSum (v : Fin 1024 → EReal) (c : Fin 1024) : EReal := ∑ l : Fin 64, v ⟨c.val / 64 * 64 + l.val, by omega⟩

/-- The sum of a head's columns by the one-hot matrix. -/
def picked (v : Fin 1024 → EReal) (k : Fin 128) : EReal := ∑ c : Fin 1024, v c * if c.val / 64 = k.val then 1 else 0

theorem picked_eq (v : Fin 1024 → EReal) (c : Fin 1024) : picked v ⟨c.val / 64, by omega⟩ = headSum v c := by
  unfold picked headSum
  rw [← (finProdFinEquiv (m := 16) (n := 64)).sum_comp, Fintype.sum_prod_type, Finset.sum_eq_single (⟨c.val / 64, by omega⟩ : Fin 16)]
  · refine Finset.sum_congr rfl fun l _ => ?_
    have h : ((finProdFinEquiv ((⟨c.val / 64, by omega⟩ : Fin 16), l) : Fin (16 * 64)) : ℕ) = c.val / 64 * 64 + l.val := by
      simp only [finProdFinEquiv_apply_val]; omega
    rw [if_pos (by rw [h]; simp only; omega), mul_one]
    exact congrArg v (Fin.ext h)
  · intro a _ ha
    refine Finset.sum_eq_zero fun l _ => ?_
    have h : ((finProdFinEquiv (a, l) : Fin (16 * 64)) : ℕ) = a.val * 64 + l.val := by
      simp only [finProdFinEquiv_apply_val]; omega
    rw [if_neg fun e => ha (Fin.ext (by simp only [h] at e; simp only; omega)), mul_zero]
  · exact fun h => absurd (Finset.mem_univ _) h

/-- What the one-hot matrix spreads: a column's head's entry. -/
theorem spread (y : Fin 128 → EReal) (c : Fin 1024) : (∑ k : Fin 128, y k * if c.val / 64 = k.val then 1 else 0) = y ⟨c.val / 64, by omega⟩ := by
  rw [Finset.sum_eq_single (⟨c.val / 64, by omega⟩ : Fin 128)]
  · rw [if_pos rfl, mul_one]
  · intro k _ hk
    rw [if_neg fun h => hk (Fin.ext h.symm), mul_zero]
  · exact fun h => absurd (Finset.mem_univ _) h

theorem sub_gone {x : EReal} (h : ∃ w : ℝ, x = (w : EReal)) : x - x = 0 := by
  obtain ⟨w, rfl⟩ := h
  rw [← EReal.coe_sub, sub_self, EReal.coe_zero]

theorem sum_real {ι : Type} [Fintype ι] (f : ι → EReal) (h : ∀ i, ∃ w : ℝ, f i = (w : EReal)) : ∃ w : ℝ, ∑ i, f i = (w : EReal) := by
  choose g hg using h
  refine ⟨∑ i, g i, ?_⟩
  simp only [hg]
  exact (map_sum (⟨⟨Real.toEReal, EReal.coe_zero⟩, EReal.coe_add⟩ : ℝ →+ EReal) g Finset.univ).symm

theorem picked_real (v : Fin 1024 → EReal) (h : ∀ c, ∃ w : ℝ, v c = (w : EReal)) (k : Fin 128) : ∃ w : ℝ, picked v k = (w : EReal) :=
  sum_real _ fun c => by
    obtain ⟨w, hw⟩ := h c
    refine ⟨w * if c.val / 64 = k.val then 1 else 0, ?_⟩
    rw [hw]
    split <;> simp

theorem headSum_real (v : Fin 1024 → EReal) (h : ∀ c, ∃ w : ℝ, v c = (w : EReal)) (c : Fin 1024) : ∃ w : ℝ, headSum v c = (w : EReal) :=
  sum_real _ fun _ => h _

/-- The kernel's sum of the three parts of each entry, where the entries are real. -/
theorem parts {n : ℕ} (v s : Fin n → EReal) (h : ∀ c, ∃ w : ℝ, v c = (w : EReal)) :
    ∑ c, v c * s c + ∑ c, (v c - v c) * s c + ∑ c, (v c - v c - (v c - v c)) * s c = ∑ c, v c * s c := by
  have z (c) : v c - v c = 0 := sub_gone (h c)
  simp only [z, sub_zero, zero_mul, Finset.sum_const_zero, add_zero]

/-- An entry less the mean of its head. -/
def centred (v : Fin 1024 → EReal) (c : Fin 1024) : EReal := v c - Ideal.div (headSum v c) (Ideal.ofBits .f32 0x42800000#32)

/-- An entry normed over its head. -/
def unit (v : Fin 1024 → EReal) (c : Fin 1024) : EReal :=
  centred v c * Ideal.rsqrt (Ideal.div (headSum (fun l => centred v l * centred v l) c) (Ideal.ofBits .f32 0x42800000#32) + Ideal.ofBits .f32 0x3A27C5AC#32)

theorem width : Ideal.ofBits .f32 0x42800000#32 = ((64 : ℝ) : EReal) := by
  simp [Ideal.ofBits, Ideal.ieee, -EReal.coe_mul]; norm_num

theorem width_inv : Ideal.ofBits .f32 0x3C800000#32 = (((1 : ℝ) / 64 : ℝ) : EReal) := by
  simp [Ideal.ofBits, Ideal.ieee, -EReal.coe_mul]; norm_num

/-- The kernel multiplies by a sixty-fourth, the reference divides by sixty-four. -/
theorem mean_eq (x : EReal) : x * Ideal.ofBits .f32 0x3C800000#32 = Ideal.div x (Ideal.ofBits .f32 0x42800000#32) := by
  rw [width, width_inv, Ideal.div_coe (by norm_num)]

theorem centred_real (v : Fin 1024 → EReal) (h : ∀ c, ∃ w : ℝ, v c = (w : EReal)) (c : Fin 1024) : ∃ w : ℝ, centred v c = (w : EReal) := by
  obtain ⟨a, ha⟩ := h c
  obtain ⟨b, hb⟩ := headSum_real v h c
  refine ⟨a - b * (1 / 64), ?_⟩
  unfold centred
  rw [← mean_eq, width_inv, ha, hb, ← EReal.coe_mul, ← EReal.coe_sub]

theorem mul_real {x y : EReal} (hx : ∃ w : ℝ, x = (w : EReal)) (hy : ∃ w : ℝ, y = (w : EReal)) : ∃ w : ℝ, x * y = (w : EReal) := by
  obtain ⟨a, rfl⟩ := hx
  obtain ⟨b, rfl⟩ := hy
  exact ⟨a * b, (EReal.coe_mul a b).symm⟩

end Heads

section Reference
open Cert.Reference17Ideal Cert.Reference17Ideal.Gen

variable (y r k v g : FVec Ideal S4096x1024 .f32) (q : FVec Ideal S16x64 .f32) (w b : FVec Ideal S1x1024 .f32)

/-- The scan's result less each head's mean, as the reference writes it. -/
def heads : FVec Ideal S4096x16x64 .f32 :=
  subf (shapeCast _ y shapeCasts_S4096x1024_S4096x16x64) (broadcastInDim S4096x16x64 ![0, 1, 2] bcast_S4096x16x1_S4096x16x64_0_1_2 (Host.divf (broadcastInDim S4096x16x1 ![0, 1] bcast_S4096x16_S4096x16x1_0_1 (Host.reduceAdd (shapeCast _ y shapeCasts_S4096x1024_S4096x16x64) (constant S_ .f32 0x00000000#32) reducesTo_S4096x16x64_S4096x16_d2 h_S_)) (broadcastInDim S4096x16x1 ![] bcast_S_S4096x16x1 (constant S_ .f32 0x42800000#32))))

/-- That over the head's deviation. -/
def normed (u : FVec Ideal S4096x16x64 .f32) : FVec Ideal S4096x1024 .f32 :=
  shapeCast _ (mulf u (broadcastInDim S4096x16x64 ![0, 1, 2] bcast_S4096x16x1_S4096x16x64_0_1_2 (Host.rsqrt (addf (Host.divf (broadcastInDim S4096x16x1 ![0, 1] bcast_S4096x16_S4096x16x1_0_1 (Host.reduceAdd (mulf u u) (constant S_ .f32 0x00000000#32) reducesTo_S4096x16x64_S4096x16_d2 h_S_)) (broadcastInDim S4096x16x1 ![] bcast_S_S4096x16x1 (constant S_ .f32 0x42800000#32))) (broadcastInDim S4096x16x1 ![] bcast_S_S4096x16x1 (constant S_ .f32 0x3A27C5AC#32)))))) shapeCasts_S4096x16x64_S4096x1024

/-- The head's sum of the products, times the values. -/
def bonus : FVec Ideal S4096x1024 .f32 :=
  shapeCast _ (mulf (broadcastInDim S4096x16x64 ![0, 1, 2] bcast_S4096x16x1_S4096x16x64_0_1_2 (broadcastInDim S4096x16x1 ![0, 1] bcast_S4096x16_S4096x16x1_0_1 (Host.reduceAdd (mulf (mulf (shapeCast _ r shapeCasts_S4096x1024_S4096x16x64) (shapeCast _ k shapeCasts_S4096x1024_S4096x16x64)) (broadcastInDim S4096x16x64 ![0, 1, 2] bcast_S1x16x64_S4096x16x64_0_1_2 (broadcastInDim S1x16x64 ![1, 2] bcast_S16x64_S1x16x64_1_2 q))) (constant S_ .f32 0x00000000#32) reducesTo_S4096x16x64_S4096x16_d2 h_S_))) (shapeCast _ v shapeCasts_S4096x1024_S4096x16x64)) shapeCasts_S4096x16x64_S4096x1024

/-- The result. -/
def mixed : FVec Ideal S4096x1024 .bf16 :=
  truncf .bf16 (mulf (addf (addf (mulf (normed (heads y)) (broadcastInDim S4096x1024 ![0, 1] bcast_S1x1024_S4096x1024_0_1 w)) (broadcastInDim S4096x1024 ![0, 1] bcast_S1x1024_S4096x1024_0_1 b)) (bonus r k v q)) g) bitsLt_bf16_f32

/-- The factors of the products, by column. -/
def factor (c : Fin 1024) : EReal := q (ix2 ⟨c.val / 64, by omega⟩ ⟨c.val % 64, by omega⟩)

theorem heads_at (i : Fin 4096) (h : Fin 16) (l : Fin 64) : (heads y (ix3 i h l) : EReal) = centred (fun c => y (ix2 i c)) ⟨h.val * 64 + l.val, by omega⟩ := by
  pointwise [heads, centred, headSum]
  have e : (h.val * 64 + l.val) / 64 = h.val := by omega
  simp only [e]

theorem mixed_at (i : Fin 4096) (c : Fin 1024) : (mixed y r k v g q w b (ix2 i c) : EReal)
    = (unit (fun l => y (ix2 i l)) c * w (ix2 0 c) + b (ix2 0 c) + headSum (fun l => r (ix2 i l) * k (ix2 i l) * factor q l) c * v (ix2 i c)) * g (ix2 i c) := by
  pointwise [mixed, normed, bonus, unit, headSum, factor]
  have e (x : Fin 64) : (c.val / 64 * 64 + x.val) / 64 = c.val / 64 := by omega
  have e' (x : Fin 64) : (c.val / 64 * 64 + x.val) % 64 = x.val := by omega
  have e'' : (⟨c.val / 64 * 64 + c.val % 64, by omega⟩ : Fin 1024) = c := Fin.ext (by simp only; omega)
  simp only [heads_at, e, e', e'']

end Reference

section Kernel
open Cert.Kernel17Ideal Cert.Kernel17Ideal.Gen

variable (v0 v1 v2 v3 v4 : FVec Ideal S256x1024 .f32) (v5 v7 v8 : FVec Ideal S1x1024 .f32)

/-- An entry of the one-hot matrices, as the kernel computes it. -/
theorem onehot (c : Fin 1024) (k : Fin 128) : (FloatOps.sitofp (F := Ideal) FTy.f32
      (BitVec.setWidth 32
        (IntOp.cmpi CmpIPredicate.eq
          (Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 c.val) 64#32) 0#32))
            (IntOp.subi (IntOp.divsi ArithUnit.vector (BitVec.ofNat 32 c.val) 64#32) 1#32)
            (IntOp.divsi ArithUnit.vector (BitVec.ofNat 32 c.val) 64#32))
          (BitVec.ofNat 32 k.val))) : EReal) = if c.val / 64 = k.val then 1 else 0 := by
  have word : ∀ c : Fin 1024, Scalar.select
            (IntOp.andi
              (IntOp.cmpi CmpIPredicate.ne
                (IntOp.subi (BitVec.setWidth 32 (IntOp.cmpi CmpIPredicate.sgt (BitVec.ofNat 32 c.val) 0#32))
                  (BitVec.setWidth 32 (IntOp.cmpi CmpIPredicate.slt (BitVec.ofNat 32 c.val) 0#32)))
                (Scalar.subi (Scalar.extui (Scalar.cmpi CmpIPredicate.sgt 64#32 0#32))
                  (Scalar.extui (Scalar.cmpi CmpIPredicate.slt 64#32 0#32))))
              (IntOp.cmpi CmpIPredicate.ne (IntOp.remsi ArithUnit.vector (BitVec.ofNat 32 c.val) 64#32) 0#32))
            (IntOp.subi (IntOp.divsi ArithUnit.vector (BitVec.ofNat 32 c.val) 64#32) 1#32)
            (IntOp.divsi ArithUnit.vector (BitVec.ofNat 32 c.val) 64#32) = BitVec.ofNat 32 (c.val / 64) := by decide +kernel
  have same : ∀ a : Fin 16, ∀ k : Fin 128, BitVec.setWidth 32 (IntOp.cmpi .eq (BitVec.ofNat 32 a.val) (BitVec.ofNat 32 k.val))
      = if a.val = k.val then 1#32 else 0#32 := by decide +kernel
  rw [word c, same ⟨c.val / 64, by omega⟩ k]
  show (((if c.val / 64 = k.val then 1#32 else 0#32 : BitVec 32).toInt : ℝ) : EReal) = _
  split <;> simp

theorem spreader (k : Fin 128) (c : Fin 1024) : (k0_pay5 (F := Ideal) (ix2 k c) : EReal) = if c.val / 64 = k.val then 1 else 0 := by
  delta k0_pay5
  pointwise
  exact onehot c k

theorem summer (k : Fin 128) (c : Fin 1024) : (k0_pay12 (F := Ideal) (ix2 c k) : EReal) = if c.val / 64 = k.val then 1 else 0 := by
  delta k0_pay12
  pointwise
  exact onehot c k

theorem summer' (k : Fin 128) (c : Fin 1024) : (k0_pay20 (F := Ideal) (ix2 c k) : EReal) = if c.val / 64 = k.val then 1 else 0 := by
  delta k0_pay20
  pointwise
  exact onehot c k

/-- Each head's sum, from real entries. -/
theorem sums (r : Fin 256) (h : ∀ c, ∃ w : ℝ, (v0 (ix2 r c) : EReal) = (w : EReal)) (k : Fin 128) :
    (k0_pay4 (F := Ideal) v0 k0_pay3 (ix2 r k) : EReal) = picked (fun c => v0 (ix2 r c)) k := by
  delta k0_pay4 k0_pay3
  pointwise
  simp only [onehot]
  exact parts _ _ h

theorem centre (r : Fin 256) (h : ∀ c, ∃ w : ℝ, (v0 (ix2 r c) : EReal) = (w : EReal)) (c : Fin 1024) :
    (k0_pay10 v0 (k0_pay5 (F := Ideal)) (k0_pay6 v0 k0_pay3) (k0_pay7 v0 k0_pay3) (k0_pay8 v0 k0_pay3) (k0_pay9 v0 k0_pay3) (ix2 r c) : EReal)
      = centred (fun c => v0 (ix2 r c)) c := by
  delta k0_pay10 k0_pay9 k0_pay8 k0_pay7 k0_pay6
  pointwise
  simp only [spreader, sums v0 r h]
  rw [parts _ _ (picked_real _ h), spread, picked_eq, mean_eq]
  rfl

/-- The sum of each head's columns, spread over them, from real entries given in three parts. -/
theorem spreads (a b d e f) (r : Fin 256) (w : Fin 1024 → EReal) (hw : ∀ c, ∃ x : ℝ, w c = (x : EReal))
    (ha : ∀ c k, (a (ix2 c k) : EReal) = if c.val / 64 = k.val then 1 else 0)
    (hb : ∀ c, (b (ix2 r c) : EReal) = w c) (hd : ∀ c, (d (ix2 r c) : EReal) = w c - w c) (he : ∀ c, (e (ix2 r c) : EReal) = w c - w c - (w c - w c))
    (hf : ∀ k, (f (ix2 r k) : EReal) = 0) (c : Fin 1024) :
    (k0_pay17 (F := Ideal) a b d e f (ix2 r c) : EReal) = headSum w c := by
  delta k0_pay17
  pointwise
  simp only [onehot, ha, hb, hd, he, hf, zero_add, parts w _ hw]
  refine (parts (picked w) _ (picked_real _ hw)).trans ?_
  rw [spread, picked_eq]

theorem deviations (u : FVec Ideal S256x1024 .f32) (a b d e f) (h : k0_pay10 v0 a b d e f = u) (r : Fin 256)
    (hu : ∀ c, ∃ x : ℝ, (u (ix2 r c) : EReal) = (x : EReal)) (c : Fin 1024) :
    (k0_pay17 (F := Ideal) k0_pay12 (k0_pay13 v0 a b d e f) (k0_pay15 v0 a b d e f) (k0_pay16 v0 a b d e f) (constant S256x128 .f32 0x00000000#32) (ix2 r c) : EReal)
      = headSum (fun c => u (ix2 r c) * u (ix2 r c)) c := by
  refine spreads _ _ _ _ _ r _ (fun c => mul_real (hu c) (hu c)) (fun c k => summer k c) (fun c => ?_) (fun c => ?_) (fun c => ?_) (fun k => ?_) c
  · delta k0_pay13 k0_pay11
    rw [h]
    pointwise
  · delta k0_pay15 k0_pay14 k0_pay13 k0_pay11
    rw [h]
    pointwise
  · delta k0_pay16 k0_pay15 k0_pay14 k0_pay13 k0_pay11
    rw [h]
    pointwise
  · pointwise

theorem bonuses (r : Fin 256) (h : ∀ c, ∃ x : ℝ, (v1 (ix2 r c) * v2 (ix2 r c) * v5 (ix2 0 c) : EReal) = (x : EReal)) (n : FVec Ideal S256x1024 .f32) (c : Fin 1024) :
    (k0_pay26 (F := Ideal) v3 n k0_pay20 (k0_pay23 v1 v2 (k0_pay2 v5)) (k0_pay24 v1 v2 (k0_pay2 v5)) (k0_pay25 v1 v2 (k0_pay2 v5)) (ix2 r c) : EReal)
      = n (ix2 r c) + headSum (fun c => v1 (ix2 r c) * v2 (ix2 r c) * v5 (ix2 0 c)) c * v3 (ix2 r c) := by
  delta k0_pay26 k0_pay25 k0_pay24 k0_pay23 k0_pay22 k0_pay21 k0_pay19 k0_pay2
  pointwise
  simp only [onehot, summer', parts (fun c => v1 (ix2 r c) * v2 (ix2 r c) * v5 (ix2 0 c)) _ h]
  congr 2
  refine (parts (picked fun c => v1 (ix2 r c) * v2 (ix2 r c) * v5 (ix2 0 c)) _ (picked_real _ h)).trans ?_
  rw [spread, picked_eq]

/-- What the kernel stores. -/
theorem stored (r : Fin 256) (h : ∀ c, ∃ w : ℝ, (v0 (ix2 r c) : EReal) = (w : EReal))
    (hp : ∀ c, ∃ x : ℝ, (v1 (ix2 r c) * v2 (ix2 r c) * v5 (ix2 0 c) : EReal) = (x : EReal))
    (u n : FVec Ideal S256x1024 .f32) (a b d e f) (ea : k0_pay5 (F := Ideal) = a) (eb : k0_pay6 v0 k0_pay3 = b) (ed : k0_pay7 v0 k0_pay3 = d)
    (ee : k0_pay8 v0 k0_pay3 = e) (ef : k0_pay9 v0 k0_pay3 = f) (eu : k0_pay10 v0 a b d e f = u)
    (en : k0_pay18 v7 v8 u (k0_pay17 (F := Ideal) k0_pay12 (k0_pay13 v0 a b d e f) (k0_pay15 v0 a b d e f) (k0_pay16 v0 a b d e f) (constant S256x128 .f32 0x00000000#32)) (FloatOps.ofBits .f32 0x3C800000#32) = n) (c : Fin 1024) :
    (k0_pay1 v4 (k0_pay26 (F := Ideal) v3 n k0_pay20 (k0_pay23 v1 v2 (k0_pay2 v5)) (k0_pay24 v1 v2 (k0_pay2 v5)) (k0_pay25 v1 v2 (k0_pay2 v5))) (ix2 r c) : EReal)
      = (unit (fun l => v0 (ix2 r l)) c * v7 (ix2 0 c) + v8 (ix2 0 c) + headSum (fun l => v1 (ix2 r l) * v2 (ix2 r l) * v5 (ix2 0 l)) c * v3 (ix2 r c)) * v4 (ix2 r c) := by
  have hu (c) : (u (ix2 r c) : EReal) = centred (fun c => v0 (ix2 r c)) c := by
    rw [← eu, ← ea, ← eb, ← ed, ← ee, ← ef]
    exact centre v0 r h c
  have hn : (n (ix2 r c) : EReal) = unit (fun l => v0 (ix2 r l)) c * v7 (ix2 0 c) + v8 (ix2 0 c) := by
    rw [← en]
    pointwise [k0_pay18]
    rw [deviations v0 u a b d e f eu r (fun c => hu c ▸ centred_real _ h c), mean_eq]
    simp only [hu]
    rfl
  pointwise [k0_pay1]
  rw [bonuses v1 v2 v3 v5 r hp n c, hn]

variable (m : (ℓ : Loc nD τ sig) → Buf (Elt Ideal) ℓ) (c : Dev nD)

/-- The products' factors as the kernel finds them: one row. -/
def row (q : FVec Ideal S16x64 .f32) : FVec Ideal S1x1024 .f32 := shapeCast S1x1024 q shapeCasts_S16x64_S1x1024

theorem row_at (q : FVec Ideal S16x64 .f32) (k : Fin 1024) : (row q (ix2 0 k) : EReal) = factor q k := by
  pointwise [row, factor]

theorem joined : V m c main_v0 = row (m ((c : Thread nD τ).loc main_arg5)) := by
  unfold V
  simp only [List.flatten_cons, List.flatten_nil, List.append_nil, hostOps0, List.cons_append, List.nil_append]
  after_results
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] ∧ win0_7.index t = ![0, 0]
    ∧ win0_8.index t = ![t.val, 0] := (by decide +kernel : ∀ t : Fin grid0.N, _)

theorem final8 (y r k : FVec Ideal S4096x1024 .f32) (q : FVec Ideal S16x64 .f32) (ey : m ((c : Thread nD τ).loc main_arg0) = y)
    (er : m ((c : Thread nD τ).loc main_arg1) = r) (ek : m ((c : Thread nD τ).loc main_arg2) = k) (eq : m ((c : Thread nD τ).loc main_arg5) = q)
    (hy : ∀ i, ∃ w : ℝ, (y i : EReal) = (w : EReal)) (hp : ∀ i j, ∃ w : ℝ, (r (ix2 i j) * k (ix2 i j) * factor q j : EReal) = (w : EReal)) :
    (dats m 0 c).arrAt 8 cfg0.N = mixed y r k (m ((c : Thread nD τ).loc main_arg3)) (m ((c : Thread nD τ).loc main_arg4)) q
      (m ((c : Thread nD τ).loc main_arg6)) (m ((c : Thread nD τ).loc main_arg7)) := by
  refine (dats m 0 c).arrAt_eq_of_covers 8 _ (by decide +kernel) fun t _ z => ?_
  blk_simp
  rw [after0_8]
  unfold out0_8 k0_pay33 k0_pay32 k0_pay31 k0_pay30 k0_pay29 k0_pay28 k0_pay27
  frame_out
  have ht : t.val < 16 := lt_of_lt_of_eq t.isLt N_0
  have h0 : (z 0).val < 256 := (z 0).isLt
  have hz : z = ix2 (⟨(z 0).val, h0⟩ : Fin 256) (⟨(z 1).val, (z 1).isLt⟩ : Fin 1024) := by blk_ext
  have hz' : ((View.whole main_v1).slice (win0_8.rect t)).emb z
      = ix2 (⟨t.val * 256 + (z 0).val, by omega⟩ : Fin 4096) (⟨(z 1).val, (z 1).isLt⟩ : Fin 1024) := by blk_ext [idx t]
  have e0 (k : Fin 1024) : (iblk m c 0 t : FVec Ideal S256x1024 .f32) (ix2 (⟨(z 0).val, h0⟩ : Fin 256) k)
      = y (ix2 (⟨t.val * 256 + (z 0).val, by omega⟩ : Fin 4096) k) := by
    refine Eq.trans ?_ (congrFun ((V_main_arg0 m c).trans ey) _)
    blk_point [iblk, idx t]
  have e1 (l : Fin 1024) : (iblk m c 1 t : FVec Ideal S256x1024 .f32) (ix2 (⟨(z 0).val, h0⟩ : Fin 256) l)
      = r (ix2 (⟨t.val * 256 + (z 0).val, by omega⟩ : Fin 4096) l) := by
    refine Eq.trans ?_ (congrFun ((V_main_arg1 m c).trans er) _)
    blk_point [iblk, idx t]
  have e2 (l : Fin 1024) : (iblk m c 2 t : FVec Ideal S256x1024 .f32) (ix2 (⟨(z 0).val, h0⟩ : Fin 256) l)
      = k (ix2 (⟨t.val * 256 + (z 0).val, by omega⟩ : Fin 4096) l) := by
    refine Eq.trans ?_ (congrFun ((V_main_arg2 m c).trans ek) _)
    blk_point [iblk, idx t]
  have e3 (l : Fin 1024) : (iblk m c 3 t : FVec Ideal S256x1024 .f32) (ix2 (⟨(z 0).val, h0⟩ : Fin 256) l)
      = (m ((c : Thread nD τ).loc main_arg3) : FVec Ideal S4096x1024 .f32) (ix2 (⟨t.val * 256 + (z 0).val, by omega⟩ : Fin 4096) l) := by
    refine Eq.trans ?_ (congrFun (V_main_arg3 m c) _)
    blk_point [iblk, idx t]
  have e4 (l : Fin 1024) : (iblk m c 4 t : FVec Ideal S256x1024 .f32) (ix2 (⟨(z 0).val, h0⟩ : Fin 256) l)
      = (m ((c : Thread nD τ).loc main_arg4) : FVec Ideal S4096x1024 .f32) (ix2 (⟨t.val * 256 + (z 0).val, by omega⟩ : Fin 4096) l) := by
    refine Eq.trans ?_ (congrFun (V_main_arg4 m c) _)
    blk_point [iblk, idx t]
  have e5 : (iblk m c 5 t : FVec Ideal S1x1024 .f32) = row q := by
    rw [← eq, ← joined m c]
    funext j
    blk_point [iblk, idx t]
  have e6 : (iblk m c 6 t : FVec Ideal S1x1024 .f32) = m ((c : Thread nD τ).loc main_arg6) := by
    rw [← V_main_arg6 m c]
    funext j
    blk_point [iblk, idx t]
  have e7 : (iblk m c 7 t : FVec Ideal S1x1024 .f32) = m ((c : Thread nD τ).loc main_arg7) := by
    rw [← V_main_arg7 m c]
    funext j
    blk_point [iblk, idx t]
  rw [hz', e5, e6, e7]
  refine (congrArg _ hz).trans ((stored _ _ _ _ _ _ _ _ _ (fun l => e0 l ▸ hy _) (fun l => ?_) _ _ _ _ _ _ _ rfl rfl rfl rfl rfl rfl rfl _).trans ?_)
  · rw [e1, e2, row_at]
    exact hp _ _
  · rw [mixed_at]
    simp only [e0, e1, e2, e3, e4, row_at]

instance preFacts : Cert.Pre_finite_y.Facts := ⟨by decide, by decide, by decide⟩

/-- The precondition, read: the products are real. -/
theorem products_real (y r k v g) (q : FVec Ideal S16x64 .f32) (w b) (h : (Cert.Pre_finite_y.fn (F := Ideal) y r k v g q w b).2 = fun _ => 1#1) (i : Fin 4096) (j : Fin 1024) :
    ∃ x : ℝ, (r (ix2 i j) * k (ix2 i j) * factor q j : EReal) = (x : EReal) := by
  obtain ⟨x, hx⟩ := Agree.real_of_lt _ _ (fun _ => Agree.inf_at) h (ix2 i j)
  refine ⟨x, hx.symm.trans ?_ |>.symm⟩
  pointwise [factor]

/-- The result is the reference's where the scan's result and the products are real. -/
theorem algebraic17 : Cert.algebraic_Kernel17Ideal_Reference17Ideal_pre_finite_y (hKernel17Ideal := facts)
    (hReference17Ideal := Cert.Reference17Ideal.Gen.facts) (hPre_finite_y := preFacts) := by
  intro m ρ m' ρ' hpre hargs
  refine ⟨_, (θ_run _ _ _).mono (fun r h c => ⟨(h.1 c).trans (final8 m c _ _ _ _ rfl rfl rfl rfl
        (Agree.real_of_lt _ _ (fun _ => Agree.inf_at) (hpre c).1) (products_real _ _ _ _ _ _ _ _ (hpre c).2)), h.2 c⟩)
      (θ_run_and ((θ_run defs _ _).mono (fun r h c => (h c).1 8) (run_main m ρ)) (unchanged m ρ)),
    (θ_run _ _ _).mono (fun r h c => ?_) (Cert.Reference17Ideal.Value.run (F := Ideal) m' ρ')⟩
  obtain ⟨h0, h⟩ := h c
  obtain ⟨a0, a1, a2, a3, a4, a5, a6, a7⟩ := hargs c
  refine ⟨h0.trans ?_, h⟩
  simp only [← a0, ← a1, ← a2, ← a3, ← a4, ← a5, ← a6, ← a7]
  rfl

end Kernel
end Cert.RwkvPost
end
-- ==== Proof.Shift.lean ====
/- The rows before: a tile of 128 rows shifted by a few rows, the first of them taken from the last eight rows of the tile
   before. -/
module

public import Idealize.ShloMosaic.Lib.Pipeline.ValueKit

@[expose] public section

noncomputable section

namespace Cert.Shift

open Idealize.ShloMosaic

/-- The entry `s` rows before row `i`, or zero above the first row. -/
def back (u : Fin 4096 → EReal) (s : ℕ) (i : Fin 4096) : EReal := if _ : s ≤ i.val then u ⟨i.val - s, by omega⟩ else 0

theorem back_of (u : Fin 4096 → EReal) (s : ℕ) (i j : Fin 4096) (h : j.val + s = i.val) : u j = back u s i := by
  unfold back
  rw [dif_pos (by omega)]
  exact congrArg u (Fin.ext (by simp only; omega))

theorem less (s : ℕ) (h : s < 8) (r : Fin 128) : IntOp.cmpi .slt (BitVec.ofNat 32 r.val) (BitVec.ofNat 32 s) = if r.val < s then 1#1 else 0#1 := by
  have all : ∀ (s : Fin 8) (r : Fin 128), IntOp.cmpi .slt (BitVec.ofNat 32 r.val) (BitVec.ofNat 32 s.val) = if r.val < s.val then 1#1 else 0#1 := by
    decide +kernel
  exact all ⟨s, h⟩ r

/-- The kernel's shift: the tile rotated by `s` rows, with its first `s` rows taken from the rotated eight rows before it. -/
theorem shift (u : Fin 4096 → EReal) (t : ℕ) (ht : t < 32) (s : ℕ) (hs : 0 < s) (hs8 : s < 8) (v : Fin 128 → EReal) (w : Fin 8 → EReal)
    (hv : ∀ r : Fin 128, v r = u ⟨t * 128 + r.val, by omega⟩) (hw : ∀ q : Fin 8, w q = back u 8 ⟨t * 128 + q.val, by omega⟩) (r : Fin 128)
    (p1 : (r.val + 8 - s) % 8 < 8) (p2 : (r.val + 128 - s) % 128 < 128) (p3 : (8 + (r.val - 8) + 128 - s) % 128 < 128) :
    (if _ : r.val < 8 then Scalar.select (IntOp.cmpi .slt (BitVec.ofNat 32 r.val) (BitVec.ofNat 32 s)) (w ⟨(r.val + 8 - s) % 8, p1⟩)
        (v ⟨(r.val + 128 - s) % 128, p2⟩) else v ⟨(8 + (r.val - 8) + 128 - s) % 128, p3⟩)
      = back u s ⟨t * 128 + r.val, by omega⟩ := by
  by_cases h8 : r.val < 8
  · rw [dif_pos h8, less s hs8]
    by_cases h : r.val < s
    · rw [if_pos h]
      refine Eq.trans (show _ = w _ from rfl) ?_
      rw [hw]
      unfold back
      by_cases h0 : t = 0
      · subst h0
        rw [dif_neg (by simp only; omega), dif_neg (by simp only; omega)]
      · rw [dif_pos (by simp only; omega), dif_pos (by simp only; omega)]
        exact congrArg u (Fin.ext (by simp only; omega))
    · rw [if_neg h]
      refine Eq.trans (show _ = v _ from rfl) ?_
      rw [hv]
      exact back_of _ _ _ _ (by simp only; omega)
  · rw [dif_neg h8, hv]
    exact back_of _ _ _ _ (by simp only; omega)

end Cert.Shift

end
-- ==== Proof.SsdPre.lean ====
/- The start of the state-space mixer: the convolution over the last four steps with its gate, and the step sizes. A tile's first
   rows need the last rows of the tile before it, which the host gathers. -/
module

public import proofs.«01_k».proof.Defs
public import proofs.«01_k».proof.Proof.Shift
public import proofs.«01_k».proof.Proof.Gen.Kernel18.Frame
public import proofs.«01_k».proof.Proof.Gen.Kernel18Ideal.Frame
public import proofs.«01_k».proof.Proof.Gen.Reference18Ideal.Run
public import Idealize.ShloMosaic.Lib.Pipeline.ValueKit

@[expose] public section

set_option maxRecDepth 16384

noncomputable section

namespace Cert.SsdPre

open Idealize.ShloMosaic Idealize.ShloMosaic.TcCoe Idealize.SL.Sem Idealize.ShloMosaic.Pointwise
open Cert.Shift (back)

section Reference
open Cert.Reference18Ideal Cert.Reference18Ideal.Gen

variable (x : FVec Ideal S4096x1536 .f32) (t : FVec Ideal S4096x128 .f32) (w : FVec Ideal S4x1536 .f32) (b : FVec Ideal S1x1536 .f32)
  (d : FVec Ideal S1x16 .f32)

/-- The convolution, as the reference sums it. -/
def conv : FVec Ideal S4096x1536 .f32 :=
  addf (addf (addf (addf (addf (broadcastInDim S4096x1536 ![] bcast_S_S4096x1536 (constant S_ .f32 0x00000000#32)) (mulf (broadcastInDim S4096x1536 ![0, 1] bcast_S1x1536_S4096x1536_0_1 (broadcastInDim S1x1536 ![1] bcast_S1536_S1x1536_1 (shapeCast _ (extractStridedSlice S1x1536 ![0, 0] w slices_S4x1536_S1x1536_0_0) shapeCasts_S1x1536_S1536))) (extractStridedSlice S4096x1536 ![0, 0] (pad S4099x1536 ![3, 0] ![0, 0] ![0, 0] x (sitofp .f32 (constantI S_ 32 0#32)) pads_S4096x1536_S4099x1536_300_000 h_S_) slices_S4099x1536_S4096x1536_0_0))) (mulf (broadcastInDim S4096x1536 ![0, 1] bcast_S1x1536_S4096x1536_0_1 (broadcastInDim S1x1536 ![1] bcast_S1536_S1x1536_1 (shapeCast _ (extractStridedSlice S1x1536 ![1, 0] w slices_S4x1536_S1x1536_1_0) shapeCasts_S1x1536_S1536))) (extractStridedSlice S4096x1536 ![1, 0] (pad S4099x1536 ![3, 0] ![0, 0] ![0, 0] x (sitofp .f32 (constantI S_ 32 0#32)) pads_S4096x1536_S4099x1536_300_000 h_S_) slices_S4099x1536_S4096x1536_1_0))) (mulf (broadcastInDim S4096x1536 ![0, 1] bcast_S1x1536_S4096x1536_0_1 (broadcastInDim S1x1536 ![1] bcast_S1536_S1x1536_1 (shapeCast _ (extractStridedSlice S1x1536 ![2, 0] w slices_S4x1536_S1x1536_2_0) shapeCasts_S1x1536_S1536))) (extractStridedSlice S4096x1536 ![2, 0] (pad S4099x1536 ![3, 0] ![0, 0] ![0, 0] x (sitofp .f32 (constantI S_ 32 0#32)) pads_S4096x1536_S4099x1536_300_000 h_S_) slices_S4099x1536_S4096x1536_2_0))) (mulf (broadcastInDim S4096x1536 ![0, 1] bcast_S1x1536_S4096x1536_0_1 (broadcastInDim S1x1536 ![1] bcast_S1536_S1x1536_1 (shapeCast _ (extractStridedSlice S1x1536 ![3, 0] w slices_S4x1536_S1x1536_3_0) shapeCasts_S1x1536_S1536))) (extractStridedSlice S4096x1536 ![3, 0] (pad S4099x1536 ![3, 0] ![0, 0] ![0, 0] x (sitofp .f32 (constantI S_ 32 0#32)) pads_S4096x1536_S4099x1536_300_000 h_S_) slices_S4099x1536_S4096x1536_3_0))) (broadcastInDim S4096x1536 ![0, 1] bcast_S1x1536_S4096x1536_0_1 b)

def act (u : FVec Ideal S4096x1536 .f32) : FVec Ideal S4096x1536 .f32 :=
  mulf u (Host.divf (broadcastInDim S4096x1536 ![] bcast_S_S4096x1536 (constant S_ .f32 0x3F800000#32)) (addf (broadcastInDim S4096x1536 ![] bcast_S_S4096x1536 (constant S_ .f32 0x3F800000#32)) (Host.exp (Host.negf u))))

/-- The steps with their padded offsets. -/
def steps : FVec Ideal S4096x128 .f32 :=
  addf t (broadcastInDim S4096x128 ![0, 1] bcast_S1x128_S4096x128_0_1 (pad S1x128 ![0, 0] ![0, 112] ![0, 0] d (sitofp .f32 (constantI S_ 32 0#32)) pads_S1x16_S1x128_000_01120 h_S_))

/-- The logarithm of one plus the exponential, as the reference writes it. -/
def soft (u : FVec Ideal S4096x128 .f32) : FVec Ideal S4096x128 .f32 :=
  select (cmpf .une (subf u (broadcastInDim S4096x128 ![] bcast_S_S4096x128 (constant S_ .f32 0x00000000#32))) (subf u (broadcastInDim S4096x128 ![] bcast_S_S4096x128 (constant S_ .f32 0x00000000#32)))) (addf u (broadcastInDim S4096x128 ![] bcast_S_S4096x128 (constant S_ .f32 0x00000000#32))) (addf (maximumf u (broadcastInDim S4096x128 ![] bcast_S_S4096x128 (constant S_ .f32 0x00000000#32))) (Host.log1p (Host.exp (Host.negf (Host.absf (subf u (broadcastInDim S4096x128 ![] bcast_S_S4096x128 (constant S_ .f32 0x00000000#32))))))))

theorem none : (FloatOps.sitofp (F := Ideal) .f32 0#32 : EReal) = 0 := by
  show (((0#32 : BitVec 32).toInt : ℝ) : EReal) = 0
  simp

theorem conv_at (r : Fin 4096) (c : Fin 1536) : (conv x w b (ix2 r c) : EReal)
    = w (ix2 0 c) * back (fun i => x (ix2 i c)) 3 r + w (ix2 1 c) * back (fun i => x (ix2 i c)) 2 r + w (ix2 2 c) * back (fun i => x (ix2 i c)) 1 r
      + w (ix2 3 c) * x (ix2 r c) + b (ix2 0 c) := by
  have pads (k s : ℕ) (hk : k + s = 3) (g : 3 ≤ k + r.val ∧ k + r.val - 3 < 4096 → k + r.val - 3 < 4096) :
      (if h : 3 ≤ k + r.val ∧ k + r.val - 3 < 4096 then (x (ix2 ⟨k + r.val - 3, g h⟩ c) : EReal) else FloatOps.sitofp (F := Ideal) .f32 0#32)
        = back (fun i => x (ix2 i c)) s r := by
    unfold back
    by_cases h : s ≤ r.val
    · have e : k + r.val - 3 = r.val - s := by omega
      rw [dif_pos (by omega), dif_pos h]
      simp only [e]
    · rw [dif_neg (by omega), dif_neg h, none]
  have e0 := pads 0 3 rfl fun h => h.2
  have e1 := pads 1 2 rfl fun h => h.2
  have e2 := pads 2 1 rfl fun h => h.2
  simp only [zero_add] at e0
  pointwise [conv]
  rw [e0, e1, e2]

theorem act_at (u : FVec Ideal S4096x1536 .f32) (r : Fin 4096) (c : Fin 1536) : (act u (ix2 r c) : EReal)
    = u (ix2 r c) * Ideal.div 1 (1 + Ideal.exp (-u (ix2 r c))) := by
  pointwise [act]

theorem steps_at (r : Fin 4096) (c : Fin 128) : (steps t d (ix2 r c) : EReal)
    = t (ix2 r c) + if h : c.val < 16 then d (ix2 0 ⟨c.val, h⟩) else 0 := by
  pointwise [steps]
  rw [none]

theorem soft_at (u : FVec Ideal S4096x128 .f32) (r : Fin 4096) (c : Fin 128) : (soft u (ix2 r c) : EReal)
    = max (u (ix2 r c)) 0 + Ideal.log (1 + Ideal.exp (0 - FloatOps.absf (F := Ideal) (φ := .f32) (u (ix2 r c)))) := by
  pointwise [soft]
  rw [if_neg fun h => h rfl, zero_sub]
  rfl

end Reference

section Kernel
open Cert.Kernel18Ideal Cert.Kernel18Ideal.Gen

variable (m : (ℓ : Loc nD τ sig) → Buf (Elt Ideal) ℓ) (c : Dev nD)

/-- The last eight rows of each tile, one tile further on. -/
def halo (x : FVec Ideal S4096x1536 .f32) : FVec Ideal S256x1536 .f32 :=
  shapeCast S256x1536 (concatenate S32x8x1536 0 [⟨S1x8x1536, broadcastInDim S1x8x1536 ![] bcast_S_S1x8x1536 (constant S_ .f32 0x00000000#32)⟩,
    ⟨S31x8x1536, extractStridedSlice S31x8x1536 ![0, 0, 0] (extractStridedSlice S32x8x1536 ![0, 120, 0] (shapeCast S32x128x1536 x shapeCasts_S4096x1536_S32x128x1536)
      slices_S32x128x1536_S32x8x1536_0_120_0) slices_S32x8x1536_S31x8x1536_0_0_0⟩] concatenates_S1x8x1536_S31x8x1536_S32x8x1536_d0) shapeCasts_S32x8x1536_S256x1536

theorem halo_at (x : FVec Ideal S4096x1536 .f32) (t : ℕ) (ht : t < 32) (q : Fin 8) (k : Fin 1536) :
    (halo x (ix2 ⟨t * 8 + q.val, by omega⟩ k) : EReal) = back (fun i => x (ix2 i k)) 8 ⟨t * 128 + q.val, by omega⟩ := by
  pointwise [halo]
  unfold back
  by_cases h : t = 0
  · subst h
    rw [dif_pos (by omega), dif_neg (by simp only; omega)]
  · have e : ((t * 8 + q.val) / 8 - 1) * 128 + (120 + q.val) = t * 128 + q.val - 8 := by omega
    rw [dif_neg (by omega), dif_pos (by simp only; omega)]
    simp only [e]

theorem halo_made : V m c main_v10 = halo (m ((c : Thread nD τ).loc main_arg0)) := by
  unfold V
  simp only [List.flatten_cons, List.flatten_nil, List.append_nil, hostOps0, hostOps0_1, hostOps0_2, List.cons_append, List.nil_append]
  after_results
  rfl

def offsets (d : FVec Ideal S1x16 .f32) : FVec Ideal S1x128 .f32 :=
  pad S1x128 ![0, 0] ![0, 112] ![0, 0] d (sitofp .f32 (constantI S_ 32 0#32)) pads_S1x16_S1x128_000_01120 h_S_

theorem offsets_at (d : FVec Ideal S1x16 .f32) (k : Fin 128) : (offsets d (ix2 0 k) : EReal) = if h : k.val < 16 then d (ix2 0 ⟨k.val, h⟩) else 0 := by
  pointwise [offsets]
  rw [none]

theorem offsets_made : V m c main_v4 = offsets (m ((c : Thread nD τ).loc main_arg4)) := by
  unfold V
  simp only [List.flatten_cons, List.flatten_nil, List.append_nil, hostOps0, hostOps0_1, hostOps0_2, List.cons_append, List.nil_append]
  after_results
  rfl

theorem row0 : V m c main_v0 = extractStridedSlice S1x1536 ![0, 0] (m ((c : Thread nD τ).loc main_arg2)) slices_S4x1536_S1x1536_0_0 := by
  unfold V
  simp only [List.flatten_cons, List.flatten_nil, List.append_nil, hostOps0, hostOps0_1, hostOps0_2, List.cons_append, List.nil_append]
  after_results

theorem row1 : V m c main_v1 = extractStridedSlice S1x1536 ![1, 0] (m ((c : Thread nD τ).loc main_arg2)) slices_S4x1536_S1x1536_1_0 := by
  unfold V
  simp only [List.flatten_cons, List.flatten_nil, List.append_nil, hostOps0, hostOps0_1, hostOps0_2, List.cons_append, List.nil_append]
  after_results

theorem row2 : V m c main_v2 = extractStridedSlice S1x1536 ![2, 0] (m ((c : Thread nD τ).loc main_arg2)) slices_S4x1536_S1x1536_2_0 := by
  unfold V
  simp only [List.flatten_cons, List.flatten_nil, List.append_nil, hostOps0, hostOps0_1, hostOps0_2, List.cons_append, List.nil_append]
  after_results

theorem row3 : V m c main_v3 = extractStridedSlice S1x1536 ![3, 0] (m ((c : Thread nD τ).loc main_arg2)) slices_S4x1536_S1x1536_3_0 := by
  unfold V
  simp only [List.flatten_cons, List.flatten_nil, List.append_nil, hostOps0, hostOps0_1, hostOps0_2, List.cons_append, List.nil_append]
  after_results

/-- What the kernel stores of the convolution, from the tile and the rows before it. -/
theorem stored (x : FVec Ideal S4096x1536 .f32) (t : ℕ) (ht : t < 32) (v : FVec Ideal S128x1536 .f32) (h : FVec Ideal S8x1536 .f32)
    (w0 w1 w2 w3 b : FVec Ideal S1x1536 .f32) (c : Fin 1536)
    (hv : ∀ r : Fin 128, (v (ix2 r c) : EReal) = x (ix2 ⟨t * 128 + r.val, by omega⟩ c))
    (hh : ∀ q : Fin 8, (h (ix2 q c) : EReal) = back (fun i => x (ix2 i c)) 8 ⟨t * 128 + q.val, by omega⟩) (r : Fin 128) (u : EReal)
    (hu : u = w3 (ix2 0 c) * x (ix2 ⟨t * 128 + r.val, by omega⟩ c) + w2 (ix2 0 c) * back (fun i => x (ix2 i c)) 1 ⟨t * 128 + r.val, by omega⟩
      + w1 (ix2 0 c) * back (fun i => x (ix2 i c)) 2 ⟨t * 128 + r.val, by omega⟩ + w0 (ix2 0 c) * back (fun i => x (ix2 i c)) 3 ⟨t * 128 + r.val, by omega⟩
      + b (ix2 0 c)) :
    (k0_pay8 (F := Ideal) v (k0_pay1 h) (k0_pay2 w0) (k0_pay3 w1) b (k0_pay5 v h w2 w3) (k0_pay6 v) k0_pay7 2#32 (ix2 r c) : EReal)
      = u * Ideal.div 1 (1 + Ideal.exp (-u)) := by
  have s1 := Shift.shift (fun i => x (ix2 i c)) t ht 1 (by decide) (by decide) (fun r => v (ix2 r c)) (fun q => h (ix2 q c)) hv hh r (by omega) (by omega) (by omega)
  have s2 := Shift.shift (fun i => x (ix2 i c)) t ht 2 (by decide) (by decide) (fun r => v (ix2 r c)) (fun q => h (ix2 q c)) hv hh r (by omega) (by omega) (by omega)
  have s3 := Shift.shift (fun i => x (ix2 i c)) t ht 3 (by decide) (by decide) (fun r => v (ix2 r c)) (fun q => h (ix2 q c)) hv hh r (by omega) (by omega) (by omega)
  delta k0_pay8 k0_pay7 k0_pay6 k0_pay5 k0_pay3 k0_pay2 k0_pay1
  pointwise
  rw [s1, s2, s3, hv, ← hu, zero_sub]

theorem stored' (v : FVec Ideal S128x128 .f32) (d : FVec Ideal S1x128 .f32) (r : Fin 128) (c : Fin 128) :
    (k0_pay9 (F := Ideal) v (k0_pay4 d) (ix2 r c) : EReal)
      = max (v (ix2 r c) + d (ix2 0 c)) 0 + Ideal.log (1 + Ideal.exp (0 - FloatOps.absf (F := Ideal) (φ := .f32) (v (ix2 r c) + d (ix2 0 c)))) := by
  delta k0_pay9 k0_pay4
  pointwise

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![t.val, 0] ∧ win0_10.index t = ![t.val, 0] := (by decide +kernel : ∀ t : Fin grid0.N, _)

theorem final9 : (dats m 0 c).arrAt 9 cfg0.N = act (conv (m ((c : Thread nD τ).loc main_arg0)) (m ((c : Thread nD τ).loc main_arg2))
    (m ((c : Thread nD τ).loc main_arg3))) := by
  refine (dats m 0 c).arrAt_eq_of_covers 9 _ (by decide +kernel) fun t _ y => ?_
  blk_simp
  rw [after0_9]
  unfold out0_9
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 1536) := by blk_ext
  have hz : ((View.whole main_v11_0).slice (win0_9.rect t)).emb y
      = ix2 (⟨t.val * 128 + (y 0).val, by omega⟩ : Fin 4096) (⟨(y 1).val, (y 1).isLt⟩ : Fin 1536) := by blk_ext [idx t]
  have e0 (r : Fin 128) (k : Fin 1536) : (iblk m c 0 t : FVec Ideal S128x1536 .f32) (ix2 r k)
      = (m ((c : Thread nD τ).loc main_arg0) : FVec Ideal S4096x1536 .f32) (ix2 (⟨t.val * 128 + r.val, by omega⟩ : Fin 4096) k) := by
    refine Eq.trans ?_ (congrFun (V_main_arg0 m c) _)
    blk_point [iblk, idx t]
  have e1 (q : Fin 8) (k : Fin 1536) : (iblk m c 1 t : FVec Ideal S8x1536 .f32) (ix2 q k)
      = halo (m ((c : Thread nD τ).loc main_arg0)) (ix2 (⟨t.val * 8 + q.val, by omega⟩ : Fin 256) k) := by
    refine Eq.trans ?_ (congrFun (halo_made m c) _)
    blk_point [iblk, idx t]
  have e3 : (iblk m c 3 t : FVec Ideal S1x1536 .f32) = extractStridedSlice S1x1536 ![0, 0] (m ((c : Thread nD τ).loc main_arg2)) slices_S4x1536_S1x1536_0_0 := by
    rw [← row0 m c]
    funext j
    blk_point [iblk, idx t]
  have e4 : (iblk m c 4 t : FVec Ideal S1x1536 .f32) = extractStridedSlice S1x1536 ![1, 0] (m ((c : Thread nD τ).loc main_arg2)) slices_S4x1536_S1x1536_1_0 := by
    rw [← row1 m c]
    funext j
    blk_point [iblk, idx t]
  have e5 : (iblk m c 5 t : FVec Ideal S1x1536 .f32) = extractStridedSlice S1x1536 ![2, 0] (m ((c : Thread nD τ).loc main_arg2)) slices_S4x1536_S1x1536_2_0 := by
    rw [← row2 m c]
    funext j
    blk_point [iblk, idx t]
  have e6 : (iblk m c 6 t : FVec Ideal S1x1536 .f32) = extractStridedSlice S1x1536 ![3, 0] (m ((c : Thread nD τ).loc main_arg2)) slices_S4x1536_S1x1536_3_0 := by
    rw [← row3 m c]
    funext j
    blk_point [iblk, idx t]
  have e7 : (iblk m c 7 t : FVec Ideal S1x1536 .f32) = m ((c : Thread nD τ).loc main_arg3) := by
    rw [← V_main_arg3 m c]
    funext j
    blk_point [iblk, idx t]
  rw [hz, act_at, conv_at]
  refine (congrArg _ hy).trans (stored (m ((c : Thread nD τ).loc main_arg0)) t.val ht _ _ _ _ _ _ _ _ (fun r => e0 r _) (fun q => (e1 q _).trans (halo_at _ _ ht q _)) _ _ ?_)
  rw [e3, e4, e5, e6, e7]
  generalize back _ 1 _ = b1, back _ 2 _ = b2, back _ 3 _ = b3
  pointwise
  congr 1
  rw [add_assoc, add_assoc, add_comm, add_comm (_ * b1), add_comm (_ * b2)]

theorem final10 : (dats m 0 c).arrAt 10 cfg0.N = soft (steps (m ((c : Thread nD τ).loc main_arg1)) (m ((c : Thread nD τ).loc main_arg4))) := by
  refine (dats m 0 c).arrAt_eq_of_covers 10 _ (by decide +kernel) fun t _ y => ?_
  blk_simp
  rw [after0_10]
  unfold out0_10
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 128) := by blk_ext
  have hz : ((View.whole main_v11_1).slice (win0_10.rect t)).emb y
      = ix2 (⟨t.val * 128 + (y 0).val, by omega⟩ : Fin 4096) (⟨(y 1).val, (y 1).isLt⟩ : Fin 128) := by blk_ext [idx t]
  have e2 (k : Fin 128) : (iblk m c 2 t : FVec Ideal S128x128 .f32) (ix2 (⟨(y 0).val, h0⟩ : Fin 128) k)
      = (m ((c : Thread nD τ).loc main_arg1) : FVec Ideal S4096x128 .f32) (ix2 (⟨t.val * 128 + (y 0).val, by omega⟩ : Fin 4096) k) := by
    refine Eq.trans ?_ (congrFun (V_main_arg1 m c) _)
    blk_point [iblk, idx t]
  have e8 : (iblk m c 8 t : FVec Ideal S1x128 .f32) = offsets (m ((c : Thread nD τ).loc main_arg4)) := by
    rw [← offsets_made m c]
    funext j
    blk_point [iblk, idx t]
  rw [hz, soft_at, steps_at, e8]
  refine (congrArg _ hy).trans ((stored' _ _ _ _).trans ?_)
  rw [e2, offsets_at]

theorem algebraic18 : Cert.algebraic_Kernel18Ideal_Reference18Ideal (hKernel18Ideal := facts)
    (hReference18Ideal := Cert.Reference18Ideal.Gen.facts) := by
  intro m ρ m' ρ' _ hargs
  refine ⟨_, _, (θ_run _ _ _).mono (fun r h c => ⟨(h.1 c).1.trans (final9 m c), (h.1 c).2.trans (final10 m c), h.2 c⟩)
      (θ_run_and ((θ_run defs _ _).mono (fun r h c => And.intro ((h c).1 9) ((h c).1 10)) (run_main m ρ)) (unchanged m ρ)),
    (θ_run _ _ _).mono (fun r h c => ?_) (Cert.Reference18Ideal.Value.run (F := Ideal) m' ρ')⟩
  obtain ⟨h0, h1, h⟩ := h c
  obtain ⟨a0, a1, a2, a3, a4⟩ := hargs c
  refine ⟨h0.trans ?_, h1.trans ?_, h⟩
  · unfold Cert.Reference18Ideal.Value.res_main_v32
    simp only [← a0, ← a1, ← a2, ← a3, ← a4]
    rfl
  · simp only [← a0, ← a1, ← a2, ← a3, ← a4]
    rfl

end Kernel
end Cert.SsdPre
end
-- ==== Proof.RwkvPre.lean ====
/- The start of the RWKV mixer: the mix of each step with the one before, the decays, the rates and the gate from the low-rank
   parts, and the keys over the norms of their heads. A tile's first row needs the last row of the tile before it, which the host
   gathers; the low-rank parts are filled up with zeros; the heads' sums are products with one-hot matrices. -/
module

public import proofs.«01_k».proof.Defs
public import proofs.«01_k».proof.Proof.Agree
public import proofs.«01_k».proof.Proof.Shift
public import proofs.«01_k».proof.Proof.RwkvPost
public import proofs.«01_k».proof.Proof.Gen.Kernel19.Frame
public import proofs.«01_k».proof.Proof.Gen.Kernel19Ideal.Frame
public import proofs.«01_k».proof.Proof.Gen.Reference19Ideal.Run
public import Idealize.ShloMosaic.Lib.Pipeline.ValueKit

@[expose] public section

set_option maxRecDepth 16384

noncomputable section

namespace Cert.RwkvPre

open Idealize.ShloMosaic Idealize.ShloMosaic.TcCoe Idealize.SL.Sem Idealize.ShloMosaic.Pointwise
open Cert.Shift (back)
open Cert.RwkvPost (headSum picked picked_eq spread parts picked_real mul_real onehot)

instance preFacts : Cert.Pre_finite_k.Facts := ⟨by decide, by decide, by decide, by decide, by decide, by decide, by decide⟩

/-- A column's step mixed with the step before it. -/
def mixed (u : Fin 4096 → EReal) (a : EReal) (i : Fin 4096) : EReal := u i + (back u 1 i - u i) * a

/-- The logarithm of the decay, from the low-rank part's output. -/
def decay (d : EReal) : EReal :=
  -Ideal.exp (-(max (-d) 0 + Ideal.log (1 + Ideal.exp (-FloatOps.absf (F := Ideal) (φ := .f32) (-d)))) - Ideal.ofBits .f32 0x3F000000#32)

def sigmoid (d : EReal) : EReal := Ideal.div 1 (1 + Ideal.exp (-d))

/-- A key over its head's norm. -/
def unit (v : Fin 1024 → EReal) (c : Fin 1024) : EReal :=
  Ideal.div (v c) (max (Ideal.sqrt (headSum (fun l => v l * v l) c)) (Ideal.ofBits .f32 0x2B8CBCCC#32))

/-- A sum over 128 columns of which the last 32 are zeros. -/
theorem filled (f : Fin 128 → EReal) (g : Fin 96 → EReal) :
    (∑ k : Fin 128, f k * if h : k.val < 96 then g ⟨k.val, h⟩ else 0) = ∑ k : Fin 96, f ⟨k.val, by omega⟩ * g k := by
  refine (Fin.sum_univ_add (a := 96) (b := 32) _).trans ?_
  refine Eq.trans (congrArg₂ (· + ·) (Finset.sum_congr rfl fun k _ => ?_) (Finset.sum_eq_zero fun k _ => ?_)) (add_zero _)
  · rw [dif_pos (show (Fin.castAdd 32 k).val < 96 from k.isLt)]
    rfl
  · rw [dif_neg (show ¬ (Fin.natAdd 96 k).val < 96 by simp), mul_zero]

theorem fill : (FloatOps.sitofp (F := Ideal) .f32 0#32 : EReal) = 0 := by
  show (((0#32 : BitVec 32).toInt : ℝ) : EReal) = 0
  simp

section Reference
open Cert.Reference19Ideal Cert.Reference19Ideal.Gen

variable (x : FVec Ideal S4096x3072 .f32) (l : FVec Ideal S4096x512 .f32) (mu : FVec Ideal S1x3520 .f32) (w0 a0 kk ka : FVec Ideal S1x1024 .f32)
  (w2 a2 : FVec Ideal S96x1024 .f32) (g2 : FVec Ideal S256x1024 .f32) (u : FVec Ideal S4096x3520 .f32) (d i v : FVec Ideal S4096x1024 .f32)

def joined : FVec Ideal S4096x3520 .f32 :=
  concatenate S4096x3520 1 [⟨S4096x3072, x⟩, ⟨S4096x96, extractStridedSlice S4096x96 ![0, 0] l slices_S4096x512_S4096x96_0_0⟩, ⟨S4096x96, extractStridedSlice S4096x96 ![0, 128] l slices_S4096x512_S4096x96_0_128⟩, ⟨S4096x256, extractStridedSlice S4096x256 ![0, 256] l slices_S4096x512_S4096x256_0_256⟩] concatenates_S4096x3072_S4096x96_S4096x96_S4096x256_S4096x3520_d1

/-- Each step mixed with the one before. -/
def mix : FVec Ideal S4096x3520 .f32 :=
  addf (joined x l) (mulf (subf (extractStridedSlice S4096x3520 ![0, 0] (pad S4097x3520 ![1, 0] ![0, 0] ![0, 0] (joined x l) (sitofp .f32 (constantI S_ 32 0#32)) pads_S4096x3520_S4097x3520_100_000 h_S_) slices_S4097x3520_S4096x3520_0_0) (joined x l)) (broadcastInDim S4096x3520 ![0, 1] bcast_S1x3520_S4096x3520_0_1 mu))

def lowW : FVec Ideal S4096x1024 .f32 :=
  addf (broadcastInDim S4096x1024 ![0, 1] bcast_S1x1024_S4096x1024_0_1 w0) (Host.dotGeneral dot_S4096x96_S96x1024_S4096x1024_1_0_0_1_n_n none (Host.tanh (extractStridedSlice S4096x96 ![0, 3072] u slices_S4096x3520_S4096x96_0_3072)) w2)

def lowA : FVec Ideal S4096x1024 .f32 :=
  addf (broadcastInDim S4096x1024 ![0, 1] bcast_S1x1024_S4096x1024_0_1 a0) (Host.dotGeneral dot_S4096x96_S96x1024_S4096x1024_1_0_0_1_n_n none (extractStridedSlice S4096x96 ![0, 3168] u slices_S4096x3520_S4096x96_0_3168) a2)

def decays : FVec Ideal S4096x1024 .f32 :=
  Host.negf (Host.exp (subf (Host.negf (select (cmpf .une (subf (Host.negf d) (broadcastInDim S4096x1024 ![] bcast_S_S4096x1024 (constant S_ .f32 0x00000000#32))) (subf (Host.negf d) (broadcastInDim S4096x1024 ![] bcast_S_S4096x1024 (constant S_ .f32 0x00000000#32)))) (addf (Host.negf d) (broadcastInDim S4096x1024 ![] bcast_S_S4096x1024 (constant S_ .f32 0x00000000#32))) (addf (maximumf (Host.negf d) (broadcastInDim S4096x1024 ![] bcast_S_S4096x1024 (constant S_ .f32 0x00000000#32))) (Host.log1p (Host.exp (Host.negf (Host.absf (subf (Host.negf d) (broadcastInDim S4096x1024 ![] bcast_S_S4096x1024 (constant S_ .f32 0x00000000#32)))))))))) (broadcastInDim S4096x1024 ![] bcast_S_S4096x1024 (constant S_ .f32 0x3F000000#32))))

def rates : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf d)))

def gates : FVec Ideal S4096x1024 .f32 :=
  Host.dotGeneral dot_S4096x256_S256x1024_S4096x1024_1_0_0_1_n_n none (Host.divf (broadcastInDim S4096x256 ![] bcast_S_S4096x256 (constant S_ .f32 0x3F800000#32)) (addf (broadcastInDim S4096x256 ![] bcast_S_S4096x256 (constant S_ .f32 0x3F800000#32)) (Host.exp (Host.negf (extractStridedSlice S4096x256 ![0, 3264] u slices_S4096x3520_S4096x256_0_3264))))) g2

def scaled : FVec Ideal S4096x1024 .f32 :=
  mulf (extractStridedSlice S4096x1024 ![0, 1024] u slices_S4096x3520_S4096x1024_0_1024) (broadcastInDim S4096x1024 ![0, 1] bcast_S1x1024_S4096x1024_0_1 kk)

/-- The keys over their heads' norms. -/
def units : FVec Ideal S4096x1024 .f32 :=
  shapeCast _ (Host.divf (shapeCast _ v shapeCasts_S4096x1024_S4096x16x64) (broadcastInDim S4096x16x64 ![0, 1, 2] bcast_S4096x16x1_S4096x16x64_0_1_2 (maximumf (Host.sqrt (broadcastInDim S4096x16x1 ![0, 1] bcast_S4096x16_S4096x16x1_0_1 (Host.reduceAdd (mulf (shapeCast _ v shapeCasts_S4096x1024_S4096x16x64) (shapeCast _ v shapeCasts_S4096x1024_S4096x16x64)) (constant S_ .f32 0x00000000#32) reducesTo_S4096x16x64_S4096x16_d2 h_S_))) (broadcastInDim S4096x16x1 ![] bcast_S_S4096x16x1 (constant S_ .f32 0x2B8CBCCC#32))))) shapeCasts_S4096x16x64_S4096x1024

def keys : FVec Ideal S4096x1024 .f32 :=
  mulf (extractStridedSlice S4096x1024 ![0, 1024] u slices_S4096x3520_S4096x1024_0_1024) (addf (broadcastInDim S4096x1024 ![] bcast_S_S4096x1024 (constant S_ .f32 0x3F800000#32)) (mulf (subf i (broadcastInDim S4096x1024 ![] bcast_S_S4096x1024 (constant S_ .f32 0x3F800000#32))) (broadcastInDim S4096x1024 ![0, 1] bcast_S1x1024_S4096x1024_0_1 ka)))

def firsts : FVec Ideal S4096x1024 .f32 :=
  extractStridedSlice S4096x1024 ![0, 0] u slices_S4096x3520_S4096x1024_0_0

def lasts : FVec Ideal S4096x1024 .f32 :=
  extractStridedSlice S4096x1024 ![0, 2048] u slices_S4096x3520_S4096x1024_0_2048

theorem joined_x (r : Fin 4096) (c : Fin 3072) : (joined x l (ix2 r ⟨c.val, by omega⟩) : EReal) = x (ix2 r c) := by
  pointwise [joined]

theorem joined_w (r : Fin 4096) (k : Fin 96) : (joined x l (ix2 r ⟨3072 + k.val, by omega⟩) : EReal) = l (ix2 r ⟨k.val, by omega⟩) := by
  pointwise [joined]

theorem joined_a (r : Fin 4096) (k : Fin 96) : (joined x l (ix2 r ⟨3168 + k.val, by omega⟩) : EReal) = l (ix2 r ⟨128 + k.val, by omega⟩) := by
  pointwise [joined]
  have e : 3168 + k.val - 3072 - 96 = k.val := by omega
  rw [dif_neg (by omega), dif_neg (by omega), dif_pos (by omega)]
  simp only [e]

theorem joined_g (r : Fin 4096) (k : Fin 256) : (joined x l (ix2 r ⟨3264 + k.val, by omega⟩) : EReal) = l (ix2 r ⟨256 + k.val, by omega⟩) := by
  pointwise [joined]
  have e : 3264 + k.val - 3072 - 96 - 96 = k.val := by omega
  rw [dif_neg (by omega), dif_neg (by omega), dif_neg (by omega)]
  simp only [e]

theorem mix_at (r : Fin 4096) (c : Fin 3520) : (mix x l mu (ix2 r c) : EReal) = mixed (fun i => joined x l (ix2 i c)) (mu (ix2 0 c)) r := by
  have e : (if h : 1 ≤ r.val ∧ r.val - 1 < 4096 then (joined x l (ix2 ⟨r.val - 1, h.2⟩ c) : EReal) else FloatOps.sitofp (F := Ideal) .f32 0#32)
      = back (fun i => joined x l (ix2 i c)) 1 r := by
    unfold back
    by_cases h : 1 ≤ r.val
    · rw [dif_pos (by omega), dif_pos h]
    · rw [dif_neg (by omega), dif_neg h, fill]
  pointwise [mix, mixed]
  rw [e]

theorem firsts_at (r : Fin 4096) (c : Fin 1024) : (firsts u (ix2 r c) : EReal) = u (ix2 r ⟨c.val, by omega⟩) := by
  pointwise [firsts]

theorem lasts_at (r : Fin 4096) (c : Fin 1024) : (lasts u (ix2 r c) : EReal) = u (ix2 r ⟨2048 + c.val, by omega⟩) := by
  pointwise [lasts]

theorem lowW_at (r : Fin 4096) (c : Fin 1024) : (lowW w0 w2 u (ix2 r c) : EReal)
    = w0 (ix2 0 c) + ∑ k : Fin 96, Ideal.tanh (u (ix2 r ⟨3072 + k.val, by omega⟩)) * w2 (ix2 k c) := by
  pointwise [lowW]

theorem lowA_at (r : Fin 4096) (c : Fin 1024) : (lowA a0 a2 u (ix2 r c) : EReal)
    = a0 (ix2 0 c) + ∑ k : Fin 96, u (ix2 r ⟨3168 + k.val, by omega⟩) * a2 (ix2 k c) := by
  pointwise [lowA]

theorem decays_at (r : Fin 4096) (c : Fin 1024) : (decays d (ix2 r c) : EReal) = decay (d (ix2 r c)) := by
  pointwise [decays, decay]
  rw [if_neg fun h => h rfl]
  rfl

theorem rates_at (r : Fin 4096) (c : Fin 1024) : (rates d (ix2 r c) : EReal) = sigmoid (d (ix2 r c)) := by
  pointwise [rates, sigmoid]

theorem gates_at (r : Fin 4096) (c : Fin 1024) : (gates g2 u (ix2 r c) : EReal)
    = ∑ k : Fin 256, sigmoid (u (ix2 r ⟨3264 + k.val, by omega⟩)) * g2 (ix2 k c) := by
  pointwise [gates, sigmoid]

theorem scaled_at (r : Fin 4096) (c : Fin 1024) : (scaled kk u (ix2 r c) : EReal) = u (ix2 r ⟨1024 + c.val, by omega⟩) * kk (ix2 0 c) := by
  pointwise [scaled]

theorem units_at (r : Fin 4096) (c : Fin 1024) : (units v (ix2 r c) : EReal) = unit (fun c => v (ix2 r c)) c := by
  pointwise [units, unit, headSum]

theorem keys_at (r : Fin 4096) (c : Fin 1024) : (keys ka u i (ix2 r c) : EReal)
    = u (ix2 r ⟨1024 + c.val, by omega⟩) * (1 + (i (ix2 r c) - 1) * ka (ix2 0 c)) := by
  pointwise [keys]

end Reference

section Kernel
open Cert.Kernel19Ideal Cert.Kernel19Ideal.Gen

section Tile
variable (x : FVec Ideal S4096x3072 .f32) (l : FVec Ideal S4096x512 .f32) (t : ℕ) (ht : t < 32) (v0 : FVec Ideal S128x3072 .f32) (v1 : FVec Ideal S128x512 .f32)
  (h0 : FVec Ideal S8x3072 .f32) (h1 : FVec Ideal S8x512 .f32) (m0 : FVec Ideal S1x3072 .f32) (m1 : FVec Ideal S1x512 .f32) (b a : FVec Ideal S1x1024 .f32)
  (p q : FVec Ideal S128x1024 .f32) (g : FVec Ideal S256x1024 .f32)
  (hx : ∀ (r : Fin 128) (c : Fin 3072), (v0 (ix2 r c) : EReal) = x (ix2 ⟨t * 128 + r.val, by omega⟩ c))
  (hl : ∀ (r : Fin 128) (c : Fin 512), (v1 (ix2 r c) : EReal) = l (ix2 ⟨t * 128 + r.val, by omega⟩ c))
  (hh0 : ∀ (r : Fin 8) (c : Fin 3072), (h0 (ix2 r c) : EReal) = back (fun i => x (ix2 i c)) 8 ⟨t * 128 + r.val, by omega⟩)
  (hh1 : ∀ (r : Fin 8) (c : Fin 512), (h1 (ix2 r c) : EReal) = back (fun i => l (ix2 i c)) 8 ⟨t * 128 + r.val, by omega⟩)

include hx hh0 in
theorem mixX (r : Fin 128) (c : Fin 3072) : (k0_pay7 (F := Ideal) v0 (k0_pay2 m0) (k0_pay6 v0 h0) (ix2 r c) : EReal)
    = mixed (fun i => x (ix2 i c)) (m0 (ix2 0 c)) ⟨t * 128 + r.val, by omega⟩ := by
  have s := Shift.shift (fun i => x (ix2 i c)) t ht 1 (by decide) (by decide) (fun r => v0 (ix2 r c)) (fun q => h0 (ix2 q c)) (hx · c) (hh0 · c) r (by omega) (by omega) (by omega)
  delta k0_pay7 k0_pay6 k0_pay2
  pointwise
  rw [s, hx]
  rfl

include hl hh1 in
theorem mixL (r : Fin 128) (c : Fin 512) : (k0_pay8 (F := Ideal) v1 (k0_pay1 h1) (k0_pay3 m1) (ix2 r c) : EReal)
    = mixed (fun i => l (ix2 i c)) (m1 (ix2 0 c)) ⟨t * 128 + r.val, by omega⟩ := by
  have s := Shift.shift (fun i => l (ix2 i c)) t ht 1 (by decide) (by decide) (fun r => v1 (ix2 r c)) (fun q => h1 (ix2 q c)) (hl · c) (hh1 · c) r (by omega) (by omega) (by omega)
  delta k0_pay8 k0_pay3 k0_pay1
  pointwise
  rw [s, hl]
  rfl

end Tile

variable (v0 : FVec Ideal S128x3072 .f32) (v1 : FVec Ideal S128x512 .f32) (v5 : FVec Ideal S8x512 .f32) (v7 : FVec Ideal S1x3072 .f32) (v9 : FVec Ideal S1x512 .f32)
  (v29 : FVec Ideal S128x3072 .f32) (b : FVec Ideal S1x1024 .f32) (p k y s : FVec Ideal S128x1024 .f32) (g : FVec Ideal S256x1024 .f32)

theorem pay9_at (r : Fin 128) (c : Fin 1024) : (k0_pay9 v0 v7 v29 (ix2 r c) : EReal) = k0_pay7 v0 v7 v29 (ix2 r ⟨c.val, by omega⟩) := by
  delta k0_pay9
  pointwise

theorem pay10_at (r : Fin 128) (c : Fin 1024) : (k0_pay10 v0 v7 v29 (ix2 r c) : EReal) = k0_pay7 v0 v7 v29 (ix2 r ⟨1024 + c.val, by omega⟩) := by
  delta k0_pay10
  pointwise

theorem pay11_at (r : Fin 128) (c : Fin 1024) : (k0_pay11 v0 v7 v29 (ix2 r c) : EReal) = k0_pay7 v0 v7 v29 (ix2 r ⟨2048 + c.val, by omega⟩) := by
  delta k0_pay11
  pointwise

theorem pay16_at (r : Fin 128) (c : Fin 1024) : (k0_pay16 (F := Ideal) (k0_pay14 v1 v5 v9 b (k0_pay4 p)) k0_pay15 (ix2 r c) : EReal)
    = decay (b (ix2 0 c) + ∑ k : Fin 128, Ideal.tanh (k0_pay8 v1 v5 v9 (ix2 r ⟨k.val, by omega⟩)) * p (ix2 k c)) := by
  delta k0_pay16 k0_pay15 k0_pay14 k0_pay4
  pointwise [decay]
  simp only [zero_sub]

theorem pay17_at (r : Fin 128) (c : Fin 1024) : (k0_pay17 (F := Ideal) b (k0_pay5 p) (k0_pay12 v1 v5 v9) (ix2 r c) : EReal)
    = sigmoid (b (ix2 0 c) + ∑ k : Fin 128, k0_pay8 v1 v5 v9 (ix2 r ⟨128 + k.val, by omega⟩) * p (ix2 k c)) := by
  delta k0_pay17 k0_pay12 k0_pay5
  pointwise [sigmoid]
  simp only [zero_sub]

theorem pay18_at (r : Fin 128) (c : Fin 1024) : (k0_pay18 (F := Ideal) g (k0_pay13 v1 v5 v9) (ix2 r c) : EReal)
    = ∑ k : Fin 256, sigmoid (k0_pay8 v1 v5 v9 (ix2 r ⟨256 + k.val, by omega⟩)) * g (ix2 k c) := by
  delta k0_pay18 k0_pay13
  pointwise [sigmoid]
  simp only [zero_sub]

theorem pay19_at (r : Fin 128) (c : Fin 1024) : (k0_pay19 (F := Ideal) b k (ix2 r c) : EReal) = k (ix2 r c) * b (ix2 0 c) := by
  delta k0_pay19
  pointwise

theorem pay28_at (r : Fin 128) (c : Fin 1024) : (k0_pay28 (F := Ideal) b k s (ix2 r c) : EReal) = k (ix2 r c) * (1 + (s (ix2 r c) - 1) * b (ix2 0 c)) := by
  delta k0_pay28
  pointwise

/-- Each head's sum of squares, from real entries. -/
theorem pay25_at (r : Fin 128) (h : ∀ c, ∃ w : ℝ, (k (ix2 r c) * b (ix2 0 c) : EReal) = (w : EReal)) (j : Fin 128) :
    (k0_pay25 (F := Ideal) (k0_pay20 b k) k0_pay21 k0_pay22 k0_pay23 k0_pay24 (ix2 r j) : EReal)
      = picked (fun c => (k (ix2 r c) * b (ix2 0 c)) * (k (ix2 r c) * b (ix2 0 c))) j := by
  delta k0_pay25 k0_pay24 k0_pay23 k0_pay22 k0_pay21 k0_pay20
  pointwise
  simp only [onehot, pay19_at]
  exact parts _ _ fun c => mul_real (h c) (h c)

/-- The keys over their heads' norms, from real entries. -/
theorem pay27_at (r : Fin 128) (h : ∀ c, ∃ w : ℝ, (k (ix2 r c) * b (ix2 0 c) : EReal) = (w : EReal)) (c : Fin 1024) :
    (k0_pay27 (F := Ideal) (k0_pay19 b k) (k0_pay25 (k0_pay20 b k) k0_pay21 k0_pay22 k0_pay23 k0_pay24) k0_pay26 (ix2 r c) : EReal)
      = unit (fun c => k (ix2 r c) * b (ix2 0 c)) c := by
  delta k0_pay27 k0_pay26
  pointwise
  simp only [onehot, pay19_at, pay25_at b k r h]
  rw [parts _ _ (picked_real _ fun c => mul_real (h c) (h c)), spread, picked_eq]
  rfl

theorem pay29_at (z w o) (r : Fin 128) (c : Fin 1024) : (k0_pay29 (F := Ideal) z w o (ix2 r c) : EReal) = -(k0_pay27 (F := Ideal) z w o (ix2 r c) : EReal) := by
  delta k0_pay29
  pointwise
  rw [zero_sub]

theorem pay30_at (z w o) (r : Fin 128) (c : Fin 1024) : (k0_pay30 (F := Ideal) s z w o (ix2 r c) : EReal) = k0_pay27 (F := Ideal) z w o (ix2 r c) * s (ix2 r c) := by
  delta k0_pay30
  pointwise

variable (m : (ℓ : Loc nD τ sig) → Buf (Elt Ideal) ℓ) (c : Dev nD)

/-- The last eight rows of each tile, one tile further on. -/
def haloX (x : FVec Ideal S4096x3072 .f32) : FVec Ideal S256x3072 .f32 :=
  shapeCast S256x3072 (concatenate S32x8x3072 0 [⟨S1x8x3072, broadcastInDim S1x8x3072 ![] bcast_S_S1x8x3072 (constant S_ .f32 0x00000000#32)⟩,
    ⟨S31x8x3072, extractStridedSlice S31x8x3072 ![0, 0, 0] (extractStridedSlice S32x8x3072 ![0, 120, 0] (shapeCast S32x128x3072 x shapeCasts_S4096x3072_S32x128x3072)
      slices_S32x128x3072_S32x8x3072_0_120_0) slices_S32x8x3072_S31x8x3072_0_0_0⟩] concatenates_S1x8x3072_S31x8x3072_S32x8x3072_d0) shapeCasts_S32x8x3072_S256x3072

def haloL (x : FVec Ideal S4096x512 .f32) : FVec Ideal S256x512 .f32 :=
  shapeCast S256x512 (concatenate S32x8x512 0 [⟨S1x8x512, broadcastInDim S1x8x512 ![] bcast_S_S1x8x512 (constant S_ .f32 0x00000000#32)⟩,
    ⟨S31x8x512, extractStridedSlice S31x8x512 ![0, 0, 0] (extractStridedSlice S32x8x512 ![0, 120, 0] (shapeCast S32x128x512 x shapeCasts_S4096x512_S32x128x512)
      slices_S32x128x512_S32x8x512_0_120_0) slices_S32x8x512_S31x8x512_0_0_0⟩] concatenates_S1x8x512_S31x8x512_S32x8x512_d0) shapeCasts_S32x8x512_S256x512

theorem haloX_at (x : FVec Ideal S4096x3072 .f32) (t : ℕ) (ht : t < 32) (q : Fin 8) (k : Fin 3072) :
    (haloX x (ix2 ⟨t * 8 + q.val, by omega⟩ k) : EReal) = back (fun i => x (ix2 i k)) 8 ⟨t * 128 + q.val, by omega⟩ := by
  pointwise [haloX]
  unfold back
  by_cases h : t = 0
  · subst h
    rw [dif_pos (by omega), dif_neg (by simp only; omega)]
  · have e : ((t * 8 + q.val) / 8 - 1) * 128 + (120 + q.val) = t * 128 + q.val - 8 := by omega
    rw [dif_neg (by omega), dif_pos (by simp only; omega)]
    simp only [e]

theorem haloL_at (x : FVec Ideal S4096x512 .f32) (t : ℕ) (ht : t < 32) (q : Fin 8) (k : Fin 512) :
    (haloL x (ix2 ⟨t * 8 + q.val, by omega⟩ k) : EReal) = back (fun i => x (ix2 i k)) 8 ⟨t * 128 + q.val, by omega⟩ := by
  pointwise [haloL]
  unfold back
  by_cases h : t = 0
  · subst h
    rw [dif_pos (by omega), dif_neg (by simp only; omega)]
  · have e : ((t * 8 + q.val) / 8 - 1) * 128 + (120 + q.val) = t * 128 + q.val - 8 := by omega
    rw [dif_neg (by omega), dif_pos (by simp only; omega)]
    simp only [e]

/-- The mixing factors of the low-rank columns, filled up. -/
def factors (mu : FVec Ideal S1x3520 .f32) : FVec Ideal S1x512 .f32 :=
  concatenate S1x512 1 [⟨S1x128, pad S1x128 ![0, 0] ![0, 32] ![0, 0] (extractStridedSlice S1x96 ![0, 3072] mu slices_S1x3520_S1x96_0_3072) (sitofp .f32 (constantI S_ 32 0#32)) pads_S1x96_S1x128_000_0320 h_S_⟩,
    ⟨S1x128, pad S1x128 ![0, 0] ![0, 32] ![0, 0] (extractStridedSlice S1x96 ![0, 3168] mu slices_S1x3520_S1x96_0_3168) (sitofp .f32 (constantI S_ 32 0#32)) pads_S1x96_S1x128_000_0320 h_S_⟩,
    ⟨S1x256, extractStridedSlice S1x256 ![0, 3264] mu slices_S1x3520_S1x256_0_3264⟩] concatenates_S1x128_S1x128_S1x256_S1x512_d1

theorem factors_w (mu : FVec Ideal S1x3520 .f32) (k : Fin 96) : (factors mu (ix2 0 ⟨k.val, by omega⟩) : EReal) = mu (ix2 0 ⟨3072 + k.val, by omega⟩) := by
  pointwise [factors]
  rw [dif_pos (by omega)]

theorem factors_a (mu : FVec Ideal S1x3520 .f32) (k : Fin 96) : (factors mu (ix2 0 ⟨128 + k.val, by omega⟩) : EReal) = mu (ix2 0 ⟨3168 + k.val, by omega⟩) := by
  pointwise [factors]
  rw [dif_pos (by omega)]

theorem factors_g (mu : FVec Ideal S1x3520 .f32) (k : Fin 256) : (factors mu (ix2 0 ⟨256 + k.val, by omega⟩) : EReal) = mu (ix2 0 ⟨3264 + k.val, by omega⟩) := by
  pointwise [factors]
  have e : 256 + k.val - 128 - 128 = k.val := by omega
  rw [dif_neg (by omega), dif_neg (by omega)]
  simp only [e]

/-- A low-rank weight's rows, filled up. -/
def rows (w : FVec Ideal S96x1024 .f32) : FVec Ideal S128x1024 .f32 :=
  pad S128x1024 ![0, 0] ![32, 0] ![0, 0] w (sitofp .f32 (constantI S_ 32 0#32)) pads_S96x1024_S128x1024_0320_000 h_S_

theorem rows_at (w : FVec Ideal S96x1024 .f32) (k : Fin 128) (j : Fin 1024) :
    (rows w (ix2 k j) : EReal) = if h : k.val < 96 then w (ix2 ⟨k.val, h⟩ j) else 0 := by
  pointwise [rows]
  rw [fill]

theorem haloX_made : V m c main_v14 = haloX (m ((c : Thread nD τ).loc main_arg0)) := by
  unfold V
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl

theorem haloL_made : V m c main_v20 = haloL (m ((c : Thread nD τ).loc main_arg1)) := by
  unfold V
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl

theorem slice_made : V m c main_v0 = extractStridedSlice S1x3072 ![0, 0] (m ((c : Thread nD τ).loc main_arg2)) slices_S1x3520_S1x3072_0_0 := by
  unfold V
  simp only [List.flatten_cons, List.flatten_nil, List.append_nil, hostOps0, hostOps0_1, hostOps0_2, hostOps0_3, hostOps0_4, hostOps0_5, hostOps0_6, hostOps0_7, hostOps0_8, List.cons_append, List.nil_append]
  after_results

theorem factors_made : V m c main_v6 = factors (m ((c : Thread nD τ).loc main_arg2)) := by
  unfold V
  simp only [List.flatten_cons, List.flatten_nil, List.append_nil, hostOps0, hostOps0_1, hostOps0_2, hostOps0_3, hostOps0_4, hostOps0_5, hostOps0_6, hostOps0_7, hostOps0_8, List.cons_append, List.nil_append, StableHlo.TRef.binary, StableHlo.TRef.unary, StableHlo.TRef.toBuf, StableHlo.TRef.ofBuf, cast_eq]
  after_results_simp
  rfl

theorem rowsW_made : V m c main_v7 = rows (m ((c : Thread nD τ).loc main_arg7)) := by
  unfold V
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl

theorem rowsA_made : V m c main_v8 = rows (m ((c : Thread nD τ).loc main_arg8)) := by
  unfold V
  simp only [List.flatten_cons, List.flatten_nil, List.append_nil, hostOps0, hostOps0_1, hostOps0_2, hostOps0_3, hostOps0_4, hostOps0_5, hostOps0_6, hostOps0_7, hostOps0_8, List.cons_append, List.nil_append]
  after_results
  rfl

theorem idx : ∀ t : Fin cfg0.N, win0_0.index t = ![t.val, 0] ∧ win0_1.index t = ![t.val, 0] ∧ win0_2.index t = ![t.val, 0] ∧ win0_3.index t = ![t.val, 0] ∧ win0_4.index t = ![0, 0]
    ∧ win0_5.index t = ![0, 0] ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] ∧ win0_18.index t = ![t.val, 0] ∧ win0_19.index t = ![t.val, 0] := (by decide +kernel : ∀ t : Fin grid0.N, _)

section Blocks
variable (t : Fin cfg0.N)

theorem lt32 : t.val < 32 := lt_of_lt_of_eq t.isLt N_0

theorem e0 (r : Fin 128) (k : Fin 3072) : ((iblk m c 0 t : FVec Ideal S128x3072 .f32) (ix2 r k) : EReal)
    = (m ((c : Thread nD τ).loc main_arg0) : FVec Ideal S4096x3072 .f32) (ix2 (⟨t.val * 128 + r.val, by have := lt32 t; omega⟩ : Fin 4096) k) := by
  have ht := lt32 t
  refine Eq.trans ?_ (congrFun (V_main_arg0 m c) _)
  blk_point [iblk, idx t]

theorem e1 (r : Fin 128) (k : Fin 512) : ((iblk m c 1 t : FVec Ideal S128x512 .f32) (ix2 r k) : EReal)
    = (m ((c : Thread nD τ).loc main_arg1) : FVec Ideal S4096x512 .f32) (ix2 (⟨t.val * 128 + r.val, by have := lt32 t; omega⟩ : Fin 4096) k) := by
  have ht := lt32 t
  refine Eq.trans ?_ (congrFun (V_main_arg1 m c) _)
  blk_point [iblk, idx t]

theorem e2 (q : Fin 8) (k : Fin 3072) : ((iblk m c 2 t : FVec Ideal S8x3072 .f32) (ix2 q k) : EReal)
    = back (fun i => (m ((c : Thread nD τ).loc main_arg0) : FVec Ideal S4096x3072 .f32) (ix2 i k)) 8 ⟨t.val * 128 + q.val, by have := lt32 t; omega⟩ := by
  have ht := lt32 t
  refine Eq.trans ?_ ((congrFun (haloX_made m c) (ix2 (⟨t.val * 8 + q.val, by omega⟩ : Fin 256) k)).trans (haloX_at _ _ ht q k))
  blk_point [iblk, idx t]

theorem e3 (q : Fin 8) (k : Fin 512) : ((iblk m c 3 t : FVec Ideal S8x512 .f32) (ix2 q k) : EReal)
    = back (fun i => (m ((c : Thread nD τ).loc main_arg1) : FVec Ideal S4096x512 .f32) (ix2 i k)) 8 ⟨t.val * 128 + q.val, by have := lt32 t; omega⟩ := by
  have ht := lt32 t
  refine Eq.trans ?_ ((congrFun (haloL_made m c) (ix2 (⟨t.val * 8 + q.val, by omega⟩ : Fin 256) k)).trans (haloL_at _ _ ht q k))
  blk_point [iblk, idx t]

theorem e4 : (iblk m c 4 t : FVec Ideal S1x3072 .f32) = extractStridedSlice S1x3072 ![0, 0] (m ((c : Thread nD τ).loc main_arg2)) slices_S1x3520_S1x3072_0_0 := by
  rw [← slice_made m c]
  funext j
  blk_point [iblk, idx t]

theorem e5 : (iblk m c 5 t : FVec Ideal S1x512 .f32) = factors (m ((c : Thread nD τ).loc main_arg2)) := by
  rw [← factors_made m c]
  funext j
  blk_point [iblk, idx t]

theorem e6 : (iblk m c 6 t : FVec Ideal S1x1024 .f32) = m ((c : Thread nD τ).loc main_arg3) := by
  rw [← V_main_arg3 m c]
  funext j
  blk_point [iblk, idx t]

theorem e7 : (iblk m c 7 t : FVec Ideal S1x1024 .f32) = m ((c : Thread nD τ).loc main_arg4) := by
  rw [← V_main_arg4 m c]
  funext j
  blk_point [iblk, idx t]

theorem e8 : (iblk m c 8 t : FVec Ideal S1x1024 .f32) = m ((c : Thread nD τ).loc main_arg5) := by
  rw [← V_main_arg5 m c]
  funext j
  blk_point [iblk, idx t]

theorem e9 : (iblk m c 9 t : FVec Ideal S1x1024 .f32) = m ((c : Thread nD τ).loc main_arg6) := by
  rw [← V_main_arg6 m c]
  funext j
  blk_point [iblk, idx t]

theorem e10 : (iblk m c 10 t : FVec Ideal S128x1024 .f32) = rows (m ((c : Thread nD τ).loc main_arg7)) := by
  rw [← rowsW_made m c]
  funext j
  blk_point [iblk, idx t]

theorem e11 : (iblk m c 11 t : FVec Ideal S128x1024 .f32) = rows (m ((c : Thread nD τ).loc main_arg8)) := by
  rw [← rowsA_made m c]
  funext j
  blk_point [iblk, idx t]

theorem e12 : (iblk m c 12 t : FVec Ideal S256x1024 .f32) = m ((c : Thread nD τ).loc main_arg9) := by
  rw [← V_main_arg9 m c]
  funext j
  blk_point [iblk, idx t]

/-- The mixed columns of a tile. -/
theorem tileX (r : Fin 128) (k : Fin 3072) : (k0_pay7 (F := Ideal) (iblk m c 0 t) (k0_pay2 (iblk m c 4 t)) (k0_pay6 (iblk m c 0 t) (iblk m c 2 t)) (ix2 r k) : EReal)
    = mix (m ((c : Thread nD τ).loc main_arg0)) (m ((c : Thread nD τ).loc main_arg1)) (m ((c : Thread nD τ).loc main_arg2)) (ix2 (⟨t.val * 128 + r.val, by have := lt32 t; omega⟩ : Fin 4096) (⟨k.val, by omega⟩ : Fin 3520)) := by
  have ht := lt32 t
  rw [mixX _ _ ht _ _ _ (e0 m c t) (e2 m c t), e4, mix_at]
  simp only [joined_x]
  congr 1
  pointwise

theorem tileW (r : Fin 128) (k : Fin 96) : (k0_pay8 (F := Ideal) (iblk m c 1 t) (k0_pay1 (iblk m c 3 t)) (k0_pay3 (iblk m c 5 t)) (ix2 r ⟨k.val, by omega⟩) : EReal)
    = mix (m ((c : Thread nD τ).loc main_arg0)) (m ((c : Thread nD τ).loc main_arg1)) (m ((c : Thread nD τ).loc main_arg2)) (ix2 (⟨t.val * 128 + r.val, by have := lt32 t; omega⟩ : Fin 4096) (⟨3072 + k.val, by omega⟩ : Fin 3520)) := by
  have ht := lt32 t
  rw [mixL _ _ ht _ _ _ (e1 m c t) (e3 m c t), e5, mix_at, factors_w]
  simp only [joined_w]

theorem tileA (r : Fin 128) (k : Fin 96) : (k0_pay8 (F := Ideal) (iblk m c 1 t) (k0_pay1 (iblk m c 3 t)) (k0_pay3 (iblk m c 5 t)) (ix2 r ⟨128 + k.val, by omega⟩) : EReal)
    = mix (m ((c : Thread nD τ).loc main_arg0)) (m ((c : Thread nD τ).loc main_arg1)) (m ((c : Thread nD τ).loc main_arg2)) (ix2 (⟨t.val * 128 + r.val, by have := lt32 t; omega⟩ : Fin 4096) (⟨3168 + k.val, by omega⟩ : Fin 3520)) := by
  have ht := lt32 t
  rw [mixL _ _ ht _ _ _ (e1 m c t) (e3 m c t), e5, mix_at, factors_a]
  simp only [joined_a]

theorem tileG (r : Fin 128) (k : Fin 256) : (k0_pay8 (F := Ideal) (iblk m c 1 t) (k0_pay1 (iblk m c 3 t)) (k0_pay3 (iblk m c 5 t)) (ix2 r ⟨256 + k.val, by omega⟩) : EReal)
    = mix (m ((c : Thread nD τ).loc main_arg0)) (m ((c : Thread nD τ).loc main_arg1)) (m ((c : Thread nD τ).loc main_arg2)) (ix2 (⟨t.val * 128 + r.val, by have := lt32 t; omega⟩ : Fin 4096) (⟨3264 + k.val, by omega⟩ : Fin 3520)) := by
  have ht := lt32 t
  rw [mixL _ _ ht _ _ _ (e1 m c t) (e3 m c t), e5, mix_at, factors_g]
  simp only [joined_g]

theorem tileRate (r : Fin 128) (j : Fin 1024) : (k0_pay17 (F := Ideal) (iblk m c 7 t) (k0_pay5 (iblk m c 11 t)) (k0_pay12 (iblk m c 1 t) (k0_pay1 (iblk m c 3 t)) (k0_pay3 (iblk m c 5 t))) (ix2 r j) : EReal)
    = rates (lowA (m ((c : Thread nD τ).loc main_arg4)) (m ((c : Thread nD τ).loc main_arg8)) (mix (m ((c : Thread nD τ).loc main_arg0)) (m ((c : Thread nD τ).loc main_arg1)) (m ((c : Thread nD τ).loc main_arg2)))) (ix2 (⟨t.val * 128 + r.val, by have := lt32 t; omega⟩ : Fin 4096) j) := by
  rw [pay17_at, e7, e11, rates_at, lowA_at]
  simp only [rows_at]
  rw [filled (fun k => k0_pay8 (F := Ideal) (iblk m c 1 t) (k0_pay1 (iblk m c 3 t)) (k0_pay3 (iblk m c 5 t)) (ix2 r ⟨128 + k.val, by omega⟩)) (fun k => (m ((c : Thread nD τ).loc main_arg8)) (ix2 k j))]
  simp only [tileA]

end Blocks

theorem final13 : (dats m 0 c).arrAt 13 cfg0.N = firsts (mix (m ((c : Thread nD τ).loc main_arg0)) (m ((c : Thread nD τ).loc main_arg1)) (m ((c : Thread nD τ).loc main_arg2))) := by
  refine (dats m 0 c).arrAt_eq_of_covers 13 _ (by decide +kernel) fun t _ y => ?_
  blk_simp
  rw [after0_13]
  unfold out0_13 k0_pay34 k0_pay32
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 1024) := by blk_ext
  have hz : ((View.whole main_v21_0).slice (win0_13.rect t)).emb y
      = ix2 (⟨t.val * 128 + (y 0).val, by omega⟩ : Fin 4096) (⟨(y 1).val, (y 1).isLt⟩ : Fin 1024) := by blk_ext [idx t]
  rw [hz, firsts_at]
  exact (congrArg _ hy).trans ((pay9_at _ _ _ _ _).trans (tileX m c t _ _))

theorem final14 : (dats m 0 c).arrAt 14 cfg0.N = decays (lowW (m ((c : Thread nD τ).loc main_arg3)) (m ((c : Thread nD τ).loc main_arg7)) (mix (m ((c : Thread nD τ).loc main_arg0)) (m ((c : Thread nD τ).loc main_arg1)) (m ((c : Thread nD τ).loc main_arg2)))) := by
  refine (dats m 0 c).arrAt_eq_of_covers 14 _ (by decide +kernel) fun t _ y => ?_
  blk_simp
  rw [after0_14]
  unfold out0_14 k0_pay33 k0_pay31
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 1024) := by blk_ext
  have hz : ((View.whole main_v21_1).slice (win0_14.rect t)).emb y
      = ix2 (⟨t.val * 128 + (y 0).val, by omega⟩ : Fin 4096) (⟨(y 1).val, (y 1).isLt⟩ : Fin 1024) := by blk_ext [idx t]
  rw [hz, decays_at, lowW_at]
  refine (congrArg _ hy).trans ((pay16_at _ _ _ _ _ _ _).trans ?_)
  rw [e6, e10]
  simp only [rows_at]
  rw [filled (fun k => Ideal.tanh (k0_pay8 (F := Ideal) (iblk m c 1 t) (k0_pay1 (iblk m c 3 t)) (k0_pay3 (iblk m c 5 t)) (ix2 _ ⟨k.val, by omega⟩))) (fun k => (m ((c : Thread nD τ).loc main_arg7)) (ix2 k _))]
  simp only [tileW]

theorem final15 : (dats m 0 c).arrAt 15 cfg0.N = keys (m ((c : Thread nD τ).loc main_arg6)) (mix (m ((c : Thread nD τ).loc main_arg0)) (m ((c : Thread nD τ).loc main_arg1)) (m ((c : Thread nD τ).loc main_arg2))) (rates (lowA (m ((c : Thread nD τ).loc main_arg4)) (m ((c : Thread nD τ).loc main_arg8)) (mix (m ((c : Thread nD τ).loc main_arg0)) (m ((c : Thread nD τ).loc main_arg1)) (m ((c : Thread nD τ).loc main_arg2))))) := by
  refine (dats m 0 c).arrAt_eq_of_covers 15 _ (by decide +kernel) fun t _ y => ?_
  blk_simp
  rw [after0_15]
  unfold out0_15 k0_pay36 k0_pay35 k0_pay34 k0_pay33 k0_pay32 k0_pay31
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 1024) := by blk_ext
  have hz : ((View.whole main_v21_2).slice (win0_15.rect t)).emb y
      = ix2 (⟨t.val * 128 + (y 0).val, by omega⟩ : Fin 4096) (⟨(y 1).val, (y 1).isLt⟩ : Fin 1024) := by blk_ext [idx t]
  rw [hz, keys_at]
  refine (congrArg _ hy).trans ((pay28_at _ _ _ _ _).trans ?_)
  rw [tileRate, pay10_at, tileX, e9]

theorem final16 : (dats m 0 c).arrAt 16 cfg0.N = lasts (mix (m ((c : Thread nD τ).loc main_arg0)) (m ((c : Thread nD τ).loc main_arg1)) (m ((c : Thread nD τ).loc main_arg2))) := by
  refine (dats m 0 c).arrAt_eq_of_covers 16 _ (by decide +kernel) fun t _ y => ?_
  blk_simp
  rw [after0_16]
  unfold out0_16 k0_pay34 k0_pay32
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 1024) := by blk_ext
  have hz : ((View.whole main_v21_3).slice (win0_16.rect t)).emb y
      = ix2 (⟨t.val * 128 + (y 0).val, by omega⟩ : Fin 4096) (⟨(y 1).val, (y 1).isLt⟩ : Fin 1024) := by blk_ext [idx t]
  rw [hz, lasts_at]
  exact (congrArg _ hy).trans ((pay11_at _ _ _ _ _).trans (tileX m c t _ _))

theorem final17 (hk : ∀ r j, ∃ w : ℝ, (scaled (m ((c : Thread nD τ).loc main_arg5)) (mix (m ((c : Thread nD τ).loc main_arg0)) (m ((c : Thread nD τ).loc main_arg1)) (m ((c : Thread nD τ).loc main_arg2))) (ix2 r j) : EReal) = (w : EReal)) : (dats m 0 c).arrAt 17 cfg0.N = Host.negf (units (scaled (m ((c : Thread nD τ).loc main_arg5)) (mix (m ((c : Thread nD τ).loc main_arg0)) (m ((c : Thread nD τ).loc main_arg1)) (m ((c : Thread nD τ).loc main_arg2))))) := by
  refine (dats m 0 c).arrAt_eq_of_covers 17 _ (by decide +kernel) fun t _ y => ?_
  blk_simp
  rw [after0_17]
  unfold out0_17 k0_pay39 k0_pay38 k0_pay37 k0_pay35 k0_pay34 k0_pay32
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 1024) := by blk_ext
  have hz : ((View.whole main_v21_4).slice (win0_17.rect t)).emb y
      = ix2 (⟨t.val * 128 + (y 0).val, by omega⟩ : Fin 4096) (⟨(y 1).val, (y 1).isLt⟩ : Fin 1024) := by blk_ext [idx t]
  have kx (j : Fin 1024) : ((k0_pay10 (F := Ideal) (iblk m c 0 t) (k0_pay2 (iblk m c 4 t)) (k0_pay6 (iblk m c 0 t) (iblk m c 2 t)) (ix2 (⟨(y 0).val, h0⟩ : Fin 128) j) : EReal)
      * (m ((c : Thread nD τ).loc main_arg5) : FVec Ideal S1x1024 .f32) (ix2 0 j)) = scaled (m ((c : Thread nD τ).loc main_arg5)) (mix (m ((c : Thread nD τ).loc main_arg0)) (m ((c : Thread nD τ).loc main_arg1)) (m ((c : Thread nD τ).loc main_arg2))) (ix2 (⟨t.val * 128 + (y 0).val, by omega⟩ : Fin 4096) j) := by
    rw [pay10_at, tileX, scaled_at]
  rw [hz]
  refine (congrArg _ hy).trans ((pay29_at _ _ _ _ _).trans (Eq.trans ?_ (congrArg (fun z : EReal => -z) (units_at _ _ _)).symm))
  rw [e8, pay27_at _ _ _ (fun j => by rw [kx]; exact hk _ _)]
  simp only [kx]

theorem final18 (hk : ∀ r j, ∃ w : ℝ, (scaled (m ((c : Thread nD τ).loc main_arg5)) (mix (m ((c : Thread nD τ).loc main_arg0)) (m ((c : Thread nD τ).loc main_arg1)) (m ((c : Thread nD τ).loc main_arg2))) (ix2 r j) : EReal) = (w : EReal)) : (dats m 0 c).arrAt 18 cfg0.N = mulf (units (scaled (m ((c : Thread nD τ).loc main_arg5)) (mix (m ((c : Thread nD τ).loc main_arg0)) (m ((c : Thread nD τ).loc main_arg1)) (m ((c : Thread nD τ).loc main_arg2))))) (rates (lowA (m ((c : Thread nD τ).loc main_arg4)) (m ((c : Thread nD τ).loc main_arg8)) (mix (m ((c : Thread nD τ).loc main_arg0)) (m ((c : Thread nD τ).loc main_arg1)) (m ((c : Thread nD τ).loc main_arg2))))) := by
  refine (dats m 0 c).arrAt_eq_of_covers 18 _ (by decide +kernel) fun t _ y => ?_
  blk_simp
  rw [after0_18]
  unfold out0_18 k0_pay39 k0_pay38 k0_pay37 k0_pay36 k0_pay35 k0_pay34 k0_pay33 k0_pay32 k0_pay31
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 1024) := by blk_ext
  have hz : ((View.whole main_v21_5).slice (win0_18.rect t)).emb y
      = ix2 (⟨t.val * 128 + (y 0).val, by omega⟩ : Fin 4096) (⟨(y 1).val, (y 1).isLt⟩ : Fin 1024) := by blk_ext [idx t]
  have kx (j : Fin 1024) : ((k0_pay10 (F := Ideal) (iblk m c 0 t) (k0_pay2 (iblk m c 4 t)) (k0_pay6 (iblk m c 0 t) (iblk m c 2 t)) (ix2 (⟨(y 0).val, h0⟩ : Fin 128) j) : EReal)
      * (m ((c : Thread nD τ).loc main_arg5) : FVec Ideal S1x1024 .f32) (ix2 0 j)) = scaled (m ((c : Thread nD τ).loc main_arg5)) (mix (m ((c : Thread nD τ).loc main_arg0)) (m ((c : Thread nD τ).loc main_arg1)) (m ((c : Thread nD τ).loc main_arg2))) (ix2 (⟨t.val * 128 + (y 0).val, by omega⟩ : Fin 4096) j) := by
    rw [pay10_at, tileX, scaled_at]
  rw [hz]
  refine (congrArg _ hy).trans ((pay30_at _ _ _ _ _ _).trans (Eq.trans ?_ (congrArg (fun z : EReal => z * _) (units_at _ _ _)).symm))
  rw [tileRate, e8, pay27_at _ _ _ (fun j => by rw [kx]; exact hk _ _)]
  simp only [kx]

theorem final19 : (dats m 0 c).arrAt 19 cfg0.N = gates (m ((c : Thread nD τ).loc main_arg9)) (mix (m ((c : Thread nD τ).loc main_arg0)) (m ((c : Thread nD τ).loc main_arg1)) (m ((c : Thread nD τ).loc main_arg2))) := by
  refine (dats m 0 c).arrAt_eq_of_covers 19 _ (by decide +kernel) fun t _ y => ?_
  blk_simp
  rw [after0_19]
  unfold out0_19 k0_pay33 k0_pay31
  frame_out
  have ht : t.val < 32 := lt_of_lt_of_eq t.isLt N_0
  have h0 : (y 0).val < 128 := (y 0).isLt
  have hy : y = ix2 (⟨(y 0).val, h0⟩ : Fin 128) (⟨(y 1).val, (y 1).isLt⟩ : Fin 1024) := by blk_ext
  have hz : ((View.whole main_v21_6).slice (win0_19.rect t)).emb y
      = ix2 (⟨t.val * 128 + (y 0).val, by omega⟩ : Fin 4096) (⟨(y 1).val, (y 1).isLt⟩ : Fin 1024) := by blk_ext [idx t]
  rw [hz, gates_at]
  refine (congrArg _ hy).trans ((pay18_at _ _ _ _ _ _).trans ?_)
  rw [e12]
  simp only [tileG]

/-- The precondition, read: a head's scaled keys are real. -/
theorem keys_real (x : FVec Ideal S4096x3072 .f32) (l : FVec Ideal S4096x512 .f32) (mu : FVec Ideal S1x3520 .f32) (w0 a0 kk ka : FVec Ideal S1x1024 .f32) (w2 a2 : FVec Ideal S96x1024 .f32) (g2 : FVec Ideal S256x1024 .f32)
    (h : Cert.Pre_finite_k.fn (F := Ideal) x l mu w0 a0 kk ka w2 a2 g2 = fun _ => 1#1) (r : Fin 4096) (j : Fin 1024) :
    ∃ w : ℝ, (scaled kk (mix x l mu) (ix2 r j) : EReal) = (w : EReal) := by
  obtain ⟨w, hw⟩ := Agree.real_of_lt _ _ (fun _ => Agree.inf_at) h (ix2 r j)
  refine ⟨w, Eq.trans ?_ hw⟩
  have e : (if h : 1 ≤ r.val ∧ r.val - 1 < 4096 then (x (ix2 ⟨r.val - 1, h.2⟩ ⟨1024 + j.val, by omega⟩) : EReal) else FloatOps.sitofp (F := Ideal) .f32 0#32)
      = back (fun i => x (ix2 i ⟨1024 + j.val, by omega⟩)) 1 r := by
    unfold back
    by_cases h : 1 ≤ r.val
    · rw [dif_pos (by omega), dif_pos h]
    · rw [dif_neg (by omega), dif_neg h, fill]
  have q (i : Fin 4096) := joined_x x l i ⟨1024 + j.val, by omega⟩
  simp only at q
  rw [scaled_at, mix_at]
  simp only [q]
  pointwise [mixed, Cert.Pre_finite_k.fn_pad]
  rw [e]

/-- The seven results are the reference's where the scaled keys are real. -/
theorem algebraic19 : Cert.algebraic_Kernel19Ideal_Reference19Ideal_pre_finite_k (hKernel19Ideal := facts)
    (hReference19Ideal := Cert.Reference19Ideal.Gen.facts) (hPre_finite_k := preFacts) := by
  intro m ρ m' ρ' hpre hargs
  have hk (c : Dev nD) := keys_real _ _ _ _ _ _ _ _ _ _ (hpre c)
  refine ⟨_, _, _, _, _, _, _, (θ_run _ _ _).mono (fun r h c => ⟨(h.1 c).1.trans (final13 m c), (h.1 c).2.1.trans (final14 m c), (h.1 c).2.2.1.trans (final15 m c),
        (h.1 c).2.2.2.1.trans (final16 m c), (h.1 c).2.2.2.2.1.trans (final17 m c (hk c)), (h.1 c).2.2.2.2.2.1.trans (final18 m c (hk c)), (h.1 c).2.2.2.2.2.2.trans (final19 m c), h.2 c⟩)
      (θ_run_and ((θ_run defs _ _).mono (fun r h c => And.intro ((h c).1 13) (And.intro ((h c).1 14) (And.intro ((h c).1 15) (And.intro ((h c).1 16)
        (And.intro ((h c).1 17) (And.intro ((h c).1 18) ((h c).1 19))))))) (run_main m ρ)) (unchanged m ρ)),
    (θ_run _ _ _).mono (fun r h c => ?_) (Cert.Reference19Ideal.Value.run (F := Ideal) m' ρ')⟩
  obtain ⟨h0, h1, h2, h3, h4, h5, h6, h⟩ := h c
  obtain ⟨a0, a1, a2, a3, a4, a5, a6, a7, a8, a9⟩ := hargs c
  refine ⟨h0.trans ?_, h1.trans ?_, h2.trans ?_, h3.trans ?_, h4.trans ?_, h5.trans ?_, h6.trans ?_, h⟩
  · simp only [← a0, ← a1, ← a2, ← a3, ← a4, ← a5, ← a6, ← a7, ← a8, ← a9]
    rfl
  · unfold Cert.Reference19Ideal.Value.res_main_v61
    simp only [← a0, ← a1, ← a2, ← a3, ← a4, ← a5, ← a6, ← a7, ← a8, ← a9]
    rfl
  · unfold Cert.Reference19Ideal.Value.res_main_v59
    simp only [← a0, ← a1, ← a2, ← a3, ← a4, ← a5, ← a6, ← a7, ← a8, ← a9]
    rfl
  · simp only [← a0, ← a1, ← a2, ← a3, ← a4, ← a5, ← a6, ← a7, ← a8, ← a9]
    rfl
  · unfold Cert.Reference19Ideal.Value.res_main_v62
    simp only [← a0, ← a1, ← a2, ← a3, ← a4, ← a5, ← a6, ← a7, ← a8, ← a9]
    rfl
  · unfold Cert.Reference19Ideal.Value.res_main_v63
    simp only [← a0, ← a1, ← a2, ← a3, ← a4, ← a5, ← a6, ← a7, ← a8, ← a9]
    rfl
  · simp only [← a0, ← a1, ← a2, ← a3, ← a4, ← a5, ← a6, ← a7, ← a8, ← a9]
    rfl

end Kernel
end Cert.RwkvPre
end
-- ==== Proof.Halves.lean ====
module

public import proofs.«01_k».proof.Defs
public import proofs.«01_k».proof.Proof.Agree
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import Idealize.ShloMosaic.Lib.Pipeline.ValueKit
public import Idealize.ShloMosaic.Lib.StableHlo.Predicate

@[expose] public section

set_option maxRecDepth 16384

noncomputable section

namespace Cert.Halves

open Idealize.ShloMosaic Idealize.ShloMosaic.TcCoe Idealize.SL.Sem Idealize.ShloMosaic.Pointwise

/-- What the precondition says of the number of the half. -/
theorem zero_or_one (w : BitVec 32) (h : IntOp.ori (IntOp.cmpi .eq w 0#32) (IntOp.cmpi .eq w 1#32) = 1#1) : w = 0#32 ∨ w = 1#32 := by
  by_cases h0 : w = 0#32
  · exact .inl h0
  · by_cases h1 : w = 1#32
    · exact .inr h1
    · simp only [IntOp.ori, IntOp.cmpi, beq_eq_false_iff_ne.mpr h0, beq_eq_false_iff_ne.mpr h1] at h
      exact absurd h (by decide)

/-! ## The first half or the second of the columns, and what the other core sent for it -/

namespace Sum
instance preFacts : Cert.Pre_a_half.Facts := ⟨⟩

section Bits
open Cert.Kernel20 Cert.Kernel20.Gen

/-- The call's table, when the number of the half is `w`. -/
def words (w : BitVec 32) : pre0.Contents (Elt Bits) := fun | ⟨0, _⟩ => fun _ => w | ⟨_ + 1, h⟩ => absurd h (by simp)

theorem table (m : (ℓ : Loc nD τ sig) → Buf (Elt Bits) ℓ) (h : Cert.Pre_Kernel20 m) : tbl m = words 0#32 ∨ tbl m = words 1#32 := by
  have e : IntOp.ori (IntOp.cmpi .eq ((m (((0 : Dev nD) : Thread nD τ).loc main_arg0) : IVec S_ 32) (fun a => a.elim0)) 0#32) (IntOp.cmpi .eq ((m (((0 : Dev nD) : Thread nD τ).loc main_arg0) : IVec S_ 32) (fun a => a.elim0)) 1#32) = 1#1 := congrFun (h 0) (fun a => a.elim0)
  have v : ∀ w, (m (((0 : Dev nD) : Thread nD τ).loc main_arg0) : IVec S_ 32) (fun a => a.elim0) = w → tbl m = words w := fun w hw => by
    funext j x
    match j with
    | ⟨0, _⟩ =>
      refine Eq.trans ?_ hw
      unfold tbl V
      simp only [hostOps0]
      after_results
      exact congrArg (m (((0 : Dev nD) : Thread nD τ).loc main_arg0)) (funext fun a : Fin 0 => a.elim0)
  rcases zero_or_one _ e with h | h
  · exact .inl (v _ h)
  · exact .inr (v _ h)

theorem ok (m : (ℓ : Loc nD τ sig) → Buf (Elt Bits) ℓ) (h : Cert.Pre_Kernel20 m) : Ok (F := Bits) m := by
  unfold Ok
  rcases table m h with h | h <;> rw [h] <;> decide

end Bits

section Value
open Cert.Kernel20Ideal Cert.Kernel20Ideal.Gen

/-- The same table, of the idealized call. -/
def words' (w : BitVec 32) : pre0.Contents (Elt Ideal) := fun | ⟨0, _⟩ => fun _ => w | ⟨_ + 1, h⟩ => absurd h (by simp)

theorem table' (m : (ℓ : Loc nD τ sig) → Buf (Elt Ideal) ℓ) (h : Cert.Pre_Kernel20Ideal m) :
    ∃ w : Fin 2, (m (((0 : Dev nD) : Thread nD τ).loc main_arg0) : IVec S_ 32) = (fun _ => BitVec.ofNat 32 w.val) ∧ tbl m = words' (BitVec.ofNat 32 w.val) := by
  have e : IntOp.ori (IntOp.cmpi .eq ((m (((0 : Dev nD) : Thread nD τ).loc main_arg0) : IVec S_ 32) (fun a => a.elim0)) 0#32) (IntOp.cmpi .eq ((m (((0 : Dev nD) : Thread nD τ).loc main_arg0) : IVec S_ 32) (fun a => a.elim0)) 1#32) = 1#1 := congrFun (h 0) (fun a => a.elim0)
  have v : ∀ w, (m (((0 : Dev nD) : Thread nD τ).loc main_arg0) : IVec S_ 32) (fun a => a.elim0) = w → (m (((0 : Dev nD) : Thread nD τ).loc main_arg0) : IVec S_ 32) = (fun _ => w) ∧ tbl m = words' w := fun w hw => by
    refine ⟨funext fun i => (congrArg (m (((0 : Dev nD) : Thread nD τ).loc main_arg0)) (funext fun a : Fin 0 => a.elim0)).trans hw, ?_⟩
    funext j x
    match j with
    | ⟨0, _⟩ =>
      refine Eq.trans ?_ hw
      unfold tbl V
      simp only [hostOps0]
      after_results
      exact congrArg (m (((0 : Dev nD) : Thread nD τ).loc main_arg0)) (funext fun a : Fin 0 => a.elim0)
  rcases zero_or_one _ e with h | h
  · exact ⟨0, v _ h⟩
  · exact ⟨1, v _ h⟩

theorem ok' (m : (ℓ : Loc nD τ sig) → Buf (Elt Ideal) ℓ) (h : Cert.Pre_Kernel20Ideal m) : Ok (F := Ideal) m := by
  obtain ⟨w, -, h⟩ := table' m h
  unfold Ok
  rw [h]
  clear h
  revert w
  decide

/-- The block of each window at a grid point: the half's number moves the first window by two blocks. -/
theorem idx (w : Fin 2) (a : (pcfg0 (F := Ideal)).Adm) (ha : a.1 = words' (BitVec.ofNat 32 w.val)) :
    ∀ t : Fin (cfg0 a).N, (win0 a 0).index t = ![t.val / 2, 0, w.val * 2 + t.val % 2] ∧ (win0 a 1).index t = ![t.val / 2, 0, t.val % 2] ∧ (win0 a 2).index t = ![t.val / 2, 0, t.val % 2] := by
  obtain ⟨pf, hok⟩ := a
  subst ha
  revert w
  decide

theorem covers (w : Fin 2) (a : (pcfg0 (F := Ideal)).Adm) (ha : a.1 = words' (BitVec.ofNat 32 w.val)) : ((cfg0 a).win 2).Covers := by
  obtain ⟨pf, hok⟩ := a
  subst ha
  revert w
  decide +kernel

variable (m : (ℓ : Loc nD τ sig) → Buf (Elt Ideal) ℓ) (ρ : Dev nD → PrngReg) (c : Dev nD) (hO : Ok m)

/-- The reference's result, of the number of the half and the other operands. -/
def target (h : IVec S_ 32) (s : FVec Ideal S4x1524x2048 .f32) (g : FVec Ideal S4x1524x1024 .bf16) : FVec Ideal S4x1524x1024 .bf16 :=
  truncf .bf16 (addf (select (broadcastInDim S4x1524x1024 ![] Cert.Reference20Ideal.Gen.bcast_S_S4x1524x1024 (cmpi .eq h (constantI S_ 32 0#32))) (extractStridedSlice S4x1524x1024 ![0, 0, 0] s Cert.Reference20Ideal.Gen.slices_S4x1524x2048_S4x1524x1024_0_0_0) (extractStridedSlice S4x1524x1024 ![0, 0, 1024] s Cert.Reference20Ideal.Gen.slices_S4x1524x2048_S4x1524x1024_0_0_1024)) (extf .f32 g Cert.Reference20Ideal.Gen.bitsLt_bf16_f32)) Cert.Reference20Ideal.Gen.bitsLt_bf16_f32

theorem stored (x : FVec Ideal S1x1524x512 .f32) (g : FVec Ideal S1x1524x512 .bf16) (y : S1x1524x512.Idx) :
    k0_pay1 (F := Ideal) x g y = (x y + g y : EReal) := by
  obtain ⟨z, r, q, rfl⟩ : ∃ (z : Fin 1) (r : Fin 1524) (q : Fin 512), y = ix3 z r q := ⟨y 0, y 1, y 2, eq_ix3 y⟩
  obtain rfl : z = 0 := Subsingleton.elim _ _
  pointwise [k0_pay1]

theorem target_at (w : Fin 2) (s : FVec Ideal S4x1524x2048 .f32) (g : FVec Ideal S4x1524x1024 .bf16) (b : Fin 4) (r : Fin 1524) (n : Nat) (j : Nat) (hn : n < 2) (hj : j < 512)
    (p : n * 512 + j < 1024) (p' : (w.val * 2 + n) * 512 + j < 2048) :
    target (fun _ => BitVec.ofNat 32 w.val) s g (ix3 b r ⟨n * 512 + j, p⟩) = (s (ix3 b r ⟨(w.val * 2 + n) * 512 + j, p'⟩) + g (ix3 b r ⟨n * 512 + j, p⟩) : EReal) := by
  unfold target
  refine congrArg (fun a : EReal => a + g _) ?_
  match w with
  | 0 =>
    change extractStridedSlice S4x1524x1024 ![0, 0, 0] s Cert.Reference20Ideal.Gen.slices_S4x1524x2048_S4x1524x1024_0_0_0 (ix3 b r ⟨n * 512 + j, p⟩) = _
    refine congrArg s ?_
    blk_ext
    · rfl
    · rfl
    · change n * 512 + j = _
      omega
  | 1 =>
    change extractStridedSlice S4x1524x1024 ![0, 0, 1024] s Cert.Reference20Ideal.Gen.slices_S4x1524x2048_S4x1524x1024_0_0_1024 (ix3 b r ⟨n * 512 + j, p⟩) = _
    refine congrArg s ?_
    blk_ext
    · rfl
    · rfl
    · change 1024 + (n * 512 + j) = _
      omega

theorem final2 (w : Fin 2) (hw : tbl m = words' (BitVec.ofNat 32 w.val)) : (dats m hO 0 c).arrAt 2 (cfgM m hO).N = target (fun _ => BitVec.ofNat 32 w.val) (m ((c : Thread nD τ).loc main_arg1)) (m ((c : Thread nD τ).loc main_arg2)) := by
  refine (dats m hO 0 c).arrAt_eq_of_covers 2 _ ?_ fun t _ y => ?_
  · exact covers w (adm m hO) hw
  blk_simp
  change S1x1524x512.Idx at y
  have i0 : (pcfg0.win (adm m hO) 0).index t = ![t.val / 2, 0, w.val * 2 + t.val % 2] := (idx w (adm m hO) hw t).1
  have i1 : (pcfg0.win (adm m hO) 1).index t = ![t.val / 2, 0, t.val % 2] := (idx w (adm m hO) hw t).2.1
  have i2 : (pcfg0.win (adm m hO) 2).index t = ![t.val / 2, 0, t.val % 2] := (idx w (adm m hO) hw t).2.2
  rw [after0_2]
  unfold outsAt0 out0_A_2
  frame_out
  have ht : t.val < 8 := t.isLt
  have h1 : (y 1).val < 1524 := (y 1).isLt
  have h2 : (y 2).val < 512 := (y 2).isLt
  have hw2 : w.val < 2 := w.isLt
  have hz : ((spec0 2).arr.view.slice ((pcfg0.win (adm m hO) 2).rect t)).emb y
      = ix3 (⟨t.val / 2, by omega⟩ : Fin 4) (⟨(y 1).val, h1⟩ : Fin 1524) (⟨t.val % 2 * 512 + (y 2).val, by omega⟩ : Fin 1024) := by blk_ext [i2]
  have e0 : (iblk m hO c 0 t : FVec Ideal S1x1524x512 .f32) y
      = (m ((c : Thread nD τ).loc main_arg1) : FVec Ideal S4x1524x2048 .f32) (ix3 (⟨t.val / 2, by omega⟩ : Fin 4) (⟨(y 1).val, h1⟩ : Fin 1524) (⟨(w.val * 2 + t.val % 2) * 512 + (y 2).val, by omega⟩ : Fin 2048)) := by
    refine Eq.trans ?_ (congrFun (V_main_arg1 m c) _)
    blk_point [iblk]
    · exact congrFun i0 (0 : Fin 3)
    · exact (congrArg (· * 1524 + (y 1).val) (congrFun i0 (1 : Fin 3))).trans (by simp)
    · exact congrArg (· * 512 + (y 2).val) (congrFun i0 (2 : Fin 3))
  have e1 : (iblk m hO c 1 t : FVec Ideal S1x1524x512 .bf16) y
      = (m ((c : Thread nD τ).loc main_arg2) : FVec Ideal S4x1524x1024 .bf16) (ix3 (⟨t.val / 2, by omega⟩ : Fin 4) (⟨(y 1).val, h1⟩ : Fin 1524) (⟨t.val % 2 * 512 + (y 2).val, by omega⟩ : Fin 1024)) := by
    refine Eq.trans ?_ (congrFun (V_main_arg2 m c) _)
    blk_point [iblk]
    · exact congrFun i1 (0 : Fin 3)
    · exact (congrArg (· * 1524 + (y 1).val) (congrFun i1 (1 : Fin 3))).trans (by simp)
    · exact congrArg (· * 512 + (y 2).val) (congrFun i1 (2 : Fin 3))
  refine Eq.trans (congrFun (congrArg₂ k0_pay1 (Memref.IsWhole.read_unread _ _) (Memref.IsWhole.read_unread _ _)) y) (Eq.trans ?_ (congrArg (target _ _ _) hz).symm)
  refine (stored _ _ y).trans (Eq.trans ?_ (target_at w _ _ _ _ _ _ (Nat.mod_lt _ (by decide)) h2 _ (by omega)).symm)
  exact congrArg₂ (fun a b : EReal => a + b) e0 e1

theorem algebraic20 : Cert.algebraic_Kernel20Ideal_Reference20Ideal (hKernel20Ideal := facts)
    (hReference20Ideal := Cert.Reference20Ideal.Gen.facts) (hPre_a_half := preFacts) := by
  intro m ρ m' ρ' hpre hargs
  have hO := ok' m hpre
  obtain ⟨w, hw, htab⟩ := table' m hpre
  refine ⟨_, (θ_run _ _ _).mono (fun r h c => ⟨h.1 c |>.trans (final2 m c hO w htab), h.2 c⟩)
      (θ_run_and ((θ_run defs _ _).mono (fun r h c => (h c).1 2) (run_main m ρ hO)) (unchanged m ρ hO)),
    (θ_run _ _ _).mono (fun r h c => ?_) (Cert.Reference20Ideal.Value.run (F := Ideal) m' ρ')⟩
  obtain ⟨h0, h⟩ := h c
  obtain ⟨a0, a1, a2⟩ := hargs c
  refine ⟨h0.trans ?_, h⟩
  obtain rfl : c = 0 := Subsingleton.elim _ _
  simp only [← a0, ← a1, ← a2]
  exact congrArg (fun h => target h (m' (((0 : Dev nD) : Thread nD τ).loc Cert.Reference20Ideal.main_arg1)) (m' (((0 : Dev nD) : Thread nD τ).loc Cert.Reference20Ideal.main_arg2))) (a0.trans hw)

end Value
end Sum

/-! ## The first half or the second of the rows -/

namespace Send
instance preFacts : Cert.Pre_a_half_to_send.Facts := ⟨⟩

section Bits
open Cert.Kernel21 Cert.Kernel21.Gen

/-- The call's table, when the number of the half is `w`. -/
def words (w : BitVec 32) : pre0.Contents (Elt Bits) := fun | ⟨0, _⟩ => fun _ => w | ⟨_ + 1, h⟩ => absurd h (by simp)

theorem table (m : (ℓ : Loc nD τ sig) → Buf (Elt Bits) ℓ) (h : Cert.Pre_Kernel21 m) : tbl m = words 0#32 ∨ tbl m = words 1#32 := by
  have e : IntOp.ori (IntOp.cmpi .eq ((m (((0 : Dev nD) : Thread nD τ).loc main_arg0) : IVec S_ 32) (fun a => a.elim0)) 0#32) (IntOp.cmpi .eq ((m (((0 : Dev nD) : Thread nD τ).loc main_arg0) : IVec S_ 32) (fun a => a.elim0)) 1#32) = 1#1 := congrFun (h 0) (fun a => a.elim0)
  have v : ∀ w, (m (((0 : Dev nD) : Thread nD τ).loc main_arg0) : IVec S_ 32) (fun a => a.elim0) = w → tbl m = words w := fun w hw => by
    funext j x
    match j with
    | ⟨0, _⟩ =>
      refine Eq.trans ?_ hw
      unfold tbl V
      simp only [hostOps0]
      after_results
      exact congrArg (m (((0 : Dev nD) : Thread nD τ).loc main_arg0)) (funext fun a : Fin 0 => a.elim0)
  rcases zero_or_one _ e with h | h
  · exact .inl (v _ h)
  · exact .inr (v _ h)

theorem ok (m : (ℓ : Loc nD τ sig) → Buf (Elt Bits) ℓ) (h : Cert.Pre_Kernel21 m) : Ok (F := Bits) m := by
  unfold Ok
  rcases table m h with h | h <;> rw [h] <;> decide

end Bits

section Value
open Cert.Kernel21Ideal Cert.Kernel21Ideal.Gen

/-- The same table, of the idealized call. -/
def words' (w : BitVec 32) : pre0.Contents (Elt Ideal) := fun | ⟨0, _⟩ => fun _ => w | ⟨_ + 1, h⟩ => absurd h (by simp)

theorem table' (m : (ℓ : Loc nD τ sig) → Buf (Elt Ideal) ℓ) (h : Cert.Pre_Kernel21Ideal m) :
    ∃ w : Fin 2, (m (((0 : Dev nD) : Thread nD τ).loc main_arg0) : IVec S_ 32) = (fun _ => BitVec.ofNat 32 w.val) ∧ tbl m = words' (BitVec.ofNat 32 w.val) := by
  have e : IntOp.ori (IntOp.cmpi .eq ((m (((0 : Dev nD) : Thread nD τ).loc main_arg0) : IVec S_ 32) (fun a => a.elim0)) 0#32) (IntOp.cmpi .eq ((m (((0 : Dev nD) : Thread nD τ).loc main_arg0) : IVec S_ 32) (fun a => a.elim0)) 1#32) = 1#1 := congrFun (h 0) (fun a => a.elim0)
  have v : ∀ w, (m (((0 : Dev nD) : Thread nD τ).loc main_arg0) : IVec S_ 32) (fun a => a.elim0) = w → (m (((0 : Dev nD) : Thread nD τ).loc main_arg0) : IVec S_ 32) = (fun _ => w) ∧ tbl m = words' w := fun w hw => by
    refine ⟨funext fun i => (congrArg (m (((0 : Dev nD) : Thread nD τ).loc main_arg0)) (funext fun a : Fin 0 => a.elim0)).trans hw, ?_⟩
    funext j x
    match j with
    | ⟨0, _⟩ =>
      refine Eq.trans ?_ hw
      unfold tbl V
      simp only [hostOps0]
      after_results
      exact congrArg (m (((0 : Dev nD) : Thread nD τ).loc main_arg0)) (funext fun a : Fin 0 => a.elim0)
  rcases zero_or_one _ e with h | h
  · exact ⟨0, v _ h⟩
  · exact ⟨1, v _ h⟩

theorem ok' (m : (ℓ : Loc nD τ sig) → Buf (Elt Ideal) ℓ) (h : Cert.Pre_Kernel21Ideal m) : Ok (F := Ideal) m := by
  obtain ⟨w, -, h⟩ := table' m h
  unfold Ok
  rw [h]
  clear h
  revert w
  decide

/-- The block of each window at a grid point: the half's number moves the first window by two blocks. -/
theorem idx (w : Fin 2) (a : (pcfg0 (F := Ideal)).Adm) (ha : a.1 = words' (BitVec.ofNat 32 w.val)) :
    ∀ t : Fin (cfg0 a).N, (win0 a 0).index t = ![t.val / 2, w.val * 2 + t.val % 2, 0] ∧ (win0 a 1).index t = ![t.val / 2, t.val % 2, 0] := by
  obtain ⟨pf, hok⟩ := a
  subst ha
  revert w
  decide

theorem covers (w : Fin 2) (a : (pcfg0 (F := Ideal)).Adm) (ha : a.1 = words' (BitVec.ofNat 32 w.val)) : ((cfg0 a).win 1).Covers := by
  obtain ⟨pf, hok⟩ := a
  subst ha
  revert w
  decide +kernel

variable (m : (ℓ : Loc nD τ sig) → Buf (Elt Ideal) ℓ) (ρ : Dev nD → PrngReg) (c : Dev nD) (hO : Ok m)

/-- The reference's result, of the number of the half and the other operands. -/
def target (h : IVec S_ 32) (s : FVec Ideal S4x2048x2048 .f32) : FVec Ideal S4x1024x2048 .bf16 :=
  truncf .bf16 (select (broadcastInDim S4x1024x2048 ![] Cert.Reference21Ideal.Gen.bcast_S_S4x1024x2048 (cmpi .eq h (constantI S_ 32 0#32))) (extractStridedSlice S4x1024x2048 ![0, 0, 0] s Cert.Reference21Ideal.Gen.slices_S4x2048x2048_S4x1024x2048_0_0_0) (extractStridedSlice S4x1024x2048 ![0, 1024, 0] s Cert.Reference21Ideal.Gen.slices_S4x2048x2048_S4x1024x2048_0_1024_0)) Cert.Reference21Ideal.Gen.bitsLt_bf16_f32

theorem stored (x : FVec Ideal S1x512x2048 .f32) (y : S1x512x2048.Idx) : k0_pay1 (F := Ideal) x y = (x y : EReal) := by
  obtain ⟨z, r, q, rfl⟩ : ∃ (z : Fin 1) (r : Fin 512) (q : Fin 2048), y = ix3 z r q := ⟨y 0, y 1, y 2, eq_ix3 y⟩
  obtain rfl : z = 0 := Subsingleton.elim _ _
  pointwise [k0_pay1]

theorem target_at (w : Fin 2) (s : FVec Ideal S4x2048x2048 .f32) (b : Fin 4) (r : Fin 2048) (n j : Nat) (hn : n < 2) (hj : j < 512) (p : n * 512 + j < 1024)
    (p' : (w.val * 2 + n) * 512 + j < 2048) : target (fun _ => BitVec.ofNat 32 w.val) s (ix3 b ⟨n * 512 + j, p⟩ r) = (s (ix3 b ⟨(w.val * 2 + n) * 512 + j, p'⟩ r) : EReal) := by
  unfold target
  match w with
  | 0 =>
    change extractStridedSlice S4x1024x2048 ![0, 0, 0] s Cert.Reference21Ideal.Gen.slices_S4x2048x2048_S4x1024x2048_0_0_0 (ix3 b ⟨n * 512 + j, p⟩ r) = _
    refine congrArg s ?_
    blk_ext
    · rfl
    · change n * 512 + j = _
      omega
    · rfl
  | 1 =>
    change extractStridedSlice S4x1024x2048 ![0, 1024, 0] s Cert.Reference21Ideal.Gen.slices_S4x2048x2048_S4x1024x2048_0_1024_0 (ix3 b ⟨n * 512 + j, p⟩ r) = _
    refine congrArg s ?_
    blk_ext
    · rfl
    · change 1024 + (n * 512 + j) = _
      omega
    · rfl

theorem final1 (w : Fin 2) (hw : tbl m = words' (BitVec.ofNat 32 w.val)) : (dats m hO 0 c).arrAt 1 (cfgM m hO).N = target (fun _ => BitVec.ofNat 32 w.val) (m ((c : Thread nD τ).loc main_arg1)) := by
  refine (dats m hO 0 c).arrAt_eq_of_covers 1 _ (covers w (adm m hO) hw) fun t _ y => ?_
  blk_simp
  change S1x512x2048.Idx at y
  have i0 : (pcfg0.win (adm m hO) 0).index t = ![t.val / 2, w.val * 2 + t.val % 2, 0] := (idx w (adm m hO) hw t).1
  have i1 : (pcfg0.win (adm m hO) 1).index t = ![t.val / 2, t.val % 2, 0] := (idx w (adm m hO) hw t).2
  rw [after0_1]
  unfold outsAt0 out0_A_1
  frame_out
  have ht : t.val < 8 := t.isLt
  have h1 : (y 1).val < 512 := (y 1).isLt
  have h2 : (y 2).val < 2048 := (y 2).isLt
  have hw2 : w.val < 2 := w.isLt
  have hz : ((spec0 1).arr.view.slice ((pcfg0.win (adm m hO) 1).rect t)).emb y
      = ix3 (⟨t.val / 2, by omega⟩ : Fin 4) (⟨t.val % 2 * 512 + (y 1).val, by omega⟩ : Fin 1024) (⟨(y 2).val, h2⟩ : Fin 2048) := by blk_ext [i1]
  have e0 : (iblk m hO c 0 t : FVec Ideal S1x512x2048 .f32) y
      = (m ((c : Thread nD τ).loc main_arg1) : FVec Ideal S4x2048x2048 .f32) (ix3 (⟨t.val / 2, by omega⟩ : Fin 4) (⟨(w.val * 2 + t.val % 2) * 512 + (y 1).val, by omega⟩ : Fin 2048) (⟨(y 2).val, h2⟩ : Fin 2048)) := by
    refine Eq.trans ?_ (congrFun (V_main_arg1 m c) _)
    blk_point [iblk]
    · exact congrFun i0 (0 : Fin 3)
    · exact congrArg (· * 512 + (y 1).val) (congrFun i0 (1 : Fin 3))
    · exact (congrArg (· * 2048 + (y 2).val) (congrFun i0 (2 : Fin 3))).trans (by simp)
  refine Eq.trans (congrFun (congrArg k0_pay1 (Memref.IsWhole.read_unread _ _)) y) (Eq.trans ?_ (congrArg (target _ _) hz).symm)
  exact (stored _ y).trans (Eq.trans e0 (target_at w _ _ _ _ _ (Nat.mod_lt _ (by decide)) h1 _ (by omega)).symm)

theorem algebraic21 : Cert.algebraic_Kernel21Ideal_Reference21Ideal (hKernel21Ideal := facts)
    (hReference21Ideal := Cert.Reference21Ideal.Gen.facts) (hPre_a_half_to_send := preFacts) := by
  intro m ρ m' ρ' hpre hargs
  have hO := ok' m hpre
  obtain ⟨w, hw, htab⟩ := table' m hpre
  refine ⟨_, (θ_run _ _ _).mono (fun r h c => ⟨h.1 c |>.trans (final1 m c hO w htab), h.2 c⟩)
      (θ_run_and ((θ_run defs _ _).mono (fun r h c => (h c).1 1) (run_main m ρ hO)) (unchanged m ρ hO)),
    (θ_run _ _ _).mono (fun r h c => ?_) (Cert.Reference21Ideal.Value.run (F := Ideal) m' ρ')⟩
  obtain ⟨h0, h⟩ := h c
  obtain ⟨a0, a1⟩ := hargs c
  refine ⟨h0.trans ?_, h⟩
  obtain rfl : c = 0 := Subsingleton.elim _ _
  simp only [← a0, ← a1]
  exact congrArg (fun h => target h (m' (((0 : Dev nD) : Thread nD τ).loc Cert.Reference21Ideal.main_arg1))) (a0.trans hw)

end Value
end Send
end Cert.Halves
end
-- ==== Proof.SsdPostBwd.lean ====
/- The gradient of the end of the state-space mixer: the skip connection, the gate and the norm of each half of the columns,
   from the scan's result. The kernel spreads the heads' skip factors over their columns, and sums a head's columns, by products
   with one-hot matrices, and it writes the two halves' gradients side by side with zeros and adds them. -/
module

public import proofs.«01_k».proof.Defs
public import proofs.«01_k».proof.Proof.SsdPost
public import proofs.«01_k».proof.Proof.RwkvPost
public import proofs.«01_k».proof.Proof.Gen.Kernel22.Frame
public import proofs.«01_k».proof.Proof.Gen.Kernel22Ideal.Frame
public import proofs.«01_k».proof.Proof.Gen.Reference22Ideal.Run
public import Idealize.ShloMosaic.Lib.Pipeline.ValueKit

@[expose] public section

set_option maxRecDepth 16384

noncomputable section

namespace Cert.SsdPostBwd

open Idealize.ShloMosaic Idealize.ShloMosaic.TcCoe Idealize.SL.Sem Idealize.ShloMosaic.Pointwise
open Cert.RwkvPost (picked headSum picked_eq parts sum_real mul_real onehot)
open Cert.SsdPost (skips skips_at eighth)

instance preFacts : Cert.Pre_finite_skips.Facts := ⟨by decide, by decide, by decide, by decide, by decide, by decide, by decide, by decide, by decide, by decide, by decide, by decide, by decide, by decide, by decide, by decide, by decide, by decide, by decide, by decide⟩

section Rows

/-- The sum of the columns of a column's half. -/
def half (v : Fin 1024 → EReal) (c : Fin 1024) : EReal := ∑ l : Fin 512, v ⟨c.val / 512 * 512 + l.val, by omega⟩
/-- The mean of a half's squares, and the norm's epsilon. -/
def square (v : Fin 1024 → EReal) (c : Fin 1024) : EReal :=
  Ideal.div (half (fun k => v k * v k) c) (Ideal.ofBits .f32 0x44000000#32) + Ideal.ofBits .f32 0x358637BD#32
/-- What the gradient of the mean of squares multiplies a half by. -/
def weight (v e : Fin 1024 → EReal) (c : Fin 1024) : EReal :=
  Ideal.div (half (fun k => v k * e k) c * (Ideal.ofBits .f32 0xBF000000#32 * Ideal.div (Ideal.rsqrt (square v c)) (square v c))) (Ideal.ofBits .f32 0x44000000#32)
/-- The gradient of a row through the norm of its halves. -/
def pull (v e : Fin 1024 → EReal) (c : Fin 1024) : EReal :=
  e c * Ideal.rsqrt (square v c) + v c * weight v e c + weight v e c * v c
/-- The logistic function. -/
def sigmoid (z : EReal) : EReal := Ideal.div 1 (1 + Ideal.exp (-z))

/-- The kernel's derivative of the logistic function is the reference's. -/
theorem slope (z : EReal) : Ideal.div 1 ((1 + Ideal.exp (-z)) * (1 + Ideal.exp (-z))) * Ideal.exp (-z) = sigmoid z * (1 - sigmoid z) := by
  unfold sigmoid
  induction z with
  | bot =>
    have h : (1 : EReal) + ⊤ = ⊤ := EReal.coe_add_top 1
    simp [Ideal.div, h]
  | top =>
    have h : (1 : EReal) - 1 = 0 := EReal.sub_self (EReal.coe_ne_top 1) (EReal.coe_ne_bot 1)
    simp [Ideal.div, h]
  | coe z =>
    rw [← EReal.coe_neg, Ideal.exp_coe]
    have h : (1 + Real.exp (-z)) ≠ 0 := by positivity
    rw [show (1 : EReal) = ((1 : ℝ) : EReal) from rfl, ← EReal.coe_add, ← EReal.coe_mul, Ideal.div_coe (mul_ne_zero h h), Ideal.div_coe h]
    simp only [← EReal.coe_mul, ← EReal.coe_sub]
    congr 1
    field_simp
    ring

theorem coe_sum {ι : Type} [Fintype ι] (g : ι → ℝ) : ∑ i, (g i : EReal) = ((∑ i, g i : ℝ) : EReal) :=
  (map_sum (⟨⟨Real.toEReal, EReal.coe_zero⟩, EReal.coe_add⟩ : ℝ →+ EReal) g Finset.univ).symm

end Rows

section Sums
variable {n0 n1 n2 : ℕ}

/-- The host's sum over the first and the last axis. -/
theorem sum_ends (h : (⟨3, ![n0, n1, n2]⟩ : Shape).ReducesTo [0, 2] ⟨1, ![n1]⟩) (v : (⟨3, ![n0, n1, n2]⟩ : Shape).Idx → EReal) (a : EReal) (j : Fin n1) :
    Ideal.hostReduceAdd h v a (ix1 j) = a + ∑ r : Fin n0, ∑ l : Fin n2, v (ix3 r j l) := by
  refine congrArg (a + ·) ((Finset.sum_filter_eq_sum_of_fiber _ (fun k : Fin n0 × Fin n2 => ix3 k.1 j k.2)
    (fun _ _ e => Prod.ext (congrFun e 0) (congrFun e 2)) (fun i => ⟨fun e => ⟨(i 0, i 2), ?_⟩, ?_⟩) v).trans (by simp only [Fintype.sum_prod_type]))
  · funext b; apply Fin.ext
    match b with
    | ⟨0, _⟩ => rfl
    | ⟨1, _⟩ => exact (congrArg Fin.val (congrFun e 0)).symm
    | ⟨2, _⟩ => rfl
  · rintro ⟨k, rfl⟩
    funext b; apply Fin.ext
    match b with
    | ⟨0, _⟩ => rfl

end Sums

section Reference
open Cert.Reference22Ideal Cert.Reference22Ideal.Gen

variable (y : FVec Ideal S4096x1024 .f32) (x : FVec Ideal S4096x1536 .f32) (z : FVec Ideal S4096x1024 .f32) (d : FVec Ideal S1x16 .f32)
  (g : FVec Ideal S1x1024 .f32) (e : FVec Ideal S4096x2048 .f32) (u : FVec Ideal S4096x1024 .f32)

/-- The skip factors along the heads. -/
def factors : FVec Ideal S4096x16x64 .f32 :=
  broadcastInDim S4096x16x64 ![0, 1, 2] bcast_S1x16x1_S4096x16x64_0_1_2 (broadcastInDim S1x16x1 ![1, 2] bcast_S16x1_S1x16x1_1_2 (shapeCast _ d shapeCasts_S1x16_S16x1))
/-- The inputs by heads. -/
def inputs : FVec Ideal S4096x16x64 .f32 :=
  shapeCast _ (extractStridedSlice S4096x1024 ![0, 0] x slices_S4096x1536_S4096x1024_0_0) shapeCasts_S4096x1024_S4096x16x64
/-- The scan's result and the heads' skips. -/
def skipped : FVec Ideal S4096x1024 .f32 :=
  shapeCast _ (addf (shapeCast _ y shapeCasts_S4096x1024_S4096x16x64) (mulf (inputs x) (factors d))) shapeCasts_S4096x16x64_S4096x1024
/-- The logistic function of the gate's rows. -/
def logistic : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf z)))
/-- What the norm takes. -/
def gated : FVec Ideal S4096x1024 .f32 := mulf (skipped y x d) (mulf z (logistic z))
/-- Its rows in halves. -/
def halves : FVec Ideal S4096x2x512 .f32 := shapeCast _ u shapeCasts_S4096x1024_S4096x2x512
/-- The gradient before the gain, in halves. -/
def scaled : FVec Ideal S4096x2x512 .f32 :=
  shapeCast _ (mulf (extractStridedSlice S4096x1024 ![0, 0] e slices_S4096x2048_S4096x1024_0_0) (broadcastInDim S4096x1024 ![0, 1] bcast_S1x1024_S4096x1024_0_1 g)) shapeCasts_S4096x1024_S4096x2x512
/-- The mean of each half's squares, and the norm's epsilon. -/
def squares : FVec Ideal S4096x2x1 .f32 :=
  addf (Host.divf (broadcastInDim S4096x2x1 ![0, 1] bcast_S4096x2_S4096x2x1_0_1 (Host.reduceAdd (mulf (halves u) (halves u)) (constant S_ .f32 0x00000000#32) reducesTo_S4096x2x512_S4096x2_d2 h_S_)) (broadcastInDim S4096x2x1 ![] bcast_S_S4096x2x1 (constant S_ .f32 0x44000000#32))) (broadcastInDim S4096x2x1 ![] bcast_S_S4096x2x1 (constant S_ .f32 0x358637BD#32))
/-- What the gradient of the means of squares multiplies the halves by. -/
def weights : FVec Ideal S4096x2x512 .f32 :=
  broadcastInDim S4096x2x512 ![0, 1] bcast_S4096x2_S4096x2x512_0_1 (Host.reduceAdd (Host.divf (mulf (shapeCast _ (Host.reduceAdd (mulf (halves u) (scaled g e)) (constant S_ .f32 0x00000000#32) reducesTo_S4096x2x512_S4096x2_d2 h_S_) shapeCasts_S4096x2_S4096x2x1) (mulf (broadcastInDim S4096x2x1 ![] bcast_S_S4096x2x1 (constant S_ .f32 0xBF000000#32)) (Host.divf (Host.rsqrt (squares u)) (squares u)))) (broadcastInDim S4096x2x1 ![] bcast_S_S4096x2x1 (constant S_ .f32 0x44000000#32))) (constant S_ .f32 0x00000000#32) reducesTo_S4096x2x1_S4096x2_d2 h_S_)
/-- The gradient of what the norm takes. -/
def pulled : FVec Ideal S4096x1024 .f32 :=
  shapeCast _ (addf (addf (mulf (scaled g e) (broadcastInDim S4096x2x512 ![0, 1, 2] bcast_S4096x2x1_S4096x2x512_0_1_2 (Host.rsqrt (squares u)))) (mulf (halves u) (weights g e u))) (mulf (weights g e u) (halves u))) shapeCasts_S4096x2x512_S4096x1024
/-- The gradient of the scan's result and the skips, by heads. -/
def headed : FVec Ideal S4096x16x64 .f32 := shapeCast _ (mulf (pulled g e u) (mulf z (logistic z))) shapeCasts_S4096x1024_S4096x16x64

/-- The gradient of the scan's result. -/
def dys : FVec Ideal S4096x1024 .f32 := shapeCast _ (headed z g e u) shapeCasts_S4096x16x64_S4096x1024
/-- The gradient of the inputs. -/
def dxs : FVec Ideal S4096x1024 .f32 := shapeCast _ (mulf (headed z g e u) (factors d)) shapeCasts_S4096x16x64_S4096x1024
/-- The gradient of the gate's rows. -/
def dz (s : FVec Ideal S4096x1024 .f32) : FVec Ideal S4096x1024 .f32 :=
  addf (mulf (mulf s (pulled g e u)) (logistic z)) (mulf (mulf z (mulf s (pulled g e u))) (mulf (logistic z) (subf (broadcastInDim S4096x1024 ![] bcast_S_S4096x1024 (constant S_ .f32 0x3F800000#32)) (logistic z))))
/-- The gradient of the skip factors. -/
def dskip : FVec Ideal S1x16 .f32 :=
  shapeCast _ (broadcastInDim S16x1 ![0] bcast_S16_S16x1_0 (Host.reduceAdd (shapeCast _ (Host.reduceAdd (mulf (inputs x) (headed z g e u)) (constant S_ .f32 0x00000000#32) reducesTo_S4096x16x64_S16_d0_2 h_S_) shapeCasts_S16_S1x16x1) (constant S_ .f32 0x00000000#32) reducesTo_S1x16x1_S16_d0_2 h_S_)) shapeCasts_S16x1_S1x16
/-- The gradient of the gain. -/
def dgain : FVec Ideal S1x1024 .f32 :=
  shapeCast _ (Host.reduceAdd (mulf (shapeCast _ (mulf (halves u) (broadcastInDim S4096x2x512 ![0, 1, 2] bcast_S4096x2x1_S4096x2x512_0_1_2 (Host.rsqrt (squares u)))) shapeCasts_S4096x2x512_S4096x1024) (extractStridedSlice S4096x1024 ![0, 0] e slices_S4096x2048_S4096x1024_0_0)) (constant S_ .f32 0x00000000#32) reducesTo_S4096x1024_S1024_d0 h_S_) shapeCasts_S1024_S1x1024

/-- The product of an input and its skip's gradient. -/
def product (q : FVec Ideal S4096x1024 .f32) (r : Fin 4096) (k : Fin 1024) : EReal := x (ix2 r ⟨k.val, by omega⟩) * q (ix2 r k)

theorem product_eq (q : FVec Ideal S4096x1024 .f32) (r : Fin 4096) (k : Fin 1024) (w : EReal) (h : w = q (ix2 r k)) :
    (x (ix2 r ⟨k.val, by omega⟩) : EReal) * w = product x q r k := congrArg (fun v : EReal => (x (ix2 r ⟨k.val, by omega⟩) : EReal) * v) h

/-- The products, as an array. -/
def products (q : FVec Ideal S4096x1024 .f32) : FVec Ideal S4096x1024 .f32 := mulf (extractStridedSlice S4096x1024 ![0, 0] x slices_S4096x1536_S4096x1024_0_0) q

theorem products_at (q : FVec Ideal S4096x1024 .f32) (r : Fin 4096) (k : Fin 1024) : (products x q (ix2 r k) : EReal) = product x q r k := by
  pointwise [products, product]

theorem skipped_at (r : Fin 4096) (c : Fin 1024) : (skipped y x d (ix2 r c) : EReal)
    = y (ix2 r c) + x (ix2 r ⟨c.val, by omega⟩) * d (ix2 0 ⟨c.val / 64, by omega⟩) := by
  pointwise [skipped, inputs, factors]

theorem gated_at (r : Fin 4096) (c : Fin 1024) : (gated y x z d (ix2 r c) : EReal)
    = (y (ix2 r c) + x (ix2 r ⟨c.val, by omega⟩) * d (ix2 0 ⟨c.val / 64, by omega⟩)) * (z (ix2 r c) * sigmoid (z (ix2 r c))) := by
  pointwise [gated, logistic, sigmoid]
  rw [skipped_at]

theorem pulled_at (r : Fin 4096) (c : Fin 1024) : (pulled g e u (ix2 r c) : EReal)
    = pull (fun k => u (ix2 r k)) (fun k => e (ix2 r ⟨k.val, by omega⟩) * g (ix2 0 k)) c := by
  pointwise [pulled, scaled, weights, squares, halves, pull, weight, square, half]
  simp only [Fin.sum_univ_one]

theorem dys_at (r : Fin 4096) (c : Fin 1024) : (dys z g e u (ix2 r c) : EReal)
    = pull (fun k => u (ix2 r k)) (fun k => e (ix2 r ⟨k.val, by omega⟩) * g (ix2 0 k)) c * (z (ix2 r c) * sigmoid (z (ix2 r c))) := by
  pointwise [dys, headed, logistic, sigmoid]
  rw [pulled_at]

theorem dxs_at (r : Fin 4096) (c : Fin 1024) : (dxs z d g e u (ix2 r c) : EReal)
    = pull (fun k => u (ix2 r k)) (fun k => e (ix2 r ⟨k.val, by omega⟩) * g (ix2 0 k)) c * (z (ix2 r c) * sigmoid (z (ix2 r c))) * d (ix2 0 ⟨c.val / 64, by omega⟩) := by
  pointwise [dxs, headed, logistic, sigmoid, factors]
  rw [pulled_at]

theorem dz_at (s : FVec Ideal S4096x1024 .f32) (r : Fin 4096) (c : Fin 1024) : (dz z g e u s (ix2 r c) : EReal)
    = s (ix2 r c) * pull (fun k => u (ix2 r k)) (fun k => e (ix2 r ⟨k.val, by omega⟩) * g (ix2 0 k)) c * sigmoid (z (ix2 r c))
      + z (ix2 r c) * (s (ix2 r c) * pull (fun k => u (ix2 r k)) (fun k => e (ix2 r ⟨k.val, by omega⟩) * g (ix2 0 k)) c) * (sigmoid (z (ix2 r c)) * (1 - sigmoid (z (ix2 r c)))) := by
  pointwise [dz, logistic, sigmoid]
  rw [pulled_at]

theorem dgain_at (c : Fin 1024) : (dgain e u (ix2 0 c) : EReal)
    = ∑ r : Fin 4096, u (ix2 r c) * Ideal.rsqrt (square (fun k => u (ix2 r k)) c) * e (ix2 r ⟨c.val, by omega⟩) := by
  pointwise [dgain, squares, halves, square, half]

theorem dskip_at (h : Fin 16) : (dskip x z g e u (ix2 0 h) : EReal)
    = ∑ r : Fin 4096, ∑ l : Fin 64, product x (dys z g e u) r ⟨h.val * 64 + l.val, by omega⟩ := by
  pointwise [dskip, inputs, dys, product]
  rw [sum_ends]
  pointwise
  simp only [sum_ends, zero_add, Fin.sum_univ_one]
  pointwise

end Reference

section Kernel
open Cert.Kernel22Ideal Cert.Kernel22Ideal.Gen

variable (v0 v1 v2 v3 : FVec Ideal S256x1024 .f32) (v4 : FVec Ideal S1x128 .f32) (v6 : FVec Ideal S1x1024 .f32)

theorem spreader (k : Fin 128) (c : Fin 1024) : (k0_pay5 (F := Ideal) (ix2 k c) : EReal) = if c.val / 64 = k.val then 1 else 0 := by
  delta k0_pay5
  pointwise
  exact onehot c k

/-- The skip factors over the columns, where they are real. -/
theorem factor_at (hd : ∀ k, ∃ w : ℝ, (v4 (ix2 0 k) : EReal) = (w : EReal)) (c : Fin 1024) :
    (k0_pay7 (k0_pay4 v4) (k0_pay5 (F := Ideal)) (k0_pay6 v4) (ix2 0 c) : EReal) = v4 (ix2 0 ⟨c.val / 64, by omega⟩) := by
  have gone (k) : (v4 (ix2 0 k) - v4 (ix2 0 k) : EReal) = 0 := Cert.RwkvPost.sub_gone (hd k)
  have pick := Cert.RwkvPost.spread (fun k => v4 (ix2 0 k)) c
  delta k0_pay7 k0_pay6 k0_pay4
  pointwise
  simp only [spreader, gone, sub_zero, zero_mul, Finset.sum_const_zero, add_zero, pick, eighth]
  obtain ⟨w, hw⟩ := hd ⟨c.val / 64, by omega⟩
  rw [hw, Finset.sum_const, Finset.card_univ, Fintype.card_fin, ← EReal.coe_nsmul, ← EReal.coe_mul]
  congr 1
  simp only [nsmul_eq_mul]
  ring

/-- The gate, as the kernel computes it. -/
theorem gate_at (r : Fin 256) (c : Fin 1024) : (k0_pay13 (F := Ideal) v2 (ix2 r c) : EReal) = v2 (ix2 r c) * sigmoid (v2 (ix2 r c)) := by
  pointwise [k0_pay13, k0_pay11, k0_pay10, k0_pay9, sigmoid]
  rw [zero_sub]

theorem skip_at (hd : ∀ k, ∃ w : ℝ, (v4 (ix2 0 k) : EReal) = (w : EReal)) (r : Fin 256) (c : Fin 1024) :
    (k0_pay8 v0 v1 (k0_pay4 v4) (k0_pay5 (F := Ideal)) (k0_pay6 v4) (ix2 r c) : EReal) = v0 (ix2 r c) + v1 (ix2 r c) * v4 (ix2 0 ⟨c.val / 64, by omega⟩) := by
  pointwise [k0_pay8]
  rw [factor_at v4 hd]

theorem gated_row (hd : ∀ k, ∃ w : ℝ, (v4 (ix2 0 k) : EReal) = (w : EReal)) (r : Fin 256) (c : Fin 1024) :
    (k0_pay14 v0 v1 v2 (k0_pay4 v4) (k0_pay5 (F := Ideal)) (k0_pay6 v4) (ix2 r c) : EReal)
      = (v0 (ix2 r c) + v1 (ix2 r c) * v4 (ix2 0 ⟨c.val / 64, by omega⟩)) * (v2 (ix2 r c) * sigmoid (v2 (ix2 r c))) := by
  pointwise [k0_pay14]
  rw [skip_at v0 v1 v4 hd, gate_at]

/-- The gradient of what the norm takes, from its two halves. -/
theorem pull_at (u : FVec Ideal S256x1024 .f32) (a : FVec Ideal S8x128 .f32) (b d) (h : k0_pay14 v0 v1 v2 a b d = u) (r : Fin 256) (c : Fin 1024) :
    (k0_pay31 (k0_pay15 v0 v1 v2 a b d) (k0_pay27 v3 v6 (k0_pay20 v0 v1 v2 a b d) (k0_pay21 v0 v1 v2 a b d)) (k0_pay28 v3 v6 (k0_pay17 v0 v1 v2 a b d))
      (k0_pay29 v3 v6 (k0_pay15 v0 v1 v2 a b d) (k0_pay18 v0 v1 v2 a b d)) (k0_pay30 v3 v6 (k0_pay15 v0 v1 v2 a b d) (k0_pay18 v0 v1 v2 a b d)) (ix2 r c) : EReal)
      = pull (fun k => u (ix2 r k)) (fun k => v3 (ix2 r k) * v6 (ix2 0 k)) c := by
  have left (l : Fin 512) : (k0_pay15 v0 v1 v2 a b d (ix2 r l) : EReal) = u (ix2 r ⟨l.val, by omega⟩) := by
    delta k0_pay15
    rw [h]
    pointwise
  have right (l : Fin 512) : (k0_pay20 v0 v1 v2 a b d (ix2 r l) : EReal) = u (ix2 r ⟨512 + l.val, by omega⟩) := by
    delta k0_pay20
    rw [h]
    pointwise
  pointwise [k0_pay31, k0_pay30, k0_pay29, k0_pay28, k0_pay27, k0_pay26, k0_pay25, k0_pay23, k0_pay22, k0_pay21, k0_pay18, k0_pay17, k0_pay16]
  simp only [left, right, pull, weight, square, half, Fin.sum_univ_one]
  by_cases hc : c.val < 512
  · have h0 : ∀ l : Fin 512, (⟨c.val / 512 * 512 + l.val, by omega⟩ : Fin 1024) = ⟨l.val, by omega⟩ := fun l => Fin.ext (by simp only; omega)
    simp only [dif_pos hc, h0, zero_add]
  · have h0 : ∀ l : Fin 512, (⟨c.val / 512 * 512 + l.val, by omega⟩ : Fin 1024) = ⟨512 + l.val, by omega⟩ := fun l => Fin.ext (by simp only; omega)
    have h1 : (⟨512 + (c.val - 512), by omega⟩ : Fin 1024) = c := Fin.ext (by simp only; omega)
    simp only [dif_neg hc, h0, h1, add_zero]

/-- A tile's gradient of the gain. -/
theorem gain_at (u : FVec Ideal S256x1024 .f32) (a : FVec Ideal S8x128 .f32) (b d) (h : k0_pay14 v0 v1 v2 a b d = u) (c : Fin 1024) :
    (k0_pay24 v3 (k0_pay19 v0 v1 v2 a b d) (k0_pay20 v0 v1 v2 a b d) (k0_pay21 v0 v1 v2 a b d) (ix2 0 c) : EReal)
      = ∑ r : Fin 256, u (ix2 r c) * Ideal.rsqrt (square (fun k => u (ix2 r k)) c) * v3 (ix2 r c) := by
  have left (r) (l : Fin 512) : (k0_pay15 v0 v1 v2 a b d (ix2 r l) : EReal) = u (ix2 r ⟨l.val, by omega⟩) := by
    delta k0_pay15
    rw [h]
    pointwise
  have right (r) (l : Fin 512) : (k0_pay20 v0 v1 v2 a b d (ix2 r l) : EReal) = u (ix2 r ⟨512 + l.val, by omega⟩) := by
    delta k0_pay20
    rw [h]
    pointwise
  pointwise [k0_pay24, k0_pay23, k0_pay22, k0_pay21, k0_pay19, k0_pay17, k0_pay16]
  refine Finset.sum_congr rfl fun r _ => ?_
  simp only [left, right, square, half]
  by_cases hc : c.val < 512
  · have h0 : ∀ l : Fin 512, (⟨c.val / 512 * 512 + l.val, by omega⟩ : Fin 1024) = ⟨l.val, by omega⟩ := fun l => Fin.ext (by simp only; omega)
    simp only [dif_pos hc, h0]
  · have h0 : ∀ l : Fin 512, (⟨c.val / 512 * 512 + l.val, by omega⟩ : Fin 1024) = ⟨512 + l.val, by omega⟩ := fun l => Fin.ext (by simp only; omega)
    have h1 : (⟨512 + (c.val - 512), by omega⟩ : Fin 1024) = c := Fin.ext (by simp only; omega)
    simp only [dif_neg hc, h0, h1]

/-- A tile's gradient of the gate's rows, from that of what the norm takes. -/
theorem dz_row (s p : FVec Ideal S256x1024 .f32) (a b d e f) (h : k0_pay31 a b d e f = p) (r : Fin 256) (c : Fin 1024) :
    (k0_pay33 v2 s (k0_pay9 v2) (k0_pay11 v2) (k0_pay12 v2) a b d e f (ix2 r c) : EReal)
      = s (ix2 r c) * p (ix2 r c) * sigmoid (v2 (ix2 r c)) + v2 (ix2 r c) * (s (ix2 r c) * p (ix2 r c)) * (sigmoid (v2 (ix2 r c)) * (1 - sigmoid (v2 (ix2 r c)))) := by
  delta k0_pay33
  rw [h]
  pointwise [k0_pay12, k0_pay11, k0_pay10, k0_pay9]
  rw [← slope]
  simp only [zero_sub, mul_one, EReal.neg_mul, neg_neg, sigmoid, mul_assoc]

/-- A tile's sums of the columns of each head, from real entries. -/
theorem heads_at (q : FVec Ideal S256x1024 .f32) (a b d e f g) (h : k0_pay32 a b d e f g = q)
    (hq : ∀ r c, ∃ w : ℝ, (v1 (ix2 r c) * q (ix2 r c) : EReal) = (w : EReal)) (k : Fin 128) :
    (k0_pay1 (k0_pay35 v1 a b d e f g) k0_pay36 k0_pay37 k0_pay38 (ix2 0 k) : EReal) = picked (fun c => ∑ r : Fin 256, v1 (ix2 r c) * q (ix2 r c)) k := by
  delta k0_pay1 k0_pay35 k0_pay36 k0_pay37 k0_pay38
  rw [h]
  have hs : ∀ c, ∃ w : ℝ, (∑ r : Fin 256, (v1 (ix2 r c) * q (ix2 r c) : EReal)) = (w : EReal) := fun c => sum_real _ fun r => hq r c
  choose w hw using hs
  pointwise
  have flag (c : Fin 1024) : (if c.val / 64 = k.val then 1 else 0 : EReal) = ((if c.val / 64 = k.val then 1 else 0 : ℝ) : EReal) := by split <;> rfl
  simp only [Fin.sum_univ_one, hw, eighth, onehot]
  simp only [parts (fun c => (w c : EReal) * (((1 : ℝ) / 8 : ℝ) : EReal)) _ (fun c => ⟨w c * (1 / 8), (EReal.coe_mul _ _).symm⟩)]
  unfold picked
  simp only [flag, ← EReal.coe_mul, coe_sum]
  congr 1
  simp only [Finset.sum_const, Finset.card_univ, Fintype.card_fin, nsmul_eq_mul, Finset.mul_sum]
  refine Finset.sum_congr rfl fun c _ => ?_
  push_cast
  ring

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] ∧ win0_10.index t = ![0, 0] :=
  (by decide +kernel : ∀ t : Fin grid0.N, _)

/-- What the body computes at a point: what the norm takes, its gradient, that of the scan's result, the head sums' rows. -/
abbrev taken (t : Fin cfg0.N) : FVec Ideal S256x1024 .f32 :=
  k0_pay14 (iblk m c 0 t) (X0_1 m c t) (iblk m c 2 t) (k0_pay4 (iblk m c 4 t)) k0_pay5 (k0_pay6 (iblk m c 4 t))
abbrev leftAt (t : Fin cfg0.N) : FVec Ideal S256x512 .f32 :=
  k0_pay15 (iblk m c 0 t) (X0_1 m c t) (iblk m c 2 t) (k0_pay4 (iblk m c 4 t)) k0_pay5 (k0_pay6 (iblk m c 4 t))
abbrev rightAt (t : Fin cfg0.N) : FVec Ideal S256x1024 .f32 :=
  k0_pay27 (iblk m c 3 t) (iblk m c 5 t)
    (k0_pay20 (iblk m c 0 t) (X0_1 m c t) (iblk m c 2 t) (k0_pay4 (iblk m c 4 t)) k0_pay5 (k0_pay6 (iblk m c 4 t)))
    (k0_pay21 (iblk m c 0 t) (X0_1 m c t) (iblk m c 2 t) (k0_pay4 (iblk m c 4 t)) k0_pay5 (k0_pay6 (iblk m c 4 t)))
abbrev firstAt (t : Fin cfg0.N) : FVec Ideal S256x512 .f32 :=
  k0_pay28 (iblk m c 3 t) (iblk m c 5 t)
    (k0_pay17 (iblk m c 0 t) (X0_1 m c t) (iblk m c 2 t) (k0_pay4 (iblk m c 4 t)) k0_pay5 (k0_pay6 (iblk m c 4 t)))
abbrev weightAt (t : Fin cfg0.N) : FVec Ideal S256x512 .f32 :=
  k0_pay29 (iblk m c 3 t) (iblk m c 5 t) (leftAt m c t)
    (k0_pay18 (iblk m c 0 t) (X0_1 m c t) (iblk m c 2 t) (k0_pay4 (iblk m c 4 t)) k0_pay5 (k0_pay6 (iblk m c 4 t)))
abbrev secondAt (t : Fin cfg0.N) : FVec Ideal S256x512 .f32 :=
  k0_pay30 (iblk m c 3 t) (iblk m c 5 t) (leftAt m c t)
    (k0_pay18 (iblk m c 0 t) (X0_1 m c t) (iblk m c 2 t) (k0_pay4 (iblk m c 4 t)) k0_pay5 (k0_pay6 (iblk m c 4 t)))
abbrev pulledAt (t : Fin cfg0.N) : FVec Ideal S256x1024 .f32 :=
  k0_pay31 (leftAt m c t) (rightAt m c t) (firstAt m c t) (weightAt m c t) (secondAt m c t)
abbrev dysAt (t : Fin cfg0.N) : FVec Ideal S256x1024 .f32 :=
  k0_pay32 (k0_pay13 (iblk m c 2 t)) (leftAt m c t) (rightAt m c t) (firstAt m c t) (weightAt m c t) (secondAt m c t)
abbrev dzAt (t : Fin cfg0.N) : FVec Ideal S256x1024 .f32 :=
  k0_pay33 (iblk m c 2 t) (k0_pay8 (iblk m c 0 t) (X0_1 m c t) (k0_pay4 (iblk m c 4 t)) k0_pay5 (k0_pay6 (iblk m c 4 t)))
    (k0_pay9 (iblk m c 2 t)) (k0_pay11 (iblk m c 2 t)) (k0_pay12 (iblk m c 2 t)) (leftAt m c t) (rightAt m c t) (firstAt m c t) (weightAt m c t) (secondAt m c t)
abbrev dxsAt (t : Fin cfg0.N) : FVec Ideal S256x1024 .f32 :=
  k0_pay34 (k0_pay7 (k0_pay4 (iblk m c 4 t)) k0_pay5 (k0_pay6 (iblk m c 4 t))) (k0_pay13 (iblk m c 2 t)) (leftAt m c t) (rightAt m c t) (firstAt m c t) (weightAt m c t) (secondAt m c t)
abbrev headsAt (t : Fin cfg0.N) : FVec Ideal S1x128 .f32 :=
  k0_pay1 (k0_pay35 (X0_1 m c t) (k0_pay13 (iblk m c 2 t)) (leftAt m c t) (rightAt m c t) (firstAt m c t) (weightAt m c t) (secondAt m c t)) k0_pay36 k0_pay37 k0_pay38
abbrev gainAt (t : Fin cfg0.N) : FVec Ideal S1x1024 .f32 :=
  k0_pay24 (iblk m c 3 t)
    (k0_pay19 (iblk m c 0 t) (X0_1 m c t) (iblk m c 2 t) (k0_pay4 (iblk m c 4 t)) k0_pay5 (k0_pay6 (iblk m c 4 t)))
    (k0_pay20 (iblk m c 0 t) (X0_1 m c t) (iblk m c 2 t) (k0_pay4 (iblk m c 4 t)) k0_pay5 (k0_pay6 (iblk m c 4 t)))
    (k0_pay21 (iblk m c 0 t) (X0_1 m c t) (iblk m c 2 t) (k0_pay4 (iblk m c 4 t)) k0_pay5 (k0_pay6 (iblk m c 4 t)))

/-- The three outputs by rows, at a point. -/
theorem outs (t : Fin cfg0.N) : (outsAt0 m c t.val t.isLt).1 = dysAt m c t ∧ (outsAt0 m c t.val t.isLt).2.1 = dxsAt m c t
    ∧ (outsAt0 m c t.val t.isLt).2.2.1 = dzAt m c t := by
  by_cases h : t.val % 16 = 0
  · rw [outsAt0_A m c t h (by have := lt_of_lt_of_eq t.isLt N_0; omega)]; frame_out
    exact ⟨trivial, trivial, trivial⟩
  · rw [outsAt0_B m c t h (by omega)]; frame_out
    exact ⟨trivial, trivial, trivial⟩

theorem heads_first (t : Fin cfg0.N) (h : t.val % 16 = 0) (j : S1x128.Idx) : ((outsAt0 m c t.val t.isLt).2.2.2.1 j : EReal) = 0 + headsAt m c t j := by
  rw [outsAt0_A m c t h (by have := lt_of_lt_of_eq t.isLt N_0; omega)]; frame_out
  exact (zero_add _).symm

theorem heads_next (t : Fin cfg0.N) (h : ¬ t.val % 16 = 0) (j : S1x128.Idx) : ((outsAt0 m c t.val t.isLt).2.2.2.1 j : EReal)
    = (outsAt0 m c (t.val - 1) (Nat.lt_of_le_of_lt (Nat.sub_le _ _) t.isLt)).2.2.2.1 j + headsAt m c t j := by
  rw [outsAt0_B m c t h (by omega)]; frame_out
  exact congrArg (· + _) (congrFun (shapeCast_self _ _) j)

theorem gain_first (t : Fin cfg0.N) (h : t.val % 16 = 0) (j : S1x1024.Idx) : ((outsAt0 m c t.val t.isLt).2.2.2.2 j : EReal) = 0 + gainAt m c t j := by
  rw [outsAt0_A m c t h (by have := lt_of_lt_of_eq t.isLt N_0; omega)]; frame_out
  exact (zero_add _).symm

theorem gain_next (t : Fin cfg0.N) (h : ¬ t.val % 16 = 0) (j : S1x1024.Idx) : ((outsAt0 m c t.val t.isLt).2.2.2.2 j : EReal)
    = (outsAt0 m c (t.val - 1) (Nat.lt_of_le_of_lt (Nat.sub_le _ _) t.isLt)).2.2.2.2 j + gainAt m c t j := by
  rw [outsAt0_B m c t h (by omega)]; frame_out
  exact congrArg (· + _) (congrFun (shapeCast_self _ _) j)

theorem padded : V m c main_v0 = skips (m ((c : Thread nD τ).loc main_arg3)) := by
  unfold V V0
  simp only [List.flatten_cons, List.flatten_nil, List.append_nil, hostOps0, hostOps0_1, List.cons_append, List.nil_append]
  after_results
  rfl

/-- A tile's row, of all rows. -/
abbrev row (t : Fin cfg0.N) (r : Fin 256) : Fin 4096 := ⟨t.val * 256 + r.val, by have := lt_of_lt_of_eq t.isLt N_0; omega⟩

theorem e0 (t : Fin cfg0.N) (r : Fin 256) (k : Fin 1024) : (iblk m c 0 t : FVec Ideal S256x1024 .f32) (ix2 r k)
    = (m ((c : Thread nD τ).loc main_arg0) : FVec Ideal S4096x1024 .f32) (ix2 (row t r) k) := by
  refine Eq.trans ?_ (congrFun (V_main_arg0 m c) _)
  blk_point [iblk, idx t]
theorem e1 (t : Fin cfg0.N) (r : Fin 256) (k : Fin 1024) : (X0_1 m c t : FVec Ideal S256x1024 .f32) (ix2 r k)
    = (m ((c : Thread nD τ).loc main_arg1) : FVec Ideal S4096x1536 .f32) (ix2 (row t r) ⟨k.val, by omega⟩) := by
  refine Eq.trans ?_ (congrFun (V_main_arg1 m c) _)
  unfold X0_1 Pipeline.Window.fill
  rw [dif_pos (moved0_1 t _)]
  blk_point [iblk, idx t]
theorem e2 (t : Fin cfg0.N) (r : Fin 256) (k : Fin 1024) : (iblk m c 2 t : FVec Ideal S256x1024 .f32) (ix2 r k)
    = (m ((c : Thread nD τ).loc main_arg2) : FVec Ideal S4096x1024 .f32) (ix2 (row t r) k) := by
  refine Eq.trans ?_ (congrFun (V_main_arg2 m c) _)
  blk_point [iblk, idx t]
theorem e3 (t : Fin cfg0.N) (r : Fin 256) (k : Fin 1024) : (iblk m c 3 t : FVec Ideal S256x1024 .f32) (ix2 r k)
    = (m ((c : Thread nD τ).loc main_arg5) : FVec Ideal S4096x2048 .f32) (ix2 (row t r) ⟨k.val, by omega⟩) := by
  refine Eq.trans ?_ (congrFun (V_main_arg5 m c) _)
  blk_point [iblk, idx t]
theorem e4 (t : Fin cfg0.N) : (iblk m c 4 t : FVec Ideal S1x128 .f32) = skips (m ((c : Thread nD τ).loc main_arg3)) := by
  rw [← padded m c]
  funext j
  blk_point [iblk, idx t]
theorem e5 (t : Fin cfg0.N) : (iblk m c 5 t : FVec Ideal S1x1024 .f32) = m ((c : Thread nD τ).loc main_arg4) := by
  rw [← V_main_arg4 m c]
  funext j
  blk_point [iblk, idx t]

/-- The reference's gated rows of the kernel's arguments. -/
abbrev gatedOf : FVec Ideal S4096x1024 .f32 := gated (m ((c : Thread nD τ).loc main_arg0)) (m ((c : Thread nD τ).loc main_arg1))
  (m ((c : Thread nD τ).loc main_arg2)) (m ((c : Thread nD τ).loc main_arg3))
/-- The reference's gradient of the scan's result of the kernel's arguments. -/
abbrev dysOf : FVec Ideal S4096x1024 .f32 := dys (m ((c : Thread nD τ).loc main_arg2)) (m ((c : Thread nD τ).loc main_arg4))
  (m ((c : Thread nD τ).loc main_arg5)) (gatedOf m c)

/-- The skip factors are real. -/
abbrev Skips : Prop := ∀ i, ∃ w : ℝ, ((m ((c : Thread nD τ).loc main_arg3) : FVec Ideal S1x16 .f32) i : EReal) = (w : EReal)
/-- The products of an input and its skip's gradient are real. -/
abbrev Products : Prop := ∀ (r : Fin 4096) (k : Fin 1024),
  ∃ w : ℝ, product (m ((c : Thread nD τ).loc main_arg1)) (dysOf m c) r k = (w : EReal)

variable (hd : Skips m c)
include hd

theorem real4 (t : Fin cfg0.N) (k : Fin 128) : ∃ w : ℝ, ((iblk m c 4 t : FVec Ideal S1x128 .f32) (ix2 0 k) : EReal) = (w : EReal) := by
  rw [e4, skips_at]
  split
  · exact hd _
  · exact ⟨0, rfl⟩

theorem skip4 (t : Fin cfg0.N) (k : Fin 1024) : ((iblk m c 4 t : FVec Ideal S1x128 .f32) (ix2 0 ⟨k.val / 64, by omega⟩) : EReal)
    = (m ((c : Thread nD τ).loc main_arg3) : FVec Ideal S1x16 .f32) (ix2 0 ⟨k.val / 64, by omega⟩) := by
  rw [e4, skips_at, dif_pos (show k.val / 64 < 16 by omega)]

theorem taken_eq (t : Fin cfg0.N) (r : Fin 256) (k : Fin 1024) : (taken m c t (ix2 r k) : EReal) = gatedOf m c (ix2 (row t r) k) := by
  refine (gated_row _ _ _ _ (real4 m c hd t) r k).trans ?_
  refine Eq.trans ?_ (gated_at _ _ _ _ _ _).symm
  rw [e0, e1, e2, skip4 m c hd]

theorem pulled_eq (t : Fin cfg0.N) (r : Fin 256) (k : Fin 1024) : (pulledAt m c t (ix2 r k) : EReal)
    = pulled (m ((c : Thread nD τ).loc main_arg4)) (m ((c : Thread nD τ).loc main_arg5)) (gatedOf m c) (ix2 (row t r) k) := by
  refine (pull_at _ _ _ _ _ _ _ _ _ rfl r k).trans ?_
  rw [pulled_at, e5]
  simp only [e3]
  congr 1
  funext l
  exact taken_eq m c hd t r l

theorem dys_eq (t : Fin cfg0.N) (r : Fin 256) (k : Fin 1024) : (dysAt m c t (ix2 r k) : EReal) = dysOf m c (ix2 (row t r) k) := by
  refine Eq.trans (b := (pulledAt m c t (ix2 r k) * k0_pay13 (F := Ideal) (iblk m c 2 t) (ix2 r k) : EReal)) ?_ ?_
  · pointwise [k0_pay32]
  · rw [pulled_eq m c hd, gate_at, e2, pulled_at]
    exact (dys_at _ _ _ _ _ _).symm

theorem dxs_eq (t : Fin cfg0.N) (r : Fin 256) (k : Fin 1024) : (dxsAt m c t (ix2 r k) : EReal)
    = dxs (m ((c : Thread nD τ).loc main_arg2)) (m ((c : Thread nD τ).loc main_arg3)) (m ((c : Thread nD τ).loc main_arg4))
      (m ((c : Thread nD τ).loc main_arg5)) (gatedOf m c) (ix2 (row t r) k) := by
  refine Eq.trans (b := (dysAt m c t (ix2 r k) * k0_pay7 (k0_pay4 (iblk m c 4 t)) (k0_pay5 (F := Ideal)) (k0_pay6 (iblk m c 4 t)) (ix2 0 k) : EReal)) ?_ ?_
  · pointwise [k0_pay34]
  · rw [dys_eq m c hd, factor_at _ (real4 m c hd t), skip4 m c hd, dxs_at]
    exact congrArg (· * _) (dys_at _ _ _ _ _ _)

theorem dz_eq (t : Fin cfg0.N) (r : Fin 256) (k : Fin 1024) : (dzAt m c t (ix2 r k) : EReal)
    = dz (m ((c : Thread nD τ).loc main_arg2)) (m ((c : Thread nD τ).loc main_arg4)) (m ((c : Thread nD τ).loc main_arg5)) (gatedOf m c)
      (skipped (m ((c : Thread nD τ).loc main_arg0)) (m ((c : Thread nD τ).loc main_arg1)) (m ((c : Thread nD τ).loc main_arg3))) (ix2 (row t r) k) := by
  refine (dz_row _ _ _ _ _ _ _ _ rfl r k).trans ?_
  rw [dz_at, ← pulled_at, ← pulled_eq m c hd, skip_at _ _ _ (real4 m c hd t), skipped_at, skip4 m c hd, e0, e1, e2]

theorem final6 : (dats m 0 c).arrAt 6 cfg0.N = dysOf m c := by
  refine (dats m 0 c).arrAt_eq_of_covers 6 _ (by decide +kernel) fun t _ y => ?_
  blk_simp
  rw [after0_6, (outs m c t).1]
  have hy : y = ix2 (⟨(y 0).val, (y 0).isLt⟩ : Fin 256) (⟨(y 1).val, (y 1).isLt⟩ : Fin 1024) := by blk_ext
  have hz : ((View.whole main_v1_0).slice (win0_6.rect t)).emb y
      = ix2 (row t ⟨(y 0).val, (y 0).isLt⟩) (⟨(y 1).val, (y 1).isLt⟩ : Fin 1024) := by blk_ext [idx t]
  rw [hz]
  exact (congrArg _ hy).trans (dys_eq m c hd t _ _)

theorem final7 : (dats m 0 c).arrAt 7 cfg0.N = dxs (m ((c : Thread nD τ).loc main_arg2)) (m ((c : Thread nD τ).loc main_arg3)) (m ((c : Thread nD τ).loc main_arg4))
      (m ((c : Thread nD τ).loc main_arg5)) (gatedOf m c) := by
  refine (dats m 0 c).arrAt_eq_of_covers 7 _ (by decide +kernel) fun t _ y => ?_
  blk_simp
  rw [after0_7, (outs m c t).2.1]
  have hy : y = ix2 (⟨(y 0).val, (y 0).isLt⟩ : Fin 256) (⟨(y 1).val, (y 1).isLt⟩ : Fin 1024) := by blk_ext
  have hz : ((View.whole main_v1_1).slice (win0_7.rect t)).emb y
      = ix2 (row t ⟨(y 0).val, (y 0).isLt⟩) (⟨(y 1).val, (y 1).isLt⟩ : Fin 1024) := by blk_ext [idx t]
  rw [hz]
  exact (congrArg _ hy).trans (dxs_eq m c hd t _ _)

theorem final8 : (dats m 0 c).arrAt 8 cfg0.N = dz (m ((c : Thread nD τ).loc main_arg2)) (m ((c : Thread nD τ).loc main_arg4)) (m ((c : Thread nD τ).loc main_arg5)) (gatedOf m c)
      (skipped (m ((c : Thread nD τ).loc main_arg0)) (m ((c : Thread nD τ).loc main_arg1)) (m ((c : Thread nD τ).loc main_arg3))) := by
  refine (dats m 0 c).arrAt_eq_of_covers 8 _ (by decide +kernel) fun t _ y => ?_
  blk_simp
  rw [after0_8, (outs m c t).2.2]
  have hy : y = ix2 (⟨(y 0).val, (y 0).isLt⟩ : Fin 256) (⟨(y 1).val, (y 1).isLt⟩ : Fin 1024) := by blk_ext
  have hz : ((View.whole main_v1_2).slice (win0_8.rect t)).emb y
      = ix2 (row t ⟨(y 0).val, (y 0).isLt⟩) (⟨(y 1).val, (y 1).isLt⟩ : Fin 1024) := by blk_ext [idx t]
  rw [hz]
  exact (congrArg _ hy).trans (dz_eq m c hd t _ _)

theorem final10 : (dats m 0 c).arrAt 10 cfg0.N = dgain (m ((c : Thread nD τ).loc main_arg5)) (gatedOf m c) := by
  refine (dats m 0 c).arrAt_eq_of_after_last 10 t0_15 (by decide +kernel) _ fun j => ?_
  blk_simp
  rw [after0_10]
  refine (Pipeline.eq_sum_fin_of_reset_step_apply_last (fun n h => (outsAt0 m c n h).2.2.2.2) 16 (fun _ => (0 : EReal)) _ (gain_first m c) (gain_next m c)
    (le_of_eq N_0) t0_15 rfl j).trans ?_
  rw [zero_add]
  have hj : j = ix2 (0 : Fin 1) (⟨(j 1).val, (j 1).isLt⟩ : Fin 1024) := by blk_ext
  rw [hj]
  generalize (⟨(j 1).val, (j 1).isLt⟩ : Fin 1024) = k
  refine Eq.trans (Finset.sum_congr rfl fun t _ => (gain_at _ _ _ _ _ _ _ _ rfl k)) ?_
  refine Eq.trans ?_ (dgain_at _ _ k).symm
  refine Fin.sum_mul_add_congr fun t r hl => ?_
  rw [e3]
  simp only [taken_eq m c hd]

theorem heads_eq (hp : Products m c) (t : Fin cfg0.N) (h : Fin 16) : (headsAt m c t (ix2 0 ⟨h.val, by omega⟩) : EReal)
    = ∑ r : Fin 256, ∑ l : Fin 64, product (m ((c : Thread nD τ).loc main_arg1)) (dysOf m c) (row t r) ⟨h.val * 64 + l.val, by omega⟩ := by
  refine (heads_at _ _ _ _ _ _ _ _ rfl (fun r k => ?_) _).trans ?_
  · rw [e1]
    refine Exists.imp (fun w hw => Eq.trans ?_ hw) (hp (row t r) k)
    exact product_eq _ _ _ _ _ (dys_eq m c hd t r k)
  · have hh : (⟨h.val * 64 / 64, by omega⟩ : Fin 128) = ⟨h.val, by omega⟩ := Fin.ext (by simp only; omega)
    rw [← hh]
    refine (picked_eq _ (⟨h.val * 64, by omega⟩ : Fin 1024)).trans ?_
    unfold headSum
    rw [Finset.sum_comm]
    refine Finset.sum_congr rfl fun r _ => Finset.sum_congr rfl fun l _ => ?_
    have hl : (⟨h.val * 64 / 64 * 64 + l.val, by omega⟩ : Fin 1024) = ⟨h.val * 64 + l.val, by omega⟩ := Fin.ext (by simp only; omega)
    simp only [hl]
    rw [e1]
    exact product_eq _ _ _ _ _ (dys_eq m c hd t r _)

theorem final9 (hp : Products m c) : (extractStridedSlice S1x16 ![0, 0] ((dats m 0 c).arrAt 9 cfg0.N : FVec Ideal S1x128 .f32) slices_S1x128_S1x16_0_0 : FVec Ideal S1x16 .f32)
    = dskip (m ((c : Thread nD τ).loc main_arg1)) (m ((c : Thread nD τ).loc main_arg2)) (m ((c : Thread nD τ).loc main_arg4))
      (m ((c : Thread nD τ).loc main_arg5)) (gatedOf m c) := by
  have sums : ((dats m 0 c).arrAt 9 cfg0.N : FVec Ideal S1x128 .f32) = fun j => (∑ t : Fin cfg0.N, (headsAt m c t j : EReal) : EReal) := by
    refine (dats m 0 c).arrAt_eq_of_after_last 9 t0_15 (by decide +kernel) _ fun j => ?_
    blk_simp
    rw [after0_9]
    refine (Pipeline.eq_sum_fin_of_reset_step_apply_last (fun n h => (outsAt0 m c n h).2.2.2.1) 16 (fun _ => (0 : EReal)) _ (heads_first m c) (heads_next m c)
      (le_of_eq N_0) t0_15 rfl j).trans ?_
    rw [zero_add]
  rw [sums]
  funext j
  have hj : j = ix2 (0 : Fin 1) (⟨(j 1).val, (j 1).isLt⟩ : Fin 16) := by blk_ext
  rw [hj]
  generalize (⟨(j 1).val, (j 1).isLt⟩ : Fin 16) = h
  refine Eq.trans (b := (∑ t : Fin cfg0.N, (headsAt m c t (ix2 0 ⟨h.val, by omega⟩) : EReal) : EReal)) (by pointwise) ?_
  refine Eq.trans (Finset.sum_congr rfl fun t _ => heads_eq m c hd hp t h) ?_
  refine Eq.trans ?_ (dskip_at _ _ _ _ _ h).symm
  exact Fin.sum_mul_add_congr fun t r hl => rfl

/-- The head sums that the host leaves. -/
theorem cut (hp : Products m c) : Pipeline.afterTail₀ cfgs (dats m) 0 (V0 m) [hostOps1] c main_v2
    = dskip (m ((c : Thread nD τ).loc main_arg1)) (m ((c : Thread nD τ).loc main_arg2)) (m ((c : Thread nD τ).loc main_arg4))
      (m ((c : Thread nD τ).loc main_arg5)) (gatedOf m c) := by
  refine Eq.trans ?_ (final9 m c hd hp)
  unfold Pipeline.afterTail₀
  simp only [List.flatten_cons, List.flatten_nil, List.append_nil, hostOps1]
  after_results
  exact congrArg (fun a : FVec Ideal S1x128 .f32 => extractStridedSlice S1x16 ![0, 0] a slices_S1x128_S1x16_0_0)
    (Pipeline.withArrays_arr (cfgs 0).spec winFacts0.arr_inj c (V0 m c) (fun w => (dats m 0 c).arrAt w (cfgs 0).N) 9)

omit hd

/-- The precondition, read: the skip factors are real. -/
theorem skips_real (y x z) (d : FVec Ideal S1x16 .f32) (g e) (h : (Cert.Pre_finite_skips.fn (F := Ideal) y x z d g e).1 = fun _ => 1#1) (i) :
    ∃ w : ℝ, (d i : EReal) = (w : EReal) :=
  Agree.real_of_lt d _ (fun _ => Agree.inf_at) h i

/-- The precondition, read: the products of an input and its skip's gradient are real. -/
theorem products_real (y x z d g e) (h : (Cert.Pre_finite_skips.fn (F := Ideal) y x z d g e).2 = fun _ => 1#1) (r : Fin 4096) (k : Fin 1024) :
    ∃ w : ℝ, product x (dys z g e (gated y x z d)) r k = (w : EReal) := by
  exact Exists.imp (fun w hw => (products_at _ _ r k).symm.trans hw) (Agree.real_of_lt (products x (dys z g e (gated y x z d)))
    (broadcastInDim Cert.Reference22Ideal.S4096x1024 ![] Cert.Reference22Ideal.Gen.bcast_S_S4096x1024 (constant Cert.Reference22Ideal.S_ .f32 0x7F800000#32)) (fun _ => Agree.inf_at) h (ix2 r k))

/-- Every launch leaves the reference's gradients and the operands. -/
theorem results (hd : ∀ c, Skips m c) (hp : ∀ c, Products m c) (ρ : Dev nD → PrngReg) :
    θ_run defs (onTc (τ := τ) (main (F := Ideal))) ⟨m, fun _ => 0, ρ⟩ (fun r => ∀ c : Dev nD,
      r.2.mem ((c.tc : Thread nD τ).loc main_v1_0) = dysOf m c
      ∧ r.2.mem ((c.tc : Thread nD τ).loc main_v1_1) = dxs (m ((c : Thread nD τ).loc main_arg2)) (m ((c : Thread nD τ).loc main_arg3))
        (m ((c : Thread nD τ).loc main_arg4)) (m ((c : Thread nD τ).loc main_arg5)) (gatedOf m c)
      ∧ r.2.mem ((c.tc : Thread nD τ).loc main_v1_2) = dz (m ((c : Thread nD τ).loc main_arg2)) (m ((c : Thread nD τ).loc main_arg4))
        (m ((c : Thread nD τ).loc main_arg5)) (gatedOf m c) (skipped (m ((c : Thread nD τ).loc main_arg0)) (m ((c : Thread nD τ).loc main_arg1)) (m ((c : Thread nD τ).loc main_arg3)))
      ∧ r.2.mem ((c.tc : Thread nD τ).loc main_v2) = dskip (m ((c : Thread nD τ).loc main_arg1)) (m ((c : Thread nD τ).loc main_arg2))
        (m ((c : Thread nD τ).loc main_arg4)) (m ((c : Thread nD τ).loc main_arg5)) (gatedOf m c)
      ∧ r.2.mem ((c.tc : Thread nD τ).loc main_v1_4) = dgain (m ((c : Thread nD τ).loc main_arg5)) (gatedOf m c)) :=
  (θ_run defs _ _).mono (fun _ h c => ⟨((h c).1 6).trans (final6 m c (hd c)), ((h c).1 7).trans (final7 m c (hd c)), ((h c).1 8).trans (final8 m c (hd c)),
    ((h c).2 main_v2 (by decide +kernel)).trans (cut m c (hd c) (hp c)), ((h c).1 10).trans (final10 m c (hd c))⟩) (run_main m ρ)

/-- The results are the reference's where the skip factors and the products of the inputs and their skips' gradients are real. -/
theorem algebraic22 : Cert.algebraic_Kernel22Ideal_Reference22Ideal_pre_finite_skips (hKernel22Ideal := facts)
    (hReference22Ideal := Cert.Reference22Ideal.Gen.facts) (hPre_finite_skips := preFacts) := by
  intro m ρ m' ρ' hpre hargs
  have hd (c) : Skips m c := skips_real _ _ _ _ _ _ (hpre c).1
  have hp (c) : Products m c := products_real _ _ _ _ _ _ (hpre c).2
  refine ⟨_, _, _, _, _, (θ_run _ _ _).mono (fun r h c => ⟨(h.1 c).1, (h.1 c).2.1, (h.1 c).2.2.1, (h.1 c).2.2.2.1, (h.1 c).2.2.2.2, h.2 c⟩)
      (θ_run_and (results m hd hp ρ) (unchanged m ρ)),
    (θ_run _ _ _).mono (fun r h c => ?_) (Cert.Reference22Ideal.Value.run (F := Ideal) m' ρ')⟩
  obtain ⟨h0, h1, h2, h3, h4, h⟩ := h c
  obtain ⟨a0, a1, a2, a3, a4, a5⟩ := hargs c
  refine ⟨h0.trans ?_, h1.trans ?_, h2.trans ?_, h3.trans ?_, h4.trans ?_, h⟩
  · unfold Cert.Reference22Ideal.Value.res_main_v63
    simp only [dysOf, gatedOf, ← a0, ← a1, ← a2, ← a3, ← a4, ← a5]
    rfl
  · unfold Cert.Reference22Ideal.Value.res_main_v62
    simp only [dysOf, gatedOf, ← a0, ← a1, ← a2, ← a3, ← a4, ← a5]
    rfl
  · unfold Cert.Reference22Ideal.Value.res_main_v52
    simp only [dysOf, gatedOf, ← a0, ← a1, ← a2, ← a3, ← a4, ← a5]
    rfl
  · unfold Cert.Reference22Ideal.Value.res_main_v61
    simp only [dysOf, gatedOf, ← a0, ← a1, ← a2, ← a3, ← a4, ← a5]
    rfl
  · simp only [gatedOf, ← a0, ← a1, ← a2, ← a3, ← a4, ← a5]
    rfl

end Kernel

end Cert.SsdPostBwd
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Agree
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.FfnRun
public import proofs.«01_k».proof.Proof.FfnAgree
public import proofs.«01_k».proof.Proof.UpDx
public import proofs.«01_k».proof.Proof.Calls
public import proofs.«01_k».proof.Proof.Psum
public import proofs.«01_k».proof.Proof.LossFrame
public import proofs.«01_k».proof.Proof.NormMem
public import proofs.«01_k».proof.Proof.SumSlots
public import proofs.«01_k».proof.Proof.SsdPost
public import proofs.«01_k».proof.Proof.RwkvPost
public import proofs.«01_k».proof.Proof.SsdPre
public import proofs.«01_k».proof.Proof.RwkvPre
public import proofs.«01_k».proof.Proof.Halves
public import proofs.«01_k».proof.Proof.SsdPostBwd
public import proofs.«01_k».proof.Proof.Gen.Kernel22.Frame
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel6Ideal.Value
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel7Ideal.Value
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel10Ideal.Value
public import proofs.«01_k».proof.Proof.Gen.Kernel9Ideal.Value
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import Idealize.ShloMosaic.Adequacy
public import Idealize.ShloMosaic.Init

@[expose] public section

noncomputable section

namespace Cert.Proof

open Idealize.ShloMosaic Idealize.SL.Sem

/-- The reference terminates, keeps its arguments and leaves every counter at zero, from any memory. -/
theorem ref_frame : Cert.quiescent_ReferenceIdeal (hReferenceIdeal := Cert.ReferenceIdeal.Gen.facts) := fun m ρ _ =>
  (θ_run (Cert.ReferenceIdeal.defs (F := Ideal)) _ _).mono
    (fun r h => ⟨fun c => (h c).2.2.2, Idealize.ShloMosaic.sem_eq_zero_of_no_sems (by decide) r.2⟩)
    (Cert.ReferenceIdeal.Value.run (F := Ideal) m ρ)

/-- The kernel's three results are the reference's: the gradients of the queries, keys and values. -/
theorem algebraic : Cert.algebraic_KernelIdeal_ReferenceIdeal_pre_finite_v_do (hKernelIdeal := Cert.KernelIdeal.Gen.facts)
    (hReferenceIdeal := Cert.ReferenceIdeal.Gen.facts) (hPre_finite_v_do := Agree.preFacts) := by
  intro m ρ m' ρ' hpre hargs
  refine ⟨Arrays.dQ m, Arrays.dK m, Arrays.dV m,
    (θ_run _ _ _).mono (fun r h c => ?_) (Cert.KernelIdeal.Value.run_blocks (F := Ideal) m ρ),
    (θ_run _ _ _).mono (fun r h c => ?_) (Cert.ReferenceIdeal.Value.run (F := Ideal) m' ρ')⟩
  · obtain ⟨h4, h5, h6, ha⟩ := h c
    exact ⟨h4.trans (Arrays.final4 m c), h5.trans (Arrays.final5 m c), h6.trans (Arrays.final6 m c), ha⟩
  · obtain ⟨hQ, hK, hV, ha⟩ := h c
    obtain ⟨a0, a1, a2, a3⟩ := hargs c
    have hv := Agree.values_real _ _ _ _ (hpre c).1
    have ho := Agree.outs_real _ _ _ _ (hpre c).2
    refine ⟨hQ.trans ?_, hK.trans ?_, hV.trans ?_, ha⟩
    · rw [Agree.dQ_eq m c hv ho, ← a0, ← a1, ← a2, ← a3]
      exact RefValue.eq_resQ m' c
    · rw [Agree.dK_eq m c hv ho, ← a0, ← a1, ← a2, ← a3]
      exact RefValue.eq_resK m' c
    · rw [Agree.dV_eq m c, ← a0, ← a1, ← a3]
      rfl

/-- The feed-forward's reference terminates, keeps its arguments and leaves every counter at zero, from any memory. -/
theorem ref_frame2 : Cert.quiescent_Reference2Ideal (hReference2Ideal := Cert.Reference2Ideal.Gen.facts) := fun m ρ _ =>
  (θ_run (Cert.Reference2Ideal.defs (F := Ideal)) _ _).mono
    (fun r h => ⟨fun c => (h c).2.2.2, Idealize.ShloMosaic.sem_eq_zero_of_no_sems (by decide) r.2⟩)
    (Cert.Reference2Ideal.Value.run (F := Ideal) m ρ)

/-- The feed-forward's two weight gradients and its first product's gradient are the reference's. -/
theorem algebraic2 : Cert.algebraic_Kernel2Ideal_Reference2Ideal (hKernel2Ideal := Cert.Kernel2Ideal.Gen.facts)
    (hReference2Ideal := Cert.Reference2Ideal.Gen.facts) := by
  intro m ρ m' ρ' _ hargs
  refine ⟨fun c => FfnArrays.upDw (m ((c.tc : Thread Cert.Kernel2Ideal.nD Cert.Kernel2Ideal.τ).loc Cert.Kernel2Ideal.main_arg0)) (FfnRun.dpre m c),
    fun c => FfnArrays.downDw (FfnArrays.acts (FfnRun.pre m c)) (m ((c.tc : Thread Cert.Kernel2Ideal.nD Cert.Kernel2Ideal.τ).loc Cert.Kernel2Ideal.main_arg3)),
    FfnRun.dpre m,
    (θ_run _ _ _).mono (fun r h c => ?_) (FfnRun.ends (F := Ideal) m ρ),
    (θ_run _ _ _).mono (fun r h c => ?_) (Cert.Reference2Ideal.Value.run (F := Ideal) m' ρ')⟩
  · have hu := fun b hb => h c (Proc.devRef .tc b) (Cert.Kernel2Ideal.Gen.mem_uc b hb)
    exact ⟨(hu Cert.Kernel2Ideal.main_v5 (by decide)).trans (FfnRun.v5_end m ρ c),
      (hu Cert.Kernel2Ideal.main_v2 (by decide)).trans (FfnRun.v2_end m ρ c),
      (hu Cert.Kernel2Ideal.main_v4 (by decide)).trans (FfnRun.v4_end m ρ c),
      (hu Cert.Kernel2Ideal.main_arg0 (by decide)).trans (Cert.Kernel2Ideal.Gen.W6_main_arg0 m ρ c),
      (hu Cert.Kernel2Ideal.main_arg1 (by decide)).trans (Cert.Kernel2Ideal.Gen.W6_main_arg1 m ρ c),
      (hu Cert.Kernel2Ideal.main_arg2 (by decide)).trans (Cert.Kernel2Ideal.Gen.W6_main_arg2 m ρ c),
      (hu Cert.Kernel2Ideal.main_arg3 (by decide)).trans (Cert.Kernel2Ideal.Gen.W6_main_arg3 m ρ c)⟩
  · obtain ⟨h1, h2, hd, ha⟩ := h c
    obtain ⟨a0, a1, a2, a3⟩ := hargs c
    refine ⟨h1.trans ?_, h2.trans ?_, hd.trans ?_, ha⟩
    · beta_reduce
      unfold FfnRun.dpre FfnRun.pre
      rw [← a0, ← a1, ← a2, ← a3, ← FfnAgree.first_eq, ← FfnAgree.back_eq, ← FfnAgree.resW1_eq]
      rfl
    · beta_reduce
      unfold FfnRun.pre
      rw [← a0, ← a1, ← a3, ← FfnAgree.first_eq, ← FfnAgree.resW2_eq]
      rfl
    · beta_reduce
      unfold FfnRun.dpre FfnRun.pre
      rw [← a0, ← a1, ← a2, ← a3, ← FfnAgree.first_eq, ← FfnAgree.back_eq]
      rfl

/-- The same for the reference of the first product's operand gradient. -/
theorem ref_frame3 : Cert.quiescent_Reference3Ideal (hReference3Ideal := Cert.Reference3Ideal.Gen.facts) := fun m ρ _ =>
  (θ_run (Cert.Reference3Ideal.defs (F := Ideal)) _ _).mono
    (fun r h => ⟨fun c => (h c).2, Idealize.ShloMosaic.sem_eq_zero_of_no_sems (by decide) r.2⟩)
    (Cert.Reference3Ideal.Value.run (F := Ideal) m ρ)

/-- The gradient of the first product's operand is the reference's. -/
theorem algebraic3 : Cert.algebraic_Kernel3Ideal_Reference3Ideal (hKernel3Ideal := Cert.Kernel3Ideal.Gen.facts)
    (hReference3Ideal := Cert.Reference3Ideal.Gen.facts) := by
  intro m ρ m' ρ' _ hargs
  refine ⟨fun c => UpDx.upDx (m ((c.tc : Thread Cert.Kernel3Ideal.nD Cert.Kernel3Ideal.τ).loc Cert.Kernel3Ideal.main_arg0))
      (m ((c.tc : Thread Cert.Kernel3Ideal.nD Cert.Kernel3Ideal.τ).loc Cert.Kernel3Ideal.main_arg1)),
    (θ_run _ _ _).mono (fun r h c => ⟨(h c).1.trans (UpDx.final m c), (h c).2⟩) (Cert.Kernel3Ideal.Value.run_blocks (F := Ideal) m ρ),
    (θ_run _ _ _).mono (fun r h c => ⟨(h c).1.trans ?_, (h c).2⟩) (Cert.Reference3Ideal.Value.run (F := Ideal) m' ρ')⟩
  obtain ⟨a0, a1⟩ := hargs c
  beta_reduce
  rw [← a0, ← a1, ← UpDx.res_eq]
  rfl

/-- The other references terminate, keep their arguments and leave every counter at zero, from any memory. -/
theorem ref_frame4 : Cert.quiescent_Reference4Ideal (hReference4Ideal := Cert.Reference4Ideal.Gen.facts) := fun m ρ _ =>
  (θ_run (Cert.Reference4Ideal.defs (F := Ideal)) _ _).mono
    (fun r h => ⟨fun c => (h c).2.2.2.2.2.2.2.2.2.2.2.2.2.2.2.2.2.2.2.2.2.2.2.2, Idealize.ShloMosaic.sem_eq_zero_of_no_sems (by decide) r.2⟩)
    (Cert.Reference4Ideal.Value.run (F := Ideal) m ρ)

theorem ref_frame5 : Cert.quiescent_Reference5Ideal (hReference5Ideal := Cert.Reference5Ideal.Gen.facts) := fun m ρ _ =>
  (θ_run (Cert.Reference5Ideal.defs (F := Ideal)) _ _).mono
    (fun r h => ⟨fun c => (h c).2.2.2.2.2.2, Idealize.ShloMosaic.sem_eq_zero_of_no_sems (by decide) r.2⟩)
    (Cert.Reference5Ideal.Value.run (F := Ideal) m ρ)

theorem ref_frame6 : Cert.quiescent_Reference6Ideal (hReference6Ideal := Cert.Reference6Ideal.Gen.facts) := fun m ρ _ =>
  (θ_run (Cert.Reference6Ideal.defs (F := Ideal)) _ _).mono
    (fun r h => ⟨fun c => (h c).2, Idealize.ShloMosaic.sem_eq_zero_of_no_sems (by decide) r.2⟩)
    (Cert.Reference6Ideal.Value.run (F := Ideal) m ρ)

theorem ref_frame7 : Cert.quiescent_Reference7Ideal (hReference7Ideal := Cert.Reference7Ideal.Gen.facts) := fun m ρ _ =>
  (θ_run (Cert.Reference7Ideal.defs (F := Ideal)) _ _).mono
    (fun r h => ⟨fun c => (h c).2, Idealize.ShloMosaic.sem_eq_zero_of_no_sems (by decide) r.2⟩)
    (Cert.Reference7Ideal.Value.run (F := Ideal) m ρ)

theorem ref_frame8 : Cert.quiescent_Reference8Ideal (hReference8Ideal := Cert.Reference8Ideal.Gen.facts) := fun m ρ _ =>
  (θ_run (Cert.Reference8Ideal.defs (F := Ideal)) _ _).mono
    (fun r h => ⟨fun c => (h c).2.2.2, Idealize.ShloMosaic.sem_eq_zero_of_no_sems (by decide) r.2⟩)
    (Cert.Reference8Ideal.Value.run (F := Ideal) m ρ)

theorem ref_frame9 : Cert.quiescent_Reference9Ideal (hReference9Ideal := Cert.Reference9Ideal.Gen.facts) := fun m ρ _ =>
  (θ_run (Cert.Reference9Ideal.defs (F := Ideal)) _ _).mono
    (fun r h => ⟨fun c => (h c).2.2.2, Idealize.ShloMosaic.sem_eq_zero_of_no_sems (by decide) r.2⟩)
    (Cert.Reference9Ideal.Value.run (F := Ideal) m ρ)

theorem ref_frame10 : Cert.quiescent_Reference10Ideal (hReference10Ideal := Cert.Reference10Ideal.Gen.facts) := fun m ρ _ =>
  (θ_run (Cert.Reference10Ideal.defs (F := Ideal)) _ _).mono
    (fun r h => ⟨fun c => (h c).2.2.2.2, Idealize.ShloMosaic.sem_eq_zero_of_no_sems (by decide) r.2⟩)
    (Cert.Reference10Ideal.Value.run (F := Ideal) m ρ)

theorem ref_frame11 : Cert.quiescent_Reference11Ideal (hReference11Ideal := Cert.Reference11Ideal.Gen.facts) := fun m ρ _ =>
  (θ_run (Cert.Reference11Ideal.defs (F := Ideal)) _ _).mono
    (fun r h => ⟨fun c => (h c).2, Idealize.ShloMosaic.sem_eq_zero_of_no_sems (by decide) r.2⟩)
    (Cert.Reference11Ideal.Value.run (F := Ideal) m ρ)

theorem ref_frame12 : Cert.quiescent_Reference12Ideal (hReference12Ideal := Cert.Reference12Ideal.Gen.facts) := fun m ρ _ =>
  (θ_run (Cert.Reference12Ideal.defs (F := Ideal)) _ _).mono
    (fun r h => ⟨fun c => (h c).2.2.2.2.2.2.2, Idealize.ShloMosaic.sem_eq_zero_of_no_sems (by decide) r.2⟩)
    (Cert.Reference12Ideal.Value.run (F := Ideal) m ρ)

theorem ref_frame13 : Cert.quiescent_Reference13Ideal (hReference13Ideal := Cert.Reference13Ideal.Gen.facts) := fun m ρ _ =>
  (θ_run (Cert.Reference13Ideal.defs (F := Ideal)) _ _).mono
    (fun r h => ⟨fun c => (h c).2, Idealize.ShloMosaic.sem_eq_zero_of_no_sems (by decide) r.2⟩)
    (Cert.Reference13Ideal.Value.run (F := Ideal) m ρ)

theorem ref_frame14 : Cert.quiescent_Reference14Ideal (hReference14Ideal := Cert.Reference14Ideal.Gen.facts) := fun m ρ _ =>
  (θ_run (Cert.Reference14Ideal.defs (F := Ideal)) _ _).mono
    (fun r h => ⟨fun c => (h c).2.2.2, Idealize.ShloMosaic.sem_eq_zero_of_no_sems (by decide) r.2⟩)
    (Cert.Reference14Ideal.Value.run (F := Ideal) m ρ)

theorem ref_frame15 : Cert.quiescent_Reference15Ideal (hReference15Ideal := Cert.Reference15Ideal.Gen.facts) := fun m ρ _ =>
  (θ_run (Cert.Reference15Ideal.defs (F := Ideal)) _ _).mono
    (fun r h => ⟨fun c => (h c).2.2.2.2.2, Idealize.ShloMosaic.sem_eq_zero_of_no_sems (by decide) r.2⟩)
    (Cert.Reference15Ideal.Value.run (F := Ideal) m ρ)

theorem ref_frame16 : Cert.quiescent_Reference16Ideal (hReference16Ideal := Cert.Reference16Ideal.Gen.facts) := fun m ρ _ =>
  (θ_run (Cert.Reference16Ideal.defs (F := Ideal)) _ _).mono
    (fun r h => ⟨fun c => (h c).2, Idealize.ShloMosaic.sem_eq_zero_of_no_sems (by decide) r.2⟩)
    (Cert.Reference16Ideal.Value.run (F := Ideal) m ρ)

theorem ref_frame17 : Cert.quiescent_Reference17Ideal (hReference17Ideal := Cert.Reference17Ideal.Gen.facts) := fun m ρ _ =>
  (θ_run (Cert.Reference17Ideal.defs (F := Ideal)) _ _).mono
    (fun r h => ⟨fun c => (h c).2, Idealize.ShloMosaic.sem_eq_zero_of_no_sems (by decide) r.2⟩)
    (Cert.Reference17Ideal.Value.run (F := Ideal) m ρ)

theorem ref_frame18 : Cert.quiescent_Reference18Ideal (hReference18Ideal := Cert.Reference18Ideal.Gen.facts) := fun m ρ _ =>
  (θ_run (Cert.Reference18Ideal.defs (F := Ideal)) _ _).mono
    (fun r h => ⟨fun c => (h c).2.2, Idealize.ShloMosaic.sem_eq_zero_of_no_sems (by decide) r.2⟩)
    (Cert.Reference18Ideal.Value.run (F := Ideal) m ρ)

theorem ref_frame19 : Cert.quiescent_Reference19Ideal (hReference19Ideal := Cert.Reference19Ideal.Gen.facts) := fun m ρ _ =>
  (θ_run (Cert.Reference19Ideal.defs (F := Ideal)) _ _).mono
    (fun r h => ⟨fun c => (h c).2.2.2.2.2.2.2, Idealize.ShloMosaic.sem_eq_zero_of_no_sems (by decide) r.2⟩)
    (Cert.Reference19Ideal.Value.run (F := Ideal) m ρ)

theorem ref_frame20 : Cert.quiescent_Reference20Ideal (hReference20Ideal := Cert.Reference20Ideal.Gen.facts) := fun m ρ _ =>
  (θ_run (Cert.Reference20Ideal.defs (F := Ideal)) _ _).mono
    (fun r h => ⟨fun c => (h c).2, Idealize.ShloMosaic.sem_eq_zero_of_no_sems (by decide) r.2⟩)
    (Cert.Reference20Ideal.Value.run (F := Ideal) m ρ)

theorem ref_frame21 : Cert.quiescent_Reference21Ideal (hReference21Ideal := Cert.Reference21Ideal.Gen.facts) := fun m ρ _ =>
  (θ_run (Cert.Reference21Ideal.defs (F := Ideal)) _ _).mono
    (fun r h => ⟨fun c => (h c).2, Idealize.ShloMosaic.sem_eq_zero_of_no_sems (by decide) r.2⟩)
    (Cert.Reference21Ideal.Value.run (F := Ideal) m ρ)

theorem ref_frame22 : Cert.quiescent_Reference22Ideal (hReference22Ideal := Cert.Reference22Ideal.Gen.facts) := fun m ρ _ =>
  (θ_run (Cert.Reference22Ideal.defs (F := Ideal)) _ _).mono
    (fun r h => ⟨fun c => (h c).2.2.2.2.2, Idealize.ShloMosaic.sem_eq_zero_of_no_sems (by decide) r.2⟩)
    (Cert.Reference22Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Agree.preFacts, SsdPost.preFacts, RwkvPost.preFacts, RwkvPre.preFacts, Halves.Sum.preFacts, Halves.Send.preFacts, SsdPostBwd.preFacts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    fun m ρ _ => Cert.Kernel2.Gen.frame m ρ,
    fun m ρ _ => Cert.Kernel2Ideal.Gen.frame m ρ,
    ref_frame2,
    fun m ρ _ => Cert.Kernel3.Gen.frame m ρ,
    fun m ρ _ => Cert.Kernel3Ideal.Gen.frame m ρ,
    ref_frame3,
    fun m ρ _ => Cert.Kernel4.Gen.frame m ρ,
    fun m ρ _ => Cert.Kernel4Ideal.Gen.frame m ρ,
    ref_frame4,
    fun m ρ _ => Cert.Kernel5.Gen.frame m ρ,
    fun m ρ _ => Cert.Kernel5Ideal.Gen.frame m ρ,
    ref_frame5,
    fun m ρ _ => Cert.Kernel6.Gen.frame m ρ,
    fun m ρ _ => Cert.Kernel6Ideal.Gen.frame m ρ,
    ref_frame6,
    fun m ρ _ => Cert.Kernel7.Gen.frame m ρ,
    fun m ρ _ => Cert.Kernel7Ideal.Gen.frame m ρ,
    ref_frame7,
    fun m ρ _ => Cert.Kernel8.Gen.frame m ρ,
    fun m ρ _ => Cert.Kernel8Ideal.Gen.frame m ρ,
    ref_frame8,
    fun m ρ _ => Cert.Kernel9.Gen.frame m ρ,
    fun m ρ _ => Cert.Kernel9Ideal.Gen.frame m ρ,
    ref_frame9,
    fun m ρ _ => Cert.Kernel10.Gen.frame m ρ,
    fun m ρ _ => Cert.Kernel10Ideal.Gen.frame m ρ,
    ref_frame10,
    fun m ρ _ => Cert.Kernel11.Gen.frame m ρ,
    fun m ρ _ => Cert.Kernel11Ideal.Gen.frame m ρ,
    ref_frame11,
    fun m ρ _ => Cert.Kernel12.Gen.frame m ρ,
    fun m ρ _ => Cert.Kernel12Ideal.Gen.frame m ρ,
    ref_frame12,
    LossFrame.frame,
    fun m ρ _ => LossLaunch.frame m ρ,
    ref_frame13,
    fun m ρ _ => Cert.Kernel14.Gen.frame m ρ,
    fun m ρ _ => Cert.Kernel14Ideal.Gen.frame m ρ,
    ref_frame14,
    fun m ρ _ => Cert.Kernel15.Gen.frame m ρ,
    fun m ρ _ => Cert.Kernel15Ideal.Gen.frame m ρ,
    ref_frame15,
    fun m ρ _ => Cert.Kernel16.Gen.frame m ρ,
    fun m ρ _ => Cert.Kernel16Ideal.Gen.frame m ρ,
    fun m ρ _ => Cert.Kernel16Ideal.Gen.frame m ρ,
    ref_frame16,
    fun m ρ _ => ref_frame16 m ρ trivial,
    fun m ρ _ => Cert.Kernel17.Gen.frame m ρ,
    fun m ρ _ => Cert.Kernel17Ideal.Gen.frame m ρ,
    fun m ρ _ => Cert.Kernel17Ideal.Gen.frame m ρ,
    ref_frame17,
    fun m ρ _ => ref_frame17 m ρ trivial,
    fun m ρ _ => Cert.Kernel18.Gen.frame m ρ,
    fun m ρ _ => Cert.Kernel18Ideal.Gen.frame m ρ,
    ref_frame18,
    fun m ρ _ => Cert.Kernel19.Gen.frame m ρ,
    fun m ρ _ => Cert.Kernel19Ideal.Gen.frame m ρ,
    fun m ρ _ => Cert.Kernel19Ideal.Gen.frame m ρ,
    ref_frame19,
    fun m ρ _ => ref_frame19 m ρ trivial,
    fun m ρ h => Cert.Kernel20.Gen.frame m ρ (Halves.Sum.ok m h),
    fun m ρ h => Cert.Kernel20Ideal.Gen.frame m ρ (Halves.Sum.ok' m h),
    ref_frame20,
    fun m ρ _ => ref_frame20 m ρ trivial,
    fun m ρ h => Cert.Kernel21.Gen.frame m ρ (Halves.Send.ok m h),
    fun m ρ h => Cert.Kernel21Ideal.Gen.frame m ρ (Halves.Send.ok' m h),
    ref_frame21,
    fun m ρ _ => ref_frame21 m ρ trivial,
    fun m ρ _ => Cert.Kernel22.Gen.frame m ρ,
    fun m ρ _ => Cert.Kernel22Ideal.Gen.frame m ρ,
    fun m ρ _ => Cert.Kernel22Ideal.Gen.frame m ρ,
    ref_frame22,
    fun m ρ _ => ref_frame22 m ρ trivial,
    trivial,
    algebraic,
    trivial,
    algebraic2,
    trivial,
    algebraic3,
    trivial,
    Calls.algebraic4,
    trivial,
    Calls.algebraic5,
    trivial,
    Calls.algebraic6,
    trivial,
    Calls.algebraic7,
    trivial,
    Calls.algebraic8,
    trivial,
    Calls.algebraic9,
    trivial,
    Calls.algebraic10,
    trivial,
    Calls.algebraic11,
    trivial,
    Calls.algebraic12,
    trivial,
    Psum.algebraic13,
    trivial,
    NormMem.algebraic14,
    trivial,
    SumSlots.algebraic15,
    trivial,
    SsdPost.algebraic16,
    trivial,
    RwkvPost.algebraic17,
    trivial,
    SsdPre.algebraic18,
    trivial,
    RwkvPre.algebraic19,
    trivial,
    Halves.Sum.algebraic20,
    trivial,
    Halves.Send.algebraic21,
    trivial,
    SsdPostBwd.algebraic22⟩

end Cert.Proof

end
